-- ==== Defs.lean ====
def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBIdeal_finite_inb [hPre_finite_inb : Cert.Pre_finite_inb.Facts] (m : (ℓ : Loc Cert.InBIdeal.nD Cert.InBIdeal.τ Cert.InBIdeal.sig) → Buf (Elt Ideal) ℓ) : Prop :=
  ∀ c : Dev Cert.InBIdeal.nD,
    (Cert.Pre_finite_inb.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).1 = (fun _ => 1#1)
    ∧ (Cert.Pre_finite_inb.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.1 = (fun _ => 1#1)
    ∧ (Cert.Pre_finite_inb.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.1 = (fun _ => 1#1)
    ∧ (Cert.Pre_finite_inb.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.2 = (fun _ => 1#1)

def Pre_InBReferenceIdeal (m : (ℓ : Loc Cert.InBReferenceIdeal.nD Cert.InBReferenceIdeal.τ Cert.InBReferenceIdeal.sig) → Buf (Elt Ideal) ℓ) : Prop :=
  True

def Pre_InBReferenceIdeal_finite_inb [hPre_finite_inb : Cert.Pre_finite_inb.Facts] (m : (ℓ : Loc Cert.InBReferenceIdeal.nD Cert.InBReferenceIdeal.τ Cert.InBReferenceIdeal.sig) → Buf (Elt Ideal) ℓ) : Prop :=
  ∀ c : Dev Cert.InBReferenceIdeal.nD,
    (Cert.Pre_finite_inb.fn (F := Ideal) (m ((c.tc : Thread Cert.InBReferenceIdeal.nD Cert.InBReferenceIdeal.τ).loc Cert.InBReferenceIdeal.main_arg0)) (m ((c.tc : Thread Cert.InBReferenceIdeal.nD Cert.InBReferenceIdeal.τ).loc Cert.InBReferenceIdeal.main_arg1)) (m ((c.tc : Thread Cert.InBReferenceIdeal.nD Cert.InBReferenceIdeal.τ).loc Cert.InBReferenceIdeal.main_arg2)) (m ((c.tc : Thread Cert.InBReferenceIdeal.nD Cert.InBReferenceIdeal.τ).loc Cert.InBReferenceIdeal.main_arg3)) (m ((c.tc : Thread Cert.InBReferenceIdeal.nD Cert.InBReferenceIdeal.τ).loc Cert.InBReferenceIdeal.main_arg4))).1 = (fun _ => 1#1)
    ∧ (Cert.Pre_finite_inb.fn (F := Ideal) (m ((c.tc : Thread Cert.InBReferenceIdeal.nD Cert.InBReferenceIdeal.τ).loc Cert.InBReferenceIdeal.main_arg0)) (m ((c.tc : Thread Cert.InBReferenceIdeal.nD Cert.InBReferenceIdeal.τ).loc Cert.InBReferenceIdeal.main_arg1)) (m ((c.tc : Thread Cert.InBReferenceIdeal.nD Cert.InBReferenceIdeal.τ).loc Cert.InBReferenceIdeal.main_arg2)) (m ((c.tc : Thread Cert.InBReferenceIdeal.nD Cert.InBReferenceIdeal.τ).loc Cert.InBReferenceIdeal.main_arg3)) (m ((c.tc : Thread Cert.InBReferenceIdeal.nD Cert.InBReferenceIdeal.τ).loc Cert.InBReferenceIdeal.main_arg4))).2.1 = (fun _ => 1#1)
    ∧ (Cert.Pre_finite_inb.fn (F := Ideal) (m ((c.tc : Thread Cert.InBReferenceIdeal.nD Cert.InBReferenceIdeal.τ).loc Cert.InBReferenceIdeal.main_arg0)) (m ((c.tc : Thread Cert.InBReferenceIdeal.nD Cert.InBReferenceIdeal.τ).loc Cert.InBReferenceIdeal.main_arg1)) (m ((c.tc : Thread Cert.InBReferenceIdeal.nD Cert.InBReferenceIdeal.τ).loc Cert.InBReferenceIdeal.main_arg2)) (m ((c.tc : Thread Cert.InBReferenceIdeal.nD Cert.InBReferenceIdeal.τ).loc Cert.InBReferenceIdeal.main_arg3)) (m ((c.tc : Thread Cert.InBReferenceIdeal.nD Cert.InBReferenceIdeal.τ).loc Cert.InBReferenceIdeal.main_arg4))).2.2.1 = (fun _ => 1#1)
    ∧ (Cert.Pre_finite_inb.fn (F := Ideal) (m ((c.tc : Thread Cert.InBReferenceIdeal.nD Cert.InBReferenceIdeal.τ).loc Cert.InBReferenceIdeal.main_arg0)) (m ((c.tc : Thread Cert.InBReferenceIdeal.nD Cert.InBReferenceIdeal.τ).loc Cert.InBReferenceIdeal.main_arg1)) (m ((c.tc : Thread Cert.InBReferenceIdeal.nD Cert.InBReferenceIdeal.τ).loc Cert.InBReferenceIdeal.main_arg2)) (m ((c.tc : Thread Cert.InBReferenceIdeal.nD Cert.InBReferenceIdeal.τ).loc Cert.InBReferenceIdeal.main_arg3)) (m ((c.tc : Thread Cert.InBReferenceIdeal.nD Cert.InBReferenceIdeal.τ).loc Cert.InBReferenceIdeal.main_arg4))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_xattn [hPre_finite_xattn : Cert.Pre_finite_xattn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2.2.1 = (fun _ => 1#1)
    ∧ (Cert.Pre_finite_xattn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_xattn [hPre_finite_xattn : Cert.Pre_finite_xattn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.2.2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.2.2.2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.2.2.2.2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.2.2.2.2.2.1 = (fun _ => 1#1)
    ∧ (Cert.Pre_finite_xattn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2.2.2.2.2.2.2 = (fun _ => 1#1)

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBIdeal_finite_poolb [hPre_finite_poolb : Cert.Pre_finite_poolb.Facts] (m : (ℓ : Loc Cert.PoolBIdeal.nD Cert.PoolBIdeal.τ Cert.PoolBIdeal.sig) → Buf (Elt Ideal) ℓ) : Prop :=
  ∀ c : Dev Cert.PoolBIdeal.nD,
    (Cert.Pre_finite_poolb.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).1 = (fun _ => 1#1)
    ∧ (Cert.Pre_finite_poolb.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.1 = (fun _ => 1#1)
    ∧ (Cert.Pre_finite_poolb.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.2.1 = (fun _ => 1#1)
    ∧ (Cert.Pre_finite_poolb.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.2.2 = (fun _ => 1#1)

def Pre_PoolBReferenceIdeal (m : (ℓ : Loc Cert.PoolBReferenceIdeal.nD Cert.PoolBReferenceIdeal.τ Cert.PoolBReferenceIdeal.sig) → Buf (Elt Ideal) ℓ) : Prop :=
  True

def Pre_PoolBReferenceIdeal_finite_poolb [hPre_finite_poolb : Cert.Pre_finite_poolb.Facts] (m : (ℓ : Loc Cert.PoolBReferenceIdeal.nD Cert.PoolBReferenceIdeal.τ Cert.PoolBReferenceIdeal.sig) → Buf (Elt Ideal) ℓ) : Prop :=
  ∀ c : Dev Cert.PoolBReferenceIdeal.nD,
    (Cert.Pre_finite_poolb.fn (F := Ideal) (m ((c.tc : Thread Cert.PoolBReferenceIdeal.nD Cert.PoolBReferenceIdeal.τ).loc Cert.PoolBReferenceIdeal.main_arg0)) (m ((c.tc : Thread Cert.PoolBReferenceIdeal.nD Cert.PoolBReferenceIdeal.τ).loc Cert.PoolBReferenceIdeal.main_arg1)) (m ((c.tc : Thread Cert.PoolBReferenceIdeal.nD Cert.PoolBReferenceIdeal.τ).loc Cert.PoolBReferenceIdeal.main_arg2)) (m ((c.tc : Thread Cert.PoolBReferenceIdeal.nD Cert.PoolBReferenceIdeal.τ).loc Cert.PoolBReferenceIdeal.main_arg3)) (m ((c.tc : Thread Cert.PoolBReferenceIdeal.nD Cert.PoolBReferenceIdeal.τ).loc Cert.PoolBReferenceIdeal.main_arg4))).1 = (fun _ => 1#1)
    ∧ (Cert.Pre_finite_poolb.fn (F := Ideal) (m ((c.tc : Thread Cert.PoolBReferenceIdeal.nD Cert.PoolBReferenceIdeal.τ).loc Cert.PoolBReferenceIdeal.main_arg0)) (m ((c.tc : Thread Cert.PoolBReferenceIdeal.nD Cert.PoolBReferenceIdeal.τ).loc Cert.PoolBReferenceIdeal.main_arg1)) (m ((c.tc : Thread Cert.PoolBReferenceIdeal.nD Cert.PoolBReferenceIdeal.τ).loc Cert.PoolBReferenceIdeal.main_arg2)) (m ((c.tc : Thread Cert.PoolBReferenceIdeal.nD Cert.PoolBReferenceIdeal.τ).loc Cert.PoolBReferenceIdeal.main_arg3)) (m ((c.tc : Thread Cert.PoolBReferenceIdeal.nD Cert.PoolBReferenceIdeal.τ).loc Cert.PoolBReferenceIdeal.main_arg4))).2.1 = (fun _ => 1#1)
    ∧ (Cert.Pre_finite_poolb.fn (F := Ideal) (m ((c.tc : Thread Cert.PoolBReferenceIdeal.nD Cert.PoolBReferenceIdeal.τ).loc Cert.PoolBReferenceIdeal.main_arg0)) (m ((c.tc : Thread Cert.PoolBReferenceIdeal.nD Cert.PoolBReferenceIdeal.τ).loc Cert.PoolBReferenceIdeal.main_arg1)) (m ((c.tc : Thread Cert.PoolBReferenceIdeal.nD Cert.PoolBReferenceIdeal.τ).loc Cert.PoolBReferenceIdeal.main_arg2)) (m ((c.tc : Thread Cert.PoolBReferenceIdeal.nD Cert.PoolBReferenceIdeal.τ).loc Cert.PoolBReferenceIdeal.main_arg3)) (m ((c.tc : Thread Cert.PoolBReferenceIdeal.nD Cert.PoolBReferenceIdeal.τ).loc Cert.PoolBReferenceIdeal.main_arg4))).2.2.1 = (fun _ => 1#1)
    ∧ (Cert.Pre_finite_poolb.fn (F := Ideal) (m ((c.tc : Thread Cert.PoolBReferenceIdeal.nD Cert.PoolBReferenceIdeal.τ).loc Cert.PoolBReferenceIdeal.main_arg0)) (m ((c.tc : Thread Cert.PoolBReferenceIdeal.nD Cert.PoolBReferenceIdeal.τ).loc Cert.PoolBReferenceIdeal.main_arg1)) (m ((c.tc : Thread Cert.PoolBReferenceIdeal.nD Cert.PoolBReferenceIdeal.τ).loc Cert.PoolBReferenceIdeal.main_arg2)) (m ((c.tc : Thread Cert.PoolBReferenceIdeal.nD Cert.PoolBReferenceIdeal.τ).loc Cert.PoolBReferenceIdeal.main_arg3)) (m ((c.tc : Thread Cert.PoolBReferenceIdeal.nD Cert.PoolBReferenceIdeal.τ).loc Cert.PoolBReferenceIdeal.main_arg4))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_exact_mlp [hPre_exact_mlp : Cert.Pre_exact_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).1 = (fun _ => 1#1)
    ∧ (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.1 = (fun _ => 1#1)
    ∧ (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.1 = (fun _ => 1#1)
    ∧ (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.1 = (fun _ => 1#1)
    ∧ (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.1 = (fun _ => 1#1)
    ∧ (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.2.1 = (fun _ => 1#1)
    ∧ (Cert.Pre_exact_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.2.2 = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_exact_mlp [hPre_exact_mlp : Cert.Pre_exact_mlp.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).1 = (fun _ => 1#1)
    ∧ (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.1 = (fun _ => 1#1)
    ∧ (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.1 = (fun _ => 1#1)
    ∧ (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.1 = (fun _ => 1#1)
    ∧ (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.2.1 = (fun _ => 1#1)
    ∧ (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.2.2.1 = (fun _ => 1#1)
    ∧ (Cert.Pre_exact_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.2.2.2 = (fun _ => 1#1)

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFReferenceIdeal (m : (ℓ : Loc Cert.InFReferenceIdeal.nD Cert.InFReferenceIdeal.τ Cert.InFReferenceIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_finite_poolf [hPre_finite_poolf : Cert.Pre_finite_poolf.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_finite_poolf.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2)) (m ((c.tc : Thread Cert.PoolFIdeal.nD Cert.PoolFIdeal.τ).loc Cert.PoolFIdeal.main_arg3))) = (fun _ => 1#1)

def Pre_PoolFReferenceIdeal (m : (ℓ : Loc Cert.PoolFReferenceIdeal.nD Cert.PoolFReferenceIdeal.τ Cert.PoolFReferenceIdeal.sig) → Buf (Elt Ideal) ℓ) : Prop :=
  True

def Pre_PoolFReferenceIdeal_finite_poolf [hPre_finite_poolf : Cert.Pre_finite_poolf.Facts] (m : (ℓ : Loc Cert.PoolFReferenceIdeal.nD Cert.PoolFReferenceIdeal.τ Cert.PoolFReferenceIdeal.sig) → Buf (Elt Ideal) ℓ) : Prop :=
  ∀ c : Dev Cert.PoolFReferenceIdeal.nD,
    (Cert.Pre_finite_poolf.fn (F := Ideal) (m ((c.tc : Thread Cert.PoolFReferenceIdeal.nD Cert.PoolFReferenceIdeal.τ).loc Cert.PoolFReferenceIdeal.main_arg0)) (m ((c.tc : Thread Cert.PoolFReferenceIdeal.nD Cert.PoolFReferenceIdeal.τ).loc Cert.PoolFReferenceIdeal.main_arg1)) (m ((c.tc : Thread Cert.PoolFReferenceIdeal.nD Cert.PoolFReferenceIdeal.τ).loc Cert.PoolFReferenceIdeal.main_arg2)) (m ((c.tc : Thread Cert.PoolFReferenceIdeal.nD Cert.PoolFReferenceIdeal.τ).loc Cert.PoolFReferenceIdeal.main_arg3))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_SumAdam (m : (ℓ : Loc Cert.SumAdam.nD Cert.SumAdam.τ Cert.SumAdam.sig) → Buf (Elt Bits) ℓ) : Prop :=
  True

def Pre_SumAdamIdeal (m : (ℓ : Loc Cert.SumAdamIdeal.nD Cert.SumAdamIdeal.τ Cert.SumAdamIdeal.sig) → Buf (Elt Ideal) ℓ) : Prop :=
  True

def Pre_SumAdamReferenceIdeal (m : (ℓ : Loc Cert.SumAdamReferenceIdeal.nD Cert.SumAdamReferenceIdeal.τ Cert.SumAdamReferenceIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsReferenceIdeal (m : (ℓ : Loc Cert.SumsReferenceIdeal.nD Cert.SumsReferenceIdeal.τ Cert.SumsReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4)
      ∧ r.2.mem ((c.tc : Thread Cert.KvReferenceIdeal.nD Cert.KvReferenceIdeal.τ).loc Cert.KvReferenceIdeal.main_arg5) = m ((c.tc : Thread Cert.KvReferenceIdeal.nD Cert.KvReferenceIdeal.τ).loc Cert.KvReferenceIdeal.main_arg5))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBIdeal_pre_finite_inb [hInBIdeal : Cert.InBIdeal.Facts] [hPre_finite_inb : Cert.Pre_finite_inb.Facts] : Prop :=
  ∀ (m : (ℓ : Loc Cert.InBIdeal.nD Cert.InBIdeal.τ Cert.InBIdeal.sig) → Buf (Elt Ideal) ℓ) (g : Dev Cert.InBIdeal.nD → PrngReg), Pre_InBIdeal_finite_inb m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBReferenceIdeal [hInBReferenceIdeal : Cert.InBReferenceIdeal.Facts] : Prop :=
  ∀ (m : (ℓ : Loc Cert.InBReferenceIdeal.nD Cert.InBReferenceIdeal.τ Cert.InBReferenceIdeal.sig) → Buf (Elt Ideal) ℓ) (g : Dev Cert.InBReferenceIdeal.nD → PrngReg), Pre_InBReferenceIdeal m →
    θ_run (Cert.InBReferenceIdeal.defs (F := Ideal)) (onTc (τ := Cert.InBReferenceIdeal.τ) (Cert.InBReferenceIdeal.main (F := Ideal))) ⟨m, fun _ => 0, g⟩ (fun r => (∀ c : Dev Cert.InBReferenceIdeal.nD,
      r.2.mem ((c.tc : Thread Cert.InBReferenceIdeal.nD Cert.InBReferenceIdeal.τ).loc Cert.InBReferenceIdeal.main_arg0) = m ((c.tc : Thread Cert.InBReferenceIdeal.nD Cert.InBReferenceIdeal.τ).loc Cert.InBReferenceIdeal.main_arg0)
      ∧ r.2.mem ((c.tc : Thread Cert.InBReferenceIdeal.nD Cert.InBReferenceIdeal.τ).loc Cert.InBReferenceIdeal.main_arg1) = m ((c.tc : Thread Cert.InBReferenceIdeal.nD Cert.InBReferenceIdeal.τ).loc Cert.InBReferenceIdeal.main_arg1)
      ∧ r.2.mem ((c.tc : Thread Cert.InBReferenceIdeal.nD Cert.InBReferenceIdeal.τ).loc Cert.InBReferenceIdeal.main_arg2) = m ((c.tc : Thread Cert.InBReferenceIdeal.nD Cert.InBReferenceIdeal.τ).loc Cert.InBReferenceIdeal.main_arg2)
      ∧ r.2.mem ((c.tc : Thread Cert.InBReferenceIdeal.nD Cert.InBReferenceIdeal.τ).loc Cert.InBReferenceIdeal.main_arg3) = m ((c.tc : Thread Cert.InBReferenceIdeal.nD Cert.InBReferenceIdeal.τ).loc Cert.InBReferenceIdeal.main_arg3)
      ∧ r.2.mem ((c.tc : Thread Cert.InBReferenceIdeal.nD Cert.InBReferenceIdeal.τ).loc Cert.InBReferenceIdeal.main_arg4) = m ((c.tc : Thread Cert.InBReferenceIdeal.nD Cert.InBReferenceIdeal.τ).loc Cert.InBReferenceIdeal.main_arg4))
      ∧ r.2.sem = fun _ => 0)

def quiescent_InBReferenceIdeal_pre_finite_inb [hInBReferenceIdeal : Cert.InBReferenceIdeal.Facts] [hPre_finite_inb : Cert.Pre_finite_inb.Facts] : Prop :=
  ∀ (m : (ℓ : Loc Cert.InBReferenceIdeal.nD Cert.InBReferenceIdeal.τ Cert.InBReferenceIdeal.sig) → Buf (Elt Ideal) ℓ) (g : Dev Cert.InBReferenceIdeal.nD → PrngReg), Pre_InBReferenceIdeal_finite_inb m →
    θ_run (Cert.InBReferenceIdeal.defs (F := Ideal)) (onTc (τ := Cert.InBReferenceIdeal.τ) (Cert.InBReferenceIdeal.main (F := Ideal))) ⟨m, fun _ => 0, g⟩ (fun r => (∀ c : Dev Cert.InBReferenceIdeal.nD,
      r.2.mem ((c.tc : Thread Cert.InBReferenceIdeal.nD Cert.InBReferenceIdeal.τ).loc Cert.InBReferenceIdeal.main_arg0) = m ((c.tc : Thread Cert.InBReferenceIdeal.nD Cert.InBReferenceIdeal.τ).loc Cert.InBReferenceIdeal.main_arg0)
      ∧ r.2.mem ((c.tc : Thread Cert.InBReferenceIdeal.nD Cert.InBReferenceIdeal.τ).loc Cert.InBReferenceIdeal.main_arg1) = m ((c.tc : Thread Cert.InBReferenceIdeal.nD Cert.InBReferenceIdeal.τ).loc Cert.InBReferenceIdeal.main_arg1)
      ∧ r.2.mem ((c.tc : Thread Cert.InBReferenceIdeal.nD Cert.InBReferenceIdeal.τ).loc Cert.InBReferenceIdeal.main_arg2) = m ((c.tc : Thread Cert.InBReferenceIdeal.nD Cert.InBReferenceIdeal.τ).loc Cert.InBReferenceIdeal.main_arg2)
      ∧ r.2.mem ((c.tc : Thread Cert.InBReferenceIdeal.nD Cert.InBReferenceIdeal.τ).loc Cert.InBReferenceIdeal.main_arg3) = m ((c.tc : Thread Cert.InBReferenceIdeal.nD Cert.InBReferenceIdeal.τ).loc Cert.InBReferenceIdeal.main_arg3)
      ∧ r.2.mem ((c.tc : Thread Cert.InBReferenceIdeal.nD Cert.InBReferenceIdeal.τ).loc Cert.InBReferenceIdeal.main_arg4) = m ((c.tc : Thread Cert.InBReferenceIdeal.nD Cert.InBReferenceIdeal.τ).loc Cert.InBReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_xattn [hAttnIdeal : Cert.AttnIdeal.Facts] [hPre_finite_xattn : Cert.Pre_finite_xattn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_xattn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_AttnReferenceIdeal_pre_finite_xattn [hAttnReferenceIdeal : Cert.AttnReferenceIdeal.Facts] [hPre_finite_xattn : Cert.Pre_finite_xattn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_xattn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0)
      ∧ r.2.mem ((c.tc : Thread Cert.PoolB.nD Cert.PoolB.τ).loc Cert.PoolB.main_arg1) = m ((c.tc : Thread Cert.PoolB.nD Cert.PoolB.τ).loc Cert.PoolB.main_arg1)
      ∧ r.2.mem ((c.tc : Thread Cert.PoolB.nD Cert.PoolB.τ).loc Cert.PoolB.main_arg2) = m ((c.tc : Thread Cert.PoolB.nD Cert.PoolB.τ).loc Cert.PoolB.main_arg2)
      ∧ r.2.mem ((c.tc : Thread Cert.PoolB.nD Cert.PoolB.τ).loc Cert.PoolB.main_arg3) = m ((c.tc : Thread Cert.PoolB.nD Cert.PoolB.τ).loc Cert.PoolB.main_arg3)
      ∧ r.2.mem ((c.tc : Thread Cert.PoolB.nD Cert.PoolB.τ).loc Cert.PoolB.main_arg4) = m ((c.tc : Thread Cert.PoolB.nD Cert.PoolB.τ).loc Cert.PoolB.main_arg4))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
      ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
      ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3)
      ∧ r.2.mem ((c.tc : Thread Cert.PoolBIdeal.nD Cert.PoolBIdeal.τ).loc Cert.PoolBIdeal.main_arg4) = m ((c.tc : Thread Cert.PoolBIdeal.nD Cert.PoolBIdeal.τ).loc Cert.PoolBIdeal.main_arg4))
      ∧ r.2.sem = fun _ => 0)

def quiescent_PoolBIdeal_pre_finite_poolb [hPoolBIdeal : Cert.PoolBIdeal.Facts] [hPre_finite_poolb : Cert.Pre_finite_poolb.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal_finite_poolb m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
      ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
      ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3)
      ∧ r.2.mem ((c.tc : Thread Cert.PoolBIdeal.nD Cert.PoolBIdeal.τ).loc Cert.PoolBIdeal.main_arg4) = m ((c.tc : Thread Cert.PoolBIdeal.nD Cert.PoolBIdeal.τ).loc Cert.PoolBIdeal.main_arg4))
      ∧ r.2.sem = fun _ => 0)

def quiescent_PoolBReferenceIdeal [hPoolBReferenceIdeal : Cert.PoolBReferenceIdeal.Facts] : Prop :=
  ∀ (m : (ℓ : Loc Cert.PoolBReferenceIdeal.nD Cert.PoolBReferenceIdeal.τ Cert.PoolBReferenceIdeal.sig) → Buf (Elt Ideal) ℓ) (g : Dev Cert.PoolBReferenceIdeal.nD → PrngReg), Pre_PoolBReferenceIdeal m →
    θ_run (Cert.PoolBReferenceIdeal.defs (F := Ideal)) (onTc (τ := Cert.PoolBReferenceIdeal.τ) (Cert.PoolBReferenceIdeal.main (F := Ideal))) ⟨m, fun _ => 0, g⟩ (fun r => (∀ c : Dev Cert.PoolBReferenceIdeal.nD,
      r.2.mem ((c.tc : Thread Cert.PoolBReferenceIdeal.nD Cert.PoolBReferenceIdeal.τ).loc Cert.PoolBReferenceIdeal.main_arg0) = m ((c.tc : Thread Cert.PoolBReferenceIdeal.nD Cert.PoolBReferenceIdeal.τ).loc Cert.PoolBReferenceIdeal.main_arg0)
      ∧ r.2.mem ((c.tc : Thread Cert.PoolBReferenceIdeal.nD Cert.PoolBReferenceIdeal.τ).loc Cert.PoolBReferenceIdeal.main_arg1) = m ((c.tc : Thread Cert.PoolBReferenceIdeal.nD Cert.PoolBReferenceIdeal.τ).loc Cert.PoolBReferenceIdeal.main_arg1)
      ∧ r.2.mem ((c.tc : Thread Cert.PoolBReferenceIdeal.nD Cert.PoolBReferenceIdeal.τ).loc Cert.PoolBReferenceIdeal.main_arg2) = m ((c.tc : Thread Cert.PoolBReferenceIdeal.nD Cert.PoolBReferenceIdeal.τ).loc Cert.PoolBReferenceIdeal.main_arg2)
      ∧ r.2.mem ((c.tc : Thread Cert.PoolBReferenceIdeal.nD Cert.PoolBReferenceIdeal.τ).loc Cert.PoolBReferenceIdeal.main_arg3) = m ((c.tc : Thread Cert.PoolBReferenceIdeal.nD Cert.PoolBReferenceIdeal.τ).loc Cert.PoolBReferenceIdeal.main_arg3)
      ∧ r.2.mem ((c.tc : Thread Cert.PoolBReferenceIdeal.nD Cert.PoolBReferenceIdeal.τ).loc Cert.PoolBReferenceIdeal.main_arg4) = m ((c.tc : Thread Cert.PoolBReferenceIdeal.nD Cert.PoolBReferenceIdeal.τ).loc Cert.PoolBReferenceIdeal.main_arg4))
      ∧ r.2.sem = fun _ => 0)

def quiescent_PoolBReferenceIdeal_pre_finite_poolb [hPoolBReferenceIdeal : Cert.PoolBReferenceIdeal.Facts] [hPre_finite_poolb : Cert.Pre_finite_poolb.Facts] : Prop :=
  ∀ (m : (ℓ : Loc Cert.PoolBReferenceIdeal.nD Cert.PoolBReferenceIdeal.τ Cert.PoolBReferenceIdeal.sig) → Buf (Elt Ideal) ℓ) (g : Dev Cert.PoolBReferenceIdeal.nD → PrngReg), Pre_PoolBReferenceIdeal_finite_poolb m →
    θ_run (Cert.PoolBReferenceIdeal.defs (F := Ideal)) (onTc (τ := Cert.PoolBReferenceIdeal.τ) (Cert.PoolBReferenceIdeal.main (F := Ideal))) ⟨m, fun _ => 0, g⟩ (fun r => (∀ c : Dev Cert.PoolBReferenceIdeal.nD,
      r.2.mem ((c.tc : Thread Cert.PoolBReferenceIdeal.nD Cert.PoolBReferenceIdeal.τ).loc Cert.PoolBReferenceIdeal.main_arg0) = m ((c.tc : Thread Cert.PoolBReferenceIdeal.nD Cert.PoolBReferenceIdeal.τ).loc Cert.PoolBReferenceIdeal.main_arg0)
      ∧ r.2.mem ((c.tc : Thread Cert.PoolBReferenceIdeal.nD Cert.PoolBReferenceIdeal.τ).loc Cert.PoolBReferenceIdeal.main_arg1) = m ((c.tc : Thread Cert.PoolBReferenceIdeal.nD Cert.PoolBReferenceIdeal.τ).loc Cert.PoolBReferenceIdeal.main_arg1)
      ∧ r.2.mem ((c.tc : Thread Cert.PoolBReferenceIdeal.nD Cert.PoolBReferenceIdeal.τ).loc Cert.PoolBReferenceIdeal.main_arg2) = m ((c.tc : Thread Cert.PoolBReferenceIdeal.nD Cert.PoolBReferenceIdeal.τ).loc Cert.PoolBReferenceIdeal.main_arg2)
      ∧ r.2.mem ((c.tc : Thread Cert.PoolBReferenceIdeal.nD Cert.PoolBReferenceIdeal.τ).loc Cert.PoolBReferenceIdeal.main_arg3) = m ((c.tc : Thread Cert.PoolBReferenceIdeal.nD Cert.PoolBReferenceIdeal.τ).loc Cert.PoolBReferenceIdeal.main_arg3)
      ∧ r.2.mem ((c.tc : Thread Cert.PoolBReferenceIdeal.nD Cert.PoolBReferenceIdeal.τ).loc Cert.PoolBReferenceIdeal.main_arg4) = m ((c.tc : Thread Cert.PoolBReferenceIdeal.nD Cert.PoolBReferenceIdeal.τ).loc Cert.PoolBReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_exact_mlp [hMlpIdeal : Cert.MlpIdeal.Facts] [hPre_exact_mlp : Cert.Pre_exact_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_exact_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_MlpReferenceIdeal_pre_exact_mlp [hMlpReferenceIdeal : Cert.MlpReferenceIdeal.Facts] [hPre_exact_mlp : Cert.Pre_exact_mlp.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_exact_mlp m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFReferenceIdeal [hInFReferenceIdeal : Cert.InFReferenceIdeal.Facts] : Prop :=
  ∀ (m : (ℓ : Loc Cert.InFReferenceIdeal.nD Cert.InFReferenceIdeal.τ Cert.InFReferenceIdeal.sig) → Buf (Elt Ideal) ℓ) (g : Dev Cert.InFReferenceIdeal.nD → PrngReg), Pre_InFReferenceIdeal m →
    θ_run (Cert.InFReferenceIdeal.defs (F := Ideal)) (onTc (τ := Cert.InFReferenceIdeal.τ) (Cert.InFReferenceIdeal.main (F := Ideal))) ⟨m, fun _ => 0, g⟩ (fun r => (∀ c : Dev Cert.InFReferenceIdeal.nD,
      r.2.mem ((c.tc : Thread Cert.InFReferenceIdeal.nD Cert.InFReferenceIdeal.τ).loc Cert.InFReferenceIdeal.main_arg0) = m ((c.tc : Thread Cert.InFReferenceIdeal.nD Cert.InFReferenceIdeal.τ).loc Cert.InFReferenceIdeal.main_arg0)
      ∧ r.2.mem ((c.tc : Thread Cert.InFReferenceIdeal.nD Cert.InFReferenceIdeal.τ).loc Cert.InFReferenceIdeal.main_arg1) = m ((c.tc : Thread Cert.InFReferenceIdeal.nD Cert.InFReferenceIdeal.τ).loc Cert.InFReferenceIdeal.main_arg1)
      ∧ r.2.mem ((c.tc : Thread Cert.InFReferenceIdeal.nD Cert.InFReferenceIdeal.τ).loc Cert.InFReferenceIdeal.main_arg2) = m ((c.tc : Thread Cert.InFReferenceIdeal.nD Cert.InFReferenceIdeal.τ).loc Cert.InFReferenceIdeal.main_arg2))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2)
      ∧ r.2.mem ((c.tc : Thread Cert.PoolF.nD Cert.PoolF.τ).loc Cert.PoolF.main_arg3) = m ((c.tc : Thread Cert.PoolF.nD Cert.PoolF.τ).loc Cert.PoolF.main_arg3))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2)
      ∧ r.2.mem ((c.tc : Thread Cert.PoolFIdeal.nD Cert.PoolFIdeal.τ).loc Cert.PoolFIdeal.main_arg3) = m ((c.tc : Thread Cert.PoolFIdeal.nD Cert.PoolFIdeal.τ).loc Cert.PoolFIdeal.main_arg3))
      ∧ r.2.sem = fun _ => 0)

def quiescent_PoolFIdeal_pre_finite_poolf [hPoolFIdeal : Cert.PoolFIdeal.Facts] [hPre_finite_poolf : Cert.Pre_finite_poolf.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_finite_poolf m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2)
      ∧ r.2.mem ((c.tc : Thread Cert.PoolFIdeal.nD Cert.PoolFIdeal.τ).loc Cert.PoolFIdeal.main_arg3) = m ((c.tc : Thread Cert.PoolFIdeal.nD Cert.PoolFIdeal.τ).loc Cert.PoolFIdeal.main_arg3))
      ∧ r.2.sem = fun _ => 0)

def quiescent_PoolFReferenceIdeal [hPoolFReferenceIdeal : Cert.PoolFReferenceIdeal.Facts] : Prop :=
  ∀ (m : (ℓ : Loc Cert.PoolFReferenceIdeal.nD Cert.PoolFReferenceIdeal.τ Cert.PoolFReferenceIdeal.sig) → Buf (Elt Ideal) ℓ) (g : Dev Cert.PoolFReferenceIdeal.nD → PrngReg), Pre_PoolFReferenceIdeal m →
    θ_run (Cert.PoolFReferenceIdeal.defs (F := Ideal)) (onTc (τ := Cert.PoolFReferenceIdeal.τ) (Cert.PoolFReferenceIdeal.main (F := Ideal))) ⟨m, fun _ => 0, g⟩ (fun r => (∀ c : Dev Cert.PoolFReferenceIdeal.nD,
      r.2.mem ((c.tc : Thread Cert.PoolFReferenceIdeal.nD Cert.PoolFReferenceIdeal.τ).loc Cert.PoolFReferenceIdeal.main_arg0) = m ((c.tc : Thread Cert.PoolFReferenceIdeal.nD Cert.PoolFReferenceIdeal.τ).loc Cert.PoolFReferenceIdeal.main_arg0)
      ∧ r.2.mem ((c.tc : Thread Cert.PoolFReferenceIdeal.nD Cert.PoolFReferenceIdeal.τ).loc Cert.PoolFReferenceIdeal.main_arg1) = m ((c.tc : Thread Cert.PoolFReferenceIdeal.nD Cert.PoolFReferenceIdeal.τ).loc Cert.PoolFReferenceIdeal.main_arg1)
      ∧ r.2.mem ((c.tc : Thread Cert.PoolFReferenceIdeal.nD Cert.PoolFReferenceIdeal.τ).loc Cert.PoolFReferenceIdeal.main_arg2) = m ((c.tc : Thread Cert.PoolFReferenceIdeal.nD Cert.PoolFReferenceIdeal.τ).loc Cert.PoolFReferenceIdeal.main_arg2)
      ∧ r.2.mem ((c.tc : Thread Cert.PoolFReferenceIdeal.nD Cert.PoolFReferenceIdeal.τ).loc Cert.PoolFReferenceIdeal.main_arg3) = m ((c.tc : Thread Cert.PoolFReferenceIdeal.nD Cert.PoolFReferenceIdeal.τ).loc Cert.PoolFReferenceIdeal.main_arg3))
      ∧ r.2.sem = fun _ => 0)

def quiescent_PoolFReferenceIdeal_pre_finite_poolf [hPoolFReferenceIdeal : Cert.PoolFReferenceIdeal.Facts] [hPre_finite_poolf : Cert.Pre_finite_poolf.Facts] : Prop :=
  ∀ (m : (ℓ : Loc Cert.PoolFReferenceIdeal.nD Cert.PoolFReferenceIdeal.τ Cert.PoolFReferenceIdeal.sig) → Buf (Elt Ideal) ℓ) (g : Dev Cert.PoolFReferenceIdeal.nD → PrngReg), Pre_PoolFReferenceIdeal_finite_poolf m →
    θ_run (Cert.PoolFReferenceIdeal.defs (F := Ideal)) (onTc (τ := Cert.PoolFReferenceIdeal.τ) (Cert.PoolFReferenceIdeal.main (F := Ideal))) ⟨m, fun _ => 0, g⟩ (fun r => (∀ c : Dev Cert.PoolFReferenceIdeal.nD,
      r.2.mem ((c.tc : Thread Cert.PoolFReferenceIdeal.nD Cert.PoolFReferenceIdeal.τ).loc Cert.PoolFReferenceIdeal.main_arg0) = m ((c.tc : Thread Cert.PoolFReferenceIdeal.nD Cert.PoolFReferenceIdeal.τ).loc Cert.PoolFReferenceIdeal.main_arg0)
      ∧ r.2.mem ((c.tc : Thread Cert.PoolFReferenceIdeal.nD Cert.PoolFReferenceIdeal.τ).loc Cert.PoolFReferenceIdeal.main_arg1) = m ((c.tc : Thread Cert.PoolFReferenceIdeal.nD Cert.PoolFReferenceIdeal.τ).loc Cert.PoolFReferenceIdeal.main_arg1)
      ∧ r.2.mem ((c.tc : Thread Cert.PoolFReferenceIdeal.nD Cert.PoolFReferenceIdeal.τ).loc Cert.PoolFReferenceIdeal.main_arg2) = m ((c.tc : Thread Cert.PoolFReferenceIdeal.nD Cert.PoolFReferenceIdeal.τ).loc Cert.PoolFReferenceIdeal.main_arg2)
      ∧ r.2.mem ((c.tc : Thread Cert.PoolFReferenceIdeal.nD Cert.PoolFReferenceIdeal.τ).loc Cert.PoolFReferenceIdeal.main_arg3) = m ((c.tc : Thread Cert.PoolFReferenceIdeal.nD Cert.PoolFReferenceIdeal.τ).loc Cert.PoolFReferenceIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def quiescent_SumAdam [hSumAdam : Cert.SumAdam.Facts] : Prop :=
  ∀ (m : (ℓ : Loc Cert.SumAdam.nD Cert.SumAdam.τ Cert.SumAdam.sig) → Buf (Elt Bits) ℓ) (g : Dev Cert.SumAdam.nD → PrngReg), Pre_SumAdam m →
    θ_run (Cert.SumAdam.defs (F := Bits)) (onTc (τ := Cert.SumAdam.τ) (Cert.SumAdam.main (F := Bits))) ⟨m, fun _ => 0, g⟩ (fun r => (∀ c : Dev Cert.SumAdam.nD,
      r.2.mem ((c.tc : Thread Cert.SumAdam.nD Cert.SumAdam.τ).loc Cert.SumAdam.main_arg0) = m ((c.tc : Thread Cert.SumAdam.nD Cert.SumAdam.τ).loc Cert.SumAdam.main_arg0)
      ∧ r.2.mem ((c.tc : Thread Cert.SumAdam.nD Cert.SumAdam.τ).loc Cert.SumAdam.main_arg1) = m ((c.tc : Thread Cert.SumAdam.nD Cert.SumAdam.τ).loc Cert.SumAdam.main_arg1)
      ∧ r.2.mem ((c.tc : Thread Cert.SumAdam.nD Cert.SumAdam.τ).loc Cert.SumAdam.main_arg2) = m ((c.tc : Thread Cert.SumAdam.nD Cert.SumAdam.τ).loc Cert.SumAdam.main_arg2)
      ∧ r.2.mem ((c.tc : Thread Cert.SumAdam.nD Cert.SumAdam.τ).loc Cert.SumAdam.main_arg3) = m ((c.tc : Thread Cert.SumAdam.nD Cert.SumAdam.τ).loc Cert.SumAdam.main_arg3))
      ∧ r.2.sem = fun _ => 0)

def quiescent_SumAdamIdeal [hSumAdamIdeal : Cert.SumAdamIdeal.Facts] : Prop :=
  ∀ (m : (ℓ : Loc Cert.SumAdamIdeal.nD Cert.SumAdamIdeal.τ Cert.SumAdamIdeal.sig) → Buf (Elt Ideal) ℓ) (g : Dev Cert.SumAdamIdeal.nD → PrngReg), Pre_SumAdamIdeal m →
    θ_run (Cert.SumAdamIdeal.defs (F := Ideal)) (onTc (τ := Cert.SumAdamIdeal.τ) (Cert.SumAdamIdeal.main (F := Ideal))) ⟨m, fun _ => 0, g⟩ (fun r => (∀ c : Dev Cert.SumAdamIdeal.nD,
      r.2.mem ((c.tc : Thread Cert.SumAdamIdeal.nD Cert.SumAdamIdeal.τ).loc Cert.SumAdamIdeal.main_arg0) = m ((c.tc : Thread Cert.SumAdamIdeal.nD Cert.SumAdamIdeal.τ).loc Cert.SumAdamIdeal.main_arg0)
      ∧ r.2.mem ((c.tc : Thread Cert.SumAdamIdeal.nD Cert.SumAdamIdeal.τ).loc Cert.SumAdamIdeal.main_arg1) = m ((c.tc : Thread Cert.SumAdamIdeal.nD Cert.SumAdamIdeal.τ).loc Cert.SumAdamIdeal.main_arg1)
      ∧ r.2.mem ((c.tc : Thread Cert.SumAdamIdeal.nD Cert.SumAdamIdeal.τ).loc Cert.SumAdamIdeal.main_arg2) = m ((c.tc : Thread Cert.SumAdamIdeal.nD Cert.SumAdamIdeal.τ).loc Cert.SumAdamIdeal.main_arg2)
      ∧ r.2.mem ((c.tc : Thread Cert.SumAdamIdeal.nD Cert.SumAdamIdeal.τ).loc Cert.SumAdamIdeal.main_arg3) = m ((c.tc : Thread Cert.SumAdamIdeal.nD Cert.SumAdamIdeal.τ).loc Cert.SumAdamIdeal.main_arg3))
      ∧ r.2.sem = fun _ => 0)

def quiescent_SumAdamReferenceIdeal [hSumAdamReferenceIdeal : Cert.SumAdamReferenceIdeal.Facts] : Prop :=
  ∀ (m : (ℓ : Loc Cert.SumAdamReferenceIdeal.nD Cert.SumAdamReferenceIdeal.τ Cert.SumAdamReferenceIdeal.sig) → Buf (Elt Ideal) ℓ) (g : Dev Cert.SumAdamReferenceIdeal.nD → PrngReg), Pre_SumAdamReferenceIdeal m →
    θ_run (Cert.SumAdamReferenceIdeal.defs (F := Ideal)) (onTc (τ := Cert.SumAdamReferenceIdeal.τ) (Cert.SumAdamReferenceIdeal.main (F := Ideal))) ⟨m, fun _ => 0, g⟩ (fun r => (∀ c : Dev Cert.SumAdamReferenceIdeal.nD,
      r.2.mem ((c.tc : Thread Cert.SumAdamReferenceIdeal.nD Cert.SumAdamReferenceIdeal.τ).loc Cert.SumAdamReferenceIdeal.main_arg0) = m ((c.tc : Thread Cert.SumAdamReferenceIdeal.nD Cert.SumAdamReferenceIdeal.τ).loc Cert.SumAdamReferenceIdeal.main_arg0)
      ∧ r.2.mem ((c.tc : Thread Cert.SumAdamReferenceIdeal.nD Cert.SumAdamReferenceIdeal.τ).loc Cert.SumAdamReferenceIdeal.main_arg1) = m ((c.tc : Thread Cert.SumAdamReferenceIdeal.nD Cert.SumAdamReferenceIdeal.τ).loc Cert.SumAdamReferenceIdeal.main_arg1)
      ∧ r.2.mem ((c.tc : Thread Cert.SumAdamReferenceIdeal.nD Cert.SumAdamReferenceIdeal.τ).loc Cert.SumAdamReferenceIdeal.main_arg2) = m ((c.tc : Thread Cert.SumAdamReferenceIdeal.nD Cert.SumAdamReferenceIdeal.τ).loc Cert.SumAdamReferenceIdeal.main_arg2)
      ∧ r.2.mem ((c.tc : Thread Cert.SumAdamReferenceIdeal.nD Cert.SumAdamReferenceIdeal.τ).loc Cert.SumAdamReferenceIdeal.main_arg3) = m ((c.tc : Thread Cert.SumAdamReferenceIdeal.nD Cert.SumAdamReferenceIdeal.τ).loc Cert.SumAdamReferenceIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2)
      ∧ r.2.mem ((c.tc : Thread Cert.Sums.nD Cert.Sums.τ).loc Cert.Sums.main_arg3) = m ((c.tc : Thread Cert.Sums.nD Cert.Sums.τ).loc Cert.Sums.main_arg3))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0)
      ∧ r.2.mem ((c.tc : Thread Cert.SumsReferenceIdeal.nD Cert.SumsReferenceIdeal.τ).loc Cert.SumsReferenceIdeal.main_arg1) = m ((c.tc : Thread Cert.SumsReferenceIdeal.nD Cert.SumsReferenceIdeal.τ).loc Cert.SumsReferenceIdeal.main_arg1)
      ∧ r.2.mem ((c.tc : Thread Cert.SumsReferenceIdeal.nD Cert.SumsReferenceIdeal.τ).loc Cert.SumsReferenceIdeal.main_arg2) = m ((c.tc : Thread Cert.SumsReferenceIdeal.nD Cert.SumsReferenceIdeal.τ).loc Cert.SumsReferenceIdeal.main_arg2)
      ∧ r.2.mem ((c.tc : Thread Cert.SumsReferenceIdeal.nD Cert.SumsReferenceIdeal.τ).loc Cert.SumsReferenceIdeal.main_arg3) = m ((c.tc : Thread Cert.SumsReferenceIdeal.nD Cert.SumsReferenceIdeal.τ).loc Cert.SumsReferenceIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11)
      ∧ r.2.mem ((c.tc : Thread Cert.AdamReferenceIdeal.nD Cert.AdamReferenceIdeal.τ).loc Cert.AdamReferenceIdeal.main_arg12) = m ((c.tc : Thread Cert.AdamReferenceIdeal.nD Cert.AdamReferenceIdeal.τ).loc Cert.AdamReferenceIdeal.main_arg12)
      ∧ r.2.mem ((c.tc : Thread Cert.AdamReferenceIdeal.nD Cert.AdamReferenceIdeal.τ).loc Cert.AdamReferenceIdeal.main_arg13) = m ((c.tc : Thread Cert.AdamReferenceIdeal.nD Cert.AdamReferenceIdeal.τ).loc Cert.AdamReferenceIdeal.main_arg13)
      ∧ r.2.mem ((c.tc : Thread Cert.AdamReferenceIdeal.nD Cert.AdamReferenceIdeal.τ).loc Cert.AdamReferenceIdeal.main_arg14) = m ((c.tc : Thread Cert.AdamReferenceIdeal.nD Cert.AdamReferenceIdeal.τ).loc Cert.AdamReferenceIdeal.main_arg14)
      ∧ r.2.mem ((c.tc : Thread Cert.AdamReferenceIdeal.nD Cert.AdamReferenceIdeal.τ).loc Cert.AdamReferenceIdeal.main_arg15) = m ((c.tc : Thread Cert.AdamReferenceIdeal.nD Cert.AdamReferenceIdeal.τ).loc Cert.AdamReferenceIdeal.main_arg15))
      ∧ r.2.sem = fun _ => 0)

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)
      ∧ m' ((c.tc : Thread Cert.KvReferenceIdeal.nD Cert.KvReferenceIdeal.τ).loc Cert.KvReferenceIdeal.main_arg4) = m ((c.tc : Thread Cert.KvIdeal.nD Cert.KvIdeal.τ).loc Cert.KvIdeal.main_arg4)
      ∧ m' ((c.tc : Thread Cert.KvReferenceIdeal.nD Cert.KvReferenceIdeal.τ).loc Cert.KvReferenceIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v7_0)) (v1 : (c : Dev Cert.KvIdeal.nD) → Buf (Elt Ideal) ((c.tc : Thread Cert.KvIdeal.nD Cert.KvIdeal.τ).loc Cert.KvIdeal.main_v7_1)) (v2 : (c : Dev Cert.KvIdeal.nD) → Buf (Elt Ideal) ((c.tc : Thread Cert.KvIdeal.nD Cert.KvIdeal.τ).loc Cert.KvIdeal.main_v7_2)) (v3 : (c : Dev Cert.KvIdeal.nD) → Buf (Elt Ideal) ((c.tc : Thread Cert.KvIdeal.nD Cert.KvIdeal.τ).loc Cert.KvIdeal.main_v12_0)) (v4 : (c : Dev Cert.KvIdeal.nD) → Buf (Elt Ideal) ((c.tc : Thread Cert.KvIdeal.nD Cert.KvIdeal.τ).loc Cert.KvIdeal.main_v12_1)) (v5 : (c : Dev Cert.KvIdeal.nD) → Buf (Elt Ideal) ((c.tc : Thread Cert.KvIdeal.nD Cert.KvIdeal.τ).loc Cert.KvIdeal.main_v12_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v7_0) = v0 c
          ∧ r.2.mem ((c.tc : Thread Cert.KvIdeal.nD Cert.KvIdeal.τ).loc Cert.KvIdeal.main_v7_1) = v1 c
          ∧ r.2.mem ((c.tc : Thread Cert.KvIdeal.nD Cert.KvIdeal.τ).loc Cert.KvIdeal.main_v7_2) = v2 c
          ∧ r.2.mem ((c.tc : Thread Cert.KvIdeal.nD Cert.KvIdeal.τ).loc Cert.KvIdeal.main_v12_0) = v3 c
          ∧ r.2.mem ((c.tc : Thread Cert.KvIdeal.nD Cert.KvIdeal.τ).loc Cert.KvIdeal.main_v12_1) = v4 c
          ∧ r.2.mem ((c.tc : Thread Cert.KvIdeal.nD Cert.KvIdeal.τ).loc Cert.KvIdeal.main_v12_2) = v5 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v47) = v0 c
          ∧ r.2.mem ((c.tc : Thread Cert.KvReferenceIdeal.nD Cert.KvReferenceIdeal.τ).loc Cert.KvReferenceIdeal.main_v49) = v1 c
          ∧ r.2.mem ((c.tc : Thread Cert.KvReferenceIdeal.nD Cert.KvReferenceIdeal.τ).loc Cert.KvReferenceIdeal.main_v51) = v2 c
          ∧ r.2.mem ((c.tc : Thread Cert.KvReferenceIdeal.nD Cert.KvReferenceIdeal.τ).loc Cert.KvReferenceIdeal.main_v53) = v3 c
          ∧ r.2.mem ((c.tc : Thread Cert.KvReferenceIdeal.nD Cert.KvReferenceIdeal.τ).loc Cert.KvReferenceIdeal.main_v55) = v4 c
          ∧ r.2.mem ((c.tc : Thread Cert.KvReferenceIdeal.nD Cert.KvReferenceIdeal.τ).loc Cert.KvReferenceIdeal.main_v57) = v5 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4)
          ∧ r.2.mem ((c.tc : Thread Cert.KvReferenceIdeal.nD Cert.KvReferenceIdeal.τ).loc Cert.KvReferenceIdeal.main_arg5) = m' ((c.tc : Thread Cert.KvReferenceIdeal.nD Cert.KvReferenceIdeal.τ).loc Cert.KvReferenceIdeal.main_arg5))

def preserves_InB_InBIdeal : Prop :=
  True

def algebraic_InBIdeal_InBReferenceIdeal_pre_finite_inb [hInBIdeal : Cert.InBIdeal.Facts] [hInBReferenceIdeal : Cert.InBReferenceIdeal.Facts] [hPre_finite_inb : Cert.Pre_finite_inb.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBReferenceIdeal.nD Cert.InBReferenceIdeal.τ Cert.InBReferenceIdeal.sig) → Buf (Elt Ideal) ℓ) (g' : Dev Cert.InBReferenceIdeal.nD → PrngReg), Pre_InBIdeal_finite_inb m →
    (∀ c : Dev Cert.InBIdeal.nD,
      m' ((c.tc : Thread Cert.InBReferenceIdeal.nD Cert.InBReferenceIdeal.τ).loc Cert.InBReferenceIdeal.main_arg0) = m ((c.tc : Thread Cert.InBIdeal.nD Cert.InBIdeal.τ).loc Cert.InBIdeal.main_arg0)
      ∧ m' ((c.tc : Thread Cert.InBReferenceIdeal.nD Cert.InBReferenceIdeal.τ).loc Cert.InBReferenceIdeal.main_arg1) = m ((c.tc : Thread Cert.InBIdeal.nD Cert.InBIdeal.τ).loc Cert.InBIdeal.main_arg1)
      ∧ m' ((c.tc : Thread Cert.InBReferenceIdeal.nD Cert.InBReferenceIdeal.τ).loc Cert.InBReferenceIdeal.main_arg2) = m ((c.tc : Thread Cert.InBIdeal.nD Cert.InBIdeal.τ).loc Cert.InBIdeal.main_arg2)
      ∧ m' ((c.tc : Thread Cert.InBReferenceIdeal.nD Cert.InBReferenceIdeal.τ).loc Cert.InBReferenceIdeal.main_arg3) = m ((c.tc : Thread Cert.InBIdeal.nD Cert.InBIdeal.τ).loc Cert.InBIdeal.main_arg3)
      ∧ m' ((c.tc : Thread Cert.InBReferenceIdeal.nD Cert.InBReferenceIdeal.τ).loc Cert.InBReferenceIdeal.main_arg4) = m ((c.tc : Thread Cert.InBIdeal.nD Cert.InBIdeal.τ).loc Cert.InBIdeal.main_arg4)) →
    ∃ (v0 : (c : Dev Cert.InBIdeal.nD) → Buf (Elt Ideal) ((c.tc : Thread Cert.InBIdeal.nD Cert.InBIdeal.τ).loc Cert.InBIdeal.main_v7_0)) (v1 : (c : Dev Cert.InBIdeal.nD) → Buf (Elt Ideal) ((c.tc : Thread Cert.InBIdeal.nD Cert.InBIdeal.τ).loc Cert.InBIdeal.main_v7_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v7_0) = v0 c
          ∧ r.2.mem ((c.tc : Thread Cert.InBIdeal.nD Cert.InBIdeal.τ).loc Cert.InBIdeal.main_v7_1) = v1 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ θ_run (Cert.InBReferenceIdeal.defs (F := Ideal)) (onTc (τ := Cert.InBReferenceIdeal.τ) (Cert.InBReferenceIdeal.main (F := Ideal))) ⟨m', fun _ => 0, g'⟩ (fun r => ∀ c : Dev Cert.InBReferenceIdeal.nD,
          r.2.mem ((c.tc : Thread Cert.InBReferenceIdeal.nD Cert.InBReferenceIdeal.τ).loc Cert.InBReferenceIdeal.main_v43) = v0 c
          ∧ r.2.mem ((c.tc : Thread Cert.InBReferenceIdeal.nD Cert.InBReferenceIdeal.τ).loc Cert.InBReferenceIdeal.main_v45) = v1 c
          ∧ r.2.mem ((c.tc : Thread Cert.InBReferenceIdeal.nD Cert.InBReferenceIdeal.τ).loc Cert.InBReferenceIdeal.main_arg0) = m' ((c.tc : Thread Cert.InBReferenceIdeal.nD Cert.InBReferenceIdeal.τ).loc Cert.InBReferenceIdeal.main_arg0)
          ∧ r.2.mem ((c.tc : Thread Cert.InBReferenceIdeal.nD Cert.InBReferenceIdeal.τ).loc Cert.InBReferenceIdeal.main_arg1) = m' ((c.tc : Thread Cert.InBReferenceIdeal.nD Cert.InBReferenceIdeal.τ).loc Cert.InBReferenceIdeal.main_arg1)
          ∧ r.2.mem ((c.tc : Thread Cert.InBReferenceIdeal.nD Cert.InBReferenceIdeal.τ).loc Cert.InBReferenceIdeal.main_arg2) = m' ((c.tc : Thread Cert.InBReferenceIdeal.nD Cert.InBReferenceIdeal.τ).loc Cert.InBReferenceIdeal.main_arg2)
          ∧ r.2.mem ((c.tc : Thread Cert.InBReferenceIdeal.nD Cert.InBReferenceIdeal.τ).loc Cert.InBReferenceIdeal.main_arg3) = m' ((c.tc : Thread Cert.InBReferenceIdeal.nD Cert.InBReferenceIdeal.τ).loc Cert.InBReferenceIdeal.main_arg3)
          ∧ r.2.mem ((c.tc : Thread Cert.InBReferenceIdeal.nD Cert.InBReferenceIdeal.τ).loc Cert.InBReferenceIdeal.main_arg4) = m' ((c.tc : Thread Cert.InBReferenceIdeal.nD Cert.InBReferenceIdeal.τ).loc Cert.InBReferenceIdeal.main_arg4))

def preserves_Attn_AttnIdeal : Prop :=
  True

def algebraic_AttnIdeal_AttnReferenceIdeal_pre_finite_xattn [hAttnIdeal : Cert.AttnIdeal.Facts] [hAttnReferenceIdeal : Cert.AttnReferenceIdeal.Facts] [hPre_finite_xattn : Cert.Pre_finite_xattn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_xattn m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)
      ∧ m' ((c.tc : Thread Cert.AttnReferenceIdeal.nD Cert.AttnReferenceIdeal.τ).loc Cert.AttnReferenceIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v17_0)) (v1 : (c : Dev Cert.AttnIdeal.nD) → Buf (Elt Ideal) ((c.tc : Thread Cert.AttnIdeal.nD Cert.AttnIdeal.τ).loc Cert.AttnIdeal.main_v17_1)) (v2 : (c : Dev Cert.AttnIdeal.nD) → Buf (Elt Ideal) ((c.tc : Thread Cert.AttnIdeal.nD Cert.AttnIdeal.τ).loc Cert.AttnIdeal.main_v17_2)) (v3 : (c : Dev Cert.AttnIdeal.nD) → Buf (Elt Ideal) ((c.tc : Thread Cert.AttnIdeal.nD Cert.AttnIdeal.τ).loc Cert.AttnIdeal.main_v17_4)) (v4 : (c : Dev Cert.AttnIdeal.nD) → Buf (Elt Ideal) ((c.tc : Thread Cert.AttnIdeal.nD Cert.AttnIdeal.τ).loc Cert.AttnIdeal.main_v19_0)) (v5 : (c : Dev Cert.AttnIdeal.nD) → Buf (Elt Ideal) ((c.tc : Thread Cert.AttnIdeal.nD Cert.AttnIdeal.τ).loc Cert.AttnIdeal.main_v19_1)) (v6 : (c : Dev Cert.AttnIdeal.nD) → Buf (Elt Ideal) ((c.tc : Thread Cert.AttnIdeal.nD Cert.AttnIdeal.τ).loc Cert.AttnIdeal.main_v19_2)) (v7 : (c : Dev Cert.AttnIdeal.nD) → Buf (Elt Ideal) ((c.tc : Thread Cert.AttnIdeal.nD Cert.AttnIdeal.τ).loc Cert.AttnIdeal.main_v19_3)) (v8 : (c : Dev Cert.AttnIdeal.nD) → Buf (Elt Ideal) ((c.tc : Thread Cert.AttnIdeal.nD Cert.AttnIdeal.τ).loc Cert.AttnIdeal.main_v19_4)) (v9 : (c : Dev Cert.AttnIdeal.nD) → Buf (Elt Ideal) ((c.tc : Thread Cert.AttnIdeal.nD Cert.AttnIdeal.τ).loc Cert.AttnIdeal.main_v19_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v17_0) = v0 c
          ∧ r.2.mem ((c.tc : Thread Cert.AttnIdeal.nD Cert.AttnIdeal.τ).loc Cert.AttnIdeal.main_v17_1) = v1 c
          ∧ r.2.mem ((c.tc : Thread Cert.AttnIdeal.nD Cert.AttnIdeal.τ).loc Cert.AttnIdeal.main_v17_2) = v2 c
          ∧ r.2.mem ((c.tc : Thread Cert.AttnIdeal.nD Cert.AttnIdeal.τ).loc Cert.AttnIdeal.main_v17_4) = v3 c
          ∧ r.2.mem ((c.tc : Thread Cert.AttnIdeal.nD Cert.AttnIdeal.τ).loc Cert.AttnIdeal.main_v19_0) = v4 c
          ∧ r.2.mem ((c.tc : Thread Cert.AttnIdeal.nD Cert.AttnIdeal.τ).loc Cert.AttnIdeal.main_v19_1) = v5 c
          ∧ r.2.mem ((c.tc : Thread Cert.AttnIdeal.nD Cert.AttnIdeal.τ).loc Cert.AttnIdeal.main_v19_2) = v6 c
          ∧ r.2.mem ((c.tc : Thread Cert.AttnIdeal.nD Cert.AttnIdeal.τ).loc Cert.AttnIdeal.main_v19_3) = v7 c
          ∧ r.2.mem ((c.tc : Thread Cert.AttnIdeal.nD Cert.AttnIdeal.τ).loc Cert.AttnIdeal.main_v19_4) = v8 c
          ∧ r.2.mem ((c.tc : Thread Cert.AttnIdeal.nD Cert.AttnIdeal.τ).loc Cert.AttnIdeal.main_v19_5) = v9 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v119) = v0 c
          ∧ r.2.mem ((c.tc : Thread Cert.AttnReferenceIdeal.nD Cert.AttnReferenceIdeal.τ).loc Cert.AttnReferenceIdeal.main_v121) = v1 c
          ∧ r.2.mem ((c.tc : Thread Cert.AttnReferenceIdeal.nD Cert.AttnReferenceIdeal.τ).loc Cert.AttnReferenceIdeal.main_v123) = v2 c
          ∧ r.2.mem ((c.tc : Thread Cert.AttnReferenceIdeal.nD Cert.AttnReferenceIdeal.τ).loc Cert.AttnReferenceIdeal.main_v125) = v3 c
          ∧ r.2.mem ((c.tc : Thread Cert.AttnReferenceIdeal.nD Cert.AttnReferenceIdeal.τ).loc Cert.AttnReferenceIdeal.main_v126) = v4 c
          ∧ r.2.mem ((c.tc : Thread Cert.AttnReferenceIdeal.nD Cert.AttnReferenceIdeal.τ).loc Cert.AttnReferenceIdeal.main_v128) = v5 c
          ∧ r.2.mem ((c.tc : Thread Cert.AttnReferenceIdeal.nD Cert.AttnReferenceIdeal.τ).loc Cert.AttnReferenceIdeal.main_v130) = v6 c
          ∧ r.2.mem ((c.tc : Thread Cert.AttnReferenceIdeal.nD Cert.AttnReferenceIdeal.τ).loc Cert.AttnReferenceIdeal.main_v131) = v7 c
          ∧ r.2.mem ((c.tc : Thread Cert.AttnReferenceIdeal.nD Cert.AttnReferenceIdeal.τ).loc Cert.AttnReferenceIdeal.main_v132) = v8 c
          ∧ r.2.mem ((c.tc : Thread Cert.AttnReferenceIdeal.nD Cert.AttnReferenceIdeal.τ).loc Cert.AttnReferenceIdeal.main_v134) = v9 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8))

def preserves_PoolB_PoolBIdeal : Prop :=
  True

def algebraic_PoolBIdeal_PoolBReferenceIdeal_on_pool_columns_pre_finite_poolb [hPoolBIdeal : Cert.PoolBIdeal.Facts] [hPoolBReferenceIdeal : Cert.PoolBReferenceIdeal.Facts] [hPre_finite_poolb : Cert.Pre_finite_poolb.Facts] [hOn_pool_columns : Cert.On_pool_columns.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBReferenceIdeal.nD Cert.PoolBReferenceIdeal.τ Cert.PoolBReferenceIdeal.sig) → Buf (Elt Ideal) ℓ) (g' : Dev Cert.PoolBReferenceIdeal.nD → PrngReg), Pre_PoolBIdeal_finite_poolb m →
    (∀ c : Dev Cert.PoolBIdeal.nD,
      m' ((c.tc : Thread Cert.PoolBReferenceIdeal.nD Cert.PoolBReferenceIdeal.τ).loc Cert.PoolBReferenceIdeal.main_arg0) = m ((c.tc : Thread Cert.PoolBIdeal.nD Cert.PoolBIdeal.τ).loc Cert.PoolBIdeal.main_arg0)
      ∧ m' ((c.tc : Thread Cert.PoolBReferenceIdeal.nD Cert.PoolBReferenceIdeal.τ).loc Cert.PoolBReferenceIdeal.main_arg1) = m ((c.tc : Thread Cert.PoolBIdeal.nD Cert.PoolBIdeal.τ).loc Cert.PoolBIdeal.main_arg1)
      ∧ m' ((c.tc : Thread Cert.PoolBReferenceIdeal.nD Cert.PoolBReferenceIdeal.τ).loc Cert.PoolBReferenceIdeal.main_arg2) = m ((c.tc : Thread Cert.PoolBIdeal.nD Cert.PoolBIdeal.τ).loc Cert.PoolBIdeal.main_arg2)
      ∧ m' ((c.tc : Thread Cert.PoolBReferenceIdeal.nD Cert.PoolBReferenceIdeal.τ).loc Cert.PoolBReferenceIdeal.main_arg3) = m ((c.tc : Thread Cert.PoolBIdeal.nD Cert.PoolBIdeal.τ).loc Cert.PoolBIdeal.main_arg3)
      ∧ m' ((c.tc : Thread Cert.PoolBReferenceIdeal.nD Cert.PoolBReferenceIdeal.τ).loc Cert.PoolBReferenceIdeal.main_arg4) = m ((c.tc : Thread Cert.PoolBIdeal.nD Cert.PoolBIdeal.τ).loc Cert.PoolBIdeal.main_arg4)) →
    ∃ (v0 : (c : Dev Cert.PoolBIdeal.nD) → Buf (Elt Ideal) ((c.tc : Thread Cert.PoolBIdeal.nD Cert.PoolBIdeal.τ).loc Cert.PoolBIdeal.main_v76_0)) (v1 : (c : Dev Cert.PoolBIdeal.nD) → Buf (Elt Ideal) ((c.tc : Thread Cert.PoolBIdeal.nD Cert.PoolBIdeal.τ).loc Cert.PoolBIdeal.main_v76_1)) (v2 : (c : Dev Cert.PoolBIdeal.nD) → Buf (Elt Ideal) ((c.tc : Thread Cert.PoolBIdeal.nD Cert.PoolBIdeal.τ).loc Cert.PoolBIdeal.main_v76_2)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          (∀ i : (⟨2, ![4096, 2560]⟩ : Shape).Idx, (Cert.On_pool_columns.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).1 i = 1#1 → r.2.mem ((c.tc : Thread Cert.PoolBIdeal.nD Cert.PoolBIdeal.τ).loc Cert.PoolBIdeal.main_v76_0) i = v0 c i)
          ∧ (∀ i : (⟨3, ![4, 128, 128]⟩ : Shape).Idx, (Cert.On_pool_columns.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.1 i = 1#1 → r.2.mem ((c.tc : Thread Cert.PoolBIdeal.nD Cert.PoolBIdeal.τ).loc Cert.PoolBIdeal.main_v76_1) i = v1 c i)
          ∧ (∀ i : (⟨2, ![8, 1024]⟩ : Shape).Idx, (Cert.On_pool_columns.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.2 i = 1#1 → r.2.mem ((c.tc : Thread Cert.PoolBIdeal.nD Cert.PoolBIdeal.τ).loc Cert.PoolBIdeal.main_v76_2) i = v2 c i)
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
          ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
          ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
          ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3)
          ∧ r.2.mem ((c.tc : Thread Cert.PoolBIdeal.nD Cert.PoolBIdeal.τ).loc Cert.PoolBIdeal.main_arg4) = m ((c.tc : Thread Cert.PoolBIdeal.nD Cert.PoolBIdeal.τ).loc Cert.PoolBIdeal.main_arg4))
      ∧ θ_run (Cert.PoolBReferenceIdeal.defs (F := Ideal)) (onTc (τ := Cert.PoolBReferenceIdeal.τ) (Cert.PoolBReferenceIdeal.main (F := Ideal))) ⟨m', fun _ => 0, g'⟩ (fun r => ∀ c : Dev Cert.PoolBReferenceIdeal.nD,
          (∀ i : (⟨2, ![4096, 2560]⟩ : Shape).Idx, (Cert.On_pool_columns.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).1 i = 1#1 → r.2.mem ((c.tc : Thread Cert.PoolBReferenceIdeal.nD Cert.PoolBReferenceIdeal.τ).loc Cert.PoolBReferenceIdeal.main_v161) i = v0 c i)
          ∧ (∀ i : (⟨3, ![4, 128, 128]⟩ : Shape).Idx, (Cert.On_pool_columns.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.1 i = 1#1 → r.2.mem ((c.tc : Thread Cert.PoolBReferenceIdeal.nD Cert.PoolBReferenceIdeal.τ).loc Cert.PoolBReferenceIdeal.main_v164) i = v1 c i)
          ∧ (∀ i : (⟨2, ![8, 1024]⟩ : Shape).Idx, (Cert.On_pool_columns.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4))).2.2 i = 1#1 → r.2.mem ((c.tc : Thread Cert.PoolBReferenceIdeal.nD Cert.PoolBReferenceIdeal.τ).loc Cert.PoolBReferenceIdeal.main_v166) i = v2 c i)
          ∧ r.2.mem ((c.tc : Thread Cert.PoolBReferenceIdeal.nD Cert.PoolBReferenceIdeal.τ).loc Cert.PoolBReferenceIdeal.main_arg0) = m' ((c.tc : Thread Cert.PoolBReferenceIdeal.nD Cert.PoolBReferenceIdeal.τ).loc Cert.PoolBReferenceIdeal.main_arg0)
          ∧ r.2.mem ((c.tc : Thread Cert.PoolBReferenceIdeal.nD Cert.PoolBReferenceIdeal.τ).loc Cert.PoolBReferenceIdeal.main_arg1) = m' ((c.tc : Thread Cert.PoolBReferenceIdeal.nD Cert.PoolBReferenceIdeal.τ).loc Cert.PoolBReferenceIdeal.main_arg1)
          ∧ r.2.mem ((c.tc : Thread Cert.PoolBReferenceIdeal.nD Cert.PoolBReferenceIdeal.τ).loc Cert.PoolBReferenceIdeal.main_arg2) = m' ((c.tc : Thread Cert.PoolBReferenceIdeal.nD Cert.PoolBReferenceIdeal.τ).loc Cert.PoolBReferenceIdeal.main_arg2)
          ∧ r.2.mem ((c.tc : Thread Cert.PoolBReferenceIdeal.nD Cert.PoolBReferenceIdeal.τ).loc Cert.PoolBReferenceIdeal.main_arg3) = m' ((c.tc : Thread Cert.PoolBReferenceIdeal.nD Cert.PoolBReferenceIdeal.τ).loc Cert.PoolBReferenceIdeal.main_arg3)
          ∧ r.2.mem ((c.tc : Thread Cert.PoolBReferenceIdeal.nD Cert.PoolBReferenceIdeal.τ).loc Cert.PoolBReferenceIdeal.main_arg4) = m' ((c.tc : Thread Cert.PoolBReferenceIdeal.nD Cert.PoolBReferenceIdeal.τ).loc Cert.PoolBReferenceIdeal.main_arg4))

def preserves_Mlp_MlpIdeal : Prop :=
  True

def algebraic_MlpIdeal_MlpReferenceIdeal_pre_exact_mlp [hMlpIdeal : Cert.MlpIdeal.Facts] [hMlpReferenceIdeal : Cert.MlpReferenceIdeal.Facts] [hPre_exact_mlp : Cert.Pre_exact_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_exact_mlp m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v11_0)) (v1 : (c : Dev Cert.MlpIdeal.nD) → Buf (Elt Ideal) ((c.tc : Thread Cert.MlpIdeal.nD Cert.MlpIdeal.τ).loc Cert.MlpIdeal.main_v11_1)) (v2 : (c : Dev Cert.MlpIdeal.nD) → Buf (Elt Ideal) ((c.tc : Thread Cert.MlpIdeal.nD Cert.MlpIdeal.τ).loc Cert.MlpIdeal.main_v11_2)) (v3 : (c : Dev Cert.MlpIdeal.nD) → Buf (Elt Ideal) ((c.tc : Thread Cert.MlpIdeal.nD Cert.MlpIdeal.τ).loc Cert.MlpIdeal.main_v11_3)) (v4 : (c : Dev Cert.MlpIdeal.nD) → Buf (Elt Ideal) ((c.tc : Thread Cert.MlpIdeal.nD Cert.MlpIdeal.τ).loc Cert.MlpIdeal.main_v11_4)) (v5 : (c : Dev Cert.MlpIdeal.nD) → Buf (Elt Ideal) ((c.tc : Thread Cert.MlpIdeal.nD Cert.MlpIdeal.τ).loc Cert.MlpIdeal.main_v13_0)) (v6 : (c : Dev Cert.MlpIdeal.nD) → Buf (Elt Ideal) ((c.tc : Thread Cert.MlpIdeal.nD Cert.MlpIdeal.τ).loc Cert.MlpIdeal.main_v13_1)) (v7 : (c : Dev Cert.MlpIdeal.nD) → Buf (Elt Ideal) ((c.tc : Thread Cert.MlpIdeal.nD Cert.MlpIdeal.τ).loc Cert.MlpIdeal.main_v13_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11_0) = v0 c
          ∧ r.2.mem ((c.tc : Thread Cert.MlpIdeal.nD Cert.MlpIdeal.τ).loc Cert.MlpIdeal.main_v11_1) = v1 c
          ∧ r.2.mem ((c.tc : Thread Cert.MlpIdeal.nD Cert.MlpIdeal.τ).loc Cert.MlpIdeal.main_v11_2) = v2 c
          ∧ r.2.mem ((c.tc : Thread Cert.MlpIdeal.nD Cert.MlpIdeal.τ).loc Cert.MlpIdeal.main_v11_3) = v3 c
          ∧ r.2.mem ((c.tc : Thread Cert.MlpIdeal.nD Cert.MlpIdeal.τ).loc Cert.MlpIdeal.main_v11_4) = v4 c
          ∧ r.2.mem ((c.tc : Thread Cert.MlpIdeal.nD Cert.MlpIdeal.τ).loc Cert.MlpIdeal.main_v13_0) = v5 c
          ∧ r.2.mem ((c.tc : Thread Cert.MlpIdeal.nD Cert.MlpIdeal.τ).loc Cert.MlpIdeal.main_v13_1) = v6 c
          ∧ r.2.mem ((c.tc : Thread Cert.MlpIdeal.nD Cert.MlpIdeal.τ).loc Cert.MlpIdeal.main_v13_2) = v7 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v129) = v0 c
          ∧ r.2.mem ((c.tc : Thread Cert.MlpReferenceIdeal.nD Cert.MlpReferenceIdeal.τ).loc Cert.MlpReferenceIdeal.main_v131) = v1 c
          ∧ r.2.mem ((c.tc : Thread Cert.MlpReferenceIdeal.nD Cert.MlpReferenceIdeal.τ).loc Cert.MlpReferenceIdeal.main_v133) = v2 c
          ∧ r.2.mem ((c.tc : Thread Cert.MlpReferenceIdeal.nD Cert.MlpReferenceIdeal.τ).loc Cert.MlpReferenceIdeal.main_v135) = v3 c
          ∧ r.2.mem ((c.tc : Thread Cert.MlpReferenceIdeal.nD Cert.MlpReferenceIdeal.τ).loc Cert.MlpReferenceIdeal.main_v128) = v4 c
          ∧ r.2.mem ((c.tc : Thread Cert.MlpReferenceIdeal.nD Cert.MlpReferenceIdeal.τ).loc Cert.MlpReferenceIdeal.main_v137) = v5 c
          ∧ r.2.mem ((c.tc : Thread Cert.MlpReferenceIdeal.nD Cert.MlpReferenceIdeal.τ).loc Cert.MlpReferenceIdeal.main_v139) = v6 c
          ∧ r.2.mem ((c.tc : Thread Cert.MlpReferenceIdeal.nD Cert.MlpReferenceIdeal.τ).loc Cert.MlpReferenceIdeal.main_v141) = v7 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_InF_InFIdeal : Prop :=
  True

def algebraic_InFIdeal_InFReferenceIdeal [hInFIdeal : Cert.InFIdeal.Facts] [hInFReferenceIdeal : Cert.InFReferenceIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFReferenceIdeal.nD Cert.InFReferenceIdeal.τ Cert.InFReferenceIdeal.sig) → Buf (Elt Ideal) ℓ) (g' : Dev Cert.InFReferenceIdeal.nD → PrngReg), Pre_InFIdeal m →
    (∀ c : Dev Cert.InFIdeal.nD,
      m' ((c.tc : Thread Cert.InFReferenceIdeal.nD Cert.InFReferenceIdeal.τ).loc Cert.InFReferenceIdeal.main_arg0) = m ((c.tc : Thread Cert.InFIdeal.nD Cert.InFIdeal.τ).loc Cert.InFIdeal.main_arg0)
      ∧ m' ((c.tc : Thread Cert.InFReferenceIdeal.nD Cert.InFReferenceIdeal.τ).loc Cert.InFReferenceIdeal.main_arg1) = m ((c.tc : Thread Cert.InFIdeal.nD Cert.InFIdeal.τ).loc Cert.InFIdeal.main_arg1)
      ∧ m' ((c.tc : Thread Cert.InFReferenceIdeal.nD Cert.InFReferenceIdeal.τ).loc Cert.InFReferenceIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v4_0)) (v1 : (c : Dev Cert.InFIdeal.nD) → Buf (Elt Ideal) ((c.tc : Thread Cert.InFIdeal.nD Cert.InFIdeal.τ).loc Cert.InFIdeal.main_v4_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v4_0) = v0 c
          ∧ r.2.mem ((c.tc : Thread Cert.InFIdeal.nD Cert.InFIdeal.τ).loc Cert.InFIdeal.main_v4_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFReferenceIdeal.defs (F := Ideal)) (onTc (τ := Cert.InFReferenceIdeal.τ) (Cert.InFReferenceIdeal.main (F := Ideal))) ⟨m', fun _ => 0, g'⟩ (fun r => ∀ c : Dev Cert.InFReferenceIdeal.nD,
          r.2.mem ((c.tc : Thread Cert.InFReferenceIdeal.nD Cert.InFReferenceIdeal.τ).loc Cert.InFReferenceIdeal.main_v16) = v0 c
          ∧ r.2.mem ((c.tc : Thread Cert.InFReferenceIdeal.nD Cert.InFReferenceIdeal.τ).loc Cert.InFReferenceIdeal.main_v18) = v1 c
          ∧ r.2.mem ((c.tc : Thread Cert.InFReferenceIdeal.nD Cert.InFReferenceIdeal.τ).loc Cert.InFReferenceIdeal.main_arg0) = m' ((c.tc : Thread Cert.InFReferenceIdeal.nD Cert.InFReferenceIdeal.τ).loc Cert.InFReferenceIdeal.main_arg0)
          ∧ r.2.mem ((c.tc : Thread Cert.InFReferenceIdeal.nD Cert.InFReferenceIdeal.τ).loc Cert.InFReferenceIdeal.main_arg1) = m' ((c.tc : Thread Cert.InFReferenceIdeal.nD Cert.InFReferenceIdeal.τ).loc Cert.InFReferenceIdeal.main_arg1)
          ∧ r.2.mem ((c.tc : Thread Cert.InFReferenceIdeal.nD Cert.InFReferenceIdeal.τ).loc Cert.InFReferenceIdeal.main_arg2) = m' ((c.tc : Thread Cert.InFReferenceIdeal.nD Cert.InFReferenceIdeal.τ).loc Cert.InFReferenceIdeal.main_arg2))

def preserves_PoolF_PoolFIdeal : Prop :=
  True

def algebraic_PoolFIdeal_PoolFReferenceIdeal_pre_finite_poolf [hPoolFIdeal : Cert.PoolFIdeal.Facts] [hPoolFReferenceIdeal : Cert.PoolFReferenceIdeal.Facts] [hPre_finite_poolf : Cert.Pre_finite_poolf.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFReferenceIdeal.nD Cert.PoolFReferenceIdeal.τ Cert.PoolFReferenceIdeal.sig) → Buf (Elt Ideal) ℓ) (g' : Dev Cert.PoolFReferenceIdeal.nD → PrngReg), Pre_PoolFIdeal_finite_poolf m →
    (∀ c : Dev Cert.PoolFIdeal.nD,
      m' ((c.tc : Thread Cert.PoolFReferenceIdeal.nD Cert.PoolFReferenceIdeal.τ).loc Cert.PoolFReferenceIdeal.main_arg0) = m ((c.tc : Thread Cert.PoolFIdeal.nD Cert.PoolFIdeal.τ).loc Cert.PoolFIdeal.main_arg0)
      ∧ m' ((c.tc : Thread Cert.PoolFReferenceIdeal.nD Cert.PoolFReferenceIdeal.τ).loc Cert.PoolFReferenceIdeal.main_arg1) = m ((c.tc : Thread Cert.PoolFIdeal.nD Cert.PoolFIdeal.τ).loc Cert.PoolFIdeal.main_arg1)
      ∧ m' ((c.tc : Thread Cert.PoolFReferenceIdeal.nD Cert.PoolFReferenceIdeal.τ).loc Cert.PoolFReferenceIdeal.main_arg2) = m ((c.tc : Thread Cert.PoolFIdeal.nD Cert.PoolFIdeal.τ).loc Cert.PoolFIdeal.main_arg2)
      ∧ m' ((c.tc : Thread Cert.PoolFReferenceIdeal.nD Cert.PoolFReferenceIdeal.τ).loc Cert.PoolFReferenceIdeal.main_arg3) = m ((c.tc : Thread Cert.PoolFIdeal.nD Cert.PoolFIdeal.τ).loc Cert.PoolFIdeal.main_arg3)) →
    ∃ (v0 : (c : Dev Cert.PoolFIdeal.nD) → Buf (Elt Ideal) ((c.tc : Thread Cert.PoolFIdeal.nD Cert.PoolFIdeal.τ).loc Cert.PoolFIdeal.main_v3_0)) (v1 : (c : Dev Cert.PoolFIdeal.nD) → Buf (Elt Ideal) ((c.tc : Thread Cert.PoolFIdeal.nD Cert.PoolFIdeal.τ).loc Cert.PoolFIdeal.main_v3_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v3_0) = v0 c
          ∧ r.2.mem ((c.tc : Thread Cert.PoolFIdeal.nD Cert.PoolFIdeal.τ).loc Cert.PoolFIdeal.main_v3_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2)
          ∧ r.2.mem ((c.tc : Thread Cert.PoolFIdeal.nD Cert.PoolFIdeal.τ).loc Cert.PoolFIdeal.main_arg3) = m ((c.tc : Thread Cert.PoolFIdeal.nD Cert.PoolFIdeal.τ).loc Cert.PoolFIdeal.main_arg3))
      ∧ θ_run (Cert.PoolFReferenceIdeal.defs (F := Ideal)) (onTc (τ := Cert.PoolFReferenceIdeal.τ) (Cert.PoolFReferenceIdeal.main (F := Ideal))) ⟨m', fun _ => 0, g'⟩ (fun r => ∀ c : Dev Cert.PoolFReferenceIdeal.nD,
          r.2.mem ((c.tc : Thread Cert.PoolFReferenceIdeal.nD Cert.PoolFReferenceIdeal.τ).loc Cert.PoolFReferenceIdeal.main_v80) = v0 c
          ∧ r.2.mem ((c.tc : Thread Cert.PoolFReferenceIdeal.nD Cert.PoolFReferenceIdeal.τ).loc Cert.PoolFReferenceIdeal.main_v82) = v1 c
          ∧ r.2.mem ((c.tc : Thread Cert.PoolFReferenceIdeal.nD Cert.PoolFReferenceIdeal.τ).loc Cert.PoolFReferenceIdeal.main_arg0) = m' ((c.tc : Thread Cert.PoolFReferenceIdeal.nD Cert.PoolFReferenceIdeal.τ).loc Cert.PoolFReferenceIdeal.main_arg0)
          ∧ r.2.mem ((c.tc : Thread Cert.PoolFReferenceIdeal.nD Cert.PoolFReferenceIdeal.τ).loc Cert.PoolFReferenceIdeal.main_arg1) = m' ((c.tc : Thread Cert.PoolFReferenceIdeal.nD Cert.PoolFReferenceIdeal.τ).loc Cert.PoolFReferenceIdeal.main_arg1)
          ∧ r.2.mem ((c.tc : Thread Cert.PoolFReferenceIdeal.nD Cert.PoolFReferenceIdeal.τ).loc Cert.PoolFReferenceIdeal.main_arg2) = m' ((c.tc : Thread Cert.PoolFReferenceIdeal.nD Cert.PoolFReferenceIdeal.τ).loc Cert.PoolFReferenceIdeal.main_arg2)
          ∧ r.2.mem ((c.tc : Thread Cert.PoolFReferenceIdeal.nD Cert.PoolFReferenceIdeal.τ).loc Cert.PoolFReferenceIdeal.main_arg3) = m' ((c.tc : Thread Cert.PoolFReferenceIdeal.nD Cert.PoolFReferenceIdeal.τ).loc Cert.PoolFReferenceIdeal.main_arg3))

def preserves_Wgrad_WgradIdeal : Prop :=
  True

def algebraic_WgradIdeal_WgradReferenceIdeal [hWgradIdeal : Cert.WgradIdeal.Facts] [hWgradReferenceIdeal : Cert.WgradReferenceIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradIdeal m →
    (∀ c : Dev Cert.WgradIdeal.nD,
      m' ((c.tc : Thread Cert.WgradReferenceIdeal.nD Cert.WgradReferenceIdeal.τ).loc Cert.WgradReferenceIdeal.main_arg0) = m ((c.tc : Thread Cert.WgradIdeal.nD Cert.WgradIdeal.τ).loc Cert.WgradIdeal.main_arg0)
      ∧ m' ((c.tc : Thread Cert.WgradReferenceIdeal.nD Cert.WgradReferenceIdeal.τ).loc Cert.WgradReferenceIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v1) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def preserves_SumAdam_SumAdamIdeal : Prop :=
  True

def algebraic_SumAdamIdeal_SumAdamReferenceIdeal [hSumAdamIdeal : Cert.SumAdamIdeal.Facts] [hSumAdamReferenceIdeal : Cert.SumAdamReferenceIdeal.Facts] : Prop :=
  ∀ (m : (ℓ : Loc Cert.SumAdamIdeal.nD Cert.SumAdamIdeal.τ Cert.SumAdamIdeal.sig) → Buf (Elt Ideal) ℓ) (g : Dev Cert.SumAdamIdeal.nD → PrngReg)
    (m' : (ℓ : Loc Cert.SumAdamReferenceIdeal.nD Cert.SumAdamReferenceIdeal.τ Cert.SumAdamReferenceIdeal.sig) → Buf (Elt Ideal) ℓ) (g' : Dev Cert.SumAdamReferenceIdeal.nD → PrngReg), Pre_SumAdamIdeal m →
    (∀ c : Dev Cert.SumAdamIdeal.nD,
      m' ((c.tc : Thread Cert.SumAdamReferenceIdeal.nD Cert.SumAdamReferenceIdeal.τ).loc Cert.SumAdamReferenceIdeal.main_arg0) = m ((c.tc : Thread Cert.SumAdamIdeal.nD Cert.SumAdamIdeal.τ).loc Cert.SumAdamIdeal.main_arg0)
      ∧ m' ((c.tc : Thread Cert.SumAdamReferenceIdeal.nD Cert.SumAdamReferenceIdeal.τ).loc Cert.SumAdamReferenceIdeal.main_arg1) = m ((c.tc : Thread Cert.SumAdamIdeal.nD Cert.SumAdamIdeal.τ).loc Cert.SumAdamIdeal.main_arg1)
      ∧ m' ((c.tc : Thread Cert.SumAdamReferenceIdeal.nD Cert.SumAdamReferenceIdeal.τ).loc Cert.SumAdamReferenceIdeal.main_arg2) = m ((c.tc : Thread Cert.SumAdamIdeal.nD Cert.SumAdamIdeal.τ).loc Cert.SumAdamIdeal.main_arg2)
      ∧ m' ((c.tc : Thread Cert.SumAdamReferenceIdeal.nD Cert.SumAdamReferenceIdeal.τ).loc Cert.SumAdamReferenceIdeal.main_arg3) = m ((c.tc : Thread Cert.SumAdamIdeal.nD Cert.SumAdamIdeal.τ).loc Cert.SumAdamIdeal.main_arg3)) →
    ∃ (v0 : (c : Dev Cert.SumAdamIdeal.nD) → Buf (Elt Ideal) ((c.tc : Thread Cert.SumAdamIdeal.nD Cert.SumAdamIdeal.τ).loc Cert.SumAdamIdeal.main_v0_0)) (v1 : (c : Dev Cert.SumAdamIdeal.nD) → Buf (Elt Ideal) ((c.tc : Thread Cert.SumAdamIdeal.nD Cert.SumAdamIdeal.τ).loc Cert.SumAdamIdeal.main_v0_1)) (v2 : (c : Dev Cert.SumAdamIdeal.nD) → Buf (Elt Ideal) ((c.tc : Thread Cert.SumAdamIdeal.nD Cert.SumAdamIdeal.τ).loc Cert.SumAdamIdeal.main_v0_2)) (v3 : (c : Dev Cert.SumAdamIdeal.nD) → Buf (Elt Ideal) ((c.tc : Thread Cert.SumAdamIdeal.nD Cert.SumAdamIdeal.τ).loc Cert.SumAdamIdeal.main_v0_3)),
      θ_run (Cert.SumAdamIdeal.defs (F := Ideal)) (onTc (τ := Cert.SumAdamIdeal.τ) (Cert.SumAdamIdeal.main (F := Ideal))) ⟨m, fun _ => 0, g⟩ (fun r => ∀ c : Dev Cert.SumAdamIdeal.nD,
          r.2.mem ((c.tc : Thread Cert.SumAdamIdeal.nD Cert.SumAdamIdeal.τ).loc Cert.SumAdamIdeal.main_v0_0) = v0 c
          ∧ r.2.mem ((c.tc : Thread Cert.SumAdamIdeal.nD Cert.SumAdamIdeal.τ).loc Cert.SumAdamIdeal.main_v0_1) = v1 c
          ∧ r.2.mem ((c.tc : Thread Cert.SumAdamIdeal.nD Cert.SumAdamIdeal.τ).loc Cert.SumAdamIdeal.main_v0_2) = v2 c
          ∧ r.2.mem ((c.tc : Thread Cert.SumAdamIdeal.nD Cert.SumAdamIdeal.τ).loc Cert.SumAdamIdeal.main_v0_3) = v3 c
          ∧ r.2.mem ((c.tc : Thread Cert.SumAdamIdeal.nD Cert.SumAdamIdeal.τ).loc Cert.SumAdamIdeal.main_arg0) = m ((c.tc : Thread Cert.SumAdamIdeal.nD Cert.SumAdamIdeal.τ).loc Cert.SumAdamIdeal.main_arg0)
          ∧ r.2.mem ((c.tc : Thread Cert.SumAdamIdeal.nD Cert.SumAdamIdeal.τ).loc Cert.SumAdamIdeal.main_arg1) = m ((c.tc : Thread Cert.SumAdamIdeal.nD Cert.SumAdamIdeal.τ).loc Cert.SumAdamIdeal.main_arg1)
          ∧ r.2.mem ((c.tc : Thread Cert.SumAdamIdeal.nD Cert.SumAdamIdeal.τ).loc Cert.SumAdamIdeal.main_arg2) = m ((c.tc : Thread Cert.SumAdamIdeal.nD Cert.SumAdamIdeal.τ).loc Cert.SumAdamIdeal.main_arg2)
          ∧ r.2.mem ((c.tc : Thread Cert.SumAdamIdeal.nD Cert.SumAdamIdeal.τ).loc Cert.SumAdamIdeal.main_arg3) = m ((c.tc : Thread Cert.SumAdamIdeal.nD Cert.SumAdamIdeal.τ).loc Cert.SumAdamIdeal.main_arg3))
      ∧ θ_run (Cert.SumAdamReferenceIdeal.defs (F := Ideal)) (onTc (τ := Cert.SumAdamReferenceIdeal.τ) (Cert.SumAdamReferenceIdeal.main (F := Ideal))) ⟨m', fun _ => 0, g'⟩ (fun r => ∀ c : Dev Cert.SumAdamReferenceIdeal.nD,
          r.2.mem ((c.tc : Thread Cert.SumAdamReferenceIdeal.nD Cert.SumAdamReferenceIdeal.τ).loc Cert.SumAdamReferenceIdeal.main_v1) = v0 c
          ∧ r.2.mem ((c.tc : Thread Cert.SumAdamReferenceIdeal.nD Cert.SumAdamReferenceIdeal.τ).loc Cert.SumAdamReferenceIdeal.main_v25) = v1 c
          ∧ r.2.mem ((c.tc : Thread Cert.SumAdamReferenceIdeal.nD Cert.SumAdamReferenceIdeal.τ).loc Cert.SumAdamReferenceIdeal.main_v6) = v2 c
          ∧ r.2.mem ((c.tc : Thread Cert.SumAdamReferenceIdeal.nD Cert.SumAdamReferenceIdeal.τ).loc Cert.SumAdamReferenceIdeal.main_v12) = v3 c
          ∧ r.2.mem ((c.tc : Thread Cert.SumAdamReferenceIdeal.nD Cert.SumAdamReferenceIdeal.τ).loc Cert.SumAdamReferenceIdeal.main_arg0) = m' ((c.tc : Thread Cert.SumAdamReferenceIdeal.nD Cert.SumAdamReferenceIdeal.τ).loc Cert.SumAdamReferenceIdeal.main_arg0)
          ∧ r.2.mem ((c.tc : Thread Cert.SumAdamReferenceIdeal.nD Cert.SumAdamReferenceIdeal.τ).loc Cert.SumAdamReferenceIdeal.main_arg1) = m' ((c.tc : Thread Cert.SumAdamReferenceIdeal.nD Cert.SumAdamReferenceIdeal.τ).loc Cert.SumAdamReferenceIdeal.main_arg1)
          ∧ r.2.mem ((c.tc : Thread Cert.SumAdamReferenceIdeal.nD Cert.SumAdamReferenceIdeal.τ).loc Cert.SumAdamReferenceIdeal.main_arg2) = m' ((c.tc : Thread Cert.SumAdamReferenceIdeal.nD Cert.SumAdamReferenceIdeal.τ).loc Cert.SumAdamReferenceIdeal.main_arg2)
          ∧ r.2.mem ((c.tc : Thread Cert.SumAdamReferenceIdeal.nD Cert.SumAdamReferenceIdeal.τ).loc Cert.SumAdamReferenceIdeal.main_arg3) = m' ((c.tc : Thread Cert.SumAdamReferenceIdeal.nD Cert.SumAdamReferenceIdeal.τ).loc Cert.SumAdamReferenceIdeal.main_arg3))

def preserves_Sums_SumsIdeal : Prop :=
  True

def algebraic_SumsIdeal_SumsReferenceIdeal [hSumsIdeal : Cert.SumsIdeal.Facts] [hSumsReferenceIdeal : Cert.SumsReferenceIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsIdeal m →
    (∀ c : Dev Cert.SumsIdeal.nD,
      m' ((c.tc : Thread Cert.SumsReferenceIdeal.nD Cert.SumsReferenceIdeal.τ).loc Cert.SumsReferenceIdeal.main_arg0) = m ((c.tc : Thread Cert.SumsIdeal.nD Cert.SumsIdeal.τ).loc Cert.SumsIdeal.main_arg0)
      ∧ m' ((c.tc : Thread Cert.SumsReferenceIdeal.nD Cert.SumsReferenceIdeal.τ).loc Cert.SumsReferenceIdeal.main_arg1) = m ((c.tc : Thread Cert.SumsIdeal.nD Cert.SumsIdeal.τ).loc Cert.SumsIdeal.main_arg1)
      ∧ m' ((c.tc : Thread Cert.SumsReferenceIdeal.nD Cert.SumsReferenceIdeal.τ).loc Cert.SumsReferenceIdeal.main_arg2) = m ((c.tc : Thread Cert.SumsIdeal.nD Cert.SumsIdeal.τ).loc Cert.SumsIdeal.main_arg2)
      ∧ m' ((c.tc : Thread Cert.SumsReferenceIdeal.nD Cert.SumsReferenceIdeal.τ).loc Cert.SumsReferenceIdeal.main_arg3) = m ((c.tc : Thread Cert.SumsIdeal.nD Cert.SumsIdeal.τ).loc Cert.SumsIdeal.main_arg3)) →
    ∃ (v0 : (c : Dev Cert.SumsIdeal.nD) → Buf (Elt Ideal) ((c.tc : Thread Cert.SumsIdeal.nD Cert.SumsIdeal.τ).loc Cert.SumsIdeal.main_v0_0)) (v1 : (c : Dev Cert.SumsIdeal.nD) → Buf (Elt Ideal) ((c.tc : Thread Cert.SumsIdeal.nD Cert.SumsIdeal.τ).loc Cert.SumsIdeal.main_v0_1)) (v2 : (c : Dev Cert.SumsIdeal.nD) → Buf (Elt Ideal) ((c.tc : Thread Cert.SumsIdeal.nD Cert.SumsIdeal.τ).loc Cert.SumsIdeal.main_v0_2)) (v3 : (c : Dev Cert.SumsIdeal.nD) → Buf (Elt Ideal) ((c.tc : Thread Cert.SumsIdeal.nD Cert.SumsIdeal.τ).loc Cert.SumsIdeal.main_v0_3)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0_0) = v0 c
          ∧ r.2.mem ((c.tc : Thread Cert.SumsIdeal.nD Cert.SumsIdeal.τ).loc Cert.SumsIdeal.main_v0_1) = v1 c
          ∧ r.2.mem ((c.tc : Thread Cert.SumsIdeal.nD Cert.SumsIdeal.τ).loc Cert.SumsIdeal.main_v0_2) = v2 c
          ∧ r.2.mem ((c.tc : Thread Cert.SumsIdeal.nD Cert.SumsIdeal.τ).loc Cert.SumsIdeal.main_v0_3) = v3 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v1) = v0 c
          ∧ r.2.mem ((c.tc : Thread Cert.SumsReferenceIdeal.nD Cert.SumsReferenceIdeal.τ).loc Cert.SumsReferenceIdeal.main_v3) = v1 c
          ∧ r.2.mem ((c.tc : Thread Cert.SumsReferenceIdeal.nD Cert.SumsReferenceIdeal.τ).loc Cert.SumsReferenceIdeal.main_v5) = v2 c
          ∧ r.2.mem ((c.tc : Thread Cert.SumsReferenceIdeal.nD Cert.SumsReferenceIdeal.τ).loc Cert.SumsReferenceIdeal.main_v7) = v3 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0)
          ∧ r.2.mem ((c.tc : Thread Cert.SumsReferenceIdeal.nD Cert.SumsReferenceIdeal.τ).loc Cert.SumsReferenceIdeal.main_arg1) = m' ((c.tc : Thread Cert.SumsReferenceIdeal.nD Cert.SumsReferenceIdeal.τ).loc Cert.SumsReferenceIdeal.main_arg1)
          ∧ r.2.mem ((c.tc : Thread Cert.SumsReferenceIdeal.nD Cert.SumsReferenceIdeal.τ).loc Cert.SumsReferenceIdeal.main_arg2) = m' ((c.tc : Thread Cert.SumsReferenceIdeal.nD Cert.SumsReferenceIdeal.τ).loc Cert.SumsReferenceIdeal.main_arg2)
          ∧ r.2.mem ((c.tc : Thread Cert.SumsReferenceIdeal.nD Cert.SumsReferenceIdeal.τ).loc Cert.SumsReferenceIdeal.main_arg3) = m' ((c.tc : Thread Cert.SumsReferenceIdeal.nD Cert.SumsReferenceIdeal.τ).loc Cert.SumsReferenceIdeal.main_arg3))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)
      ∧ m' ((c.tc : Thread Cert.AdamReferenceIdeal.nD Cert.AdamReferenceIdeal.τ).loc Cert.AdamReferenceIdeal.main_arg4) = m ((c.tc : Thread Cert.AdamIdeal.nD Cert.AdamIdeal.τ).loc Cert.AdamIdeal.main_arg4)
      ∧ m' ((c.tc : Thread Cert.AdamReferenceIdeal.nD Cert.AdamReferenceIdeal.τ).loc Cert.AdamReferenceIdeal.main_arg5) = m ((c.tc : Thread Cert.AdamIdeal.nD Cert.AdamIdeal.τ).loc Cert.AdamIdeal.main_arg5)
      ∧ m' ((c.tc : Thread Cert.AdamReferenceIdeal.nD Cert.AdamReferenceIdeal.τ).loc Cert.AdamReferenceIdeal.main_arg6) = m ((c.tc : Thread Cert.AdamIdeal.nD Cert.AdamIdeal.τ).loc Cert.AdamIdeal.main_arg6)
      ∧ m' ((c.tc : Thread Cert.AdamReferenceIdeal.nD Cert.AdamReferenceIdeal.τ).loc Cert.AdamReferenceIdeal.main_arg7) = m ((c.tc : Thread Cert.AdamIdeal.nD Cert.AdamIdeal.τ).loc Cert.AdamIdeal.main_arg7)
      ∧ m' ((c.tc : Thread Cert.AdamReferenceIdeal.nD Cert.AdamReferenceIdeal.τ).loc Cert.AdamReferenceIdeal.main_arg8) = m ((c.tc : Thread Cert.AdamIdeal.nD Cert.AdamIdeal.τ).loc Cert.AdamIdeal.main_arg8)
      ∧ m' ((c.tc : Thread Cert.AdamReferenceIdeal.nD Cert.AdamReferenceIdeal.τ).loc Cert.AdamReferenceIdeal.main_arg9) = m ((c.tc : Thread Cert.AdamIdeal.nD Cert.AdamIdeal.τ).loc Cert.AdamIdeal.main_arg9)
      ∧ m' ((c.tc : Thread Cert.AdamReferenceIdeal.nD Cert.AdamReferenceIdeal.τ).loc Cert.AdamReferenceIdeal.main_arg10) = m ((c.tc : Thread Cert.AdamIdeal.nD Cert.AdamIdeal.τ).loc Cert.AdamIdeal.main_arg10)
      ∧ m' ((c.tc : Thread Cert.AdamReferenceIdeal.nD Cert.AdamReferenceIdeal.τ).loc Cert.AdamReferenceIdeal.main_arg11) = m ((c.tc : Thread Cert.AdamIdeal.nD Cert.AdamIdeal.τ).loc Cert.AdamIdeal.main_arg11)
      ∧ m' ((c.tc : Thread Cert.AdamReferenceIdeal.nD Cert.AdamReferenceIdeal.τ).loc Cert.AdamReferenceIdeal.main_arg12) = m ((c.tc : Thread Cert.AdamIdeal.nD Cert.AdamIdeal.τ).loc Cert.AdamIdeal.main_arg12)
      ∧ m' ((c.tc : Thread Cert.AdamReferenceIdeal.nD Cert.AdamReferenceIdeal.τ).loc Cert.AdamReferenceIdeal.main_arg13) = m ((c.tc : Thread Cert.AdamIdeal.nD Cert.AdamIdeal.τ).loc Cert.AdamIdeal.main_arg13)
      ∧ m' ((c.tc : Thread Cert.AdamReferenceIdeal.nD Cert.AdamReferenceIdeal.τ).loc Cert.AdamReferenceIdeal.main_arg14) = m ((c.tc : Thread Cert.AdamIdeal.nD Cert.AdamIdeal.τ).loc Cert.AdamIdeal.main_arg14)
      ∧ m' ((c.tc : Thread Cert.AdamReferenceIdeal.nD Cert.AdamReferenceIdeal.τ).loc Cert.AdamReferenceIdeal.main_arg15) = m ((c.tc : Thread Cert.AdamIdeal.nD Cert.AdamIdeal.τ).loc Cert.AdamIdeal.main_arg15)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)) (v4 : (c : Dev Cert.AdamIdeal.nD) → Buf (Elt Ideal) ((c.tc : Thread Cert.AdamIdeal.nD Cert.AdamIdeal.τ).loc Cert.AdamIdeal.main_v3_4)) (v5 : (c : Dev Cert.AdamIdeal.nD) → Buf (Elt Ideal) ((c.tc : Thread Cert.AdamIdeal.nD Cert.AdamIdeal.τ).loc Cert.AdamIdeal.main_v3_5)) (v6 : (c : Dev Cert.AdamIdeal.nD) → Buf (Elt Ideal) ((c.tc : Thread Cert.AdamIdeal.nD Cert.AdamIdeal.τ).loc Cert.AdamIdeal.main_v3_6)) (v7 : (c : Dev Cert.AdamIdeal.nD) → Buf (Elt Ideal) ((c.tc : Thread Cert.AdamIdeal.nD Cert.AdamIdeal.τ).loc Cert.AdamIdeal.main_v3_7)) (v8 : (c : Dev Cert.AdamIdeal.nD) → Buf (Elt Ideal) ((c.tc : Thread Cert.AdamIdeal.nD Cert.AdamIdeal.τ).loc Cert.AdamIdeal.main_v3_8)) (v9 : (c : Dev Cert.AdamIdeal.nD) → Buf (Elt Ideal) ((c.tc : Thread Cert.AdamIdeal.nD Cert.AdamIdeal.τ).loc Cert.AdamIdeal.main_v3_9)) (v10 : (c : Dev Cert.AdamIdeal.nD) → Buf (Elt Ideal) ((c.tc : Thread Cert.AdamIdeal.nD Cert.AdamIdeal.τ).loc Cert.AdamIdeal.main_v3_10)) (v11 : (c : Dev Cert.AdamIdeal.nD) → Buf (Elt Ideal) ((c.tc : Thread Cert.AdamIdeal.nD Cert.AdamIdeal.τ).loc Cert.AdamIdeal.main_v3_11)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_v3_4) = v4 c
          ∧ r.2.mem ((c.tc : Thread Cert.AdamIdeal.nD Cert.AdamIdeal.τ).loc Cert.AdamIdeal.main_v3_5) = v5 c
          ∧ r.2.mem ((c.tc : Thread Cert.AdamIdeal.nD Cert.AdamIdeal.τ).loc Cert.AdamIdeal.main_v3_6) = v6 c
          ∧ r.2.mem ((c.tc : Thread Cert.AdamIdeal.nD Cert.AdamIdeal.τ).loc Cert.AdamIdeal.main_v3_7) = v7 c
          ∧ r.2.mem ((c.tc : Thread Cert.AdamIdeal.nD Cert.AdamIdeal.τ).loc Cert.AdamIdeal.main_v3_8) = v8 c
          ∧ r.2.mem ((c.tc : Thread Cert.AdamIdeal.nD Cert.AdamIdeal.τ).loc Cert.AdamIdeal.main_v3_9) = v9 c
          ∧ r.2.mem ((c.tc : Thread Cert.AdamIdeal.nD Cert.AdamIdeal.τ).loc Cert.AdamIdeal.main_v3_10) = v10 c
          ∧ r.2.mem ((c.tc : Thread Cert.AdamIdeal.nD Cert.AdamIdeal.τ).loc Cert.AdamIdeal.main_v3_11) = v11 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v48) = v0 c
          ∧ r.2.mem ((c.tc : Thread Cert.AdamReferenceIdeal.nD Cert.AdamReferenceIdeal.τ).loc Cert.AdamReferenceIdeal.main_v29) = v1 c
          ∧ r.2.mem ((c.tc : Thread Cert.AdamReferenceIdeal.nD Cert.AdamReferenceIdeal.τ).loc Cert.AdamReferenceIdeal.main_v35) = v2 c
          ∧ r.2.mem ((c.tc : Thread Cert.AdamReferenceIdeal.nD Cert.AdamReferenceIdeal.τ).loc Cert.AdamReferenceIdeal.main_v72) = v3 c
          ∧ r.2.mem ((c.tc : Thread Cert.AdamReferenceIdeal.nD Cert.AdamReferenceIdeal.τ).loc Cert.AdamReferenceIdeal.main_v53) = v4 c
          ∧ r.2.mem ((c.tc : Thread Cert.AdamReferenceIdeal.nD Cert.AdamReferenceIdeal.τ).loc Cert.AdamReferenceIdeal.main_v59) = v5 c
          ∧ r.2.mem ((c.tc : Thread Cert.AdamReferenceIdeal.nD Cert.AdamReferenceIdeal.τ).loc Cert.AdamReferenceIdeal.main_v96) = v6 c
          ∧ r.2.mem ((c.tc : Thread Cert.AdamReferenceIdeal.nD Cert.AdamReferenceIdeal.τ).loc Cert.AdamReferenceIdeal.main_v77) = v7 c
          ∧ r.2.mem ((c.tc : Thread Cert.AdamReferenceIdeal.nD Cert.AdamReferenceIdeal.τ).loc Cert.AdamReferenceIdeal.main_v83) = v8 c
          ∧ r.2.mem ((c.tc : Thread Cert.AdamReferenceIdeal.nD Cert.AdamReferenceIdeal.τ).loc Cert.AdamReferenceIdeal.main_v97) = v9 c
          ∧ r.2.mem ((c.tc : Thread Cert.AdamReferenceIdeal.nD Cert.AdamReferenceIdeal.τ).loc Cert.AdamReferenceIdeal.main_v98) = v10 c
          ∧ r.2.mem ((c.tc : Thread Cert.AdamReferenceIdeal.nD Cert.AdamReferenceIdeal.τ).loc Cert.AdamReferenceIdeal.main_v99) = v11 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11)
          ∧ r.2.mem ((c.tc : Thread Cert.AdamReferenceIdeal.nD Cert.AdamReferenceIdeal.τ).loc Cert.AdamReferenceIdeal.main_arg12) = m' ((c.tc : Thread Cert.AdamReferenceIdeal.nD Cert.AdamReferenceIdeal.τ).loc Cert.AdamReferenceIdeal.main_arg12)
          ∧ r.2.mem ((c.tc : Thread Cert.AdamReferenceIdeal.nD Cert.AdamReferenceIdeal.τ).loc Cert.AdamReferenceIdeal.main_arg13) = m' ((c.tc : Thread Cert.AdamReferenceIdeal.nD Cert.AdamReferenceIdeal.τ).loc Cert.AdamReferenceIdeal.main_arg13)
          ∧ r.2.mem ((c.tc : Thread Cert.AdamReferenceIdeal.nD Cert.AdamReferenceIdeal.τ).loc Cert.AdamReferenceIdeal.main_arg14) = m' ((c.tc : Thread Cert.AdamReferenceIdeal.nD Cert.AdamReferenceIdeal.τ).loc Cert.AdamReferenceIdeal.main_arg14)
          ∧ r.2.mem ((c.tc : Thread Cert.AdamReferenceIdeal.nD Cert.AdamReferenceIdeal.τ).loc Cert.AdamReferenceIdeal.main_arg15) = m' ((c.tc : Thread Cert.AdamReferenceIdeal.nD Cert.AdamReferenceIdeal.τ).loc Cert.AdamReferenceIdeal.main_arg15))

def Claim : Prop :=
  ∃ (hKv : Cert.Kv.Facts) (hKvIdeal : Cert.KvIdeal.Facts) (hKvReferenceIdeal : Cert.KvReferenceIdeal.Facts) (hInB : Cert.InB.Facts) (hInBIdeal : Cert.InBIdeal.Facts) (hInBReferenceIdeal : Cert.InBReferenceIdeal.Facts) (hAttn : Cert.Attn.Facts) (hAttnIdeal : Cert.AttnIdeal.Facts) (hAttnReferenceIdeal : Cert.AttnReferenceIdeal.Facts) (hPoolB : Cert.PoolB.Facts) (hPoolBIdeal : Cert.PoolBIdeal.Facts) (hPoolBReferenceIdeal : Cert.PoolBReferenceIdeal.Facts) (hMlp : Cert.Mlp.Facts) (hMlpIdeal : Cert.MlpIdeal.Facts) (hMlpReferenceIdeal : Cert.MlpReferenceIdeal.Facts) (hInF : Cert.InF.Facts) (hInFIdeal : Cert.InFIdeal.Facts) (hInFReferenceIdeal : Cert.InFReferenceIdeal.Facts) (hPoolF : Cert.PoolF.Facts) (hPoolFIdeal : Cert.PoolFIdeal.Facts) (hPoolFReferenceIdeal : Cert.PoolFReferenceIdeal.Facts) (hWgrad : Cert.Wgrad.Facts) (hWgradIdeal : Cert.WgradIdeal.Facts) (hWgradReferenceIdeal : Cert.WgradReferenceIdeal.Facts) (hSumAdam : Cert.SumAdam.Facts) (hSumAdamIdeal : Cert.SumAdamIdeal.Facts) (hSumAdamReferenceIdeal : Cert.SumAdamReferenceIdeal.Facts) (hSums : Cert.Sums.Facts) (hSumsIdeal : Cert.SumsIdeal.Facts) (hSumsReferenceIdeal : Cert.SumsReferenceIdeal.Facts) (hAdam : Cert.Adam.Facts) (hAdamIdeal : Cert.AdamIdeal.Facts) (hAdamReferenceIdeal : Cert.AdamReferenceIdeal.Facts) (hPre_finite_inb : Cert.Pre_finite_inb.Facts) (hPre_finite_xattn : Cert.Pre_finite_xattn.Facts) (hPre_finite_poolb : Cert.Pre_finite_poolb.Facts) (hPre_exact_mlp : Cert.Pre_exact_mlp.Facts) (hPre_finite_poolf : Cert.Pre_finite_poolf.Facts) (hOn_pool_columns : Cert.On_pool_columns.Facts),
    quiescent_Kv (hKv := hKv)
    ∧ quiescent_KvIdeal (hKvIdeal := hKvIdeal)
    ∧ quiescent_KvReferenceIdeal (hKvReferenceIdeal := hKvReferenceIdeal)
    ∧ quiescent_InB (hInB := hInB)
    ∧ quiescent_InBIdeal (hInBIdeal := hInBIdeal)
    ∧ quiescent_InBIdeal_pre_finite_inb (hInBIdeal := hInBIdeal) (hPre_finite_inb := hPre_finite_inb)
    ∧ quiescent_InBReferenceIdeal (hInBReferenceIdeal := hInBReferenceIdeal)
    ∧ quiescent_InBReferenceIdeal_pre_finite_inb (hInBReferenceIdeal := hInBReferenceIdeal) (hPre_finite_inb := hPre_finite_inb)
    ∧ quiescent_Attn (hAttn := hAttn)
    ∧ quiescent_AttnIdeal (hAttnIdeal := hAttnIdeal)
    ∧ quiescent_AttnIdeal_pre_finite_xattn (hAttnIdeal := hAttnIdeal) (hPre_finite_xattn := hPre_finite_xattn)
    ∧ quiescent_AttnReferenceIdeal (hAttnReferenceIdeal := hAttnReferenceIdeal)
    ∧ quiescent_AttnReferenceIdeal_pre_finite_xattn (hAttnReferenceIdeal := hAttnReferenceIdeal) (hPre_finite_xattn := hPre_finite_xattn)
    ∧ quiescent_PoolB (hPoolB := hPoolB)
    ∧ quiescent_PoolBIdeal (hPoolBIdeal := hPoolBIdeal)
    ∧ quiescent_PoolBIdeal_pre_finite_poolb (hPoolBIdeal := hPoolBIdeal) (hPre_finite_poolb := hPre_finite_poolb)
    ∧ quiescent_PoolBReferenceIdeal (hPoolBReferenceIdeal := hPoolBReferenceIdeal)
    ∧ quiescent_PoolBReferenceIdeal_pre_finite_poolb (hPoolBReferenceIdeal := hPoolBReferenceIdeal) (hPre_finite_poolb := hPre_finite_poolb)
    ∧ quiescent_Mlp (hMlp := hMlp)
    ∧ quiescent_MlpIdeal (hMlpIdeal := hMlpIdeal)
    ∧ quiescent_MlpIdeal_pre_exact_mlp (hMlpIdeal := hMlpIdeal) (hPre_exact_mlp := hPre_exact_mlp)
    ∧ quiescent_MlpReferenceIdeal (hMlpReferenceIdeal := hMlpReferenceIdeal)
    ∧ quiescent_MlpReferenceIdeal_pre_exact_mlp (hMlpReferenceIdeal := hMlpReferenceIdeal) (hPre_exact_mlp := hPre_exact_mlp)
    ∧ quiescent_InF (hInF := hInF)
    ∧ quiescent_InFIdeal (hInFIdeal := hInFIdeal)
    ∧ quiescent_InFReferenceIdeal (hInFReferenceIdeal := hInFReferenceIdeal)
    ∧ quiescent_PoolF (hPoolF := hPoolF)
    ∧ quiescent_PoolFIdeal (hPoolFIdeal := hPoolFIdeal)
    ∧ quiescent_PoolFIdeal_pre_finite_poolf (hPoolFIdeal := hPoolFIdeal) (hPre_finite_poolf := hPre_finite_poolf)
    ∧ quiescent_PoolFReferenceIdeal (hPoolFReferenceIdeal := hPoolFReferenceIdeal)
    ∧ quiescent_PoolFReferenceIdeal_pre_finite_poolf (hPoolFReferenceIdeal := hPoolFReferenceIdeal) (hPre_finite_poolf := hPre_finite_poolf)
    ∧ quiescent_Wgrad (hWgrad := hWgrad)
    ∧ quiescent_WgradIdeal (hWgradIdeal := hWgradIdeal)
    ∧ quiescent_WgradReferenceIdeal (hWgradReferenceIdeal := hWgradReferenceIdeal)
    ∧ quiescent_SumAdam (hSumAdam := hSumAdam)
    ∧ quiescent_SumAdamIdeal (hSumAdamIdeal := hSumAdamIdeal)
    ∧ quiescent_SumAdamReferenceIdeal (hSumAdamReferenceIdeal := hSumAdamReferenceIdeal)
    ∧ quiescent_Sums (hSums := hSums)
    ∧ quiescent_SumsIdeal (hSumsIdeal := hSumsIdeal)
    ∧ quiescent_SumsReferenceIdeal (hSumsReferenceIdeal := hSumsReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ preserves_Kv_KvIdeal
    ∧ algebraic_KvIdeal_KvReferenceIdeal (hKvIdeal := hKvIdeal) (hKvReferenceIdeal := hKvReferenceIdeal)
    ∧ preserves_InB_InBIdeal
    ∧ algebraic_InBIdeal_InBReferenceIdeal_pre_finite_inb (hInBIdeal := hInBIdeal) (hInBReferenceIdeal := hInBReferenceIdeal) (hPre_finite_inb := hPre_finite_inb)
    ∧ preserves_Attn_AttnIdeal
    ∧ algebraic_AttnIdeal_AttnReferenceIdeal_pre_finite_xattn (hAttnIdeal := hAttnIdeal) (hAttnReferenceIdeal := hAttnReferenceIdeal) (hPre_finite_xattn := hPre_finite_xattn)
    ∧ preserves_PoolB_PoolBIdeal
    ∧ algebraic_PoolBIdeal_PoolBReferenceIdeal_on_pool_columns_pre_finite_poolb (hPoolBIdeal := hPoolBIdeal) (hPoolBReferenceIdeal := hPoolBReferenceIdeal) (hPre_finite_poolb := hPre_finite_poolb) (hOn_pool_columns := hOn_pool_columns)
    ∧ preserves_Mlp_MlpIdeal
    ∧ algebraic_MlpIdeal_MlpReferenceIdeal_pre_exact_mlp (hMlpIdeal := hMlpIdeal) (hMlpReferenceIdeal := hMlpReferenceIdeal) (hPre_exact_mlp := hPre_exact_mlp)
    ∧ preserves_InF_InFIdeal
    ∧ algebraic_InFIdeal_InFReferenceIdeal (hInFIdeal := hInFIdeal) (hInFReferenceIdeal := hInFReferenceIdeal)
    ∧ preserves_PoolF_PoolFIdeal
    ∧ algebraic_PoolFIdeal_PoolFReferenceIdeal_pre_finite_poolf (hPoolFIdeal := hPoolFIdeal) (hPoolFReferenceIdeal := hPoolFReferenceIdeal) (hPre_finite_poolf := hPre_finite_poolf)
    ∧ preserves_Wgrad_WgradIdeal
    ∧ algebraic_WgradIdeal_WgradReferenceIdeal (hWgradIdeal := hWgradIdeal) (hWgradReferenceIdeal := hWgradReferenceIdeal)
    ∧ preserves_SumAdam_SumAdamIdeal
    ∧ algebraic_SumAdamIdeal_SumAdamReferenceIdeal (hSumAdamIdeal := hSumAdamIdeal) (hSumAdamReferenceIdeal := hSumAdamReferenceIdeal)
    ∧ preserves_Sums_SumsIdeal
    ∧ algebraic_SumsIdeal_SumsReferenceIdeal (hSumsIdeal := hSumsIdeal) (hSumsReferenceIdeal := hSumsReferenceIdeal)
    ∧ preserves_Adam_AdamIdeal
    ∧ algebraic_AdamIdeal_AdamReferenceIdeal (hAdamIdeal := hAdamIdeal) (hAdamReferenceIdeal := hAdamReferenceIdeal)
-- ==== On_pool_columns.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S1x4096x1024 : Shape := ⟨3, ![1, 4096, 1024]⟩
abbrev S2560 : Shape := ⟨1, ![2560]⟩
abbrev S1x2560 : Shape := ⟨2, ![1, 2560]⟩
abbrev S_ : Shape := ⟨0, ![]⟩
abbrev S4096x2560 : Shape := ⟨2, ![4096, 2560]⟩
abbrev S4x128x128 : Shape := ⟨3, ![4, 128, 128]⟩
abbrev S8x1024 : Shape := ⟨2, ![8, 1024]⟩

class Facts : Prop where
  bcast_S2560_S1x2560_1 : S2560.BroadcastsInDim S1x2560 (![1] : Fin 1 → Fin S1x2560.rank)
  bcast_S_S1x2560 : S_.BroadcastsInDim S1x2560 (![] : Fin 0 → Fin S1x2560.rank)
  bcast_S1x2560_S4096x2560_0_1 : S1x2560.BroadcastsInDim S4096x2560 (![0, 1] : Fin 2 → Fin S4096x2560.rank)
  bcast_S_S4x128x128 : S_.BroadcastsInDim S4x128x128 (![] : Fin 0 → Fin S4x128x128.rank)
  bcast_S_S8x1024 : S_.BroadcastsInDim S8x1024 (![] : Fin 0 → Fin S8x1024.rank)

variable [Facts]

def fn {F : FTy → Type} [FloatOps F] (main_arg0 : FVec F S1x4096x2560 .f32) (main_arg1 : FVec F S1x4x128x128 .f32) (main_arg2 : FVec F S1x512 .f32) (main_arg3 : FVec F S1x1024x1024 .f32) (main_arg4 : FVec F S1x4096x1024 .f32) : IVec S4096x2560 1 × IVec S4x128x128 1 × IVec S8x1024 1 :=
  let main_v0 : IVec S2560 32 := iotaInDim S2560 32 0
  let main_v1 : IVec S1x2560 32 := broadcastInDim S1x2560 ![1] bcast_S2560_S1x2560_1 main_v0
  let main_c : IVec S_ 32 := constantI S_ 32 2048#32
  let main_v2 : IVec S1x2560 32 := broadcastInDim S1x2560 ![] bcast_S_S1x2560 main_c
  let main_v3 : IVec S1x2560 1 := cmpi .sge main_v1 main_v2
  let main_v4 : IVec S4096x2560 1 := broadcastInDim S4096x2560 ![0, 1] bcast_S1x2560_S4096x2560_0_1 main_v3
  let main_c_0 : IVec S_ 1 := constantI S_ 1 1#1
  let main_v5 : IVec S4x128x128 1 := broadcastInDim S4x128x128 ![] bcast_S_S4x128x128 main_c_0
  let main_c_1 : IVec S_ 1 := constantI S_ 1 1#1
  let main_v6 : IVec S8x1024 1 := broadcastInDim S8x1024 ![] bcast_S_S8x1024 main_c_1
  (main_v4, main_v5, main_v6)
-- ==== Pre_exact_mlp.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩

class Facts : Prop where
  shapeCasts_S1x1024_S1024 : S1x1024.ShapeCasts S1024
  reducesTo_S1x4096x1024_S1x4096_d2 : S1x4096x1024.ReducesTo [2] S1x4096
  h_S_ : 0 < S_.numel
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1x4096x1_S1x4096x1024_0_1_2 : S1x4096x1.BroadcastsInDim S1x4096x1024 (![0, 1, 2] : Fin 3 → Fin S1x4096x1024.rank)
  bcast_S1024_S1x1x1024_2 : S1024.BroadcastsInDim S1x1x1024 (![2] : Fin 1 → Fin S1x1x1024.rank)
  bcast_S1x1x1024_S1x4096x1024_0_1_2 : S1x1x1024.BroadcastsInDim S1x4096x1024 (![0, 1, 2] : Fin 3 → Fin S1x4096x1024.rank)
  shapeCasts_S1x1024x4096_S1024x4096 : S1x1024x4096.ShapeCasts S1024x4096
  bcast_S_S1x4096x4096 : S_.BroadcastsInDim S1x4096x4096 (![] : Fin 0 → Fin S1x4096x4096.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1024 : S_.BroadcastsInDim S1024 (![] : Fin 0 → Fin S1024.rank)
  dot_S1x4096x1024_S1024x4096_S1x4096x4096_2_0_01_1_n_n_wf : DotDims.WF S1x4096x1024 S1024x4096 S1x4096x4096 [2] [0] [0, 1] [1] [] []

variable [Facts]

def dot_S1x4096x1024_S1024x4096_S1x4096x4096_2_0_01_1_n_n : DotDims S1x4096x1024 S1024x4096 S1x4096x4096 where
  lhsContracting := [2]
  rhsContracting := [0]
  lhsNonContracting := [0, 1]
  rhsNonContracting := [1]
  lhsBatch := []
  rhsBatch := []
  wf := dot_S1x4096x1024_S1024x4096_S1x4096x4096_2_0_01_1_n_n_wf
def fn_relu {F : FTy → Type} [FloatOps F] (arg0 : FVec F S1x4096x4096 .f32) : FVec F S1x4096x4096 .f32 :=
  let cst : FVec F S_ .f32 := constant S_ .f32 0x00000000#32
  let v0 : FVec F S1x4096x4096 .f32 := broadcastInDim S1x4096x4096 ![] bcast_S_S1x4096x4096 cst
  let v1 : FVec F S1x4096x4096 .f32 := maximumf arg0 v0
  v1

def fn_part2 {F : FTy → Type} [FloatOps F] (main_v17 : FVec F S1x4096x4096 .f32) (main_v20 : IVec S1x4096x1024 1) (main_v23 : IVec S1x1024 1) (main_v26 : IVec S1x1024x4096 1) (main_v29 : IVec S1x4096x1024 1) (main_v32 : IVec S1024 1) (main_v35 : IVec S1x4096x1024 1) (main_v37 : IVec S1x4096x4096 1) : IVec S1x4096x1024 1 × IVec S1x1024 1 × IVec S1x1024x4096 1 × IVec S1x4096x1024 1 × IVec S1024 1 × IVec S1x4096x1024 1 × IVec S1x4096x4096 1 :=
  let main_cst_9 : FVec F S_ .f32 := constant S_ .f32 0x0DA24260#32
  let main_v38 : FVec F S1x4096x4096 .f32 := broadcastInDim S1x4096x4096 ![] bcast_S_S1x4096x4096 main_cst_9
  let main_v39 : IVec S1x4096x4096 1 := cmpf .oge main_v17 main_v38
  let main_v40 : IVec S1x4096x4096 1 := ori main_v37 main_v39
  (main_v20, main_v23, main_v26, main_v29, main_v32, main_v35, main_v40)

def fn_part1 {F : FTy → Type} [FloatOps F] (main_arg1 : FVec F S1x1024 .f32) (main_arg2 : FVec F S1x1024x4096 .f32) (main_arg3 : FVec F S1x4096x1024 .f32) (main_arg4 : FVec F S1024 .f32) (main_arg5 : FVec F S1x4096x1024 .f32) (main_v17 : FVec F S1x4096x4096 .f32) (main_v18 : FVec F S1x4096x1024 .f32) (main_v19 : FVec F S1x4096x1024 .f32) : IVec S1x4096x1024 1 × IVec S1x1024 1 × IVec S1x1024x4096 1 × IVec S1x4096x1024 1 × IVec S1024 1 × IVec S1x4096x1024 1 × IVec S1x4096x4096 1 :=
  let main_v20 : IVec S1x4096x1024 1 := cmpf .olt main_v18 main_v19
  let main_v21 : FVec F S1x1024 .f32 := Host.absf main_arg1
  let main_cst_3 : FVec F S_ .f32 := constant S_ .f32 0x7F800000#32
  let main_v22 : FVec F S1x1024 .f32 := broadcastInDim S1x1024 ![] bcast_S_S1x1024 main_cst_3
  let main_v23 : IVec S1x1024 1 := cmpf .olt main_v21 main_v22
  let main_v24 : FVec F S1x1024x4096 .f32 := Host.absf main_arg2
  let main_cst_4 : FVec F S_ .f32 := constant S_ .f32 0x7F800000#32
  let main_v25 : FVec F S1x1024x4096 .f32 := broadcastInDim S1x1024x4096 ![] bcast_S_S1x1024x4096 main_cst_4
  let main_v26 : IVec S1x1024x4096 1 := cmpf .olt main_v24 main_v25
  let main_v27 : FVec F S1x4096x1024 .f32 := Host.absf main_arg3
  let main_cst_5 : FVec F S_ .f32 := constant S_ .f32 0x7F800000#32
  let main_v28 : FVec F S1x4096x1024 .f32 := broadcastInDim S1x4096x1024 ![] bcast_S_S1x4096x1024 main_cst_5
  let main_v29 : IVec S1x4096x1024 1 := cmpf .olt main_v27 main_v28
  let main_v30 : FVec F S1024 .f32 := Host.absf main_arg4
  let main_cst_6 : FVec F S_ .f32 := constant S_ .f32 0x7F800000#32
  let main_v31 : FVec F S1024 .f32 := broadcastInDim S1024 ![] bcast_S_S1024 main_cst_6
  let main_v32 : IVec S1024 1 := cmpf .olt main_v30 main_v31
  let main_v33 : FVec F S1x4096x1024 .f32 := Host.absf main_arg5
  let main_cst_7 : FVec F S_ .f32 := constant S_ .f32 0x7F800000#32
  let main_v34 : FVec F S1x4096x1024 .f32 := broadcastInDim S1x4096x1024 ![] bcast_S_S1x4096x1024 main_cst_7
  let main_v35 : IVec S1x4096x1024 1 := cmpf .olt main_v33 main_v34
  let main_cst_8 : FVec F S_ .f32 := constant S_ .f32 0x00000000#32
  let main_v36 : FVec F S1x4096x4096 .f32 := broadcastInDim S1x4096x4096 ![] bcast_S_S1x4096x4096 main_cst_8
  let main_v37 : IVec S1x4096x4096 1 := cmpf .oeq main_v17 main_v36
  fn_part2 (F := F) main_v17 main_v20 main_v23 main_v26 main_v29 main_v32 main_v35 main_v37

def fn {F : FTy → Type} [FloatOps F] (main_arg0 : FVec F S1x4096x1024 .f32) (main_arg1 : FVec F S1x1024 .f32) (main_arg2 : FVec F S1x1024x4096 .f32) (main_arg3 : FVec F S1x4096x1024 .f32) (main_arg4 : FVec F S1024 .f32) (main_arg5 : FVec F S1x4096x1024 .f32) : IVec S1x4096x1024 1 × IVec S1x1024 1 × IVec S1x1024x4096 1 × IVec S1x4096x1024 1 × IVec S1024 1 × IVec S1x4096x1024 1 × IVec S1x4096x4096 1 :=
  let main_v0 : FVec F S1024 .f32 := shapeCast S1024 main_arg1 shapeCasts_S1x1024_S1024
  let main_v1 : FVec F S1x4096x1024 .f32 := mulf main_arg0 main_arg0
  let main_cst : FVec F S_ .f32 := constant S_ .f32 0x00000000#32
  let main_v2 : FVec F S1x4096 .f32 := (fun x v => Host.reduceAdd x v reducesTo_S1x4096x1024_S1x4096_d2 h_S_) main_v1 main_cst
  let main_v3 : FVec F S1x4096x1 .f32 := broadcastInDim S1x4096x1 ![0, 1] bcast_S1x4096_S1x4096x1_0_1 main_v2
  let main_cst_0 : FVec F S_ .f32 := constant S_ .f32 0x44800000#32
  let main_v4 : FVec F S1x4096x1 .f32 := broadcastInDim S1x4096x1 ![] bcast_S_S1x4096x1 main_cst_0
  let main_v5 : FVec F S1x4096x1 .f32 := Host.divf main_v3 main_v4
  let main_cst_1 : FVec F S_ .f32 := constant S_ .f32 0x358637BD#32
  let main_v6 : FVec F S1x4096x1 .f32 := broadcastInDim S1x4096x1 ![] bcast_S_S1x4096x1 main_cst_1
  let main_v7 : FVec F S1x4096x1 .f32 := addf main_v5 main_v6
  let main_v8 : FVec F S1x4096x1 .f32 := Host.rsqrt main_v7
  let main_v9 : FVec F S1x4096x1024 .f32 := broadcastInDim S1x4096x1024 ![0, 1, 2] bcast_S1x4096x1_S1x4096x1024_0_1_2 main_v8
  let main_v10 : FVec F S1x4096x1024 .f32 := mulf main_arg0 main_v9
  let main_v11 : FVec F S1x1x1024 .f32 := broadcastInDim S1x1x1024 ![2] bcast_S1024_S1x1x1024_2 main_v0
  let main_v12 : FVec F S1x4096x1024 .f32 := broadcastInDim S1x4096x1024 ![0, 1, 2] bcast_S1x1x1024_S1x4096x1024_0_1_2 main_v11
  let main_v13 : FVec F S1x4096x1024 .f32 := mulf main_v10 main_v12
  let main_v14 : FVec F S1024x4096 .f32 := shapeCast S1024x4096 main_arg2 shapeCasts_S1x1024x4096_S1024x4096
  let main_v15 : FVec F S1x4096x4096 .f32 := (fun l r => Host.dotGeneral dot_S1x4096x1024_S1024x4096_S1x4096x4096_2_0_01_1_n_n none l r) main_v13 main_v14
  let main_v16 : FVec F S1x4096x4096 .f32 := fn_relu (F := F) main_v15
  let main_v17 : FVec F S1x4096x4096 .f32 := mulf main_v16 main_v16
  let main_v18 : FVec F S1x4096x1024 .f32 := Host.absf main_arg0
  let main_cst_2 : FVec F S_ .f32 := constant S_ .f32 0x7F800000#32
  let main_v19 : FVec F S1x4096x1024 .f32 := broadcastInDim S1x4096x1024 ![] bcast_S_S1x4096x1024 main_cst_2
  fn_part1 (F := F) main_arg1 main_arg2 main_arg3 main_arg4 main_arg5 main_v17 main_v18 main_v19
-- ==== Pre_finite_inb.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1x4096x2560 : Shape := ⟨3, ![1, 4096, 2560]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x2560 : S_.BroadcastsInDim S1x1024x2560 (![] : Fin 0 → Fin S1x1024x2560.rank)
  bcast_S_S1x4096x2560 : S_.BroadcastsInDim S1x4096x2560 (![] : Fin 0 → Fin S1x4096x2560.rank)

variable [Facts]

def fn {F : FTy → Type} [FloatOps F] (main_arg0 : FVec F S1x4096x1024 .f32) (main_arg1 : FVec F S1x1024 .f32) (main_arg2 : FVec F S1x1024x2560 .f32) (main_arg3 : FVec F S1x4096x2560 .f32) (main_arg4 : FVec F S1x4096x1024 .f32) : IVec S1x4096x1024 1 × IVec S1x1024 1 × IVec S1x1024x2560 1 × IVec S1x4096x2560 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2560 .f32 := Host.absf main_arg2
  let main_cst_1 : FVec F S_ .f32 := constant S_ .f32 0x7F800000#32
  let main_v7 : FVec F S1x1024x2560 .f32 := broadcastInDim S1x1024x2560 ![] bcast_S_S1x1024x2560 main_cst_1
  let main_v8 : IVec S1x1024x2560 1 := cmpf .olt main_v6 main_v7
  let main_v9 : FVec F S1x4096x2560 .f32 := Host.absf main_arg3
  let main_cst_2 : FVec F S_ .f32 := constant S_ .f32 0x7F800000#32
  let main_v10 : FVec F S1x4096x2560 .f32 := broadcastInDim S1x4096x2560 ![] bcast_S_S1x4096x2560 main_cst_2
  let main_v11 : IVec S1x4096x2560 1 := cmpf .olt main_v9 main_v10
  (main_v2, main_v5, main_v8, main_v11)
-- ==== Pre_finite_poolb.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S1x4096x1024 : Shape := ⟨3, ![1, 4096, 1024]⟩
abbrev S_ : Shape := ⟨0, ![]⟩

class Facts : Prop where
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S1x4096x1024 : S_.BroadcastsInDim S1x4096x1024 (![] : Fin 0 → Fin S1x4096x1024.rank)

variable [Facts]

def fn {F : FTy → Type} [FloatOps F] (main_arg0 : FVec F S1x4096x2560 .f32) (main_arg1 : FVec F S1x4x128x128 .f32) (main_arg2 : FVec F S1x512 .f32) (main_arg3 : FVec F S1x1024x1024 .f32) (main_arg4 : FVec F S1x4096x1024 .f32) : IVec S1x4x128x128 1 × IVec S1x512 1 × IVec S1x1024x1024 1 × IVec S1x4096x1024 1 :=
  let main_v0 : FVec F S1x4x128x128 .f32 := Host.absf main_arg1
  let main_cst : FVec F S_ .f32 := constant S_ .f32 0x7F800000#32
  let main_v1 : FVec F S1x4x128x128 .f32 := broadcastInDim S1x4x128x128 ![] bcast_S_S1x4x128x128 main_cst
  let main_v2 : IVec S1x4x128x128 1 := cmpf .olt main_v0 main_v1
  let main_v3 : FVec F S1x512 .f32 := Host.absf main_arg2
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1x1024x1024 .f32 := Host.absf main_arg3
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x4096x1024 .f32 := Host.absf main_arg4
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  (main_v2, main_v5, main_v8, main_v11)
-- ==== Pre_finite_poolf.lean ====
abbrev S1x4096x2560 : Shape := ⟨3, ![1, 4096, 2560]⟩
abbrev S1x4x128x128 : Shape := ⟨4, ![1, 4, 128, 128]⟩
abbrev S1x512 : Shape := ⟨2, ![1, 512]⟩
abbrev S4096x1024 : Shape := ⟨2, ![4096, 1024]⟩
abbrev S_ : Shape := ⟨0, ![]⟩

class Facts : Prop where
  bcast_S_S1x4096x2560 : S_.BroadcastsInDim S1x4096x2560 (![] : Fin 0 → Fin S1x4096x2560.rank)

variable [Facts]

def fn {F : FTy → Type} [FloatOps F] (main_arg0 : FVec F S1x4096x2560 .f32) (main_arg1 : FVec F S1x4x128x128 .f32) (main_arg2 : FVec F S1x512 .f32) (main_arg3 : FVec F S4096x1024 .f32) : IVec S1x4096x2560 1 :=
  let main_v0 : FVec F S1x4096x2560 .f32 := Host.absf main_arg0
  let main_cst : FVec F S_ .f32 := constant S_ .f32 0x7F800000#32
  let main_v1 : FVec F S1x4096x2560 .f32 := broadcastInDim S1x4096x2560 ![] bcast_S_S1x4096x2560 main_cst
  let main_v2 : IVec S1x4096x2560 1 := cmpf .olt main_v0 main_v1
  main_v2
-- ==== Pre_finite_xattn.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S_ : Shape := ⟨0, ![]⟩

class Facts : Prop where
  bcast_S_S1x4096x1024 : S_.BroadcastsInDim S1x4096x1024 (![] : Fin 0 → Fin S1x4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4x256 : S_.BroadcastsInDim S1x1024x4x256 (![] : Fin 0 → Fin S1x1024x4x256.rank)
  bcast_S_S1x256x4x256 : S_.BroadcastsInDim S1x256x4x256 (![] : Fin 0 → Fin S1x256x4x256.rank)
  bcast_S_S1x4x256x1024 : S_.BroadcastsInDim S1x4x256x1024 (![] : Fin 0 → Fin S1x4x256x1024.rank)

variable [Facts]

def fn_part1 {F : FTy → Type} [FloatOps F] (main_arg6 : FVec F S1x256x4x256 .f32) (main_arg7 : FVec F S1x4x256x1024 .f32) (main_arg8 : FVec F S1x4096x1024 .f32) (main_v2 : IVec S1x4096x1024 1) (main_v5 : IVec S1x4096x1024 1) (main_v8 : IVec S1x1024x1024 1) (main_v11 : IVec S1x1024 1) (main_v14 : IVec S1x1024x4x256 1) (main_v17 : IVec S1x256x4x256 1) : IVec S1x4096x1024 1 × IVec S1x4096x1024 1 × IVec S1x1024x1024 1 × IVec S1x1024 1 × IVec S1x1024x4x256 1 × IVec S1x256x4x256 1 × IVec S1x256x4x256 1 × IVec S1x4x256x1024 1 × IVec S1x4096x1024 1 :=
  let main_v18 : FVec F S1x256x4x256 .f32 := Host.absf main_arg6
  let main_cst_5 : FVec F S_ .f32 := constant S_ .f32 0x7F800000#32
  let main_v19 : FVec F S1x256x4x256 .f32 := broadcastInDim S1x256x4x256 ![] bcast_S_S1x256x4x256 main_cst_5
  let main_v20 : IVec S1x256x4x256 1 := cmpf .olt main_v18 main_v19
  let main_v21 : FVec F S1x4x256x1024 .f32 := Host.absf main_arg7
  let main_cst_6 : FVec F S_ .f32 := constant S_ .f32 0x7F800000#32
  let main_v22 : FVec F S1x4x256x1024 .f32 := broadcastInDim S1x4x256x1024 ![] bcast_S_S1x4x256x1024 main_cst_6
  let main_v23 : IVec S1x4x256x1024 1 := cmpf .olt main_v21 main_v22
  let main_v24 : FVec F S1x4096x1024 .f32 := Host.absf main_arg8
  let main_cst_7 : FVec F S_ .f32 := constant S_ .f32 0x7F800000#32
  let main_v25 : FVec F S1x4096x1024 .f32 := broadcastInDim S1x4096x1024 ![] bcast_S_S1x4096x1024 main_cst_7
  let main_v26 : IVec S1x4096x1024 1 := cmpf .olt main_v24 main_v25
  (main_v2, main_v5, main_v8, main_v11, main_v14, main_v17, main_v20, main_v23, main_v26)

def fn {F : FTy → Type} [FloatOps F] (main_arg0 : FVec F S1x4096x1024 .f32) (main_arg1 : FVec F S1x4096x1024 .f32) (main_arg2 : FVec F S1x1024x1024 .f32) (main_arg3 : FVec F S1x1024 .f32) (main_arg4 : FVec F S1x1024x4x256 .f32) (main_arg5 : FVec F S1x256x4x256 .f32) (main_arg6 : FVec F S1x256x4x256 .f32) (main_arg7 : FVec F S1x4x256x1024 .f32) (main_arg8 : FVec F S1x4096x1024 .f32) : IVec S1x4096x1024 1 × IVec S1x4096x1024 1 × IVec S1x1024x1024 1 × IVec S1x1024 1 × IVec S1x1024x4x256 1 × IVec S1x256x4x256 1 × IVec S1x256x4x256 1 × IVec S1x4x256x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x4x256 .f32 := Host.absf main_arg4
  let main_cst_3 : FVec F S_ .f32 := constant S_ .f32 0x7F800000#32
  let main_v13 : FVec F S1x1024x4x256 .f32 := broadcastInDim S1x1024x4x256 ![] bcast_S_S1x1024x4x256 main_cst_3
  let main_v14 : IVec S1x1024x4x256 1 := cmpf .olt main_v12 main_v13
  let main_v15 : FVec F S1x256x4x256 .f32 := Host.absf main_arg5
  let main_cst_4 : FVec F S_ .f32 := constant S_ .f32 0x7F800000#32
  let main_v16 : FVec F S1x256x4x256 .f32 := broadcastInDim S1x256x4x256 ![] bcast_S_S1x256x4x256 main_cst_4
  let main_v17 : IVec S1x256x4x256 1 := cmpf .olt main_v15 main_v16
  fn_part1 (F := F) main_arg6 main_arg7 main_arg8 main_v2 main_v5 main_v8 main_v11 main_v14 main_v17
-- ==== Kv.lean ====
abbrev S1x256x1024 : Shape := ⟨3, ![1, 256, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S256x1024 : Shape := ⟨2, ![256, 1024]⟩
abbrev S1024x4x256 : Shape := ⟨3, ![1024, 4, 256]⟩
abbrev S1024x1024 : Shape := ⟨2, ![1024, 1024]⟩
abbrev S256 : Shape := ⟨1, ![256]⟩
abbrev S256x1 : Shape := ⟨2, ![256, 1]⟩
abbrev S256x4x256 : Shape := ⟨3, ![256, 4, 256]⟩
abbrev S8x1024 : Shape := ⟨2, ![8, 1024]⟩
abbrev S1024 : Shape := ⟨1, ![1024]⟩

abbrev nBuf : Space → Nat
  | .hbm => 23
  | .vmem => 17
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x4x256, .f32⟩
  | .hbm, ⟨3, _⟩ => ⟨S1x1024x4x256, .f32⟩
  | .hbm, ⟨4, _⟩ => ⟨S1x256x4x256, .f32⟩
  | .hbm, ⟨5, _⟩ => ⟨S1x256x4x256, .f32⟩
  | .hbm, ⟨6, _⟩ => ⟨S256x1024, .f32⟩
  | .hbm, ⟨7, _⟩ => ⟨S1024x4x256, .f32⟩
  | .hbm, ⟨8, _⟩ => ⟨S1024x1024, .f32⟩
  | .hbm, ⟨9, _⟩ => ⟨S1024x1024, .bf16⟩
  | .hbm, ⟨10, _⟩ => ⟨S1024x4x256, .f32⟩
  | .hbm, ⟨11, _⟩ => ⟨S1024x1024, .f32⟩
  | .hbm, ⟨12, _⟩ => ⟨S1024x1024, .bf16⟩
  | .hbm, ⟨13, _⟩ => ⟨S256x1024, .bf16⟩
  | .hbm, ⟨14, _⟩ => ⟨S256x1024, .bf16⟩
  | .hbm, ⟨15, _⟩ => ⟨S256x1024, .bf16⟩
  | .hbm, ⟨16, _⟩ => ⟨S256x4x256, .f32⟩
  | .hbm, ⟨17, _⟩ => ⟨S256x1024, .f32⟩
  | .hbm, ⟨18, _⟩ => ⟨S256x4x256, .f32⟩
  | .hbm, ⟨19, _⟩ => ⟨S256x1024, .f32⟩
  | .hbm, ⟨20, _⟩ => ⟨S1024x1024, .bf16⟩
  | .hbm, ⟨21, _⟩ => ⟨S1024x1024, .bf16⟩
  | .hbm, ⟨22, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S8x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== KvReferenceIdeal.lean ====
abbrev S1x256x1024 : Shape := ⟨3, ![1, 256, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x4x256 : Shape := ⟨3, ![1024, 4, 256]⟩
abbrev S4x256x1024 : Shape := ⟨3, ![4, 256, 1024]⟩
abbrev S256x1024 : Shape := ⟨2, ![256, 1024]⟩
abbrev S1024x1024 : Shape := ⟨2, ![1024, 1024]⟩
abbrev S7x1024 : Shape := ⟨2, ![7, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x4x256, .f32⟩
  | .hbm, ⟨3, _⟩ => ⟨S1x1024x4x256, .f32⟩
  | .hbm, ⟨4, _⟩ => ⟨S1x256x4x256, .f32⟩
  | .hbm, ⟨5, _⟩ => ⟨S1x256x4x256, .f32⟩
  | .hbm, ⟨6, _⟩ => ⟨S1024, .f32⟩
  | .hbm, ⟨7, _⟩ => ⟨S1x256x1024, .f32⟩
  | .hbm, ⟨8, _⟩ => ⟨S_, .f32⟩
  | .hbm, ⟨9, _⟩ => ⟨S1x256, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S_, .f32⟩
  | .hbm, ⟨15, _⟩ => ⟨S1x256x1, .f32⟩
  | .hbm, ⟨16, _⟩ => ⟨S1x256x1, .f32⟩
  | .hbm, ⟨17, _⟩ => ⟨S1x256x1, .f32⟩
  | .hbm, ⟨18, _⟩ => ⟨S1x256x1024, .f32⟩
  | .hbm, ⟨19, _⟩ => ⟨S1x256x1024, .f32⟩
  | .hbm, ⟨20, _⟩ => ⟨S1x1x1024, .f32⟩
  | .hbm, ⟨21, _⟩ => ⟨S1x256x1024, .f32⟩
  | .hbm, ⟨22, _⟩ => ⟨S1x256x1024, .f32⟩
  | .hbm, ⟨23, _⟩ => ⟨S1024x4x256, .f32⟩
  | .hbm, ⟨24, _⟩ => ⟨S1x256x4x256, .f32⟩
  | .hbm, ⟨25, _⟩ => ⟨S1024x4x256, .f32⟩
  | .hbm, ⟨26, _⟩ => ⟨S1x256x4x256, .f32⟩
  | .hbm, ⟨27, _⟩ => ⟨S4x256x1024, .f32⟩
  | .hbm, ⟨28, _⟩ => ⟨S1024x4x256, .f32⟩
  | .hbm, ⟨29, _⟩ => ⟨S1x256x1024, .f32⟩
  | .hbm, ⟨30, _⟩ => ⟨S1x1024x4x256, .f32⟩
  | .hbm, ⟨31, _⟩ => ⟨S4x256x1024, .f32⟩
  | .hbm, ⟨32, _⟩ => ⟨S1024x4x256, .f32⟩
  | .hbm, ⟨33, _⟩ => ⟨S1x256x1024, .f32⟩
  | .hbm, ⟨34, _⟩ => ⟨S1x256x1024, .f32⟩
  | .hbm, ⟨35, _⟩ => ⟨S1x1024x4x256, .f32⟩
  | .hbm, ⟨36, _⟩ => ⟨S1x256x1024, .f32⟩
  | .hbm, ⟨37, _⟩ => ⟨S_, .f32⟩
  | .hbm, ⟨38, _⟩ => ⟨S1x1024, .f32⟩
  | .hbm, ⟨39, _⟩ => ⟨S1x1x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S1x256x1024, .f32⟩
  | .hbm, ⟨45, _⟩ => ⟨S_, .f32⟩
  | .hbm, ⟨46, _⟩ => ⟨S1x256, .f32⟩
  | .hbm, ⟨47, _⟩ => ⟨S1x256x1, .f32⟩
  | .hbm, ⟨48, _⟩ => ⟨S_, .f32⟩
  | .hbm, ⟨49, _⟩ => ⟨S1x256x1, .f32⟩
  | .hbm, ⟨50, _⟩ => ⟨S1x256x1, .f32⟩
  | .hbm, ⟨51, _⟩ => ⟨S_, .f32⟩
  | .hbm, ⟨52, _⟩ => ⟨S1x256x1, .f32⟩
  | .hbm, ⟨53, _⟩ => ⟨S1x256x1, .f32⟩
  | .hbm, ⟨54, _⟩ => ⟨S1x256x1, .f32⟩
  | .hbm, ⟨55, _⟩ => ⟨S1x256x1024, .f32⟩
  | .hbm, ⟨56, _⟩ => ⟨S1x256x1024, .f32⟩
  | .hbm, ⟨57, _⟩ => ⟨S1x1x1024, .f32⟩
  | .hbm, ⟨58, _⟩ => ⟨S1x256x1024, .f32⟩
  | .hbm, ⟨59, _⟩ => ⟨S1x256x1024, .f32⟩
  | .hbm, ⟨60, _⟩ => ⟨S256x1024, .f32⟩
  | .hbm, ⟨61, _⟩ => ⟨S256x1024, .bf16⟩
  | .hbm, ⟨62, _⟩ => ⟨S256x1024, .f32⟩
  | .hbm, ⟨63, _⟩ => ⟨S256x1024, .bf16⟩
  | .hbm, ⟨64, _⟩ => ⟨S256x1024, .f32⟩
  | .hbm, ⟨65, _⟩ => ⟨S256x1024, .bf16⟩
  | .hbm, ⟨66, _⟩ => ⟨S1024x1024, .f32⟩
  | .hbm, ⟨67, _⟩ => ⟨S1024x1024, .bf16⟩
  | .hbm, ⟨68, _⟩ => ⟨S1024x1024, .f32⟩
  | .hbm, ⟨69, _⟩ => ⟨S1024x1024, .bf16⟩
  | .hbm, ⟨70, _⟩ => ⟨S_, .f32⟩
  | .hbm, ⟨71, _⟩ => ⟨S7x1024, .f32⟩
  | .hbm, ⟨72, _⟩ => ⟨S8x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== InB.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1x4096x2560 : Shape := ⟨3, ![1, 4096, 2560]⟩
abbrev S4096x2560 : Shape := ⟨2, ![4096, 2560]⟩
abbrev S1024x2560 : Shape := ⟨2, ![1024, 2560]⟩
abbrev S2560x1024 : Shape := ⟨2, ![2560, 1024]⟩
abbrev S4096x1024 : Shape := ⟨2, ![4096, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1x4096x2560, .f32⟩
  | .hbm, ⟨4, _⟩ => ⟨S1x4096x1024, .f32⟩
  | .hbm, ⟨5, _⟩ => ⟨S4096x2560, .f32⟩
  | .hbm, ⟨6, _⟩ => ⟨S4096x2560, .bf16⟩
  | .hbm, ⟨7, _⟩ => ⟨S1024x2560, .f32⟩
  | .hbm, ⟨8, _⟩ => ⟨S2560x1024, .f32⟩
  | .hbm, ⟨9, _⟩ => ⟨S2560x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S8x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBReferenceIdeal.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1x4096x2560 : Shape := ⟨3, ![1, 4096, 2560]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2560 : Shape := ⟨2, ![1024, 2560]⟩
abbrev S4096 : Shape := ⟨1, ![4096]⟩
abbrev S4096x1024 : Shape := ⟨2, ![4096, 1024]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1x4096x2560, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x2560, .f32⟩
  | .hbm, ⟨27, _⟩ => ⟨S1x4096x2560, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x1024, .f32⟩
  | .hbm, ⟨57, _⟩ => ⟨S4096x1024, .f32⟩
  | .hbm, ⟨58, _⟩ => ⟨S_, .f32⟩
  | .hbm, ⟨59, _⟩ => ⟨S7x1024, .f32⟩
  | .hbm, ⟨60, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Attn.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S1024x4x256 : Shape := ⟨3, ![1024, 4, 256]⟩
abbrev S1024x1024 : Shape := ⟨2, ![1024, 1024]⟩
abbrev S4x256x1024 : Shape := ⟨3, ![4, 256, 1024]⟩
abbrev S256x4x256 : Shape := ⟨3, ![256, 4, 256]⟩
abbrev S256x1024 : Shape := ⟨2, ![256, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S8x1024 : Shape := ⟨2, ![8, 1024]⟩
abbrev S1024 : Shape := ⟨1, ![1024]⟩

abbrev nBuf : Space → Nat
  | .hbm => 38
  | .vmem => 41
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024x4x256, .f32⟩
  | .hbm, ⟨5, _⟩ => ⟨S1x256x4x256, .f32⟩
  | .hbm, ⟨6, _⟩ => ⟨S1x256x4x256, .f32⟩
  | .hbm, ⟨7, _⟩ => ⟨S1x4x256x1024, .f32⟩
  | .hbm, ⟨8, _⟩ => ⟨S1x4096x1024, .f32⟩
  | .hbm, ⟨9, _⟩ => ⟨S1024x4x256, .f32⟩
  | .hbm, ⟨10, _⟩ => ⟨S1024x1024, .f32⟩
  | .hbm, ⟨11, _⟩ => ⟨S1024x1024, .bf16⟩
  | .hbm, ⟨12, _⟩ => ⟨S4x256x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S256x4x256, .f32⟩
  | .hbm, ⟨17, _⟩ => ⟨S256x1024, .f32⟩
  | .hbm, ⟨18, _⟩ => ⟨S256x1024, .bf16⟩
  | .hbm, ⟨19, _⟩ => ⟨S256x4x256, .f32⟩
  | .hbm, ⟨20, _⟩ => ⟨S256x1024, .f32⟩
  | .hbm, ⟨21, _⟩ => ⟨S256x1024, .bf16⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S1024x1024, .bf16⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .bf16⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S256x1024, .f32⟩
  | .hbm, ⟨36, _⟩ => ⟨S256x1024, .f32⟩
  | .hbm, ⟨37, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x1024, .bf16⟩
  | .local _ .vmem, ⟨26, _⟩ => ⟨S512x1024, .bf16⟩
  | .local _ .vmem, ⟨27, _⟩ => ⟨S256x1024, .bf16⟩
  | .local _ .vmem, ⟨28, _⟩ => ⟨S256x1024, .bf16⟩
  | .local _ .vmem, ⟨29, _⟩ => ⟨S1024x1024, .bf16⟩
  | .local _ .vmem, ⟨30, _⟩ => ⟨S1024x1024, .bf16⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S256x1024, .f32⟩
  | .local _ .vmem, ⟨38, _⟩ => ⟨S256x1024, .f32⟩
  | .local _ .vmem, ⟨39, _⟩ => ⟨S8x1024, .f32⟩
  | .local _ .vmem, ⟨40, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg12_0 : Ref sig .tc := ⟨.vmem, 38, rfl⟩
abbrev cc1_stg13_0 : Ref sig .tc := ⟨.vmem, 39, rfl⟩
abbrev cc1_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem12_0 : DmaSem sig := 38
abbrev cc1_sem13_0 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S256x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== AttnReferenceIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4x256 : Shape := ⟨3, ![1024, 4, 256]⟩
abbrev S1x4096x4x256 : Shape := ⟨4, ![1, 4096, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S4x256x1024 : Shape := ⟨3, ![4, 256, 1024]⟩
abbrev S1x4x256x256 : Shape := ⟨4, ![1, 4, 256, 256]⟩
abbrev S4x4096 : Shape := ⟨2, ![4, 4096]⟩
abbrev S4096 : Shape := ⟨1, ![4096]⟩
abbrev S4096x1024 : Shape := ⟨2, ![4096, 1024]⟩
abbrev S256x1024 : Shape := ⟨2, ![256, 1024]⟩
abbrev S7x1024 : Shape := ⟨2, ![7, 1024]⟩
abbrev S8x1024 : Shape := ⟨2, ![8, 1024]⟩

abbrev nBuf : Space → Nat
  | .hbm => 171
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024x1024, .f32⟩
  | 3 => ⟨S1x1024, .f32⟩
  | 4 => ⟨S1x1024x4x256, .f32⟩
  | 5 => ⟨S1x256x4x256, .f32⟩
  | 6 => ⟨S1x256x4x256, .f32⟩
  | 7 => ⟨S1x4x256x1024, .f32⟩
  | 8 => ⟨S1x4096x1024, .f32⟩
  | 9 => ⟨S1024x1024, .f32⟩
  | 10 => ⟨S1x4096x1024, .f32⟩
  | 11 => ⟨S1x4096x1024, .f32⟩
  | 12 => ⟨S1024, .f32⟩
  | 13 => ⟨S1x4096x1024, .f32⟩
  | 14 => ⟨S_, .f32⟩
  | 15 => ⟨S1x4096, .f32⟩
  | 16 => ⟨S1x4096x1, .f32⟩
  | 17 => ⟨S_, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1, .f32⟩
  | 24 => ⟨S1x4096x1024, .f32⟩
  | 25 => ⟨S1x4096x1024, .f32⟩
  | 26 => ⟨S1x1x1024, .f32⟩
  | 27 => ⟨S1x4096x1024, .f32⟩
  | 28 => ⟨S1x4096x1024, .f32⟩
  | 29 => ⟨S1024, .f32⟩
  | 30 => ⟨S1x4096x1024, .f32⟩
  | 31 => ⟨S_, .f32⟩
  | 32 => ⟨S1x4096, .f32⟩
  | 33 => ⟨S1x4096x1, .f32⟩
  | 34 => ⟨S_, .f32⟩
  | 35 => ⟨S1x4096x1, .f32⟩
  | 36 => ⟨S1x4096x1, .f32⟩
  | 37 => ⟨S_, .f32⟩
  | 38 => ⟨S1x4096x1, .f32⟩
  | 39 => ⟨S1x4096x1, .f32⟩
  | 40 => ⟨S1x4096x1, .f32⟩
  | 41 => ⟨S1x4096x1, .f32⟩
  | 42 => ⟨S_, .f32⟩
  | 43 => ⟨S1x4096x1, .f32⟩
  | 44 => ⟨S1x4096x1, .f32⟩
  | 45 => ⟨S1x4096x1024, .f32⟩
  | 46 => ⟨S1x4096x1024, .f32⟩
  | 47 => ⟨S1x1x1024, .f32⟩
  | 48 => ⟨S1x4096x1024, .f32⟩
  | 49 => ⟨S1x4096x1024, .f32⟩
  | 50 => ⟨S1024x4x256, .f32⟩
  | 51 => ⟨S1x4096x4x256, .f32⟩
  | 52 => ⟨S1x4x4096x256, .f32⟩
  | 53 => ⟨S_, .f32⟩
  | 54 => ⟨S1x4x4096x256, .f32⟩
  | 55 => ⟨S1x4x4096x256, .f32⟩
  | 56 => ⟨S_, .f32⟩
  | 57 => ⟨S1x4x4096, .f32⟩
  | 58 => ⟨S1x4x4096x1, .f32⟩
  | 59 => ⟨S1x4x4096x256, .f32⟩
  | 60 => ⟨S1x4x4096x256, .i1⟩
  | 61 => ⟨S1x4x4096x256, .f32⟩
  | 62 => ⟨S_, .f32⟩
  | 63 => ⟨S1x4x4096, .f32⟩
  | 64 => ⟨S_, .f32⟩
  | 65 => ⟨S1x4x4096, .f32⟩
  | 66 => ⟨S1x4x4096, .f32⟩
  | 67 => ⟨S_, .f32⟩
  | 68 => ⟨S1x4x4096, .f32⟩
  | 69 => ⟨S1x4x4096, .i1⟩
  | 70 => ⟨S_, .f32⟩
  | 71 => ⟨S1x4x4096, .f32⟩
  | 72 => ⟨S1x4x4096, .i1⟩
  | 73 => ⟨S_, .f32⟩
  | 74 => ⟨S1x4x4096, .f32⟩
  | 75 => ⟨S_, .f32⟩
  | 76 => ⟨S1x4x4096, .f32⟩
  | 77 => ⟨S_, .f32⟩
  | 78 => ⟨S1x4x4096, .f32⟩
  | 79 => ⟨S1x4x4096, .f32⟩
  | 80 => ⟨S1x4x4096, .f32⟩
  | 81 => ⟨S1x4x4096x1, .f32⟩
  | 82 => ⟨S1x4x4096x256, .f32⟩
  | 83 => ⟨S1x4x4096x256, .f32⟩
  | 84 => ⟨S1x4x4096x256, .f32⟩
  | 85 => ⟨S_, .f32⟩
  | 86 => ⟨S1x4x4096, .f32⟩
  | 87 => ⟨S1x4x4096x1, .f32⟩
  | 88 => ⟨S1x4x4096x256, .f32⟩
  | 89 => ⟨S1x4x4096x256, .f32⟩
  | 90 => ⟨S1x4x4096x1, .f32⟩
  | 91 => ⟨S_, .f32⟩
  | 92 => ⟨S1x4x4096x1, .f32⟩
  | 93 => ⟨S1x4x4096x1, .f32⟩
  | 94 => ⟨S1x4x256x4096, .f32⟩
  | 95 => ⟨S1x4096x4x256, .f32⟩
  | 96 => ⟨S4x256x1024, .f32⟩
  | 97 => ⟨S1x4096x1024, .f32⟩
  | 98 => ⟨S1x4096x4x256, .f32⟩
  | 99 => ⟨S1x4x256x4096, .f32⟩
  | 100 => ⟨S1x4x4096x256, .f32⟩
  | 101 => ⟨S1x4x256x256, .f32⟩
  | 102 => ⟨S1x256x4x256, .f32⟩
  | 103 => ⟨S1x4x4096x256, .f32⟩
  | 104 => ⟨S1x4x4096x256, .f32⟩
  | 105 => ⟨S1x4x4096x256, .f32⟩
  | 106 => ⟨S_, .f32⟩
  | 107 => ⟨S1x4x4096, .f32⟩
  | 108 => ⟨S1x4x4096x1, .f32⟩
  | 109 => ⟨S1x4x4096x1, .f32⟩
  | 110 => ⟨S1x4x4096x256, .f32⟩
  | 111 => ⟨S1x4x4096x256, .f32⟩
  | 112 => ⟨S_, .f32⟩
  | 113 => ⟨S4x4096, .f32⟩
  | 114 => ⟨S1x4x4096, .f32⟩
  | 115 => ⟨S1x4x4096x256, .f32⟩
  | 116 => ⟨S1x4x4096x256, .f32⟩
  | 117 => ⟨S1x4x4096x256, .f32⟩
  | 118 => ⟨S_, .f32⟩
  | 119 => ⟨S1x4x4096x256, .f32⟩
  | 120 => ⟨S1x4x4096x256, .f32⟩
  | 121 => ⟨S1x4x256x256, .f32⟩
  | 122 => ⟨S1x256x4x256, .f32⟩
  | 123 => ⟨S1x4x4096x256, .f32⟩
  | 124 => ⟨S1x4096x4x256, .f32⟩
  | 125 => ⟨S1x4096x1024, .f32⟩
  | 126 => ⟨S1x4096x1024, .f32⟩
  | 127 => ⟨S_, .f32⟩
  | _ => ⟨S1x4096x1024, .f32⟩

abbrev hbmTy0_1 (i : Nat) : BufTy := match i % 128 with
  | 0 => ⟨S1x1024, .f32⟩
  | 1 => ⟨S1x1x1024, .f32⟩
  | 2 => ⟨S1x4096x1024, .f32⟩
  | 3 => ⟨S1x4096x1024, .f32⟩
  | 4 => ⟨S_, .f32⟩
  | 5 => ⟨S1024, .f32⟩
  | 6 => ⟨S1x4096x1024, .f32⟩
  | 7 => ⟨S_, .f32⟩
  | 8 => ⟨S1x4096, .f32⟩
  | 9 => ⟨S1x4096x1, .f32⟩
  | 10 => ⟨S1x4096x1024, .f32⟩
  | 11 => ⟨S1x4096x1024, .f32⟩
  | 12 => ⟨S1x4096x1, .f32⟩
  | 13 => ⟨S_, .f32⟩
  | 14 => ⟨S1x4096x1, .f32⟩
  | 15 => ⟨S1x4096x1, .f32⟩
  | 16 => ⟨S_, .f32⟩
  | 17 => ⟨S4096, .f32⟩
  | 18 => ⟨S1x4096, .f32⟩
  | 19 => ⟨S1x4096x1024, .f32⟩
  | 20 => ⟨S1x4096x1024, .f32⟩
  | 21 => ⟨S1x4096x1024, .f32⟩
  | 22 => ⟨S1x4096x1024, .f32⟩
  | 23 => ⟨S1x4096x1024, .f32⟩
  | 24 => ⟨S1x1024, .f32⟩
  | 25 => ⟨S1x4096x1024, .f32⟩
  | 26 => ⟨S4096x1024, .f32⟩
  | 27 => ⟨S1x4096x1024, .f32⟩
  | 28 => ⟨S4096x1024, .f32⟩
  | 29 => ⟨S4096x1024, .f32⟩
  | 30 => ⟨S4096x1024, .bf16⟩
  | 31 => ⟨S4096x1024, .f32⟩
  | 32 => ⟨S4096x1024, .bf16⟩
  | 33 => ⟨S4096x1024, .f32⟩
  | 34 => ⟨S4096x1024, .f32⟩
  | 35 => ⟨S4096x1024, .bf16⟩
  | 36 => ⟨S4096x1024, .f32⟩
  | 37 => ⟨S4096x1024, .bf16⟩
  | 38 => ⟨S256x1024, .f32⟩
  | 39 => ⟨S256x1024, .f32⟩
  | 40 => ⟨S_, .f32⟩
  | 41 => ⟨S7x1024, .f32⟩
  | 42 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_cst_22 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_23 : Ref sig .tc := ⟨.hbm, 141, rfl⟩
abbrev main_v108 : Ref sig .tc := ⟨.hbm, 142, rfl⟩
abbrev main_v109 : Ref sig .tc := ⟨.hbm, 143, rfl⟩
abbrev main_cst_24 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_25 : Ref sig .tc := ⟨.hbm, 168, rfl⟩
abbrev main_v133 : Ref sig .tc := ⟨.hbm, 169, rfl⟩
abbrev main_v134 : Ref sig .tc := ⟨.hbm, 170, rfl⟩

abbrev nD : Nat := 1
abbrev τ : Topo := Topo.v7x

variable {F : FTy → Type} [FloatOps F]
-- ==== PoolB.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S1x4096x1024 : Shape := ⟨3, ![1, 4096, 1024]⟩
abbrev S1x4096x512 : Shape := ⟨3, ![1, 4096, 512]⟩
abbrev S1x4096x4x128 : Shape := ⟨4, ![1, 4096, 4, 128]⟩
abbrev S_ : Shape := ⟨0, ![]⟩
abbrev S1x16x4x128 : Shape := ⟨4, ![1, 16, 4, 128]⟩
abbrev S1x4112x4x128 : Shape := ⟨4, ![1, 4112, 4, 128]⟩
abbrev S4096 : Shape := ⟨1, ![4096]⟩
abbrev S1x4096x1x128 : Shape := ⟨4, ![1, 4096, 1, 128]⟩
abbrev S1x4096x128 : Shape := ⟨3, ![1, 4096, 128]⟩
abbrev S1x4096x1 : Shape := ⟨3, ![1, 4096, 1]⟩
abbrev S4096x512 : Shape := ⟨2, ![4096, 512]⟩
abbrev S4096x1024 : Shape := ⟨2, ![4096, 1024]⟩
abbrev S1024x1024 : Shape := ⟨2, ![1024, 1024]⟩
abbrev S4x128x128 : Shape := ⟨3, ![4, 128, 128]⟩
abbrev S4096x2560 : Shape := ⟨2, ![4096, 2560]⟩
abbrev S8x1024 : Shape := ⟨2, ![8, 1024]⟩
abbrev S512x1024 : Shape := ⟨2, ![512, 1024]⟩
abbrev S512x512 : Shape := ⟨2, ![512, 512]⟩
abbrev S528x512 : Shape := ⟨2, ![528, 512]⟩
abbrev S16x512 : Shape := ⟨2, ![16, 512]⟩
abbrev S512x1 : Shape := ⟨2, ![512, 1]⟩
abbrev S512x128 : Shape := ⟨2, ![512, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 92
  | .vmem => 13
  | .smem => 0
  | _ => 0

abbrev bufTy : (tb : Table) → Fin (tcTables nBuf tb) → BufTy
  | .hbm, ⟨0, _⟩ => ⟨S1x4096x2560, .f32⟩
  | .hbm, ⟨1, _⟩ => ⟨S1x4x128x128, .f32⟩
  | .hbm, ⟨2, _⟩ => ⟨S1x512, .f32⟩
  | .hbm, ⟨3, _⟩ => ⟨S1x1024x1024, .f32⟩
  | .hbm, ⟨4, _⟩ => ⟨S1x4096x1024, .f32⟩
  | .hbm, ⟨5, _⟩ => ⟨S1x4096x512, .f32⟩
  | .hbm, ⟨6, _⟩ => ⟨S1x4096x4x128, .f32⟩
  | .hbm, ⟨7, _⟩ => ⟨S_, .f32⟩
  | .hbm, ⟨8, _⟩ => ⟨S_, .f32⟩
  | .hbm, ⟨9, _⟩ => ⟨S1x4096x4x128, .f32⟩
  | .hbm, ⟨10, _⟩ => ⟨S_, .f32⟩
  | .hbm, ⟨11, _⟩ => ⟨S1x16x4x128, .f32⟩
  | .hbm, ⟨12, _⟩ => ⟨S1x4112x4x128, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S1x4096x1x128, .f32⟩
  | .hbm, ⟨18, _⟩ => ⟨S1x4096x128, .f32⟩
  | .hbm, ⟨19, _⟩ => ⟨S1x4096x1x128, .f32⟩
  | .hbm, ⟨20, _⟩ => ⟨S1x4096x128, .f32⟩
  | .hbm, ⟨21, _⟩ => ⟨S1x4096x128, .f32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S1x4096x1, .f32⟩
  | .hbm, ⟨27, _⟩ => ⟨S1x4096x128, .f32⟩
  | .hbm, ⟨28, _⟩ => ⟨S1x4096x128, .f32⟩
  | .hbm, ⟨29, _⟩ => ⟨S1x4096x1x128, .f32⟩
  | .hbm, ⟨30, _⟩ => ⟨S1x4096x128, .f32⟩
  | .hbm, ⟨31, _⟩ => ⟨S1x4096x128, .f32⟩
  | .hbm, ⟨32, _⟩ => ⟨S1x4096x1x128, .f32⟩
  | .hbm, ⟨33, _⟩ => ⟨S1x4096x128, .f32⟩
  | .hbm, ⟨34, _⟩ => ⟨S1x4096x1x128, .f32⟩
  | .hbm, ⟨35, _⟩ => ⟨S1x4096x128, .f32⟩
  | .hbm, ⟨36, _⟩ => ⟨S1x4096x128, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .f32⟩
  | .hbm, ⟨41, _⟩ => ⟨S1x4096x1, .f32⟩
  | .hbm, ⟨42, _⟩ => ⟨S1x4096x128, .f32⟩
  | .hbm, ⟨43, _⟩ => ⟨S1x4096x128, .f32⟩
  | .hbm, ⟨44, _⟩ => ⟨S1x4096x1x128, .f32⟩
  | .hbm, ⟨45, _⟩ => ⟨S1x4096x128, .f32⟩
  | .hbm, ⟨46, _⟩ => ⟨S1x4096x128, .f32⟩
  | .hbm, ⟨47, _⟩ => ⟨S1x4096x1x128, .f32⟩
  | .hbm, ⟨48, _⟩ => ⟨S1x4096x128, .f32⟩
  | .hbm, ⟨49, _⟩ => ⟨S1x4096x1x128, .f32⟩
  | .hbm, ⟨50, _⟩ => ⟨S1x4096x128, .f32⟩
  | .hbm, ⟨51, _⟩ => ⟨S1x4096x128, .f32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .f32⟩
  | .hbm, ⟨56, _⟩ => ⟨S1x4096x1, .f32⟩
  | .hbm, ⟨57, _⟩ => ⟨S1x4096x128, .f32⟩
  | .hbm, ⟨58, _⟩ => ⟨S1x4096x128, .f32⟩
  | .hbm, ⟨59, _⟩ => ⟨S1x4096x1x128, .f32⟩
  | .hbm, ⟨60, _⟩ => ⟨S1x4096x128, .f32⟩
  | .hbm, ⟨61, _⟩ => ⟨S1x4096x128, .f32⟩
  | .hbm, ⟨62, _⟩ => ⟨S1x4096x1x128, .f32⟩
  | .hbm, ⟨63, _⟩ => ⟨S1x4096x128, .f32⟩
  | .hbm, ⟨64, _⟩ => ⟨S1x4096x1x128, .f32⟩
  | .hbm, ⟨65, _⟩ => ⟨S1x4096x128, .f32⟩
  | .hbm, ⟨66, _⟩ => ⟨S1x4096x128, .f32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .f32⟩
  | .hbm, ⟨71, _⟩ => ⟨S1x4096x1, .f32⟩
  | .hbm, ⟨72, _⟩ => ⟨S1x4096x128, .f32⟩
  | .hbm, ⟨73, _⟩ => ⟨S1x4096x128, .f32⟩
  | .hbm, ⟨74, _⟩ => ⟨S1x4096x1x128, .f32⟩
  | .hbm, ⟨75, _⟩ => ⟨S1x4096x128, .f32⟩
  | .hbm, ⟨76, _⟩ => ⟨S1x4096x128, .f32⟩
  | .hbm, ⟨77, _⟩ => ⟨S1x4096x1x128, .f32⟩
  | .hbm, ⟨78, _⟩ => ⟨S1x4096x1x128, .f32⟩
  | .hbm, ⟨79, _⟩ => ⟨S1x4096x1x128, .f32⟩
  | .hbm, ⟨80, _⟩ => ⟨S1x4096x1x128, .f32⟩
  | .hbm, ⟨81, _⟩ => ⟨S1x4096x4x128, .f32⟩
  | .hbm, ⟨82, _⟩ => ⟨S4096x512, .f32⟩
  | .hbm, ⟨83, _⟩ => ⟨S4096x512, .bf16⟩
  | .hbm, ⟨84, _⟩ => ⟨S4096x1024, .f32⟩
  | .hbm, ⟨85, _⟩ => ⟨S4096x1024, .bf16⟩
  | .hbm, ⟨86, _⟩ => ⟨S1024x1024, .f32⟩
  | .hbm, ⟨87, _⟩ => ⟨S1024x1024, .bf16⟩
  | .hbm, ⟨88, _⟩ => ⟨S4x128x128, .f32⟩
  | .hbm, ⟨89, _⟩ => ⟨S4096x2560, .bf16⟩
  | .hbm, ⟨90, _⟩ => ⟨S4x128x128, .f32⟩
  | .hbm, ⟨91, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S4x128x128, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S4x128x128, .f32⟩
  | .local _ .vmem, ⟨10, _⟩ => ⟨S8x1024, .f32⟩
  | .local _ .vmem, ⟨11, _⟩ => ⟨S528x512, .f32⟩
  | .local _ .vmem, ⟨12, _⟩ => ⟨S512x512, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76_0 : Ref sig .tc := ⟨.hbm, 89, rfl⟩
abbrev main_v76_1 : Ref sig .tc := ⟨.hbm, 90, rfl⟩
abbrev main_v76_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolBReferenceIdeal.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S1x4096x1024 : Shape := ⟨3, ![1, 4096, 1024]⟩
abbrev S1x4096x512 : Shape := ⟨3, ![1, 4096, 512]⟩
abbrev S4x128x128 : Shape := ⟨3, ![4, 128, 128]⟩
abbrev S512 : Shape := ⟨1, ![512]⟩
abbrev S1x4096x4x128 : Shape := ⟨4, ![1, 4096, 4, 128]⟩
abbrev S_ : Shape := ⟨0, ![]⟩
abbrev S1x16x4x128 : Shape := ⟨4, ![1, 16, 4, 128]⟩
abbrev S1x4112x4x128 : Shape := ⟨4, ![1, 4112, 4, 128]⟩
abbrev S4096 : Shape := ⟨1, ![4096]⟩
abbrev S1x4096x1x128 : Shape := ⟨4, ![1, 4096, 1, 128]⟩
abbrev S1x4096x128 : Shape := ⟨3, ![1, 4096, 128]⟩
abbrev S1x4096x1 : Shape := ⟨3, ![1, 4096, 1]⟩
abbrev S4x128x1x4096 : Shape := ⟨4, ![4, 128, 1, 4096]⟩
abbrev S1x1x512 : Shape := ⟨3, ![1, 1, 512]⟩
abbrev S1x512x1024 : Shape := ⟨3, ![1, 512, 1024]⟩
abbrev S512x1024 : Shape := ⟨2, ![512, 1024]⟩
abbrev S4x1x4096x128 : Shape := ⟨4, ![4, 1, 4096, 128]⟩
abbrev S4096x2048 : Shape := ⟨2, ![4096, 2048]⟩
abbrev S4096x512 : Shape := ⟨2, ![4096, 512]⟩
abbrev S4096x2560 : Shape := ⟨2, ![4096, 2560]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 200
  | .vmem => 0
  | .smem => 0
  | _ => 0

abbrev hbmTy0_0 (i : Nat) : BufTy := match i % 128 with
  | 0 => ⟨S1x4096x2560, .f32⟩
  | 1 => ⟨S1x4x128x128, .f32⟩
  | 2 => ⟨S1x512, .f32⟩
  | 3 => ⟨S1x1024x1024, .f32⟩
  | 4 => ⟨S1x4096x1024, .f32⟩
  | 5 => ⟨S1x4096x512, .f32⟩
  | 6 => ⟨S4x128x128, .f32⟩
  | 7 => ⟨S512, .f32⟩
  | 8 => ⟨S1x4096x4x128, .f32⟩
  | 9 => ⟨S_, .f32⟩
  | 10 => ⟨S_, .f32⟩
  | 11 => ⟨S1x4096x4x128, .f32⟩
  | 12 => ⟨S_, .f32⟩
  | 13 => ⟨S1x16x4x128, .f32⟩
  | 14 => ⟨S1x4112x4x128, .f32⟩
  | 15 => ⟨S_, .f32⟩
  | 16 => ⟨S1x16x4x128, .f32⟩
  | 17 => ⟨S4096, .i32⟩
  | 18 => ⟨S_, .i32⟩
  | 19 => ⟨S4096, .i32⟩
  | 20 => ⟨S4096, .i32⟩
  | 21 => ⟨S1x4096x1x128, .f32⟩
  | 22 => ⟨S1x4096x128, .f32⟩
  | 23 => ⟨S1x4096x1x128, .f32⟩
  | 24 => ⟨S1x4096x128, .f32⟩
  | 25 => ⟨S1x4096x128, .f32⟩
  | 26 => ⟨S_, .i32⟩
  | 27 => ⟨S4096, .i32⟩
  | 28 => ⟨S4096, .i32⟩
  | 29 => ⟨S4096, .f32⟩
  | 30 => ⟨S1x4096x1, .f32⟩
  | 31 => ⟨S1x4096x128, .f32⟩
  | 32 => ⟨S1x4096x128, .f32⟩
  | 33 => ⟨S1x4096x1x128, .f32⟩
  | 34 => ⟨S1x4096x128, .f32⟩
  | 35 => ⟨S1x4096x128, .f32⟩
  | 36 => ⟨S1x4096x1x128, .f32⟩
  | 37 => ⟨S1x4096x128, .f32⟩
  | 38 => ⟨S1x4096x1x128, .f32⟩
  | 39 => ⟨S1x4096x128, .f32⟩
  | 40 => ⟨S1x4096x128, .f32⟩
  | 41 => ⟨S_, .i32⟩
  | 42 => ⟨S4096, .i32⟩
  | 43 => ⟨S4096, .i32⟩
  | 44 => ⟨S4096, .f32⟩
  | 45 => ⟨S1x4096x1, .f32⟩
  | 46 => ⟨S1x4096x128, .f32⟩
  | 47 => ⟨S1x4096x128, .f32⟩
  | 48 => ⟨S1x4096x1x128, .f32⟩
  | 49 => ⟨S1x4096x128, .f32⟩
  | 50 => ⟨S1x4096x128, .f32⟩
  | 51 => ⟨S1x4096x1x128, .f32⟩
  | 52 => ⟨S1x4096x128, .f32⟩
  | 53 => ⟨S1x4096x1x128, .f32⟩
  | 54 => ⟨S1x4096x128, .f32⟩
  | 55 => ⟨S1x4096x128, .f32⟩
  | 56 => ⟨S_, .i32⟩
  | 57 => ⟨S4096, .i32⟩
  | 58 => ⟨S4096, .i32⟩
  | 59 => ⟨S4096, .f32⟩
  | 60 => ⟨S1x4096x1, .f32⟩
  | 61 => ⟨S1x4096x128, .f32⟩
  | 62 => ⟨S1x4096x128, .f32⟩
  | 63 => ⟨S1x4096x1x128, .f32⟩
  | 64 => ⟨S1x4096x128, .f32⟩
  | 65 => ⟨S1x4096x128, .f32⟩
  | 66 => ⟨S1x4096x1x128, .f32⟩
  | 67 => ⟨S1x4096x128, .f32⟩
  | 68 => ⟨S1x4096x1x128, .f32⟩
  | 69 => ⟨S1x4096x128, .f32⟩
  | 70 => ⟨S1x4096x128, .f32⟩
  | 71 => ⟨S_, .i32⟩
  | 72 => ⟨S4096, .i32⟩
  | 73 => ⟨S4096, .i32⟩
  | 74 => ⟨S4096, .f32⟩
  | 75 => ⟨S1x4096x1, .f32⟩
  | 76 => ⟨S1x4096x128, .f32⟩
  | 77 => ⟨S1x4096x128, .f32⟩
  | 78 => ⟨S1x4096x1x128, .f32⟩
  | 79 => ⟨S1x4096x128, .f32⟩
  | 80 => ⟨S1x4096x128, .f32⟩
  | 81 => ⟨S1x4096x1x128, .f32⟩
  | 82 => ⟨S1x4096x1x128, .f32⟩
  | 83 => ⟨S1x4096x1x128, .f32⟩
  | 84 => ⟨S1x4096x1x128, .f32⟩
  | 85 => ⟨S1x4096x4x128, .f32⟩
  | 86 => ⟨S4x128x1x4096, .f32⟩
  | 87 => ⟨S1x4096x4x128, .f32⟩
  | 88 => ⟨S1x4096x512, .f32⟩
  | 89 => ⟨S1x1x512, .f32⟩
  | 90 => ⟨S1x4096x512, .f32⟩
  | 91 => ⟨S1x4096x512, .f32⟩
  | 92 => ⟨S1x512x1024, .f32⟩
  | 93 => ⟨S512x1024, .f32⟩
  | 94 => ⟨S1x4096x512, .f32⟩
  | 95 => ⟨S1x4096x512, .f32⟩
  | 96 => ⟨S_, .f32⟩
  | 97 => ⟨S1x512, .f32⟩
  | 98 => ⟨S1x1x512, .f32⟩
  | 99 => ⟨S1x4096x512, .f32⟩
  | 100 => ⟨S1x4096x512, .f32⟩
  | 101 => ⟨S_, .f32⟩
  | 102 => ⟨S512, .f32⟩
  | 103 => ⟨S1x4096x4x128, .f32⟩
  | 104 => ⟨S4x128x1x4096, .f32⟩
  | 105 => ⟨S4x1x4096x128, .f32⟩
  | 106 => ⟨S1x4096x4x128, .f32⟩
  | 107 => ⟨S4x128x128, .f32⟩
  | 108 => ⟨S4x128x128, .f32⟩
  | 109 => ⟨S1x4096x1x128, .f32⟩
  | 110 => ⟨S1x4096x128, .f32⟩
  | 111 => ⟨S1x4096x1x128, .f32⟩
  | 112 => ⟨S1x4096x128, .f32⟩
  | 113 => ⟨S1x4096x1x128, .f32⟩
  | 114 => ⟨S1x4096x128, .f32⟩
  | 115 => ⟨S1x4096x1x128, .f32⟩
  | 116 => ⟨S1x4096x128, .f32⟩
  | 117 => ⟨S1x4096x128, .f32⟩
  | 118 => ⟨S1x4096x1x128, .f32⟩
  | 119 => ⟨S_, .f32⟩
  | 120 => ⟨S1x4096x4x128, .f32⟩
  | 121 => ⟨S1x4096x128, .f32⟩
  | 122 => ⟨S1x4096x128, .f32⟩
  | 123 => ⟨S1x4096x128, .f32⟩
  | 124 => ⟨S1x4096x1x128, .f32⟩
  | 125 => ⟨S_, .f32⟩
  | 126 => ⟨S1x4112x4x128, .f32⟩
  | 127 => ⟨S1x4096x1x128, .f32⟩
  | _ => ⟨S1x4096x2560, .f32⟩

abbrev hbmTy0_1 (i : Nat) : BufTy := match i % 128 with
  | 0 => ⟨S_, .f32⟩
  | 1 => ⟨S1x4112x4x128, .f32⟩
  | 2 => ⟨S1x4112x4x128, .f32⟩
  | 3 => ⟨S1x4096x128, .f32⟩
  | 4 => ⟨S1x4096x1x128, .f32⟩
  | 5 => ⟨S_, .f32⟩
  | 6 => ⟨S1x4096x4x128, .f32⟩
  | 7 => ⟨S1x4096x4x128, .f32⟩
  | 8 => ⟨S1x4096x128, .f32⟩
  | 9 => ⟨S1x4096x128, .f32⟩
  | 10 => ⟨S1x4096x128, .f32⟩
  | 11 => ⟨S1x4096x1x128, .f32⟩
  | 12 => ⟨S_, .f32⟩
  | 13 => ⟨S1x4112x4x128, .f32⟩
  | 14 => ⟨S1x4112x4x128, .f32⟩
  | 15 => ⟨S1x4096x1x128, .f32⟩
  | 16 => ⟨S_, .f32⟩
  | 17 => ⟨S1x4112x4x128, .f32⟩
  | 18 => ⟨S1x4112x4x128, .f32⟩
  | 19 => ⟨S1x4096x128, .f32⟩
  | 20 => ⟨S1x4096x1x128, .f32⟩
  | 21 => ⟨S_, .f32⟩
  | 22 => ⟨S1x4096x4x128, .f32⟩
  | 23 => ⟨S1x4096x4x128, .f32⟩
  | 24 => ⟨S1x4096x128, .f32⟩
  | 25 => ⟨S1x4096x128, .f32⟩
  | 26 => ⟨S1x4096x128, .f32⟩
  | 27 => ⟨S1x4096x1x128, .f32⟩
  | 28 => ⟨S_, .f32⟩
  | 29 => ⟨S1x4112x4x128, .f32⟩
  | 30 => ⟨S1x4112x4x128, .f32⟩
  | 31 => ⟨S1x4096x1x128, .f32⟩
  | 32 => ⟨S_, .f32⟩
  | 33 => ⟨S1x4112x4x128, .f32⟩
  | 34 => ⟨S1x4112x4x128, .f32⟩
  | 35 => ⟨S1x4096x128, .f32⟩
  | 36 => ⟨S1x4096x1x128, .f32⟩
  | 37 => ⟨S_, .f32⟩
  | 38 => ⟨S1x4096x4x128, .f32⟩
  | 39 => ⟨S1x4096x4x128, .f32⟩
  | 40 => ⟨S1x4096x128, .f32⟩
  | 41 => ⟨S1x4096x128, .f32⟩
  | 42 => ⟨S1x4096x128, .f32⟩
  | 43 => ⟨S1x4096x1x128, .f32⟩
  | 44 => ⟨S_, .f32⟩
  | 45 => ⟨S1x4112x4x128, .f32⟩
  | 46 => ⟨S1x4112x4x128, .f32⟩
  | 47 => ⟨S1x4096x1x128, .f32⟩
  | 48 => ⟨S_, .f32⟩
  | 49 => ⟨S1x4112x4x128, .f32⟩
  | 50 => ⟨S1x4112x4x128, .f32⟩
  | 51 => ⟨S1x16x4x128, .f32⟩
  | 52 => ⟨S1x4096x4x128, .f32⟩
  | 53 => ⟨S_, .f32⟩
  | 54 => ⟨S_, .f32⟩
  | 55 => ⟨S1x4096x4x128, .f32⟩
  | 56 => ⟨S1x4096x4x128, .f32⟩
  | 57 => ⟨S1x4096x512, .f32⟩
  | 58 => ⟨S1x512, .f32⟩
  | 59 => ⟨S1x4x128x128, .f32⟩
  | 60 => ⟨S_, .f32⟩
  | 61 => ⟨S4096x2048, .f32⟩
  | 62 => ⟨S4096x512, .f32⟩
  | 63 => ⟨S4096x2560, .f32⟩
  | 64 => ⟨S4096x2560, .bf16⟩
  | 65 => ⟨S_, .f32⟩
  | 66 => ⟨S1x512, .f32⟩
  | 67 => ⟨S1x1024, .f32⟩
  | 68 => ⟨S4x128x128, .f32⟩
  | 69 => ⟨S_, .f32⟩
  | 70 => ⟨S7x1024, .f32⟩
  | 71 => ⟨S8x1024, .f32⟩
  | _ => ⟨S1x4096x2560, .f32⟩

abbrev hbmTy (i : Nat) : BufTy := match i / 128 with
  | 0 => hbmTy0_0 i
  | 1 => hbmTy0_1 i
  | _ => ⟨S1x4096x2560, .f32⟩

abbrev bufTy : (tb : Table) → Fin (tcTables nBuf tb) → BufTy
  | .hbm, ⟨i, _⟩ => hbmTy i
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_4 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_5 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_6 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_7 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_8 : Ref sig .tc := ⟨.hbm, 125, rfl⟩
abbrev main_v108 : Ref sig .tc := ⟨.hbm, 126, rfl⟩
abbrev main_v109 : Ref sig .tc := ⟨.hbm, 127, rfl⟩
abbrev main_cst_9 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_10 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_11 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_12 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_13 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_14 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_15 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_16 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_17 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_18 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_call1_call0_cst : Ref sig .tc := ⟨.hbm, 181, rfl⟩
abbrev main_call1_call0_v0 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_19 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_20 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_21 : Ref sig .tc := ⟨.hbm, 197, rfl⟩
abbrev main_v165 : Ref sig .tc := ⟨.hbm, 198, rfl⟩
abbrev main_v166 : Ref sig .tc := ⟨.hbm, 199, rfl⟩

abbrev nD : Nat := 1
abbrev τ : Topo := Topo.v7x

variable {F : FTy → Type} [FloatOps F]
-- ==== Mlp.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S8x512x1024 : Shape := ⟨3, ![8, 512, 1024]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1 : Shape := ⟨1, ![1]⟩
abbrev S1x1 : Shape := ⟨2, ![1, 1]⟩
abbrev S256x1024 : Shape := ⟨2, ![256, 1024]⟩
abbrev S256x4096 : Shape := ⟨2, ![256, 4096]⟩
abbrev S1x512x1024 : Shape := ⟨3, ![1, 512, 1024]⟩
abbrev S256x512 : Shape := ⟨2, ![256, 512]⟩
abbrev S256 : Shape := ⟨1, ![256]⟩
abbrev S256x1 : Shape := ⟨2, ![256, 1]⟩

abbrev nBuf : Space → Nat
  | .hbm => 26
  | .vmem => 31
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1x4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S4096x1024, .f32⟩
  | .hbm, ⟨11, _⟩ => ⟨S8x512x1024, .f32⟩
  | .hbm, ⟨12, _⟩ => ⟨S8x512x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x4096, .bf16⟩
  | .hbm, ⟨20, _⟩ => ⟨S4096x1024, .bf16⟩
  | .hbm, ⟨21, _⟩ => ⟨S8x1024, .f32⟩
  | .hbm, ⟨22, _⟩ => ⟨S4096x1024, .f32⟩
  | .hbm, ⟨23, _⟩ => ⟨S4096x4096, .bf16⟩
  | .hbm, ⟨24, _⟩ => ⟨S4096x1024, .f32⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x4096, .bf16⟩
  | .local _ .vmem, ⟨13, _⟩ => ⟨S512x4096, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S256x1024, .f32⟩
  | .local _ .vmem, ⟨18, _⟩ => ⟨S256x1024, .f32⟩
  | .local _ .vmem, ⟨19, _⟩ => ⟨S256x4096, .bf16⟩
  | .local _ .vmem, ⟨20, _⟩ => ⟨S256x4096, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S8x1024x512, .bf16⟩
  | .local _ .vmem, ⟨25, _⟩ => ⟨S8x512x1024, .bf16⟩
  | .local _ .vmem, ⟨26, _⟩ => ⟨S256x4096, .bf16⟩
  | .local _ .vmem, ⟨27, _⟩ => ⟨S256x4096, .bf16⟩
  | .local _ .vmem, ⟨28, _⟩ => ⟨S256x1024, .f32⟩
  | .local _ .vmem, ⟨29, _⟩ => ⟨S256x1024, .f32⟩
  | .local _ .vmem, ⟨30, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== MlpReferenceIdeal.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩
abbrev S4096x1024 : Shape := ⟨2, ![4096, 1024]⟩
abbrev S4096 : Shape := ⟨1, ![4096]⟩
abbrev S1x1 : Shape := ⟨2, ![1, 1]⟩
abbrev S6x1024 : Shape := ⟨2, ![6, 1024]⟩
abbrev S8x1024 : Shape := ⟨2, ![8, 1024]⟩
abbrev S4096x4096 : Shape := ⟨2, ![4096, 4096]⟩
abbrev S7x1024 : Shape := ⟨2, ![7, 1024]⟩

abbrev nBuf : Space → Nat
  | .hbm => 187
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x4096, .f32⟩
  | 3 => ⟨S1x4096x1024, .f32⟩
  | 4 => ⟨S1024, .f32⟩
  | 5 => ⟨S1x4096x1024, .f32⟩
  | 6 => ⟨S1024, .f32⟩
  | 7 => ⟨S1x4096x1024, .f32⟩
  | 8 => ⟨S_, .f32⟩
  | 9 => ⟨S1x4096, .f32⟩
  | 10 => ⟨S1x4096x1, .f32⟩
  | 11 => ⟨S_, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1024, .f32⟩
  | 23 => ⟨S1x4096x1024, .f32⟩
  | 24 => ⟨S1x1x1024, .f32⟩
  | 25 => ⟨S1x4096x1024, .f32⟩
  | 26 => ⟨S1x4096x1024, .f32⟩
  | 27 => ⟨S1024x4096, .f32⟩
  | 28 => ⟨S1x4096x4096, .f32⟩
  | 29 => ⟨S_, .f32⟩
  | 30 => ⟨S1x4096x4096, .f32⟩
  | 31 => ⟨S1x4096x4096, .f32⟩
  | 32 => ⟨S_, .f32⟩
  | 33 => ⟨S1x4096x4096, .f32⟩
  | 34 => ⟨S1x4096x4096, .i1⟩
  | 35 => ⟨S_, .f32⟩
  | 36 => ⟨S1x4096x4096, .f32⟩
  | 37 => ⟨S1x4096x4096, .f32⟩
  | 38 => ⟨S_, .f32⟩
  | 39 => ⟨S1x4096x4096, .f32⟩
  | 40 => ⟨S1x4096x4096, .f32⟩
  | 41 => ⟨S4096x1024, .f32⟩
  | 42 => ⟨S1x4096x1024, .f32⟩
  | 43 => ⟨S1x4096x1024, .f32⟩
  | 44 => ⟨S1x4096x1024, .f32⟩
  | 45 => ⟨S_, .f32⟩
  | 46 => ⟨S1x4096, .f32⟩
  | 47 => ⟨S1x4096x1, .f32⟩
  | 48 => ⟨S_, .f32⟩
  | 49 => ⟨S1x4096x1, .f32⟩
  | 50 => ⟨S1x4096x1, .f32⟩
  | 51 => ⟨S_, .f32⟩
  | 52 => ⟨S1x4096x1, .f32⟩
  | 53 => ⟨S1x4096x1, .f32⟩
  | 54 => ⟨S1x4096x1, .f32⟩
  | 55 => ⟨S1x4096x1, .f32⟩
  | 56 => ⟨S_, .f32⟩
  | 57 => ⟨S1x4096x1, .f32⟩
  | 58 => ⟨S1x4096x1, .f32⟩
  | 59 => ⟨S1x4096x1024, .f32⟩
  | 60 => ⟨S1x4096x1024, .f32⟩
  | 61 => ⟨S1x1x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S_, .f32⟩
  | 67 => ⟨S1x4096x1024, .f32⟩
  | 68 => ⟨S1x4096x1024, .f32⟩
  | 69 => ⟨S_, .f32⟩
  | 70 => ⟨S1x4096, .f32⟩
  | 71 => ⟨S_, .f32⟩
  | 72 => ⟨S1x4096, .f32⟩
  | 73 => ⟨S1x4096, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1x4096, .f32⟩
  | 82 => ⟨S_, .f32⟩
  | 83 => ⟨S1x4096, .f32⟩
  | 84 => ⟨S1x4096, .f32⟩
  | 85 => ⟨S1x4096x1024, .f32⟩
  | 86 => ⟨S1x4096x1024, .f32⟩
  | 87 => ⟨S1x4096x1024, .f32⟩
  | 88 => ⟨S_, .f32⟩
  | 89 => ⟨S1x1024, .f32⟩
  | 90 => ⟨S1x1x1024, .f32⟩
  | 91 => ⟨S1x4096x1024, .f32⟩
  | 92 => ⟨S1x4096x1024, .f32⟩
  | 93 => ⟨S_, .f32⟩
  | 94 => ⟨S1024, .f32⟩
  | 95 => ⟨S1x4096x1024, .f32⟩
  | 96 => ⟨S_, .f32⟩
  | 97 => ⟨S1x4096, .f32⟩
  | 98 => ⟨S1x4096x1, .f32⟩
  | 99 => ⟨S1x4096x1024, .f32⟩
  | 100 => ⟨S1x4096x1024, .f32⟩
  | 101 => ⟨S1x4096x1, .f32⟩
  | 102 => ⟨S_, .f32⟩
  | 103 => ⟨S1x4096x1, .f32⟩
  | 104 => ⟨S1x4096x1, .f32⟩
  | 105 => ⟨S_, .f32⟩
  | 106 => ⟨S4096, .f32⟩
  | 107 => ⟨S1x4096, .f32⟩
  | 108 => ⟨S1x4096x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S1x4096x4096, .f32⟩
  | 114 => ⟨S1x4096x4096, .f32⟩
  | 115 => ⟨S_, .f32⟩
  | 116 => ⟨S1x4096x4096, .f32⟩
  | 117 => ⟨S1x4096x4096, .f32⟩
  | 118 => ⟨S1x4096x1024, .f32⟩
  | 119 => ⟨S1x4096x1024, .f32⟩
  | 120 => ⟨S_, .f32⟩
  | 121 => ⟨S1x1024, .f32⟩
  | 122 => ⟨S1x1x1024, .f32⟩
  | 123 => ⟨S1x4096x1024, .f32⟩
  | 124 => ⟨S1x4096x1024, .f32⟩
  | 125 => ⟨S_, .f32⟩
  | 126 => ⟨S1024, .f32⟩
  | 127 => ⟨S1x4096x1024, .f32⟩
  | _ => ⟨S1x4096x1024, .f32⟩

abbrev hbmTy0_1 (i : Nat) : BufTy := match i % 128 with
  | 0 => ⟨S_, .f32⟩
  | 1 => ⟨S1x4096, .f32⟩
  | 2 => ⟨S1x4096x1, .f32⟩
  | 3 => ⟨S1x4096x1024, .f32⟩
  | 4 => ⟨S1x4096x1024, .f32⟩
  | 5 => ⟨S1x4096x1, .f32⟩
  | 6 => ⟨S_, .f32⟩
  | 7 => ⟨S1x4096x1, .f32⟩
  | 8 => ⟨S1x4096x1, .f32⟩
  | 9 => ⟨S_, .f32⟩
  | 10 => ⟨S4096, .f32⟩
  | 11 => ⟨S1x4096, .f32⟩
  | 12 => ⟨S1x4096x1024, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x1024, .f32⟩
  | 18 => ⟨S_, .f32⟩
  | 19 => ⟨S1x4096x4096, .f32⟩
  | 20 => ⟨S1x4096x4096, .f32⟩
  | 21 => ⟨S1x4096x4096, .f32⟩
  | 22 => ⟨S1024, .f32⟩
  | 23 => ⟨S1x4096x1024, .f32⟩
  | 24 => ⟨S_, .f32⟩
  | 25 => ⟨S1x4096, .f32⟩
  | 26 => ⟨S1x4096x1, .f32⟩
  | 27 => ⟨S_, .f32⟩
  | 28 => ⟨S1x4096x1, .f32⟩
  | 29 => ⟨S1x4096x1, .f32⟩
  | 30 => ⟨S_, .f32⟩
  | 31 => ⟨S1x4096x1, .f32⟩
  | 32 => ⟨S1x4096x1, .f32⟩
  | 33 => ⟨S1x4096x1, .f32⟩
  | 34 => ⟨S1x4096x1024, .f32⟩
  | 35 => ⟨S1x4096x1024, .f32⟩
  | 36 => ⟨S1x1x1024, .f32⟩
  | 37 => ⟨S1x4096x1024, .f32⟩
  | 38 => ⟨S1x4096x1024, .f32⟩
  | 39 => ⟨S1x1024, .f32⟩
  | 40 => ⟨S1x1, .f32⟩
  | 41 => ⟨S1x1024, .f32⟩
  | 42 => ⟨S_, .f32⟩
  | 43 => ⟨S6x1024, .f32⟩
  | 44 => ⟨S8x1024, .f32⟩
  | 45 => ⟨S4096x1024, .f32⟩
  | 46 => ⟨S4096x1024, .f32⟩
  | 47 => ⟨S4096x1024, .bf16⟩
  | 48 => ⟨S4096x4096, .f32⟩
  | 49 => ⟨S4096x4096, .bf16⟩
  | 50 => ⟨S4096x1024, .f32⟩
  | 51 => ⟨S4096x1024, .bf16⟩
  | 52 => ⟨S4096x4096, .f32⟩
  | 53 => ⟨S4096x4096, .bf16⟩
  | 54 => ⟨S1x4096x1024, .f32⟩
  | 55 => ⟨S4096x1024, .f32⟩
  | 56 => ⟨S_, .f32⟩
  | 57 => ⟨S7x1024, .f32⟩
  | 58 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_cst_15 : Ref sig .tc := ⟨.hbm, 78, rfl⟩
abbrev main_cst_16 : Ref sig .tc := ⟨.hbm, 79, rfl⟩
abbrev main_v54 : Ref sig .tc := ⟨.hbm, 80, rfl⟩
abbrev main_v55 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_23 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_v92 : Ref sig .tc := ⟨.hbm, 127, rfl⟩
abbrev main_cst_26 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_27 : Ref sig .tc := ⟨.hbm, 134, rfl⟩
abbrev main_v98 : Ref sig .tc := ⟨.hbm, 135, rfl⟩
abbrev main_v99 : Ref sig .tc := ⟨.hbm, 136, rfl⟩
abbrev main_cst_28 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_call1_cst : Ref sig .tc := ⟨.hbm, 146, rfl⟩
abbrev main_call1_v0 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_29 : Ref sig .tc := ⟨.hbm, 152, rfl⟩
abbrev main_v112 : Ref sig .tc := ⟨.hbm, 153, rfl⟩
abbrev main_v113 : Ref sig .tc := ⟨.hbm, 154, rfl⟩
abbrev main_cst_30 : Ref sig .tc := ⟨.hbm, 155, rfl⟩
abbrev main_v114 : Ref sig .tc := ⟨.hbm, 156, rfl⟩
abbrev main_v115 : Ref sig .tc := ⟨.hbm, 157, rfl⟩
abbrev main_cst_31 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_32 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_33 : Ref sig .tc := ⟨.hbm, 184, rfl⟩
abbrev main_v140 : Ref sig .tc := ⟨.hbm, 185, rfl⟩
abbrev main_v141 : Ref sig .tc := ⟨.hbm, 186, rfl⟩

abbrev nD : Nat := 1
abbrev τ : Topo := Topo.v7x

variable {F : FTy → Type} [FloatOps F]
-- ==== InF.lean ====
abbrev S1x4096x1024 : Shape := ⟨3, ![1, 4096, 1024]⟩
abbrev S1x1024 : Shape := ⟨2, ![1, 1024]⟩
abbrev S1x1024x2560 : Shape := ⟨3, ![1, 1024, 2560]⟩
abbrev S4096x1024 : Shape := ⟨2, ![4096, 1024]⟩
abbrev S1024x2560 : Shape := ⟨2, ![1024, 2560]⟩
abbrev S2560x1024 : Shape := ⟨2, ![2560, 1024]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S4096x1024, .f32⟩
  | .hbm, ⟨4, _⟩ => ⟨S1024x2560, .f32⟩
  | .hbm, ⟨5, _⟩ => ⟨S2560x1024, .f32⟩
  | .hbm, ⟨6, _⟩ => ⟨S2560x1024, .bf16⟩
  | .hbm, ⟨7, _⟩ => ⟨S4096x2560, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFReferenceIdeal.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2560 : Shape := ⟨2, ![1024, 2560]⟩
abbrev S1x4096x2560 : Shape := ⟨3, ![1, 4096, 2560]⟩
abbrev S4096x2560 : Shape := ⟨2, ![4096, 2560]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x2560, .f32⟩
  | .hbm, ⟨21, _⟩ => ⟨S1x4096x2560, .f32⟩
  | .hbm, ⟨22, _⟩ => ⟨S4096x2560, .f32⟩
  | .hbm, ⟨23, _⟩ => ⟨S4096x1024, .f32⟩
  | .hbm, ⟨24, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== PoolF.lean ====
abbrev S1x4096x2560 : Shape := ⟨3, ![1, 4096, 2560]⟩
abbrev S1x4x128x128 : Shape := ⟨4, ![1, 4, 128, 128]⟩
abbrev S1x512 : Shape := ⟨2, ![1, 512]⟩
abbrev S4096x1024 : Shape := ⟨2, ![4096, 1024]⟩
abbrev S4096x2560 : Shape := ⟨2, ![4096, 2560]⟩
abbrev S4x128x128 : Shape := ⟨3, ![4, 128, 128]⟩
abbrev S4096x512 : Shape := ⟨2, ![4096, 512]⟩
abbrev S512x512 : Shape := ⟨2, ![512, 512]⟩
abbrev S528x512 : Shape := ⟨2, ![528, 512]⟩
abbrev S16x512 : Shape := ⟨2, ![16, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 9
  | .vmem => 9
  | .smem => 0
  | _ => 0

abbrev bufTy : (tb : Table) → Fin (tcTables nBuf tb) → BufTy
  | .hbm, ⟨0, _⟩ => ⟨S1x4096x2560, .f32⟩
  | .hbm, ⟨1, _⟩ => ⟨S1x4x128x128, .f32⟩
  | .hbm, ⟨2, _⟩ => ⟨S1x512, .f32⟩
  | .hbm, ⟨3, _⟩ => ⟨S4096x1024, .f32⟩
  | .hbm, ⟨4, _⟩ => ⟨S4096x2560, .f32⟩
  | .hbm, ⟨5, _⟩ => ⟨S4x128x128, .f32⟩
  | .hbm, ⟨6, _⟩ => ⟨S4096x1024, .bf16⟩
  | .hbm, ⟨7, _⟩ => ⟨S4096x1024, .bf16⟩
  | .hbm, ⟨8, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S4x128x128, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S528x512, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFReferenceIdeal.lean ====
abbrev S1x4096x2560 : Shape := ⟨3, ![1, 4096, 2560]⟩
abbrev S1x4x128x128 : Shape := ⟨4, ![1, 4, 128, 128]⟩
abbrev S1x512 : Shape := ⟨2, ![1, 512]⟩
abbrev S4096x1024 : Shape := ⟨2, ![4096, 1024]⟩
abbrev S1x4096x512 : Shape := ⟨3, ![1, 4096, 512]⟩
abbrev S1x4096x4x128 : Shape := ⟨4, ![1, 4096, 4, 128]⟩
abbrev S_ : Shape := ⟨0, ![]⟩
abbrev S1x16x4x128 : Shape := ⟨4, ![1, 16, 4, 128]⟩
abbrev S1x4112x4x128 : Shape := ⟨4, ![1, 4112, 4, 128]⟩
abbrev S4096 : Shape := ⟨1, ![4096]⟩
abbrev S1x4096x1x128 : Shape := ⟨4, ![1, 4096, 1, 128]⟩
abbrev S1x4096x128 : Shape := ⟨3, ![1, 4096, 128]⟩
abbrev S1x4096x1 : Shape := ⟨3, ![1, 4096, 1]⟩
abbrev S4x128x128 : Shape := ⟨3, ![4, 128, 128]⟩
abbrev S4x128x1x4096 : Shape := ⟨4, ![4, 128, 1, 4096]⟩
abbrev S512 : Shape := ⟨1, ![512]⟩
abbrev S1x1x512 : Shape := ⟨3, ![1, 1, 512]⟩
abbrev S4096x512 : Shape := ⟨2, ![4096, 512]⟩

abbrev nBuf : Space → Nat
  | .hbm => 95
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S1x4x128x128, .f32⟩
  | .hbm, ⟨2, _⟩ => ⟨S1x512, .f32⟩
  | .hbm, ⟨3, _⟩ => ⟨S4096x1024, .f32⟩
  | .hbm, ⟨4, _⟩ => ⟨S1x4096x512, .f32⟩
  | .hbm, ⟨5, _⟩ => ⟨S1x4096x4x128, .f32⟩
  | .hbm, ⟨6, _⟩ => ⟨S_, .f32⟩
  | .hbm, ⟨7, _⟩ => ⟨S_, .f32⟩
  | .hbm, ⟨8, _⟩ => ⟨S1x4096x4x128, .f32⟩
  | .hbm, ⟨9, _⟩ => ⟨S_, .f32⟩
  | .hbm, ⟨10, _⟩ => ⟨S1x16x4x128, .f32⟩
  | .hbm, ⟨11, _⟩ => ⟨S1x4112x4x128, .f32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S1x4096x1x128, .f32⟩
  | .hbm, ⟨17, _⟩ => ⟨S1x4096x128, .f32⟩
  | .hbm, ⟨18, _⟩ => ⟨S1x4096x1x128, .f32⟩
  | .hbm, ⟨19, _⟩ => ⟨S1x4096x128, .f32⟩
  | .hbm, ⟨20, _⟩ => ⟨S1x4096x128, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .f32⟩
  | .hbm, ⟨25, _⟩ => ⟨S1x4096x1, .f32⟩
  | .hbm, ⟨26, _⟩ => ⟨S1x4096x128, .f32⟩
  | .hbm, ⟨27, _⟩ => ⟨S1x4096x128, .f32⟩
  | .hbm, ⟨28, _⟩ => ⟨S1x4096x1x128, .f32⟩
  | .hbm, ⟨29, _⟩ => ⟨S1x4096x128, .f32⟩
  | .hbm, ⟨30, _⟩ => ⟨S1x4096x128, .f32⟩
  | .hbm, ⟨31, _⟩ => ⟨S1x4096x1x128, .f32⟩
  | .hbm, ⟨32, _⟩ => ⟨S1x4096x128, .f32⟩
  | .hbm, ⟨33, _⟩ => ⟨S1x4096x1x128, .f32⟩
  | .hbm, ⟨34, _⟩ => ⟨S1x4096x128, .f32⟩
  | .hbm, ⟨35, _⟩ => ⟨S1x4096x128, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .f32⟩
  | .hbm, ⟨40, _⟩ => ⟨S1x4096x1, .f32⟩
  | .hbm, ⟨41, _⟩ => ⟨S1x4096x128, .f32⟩
  | .hbm, ⟨42, _⟩ => ⟨S1x4096x128, .f32⟩
  | .hbm, ⟨43, _⟩ => ⟨S1x4096x1x128, .f32⟩
  | .hbm, ⟨44, _⟩ => ⟨S1x4096x128, .f32⟩
  | .hbm, ⟨45, _⟩ => ⟨S1x4096x128, .f32⟩
  | .hbm, ⟨46, _⟩ => ⟨S1x4096x1x128, .f32⟩
  | .hbm, ⟨47, _⟩ => ⟨S1x4096x128, .f32⟩
  | .hbm, ⟨48, _⟩ => ⟨S1x4096x1x128, .f32⟩
  | .hbm, ⟨49, _⟩ => ⟨S1x4096x128, .f32⟩
  | .hbm, ⟨50, _⟩ => ⟨S1x4096x128, .f32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .f32⟩
  | .hbm, ⟨55, _⟩ => ⟨S1x4096x1, .f32⟩
  | .hbm, ⟨56, _⟩ => ⟨S1x4096x128, .f32⟩
  | .hbm, ⟨57, _⟩ => ⟨S1x4096x128, .f32⟩
  | .hbm, ⟨58, _⟩ => ⟨S1x4096x1x128, .f32⟩
  | .hbm, ⟨59, _⟩ => ⟨S1x4096x128, .f32⟩
  | .hbm, ⟨60, _⟩ => ⟨S1x4096x128, .f32⟩
  | .hbm, ⟨61, _⟩ => ⟨S1x4096x1x128, .f32⟩
  | .hbm, ⟨62, _⟩ => ⟨S1x4096x128, .f32⟩
  | .hbm, ⟨63, _⟩ => ⟨S1x4096x1x128, .f32⟩
  | .hbm, ⟨64, _⟩ => ⟨S1x4096x128, .f32⟩
  | .hbm, ⟨65, _⟩ => ⟨S1x4096x128, .f32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .f32⟩
  | .hbm, ⟨70, _⟩ => ⟨S1x4096x1, .f32⟩
  | .hbm, ⟨71, _⟩ => ⟨S1x4096x128, .f32⟩
  | .hbm, ⟨72, _⟩ => ⟨S1x4096x128, .f32⟩
  | .hbm, ⟨73, _⟩ => ⟨S1x4096x1x128, .f32⟩
  | .hbm, ⟨74, _⟩ => ⟨S1x4096x128, .f32⟩
  | .hbm, ⟨75, _⟩ => ⟨S1x4096x128, .f32⟩
  | .hbm, ⟨76, _⟩ => ⟨S1x4096x1x128, .f32⟩
  | .hbm, ⟨77, _⟩ => ⟨S1x4096x1x128, .f32⟩
  | .hbm, ⟨78, _⟩ => ⟨S1x4096x1x128, .f32⟩
  | .hbm, ⟨79, _⟩ => ⟨S1x4096x1x128, .f32⟩
  | .hbm, ⟨80, _⟩ => ⟨S1x4096x4x128, .f32⟩
  | .hbm, ⟨81, _⟩ => ⟨S4x128x128, .f32⟩
  | .hbm, ⟨82, _⟩ => ⟨S4x128x1x4096, .f32⟩
  | .hbm, ⟨83, _⟩ => ⟨S1x4096x4x128, .f32⟩
  | .hbm, ⟨84, _⟩ => ⟨S1x4096x512, .f32⟩
  | .hbm, ⟨85, _⟩ => ⟨S512, .f32⟩
  | .hbm, ⟨86, _⟩ => ⟨S1x1x512, .f32⟩
  | .hbm, ⟨87, _⟩ => ⟨S1x4096x512, .f32⟩
  | .hbm, ⟨88, _⟩ => ⟨S1x4096x512, .f32⟩
  | .hbm, ⟨89, _⟩ => ⟨S4096x512, .f32⟩
  | .hbm, ⟨90, _⟩ => ⟨S4096x512, .f32⟩
  | .hbm, ⟨91, _⟩ => ⟨S4096x1024, .f32⟩
  | .hbm, ⟨92, _⟩ => ⟨S4096x1024, .bf16⟩
  | .hbm, ⟨93, _⟩ => ⟨S4096x512, .f32⟩
  | .hbm, ⟨94, _⟩ => ⟨S4096x512, .bf16⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_3 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩

abbrev nD : Nat := 1
abbrev τ : Topo := Topo.v7x

variable {F : FTy → Type} [FloatOps F]
-- ==== Wgrad.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradReferenceIdeal.lean ====
abbrev S4096x4096 : Shape := ⟨2, ![4096, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumAdam.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SumAdamReferenceIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Sums.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SumsReferenceIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Adam.lean ====
abbrev S1x128x4x256 : Shape := ⟨4, ![1, 128, 4, 256]⟩
abbrev S1024x128 : Shape := ⟨2, ![1024, 128]⟩
abbrev S1x4x256x128 : Shape := ⟨4, ![1, 4, 256, 128]⟩

abbrev nBuf : Space → Nat
  | .hbm => 31
  | .vmem => 28
  | .smem => 0
  | _ => 0

abbrev bufTy : (tb : Table) → Fin (tcTables nBuf tb) → BufTy
  | .hbm, ⟨0, _⟩ => ⟨S1x128x4x256, .f32⟩
  | .hbm, ⟨1, _⟩ => ⟨S1x128x4x256, .f32⟩
  | .hbm, ⟨2, _⟩ => ⟨S1x128x4x256, .f32⟩
  | .hbm, ⟨3, _⟩ => ⟨S1x128x4x256, .f32⟩
  | .hbm, ⟨4, _⟩ => ⟨S1x128x4x256, .f32⟩
  | .hbm, ⟨5, _⟩ => ⟨S1x128x4x256, .f32⟩
  | .hbm, ⟨6, _⟩ => ⟨S1x128x4x256, .f32⟩
  | .hbm, ⟨7, _⟩ => ⟨S1x128x4x256, .f32⟩
  | .hbm, ⟨8, _⟩ => ⟨S1x128x4x256, .f32⟩
  | .hbm, ⟨9, _⟩ => ⟨S1x128x4x256, .f32⟩
  | .hbm, ⟨10, _⟩ => ⟨S1x128x4x256, .f32⟩
  | .hbm, ⟨11, _⟩ => ⟨S1x128x4x256, .f32⟩
  | .hbm, ⟨12, _⟩ => ⟨S1024x128, .f32⟩
  | .hbm, ⟨13, _⟩ => ⟨S1x4x256x128, .f32⟩
  | .hbm, ⟨14, _⟩ => ⟨S1x4x256x128, .f32⟩
  | .hbm, ⟨15, _⟩ => ⟨S1x4x256x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1x128x4x256, .f32⟩
  | .hbm, ⟨20, _⟩ => ⟨S1x128x4x256, .f32⟩
  | .hbm, ⟨21, _⟩ => ⟨S1x128x4x256, .f32⟩
  | .hbm, ⟨22, _⟩ => ⟨S1x128x4x256, .f32⟩
  | .hbm, ⟨23, _⟩ => ⟨S1x128x4x256, .f32⟩
  | .hbm, ⟨24, _⟩ => ⟨S1x128x4x256, .f32⟩
  | .hbm, ⟨25, _⟩ => ⟨S1x128x4x256, .f32⟩
  | .hbm, ⟨26, _⟩ => ⟨S1x128x4x256, .f32⟩
  | .hbm, ⟨27, _⟩ => ⟨S1x128x4x256, .f32⟩
  | .hbm, ⟨28, _⟩ => ⟨S1024x128, .f32⟩
  | .hbm, ⟨29, _⟩ => ⟨S1024x128, .f32⟩
  | .hbm, ⟨30, _⟩ => ⟨S1024x128, .f32⟩
  | .local _ .vmem, ⟨0, _⟩ => ⟨S1x128x4x256, .f32⟩
  | .local _ .vmem, ⟨1, _⟩ => ⟨S1x128x4x256, .f32⟩
  | .local _ .vmem, ⟨2, _⟩ => ⟨S1x128x4x256, .f32⟩
  | .local _ .vmem, ⟨3, _⟩ => ⟨S1x128x4x256, .f32⟩
  | .local _ .vmem, ⟨4, _⟩ => ⟨S1x128x4x256, .f32⟩
  | .local _ .vmem, ⟨5, _⟩ => ⟨S1x128x4x256, .f32⟩
  | .local _ .vmem, ⟨6, _⟩ => ⟨S1x128x4x256, .f32⟩
  | .local _ .vmem, ⟨7, _⟩ => ⟨S1x128x4x256, .f32⟩
  | .local _ .vmem, ⟨8, _⟩ => ⟨S1x128x4x256, .f32⟩
  | .local _ .vmem, ⟨9, _⟩ => ⟨S1x128x4x256, .f32⟩
  | .local _ .vmem, ⟨10, _⟩ => ⟨S1x128x4x256, .f32⟩
  | .local _ .vmem, ⟨11, _⟩ => ⟨S1x128x4x256, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x128x4x256, .f32⟩
  | .local _ .vmem, ⟨17, _⟩ => ⟨S1x128x4x256, .f32⟩
  | .local _ .vmem, ⟨18, _⟩ => ⟨S1x128x4x256, .f32⟩
  | .local _ .vmem, ⟨19, _⟩ => ⟨S1x128x4x256, .f32⟩
  | .local _ .vmem, ⟨20, _⟩ => ⟨S1x128x4x256, .f32⟩
  | .local _ .vmem, ⟨21, _⟩ => ⟨S1x128x4x256, .f32⟩
  | .local _ .vmem, ⟨22, _⟩ => ⟨S1x128x4x256, .f32⟩
  | .local _ .vmem, ⟨23, _⟩ => ⟨S1x128x4x256, .f32⟩
  | .local _ .vmem, ⟨24, _⟩ => ⟨S1x128x4x256, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S1x128x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v3_4 : Ref sig .tc := ⟨.hbm, 23, rfl⟩
abbrev main_v3_5 : Ref sig .tc := ⟨.hbm, 24, rfl⟩
abbrev main_v3_6 : Ref sig .tc := ⟨.hbm, 25, rfl⟩
abbrev main_v3_7 : Ref sig .tc := ⟨.hbm, 26, rfl⟩
abbrev main_v3_8 : Ref sig .tc := ⟨.hbm, 27, rfl⟩
abbrev main_v3_9 : Ref sig .tc := ⟨.hbm, 28, rfl⟩
abbrev main_v3_10 : Ref sig .tc := ⟨.hbm, 29, rfl⟩
abbrev main_v3_11 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x128x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128x4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128x4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128x4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128x4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128x4x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128x4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128x4x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128x4x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128x4x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128x4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128x4x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128x4x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x128x4x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1024x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1024x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamReferenceIdeal.lean ====
abbrev S1x128x4x256 : Shape := ⟨4, ![1, 128, 4, 256]⟩
abbrev S1024x128 : Shape := ⟨2, ![1024, 128]⟩
abbrev S1x4x256x128 : Shape := ⟨4, ![1, 4, 256, 128]⟩
abbrev S_ : Shape := ⟨0, ![]⟩

abbrev nBuf : Space → Nat
  | .hbm => 152
  | .vmem => 0
  | .smem => 0
  | _ => 0

abbrev hbmTy0_0 (i : Nat) : BufTy := match i % 128 with
  | 0 => ⟨S1x128x4x256, .f32⟩
  | 1 => ⟨S1x128x4x256, .f32⟩
  | 2 => ⟨S1x128x4x256, .f32⟩
  | 3 => ⟨S1x128x4x256, .f32⟩
  | 4 => ⟨S1x128x4x256, .f32⟩
  | 5 => ⟨S1x128x4x256, .f32⟩
  | 6 => ⟨S1x128x4x256, .f32⟩
  | 7 => ⟨S1x128x4x256, .f32⟩
  | 8 => ⟨S1x128x4x256, .f32⟩
  | 9 => ⟨S1x128x4x256, .f32⟩
  | 10 => ⟨S1x128x4x256, .f32⟩
  | 11 => ⟨S1x128x4x256, .f32⟩
  | 12 => ⟨S1024x128, .f32⟩
  | 13 => ⟨S1x4x256x128, .f32⟩
  | 14 => ⟨S1x4x256x128, .f32⟩
  | 15 => ⟨S1x4x256x128, .f32⟩
  | 16 => ⟨S1x4x256x128, .f32⟩
  | 17 => ⟨S_, .f32⟩
  | 18 => ⟨S1x4x256x128, .f32⟩
  | 19 => ⟨S1x4x256x128, .f32⟩
  | 20 => ⟨S_, .f32⟩
  | 21 => ⟨S1x4x256x128, .f32⟩
  | 22 => ⟨S1x4x256x128, .f32⟩
  | 23 => ⟨S1x4x256x128, .f32⟩
  | 24 => ⟨S_, .f32⟩
  | 25 => ⟨S1x4x256x128, .f32⟩
  | 26 => ⟨S1x4x256x128, .f32⟩
  | 27 => ⟨S1x4x256x128, .f32⟩
  | 28 => ⟨S_, .f32⟩
  | 29 => ⟨S1x4x256x128, .f32⟩
  | 30 => ⟨S1x4x256x128, .f32⟩
  | 31 => ⟨S1x4x256x128, .f32⟩
  | 32 => ⟨S_, .f32⟩
  | 33 => ⟨S1x4x256x128, .f32⟩
  | 34 => ⟨S1x4x256x128, .f32⟩
  | 35 => ⟨S_, .f32⟩
  | 36 => ⟨S1x4x256x128, .f32⟩
  | 37 => ⟨S1x4x256x128, .f32⟩
  | 38 => ⟨S1x4x256x128, .f32⟩
  | 39 => ⟨S_, .f32⟩
  | 40 => ⟨S1x4x256x128, .f32⟩
  | 41 => ⟨S1x4x256x128, .f32⟩
  | 42 => ⟨S1x4x256x128, .f32⟩
  | 43 => ⟨S_, .f32⟩
  | 44 => ⟨S1x4x256x128, .f32⟩
  | 45 => ⟨S1x4x256x128, .f32⟩
  | 46 => ⟨S1x4x256x128, .f32⟩
  | 47 => ⟨S_, .f32⟩
  | 48 => ⟨S1x4x256x128, .f32⟩
  | 49 => ⟨S1x4x256x128, .f32⟩
  | 50 => ⟨S_, .f32⟩
  | 51 => ⟨S1x128x4x256, .f32⟩
  | 52 => ⟨S1x128x4x256, .f32⟩
  | 53 => ⟨S_, .f32⟩
  | 54 => ⟨S1x128x4x256, .f32⟩
  | 55 => ⟨S1x128x4x256, .f32⟩
  | 56 => ⟨S1x128x4x256, .f32⟩
  | 57 => ⟨S_, .f32⟩
  | 58 => ⟨S1x128x4x256, .f32⟩
  | 59 => ⟨S1x128x4x256, .f32⟩
  | 60 => ⟨S1x128x4x256, .f32⟩
  | 61 => ⟨S_, .f32⟩
  | 62 => ⟨S1x128x4x256, .f32⟩
  | 63 => ⟨S1x128x4x256, .f32⟩
  | 64 => ⟨S1x128x4x256, .f32⟩
  | 65 => ⟨S_, .f32⟩
  | 66 => ⟨S1x128x4x256, .f32⟩
  | 67 => ⟨S1x128x4x256, .f32⟩
  | 68 => ⟨S_, .f32⟩
  | 69 => ⟨S1x128x4x256, .f32⟩
  | 70 => ⟨S1x128x4x256, .f32⟩
  | 71 => ⟨S1x128x4x256, .f32⟩
  | 72 => ⟨S_, .f32⟩
  | 73 => ⟨S1x128x4x256, .f32⟩
  | 74 => ⟨S1x128x4x256, .f32⟩
  | 75 => ⟨S1x128x4x256, .f32⟩
  | 76 => ⟨S_, .f32⟩
  | 77 => ⟨S1x128x4x256, .f32⟩
  | 78 => ⟨S1x128x4x256, .f32⟩
  | 79 => ⟨S1x128x4x256, .f32⟩
  | 80 => ⟨S_, .f32⟩
  | 81 => ⟨S1x128x4x256, .f32⟩
  | 82 => ⟨S1x128x4x256, .f32⟩
  | 83 => ⟨S_, .f32⟩
  | 84 => ⟨S1x128x4x256, .f32⟩
  | 85 => ⟨S1x128x4x256, .f32⟩
  | 86 => ⟨S_, .f32⟩
  | 87 => ⟨S1x128x4x256, .f32⟩
  | 88 => ⟨S1x128x4x256, .f32⟩
  | 89 => ⟨S1x128x4x256, .f32⟩
  | 90 => ⟨S_, .f32⟩
  | 91 => ⟨S1x128x4x256, .f32⟩
  | 92 => ⟨S1x128x4x256, .f32⟩
  | 93 => ⟨S1x128x4x256, .f32⟩
  | 94 => ⟨S_, .f32⟩
  | 95 => ⟨S1x128x4x256, .f32⟩
  | 96 => ⟨S1x128x4x256, .f32⟩
  | 97 => ⟨S1x128x4x256, .f32⟩
  | 98 => ⟨S_, .f32⟩
  | 99 => ⟨S1x128x4x256, .f32⟩
  | 100 => ⟨S1x128x4x256, .f32⟩
  | 101 => ⟨S_, .f32⟩
  | 102 => ⟨S1x128x4x256, .f32⟩
  | 103 => ⟨S1x128x4x256, .f32⟩
  | 104 => ⟨S1x128x4x256, .f32⟩
  | 105 => ⟨S_, .f32⟩
  | 106 => ⟨S1x128x4x256, .f32⟩
  | 107 => ⟨S1x128x4x256, .f32⟩
  | 108 => ⟨S1x128x4x256, .f32⟩
  | 109 => ⟨S_, .f32⟩
  | 110 => ⟨S1x128x4x256, .f32⟩
  | 111 => ⟨S1x128x4x256, .f32⟩
  | 112 => ⟨S1x128x4x256, .f32⟩
  | 113 => ⟨S_, .f32⟩
  | 114 => ⟨S1x128x4x256, .f32⟩
  | 115 => ⟨S1x128x4x256, .f32⟩
  | 116 => ⟨S_, .f32⟩
  | 117 => ⟨S1x128x4x256, .f32⟩
  | 118 => ⟨S1x128x4x256, .f32⟩
  | 119 => ⟨S_, .f32⟩
  | 120 => ⟨S1x128x4x256, .f32⟩
  | 121 => ⟨S1x128x4x256, .f32⟩
  | 122 => ⟨S1x128x4x256, .f32⟩
  | 123 => ⟨S_, .f32⟩
  | 124 => ⟨S1x128x4x256, .f32⟩
  | 125 => ⟨S1x128x4x256, .f32⟩
  | 126 => ⟨S1x128x4x256, .f32⟩
  | 127 => ⟨S_, .f32⟩
  | _ => ⟨S1x128x4x256, .f32⟩

abbrev hbmTy0_1 (i : Nat) : BufTy := match i % 128 with
  | 0 => ⟨S1x128x4x256, .f32⟩
  | 1 => ⟨S1x128x4x256, .f32⟩
  | 2 => ⟨S1x128x4x256, .f32⟩
  | 3 => ⟨S_, .f32⟩
  | 4 => ⟨S1x128x4x256, .f32⟩
  | 5 => ⟨S1x128x4x256, .f32⟩
  | 6 => ⟨S_, .f32⟩
  | 7 => ⟨S1x128x4x256, .f32⟩
  | 8 => ⟨S1x128x4x256, .f32⟩
  | 9 => ⟨S1x128x4x256, .f32⟩
  | 10 => ⟨S_, .f32⟩
  | 11 => ⟨S1x128x4x256, .f32⟩
  | 12 => ⟨S1x128x4x256, .f32⟩
  | 13 => ⟨S1x128x4x256, .f32⟩
  | 14 => ⟨S_, .f32⟩
  | 15 => ⟨S1x128x4x256, .f32⟩
  | 16 => ⟨S1x128x4x256, .f32⟩
  | 17 => ⟨S1x128x4x256, .f32⟩
  | 18 => ⟨S_, .f32⟩
  | 19 => ⟨S1x128x4x256, .f32⟩
  | 20 => ⟨S1x128x4x256, .f32⟩
  | 21 => ⟨S1024x128, .f32⟩
  | 22 => ⟨S1024x128, .f32⟩
  | 23 => ⟨S1024x128, .f32⟩
  | _ => ⟨S1x128x4x256, .f32⟩

abbrev hbmTy (i : Nat) : BufTy := match i / 128 with
  | 0 => hbmTy0_0 i
  | 1 => hbmTy0_1 i
  | _ => ⟨S1x128x4x256, .f32⟩

abbrev bufTy : (tb : Table) → Fin (tcTables nBuf tb) → BufTy
  | .hbm, ⟨i, _⟩ => hbmTy i
  | _, _ => ⟨S1x128x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_10 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_11 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_12 : Ref sig .tc := ⟨.hbm, 65, rfl⟩
abbrev main_v36 : Ref sig .tc := ⟨.hbm, 66, rfl⟩
abbrev main_v37 : Ref sig .tc := ⟨.hbm, 67, rfl⟩
abbrev main_cst_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_14 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_15 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_16 : Ref sig .tc := ⟨.hbm, 80, rfl⟩
abbrev main_v47 : Ref sig .tc := ⟨.hbm, 81, rfl⟩
abbrev main_v48 : Ref sig .tc := ⟨.hbm, 82, rfl⟩
abbrev main_cst_17 : Ref sig .tc := ⟨.hbm, 83, rfl⟩
abbrev main_v49 : Ref sig .tc := ⟨.hbm, 84, rfl⟩
abbrev main_v50 : Ref sig .tc := ⟨.hbm, 85, rfl⟩
abbrev main_cst_18 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_19 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_20 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_21 : Ref sig .tc := ⟨.hbm, 98, rfl⟩
abbrev main_v60 : Ref sig .tc := ⟨.hbm, 99, rfl⟩
abbrev main_v61 : Ref sig .tc := ⟨.hbm, 100, rfl⟩
abbrev main_cst_22 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_23 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_24 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_25 : Ref sig .tc := ⟨.hbm, 113, rfl⟩
abbrev main_v71 : Ref sig .tc := ⟨.hbm, 114, rfl⟩
abbrev main_v72 : Ref sig .tc := ⟨.hbm, 115, rfl⟩
abbrev main_cst_26 : Ref sig .tc := ⟨.hbm, 116, rfl⟩
abbrev main_v73 : Ref sig .tc := ⟨.hbm, 117, rfl⟩
abbrev main_v74 : Ref sig .tc := ⟨.hbm, 118, rfl⟩
abbrev main_cst_27 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_28 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_29 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_30 : Ref sig .tc := ⟨.hbm, 131, rfl⟩
abbrev main_v84 : Ref sig .tc := ⟨.hbm, 132, rfl⟩
abbrev main_v85 : Ref sig .tc := ⟨.hbm, 133, rfl⟩
abbrev main_cst_31 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_32 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_33 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_34 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩

abbrev nD : Nat := 1
abbrev τ : Topo := Topo.v7x

variable {F : FTy → Type} [FloatOps F]
-- ==== Proof.Common.lean ====
module

public import Idealize.ShloMosaic.Lib.Pipeline.ValueKit
public import Idealize.ShloMosaic.Lib.Pointwise

/-! Small facts shared by the values: a stored part read back over earlier stores, a sum over two axes, a sum over a
    split axis. -/

@[expose] public section

noncomputable section

namespace Cert.Common

open Idealize.ShloMosaic

/-- Read back at `y`: the last stored part where it holds `y`, the earlier stores elsewhere. -/
theorem canon_top {Val : EltTy → Type} {S : Shape} {e : EltTy} [∀ e, Nonempty (Val e)] (off size : Fin S.rank → Nat)
    (inb : ∀ a, off a + size a ≤ S.size a) (w : (Rect.unit off size inb).shape.Idx → Val e) (L : List (View.Piece Val S e)) (y : S.Idx) :
    View.canon (⟨Rect.unit off size inb, w⟩ :: L) y
      = if h : ∀ a, off a ≤ y a ∧ (y a : Nat) < off a + size a then
          w (fun a => ⟨y a - off a, by have := h a; show _ < size a; omega⟩)
        else View.canon L y := by
  split
  · next h =>
    have e : y = (Rect.unit off size inb).emb (fun a => ⟨y a - off a, by have := h a; show _ < size a; omega⟩) := by
      funext a
      apply Fin.ext
      show (y a : Nat) = off a + 1 * (y a - off a)
      have := h a
      omega
    conv_lhs => rw [e]
    exact View.canon_cons_emb _ _ _ _
  · next h =>
    refine View.canon_cons_of_not_mem _ _ fun hm => h fun a => ?_
    exact (Rect.mem_set_unit (inb := inb)).mp hm a

/-- One row stored over a fill of the whole. -/
theorem canon_row {Val : EltTy → Type} {e : EltTy} [∀ e, Nonempty (Val e)] {R n : Nat}
    (inb : ∀ a, (![0, 0] : Fin 2 → Nat) a + (![1, n] : Fin 2 → Nat) a ≤ (⟨2, ![R, n]⟩ : Shape).size a)
    (inb' : ∀ a, (![0, 0] : Fin 2 → Nat) a + (![R, n] : Fin 2 → Nat) a ≤ (⟨2, ![R, n]⟩ : Shape).size a)
    (w : (⟨2, ![1, n]⟩ : Shape).Idx → Val e) (f : (⟨2, ![R, n]⟩ : Shape).Idx → Val e) (y : (⟨2, ![R, n]⟩ : Shape).Idx) :
    View.canon (s := ⟨2, ![R, n]⟩) [⟨Rect.unit ![0, 0] ![1, n] inb, w⟩, ⟨Rect.unit ![0, 0] ![R, n] inb', f⟩] y
      = if (y 0 : Nat) < 1 then w (ix2 0 (y 1)) else f y := by
  have h1 : (y 1 : Nat) < n := (y 1).isLt
  have h0 : (y 0 : Nat) < R := (y 0).isLt
  rw [canon_top (S := ⟨2, ![R, n]⟩) ![0, 0] ![1, n], canon_top (S := ⟨2, ![R, n]⟩) ![0, 0] ![R, n]]
  by_cases h : (y 0 : Nat) < 1
  · rw [if_pos h, dif_pos (fun a => by match a with
      | ⟨0, _⟩ => exact ⟨Nat.zero_le _, by show (y 0 : Nat) < 0 + 1; omega⟩
      | ⟨1, _⟩ => exact ⟨Nat.zero_le _, by show (y 1 : Nat) < 0 + n; omega⟩)]
    congr 1
    funext a
    apply Fin.ext
    match a with
    | ⟨0, _⟩ => show (y 0 : Nat) - 0 = 0; omega
    | ⟨1, _⟩ => rfl
  · rw [if_neg h, dif_neg (fun hh => h (by have := (hh 0).2; exact this)), dif_pos (fun a => by match a with
      | ⟨0, _⟩ => exact ⟨Nat.zero_le _, by show (y 0 : Nat) < 0 + R; omega⟩
      | ⟨1, _⟩ => exact ⟨Nat.zero_le _, by show (y 1 : Nat) < 0 + n; omega⟩)]
    congr 1
    funext a
    apply Fin.ext
    match a with
    | ⟨0, _⟩ => rfl
    | ⟨1, _⟩ => rfl

/-- Read back at `y` after a stored part: the part where it holds `y`, what was there elsewhere. -/
theorem writes_top {sig : RefSig} {κ : Kind} {sp : Space} {Val : EltTy → Type} {S : Shape} {e : EltTy} (v : View sig κ sp S e) (f : v.ty.Contents Val)
    (off size : Fin S.rank → Nat) (inb : ∀ a, off a + size a ≤ S.size a) (w : (Rect.unit off size inb).shape.Idx → Val e)
    (L : List (View.Piece Val S e)) (y : S.Idx) :
    v.read Val (v.writes Val f (⟨Rect.unit off size inb, w⟩ :: L)) y
      = if h : ∀ a, off a ≤ y a ∧ (y a : Nat) < off a + size a then
          w (fun a => ⟨y a - off a, by have := h a; show _ < size a; omega⟩)
        else v.read Val (v.writes Val f L) y := by
  split
  · next h =>
    have e : y = (Rect.unit off size inb).emb (fun a => ⟨y a - off a, by have := h a; show _ < size a; omega⟩) := by
      funext a
      apply Fin.ext
      show (y a : Nat) = off a + 1 * (y a - off a)
      have := h a
      omega
    conv_lhs => rw [e]
    exact View.read_writes_cons_emb _ _ _ _ _ _
  · next h =>
    have hn : y ∉ (Rect.unit off size inb).set := fun hm => h fun a => (Rect.mem_set_unit (inb := inb)).mp hm a
    have hn' : y ∉ Finset.univ.map (Rect.unit off size inb).emb := by rwa [Rect.map_emb_univ]
    rw [View.writes_cons, View.read_slice_write_of_not_mem _ _ _ _ hn']

/-- One row stored into an array. -/
theorem writes_row {sig : RefSig} {κ : Kind} {sp : Space} {Val : EltTy → Type} {e : EltTy} {R n : Nat} (mr : Memref sig κ sp ⟨2, ![R, n]⟩ e) (h : mr.IsWhole)
    (X : (⟨2, ![R, n]⟩ : Shape).Idx → Val e)
    (inb : ∀ a, (![0, 0] : Fin 2 → Nat) a + (![1, n] : Fin 2 → Nat) a ≤ (⟨2, ![R, n]⟩ : Shape).size a)
    (w : (⟨2, ![1, n]⟩ : Shape).Idx → Val e) (y : (⟨2, ![R, n]⟩ : Shape).Idx) :
    mr.view.read Val (mr.view.writes Val (h.unread X) [⟨Rect.unit ![0, 0] ![1, n] inb, w⟩]) y
      = if (y 0 : Nat) < 1 then w (ix2 0 (y 1)) else X y := by
  have h1 : (y 1 : Nat) < n := (y 1).isLt
  have h0 : (y 0 : Nat) < R := (y 0).isLt
  rw [writes_top (S := ⟨2, ![R, n]⟩) mr.view _ ![0, 0] ![1, n]]
  by_cases h : (y 0 : Nat) < 1
  · rw [if_pos h, dif_pos (fun a => by match a with
      | ⟨0, _⟩ => exact ⟨Nat.zero_le _, by show (y 0 : Nat) < 0 + 1; omega⟩
      | ⟨1, _⟩ => exact ⟨Nat.zero_le _, by show (y 1 : Nat) < 0 + n; omega⟩)]
    congr 1
    funext a
    apply Fin.ext
    match a with
    | ⟨0, _⟩ => show (y 0 : Nat) - 0 = 0; omega
    | ⟨1, _⟩ => rfl
  · rw [if_neg h, dif_neg (fun hh => h (by have := (hh 0).2; exact this)), View.writes_nil, Memref.IsWhole.read_unread]

/-- A column's head, and its place in the head. -/
def hd (j : Fin 1024) : Fin 4 := ⟨j / 256, by omega⟩

def ln (j : Fin 1024) : Fin 256 := ⟨j % 256, by omega⟩

def fl (h : Fin 4) (e : Fin 256) : Fin 1024 := ⟨256 * h + e, by omega⟩

theorem hd_fl (h : Fin 4) (e : Fin 256) : hd (fl h e) = h := Fin.ext (by show (256 * (h : Nat) + e) / 256 = h; omega)

theorem ln_fl (h : Fin 4) (e : Fin 256) : ln (fl h e) = e := Fin.ext (by show (256 * (h : Nat) + e) % 256 = e; omega)

/-- One of four column parts stored, at a column: the part in its own head, the earlier stores elsewhere. -/
theorem canon_col {Val : EltTy → Type} {e : EltTy} [∀ e, Nonempty (Val e)] {R : Nat} (h : Fin 4) (o : Nat) (ho : o = 256 * h)
    (inb : ∀ a, (![0, o] : Fin 2 → Nat) a + (![R, 256] : Fin 2 → Nat) a ≤ (⟨2, ![R, 1024]⟩ : Shape).size a)
    (w : (⟨2, ![R, 256]⟩ : Shape).Idx → Val e) (f : Fin R → Fin 256 → Val e) (hw : ∀ i k, w (ix2 i k) = f i k)
    (L : List (View.Piece Val ⟨2, ![R, 1024]⟩ e)) (i : Fin R) (j : Fin 1024) :
    View.canon (s := ⟨2, ![R, 1024]⟩) (⟨Rect.unit ![0, o] ![R, 256] inb, w⟩ :: L) (ix2 i j)
      = if hd j = h then f i (ln j) else View.canon (s := ⟨2, ![R, 1024]⟩) L (ix2 i j) := by
  have hi : (i : Nat) < R := i.isLt
  rw [canon_top (S := ⟨2, ![R, 1024]⟩) ![0, o] ![R, 256]]
  by_cases hj : hd j = h
  · have hj' : (j : Nat) / 256 = h := congrArg Fin.val hj
    rw [if_pos hj, dif_pos (fun a => by match a with
      | ⟨0, _⟩ => exact ⟨Nat.zero_le _, by show (i : Nat) < 0 + R; omega⟩
      | ⟨1, _⟩ => exact ⟨by show o ≤ (j : Nat); omega, by show (j : Nat) < o + 256; omega⟩), ← hw]
    congr 1
    funext a
    apply Fin.ext
    match a with
    | ⟨0, _⟩ => rfl
    | ⟨1, _⟩ => show (j : Nat) - o = j % 256; omega
  · have hj' : ¬ (j : Nat) / 256 = h := fun hh => hj (Fin.ext hh)
    rw [if_neg hj, dif_neg (fun hh => by
      have h1 : o ≤ (j : Nat) := (hh 1).1
      have h2 : (j : Nat) < o + 256 := (hh 1).2
      omega)]

/-- Four column parts, read back at a column. -/
theorem canon_cols {Val : EltTy → Type} {e : EltTy} [∀ e, Nonempty (Val e)] {R : Nat} (f : Fin 4 → Fin R → Fin 256 → Val e)
    (inb3 : ∀ a, (![0, 768] : Fin 2 → Nat) a + (![R, 256] : Fin 2 → Nat) a ≤ (⟨2, ![R, 1024]⟩ : Shape).size a)
    (inb2 : ∀ a, (![0, 512] : Fin 2 → Nat) a + (![R, 256] : Fin 2 → Nat) a ≤ (⟨2, ![R, 1024]⟩ : Shape).size a)
    (inb1 : ∀ a, (![0, 256] : Fin 2 → Nat) a + (![R, 256] : Fin 2 → Nat) a ≤ (⟨2, ![R, 1024]⟩ : Shape).size a)
    (inb0 : ∀ a, (![0, 0] : Fin 2 → Nat) a + (![R, 256] : Fin 2 → Nat) a ≤ (⟨2, ![R, 1024]⟩ : Shape).size a)
    (w3 w2 w1 w0 : (⟨2, ![R, 256]⟩ : Shape).Idx → Val e) (h3 : ∀ i k, w3 (ix2 i k) = f 3 i k) (h2 : ∀ i k, w2 (ix2 i k) = f 2 i k)
    (h1 : ∀ i k, w1 (ix2 i k) = f 1 i k) (h0 : ∀ i k, w0 (ix2 i k) = f 0 i k) (L : List (View.Piece Val ⟨2, ![R, 1024]⟩ e)) (i : Fin R) (j : Fin 1024) :
    View.canon (s := ⟨2, ![R, 1024]⟩) (⟨Rect.unit ![0, 768] ![R, 256] inb3, w3⟩ :: ⟨Rect.unit ![0, 512] ![R, 256] inb2, w2⟩
      :: ⟨Rect.unit ![0, 256] ![R, 256] inb1, w1⟩ :: ⟨Rect.unit ![0, 0] ![R, 256] inb0, w0⟩ :: L) (ix2 i j) = f (hd j) i (ln j) := by
  rw [canon_col 3 768 rfl inb3 w3 _ h3, canon_col 2 512 rfl inb2 w2 _ h2, canon_col 1 256 rfl inb1 w1 _ h1, canon_col 0 0 rfl inb0 w0 _ h0]
  generalize hd j = h
  match h with
  | 0 => rfl
  | 1 => rfl
  | 2 => rfl
  | 3 => rfl

/-- A load of a head's columns. -/
theorem ld_col {Val : EltTy → Type} {e : EltTy} {R : Nat} (h : Fin 4) (o : Nat) (ho : o = 256 * h)
    (inb : ∀ a, (![0, o] : Fin 2 → Nat) a + (![R, 256] : Fin 2 → Nat) a ≤ (⟨2, ![R, 1024]⟩ : Shape).size a)
    (X : (⟨2, ![R, 1024]⟩ : Shape).Idx → Val e) (i : Fin R) (k : Fin 256) :
    View.ld (S := ⟨2, ![R, 1024]⟩) X (Rect.unit ![0, o] ![R, 256] inb) (ix2 i k) = X (ix2 i (fl h k)) :=
  View.ld_unit_apply_of X _ _ inb _ _ fun a => by
    match a with
    | ⟨0, _⟩ => show (i : Nat) = 0 + i; omega
    | ⟨1, _⟩ => show 256 * (h : Nat) + k = o + k; omega

theorem drop_01 {n0 n1 n2 : Nat} {t : Shape} (h : (⟨3, ![n0, n1, n2]⟩ : Shape).ReducesTo [0, 1] t) (ht : t = ⟨1, ![n2]⟩) (j : t.Idx)
    (k : Fin n2) (hk : ∀ a, (j a : Nat) = k) (i : (⟨3, ![n0, n1, n2]⟩ : Shape).Idx) :
    h.drop i = j ↔ ∃ x : Fin n0 × Fin n1, ix3 x.1 x.2 k = i := by
  subst ht
  constructor
  · rintro rfl
    refine ⟨(i 0, i 1), ?_⟩
    funext a
    apply Fin.ext
    match a with
    | ⟨0, _⟩ => rfl
    | ⟨1, _⟩ => rfl
    | ⟨2, _⟩ => exact (hk 0).symm
  · rintro ⟨x, rfl⟩
    funext b
    apply Fin.ext
    rw [hk b]
    match b with
    | ⟨0, _⟩ => rfl

/-- A sum over the first two of three axes. -/
theorem hostReduceAdd_01 {n0 n1 n2 : Nat} {t : Shape} (h : (⟨3, ![n0, n1, n2]⟩ : Shape).ReducesTo [0, 1] t) (ht : t = ⟨1, ![n2]⟩)
    (v : (⟨3, ![n0, n1, n2]⟩ : Shape).Idx → EReal) (init : EReal) (j : t.Idx) (k : Fin n2) (hk : ∀ a, (j a : Nat) = k) :
    Ideal.hostReduceAdd h v init j = init + ∑ k0 : Fin n0, ∑ k1 : Fin n1, v (ix3 k0 k1 k) := by
  refine congrArg (init + ·) ((Finset.sum_filter_eq_sum_of_fiber _ (fun x : Fin n0 × Fin n1 => ix3 x.1 x.2 k)
    (fun _ _ e => Prod.ext (congrFun e 0) (congrFun e 1)) (drop_01 h ht j k hk) v).trans ?_)
  simp only [Fintype.sum_prod_type]

theorem drop_02 {n0 n1 n2 : Nat} {t : Shape} (h : (⟨3, ![n0, n1, n2]⟩ : Shape).ReducesTo [0, 2] t) (ht : t = ⟨1, ![n1]⟩) (j : t.Idx)
    (k : Fin n1) (hk : ∀ a, (j a : Nat) = k) (i : (⟨3, ![n0, n1, n2]⟩ : Shape).Idx) :
    h.drop i = j ↔ ∃ x : Fin n0 × Fin n2, ix3 x.1 k x.2 = i := by
  subst ht
  constructor
  · rintro rfl
    refine ⟨(i 0, i 2), ?_⟩
    funext a
    apply Fin.ext
    match a with
    | ⟨0, _⟩ => rfl
    | ⟨1, _⟩ => exact (hk 0).symm
    | ⟨2, _⟩ => rfl
  · rintro ⟨x, rfl⟩
    funext b
    apply Fin.ext
    rw [hk b]
    match b with
    | ⟨0, _⟩ => rfl

/-- A sum over the outer two of three axes. -/
theorem hostReduceAdd_02 {n0 n1 n2 : Nat} {t : Shape} (h : (⟨3, ![n0, n1, n2]⟩ : Shape).ReducesTo [0, 2] t) (ht : t = ⟨1, ![n1]⟩)
    (v : (⟨3, ![n0, n1, n2]⟩ : Shape).Idx → EReal) (init : EReal) (j : t.Idx) (k : Fin n1) (hk : ∀ a, (j a : Nat) = k) :
    Ideal.hostReduceAdd h v init j = init + ∑ k0 : Fin n0, ∑ k2 : Fin n2, v (ix3 k0 k k2) := by
  refine congrArg (init + ·) ((Finset.sum_filter_eq_sum_of_fiber _ (fun x : Fin n0 × Fin n2 => ix3 x.1 k x.2)
    (fun _ _ e => Prod.ext (congrFun e 0) (congrFun e 2)) (drop_02 h ht j k hk) v).trans ?_)
  simp only [Fintype.sum_prod_type]

theorem drop_03 {n0 n1 n2 n3 : Nat} {t : Shape} (h : (⟨4, ![n0, n1, n2, n3]⟩ : Shape).ReducesTo [0, 3] t) (ht : t = ⟨2, ![n1, n2]⟩) (j : t.Idx)
    (k : Fin n1) (l : Fin n2) (hk : ∀ a, (j a : Nat) = if (a : Nat) = 0 then k.val else l.val) (i : (⟨4, ![n0, n1, n2, n3]⟩ : Shape).Idx) :
    h.drop i = j ↔ ∃ x : Fin n0 × Fin n3, ix4 x.1 k l x.2 = i := by
  subst ht
  constructor
  · rintro rfl
    refine ⟨(i 0, i 3), ?_⟩
    funext a
    apply Fin.ext
    match a with
    | ⟨0, _⟩ => rfl
    | ⟨1, _⟩ => exact (hk 0).symm
    | ⟨2, _⟩ => exact (hk 1).symm
    | ⟨3, _⟩ => rfl
  · rintro ⟨x, rfl⟩
    funext b
    apply Fin.ext
    match b with
    | ⟨0, _⟩ => exact (hk 0).symm
    | ⟨1, _⟩ => exact (hk 1).symm

/-- The fiber of a host sum over the outer axes of rank 4, as a double sum. -/
theorem hostReduceAdd_03 {n0 n1 n2 n3 : Nat} {t : Shape} (h : (⟨4, ![n0, n1, n2, n3]⟩ : Shape).ReducesTo [0, 3] t) (ht : t = ⟨2, ![n1, n2]⟩)
    (v : (⟨4, ![n0, n1, n2, n3]⟩ : Shape).Idx → EReal) (init : EReal) (j : t.Idx) (k : Fin n1) (l : Fin n2)
    (hk : ∀ a, (j a : Nat) = if (a : Nat) = 0 then k.val else l.val) :
    Ideal.hostReduceAdd h v init j = init + ∑ k0 : Fin n0, ∑ k3 : Fin n3, v (ix4 k0 k l k3) := by
  refine congrArg (init + ·) ((Finset.sum_filter_eq_sum_of_fiber _ (fun x : Fin n0 × Fin n3 => ix4 x.1 k l x.2)
    (fun _ _ e => Prod.ext (congrFun e 0) (congrFun e 3)) (drop_03 h ht j k l hk) v).trans ?_)
  simp only [Fintype.sum_prod_type]

/-- A sum over an axis of `4 · 256` read as head and lane is the double sum. -/
theorem sum_heads {M : Type*} [AddCommMonoid M] (f : Fin 4 → Fin 256 → M) :
    ∑ x : Fin 1024, f ⟨x.val / 256, by omega⟩ ⟨x.val % 256, by omega⟩ = ∑ a : Fin 4, ∑ b : Fin 256, f a b := by
  rw [← Fintype.sum_prod_type']
  refine Fintype.sum_equiv (finProdFinEquiv (m := 4) (n := 256)).symm _ _ fun x => ?_
  rfl

/-- Below infinity in absolute value: a real. -/
theorem real_of_lt (a : EReal) (h : Ideal.cmp .olt (max a (-a)) (Ideal.ofBits .f32 0x7F800000#32) = 1#1) : ∃ x : ℝ, a = x := by
  have htop : Ideal.ofBits .f32 0x7F800000#32 = ⊤ := by simp [Ideal.ofBits, Ideal.ieee]
  rw [htop] at h
  induction a with
  | bot => exact absurd h (by simp [Ideal.cmp])
  | top => exact absurd h (by simp [Ideal.cmp])
  | coe x => exact ⟨x, rfl⟩

/-- Every entry is a real. -/
def Finite {s : Shape} (v : s.Idx → EReal) : Prop := ∀ i, ∃ x : ℝ, v i = x

theorem eta2 {a b : Nat} (y : (⟨2, ![a, b]⟩ : Shape).Idx) : y = ix2 (y 0) (y 1) := by
  funext k
  match k with
  | ⟨0, _⟩ => rfl
  | ⟨1, _⟩ => rfl

end Cert.Common

end
-- ==== Proof.KvRun.lean ====
/- The run of the keys-and-values call, forward and backward, with every buffer of the host program read back at the end. -/
module

public import proofs.«01_k».proof.Proof.Gen.KvIdeal.Frame

@[expose] public section

set_option maxRecDepth 16384

noncomputable section

namespace Cert.KvIdeal.Run

open Cert.KvIdeal Cert.KvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at what the last boundary of the program says it holds. -/
theorem ends : θ_run defs (onTc (τ := τ) (main (F := F))) ⟨m, fun _ => 0, ρ⟩ (fun r => ∀ c : Dev nD, ∀ b ∈ Pipeline.ucRefs τ sig,
      r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.KvIdeal.Run

end
-- ==== Proof.KvValue.lean ====
/- What the keys-and-values call leaves in its results, against the reference's composed terms. -/
module

public import proofs.«01_k».proof.Proof.Common
public import proofs.«01_k».proof.Proof.KvRun
public import proofs.«01_k».proof.Proof.Gen.KvReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The tokens as the first region finds them. -/
theorem tokens0 (c : Dev nD) : V1 m ρ c main_v0 = shapeCast _ (m ((c : Thread nD τ).loc main_arg0)) shapeCasts_S1x256x1024_S256x1024 := by
  show StableHlo.after hostOps0 (W0 m ρ c) (Proc.devRef .tc main_v0) = _
  after_results
  all_goals rfl

theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] :=
  (by decide +kernel : ∀ t : Fin grid1.N, _)

theorem fin0_4 (c : Dev nD) : (dat0 (V1 m ρ) c).arrAt 4 cfg0.N = k0_pay1 (V1 m ρ c main_v0) (V1 m ρ c main_arg1) := by
  refine (dat0 (V1 m ρ) c).arrAt_eq_of_after_last 4 t0_0 (by decide +kernel) _ fun j => ?_
  blk_simp
  rw [after0_4]
  frame_out
  blk_point [iblk0, idx0 t0_0]

theorem fin0_5 (c : Dev nD) : (dat0 (V1 m ρ) c).arrAt 5 cfg0.N = k0_pay2 (V1 m ρ c main_v0) (V1 m ρ c main_arg1) (V1 m ρ c main_v3) := by
  refine (dat0 (V1 m ρ) c).arrAt_eq_of_after_last 5 t0_0 (by decide +kernel) _ fun j => ?_
  blk_simp
  rw [after0_5]
  frame_out
  blk_point [iblk0, idx0 t0_0]

theorem fin0_6 (c : Dev nD) : (dat0 (V1 m ρ) c).arrAt 6 cfg0.N = k0_pay3 (V1 m ρ c main_v0) (V1 m ρ c main_arg1) (V1 m ρ c main_v6) := by
  refine (dat0 (V1 m ρ) c).arrAt_eq_of_after_last 6 t0_0 (by decide +kernel) _ fun j => ?_
  blk_simp
  rw [after0_6]
  frame_out
  blk_point [iblk0, idx0 t0_0]

theorem fin1_7 (c : Dev nD) : (dat1 (V3 m ρ) c).arrAt 7 cfg1.N = k1_pay6 (V3 m ρ c main_v9) (V3 m ρ c main_v7_0) := by
  refine (dat1 (V3 m ρ) c).arrAt_eq_of_after_last 7 t1_0 (by decide +kernel) _ fun j => ?_
  blk_simp
  rw [after1_7]
  unfold outsAt1
  frame_out
  simp only [read_unread_whole]
  blk_point [iblk1, idx1 t1_0]

theorem fin1_8 (c : Dev nD) : (dat1 (V3 m ρ) c).arrAt 8 cfg1.N = k1_pay7 (V3 m ρ c main_v11) (V3 m ρ c main_v7_0) := by
  refine (dat1 (V3 m ρ) c).arrAt_eq_of_after_last 8 t1_0 (by decide +kernel) _ fun j => ?_
  blk_simp
  rw [after1_8]
  unfold outsAt1
  frame_out
  simp only [read_unread_whole]
  blk_point [iblk1, idx1 t1_0]

/-- The small slot: the norm gain's gradient in row 0, zeros below. -/
def slot (x0 x2 x3 : FVec Ideal S256x1024 .f32) (x1 : FVec Ideal S1x1024 .f32) (w2 w3 : FVec Ideal S1024x1024 .bf16) : FVec Ideal S8x1024 .f32 :=
  fun j => if (j 0 : ℕ) < 1 then k1_pay1 (F := Ideal) (k1_pay8 x2 x3 w2 w3) (k1_pay9 x0) (ix2 0 (j 1)) else 0

theorem fin1_9 (c : Dev nD) : (dat1 (V3 m ρ) c).arrAt 9 cfg1.N
    = slot (V3 m ρ c main_v0) (V3 m ρ c main_v9) (V3 m ρ c main_v11) (V3 m ρ c main_arg1) (V3 m ρ c main_v3) (V3 m ρ c main_v6) := by
  refine (dat1 (V3 m ρ) c).arrAt_eq_of_after_last 9 t1_0 (by decide +kernel) _ fun j => ?_
  blk_simp
  rw [after1_9]
  unfold outsAt1
  frame_out
  simp only [read_unread_whole]
  refine (Common.canon_row _ _ _ _ j).trans ?_
  have e0 : iblk1 (V3 m ρ) c 0 t1_0 = V3 m ρ c main_v0 := by funext j; blk_point [iblk1, idx1 t1_0]
  have e1 : iblk1 (V3 m ρ) c 1 t1_0 = V3 m ρ c main_arg1 := by funext j; blk_point [iblk1, idx1 t1_0]
  have e3 : iblk1 (V3 m ρ) c 3 t1_0 = V3 m ρ c main_v9 := by funext j; blk_point [iblk1, idx1 t1_0]
  have e4 : iblk1 (V3 m ρ) c 4 t1_0 = V3 m ρ c main_v11 := by funext j; blk_point [iblk1, idx1 t1_0]
  have e5 : iblk1 (V3 m ρ) c 5 t1_0 = V3 m ρ c main_v3 := by funext j; blk_point [iblk1, idx1 t1_0]
  have e6 : iblk1 (V3 m ρ) c 6 t1_0 = V3 m ρ c main_v6 := by funext j; blk_point [iblk1, idx1 t1_0]
  rw [e0, e3, e4, e5, e6]
  unfold slot
  congr 1
  pointwise! [k1_pay2]

open Cert.KvReferenceIdeal.Read in
theorem hm_eq (x0 : FVec Ideal S1x256x1024 .f32) (x1 : FVec Ideal S1x1024 .f32) :
    k0_pay1 (F := Ideal) (shapeCast _ x0 shapeCasts_S1x256x1024_S256x1024) x1 = val_main_v47 (F := Ideal) x0 x1 := by
  funext j
  rw [← val_main_v47_eq]
  idx_vars j
  pointwise! [k0_pay1]

open Cert.KvReferenceIdeal.Read in
theorem k_eq (x0 : FVec Ideal S1x256x1024 .f32) (x1 : FVec Ideal S1x1024 .f32) (w : FVec Ideal S1x1024x4x256 .f32) :
    k0_pay2 (F := Ideal) (shapeCast _ x0 shapeCasts_S1x256x1024_S256x1024) x1 (truncf .bf16 (shapeCast _ (shapeCast _ w shapeCasts_S1x1024x4x256_S1024x4x256) shapeCasts_S1024x4x256_S1024x1024) bitsLt_bf16_f32) = val_main_v49 (F := Ideal) x0 x1 w := by
  funext j
  rw [← val_main_v49_eq]
  idx_vars j
  pointwise! [k0_pay1, k0_pay2]

open Cert.KvReferenceIdeal.Read in
theorem dk_eq (x0 : FVec Ideal S1x256x1024 .f32) (x1 : FVec Ideal S1x1024 .f32) (d : FVec Ideal S1x256x4x256 .f32) :
    k1_pay6 (F := Ideal) (shapeCast _ (shapeCast _ d shapeCasts_S1x256x4x256_S256x4x256) shapeCasts_S256x4x256_S256x1024)
      (k0_pay1 (F := Ideal) (shapeCast _ x0 shapeCasts_S1x256x1024_S256x1024) x1) = val_main_v53 (F := Ideal) x0 x1 d := by
  funext j
  rw [← val_main_v53_eq]
  idx_vars j
  pointwise! [k0_pay1, k1_pay6, k1_pay5, k1_pay3, Fin.sum_univ_one]

open Cert.KvReferenceIdeal.Read in
theorem v_eq (x0 : FVec Ideal S1x256x1024 .f32) (x1 : FVec Ideal S1x1024 .f32) (w : FVec Ideal S1x1024x4x256 .f32) :
    k0_pay3 (F := Ideal) (shapeCast _ x0 shapeCasts_S1x256x1024_S256x1024) x1 (truncf .bf16 (shapeCast _ (shapeCast _ w shapeCasts_S1x1024x4x256_S1024x4x256) shapeCasts_S1024x4x256_S1024x1024) bitsLt_bf16_f32) = val_main_v51 (F := Ideal) x0 x1 w := by
  funext j
  rw [← val_main_v51_eq]
  idx_vars j
  pointwise! [k0_pay1, k0_pay3]

open Cert.KvReferenceIdeal.Read in
theorem dv_eq (x0 : FVec Ideal S1x256x1024 .f32) (x1 : FVec Ideal S1x1024 .f32) (d : FVec Ideal S1x256x4x256 .f32) :
    k1_pay7 (F := Ideal) (shapeCast _ (shapeCast _ d shapeCasts_S1x256x4x256_S256x4x256) shapeCasts_S256x4x256_S256x1024)
      (k0_pay1 (F := Ideal) (shapeCast _ x0 shapeCasts_S1x256x1024_S256x1024) x1) = val_main_v55 (F := Ideal) x0 x1 d := by
  funext j
  rw [← val_main_v55_eq]
  idx_vars j
  pointwise! [k0_pay1, k1_pay7, k1_pay5, k1_pay4, Fin.sum_univ_one]

open Cert.KvReferenceIdeal.Read in
theorem row_eq (x0 : FVec Ideal S1x256x1024 .f32) (w2 w3 : FVec Ideal S1x1024x4x256 .f32) (d e : FVec Ideal S1x256x4x256 .f32) (j : Fin 1024) :
    val_main_v30 (F := Ideal) x0 w2 w3 d e (ix1 j) = val_main_v28 (F := Ideal) x0 w2 w3 d e (ix2 0 j) := by
  unfold val_main_v30
  show Ideal.hostReduceAdd _ (val_main_v29 (F := Ideal) x0 w2 w3 d e) _ _ = _
  rw [Common.hostReduceAdd_01 _ rfl _ _ (ix1 j) j (fun a => by match a with | ⟨0, _⟩ => rfl)]
  pointwise [val_main_v29, val_main_cst_3, Fin.sum_univ_one]

open Cert.KvReferenceIdeal.Read in
theorem slot_eq (x0 : FVec Ideal S1x256x1024 .f32) (x1 : FVec Ideal S1x1024 .f32) (w2 w3 : FVec Ideal S1x1024x4x256 .f32) (d e : FVec Ideal S1x256x4x256 .f32) :
    slot (shapeCast _ x0 shapeCasts_S1x256x1024_S256x1024)
      (shapeCast _ (shapeCast _ d shapeCasts_S1x256x4x256_S256x4x256) shapeCasts_S256x4x256_S256x1024)
      (shapeCast _ (shapeCast _ e shapeCasts_S1x256x4x256_S256x4x256) shapeCasts_S256x4x256_S256x1024) x1
      (truncf .bf16 (shapeCast _ (shapeCast _ w2 shapeCasts_S1x1024x4x256_S1024x4x256) shapeCasts_S1024x4x256_S1024x1024) bitsLt_bf16_f32)
      (truncf .bf16 (shapeCast _ (shapeCast _ w3 shapeCasts_S1x1024x4x256_S1024x4x256) shapeCasts_S1024x4x256_S1024x1024) bitsLt_bf16_f32)
    = val_main_v57 (F := Ideal) x0 w2 w3 d e := by
  funext j
  idx_vars j
  pointwise [val_main_v57, val_main_v56, val_main_v31]
  pointwise [row_eq, slot, k1_pay1, k1_pay8, k1_pay9, k1_pay3, k1_pay4, val_main_v28, val_main_cst_2, val_main_cst_7, val_main_v27, val_main_v25,
    val_main_v24, val_main_v20]
  split
  · refine Finset.sum_congr rfl fun x _ => ?_
    rw [Common.sum_heads (fun a b => d (ix4 0 x a b) * w2 (ix4 0 j1 a b)), Common.sum_heads (fun a b => e (ix4 0 x a b) * w3 (ix4 0 j1 a b)),
      add_comm, mul_comm]
    pointwise! [val_main_v16, val_main_v14, val_main_v10, val_main_v9, val_main_v8, val_main_v7, val_main_v6, val_main_v5, val_main_v4, val_main_v3,
      val_main_v2, val_main_v1, val_main_v0, val_main_cst, val_main_cst_0, val_main_cst_1]
  · rfl

/-! ### What each region finds -/

theorem in0_3 (c : Dev nD) : V1 m ρ c main_v3 = truncf (F := Ideal) .bf16 (shapeCast _ (shapeCast _ (m ((c : Thread nD τ).loc main_arg2)) shapeCasts_S1x1024x4x256_S1024x4x256) shapeCasts_S1024x4x256_S1024x1024) bitsLt_bf16_f32 := by
  show StableHlo.after hostOps0 (W0 m ρ c) (Proc.devRef .tc main_v3) = _
  after_results
  all_goals rfl

theorem in0_6 (c : Dev nD) : V1 m ρ c main_v6 = truncf (F := Ideal) .bf16 (shapeCast _ (shapeCast _ (m ((c : Thread nD τ).loc main_arg3)) shapeCasts_S1x1024x4x256_S1024x4x256) shapeCasts_S1024x4x256_S1024x1024) bitsLt_bf16_f32 := by
  show StableHlo.after hostOps0 (W0 m ρ c) (Proc.devRef .tc main_v6) = _
  after_results
  all_goals rfl

theorem in0_1 (c : Dev nD) : V1 m ρ c main_arg1 = m ((c : Thread nD τ).loc main_arg1) := W1_args m ρ c main_arg1 (by decide)

/-- What the second region does not get from its own host lines it finds as the first left it. -/
theorem keep (c : Dev nD) (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem in1_7 (c : Dev nD) : V3 m ρ c main_v7_0 = (dat0 (V1 m ρ) c).arrAt 4 cfg0.N :=
  (W3_of m ρ c main_v7_0 (by decide)).trans (W2_arr m ρ c 4)

theorem in1_9 (c : Dev nD) : V3 m ρ c main_v9 = shapeCast _ (shapeCast _ (m ((c : Thread nD τ).loc main_arg4)) shapeCasts_S1x256x4x256_S256x4x256) shapeCasts_S256x4x256_S256x1024 := by
  show StableHlo.after hostOps1 (W2 m ρ c) (Proc.devRef .tc main_v9) = _
  after_results
  rw [W2_args m ρ c main_arg4 (by decide)]
  rfl

theorem in1_11 (c : Dev nD) : V3 m ρ c main_v11 = shapeCast _ (shapeCast _ (m ((c : Thread nD τ).loc main_arg5)) shapeCasts_S1x256x4x256_S256x4x256) shapeCasts_S256x4x256_S256x1024 := by
  show StableHlo.after hostOps1 (W2 m ρ c) (Proc.devRef .tc main_v11) = _
  after_results
  rw [W2_args m ρ c main_arg5 (by decide)]
  rfl

/-! ### The results -/

open Cert.KvReferenceIdeal.Read

theorem res0 (c : Dev nD) : W4 m ρ c (Proc.devRef .tc main_v7_0)
    = val_main_v47 (F := Ideal) (m ((c : Thread nD τ).loc main_arg0)) (m ((c : Thread nD τ).loc main_arg1)) := by
  rw [W4_of m ρ c main_v7_0 (by decide), W3_of m ρ c main_v7_0 (by decide)]
  refine (W2_arr m ρ c 4).trans ?_
  rw [fin0_4, tokens0, in0_1]
  exact hm_eq _ _

theorem res1 (c : Dev nD) : W4 m ρ c (Proc.devRef .tc main_v7_1)
    = val_main_v49 (F := Ideal) (m ((c : Thread nD τ).loc main_arg0)) (m ((c : Thread nD τ).loc main_arg1)) (m ((c : Thread nD τ).loc main_arg2)) := by
  rw [W4_of m ρ c main_v7_1 (by decide), W3_of m ρ c main_v7_1 (by decide)]
  refine (W2_arr m ρ c 5).trans ?_
  rw [fin0_5, tokens0, in0_1, in0_3]
  exact k_eq _ _ _

theorem res2 (c : Dev nD) : W4 m ρ c (Proc.devRef .tc main_v7_2)
    = val_main_v51 (F := Ideal) (m ((c : Thread nD τ).loc main_arg0)) (m ((c : Thread nD τ).loc main_arg1)) (m ((c : Thread nD τ).loc main_arg3)) := by
  rw [W4_of m ρ c main_v7_2 (by decide), W3_of m ρ c main_v7_2 (by decide)]
  refine (W2_arr m ρ c 6).trans ?_
  rw [fin0_6, tokens0, in0_1, in0_6]
  exact v_eq _ _ _

theorem res3 (c : Dev nD) : W4 m ρ c (Proc.devRef .tc main_v12_0)
    = val_main_v53 (F := Ideal) (m ((c : Thread nD τ).loc main_arg0)) (m ((c : Thread nD τ).loc main_arg1)) (m ((c : Thread nD τ).loc main_arg4)) := by
  refine (W4_arr m ρ c 7).trans ?_
  rw [fin1_7, in1_9, in1_7, fin0_4, tokens0, in0_1]
  exact dk_eq _ _ _

theorem res4 (c : Dev nD) : W4 m ρ c (Proc.devRef .tc main_v12_1)
    = val_main_v55 (F := Ideal) (m ((c : Thread nD τ).loc main_arg0)) (m ((c : Thread nD τ).loc main_arg1)) (m ((c : Thread nD τ).loc main_arg5)) := by
  refine (W4_arr m ρ c 8).trans ?_
  rw [fin1_8, in1_11, in1_7, fin0_4, tokens0, in0_1]
  exact dv_eq _ _ _

theorem res5 (c : Dev nD) : W4 m ρ c (Proc.devRef .tc main_v12_2)
    = val_main_v57 (F := Ideal) (m ((c : Thread nD τ).loc main_arg0)) (m ((c : Thread nD τ).loc main_arg2)) (m ((c : Thread nD τ).loc main_arg3))
      (m ((c : Thread nD τ).loc main_arg4)) (m ((c : Thread nD τ).loc main_arg5)) := by
  refine (W4_arr m ρ c 9).trans ?_
  rw [fin1_9, in1_9, in1_11, keep m ρ c main_v0 (by decide) (by decide), keep m ρ c main_arg1 (by decide) (by decide),
    keep m ρ c main_v3 (by decide) (by decide), keep m ρ c main_v6 (by decide) (by decide), tokens0, in0_1, in0_3, in0_6]
  exact slot_eq _ _ _ _ _ _

end Cert.KvIdeal.Value

end
-- ==== Proof.KvClaim.lean ====
/- The claims about the pair. -/
module

public import proofs.«01_k».proof.Defs
public import proofs.«01_k».proof.Proof.KvValue
public import proofs.«01_k».proof.Proof.Gen.Kv.Frame

@[expose] public section

noncomputable section

namespace Cert.Proof.Kv

open Idealize.ShloMosaic Idealize.ShloMosaic.TcCoe Idealize.SL.Sem

theorem frame_k : Cert.quiescent_Kv := fun m ρ _ => Cert.Kv.Gen.frame m ρ

theorem frame_ki : Cert.quiescent_KvIdeal := fun m ρ _ => Cert.KvIdeal.Gen.frame m ρ

theorem frame_ri : Cert.quiescent_KvReferenceIdeal := fun m ρ _ =>
  (θ_run Cert.KvReferenceIdeal.defs _ _).mono (fun r h => ⟨fun c => (h c).2.2.2.2.2.2, sem_eq_zero_of_no_sems (by decide) r.2⟩)
    (Cert.KvReferenceIdeal.Value.run (F := Ideal) m ρ)

open Cert.KvReferenceIdeal.Read Cert.KvIdeal.Gen Cert.KvIdeal.Value in
theorem value : Cert.algebraic_KvIdeal_KvReferenceIdeal := by
  intro m g m' g' hpre hagree
  refine ⟨fun c => val_main_v47 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)),
    fun c => val_main_v49 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)),
    fun c => val_main_v51 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg3)),
    fun c => val_main_v53 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg4)),
    fun c => val_main_v55 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg5)),
    fun c => val_main_v57 (F := Ideal) (m ((c.tc : Thread Cert.KvIdeal.nD Cert.KvIdeal.τ).loc Cert.KvIdeal.main_arg0)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)),
    (θ_run Cert.KvIdeal.defs _ _).mono (fun r h c => ?_) (Cert.KvIdeal.Run.ends (F := Ideal) m g),
    (θ_run Cert.KvReferenceIdeal.defs _ _).mono (fun r h c => ?_) (Cert.KvReferenceIdeal.Value.run (F := Ideal) m' g')⟩
  · exact ⟨(h c _ (mem_uc _ (by decide))).trans (res0 m g c),
      (h c _ (mem_uc _ (by decide))).trans (res1 m g c),
      (h c _ (mem_uc _ (by decide))).trans (res2 m g c),
      (h c _ (mem_uc _ (by decide))).trans (res3 m g c),
      (h c _ (mem_uc _ (by decide))).trans (res4 m g c),
      (h c _ (mem_uc _ (by decide))).trans (res5 m g c),
      (h c _ (mem_uc _ (by decide))).trans (W4_main_arg0 m g c),
      (h c _ (mem_uc _ (by decide))).trans (W4_main_arg1 m g c),
      (h c _ (mem_uc _ (by decide))).trans (W4_main_arg2 m g c),
      (h c _ (mem_uc _ (by decide))).trans (W4_main_arg3 m g c),
      (h c _ (mem_uc _ (by decide))).trans (W4_main_arg4 m g c),
      (h c _ (mem_uc _ (by decide))).trans (W4_main_arg5 m g c)⟩
  · obtain ⟨h0, h1, h2, h3, h4, h5, h6⟩ := h c
    obtain ⟨a0, a1, a2, a3, a4, a5⟩ := hagree c
    refine ⟨(h0.trans (val_main_v47_eq _ _)).trans ?_,
      (h1.trans (val_main_v49_eq _ _ _)).trans ?_,
      (h2.trans (val_main_v51_eq _ _ _)).trans ?_,
      (h3.trans (val_main_v53_eq _ _ _)).trans ?_,
      (h4.trans (val_main_v55_eq _ _ _)).trans ?_,
      (h5.trans (val_main_v57_eq _ _ _ _ _)).trans ?_, h6⟩
    all_goals simp only [a0, a1, a2, a3, a4, a5]

end Cert.Proof.Kv

end
-- ==== Proof.Rms.lean ====
/- A row's root-mean-square norm and its gradient, over extended reals; and the two ways to write the gradient, equal at finite rows. -/
module

public import proofs.«01_k».proof.Proof.Common
public import Idealize.ShloMosaic.PureOps.Ideal.Laws

@[expose] public section

noncomputable section

namespace Cert.Rms

open Idealize.ShloMosaic

/-- One over the root of the mean square. -/
def r (x : Fin 1024 → EReal) : EReal :=
  Ideal.rsqrt (Ideal.div (∑ k, x k * x k) (Ideal.ofBits .f32 0x44800000#32) + Ideal.ofBits .f32 0x358637BD#32)

/-- The gradient of one entry, written out: `r · (d − n · mean (d · n))`, with `n = x · r` and `d = h · g`. -/
def dxk (x h g : Fin 1024 → EReal) (j : Fin 1024) : EReal :=
  r x * (h j * g j - x j * r x * Ideal.div (∑ k, h k * g k * (x k * r x)) (Ideal.ofBits .f32 0x44800000#32))

theorem dxk_congr {x x' h h' g g' : Fin 1024 → EReal} (hx : ∀ k, x k = x' k) (hh : ∀ k, h k = h' k) (hg : ∀ k, g k = g' k) (j : Fin 1024) :
    dxk x h g j = dxk x' h' g' j := by
  rw [funext hx, funext hh, funext hg]

/-- What the derivative of the mean square adds, per entry. -/
def m2 (x h g : Fin 1024 → EReal) : EReal :=
  Ideal.div ((∑ k, x k * (h k * g k)) * (Ideal.ofBits .f32 0xBF000000#32 * Ideal.div (r x)
    (Ideal.div (∑ k, x k * x k) (Ideal.ofBits .f32 0x44800000#32) + Ideal.ofBits .f32 0x358637BD#32))) (Ideal.ofBits .f32 0x44800000#32)

theorem c1024 : Ideal.ofBits .f32 0x44800000#32 = ((1024 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul, -EReal.coe_neg]; norm_num

theorem cEps : ∃ e : ℝ, 0 < e ∧ Ideal.ofBits .f32 0x358637BD#32 = (e : EReal) := by
  refine ⟨8796093 * (1 / 8796093022208), by norm_num, ?_⟩
  simp [Ideal.ofBits, Ideal.ieee, -EReal.coe_mul]; norm_num

theorem coe_sum {ι : Type*} [Fintype ι] (f : ι → ℝ) : ((∑ i, f i : ℝ) : EReal) = ∑ i, (f i : EReal) := by
  exact map_sum (⟨⟨Real.toEReal, EReal.coe_zero⟩, EReal.coe_add⟩ : ℝ →+ EReal) f Finset.univ

/-- At a finite row: the mean square with the small term is a positive real `t`, and the root's inverse `s` has `s² t = 1`. -/
theorem r_real (x : Fin 1024 → ℝ) : ∃ t s : ℝ, 0 < t ∧ s * s * t = 1
    ∧ Ideal.div (∑ k, (x k : EReal) * x k) (Ideal.ofBits .f32 0x44800000#32) + Ideal.ofBits .f32 0x358637BD#32 = (t : EReal)
    ∧ r (fun k => x k) = (s : EReal) := by
  obtain ⟨e, he, hE⟩ := cEps
  have h0 : (0 : ℝ) ≤ ∑ k, x k * x k := Finset.sum_nonneg fun k _ => mul_self_nonneg _
  have ht : 0 < (∑ k, x k * x k) * (1 / 1024) + e := by positivity
  have hT : Ideal.div (∑ k, (x k : EReal) * x k) (Ideal.ofBits .f32 0x44800000#32) + Ideal.ofBits .f32 0x358637BD#32
      = (((∑ k, x k * x k) * (1 / 1024) + e : ℝ) : EReal) := by
    rw [c1024, hE, Ideal.div_coe (by norm_num)]
    simp only [← EReal.coe_mul, ← coe_sum, ← EReal.coe_add]
  refine ⟨_, (Real.sqrt ((∑ k, x k * x k) * (1 / 1024) + e))⁻¹, ht, ?_, hT, ?_⟩
  · have := Real.mul_self_sqrt ht.le
    have h1 : Real.sqrt ((∑ k, x k * x k) * (1 / 1024) + e) ≠ 0 := (Real.sqrt_pos.mpr ht).ne'
    rw [← mul_inv, this, inv_mul_cancel₀ ht.ne']
  · unfold r
    rw [hT, Ideal.rsqrt_coe, if_neg ht.le.not_gt, if_neg ht.ne']

/-- The two ways to write the gradient of a finite row. -/
theorem dxk_eq (x h g : Fin 1024 → ℝ) (j : Fin 1024) : dxk (fun k => x k) (fun k => h k) (fun k => g k) j
    = (h j : EReal) * g j * r (fun k => x k) + x j * m2 (fun k => x k) (fun k => h k) (fun k => g k)
      + m2 (fun k => x k) (fun k => h k) (fun k => g k) * x j := by
  obtain ⟨t, s, ht, hs, hT, hr⟩ := r_real x
  unfold dxk m2
  rw [hT, hr, c1024, cNegHalf]
  simp only [Ideal.div_coe ht.ne', Ideal.div_coe (show (1024 : ℝ) ≠ 0 by norm_num)]
  simp only [← EReal.coe_mul, ← coe_sum, ← EReal.coe_add, ← EReal.coe_sub]
  congr 1
  have e1 : ∑ k, h k * g k * (x k * s) = s * ∑ k, x k * (h k * g k) := by
    rw [Finset.mul_sum]
    exact Finset.sum_congr rfl fun k _ => by ring
  rw [e1]
  have e2 : 1 / t = s * s := by field_simp; linarith
  rw [e2]
  ring

end Cert.Rms

end
-- ==== Proof.InBValue.lean ====
/- What the input projection's backward call leaves in its results, against the reference's composed terms. -/
module

public import proofs.«01_k».proof.Proof.Rms
public import proofs.«01_k».proof.Proof.Gen.InBIdeal.Value
public import proofs.«01_k».proof.Proof.Gen.InBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.InBIdeal.Value

open Cert.InBIdeal Cert.InBIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem pay8_at (x : FVec Ideal S1024x1024 .f32) (g : FVec Ideal S1x1024 .f32) (dz : FVec Ideal S1024x2560 .bf16) (w : FVec Ideal S2560x1024 .bf16)
    (ct : FVec Ideal S1024x1024 .f32) (i j : Fin 1024) :
    k0_pay8 (F := Ideal) x g dz w ct (ix2 i j)
      = ct (ix2 i j) + Rms.dxk (fun k => x (ix2 i k)) (fun k => ∑ e : Fin 2560, dz (ix2 i e) * w (ix2 e k)) (fun k => g (ix2 0 k)) j := by
  pointwise [k0_pay8, k0_pay6, k0_pay5, k0_pay4, k0_pay3, Rms.dxk, Rms.r]

open Cert.InBReferenceIdeal.Read in
theorem ref_m2 (x : FVec Ideal S1x4096x1024 .f32) (g : FVec Ideal S1x1024 .f32) (w : FVec Ideal S1x1024x2560 .f32) (dz : FVec Ideal S1x4096x2560 .f32) (i : Fin 4096) :
    val_main_v35 (F := Ideal) x g w dz (ix1 i)
      = Rms.m2 (fun k => x (ix3 0 i k)) (fun k => ∑ e : Fin 2560, dz (ix3 0 i e) * w (ix3 0 k e)) (fun k => g (ix2 0 k)) := by
  unfold val_main_v35
  show Ideal.hostReduceAdd _ (val_main_v34 (F := Ideal) x g w dz) _ _ = _
  rw [Common.hostReduceAdd_02 _ rfl _ _ (ix1 i) i (fun a => by match a with | ⟨0, _⟩ => rfl)]
  pointwise [Fin.sum_univ_one, val_main_v34, val_main_v33, val_main_v32, val_main_v28, val_main_v27, val_main_v26, val_main_v24, val_main_v23, val_main_v19,
    val_main_v17, val_main_v14, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_5, val_main_cst_6, val_main_cst_7, Rms.m2, Rms.r]

open Cert.InBReferenceIdeal.Read in
theorem ref_dx (x : FVec Ideal S1x4096x1024 .f32) (g : FVec Ideal S1x1024 .f32) (w : FVec Ideal S1x1024x2560 .f32) (dz : FVec Ideal S1x4096x2560 .f32)
    (ct : FVec Ideal S1x4096x1024 .f32) (i : Fin 4096) (j : Fin 1024) :
    val_main_v43 (F := Ideal) x g w dz ct (ix2 i j)
      = ct (ix3 0 i j) + (∑ e : Fin 2560, dz (ix3 0 i e) * w (ix3 0 j e)) * g (ix2 0 j) * Rms.r (fun k => x (ix3 0 i k))
        + x (ix3 0 i j) * val_main_v35 (F := Ideal) x g w dz (ix1 i) + val_main_v35 (F := Ideal) x g w dz (ix1 i) * x (ix3 0 i j) := by
  pointwise [val_main_v43, val_main_v41, val_main_v40, val_main_v39, val_main_v38, val_main_v37, val_main_v36, val_main_v31, val_main_v30, val_main_v29,
    val_main_v24, val_main_v23, val_main_v19,
    val_main_v17, val_main_v14, val_main_v11, val_main_v10, val_main_v9, val_main_v8, val_main_v7, val_main_v6, val_main_v5, val_main_v4, val_main_v3,
    val_main_v2, val_main_v1, val_main_v0, val_main_cst, val_main_cst_0, val_main_cst_1, Rms.r]

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 4 :=
  (by decide +kernel : ∀ t : Fin grid0.N, _)

theorem outs_1 (c : Dev nD) (t : Fin cfg0.N) :
    (outsAt0 m c t.val t.isLt).1 = k0_pay8 (F := Ideal) (iblk m c 2 t) (iblk m c 3 t) (iblk m c 0 t) (iblk m c 1 t) (iblk m c 4 t) := by
  by_cases h : t.val % 4 = 0
  · rw [outsAt0_A m c t h]
    frame_out
  · rw [outsAt0_B m c t h]
    frame_out

/-- One tile's part of the small slot: the sum over the tile's rows in row 0, zeros below. -/
def part (c : Dev nD) (t : Fin cfg0.N) (j : S8x1024.Idx) : EReal :=
  if (j 0 : ℕ) < 1 then k0_pay7 (F := Ideal) (iblk m c 2 t) (iblk m c 0 t) (iblk m c 1 t) (ix2 0 (j 1)) else 0

theorem slot_A (c : Dev nD) (t : Fin cfg0.N) (h : t.val % 4 = 0) (j : S8x1024.Idx) :
    (outsAt0 m c t.val t.isLt).2 j = (0 : EReal) + part m c t j := by
  rw [outsAt0_A m c t h]
  frame_out
  refine (Common.canon_row _ _ _ _ j).trans ?_
  rw [View.readCov_fill _ _ _ _ _ (fun a => by match a with | ⟨0, _⟩ => rfl | ⟨1, _⟩ => rfl)]
  unfold part
  rw [zero_add]
  congr 1
  · pointwise! [k0_pay1, k0_pay2]
  · pointwise! [k0_pay2]

theorem slot_B (c : Dev nD) (t : Fin cfg0.N) (h : ¬ t.val % 4 = 0) (j : S8x1024.Idx) :
    (outsAt0 m c t.val t.isLt).2 j = (outsAt0 m c (t.val - 1) (Nat.lt_of_le_of_lt (Nat.sub_le _ _) t.isLt)).2 j + part m c t j := by
  rw [outsAt0_B m c t h]
  frame_out
  refine (Common.writes_row _ _ _ _ _ j).trans ?_
  generalize hX : (outsAt0 m c (t.val - 1) (Nat.lt_of_le_of_lt (Nat.sub_le _ _) t.isLt)).2 = X
  unfold part
  by_cases hj : (j 0 : ℕ) < 1
  · rw [if_pos hj, if_pos hj]
    pointwise [k0_pay1]
    refine congrArg (fun z => X z + _) ?_
    funext a
    apply Fin.ext
    match a with
    | ⟨0, _⟩ => show 0 = (j 0 : ℕ); omega
    | ⟨1, _⟩ => rfl
  · rw [if_neg hj, if_neg hj, add_zero]

open Cert.InBReferenceIdeal.Read in
theorem ref_row (x : FVec Ideal S1x4096x1024 .f32) (w : FVec Ideal S1x1024x2560 .f32) (dz : FVec Ideal S1x4096x2560 .f32) (j : Fin 1024) :
    val_main_v25 (F := Ideal) x w dz (ix1 j) = ∑ i : Fin 4096, x (ix3 0 i j) * Rms.r (fun k => x (ix3 0 i k)) * ∑ e : Fin 2560, dz (ix3 0 i e) * w (ix3 0 j e) := by
  unfold val_main_v25
  show Ideal.hostReduceAdd _ (val_main_v22 (F := Ideal) x w dz) _ _ = _
  rw [Common.hostReduceAdd_01 _ rfl _ _ (ix1 j) j (fun a => by match a with | ⟨0, _⟩ => rfl)]
  pointwise [Fin.sum_univ_one, val_main_v22, val_main_v21, val_main_v20, val_main_v19,
    val_main_v17, val_main_v13, val_main_v12, val_main_v8, val_main_v7, val_main_v6, val_main_v5, val_main_v4, val_main_v3,
    val_main_v2, val_main_v1, val_main_cst, val_main_cst_0, val_main_cst_1, val_main_cst_3, val_main_cst_4, Rms.r]

open Cert.InBReferenceIdeal.Read in
theorem ref_slot' (x : FVec Ideal S1x4096x1024 .f32) (w : FVec Ideal S1x1024x2560 .f32) (dz : FVec Ideal S1x4096x2560 .f32) (j0 : Fin 8) (j1 : Fin 1024) :
    val_main_v45 (F := Ideal) x w dz (ix2 j0 j1) = if (j0 : ℕ) < 1 then val_main_v25 (F := Ideal) x w dz (ix1 j1) else 0 := by
  pointwise [val_main_v45, val_main_v42, val_main_v44, val_main_cst_8]
  by_cases h : (j0 : ℕ) < 1
  · rw [dif_pos h, if_pos h]
  · rw [dif_neg h, if_neg h]

open Cert.InBReferenceIdeal.Read in
theorem ref_slot (x : FVec Ideal S1x4096x1024 .f32) (w : FVec Ideal S1x1024x2560 .f32) (dz : FVec Ideal S1x4096x2560 .f32) (j : S8x1024.Idx) :
    val_main_v45 (F := Ideal) x w dz j = if (j 0 : ℕ) < 1 then val_main_v25 (F := Ideal) x w dz (ix1 (j 1)) else 0 := by
  refine Eq.trans (congrArg _ ?_) (ref_slot' x w dz (j 0) (j 1))
  funext a
  match a with
  | ⟨0, _⟩ => rfl
  | ⟨1, _⟩ => rfl

theorem pay7_at (x : FVec Ideal S1024x1024 .f32) (dz : FVec Ideal S1024x2560 .bf16) (w : FVec Ideal S2560x1024 .bf16) (j : Fin 1024) :
    k0_pay7 (F := Ideal) x dz w (ix2 0 j)
      = ∑ i : Fin 1024, x (ix2 i j) * Rms.r (fun k => x (ix2 i k)) * ∑ e : Fin 2560, dz (ix2 i e) * w (ix2 e j) := by
  pointwise [k0_pay7, k0_pay6, k0_pay5, k0_pay4, k0_pay3, Rms.r]
  exact Finset.sum_congr rfl fun _ _ => mul_comm _ _

theorem in_0 (c : Dev nD) : V m c main_v1 = truncf (F := Ideal) .bf16 (shapeCast _ (m ((c : Thread nD τ).loc main_arg3)) shapeCasts_S1x4096x2560_S4096x2560) bitsLt_bf16_f32 := by
  unfold V
  after_results
  all_goals rfl

theorem in_4 (c : Dev nD) : V m c main_v4 = truncf (F := Ideal) .bf16 (transpose S2560x1024 [1, 0] (shapeCast _ (m ((c : Thread nD τ).loc main_arg2)) shapeCasts_S1x1024x2560_S1024x2560) transposes_S1024x2560_S2560x1024_1_0) bitsLt_bf16_f32 := by
  unfold V
  after_results
  all_goals rfl

theorem in_5 (c : Dev nD) : V m c main_v5 = shapeCast _ (m ((c : Thread nD τ).loc main_arg0)) shapeCasts_S1x4096x1024_S4096x1024 := by
  unfold V
  after_results
  all_goals rfl

theorem in_6 (c : Dev nD) : V m c main_v6 = shapeCast _ (m ((c : Thread nD τ).loc main_arg4)) shapeCasts_S1x4096x1024_S4096x1024 := by
  unfold V
  after_results
  all_goals rfl

open Cert.InBReferenceIdeal.Read in
theorem final6 (c : Dev nD) : (dats m 0 c).arrAt 6 cfg0.N
    = val_main_v45 (F := Ideal) (m ((c : Thread nD τ).loc main_arg0)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => (0 : EReal)) (fun p j => part m c p j)
    (fun t h j => slot_A m c t h j) (fun t h j => slot_B m c t h j) (le_of_eq N_0) t0_3 rfl j, zero_add]
  refine Eq.trans ?_ (ref_slot _ _ _ j).symm
  unfold part
  by_cases hj : (j 0 : ℕ) < 1
  · refine Eq.trans (Fin.sum_fin_congr fun p => (if_pos hj).trans (pay7_at _ _ _ (j 1))) ?_
    refine Eq.trans ?_ (if_pos hj).symm
    refine Eq.trans ?_ (ref_row _ _ _ (j 1)).symm
    refine Fin.sum_mul_add_congr fun t k hl => ?_
    blk_point [iblk, in_0, in_4, in_5, idx t]
  · refine Eq.trans (Fin.sum_fin_congr fun p => if_neg hj) ?_
    refine Eq.trans ?_ (if_neg hj).symm
    simp

open Cert.InBReferenceIdeal.Read in
/-- The two ways to write an entry of the gradient agree where the arrays but the passed-through one are finite. -/
theorem dx_eq (x : FVec Ideal S1x4096x1024 .f32) (g : FVec Ideal S1x1024 .f32) (w : FVec Ideal S1x1024x2560 .f32) (dz : FVec Ideal S1x4096x2560 .f32)
    (ct : FVec Ideal S1x4096x1024 .f32) (hx : ∀ i, ∃ r : ℝ, x i = r) (hg : ∀ i, ∃ r : ℝ, g i = r) (hw : ∀ i, ∃ r : ℝ, w i = r)
    (hz : ∀ i, ∃ r : ℝ, dz i = r) (i : Fin 4096) (j : Fin 1024) :
    ct (ix3 0 i j) + Rms.dxk (fun k => x (ix3 0 i k)) (fun k => ∑ e : Fin 2560, dz (ix3 0 i e) * w (ix3 0 k e)) (fun k => g (ix2 0 k)) j
      = val_main_v43 (F := Ideal) x g w dz ct (ix2 i j) := by
  rw [ref_dx, ref_m2]
  choose X hX using hx
  choose G hG using hg
  choose W hW using hw
  choose Z hZ using hz
  simp only [hX, hG, hW, hZ, ← EReal.coe_mul, ← Rms.coe_sum]
  rw [Rms.dxk_eq (fun k => X (ix3 0 i k)) (fun k => ∑ e : Fin 2560, Z (ix3 0 i e) * W (ix3 0 k e)) (fun k => G (ix2 0 k)) j]
  simp only [add_assoc, ← EReal.coe_mul]

end Cert.InBIdeal.Value

end
-- ==== Proof.InBFinal.lean ====
/- What the input projection's backward call leaves in its results, against the reference's composed terms. -/
module

public import proofs.«01_k».proof.Proof.InBValue
public import proofs.«01_k».proof.Proof.Gen.InBIdeal.Value
public import proofs.«01_k».proof.Proof.Gen.InBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.InBIdeal.Value

open Cert.InBIdeal Cert.InBIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem blk_0 (c : Dev nD) (t : Fin cfg0.N) (i : Fin 1024) (hl : t.val * 1024 + i.val < 4096) (e : Fin 2560) :
    iblk m c 0 t (ix2 i e) = m ((c : Thread nD τ).loc main_arg3) (ix3 0 ⟨t.val * 1024 + i.val, hl⟩ e) := by
  blk_point [iblk, in_0, idx t]

theorem blk_1 (c : Dev nD) (t : Fin cfg0.N) (e : Fin 2560) (k : Fin 1024) :
    iblk m c 1 t (ix2 e k) = m ((c : Thread nD τ).loc main_arg2) (ix3 0 k e) := by
  blk_point [iblk, in_4, idx t]

theorem blk_2 (c : Dev nD) (t : Fin cfg0.N) (i : Fin 1024) (hl : t.val * 1024 + i.val < 4096) (k : Fin 1024) :
    iblk m c 2 t (ix2 i k) = m ((c : Thread nD τ).loc main_arg0) (ix3 0 ⟨t.val * 1024 + i.val, hl⟩ k) := by
  blk_point [iblk, in_5, idx t]

theorem blk_3 (c : Dev nD) (t : Fin cfg0.N) (k : Fin 1024) :
    iblk m c 3 t (ix2 0 k) = m ((c : Thread nD τ).loc main_arg1) (ix2 0 k) := by
  blk_point [iblk, V, idx t]

theorem blk_4 (c : Dev nD) (t : Fin cfg0.N) (i : Fin 1024) (hl : t.val * 1024 + i.val < 4096) (k : Fin 1024) :
    iblk m c 4 t (ix2 i k) = m ((c : Thread nD τ).loc main_arg4) (ix3 0 ⟨t.val * 1024 + i.val, hl⟩ k) := by
  blk_point [iblk, in_6, idx t]

open Cert.InBReferenceIdeal.Read in
theorem final5 (c : Dev nD) (hx : Common.Finite (s := S1x4096x1024) (m ((c : Thread nD τ).loc main_arg0))) (hg : Common.Finite (s := S1x1024) (m ((c : Thread nD τ).loc main_arg1)))
    (hw : Common.Finite (s := S1x1024x2560) (m ((c : Thread nD τ).loc main_arg2))) (hz : Common.Finite (s := S1x4096x2560) (m ((c : Thread nD τ).loc main_arg3))) :
    (dats m 0 c).arrAt 5 cfg0.N
    = val_main_v43 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have ht := (idx t).2.2.2.2.2.2.2
  blk_simp
  rw [after0_5, outs_1]
  have hy0 : (y 0 : ℕ) < 1024 := (y 0).isLt
  refine (congrArg _ (Common.eta2 (a := 1024) (b := 1024) y)).trans ?_
  refine (pay8_at _ _ _ _ _ (y 0) (y 1)).trans ?_
  refine Eq.trans ?_ ((dx_eq _ _ _ _ (m ((c : Thread nD τ).loc main_arg4)) hx hg hw hz ⟨t.val * 1024 + y 0, by omega⟩ (y 1)).trans ?_)
  · have hl : t.val * 1024 + (y 0 : ℕ) < 4096 := by omega
    refine congrArg₂ (fun a b : EReal => a + b) (blk_4 m c t (y 0) hl (y 1)) ?_
    exact Rms.dxk_congr (fun k => blk_2 m c t (y 0) hl k)
      (fun k => Finset.sum_congr rfl fun e _ => congrArg₂ (fun a b : EReal => a * b) (blk_0 m c t (y 0) hl e) (blk_1 m c t e k)) (fun k => blk_3 m c t k) (y 1)
  · refine congrArg _ ?_
    blk_ext [idx t]

end Cert.InBIdeal.Value

end
-- ==== Proof.InBClaim.lean ====
/- The claims about the pair. -/
module

public import proofs.«01_k».proof.Defs
public import proofs.«01_k».proof.Proof.InBFinal
public import proofs.«01_k».proof.Proof.Gen.InB.Frame

@[expose] public section

noncomputable section

namespace Cert.Proof.InB

open Idealize.ShloMosaic Idealize.ShloMosaic.TcCoe Idealize.SL.Sem

theorem frame_k : Cert.quiescent_InB := fun m ρ _ => Cert.InB.Gen.frame m ρ

theorem frame_ki : Cert.quiescent_InBIdeal := fun m ρ _ => Cert.InBIdeal.Gen.frame m ρ

theorem frame_ri : Cert.quiescent_InBReferenceIdeal := fun m ρ _ =>
  (θ_run Cert.InBReferenceIdeal.defs _ _).mono (fun r h => ⟨fun c => (h c).2.2, sem_eq_zero_of_no_sems (by decide) r.2⟩)
    (Cert.InBReferenceIdeal.Value.run (F := Ideal) m ρ)

theorem facts_pre : Cert.Pre_finite_inb.Facts := by
  constructor <;> decide

theorem frame_ki_pre : Cert.quiescent_InBIdeal_pre_finite_inb (hPre_finite_inb := facts_pre) := fun m ρ _ => Cert.InBIdeal.Gen.frame m ρ

theorem frame_ri_pre : Cert.quiescent_InBReferenceIdeal_pre_finite_inb (hPre_finite_inb := facts_pre) := fun m ρ _ => frame_ri m ρ trivial

open Cert.InBReferenceIdeal.Read Cert.InBIdeal.Gen Cert.InBIdeal.Value in
theorem value : Cert.algebraic_InBIdeal_InBReferenceIdeal_pre_finite_inb (hPre_finite_inb := facts_pre) := by
  intro m g m' g' hpre hagree
  have p0 : ∀ c : Dev Cert.InBIdeal.nD, Common.Finite (m ((c.tc : Thread Cert.InBIdeal.nD Cert.InBIdeal.τ).loc Cert.InBIdeal.main_arg0)) := fun c i => Common.real_of_lt _ (congrFun (hpre c).1 i)
  have p1 : ∀ c : Dev Cert.InBIdeal.nD, Common.Finite (m ((c.tc : Thread Cert.InBIdeal.nD Cert.InBIdeal.τ).loc Cert.InBIdeal.main_arg1)) := fun c i => Common.real_of_lt _ (congrFun (hpre c).2.1 i)
  have p2 : ∀ c : Dev Cert.InBIdeal.nD, Common.Finite (m ((c.tc : Thread Cert.InBIdeal.nD Cert.InBIdeal.τ).loc Cert.InBIdeal.main_arg2)) := fun c i => Common.real_of_lt _ (congrFun (hpre c).2.2.1 i)
  have p3 : ∀ c : Dev Cert.InBIdeal.nD, Common.Finite (m ((c.tc : Thread Cert.InBIdeal.nD Cert.InBIdeal.τ).loc Cert.InBIdeal.main_arg3)) := fun c i => Common.real_of_lt _ (congrFun (hpre c).2.2.2 i)
  refine ⟨fun c => val_main_v43 (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4)),
    fun c => val_main_v45 (F := Ideal) (m ((c.tc : Thread Cert.InBIdeal.nD Cert.InBIdeal.τ).loc Cert.InBIdeal.main_arg0)) (m ((c.tc : Thread Cert.InBIdeal.nD Cert.InBIdeal.τ).loc Cert.InBIdeal.main_arg2)) (m ((c.tc : Thread Cert.InBIdeal.nD Cert.InBIdeal.τ).loc Cert.InBIdeal.main_arg3)),
    (θ_run Cert.InBIdeal.defs _ _).mono (fun r h c => ?_) (run_blocks (F := Ideal) m g),
    (θ_run Cert.InBReferenceIdeal.defs _ _).mono (fun r h c => ?_) (Cert.InBReferenceIdeal.Value.run (F := Ideal) m' g')⟩
  · obtain ⟨k0, k1, b0, b1, b2, b3, b4⟩ := h c
    exact ⟨k0.trans (final5 m c (p0 c) (p1 c) (p2 c) (p3 c)),
      k1.trans (final6 m c),
      b0,
      b1,
      b2,
      b3,
      b4⟩
  · obtain ⟨h0, h1, h2⟩ := h c
    obtain ⟨a0, a1, a2, a3, a4⟩ := hagree c
    refine ⟨(h0.trans (val_main_v43_eq _ _)).trans ?_,
      (h1.trans (val_main_v45_eq _ _ _)).trans ?_, h2⟩
    all_goals simp only [a0, a1, a2, a3, a4]

end Cert.Proof.InB

end
-- ==== Proof.Att.lean ====
/- Rows of the attention and of its gradient, over extended reals: the two ways to write them, equal at finite rows. -/
module

public import proofs.«01_k».proof.Proof.Rms

@[expose] public section

noncomputable section

namespace Cert.Att

open Idealize.ShloMosaic

/-- A real. -/
def R (v : EReal) : Prop := ∃ x : ℝ, v = x

theorem R.mul {a b : EReal} (ha : R a) (hb : R b) : R (a * b) := by
  obtain ⟨x, rfl⟩ := ha; obtain ⟨y, rfl⟩ := hb
  exact ⟨x * y, (EReal.coe_mul x y).symm⟩

theorem R.add {a b : EReal} (ha : R a) (hb : R b) : R (a + b) := by
  obtain ⟨x, rfl⟩ := ha; obtain ⟨y, rfl⟩ := hb
  exact ⟨x + y, (EReal.coe_add x y).symm⟩

theorem R.sub {a b : EReal} (ha : R a) (hb : R b) : R (a - b) := by
  obtain ⟨x, rfl⟩ := ha; obtain ⟨y, rfl⟩ := hb
  exact ⟨x - y, (EReal.coe_sub x y).symm⟩

theorem R.sum {ι : Type*} [Fintype ι] {f : ι → EReal} (h : ∀ i, R (f i)) : R (∑ i, f i) := by
  choose g hg using h
  exact ⟨∑ i, g i, by rw [Rms.coe_sum]; exact Finset.sum_congr rfl fun i _ => hg i⟩

theorem R.r {x : Fin 1024 → EReal} (h : ∀ k, R (x k)) : R (Rms.r x) := by
  choose X hX using h
  obtain ⟨t, s, -, -, -, hr⟩ := Rms.r_real X
  exact ⟨s, by rw [← hr]; exact congrArg _ (funext hX)⟩

/-- A sixteenth. -/
def c16 : EReal := Ideal.ofBits .f32 0x3D800000#32

theorem c16_eq : c16 = ((1 / 16 : ℝ) : EReal) := by
  unfold c16
  simp [Ideal.ofBits, Ideal.ieee, -EReal.coe_mul]; norm_num

def mx (s : Fin 256 → EReal) : EReal := Finset.fold max (Ideal.ofBits .f32 0xFF800000#32) s Finset.univ

def ex (s : Fin 256 → EReal) (n : Fin 256) : EReal := Ideal.exp (s n - mx s)

def sg (s : Fin 256 → EReal) : EReal := ∑ n, ex s n

/-- The softmax of a row. -/
def pr (s : Fin 256 → EReal) (n : Fin 256) : EReal := Ideal.div (ex s n) (sg s)

/-- The gradient of a softmax's scores, through the probabilities. -/
def ds (s d : Fin 256 → EReal) (n : Fin 256) : EReal := pr s n * (d n - ∑ k, d k * pr s k)

/-- The gradient of a softmax's scores, through the quotient. -/
def dsr (s d : Fin 256 → EReal) (n : Fin 256) : EReal :=
  (Ideal.div (d n) (sg s) + -(∑ k, d k * Ideal.div (Ideal.ofBits .f32 0x3F800000#32) (sg s * sg s) * ex s k)) * ex s n

theorem bot_eq : Ideal.ofBits .f32 0xFF800000#32 = (⊥ : EReal) := by simp [Ideal.ofBits, Ideal.ieee]

theorem one_eq : Ideal.ofBits .f32 0x3F800000#32 = ((1 : ℝ) : EReal) := by
  simp [Ideal.ofBits, Ideal.ieee, -EReal.coe_mul, -EReal.coe_one]; norm_num

theorem max_mx (s : Fin 256 → EReal) : max (Ideal.ofBits .f32 0xFF800000#32) (mx s) = mx s := by
  rw [bot_eq]; exact max_eq_right bot_le

theorem mx_real {s : Fin 256 → EReal} (h : ∀ n, R (s n)) : R (mx s) := by
  choose S hS using h
  have ht : mx s ≠ ⊤ := by
    refine ne_of_lt ((Finset.fold_max_lt _).mpr ⟨by rw [bot_eq]; exact bot_lt_top, fun n _ => ?_⟩)
    rw [hS n]; exact EReal.coe_lt_top _
  have hb : mx s ≠ ⊥ := by
    refine (ne_of_lt ((Finset.lt_fold_max _).mpr (Or.inr ⟨0, Finset.mem_univ _, ?_⟩))).symm
    rw [hS 0]; exact EReal.bot_lt_coe _
  exact ⟨(mx s).toReal, (EReal.coe_toReal ht hb).symm⟩

/-- At finite scores: positive reals `e` with the sum `t`. -/
theorem ex_real {s : Fin 256 → EReal} (h : ∀ n, R (s n)) : ∃ (e : Fin 256 → ℝ) (t : ℝ), 0 < t ∧ (∀ n, ex s n = e n) ∧ sg s = t := by
  obtain ⟨M, hM⟩ := mx_real h
  choose S hS using h
  have he : ∀ n, ex s n = (Real.exp (S n - M) : ℝ) := fun n => by
    unfold ex
    rw [hS n, hM, ← EReal.coe_sub, Ideal.exp_coe]
  refine ⟨fun n => Real.exp (S n - M), ∑ n, Real.exp (S n - M), Finset.sum_pos (fun n _ => Real.exp_pos _) ⟨0, Finset.mem_univ _⟩, he, ?_⟩
  unfold sg
  rw [Rms.coe_sum]
  exact Finset.sum_congr rfl fun n _ => he n

theorem pr_real {s : Fin 256 → EReal} (h : ∀ n, R (s n)) (n : Fin 256) : R (pr s n) := by
  obtain ⟨e, t, ht, he, hs⟩ := ex_real h
  exact ⟨e n * t⁻¹, by unfold pr; rw [he, hs, Ideal.div_coe ht.ne', ← EReal.coe_mul, one_div]⟩

/-- The two ways to write the scores' gradient. -/
theorem dsr_eq {s d : Fin 256 → EReal} (h : ∀ n, R (s n)) (hd : ∀ n, R (d n)) (n : Fin 256) : dsr s d n = ds s d n := by
  obtain ⟨e, t, ht, he, hs⟩ := ex_real h
  choose D hD using hd
  unfold dsr ds pr
  simp only [he, hs, hD, one_eq]
  have ht2 : t * t ≠ 0 := mul_ne_zero ht.ne' ht.ne'
  simp only [← EReal.coe_mul, Ideal.div_coe ht.ne', Ideal.div_coe ht2]
  simp only [← EReal.coe_mul, ← Rms.coe_sum, ← EReal.coe_neg, ← EReal.coe_add, ← EReal.coe_sub]
  congr 1
  have e1 : ∑ k, D k * (1 * (1 / (t * t))) * e k = (∑ k, D k * e k) * (1 / (t * t)) := by
    rw [Finset.sum_mul]; exact Finset.sum_congr rfl fun k _ => by ring
  have e2 : ∑ k, D k * (e k * (1 / t)) = (∑ k, D k * e k) * (1 / t) := by
    rw [Finset.sum_mul]; exact Finset.sum_congr rfl fun k _ => by ring
  rw [e1, e2]
  field_simp
  ring

theorem ds_real {s d : Fin 256 → EReal} (h : ∀ n, R (s n)) (hd : ∀ n, R (d n)) (n : Fin 256) : R (ds s d n) :=
  (pr_real h n).mul ((hd n).sub (R.sum fun k => (hd k).mul (pr_real h k)))

/-- Queries before the scale. -/
def qr (x g : Fin 1024 → EReal) (wq : Fin 1024 → Fin 4 → Fin 256 → EReal) (h : Fin 4) (e : Fin 256) : EReal := ∑ k, x k * Rms.r x * g k * wq k h e

def sc (q : Fin 4 → Fin 256 → EReal) (K : Fin 256 → Fin 4 → Fin 256 → EReal) (h : Fin 4) (n : Fin 256) : EReal := ∑ e, q h e * K n h e

def at_ (q : Fin 4 → Fin 256 → EReal) (K V : Fin 256 → Fin 4 → Fin 256 → EReal) (h : Fin 4) (e : Fin 256) : EReal := ∑ n, pr (sc q K h) n * V n h e

def da (wo : Fin 4 → Fin 256 → Fin 1024 → EReal) (d : Fin 1024 → EReal) (h : Fin 4) (e : Fin 256) : EReal := ∑ j, d j * wo h e j

def dp (a : Fin 4 → Fin 256 → EReal) (V : Fin 256 → Fin 4 → Fin 256 → EReal) (h : Fin 4) (n : Fin 256) : EReal := ∑ e, a h e * V n h e

/-- The gradient of a row's queries. -/
def dq (q a : Fin 4 → Fin 256 → EReal) (K V : Fin 256 → Fin 4 → Fin 256 → EReal) (h : Fin 4) (e : Fin 256) : EReal :=
  (∑ n, ds (sc q K h) (dp a V h) n * K n h e) * c16

def dh (b : Fin 4 → Fin 256 → EReal) (wq : Fin 1024 → Fin 4 → Fin 256 → EReal) (j : Fin 1024) : EReal := ∑ h, ∑ e, b h e * wq j h e

/-- Scores scaled after the product. -/
def scr (q : Fin 4 → Fin 256 → EReal) (K : Fin 256 → Fin 4 → Fin 256 → EReal) (h : Fin 4) (n : Fin 256) : EReal := (∑ e, q h e * K n h e) * c16

/-- The same gradient with the scale inside. -/
def dqr (q a : Fin 4 → Fin 256 → EReal) (K V : Fin 256 → Fin 4 → Fin 256 → EReal) (h : Fin 4) (e : Fin 256) : EReal :=
  ∑ n, dsr (scr q K h) (dp a V h) n * c16 * K n h e

theorem scr_eq {q : Fin 4 → Fin 256 → EReal} {K : Fin 256 → Fin 4 → Fin 256 → EReal} (hq : ∀ h e, R (q h e)) (hK : ∀ n h e, R (K n h e)) (h : Fin 4) (n : Fin 256) :
    scr q K h n = sc (fun h e => q h e * c16) K h n := by
  choose Q hQ using hq
  choose L hL using hK
  unfold scr sc
  simp only [hQ, hL, c16_eq, ← EReal.coe_mul, ← Rms.coe_sum]
  congr 1
  rw [Finset.sum_mul]
  exact Finset.sum_congr rfl fun e _ => by ring

theorem R.c16 : R c16 := ⟨_, c16_eq⟩

theorem sc_real {q : Fin 4 → Fin 256 → EReal} {K : Fin 256 → Fin 4 → Fin 256 → EReal} (hq : ∀ h e, R (q h e)) (hK : ∀ n h e, R (K n h e)) (h : Fin 4) (n : Fin 256) :
    R (sc q K h n) := R.sum fun e => (hq h e).mul (hK n h e)

/-- The scores' gradients agree. -/
theorem dsr_scr {q a : Fin 4 → Fin 256 → EReal} {K V : Fin 256 → Fin 4 → Fin 256 → EReal} (hq : ∀ h e, R (q h e)) (ha : ∀ h e, R (a h e))
    (hK : ∀ n h e, R (K n h e)) (hV : ∀ n h e, R (V n h e)) (h : Fin 4) (n : Fin 256) :
    dsr (scr q K h) (dp a V h) n = ds (sc (fun h e => q h e * c16) K h) (dp a V h) n := by
  rw [funext (scr_eq hq hK h)]
  exact dsr_eq (sc_real (fun h e => (hq h e).mul R.c16) hK h) (fun n => R.sum fun e => (ha h e).mul (hV n h e)) n

theorem dsc_real {q a : Fin 4 → Fin 256 → EReal} {K V : Fin 256 → Fin 4 → Fin 256 → EReal} (hq : ∀ h e, R (q h e)) (ha : ∀ h e, R (a h e))
    (hK : ∀ n h e, R (K n h e)) (hV : ∀ n h e, R (V n h e)) (h : Fin 4) (n : Fin 256) : R (ds (sc q K h) (dp a V h) n) :=
  ds_real (sc_real hq hK h) (fun n => R.sum fun e => (ha h e).mul (hV n h e)) n

theorem dqr_eq {q a : Fin 4 → Fin 256 → EReal} {K V : Fin 256 → Fin 4 → Fin 256 → EReal} (hq : ∀ h e, R (q h e)) (ha : ∀ h e, R (a h e))
    (hK : ∀ n h e, R (K n h e)) (hV : ∀ n h e, R (V n h e)) (h : Fin 4) (e : Fin 256) :
    dqr q a K V h e = dq (fun h e => q h e * c16) a K V h e := by
  unfold dqr dq
  have hd := dsc_real (fun h e => (hq h e).mul R.c16) ha hK hV h
  rw [Finset.sum_congr rfl fun n _ => by rw [dsr_scr hq ha hK hV h n]]
  choose D hD using hd
  choose L hL using hK
  simp only [hD]
  simp only [hL, c16_eq, ← EReal.coe_mul, ← Rms.coe_sum]
  congr 1
  rw [Finset.sum_mul]
  exact Finset.sum_congr rfl fun e _ => by ring

theorem dq_real {q a : Fin 4 → Fin 256 → EReal} {K V : Fin 256 → Fin 4 → Fin 256 → EReal} (hq : ∀ h e, R (q h e)) (ha : ∀ h e, R (a h e))
    (hK : ∀ n h e, R (K n h e)) (hV : ∀ n h e, R (V n h e)) (h : Fin 4) (e : Fin 256) : R (dq q a K V h e) :=
  (R.sum fun n => (dsc_real hq ha hK hV h n).mul (hK n h e)).mul R.c16

/-- One row's part of the keys' gradient. -/
theorem dk_eq {q a : Fin 4 → Fin 256 → EReal} {K V : Fin 256 → Fin 4 → Fin 256 → EReal} (hq : ∀ h e, R (q h e)) (ha : ∀ h e, R (a h e))
    (hK : ∀ n h e, R (K n h e)) (hV : ∀ n h e, R (V n h e)) (h : Fin 4) (n e : Fin 256) :
    dsr (scr q K h) (dp a V h) n * c16 * q h e = ds (sc (fun h e => q h e * c16) K h) (dp a V h) n * (q h e * c16) := by
  rw [dsr_scr hq ha hK hV h n, mul_assoc, mul_comm c16]

end Cert.Att

end
-- ==== Proof.AttnPay.lean ====
module

public import proofs.«01_k».proof.Proof.Att
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the first kernel stores, entry by entry, in terms of what it loads. -/

open Cert.Att Cert.Common

def xRow (b0 b1 : Vec Ideal S512x1024 .f32) (b2 : Vec Ideal S1024x1024 .bf16) (i : Fin 512) (k : Fin 1024) : EReal :=
  b0 (ix2 i k) + ∑ l : Fin 1024, b1 (ix2 i l) * b2 (ix2 l k)

theorem pay3_at (b0 b1 : Vec Ideal S512x1024 .f32) (b2 : Vec Ideal S1024x1024 .bf16) (i : Fin 512) (k : Fin 1024) :
    k0_pay3 (F := Ideal) b0 b1 b2 (ix2 i k) = xRow b0 b1 b2 i k := by
  pointwise [k0_pay3, xRow]

theorem pay4_at (b0 b1 : Vec Ideal S512x1024 .f32) (b2 : Vec Ideal S1024x1024 .bf16) (g : Vec Ideal S1x1024 .f32) (i : Fin 512) (k : Fin 1024) :
    k0_pay4 (F := Ideal) b0 b1 b2 g (ix2 i k) = xRow b0 b1 b2 i k * Rms.r (xRow b0 b1 b2 i) * g (ix2 0 k) := by
  pointwise [k0_pay4, pay3_at, Rms.r, Rms.c1024, Rms.cEps]

theorem pay5_at (b0 b1 : Vec Ideal S512x1024 .f32) (b2 : Vec Ideal S1024x1024 .bf16) (g : Vec Ideal S1x1024 .f32) (b4 : Vec Ideal S1024x1024 .bf16)
    (i : Fin 512) (j : Fin 1024) :
    k0_pay5 (F := Ideal) b0 b1 b2 g b4 (ix2 i j)
      = (∑ k : Fin 1024, xRow b0 b1 b2 i k * Rms.r (xRow b0 b1 b2 i) * g (ix2 0 k) * b4 (ix2 k j)) * c16 := by
  pointwise [k0_pay5, pay4_at, c16]

theorem pay6_at (q : Vec Ideal S512x256 .bf16) (k : Vec Ideal S256x256 .bf16) (i : Fin 512) (n : Fin 256) :
    k0_pay6 (F := Ideal) q k (ix2 i n) = ∑ e : Fin 256, q (ix2 i e) * k (ix2 n e) := by
  pointwise [k0_pay6]

theorem pay7_at (q : Vec Ideal S512x256 .bf16) (k : Vec Ideal S256x256 .bf16) (i : Fin 512) (n : Fin 256) :
    k0_pay7 (F := Ideal) q k (ix2 i n) = ∑ e : Fin 256, q (ix2 i e) * k (ix2 n e) := by
  pointwise [k0_pay7]

theorem pay8_at (q : Vec Ideal S512x256 .bf16) (k : Vec Ideal S256x256 .bf16) (i : Fin 512) (n : Fin 256) :
    k0_pay8 (F := Ideal) q k (ix2 i n) = pr (fun n => ∑ e : Fin 256, q (ix2 i e) * k (ix2 n e)) n := by
  pointwise [k0_pay8, pr, ex, sg, mx]

theorem pay9_at (q : Vec Ideal S512x256 .bf16) (k : Vec Ideal S256x256 .bf16) (i : Fin 512) (n : Fin 256) :
    k0_pay9 (F := Ideal) q k (ix2 i n) = pr (fun n => ∑ e : Fin 256, q (ix2 i e) * k (ix2 n e)) n := by
  pointwise [k0_pay9, pr, ex, sg, mx]

theorem pay10_at (s : Vec Ideal S512x256 .f32) (i : Fin 512) (n : Fin 256) :
    k0_pay10 (F := Ideal) s (ix2 i n) = pr (fun n => s (ix2 i n)) n := by
  pointwise [k0_pay10, pr, ex, sg, mx]

theorem pay11_at (p : Vec Ideal S512x256 .f32) (v : Vec Ideal S256x256 .bf16) (i : Fin 512) (e : Fin 256) :
    k0_pay11 (F := Ideal) p v (ix2 i e) = ∑ n : Fin 256, p (ix2 i n) * v (ix2 n e) := by
  pointwise [k0_pay11]

theorem pay12_at (p : Vec Ideal S512x256 .f32) (v : Vec Ideal S256x256 .bf16) (i : Fin 512) (e : Fin 256) :
    k0_pay12 (F := Ideal) p v (ix2 i e) = ∑ n : Fin 256, p (ix2 i n) * v (ix2 n e) := by
  pointwise [k0_pay12]

theorem pay13_at (s : Vec Ideal S512x256 .f32) (v : Vec Ideal S256x256 .bf16) (i : Fin 512) (e : Fin 256) :
    k0_pay13 (F := Ideal) s v (ix2 i e) = ∑ n : Fin 256, pr (fun n => s (ix2 i n)) n * v (ix2 n e) := by
  pointwise [k0_pay13, pr, ex, sg, mx]

theorem pay1_at (p : Vec Ideal S512x256 .f32) (v : Vec Ideal S256x256 .bf16) (i : Fin 512) (e : Fin 256) :
    k0_pay1 (F := Ideal) p v (ix2 i e) = ∑ n : Fin 256, p (ix2 i n) * v (ix2 n e) := by
  pointwise [k0_pay1]

theorem pay2_at (x : Vec Ideal S512x1024 .f32) (a : Vec Ideal S512x1024 .bf16) (w : Vec Ideal S1024x1024 .bf16) (i : Fin 512) (j : Fin 1024) :
    k0_pay2 (F := Ideal) x a w (ix2 i j) = x (ix2 i j) + ∑ k : Fin 1024, a (ix2 i k) * w (ix2 j k) := by
  pointwise [k0_pay2]

end Cert.AttnIdeal.Value
end
-- ==== Proof.AttnIn.lean ====
module

public import proofs.«01_k».proof.Proof.AttnPay
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! The arrays as rows and heads, and what the two kernels are handed. -/

open Cert.Att Cert.Common

variable (m : (ℓ : Loc nD τ sig) → Buf (Elt Ideal) ℓ) (ρ : Dev nD → PrngReg)

/-- A token's row after the first projection. -/
def mX (a0 a1 : FVec Ideal S1x4096x1024 .f32) (a2 : FVec Ideal S1x1024x1024 .f32) (i : Fin 4096) (k : Fin 1024) : EReal :=
  a0 (ix3 0 i k) + ∑ l : Fin 1024, a1 (ix3 0 i l) * a2 (ix3 0 l k)

def mG (a3 : FVec Ideal S1x1024 .f32) (k : Fin 1024) : EReal := a3 (ix2 0 k)

def mWq (a4 : FVec Ideal S1x1024x4x256 .f32) (k : Fin 1024) (h : Fin 4) (e : Fin 256) : EReal := a4 (ix4 0 k h e)

def mKV (a5 : FVec Ideal S1x256x4x256 .f32) (n : Fin 256) (h : Fin 4) (e : Fin 256) : EReal := a5 (ix4 0 n h e)

def mWo (a7 : FVec Ideal S1x4x256x1024 .f32) (h : Fin 4) (e : Fin 256) (j : Fin 1024) : EReal := a7 (ix4 0 h e j)

def mD (a8 : FVec Ideal S1x4096x1024 .f32) (i : Fin 4096) (j : Fin 1024) : EReal := a8 (ix3 0 i j)

def tok (t : Nat) (ht : t < 8) (i : Fin 512) : Fin 4096 := ⟨512 * t + i, by omega⟩

theorem host_v2 (a : FVec Ideal S1x1024x4x256 .f32) (k j : Fin 1024) : (truncf (F := Ideal) .bf16 (shapeCast _ (shapeCast _ a shapeCasts_S1x1024x4x256_S1024x4x256) shapeCasts_S1024x4x256_S1024x1024) bitsLt_bf16_f32) (ix2 k j) = mWq a k (hd j) (ln j) := by
  pointwise [mWq, mKV, mWo, hd, ln]

theorem at_v2 (c : Dev nD) (k j : Fin 1024) : V1 m ρ c main_v2 (ix2 k j) = mWq (m ((c : Thread nD τ).loc main_arg4)) k (hd j) (ln j) := by
  have e : V1 m ρ c main_v2 = truncf (F := Ideal) .bf16 (shapeCast _ (shapeCast _ (m ((c : Thread nD τ).loc main_arg4)) shapeCasts_S1x1024x4x256_S1024x4x256) shapeCasts_S1024x4x256_S1024x1024) bitsLt_bf16_f32 := by
    show StableHlo.after hostOps0 (W0 m ρ c) (Proc.devRef .tc main_v2) = _
    after_results
    all_goals rfl
  rw [e]
  exact host_v2 _ k j

theorem host_v6 (a : FVec Ideal S1x4x256x1024 .f32) (j k : Fin 1024) : (truncf (F := Ideal) .bf16 (transpose S1024x1024 [1, 0] (shapeCast _ (shapeCast _ a shapeCasts_S1x4x256x1024_S4x256x1024) shapeCasts_S4x256x1024_S1024x1024) transposes_S1024x1024_S1024x1024_1_0) bitsLt_bf16_f32) (ix2 j k) = mWo a (hd k) (ln k) j := by
  pointwise [mWq, mKV, mWo, hd, ln]

theorem at_v6 (c : Dev nD) (j k : Fin 1024) : V1 m ρ c main_v6 (ix2 j k) = mWo (m ((c : Thread nD τ).loc main_arg7)) (hd k) (ln k) j := by
  have e : V1 m ρ c main_v6 = truncf (F := Ideal) .bf16 (transpose S1024x1024 [1, 0] (shapeCast _ (shapeCast _ (m ((c : Thread nD τ).loc main_arg7)) shapeCasts_S1x4x256x1024_S4x256x1024) shapeCasts_S4x256x1024_S1024x1024) transposes_S1024x1024_S1024x1024_1_0) bitsLt_bf16_f32 := by
    show StableHlo.after hostOps0 (W0 m ρ c) (Proc.devRef .tc main_v6) = _
    after_results
    all_goals rfl
  rw [e]
  exact host_v6 _ j k

theorem host_v9 (a : FVec Ideal S1x256x4x256 .f32) (n : Fin 256) (j : Fin 1024) : (truncf (F := Ideal) .bf16 (shapeCast _ (shapeCast _ a shapeCasts_S1x256x4x256_S256x4x256) shapeCasts_S256x4x256_S256x1024) bitsLt_bf16_f32) (ix2 n j) = mKV a n (hd j) (ln j) := by
  pointwise [mWq, mKV, mWo, hd, ln]

theorem at_v9 (c : Dev nD) (n : Fin 256) (j : Fin 1024) : V1 m ρ c main_v9 (ix2 n j) = mKV (m ((c : Thread nD τ).loc main_arg5)) n (hd j) (ln j) := by
  have e : V1 m ρ c main_v9 = truncf (F := Ideal) .bf16 (shapeCast _ (shapeCast _ (m ((c : Thread nD τ).loc main_arg5)) shapeCasts_S1x256x4x256_S256x4x256) shapeCasts_S256x4x256_S256x1024) bitsLt_bf16_f32 := by
    show StableHlo.after hostOps0 (W0 m ρ c) (Proc.devRef .tc main_v9) = _
    after_results
    all_goals rfl
  rw [e]
  exact host_v9 _ n j

theorem host_v12 (a : FVec Ideal S1x256x4x256 .f32) (n : Fin 256) (j : Fin 1024) : (truncf (F := Ideal) .bf16 (shapeCast _ (shapeCast _ a shapeCasts_S1x256x4x256_S256x4x256) shapeCasts_S256x4x256_S256x1024) bitsLt_bf16_f32) (ix2 n j) = mKV a n (hd j) (ln j) := by
  pointwise [mWq, mKV, mWo, hd, ln]

theorem at_v12 (c : Dev nD) (n : Fin 256) (j : Fin 1024) : V1 m ρ c main_v12 (ix2 n j) = mKV (m ((c : Thread nD τ).loc main_arg6)) n (hd j) (ln j) := by
  have e : V1 m ρ c main_v12 = truncf (F := Ideal) .bf16 (shapeCast _ (shapeCast _ (m ((c : Thread nD τ).loc main_arg6)) shapeCasts_S1x256x4x256_S256x4x256) shapeCasts_S256x4x256_S256x1024) bitsLt_bf16_f32 := by
    show StableHlo.after hostOps0 (W0 m ρ c) (Proc.devRef .tc main_v12) = _
    after_results
    all_goals rfl
  rw [e]
  exact host_v12 _ n j

theorem host_v13 (a : FVec Ideal S1x4096x1024 .f32) (i : Fin 4096) (k : Fin 1024) : (shapeCast _ a shapeCasts_S1x4096x1024_S4096x1024) (ix2 i k) = a (ix3 0 i k) := by
  pointwise [mWq, mKV, mWo, hd, ln]

theorem at_v13 (c : Dev nD) (i : Fin 4096) (k : Fin 1024) : V1 m ρ c main_v13 (ix2 i k) = (m ((c : Thread nD τ).loc main_arg0)) (ix3 0 i k) := by
  have e : V1 m ρ c main_v13 = shapeCast _ (m ((c : Thread nD τ).loc main_arg0)) shapeCasts_S1x4096x1024_S4096x1024 := by
    show StableHlo.after hostOps0 (W0 m ρ c) (Proc.devRef .tc main_v13) = _
    after_results
    all_goals rfl
  rw [e]
  exact host_v13 _ i k

theorem host_v14 (a : FVec Ideal S1x4096x1024 .f32) (i : Fin 4096) (k : Fin 1024) : (shapeCast _ a shapeCasts_S1x4096x1024_S4096x1024) (ix2 i k) = a (ix3 0 i k) := by
  pointwise [mWq, mKV, mWo, hd, ln]

theorem at_v14 (c : Dev nD) (i : Fin 4096) (k : Fin 1024) : V1 m ρ c main_v14 (ix2 i k) = (m ((c : Thread nD τ).loc main_arg1)) (ix3 0 i k) := by
  have e : V1 m ρ c main_v14 = shapeCast _ (m ((c : Thread nD τ).loc main_arg1)) shapeCasts_S1x4096x1024_S4096x1024 := by
    show StableHlo.after hostOps0 (W0 m ρ c) (Proc.devRef .tc main_v14) = _
    after_results
    all_goals rfl
  rw [e]
  exact host_v14 _ i k

theorem host_v16 (a : FVec Ideal S1x1024x1024 .f32) (l k : Fin 1024) : (truncf (F := Ideal) .bf16 (shapeCast _ a shapeCasts_S1x1024x1024_S1024x1024) bitsLt_bf16_f32) (ix2 l k) = a (ix3 0 l k) := by
  pointwise [mWq, mKV, mWo, hd, ln]

theorem at_v16 (c : Dev nD) (l k : Fin 1024) : V1 m ρ c main_v16 (ix2 l k) = (m ((c : Thread nD τ).loc main_arg2)) (ix3 0 l k) := by
  have e : V1 m ρ c main_v16 = truncf (F := Ideal) .bf16 (shapeCast _ (m ((c : Thread nD τ).loc main_arg2)) shapeCasts_S1x1024x1024_S1024x1024) bitsLt_bf16_f32 := by
    show StableHlo.after hostOps0 (W0 m ρ c) (Proc.devRef .tc main_v16) = _
    after_results
    all_goals rfl
  rw [e]
  exact host_v16 _ l k

theorem idx0 : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ t.val < 8 :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![t.val, 0]
    ∧ win1_4.index t = ![0, 0] ∧ win1_5.index t = ![0, 0] ∧ win1_6.index t = ![0, 0] ∧ win1_7.index t = ![0, 0]
    ∧ win1_8.index t = ![t.val, 0] ∧ win1_9.index t = ![t.val, 0] ∧ win1_10.index t = ![t.val, 0] ∧ win1_11.index t = ![0, 0]
    ∧ win1_12.index t = ![0, 0] ∧ win1_13.index t = ![0, 0] ∧ t.val < 8 :=
  (by decide +kernel : ∀ t : Fin grid1.N, _)

theorem lt0 (t : Fin cfg0.N) : t.val < 8 := (idx0 t).2.2.2.2.2.2.2.2.2.2.2.2.2

theorem lt1 (t : Fin cfg1.N) : t.val < 8 := (idx1 t).2.2.2.2.2.2.2.2.2.2.2.2.2.2

theorem blk0_0 (c : Dev nD) (t : Fin cfg0.N) (i : Fin 512) (k : Fin 1024) :
    iblk0 (V1 m ρ) c 0 t (ix2 i k) = V1 m ρ c main_v13 (ix2 (tok t (lt0 t) i) k) := by
  blk_point [iblk0, idx0 t, tok]

theorem blk0_1 (c : Dev nD) (t : Fin cfg0.N) (i : Fin 512) (k : Fin 1024) :
    iblk0 (V1 m ρ) c 1 t (ix2 i k) = V1 m ρ c main_v14 (ix2 (tok t (lt0 t) i) k) := by
  blk_point [iblk0, idx0 t, tok]

theorem blk0_2 (c : Dev nD) (t : Fin cfg0.N) : iblk0 (V1 m ρ) c 2 t = V1 m ρ c main_v16 := by
  funext j
  blk_point [iblk0, idx0 t]

theorem blk0_3 (c : Dev nD) (t : Fin cfg0.N) : iblk0 (V1 m ρ) c 3 t = V1 m ρ c main_arg3 := by
  funext j
  blk_point [iblk0, idx0 t]

theorem blk0_4 (c : Dev nD) (t : Fin cfg0.N) : iblk0 (V1 m ρ) c 4 t = V1 m ρ c main_v2 := by
  funext j
  blk_point [iblk0, idx0 t]

theorem blk0_5 (c : Dev nD) (t : Fin cfg0.N) : iblk0 (V1 m ρ) c 5 t = V1 m ρ c main_v9 := by
  funext j
  blk_point [iblk0, idx0 t]

theorem blk0_6 (c : Dev nD) (t : Fin cfg0.N) : iblk0 (V1 m ρ) c 6 t = V1 m ρ c main_v12 := by
  funext j
  blk_point [iblk0, idx0 t]

theorem blk0_7 (c : Dev nD) (t : Fin cfg0.N) : iblk0 (V1 m ρ) c 7 t = V1 m ρ c main_v6 := by
  funext j
  blk_point [iblk0, idx0 t]

end Cert.AttnIdeal.Value
end
-- ==== Proof.AttnRef.lean ====
module

public import proofs.«01_k».proof.Proof.AttnIn

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! The reference's intermediate arrays, entry by entry. -/

open Cert.Att Cert.Common Cert.AttnReferenceIdeal.Read

def rQ (x0 x1 : FVec Ideal S1x4096x1024 .f32) (x2 : FVec Ideal S1x1024x1024 .f32) (x3 : FVec Ideal S1x1024 .f32) (x4 : FVec Ideal S1x1024x4x256 .f32) (i : Fin 4096) :
    Fin 4 → Fin 256 → EReal := qr (mX x0 x1 x2 i) (mG x3) (mWq x4)

def rA (x7 : FVec Ideal S1x4x256x1024 .f32) (x8 : FVec Ideal S1x4096x1024 .f32) (i : Fin 4096) : Fin 4 → Fin 256 → EReal := da (mWo x7) (mD x8 i)

theorem r2 (x0 : FVec Ideal S1x4096x1024 .f32) (x1 : FVec Ideal S1x4096x1024 .f32) (x2 : FVec Ideal S1x1024x1024 .f32) (i : Fin 4096) (k : Fin 1024) :
    val_main_v2 (F := Ideal) x0 x1 x2 (ix3 0 i k) = mX x0 x1 x2 i k := by
  pointwise [val_main_v2, val_main_v1, val_main_v0, mX]

theorem r16 (x0 : FVec Ideal S1x4096x1024 .f32) (x1 : FVec Ideal S1x4096x1024 .f32) (x2 : FVec Ideal S1x1024x1024 .f32) (x3 : FVec Ideal S1x1024 .f32) (i : Fin 4096) (k : Fin 1024) :
    val_main_v16 (F := Ideal) x0 x1 x2 x3 (ix3 0 i k) = mX x0 x1 x2 i k * Rms.r (mX x0 x1 x2 i) * mG x3 k := by
  pointwise [r2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, Rms.r, mG]

theorem r30 (x0 : FVec Ideal S1x4096x1024 .f32) (x1 : FVec Ideal S1x4096x1024 .f32) (x2 : FVec Ideal S1x1024x1024 .f32) (i : Fin 4096) (k : Fin 1024) :
    val_main_v30 (F := Ideal) x0 x1 x2 (ix3 0 i k) = mX x0 x1 x2 i k * Rms.r (mX x0 x1 x2 i) := by
  pointwise [r2, val_main_v18, val_main_v19, val_main_v20, val_main_v21, val_main_v22, val_main_v23, val_main_v24, val_main_v25, val_main_v26, val_main_v27, val_main_v28, val_main_v29, val_main_v30, val_main_cst_2, val_main_cst_3, val_main_cst_4, Rms.r]

theorem r33 (x0 : FVec Ideal S1x4096x1024 .f32) (x1 : FVec Ideal S1x4096x1024 .f32) (x2 : FVec Ideal S1x1024x1024 .f32) (x3 : FVec Ideal S1x1024 .f32) (i : Fin 4096) (k : Fin 1024) :
    val_main_v33 (F := Ideal) x0 x1 x2 x3 (ix3 0 i k) = mX x0 x1 x2 i k * Rms.r (mX x0 x1 x2 i) * mG x3 k := by
  pointwise [r30, val_main_v17, val_main_v31, val_main_v32, val_main_v33, mG]

theorem r35 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (i : Fin 4096) (h : Fin 4) (e : Fin 256) :
    val_main_v35 (F := Ideal) x0 x1 x2 x3 x4 (ix4 0 i h e) = rQ x0 x1 x2 x3 x4 i h e := by
  pointwise [r33, val_main_v35, val_main_v34, rQ, qr, mWq]

theorem r38 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) (n : Fin 256) :
    val_main_v38 (F := Ideal) x0 x1 x2 x3 x4 x5 (ix4 0 h i n) = scr (rQ x0 x1 x2 x3 x4 i) (mKV x5) h n := by
  pointwise [r35, val_main_v38, val_main_v37, val_main_v36, val_main_cst_6, scr, mKV, c16]

theorem r39 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) :
    val_main_v39 (F := Ideal) x0 x1 x2 x3 x4 x5 (ix3 0 h i) = mx (scr (rQ x0 x1 x2 x3 x4 i) (mKV x5) h) := by
  pointwise [r38, val_main_v39, val_main_cst_7, mx]

theorem r46 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) :
    val_main_v46 (F := Ideal) x0 x1 x2 x3 x4 x5 (ix3 0 h i) = mx (scr (rQ x0 x1 x2 x3 x4 i) (mKV x5) h) := by
  refine Eq.trans ?_ (max_mx _)
  rw [val_main_v46_apply, val_main_v45_apply, val_main_cst_9_apply, r39]
  rfl

theorem r57 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) (n : Fin 256) :
    val_main_v57 (F := Ideal) x0 x1 x2 x3 x4 x5 (ix4 0 h i n) = mx (scr (rQ x0 x1 x2 x3 x4 i) (mKV x5) h) := by
  refine Eq.trans ?_ (r46 x0 x1 x2 x3 x4 x5 i h)
  pointwise [val_main_v57, val_main_v56]

theorem r59 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) (n : Fin 256) :
    val_main_v59 (F := Ideal) x0 x1 x2 x3 x4 x5 (ix4 0 h i n) = ex (scr (rQ x0 x1 x2 x3 x4 i) (mKV x5) h) n := by
  have h38 := r38 x0 x1 x2 x3 x4 x5 i h n
  have h57 := r57 x0 x1 x2 x3 x4 x5 i h n
  unfold ex
  generalize mx (scr (rQ x0 x1 x2 x3 x4 i) (mKV x5) h) = w at *
  pointwise [h38, h57, val_main_v59, val_main_v58]

theorem r60 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) :
    val_main_v60 (F := Ideal) x0 x1 x2 x3 x4 x5 (ix3 0 h i) = sg (scr (rQ x0 x1 x2 x3 x4 i) (mKV x5) h) := by
  pointwise [r59, val_main_v60, val_main_cst_15, sg]

theorem r63 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (i : Fin 4096) (h : Fin 4) (n : Fin 256) :
    val_main_v63 (F := Ideal) x0 x1 x2 x3 x4 x5 (ix4 0 h i n) = pr (scr (rQ x0 x1 x2 x3 x4 i) (mKV x5) h) n := by
  pointwise [r59, r60, val_main_v63, val_main_v62, val_main_v61, pr]

theorem r68 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (i : Fin 4096) (h : Fin 4) (e : Fin 256) :
    val_main_v68 (F := Ideal) x0 x1 x2 x3 x4 x5 x6 (ix4 0 i h e) = ∑ n : Fin 256, mKV x6 n h e * pr (scr (rQ x0 x1 x2 x3 x4 i) (mKV x5) h) n := by
  pointwise [r63, val_main_v68, val_main_v67, mKV]

theorem r72 (x7 : FVec Ideal S1x4x256x1024 .f32) (x8 : FVec Ideal S1x4096x1024 .f32) (i : Fin 4096) (h : Fin 4) (e : Fin 256) :
    val_main_v72 (F := Ideal) x7 x8 (ix4 0 h e i) = rA x7 x8 i h e := by
  pointwise [val_main_v72, val_main_v71, val_main_v69, rA, da, mWo, mD]

theorem r73 (x6 : FVec Ideal S1x256x4x256 .f32) (x7 : FVec Ideal S1x4x256x1024 .f32) (x8 : FVec Ideal S1x4096x1024 .f32) (i : Fin 4096) (h : Fin 4) (n : Fin 256) :
    val_main_v73 (F := Ideal) x6 x7 x8 (ix4 0 h i n) = dp (rA x7 x8 i) (mKV x6) h n := by
  pointwise [r72, val_main_v73, dp, mKV]

end Cert.AttnIdeal.Value
end
-- ==== Proof.AttnRefB.lean ====
module

public import proofs.«01_k».proof.Proof.AttnRef

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! The reference's intermediate arrays, entry by entry. -/

open Cert.Att Cert.Common Cert.AttnReferenceIdeal.Read

theorem r79 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (h : Fin 4) :
    val_main_v79 (F := Ideal) x0 x1 x2 x3 x4 x5 x6 x7 x8 (ix3 0 h i) = ∑ n : Fin 256, (dp (rA x7 x8 i) (mKV x6) h) n * Ideal.div (Ideal.ofBits .f32 0x3F800000#32) (sg (scr (rQ x0 x1 x2 x3 x4 i) (mKV x5) h) * sg (scr (rQ x0 x1 x2 x3 x4 i) (mKV x5) h)) * ex (scr (rQ x0 x1 x2 x3 x4 i) (mKV x5) h) n := by
  pointwise [r73, r59, r60, val_main_v79, val_main_v78, val_main_v77, val_main_v76, val_main_v66, val_main_v65, val_main_v64, val_main_v61, val_main_cst_16, val_main_cst_17]

theorem r84 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (h : Fin 4) :
    val_main_v84 (F := Ideal) x0 x1 x2 x3 x4 x5 x6 x7 x8 (ix2 h i) = -(val_main_v79 (F := Ideal) x0 x1 x2 x3 x4 x5 x6 x7 x8 (ix3 0 h i)) := by
  unfold val_main_v84
  show Ideal.hostReduceAdd _ (val_main_v81 (F := Ideal) x0 x1 x2 x3 x4 x5 x6 x7 x8) _ _ = _
  rw [hostReduceAdd_03 _ rfl _ _ (ix2 h i) h i (fun a => by match a with | ⟨0, _⟩ => rfl | ⟨1, _⟩ => rfl)]
  pointwise [Fin.sum_univ_one, val_main_v81, val_main_v80, val_main_cst_18]

theorem r86 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (h : Fin 4) (n : Fin 256) :
    val_main_v86 (F := Ideal) x0 x1 x2 x3 x4 x5 x6 x7 x8 (ix4 0 h i n) = -(val_main_v79 (F := Ideal) x0 x1 x2 x3 x4 x5 x6 x7 x8 (ix3 0 h i)) := by
  pointwise [r84, val_main_v86, val_main_v85]

theorem r88 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (h : Fin 4) (n : Fin 256) :
    val_main_v88 (F := Ideal) x0 x1 x2 x3 x4 x5 x6 x7 x8 (ix4 0 h i n) = dsr (scr (rQ x0 x1 x2 x3 x4 i) (mKV x5) h) (dp (rA x7 x8 i) (mKV x6) h) n := by
  pointwise [r86, r79, r73, r59, r60, val_main_v88, val_main_v87, val_main_v83, val_main_v82, val_main_v61, dsr]

theorem r90 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (h : Fin 4) (n : Fin 256) :
    val_main_v90 (F := Ideal) x0 x1 x2 x3 x4 x5 x6 x7 x8 (ix4 0 h i n) = dsr (scr (rQ x0 x1 x2 x3 x4 i) (mKV x5) h) (dp (rA x7 x8 i) (mKV x6) h) n * c16 := by
  pointwise [r88, val_main_v90, val_main_v89, val_main_cst_19, c16]

theorem r92 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (n : Fin 256) (h : Fin 4) (e : Fin 256) :
    val_main_v92 (F := Ideal) x0 x1 x2 x3 x4 x5 x6 x7 x8 (ix4 0 n h e) = ∑ i : Fin 4096, dsr (scr (rQ x0 x1 x2 x3 x4 i) (mKV x5) h) (dp (rA x7 x8 i) (mKV x6) h) n * c16 * rQ x0 x1 x2 x3 x4 i h e := by
  pointwise [r90, r35, val_main_v92, val_main_v91]

theorem r75 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x7 : FVec Ideal S1x4x256x1024 .f32) (x8 : FVec Ideal S1x4096x1024 .f32) (n : Fin 256) (h : Fin 4) (e : Fin 256) :
    val_main_v75 (F := Ideal) x0 x1 x2 x3 x4 x5 x7 x8 (ix4 0 n h e) = ∑ i : Fin 4096, rA x7 x8 i h e * pr (scr (rQ x0 x1 x2 x3 x4 i) (mKV x5) h) n := by
  pointwise [r72, r63, val_main_v75, val_main_v74]

theorem r94 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (h : Fin 4) (e : Fin 256) :
    val_main_v94 (F := Ideal) x0 x1 x2 x3 x4 x5 x6 x7 x8 (ix4 0 i h e) = dqr (rQ x0 x1 x2 x3 x4 i) (rA x7 x8 i) (mKV x5) (mKV x6) h e := by
  pointwise [r90, val_main_v94, val_main_v93, dqr, mKV]

def rH (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) : Fin 1024 → EReal :=
  dh (dqr (rQ x0 x1 x2 x3 x4 i) (rA x7 x8 i) (mKV x5) (mKV x6)) (mWq x4)

theorem r95 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (j : Fin 1024) :
    val_main_v95 (F := Ideal) x0 x1 x2 x3 x4 x5 x6 x7 x8 (ix3 0 i j) = rH x0 x1 x2 x3 x4 x5 x6 x7 x8 i j := by
  pointwise [r94, val_main_v95, val_main_v34, rH, dh, mWq]

theorem r70 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (i : Fin 4096) (j : Fin 1024) :
    val_main_v70 (F := Ideal) x0 x1 x2 x3 x4 x5 x6 x7 (ix3 0 i j) = ∑ h : Fin 4, ∑ e : Fin 256, (∑ n : Fin 256, mKV x6 n h e * pr (scr (rQ x0 x1 x2 x3 x4 i) (mKV x5) h) n) * mWo x7 h e j := by
  pointwise [r68, val_main_v70, val_main_v69, mWo]
  exact Finset.sum_comm

theorem r101 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (j : Fin 1024) :
    val_main_v101 (F := Ideal) x0 x1 x2 x3 x4 x5 x6 x7 x8 (ix1 j) = ∑ i : Fin 4096, mX x0 x1 x2 i j * Rms.r (mX x0 x1 x2 i) * rH x0 x1 x2 x3 x4 x5 x6 x7 x8 i j := by
  unfold val_main_v101
  show Ideal.hostReduceAdd _ (val_main_v98 (F := Ideal) x0 x1 x2 x3 x4 x5 x6 x7 x8) _ _ = _
  rw [hostReduceAdd_01 _ rfl _ _ (ix1 j) j (fun a => by match a with | ⟨0, _⟩ => rfl)]
  pointwise [Fin.sum_univ_one, r30, r95, val_main_v98, val_main_v97, val_main_v96, val_main_cst_20, val_main_cst_21]

theorem r25 (x0 : FVec Ideal S1x4096x1024 .f32) (x1 : FVec Ideal S1x4096x1024 .f32) (x2 : FVec Ideal S1x1024x1024 .f32) (i : Fin 4096) :
    val_main_v25 (F := Ideal) x0 x1 x2 (ix3 0 i 0) = Rms.r (mX x0 x1 x2 i) := by
  pointwise [r2, val_main_v18, val_main_v19, val_main_v20, val_main_v21, val_main_v22, val_main_v23, val_main_v24, val_main_v25, val_main_cst_2, val_main_cst_3, val_main_cst_4, Rms.r]

theorem r100 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (j : Fin 1024) :
    val_main_v100 (F := Ideal) x0 x1 x2 x3 x4 x5 x6 x7 x8 (ix3 0 i j) = rH x0 x1 x2 x3 x4 x5 x6 x7 x8 i j * mG x3 j := by
  pointwise [r95, val_main_v100, val_main_v99, val_main_v31, val_main_v17, mG]

theorem r110 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) :
    val_main_v110 (F := Ideal) x0 x1 x2 x3 x4 x5 x6 x7 x8 (ix1 i) = Rms.m2 (mX x0 x1 x2 i) (rH x0 x1 x2 x3 x4 x5 x6 x7 x8 i) (mG x3) := by
  unfold val_main_v110
  show Ideal.hostReduceAdd _ (val_main_v109 (F := Ideal) x0 x1 x2 x3 x4 x5 x6 x7 x8) _ _ = _
  rw [hostReduceAdd_02 _ rfl _ _ (ix1 i) i (fun a => by match a with | ⟨0, _⟩ => rfl)]
  pointwise [Fin.sum_univ_one, r2, r100, val_main_v109, val_main_v108, val_main_v107, val_main_v104, val_main_v103, val_main_v102, val_main_v28, val_main_v27, val_main_v26, val_main_v25, val_main_v24, val_main_v23, val_main_v22, val_main_v21, val_main_v20, val_main_v19, val_main_v18, val_main_cst_2, val_main_cst_3, val_main_cst_4, val_main_cst_5, val_main_cst_22, val_main_cst_23, val_main_cst_24, Rms.m2, Rms.r]

theorem r118 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (j : Fin 1024) :
    val_main_v118 (F := Ideal) x0 x1 x2 x3 x4 x5 x6 x7 x8 (ix3 0 i j) = mD x8 i j + (rH x0 x1 x2 x3 x4 x5 x6 x7 x8 i j * mG x3 j * Rms.r (mX x0 x1 x2 i) + mX x0 x1 x2 i j * Rms.m2 (mX x0 x1 x2 i) (rH x0 x1 x2 x3 x4 x5 x6 x7 x8 i) (mG x3) + Rms.m2 (mX x0 x1 x2 i) (rH x0 x1 x2 x3 x4 x5 x6 x7 x8 i) (mG x3) * mX x0 x1 x2 i j) := by
  pointwise [r2, r100, r25, r110, val_main_v118, val_main_v116, val_main_v115, val_main_v114, val_main_v113, val_main_v112, val_main_v111, val_main_v106, val_main_v105, mD]

theorem f119 (x0 : FVec Ideal S1x4096x1024 .f32) (x1 : FVec Ideal S1x4096x1024 .f32) (x2 : FVec Ideal S1x1024x1024 .f32) (i : Fin 4096) (j : Fin 1024) :
    val_main_v119 (F := Ideal) x0 x1 x2 (ix2 i j) = val_main_v2 (F := Ideal) x0 x1 x2 (ix3 0 i j) := by
  pointwise [val_main_v119]

theorem f121 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (i : Fin 4096) (j : Fin 1024) :
    val_main_v121 (F := Ideal) x0 x1 x2 x3 x4 x5 x6 x7 (ix2 i j) = val_main_v120 (F := Ideal) x0 x1 x2 x3 x4 x5 x6 x7 (ix3 0 i j) := by
  pointwise [val_main_v121]

theorem f123 (x0 : FVec Ideal S1x4096x1024 .f32) (x1 : FVec Ideal S1x4096x1024 .f32) (x2 : FVec Ideal S1x1024x1024 .f32) (x3 : FVec Ideal S1x1024 .f32) (i : Fin 4096) (j : Fin 1024) :
    val_main_v123 (F := Ideal) x0 x1 x2 x3 (ix2 i j) = val_main_v16 (F := Ideal) x0 x1 x2 x3 (ix3 0 i j) := by
  pointwise [val_main_v123, val_main_v122]

theorem f126 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (j : Fin 1024) :
    val_main_v126 (F := Ideal) x0 x1 x2 x3 x4 x5 x6 x7 x8 (ix2 i j) = val_main_v118 (F := Ideal) x0 x1 x2 x3 x4 x5 x6 x7 x8 (ix3 0 i j) := by
  pointwise [val_main_v126]

theorem f128 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (j : Fin 1024) :
    val_main_v128 (F := Ideal) x0 x1 x2 x3 x4 x5 x6 x7 x8 (ix2 i j) = val_main_v118 (F := Ideal) x0 x1 x2 x3 x4 x5 x6 x7 x8 (ix3 0 i j) := by
  pointwise [val_main_v128, val_main_v127]

theorem f125 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (i : Fin 4096) (j : Fin 1024) :
    val_main_v125 (F := Ideal) x0 x1 x2 x3 x4 x5 x6 (ix2 i j) = val_main_v68 (F := Ideal) x0 x1 x2 x3 x4 x5 x6 (ix4 0 i (hd j) (ln j)) := by
  pointwise [val_main_v125, val_main_v124, hd, ln]

theorem f130 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (i : Fin 4096) (j : Fin 1024) :
    val_main_v130 (F := Ideal) x0 x1 x2 x3 x4 x5 x6 x7 x8 (ix2 i j) = val_main_v94 (F := Ideal) x0 x1 x2 x3 x4 x5 x6 x7 x8 (ix4 0 i (hd j) (ln j)) := by
  pointwise [val_main_v130, val_main_v129, hd, ln]

theorem f131 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (n : Fin 256) (j : Fin 1024) :
    val_main_v131 (F := Ideal) x0 x1 x2 x3 x4 x5 x6 x7 x8 (ix2 n j) = val_main_v92 (F := Ideal) x0 x1 x2 x3 x4 x5 x6 x7 x8 (ix4 0 n (hd j) (ln j)) := by
  pointwise [val_main_v131, hd, ln]

theorem f132 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x7 : FVec Ideal S1x4x256x1024 .f32) (x8 : FVec Ideal S1x4096x1024 .f32) (n : Fin 256) (j : Fin 1024) :
    val_main_v132 (F := Ideal) x0 x1 x2 x3 x4 x5 x7 x8 (ix2 n j) = val_main_v75 (F := Ideal) x0 x1 x2 x3 x4 x5 x7 x8 (ix4 0 n (hd j) (ln j)) := by
  pointwise [val_main_v132, hd, ln]

theorem f134 (x0 : FVec Ideal S1x4096x1024 .f32) (x1 : FVec Ideal S1x4096x1024 .f32) (x2 : FVec Ideal S1x1024x1024 .f32) (x3 : FVec Ideal S1x1024 .f32) (x4 : FVec Ideal S1x1024x4x256 .f32) (x5 : FVec Ideal S1x256x4x256 .f32) (x6 : FVec Ideal S1x256x4x256 .f32) (x7 : FVec Ideal S1x4x256x1024 .f32) (x8 : FVec Ideal S1x4096x1024 .f32) (s : Fin 8) (j : Fin 1024) :
    val_main_v134 (F := Ideal) x0 x1 x2 x3 x4 x5 x6 x7 x8 (ix2 s j) = if (s : ℕ) < 1 then val_main_v101 (F := Ideal) x0 x1 x2 x3 x4 x5 x6 x7 x8 (ix1 j) else 0 := by
  by_cases hs : (s : ℕ) < 1
  · rw [if_pos hs]
    pointwise [val_main_v134, val_main_v117, val_main_v133, val_main_cst_25]
    rw [dif_pos hs]
  · rw [if_neg hs]
    pointwise [val_main_v134, val_main_v117, val_main_v133, val_main_cst_25]
    rw [dif_neg hs]

end Cert.AttnIdeal.Value
end
-- ==== Proof.AttnRun.lean ====
/- The run of the two cross-attention calls, forward and backward, with every buffer of the host program read back at the end. -/
module

public import proofs.«01_k».proof.Proof.Gen.AttnIdeal.Frame

@[expose] public section

set_option maxRecDepth 16384

noncomputable section

namespace Cert.AttnIdeal.Run

open Cert.AttnIdeal Cert.AttnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at what the last boundary of the program says it holds. -/
theorem ends : θ_run defs (onTc (τ := τ) (main (F := F))) ⟨m, fun _ => 0, ρ⟩ (fun r => ∀ c : Dev nD, ∀ b ∈ Pipeline.ucRefs τ sig,
      r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.AttnIdeal.Run

end
-- ==== Proof.AttnFwd.lean ====
module

public import proofs.«01_k».proof.Proof.AttnIn
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the first kernel leaves of a tile of rows, in terms of its blocks. -/

open Cert.Att Cert.Common

variable (m : (ℓ : Loc nD τ sig) → Buf (Elt Ideal) ℓ) (ρ : Dev nD → PrngReg)

def row (Q : Vec Ideal S512x1024 .bf16) (i : Fin 512) (h : Fin 4) (e : Fin 256) : EReal := Q (ix2 i (fl h e))

def mem (K : Vec Ideal S256x1024 .bf16) (n : Fin 256) (h : Fin 4) (e : Fin 256) : EReal := K (ix2 n (fl h e))

/-- A tile's attention. -/
def attB (Q : Vec Ideal S512x1024 .bf16) (K V : Vec Ideal S256x1024 .bf16) (h : Fin 4) (i : Fin 512) (e : Fin 256) : EReal :=
  at_ (row Q i) (mem K) (mem V) h e

theorem ld_rows (h : Fin 4) (o : Nat) (ho : o = 256 * h) (inb : ∀ a, (![0, o] : Fin 2 → Nat) a + (![512, 256] : Fin 2 → Nat) a ≤ S512x1024.size a)
    (X : Vec Ideal S512x1024 .bf16) (i : Fin 512) (k : Fin 256) :
    View.ld (S := S512x1024) X (Rect.unit ![0, o] ![512, 256] inb) (ix2 i k) = X (ix2 i (fl h k)) := ld_col h o ho inb X i k

theorem ld_mem (h : Fin 4) (o : Nat) (ho : o = 256 * h) (inb : ∀ a, (![0, o] : Fin 2 → Nat) a + (![256, 256] : Fin 2 → Nat) a ≤ S256x1024.size a)
    (X : Vec Ideal S256x1024 .bf16) (i : Fin 256) (k : Fin 256) :
    View.ld (S := S256x1024) X (Rect.unit ![0, o] ![256, 256] inb) (ix2 i k) = X (ix2 i (fl h k)) := ld_col h o ho inb X i k

theorem head_eq (h : Fin 4) (o : Nat) (ho : o = 256 * h) (inb : ∀ a, (![0, o] : Fin 2 → Nat) a + (![512, 256] : Fin 2 → Nat) a ≤ S512x1024.size a)
    (inb' : ∀ a, (![0, o] : Fin 2 → Nat) a + (![256, 256] : Fin 2 → Nat) a ≤ S256x1024.size a) (Q : Vec Ideal S512x1024 .bf16) (K V : Vec Ideal S256x1024 .bf16) (i : Fin 512) (e : Fin 256) :
    (∑ n : Fin 256, pr (fun n => ∑ e : Fin 256, View.ld (S := S512x1024) Q (Rect.unit ![0, o] ![512, 256] inb) (ix2 i e) * View.ld (S := S256x1024) K (Rect.unit ![0, o] ![256, 256] inb') (ix2 n e)) n
        * View.ld (S := S256x1024) V (Rect.unit ![0, o] ![256, 256] inb') (ix2 n e))
      = attB Q K V h i e :=
  Finset.sum_congr rfl fun x _ => congrArg₂ (fun a b : EReal => a * b)
    (congrArg (fun s => pr s x) (funext fun n => Finset.sum_congr rfl fun e _ => congrArg₂ (fun a b : EReal => a * b) (ld_rows h o ho inb Q i e) (ld_mem h o ho inb' K n e)))
    (ld_mem h o ho inb' V x e)

theorem att_cols (Q : Vec Ideal S512x1024 .bf16) (K V : Vec Ideal S256x1024 .bf16)
    (n0 : ∀ a, (![0, 0] : Fin 2 → Nat) a + (![512, 256] : Fin 2 → Nat) a ≤ S512x1024.size a) (l0 : ∀ a, (![0, 0] : Fin 2 → Nat) a + (![256, 256] : Fin 2 → Nat) a ≤ S256x1024.size a)
    (n256 : ∀ a, (![0, 256] : Fin 2 → Nat) a + (![512, 256] : Fin 2 → Nat) a ≤ S512x1024.size a) (l256 : ∀ a, (![0, 256] : Fin 2 → Nat) a + (![256, 256] : Fin 2 → Nat) a ≤ S256x1024.size a)
    (n512 : ∀ a, (![0, 512] : Fin 2 → Nat) a + (![512, 256] : Fin 2 → Nat) a ≤ S512x1024.size a) (l512 : ∀ a, (![0, 512] : Fin 2 → Nat) a + (![256, 256] : Fin 2 → Nat) a ≤ S256x1024.size a)
    (n768 : ∀ a, (![0, 768] : Fin 2 → Nat) a + (![512, 256] : Fin 2 → Nat) a ≤ S512x1024.size a) (l768 : ∀ a, (![0, 768] : Fin 2 → Nat) a + (![256, 256] : Fin 2 → Nat) a ≤ S256x1024.size a)
    (i : Fin 512) (j : Fin 1024) :
    View.canon (Val := Elt Ideal) (s := S512x1024) (e := .bf16) [
      ⟨Rect.unit ![0, 768] ![512, 256] n768, k0_pay1 (F := Ideal) (k0_pay10 (k0_pay7 (View.ld (Val := Elt Ideal) Q (Rect.unit ![0, 768] ![512, 256] n768)) (View.ld (Val := Elt Ideal) K (Rect.unit ![0, 768] ![256, 256] l768)))) (View.ld (Val := Elt Ideal) V (Rect.unit ![0, 768] ![256, 256] l768))⟩,
      ⟨Rect.unit ![0, 512] ![512, 256] n512, k0_pay13 (F := Ideal) (k0_pay6 (View.ld (Val := Elt Ideal) Q (Rect.unit ![0, 512] ![512, 256] n512)) (View.ld (Val := Elt Ideal) K (Rect.unit ![0, 512] ![256, 256] l512))) (View.ld (Val := Elt Ideal) V (Rect.unit ![0, 512] ![256, 256] l512))⟩,
      ⟨Rect.unit ![0, 256] ![512, 256] n256, k0_pay12 (F := Ideal) (k0_pay9 (View.ld (Val := Elt Ideal) Q (Rect.unit ![0, 256] ![512, 256] n256)) (View.ld (Val := Elt Ideal) K (Rect.unit ![0, 256] ![256, 256] l256))) (View.ld (Val := Elt Ideal) V (Rect.unit ![0, 256] ![256, 256] l256))⟩,
      ⟨Rect.unit ![0, 0] ![512, 256] n0, k0_pay11 (F := Ideal) (k0_pay8 (View.ld (Val := Elt Ideal) Q (Rect.unit ![0, 0] ![512, 256] n0)) (View.ld (Val := Elt Ideal) K (Rect.unit ![0, 0] ![256, 256] l0))) (View.ld (Val := Elt Ideal) V (Rect.unit ![0, 0] ![256, 256] l0))⟩] (ix2 i j)
      = attB Q K V (hd j) i (ln j) := by
  refine canon_cols (Val := Elt Ideal) (e := .bf16) (attB Q K V) _ _ _ _ _ _ _ _ (fun i e => ?_) (fun i e => ?_) (fun i e => ?_) (fun i e => ?_) _ i j
  · rw [pay1_at]; simp only [pay10_at, pay7_at]; exact head_eq 3 768 rfl _ _ Q K V i e
  · rw [pay13_at]; simp only [pay6_at]; exact head_eq 2 512 rfl _ _ Q K V i e
  · rw [pay12_at]; simp only [pay9_at]; exact head_eq 1 256 rfl _ _ Q K V i e
  · rw [pay11_at]; simp only [pay8_at]; exact head_eq 0 0 rfl _ _ Q K V i e

/-- A load of the whole of what was stored. -/
theorem readCov_all {sig : RefSig} {κ : Kind} {sp : Space} {Val : EltTy → Type} {e : EltTy} [∀ e, Nonempty (Val e)] {R n : Nat} (v : View sig κ sp ⟨2, ![R, n]⟩ e)
    (L : List (View.Piece Val ⟨2, ![R, n]⟩ e)) (inb : ∀ a, (![0, 0] : Fin 2 → Nat) a + (![R, n] : Fin 2 → Nat) a ≤ (⟨2, ![R, n]⟩ : Shape).size a) (i : Fin R) (k : Fin n) :
    v.readCov L (Rect.unit (s := ⟨2, ![R, n]⟩) ![0, 0] ![R, n] inb).toLoadRect (ix2 i k : (⟨2, ![R, n]⟩ : Shape).Idx) = View.canon L (ix2 i k) := by
  rw [View.readCov_eq_canon']
  refine congrArg (View.canon L) (funext fun a => Fin.ext ?_)
  match a with
  | ⟨0, _⟩ => show 0 + 1 * (i : Nat) = i; omega
  | ⟨1, _⟩ => show 0 + 1 * (k : Nat) = k; omega

def vX (c : Dev nD) (i : Fin 4096) (k : Fin 1024) : EReal :=
  mX (m ((c : Thread nD τ).loc main_arg0)) (m ((c : Thread nD τ).loc main_arg1)) (m ((c : Thread nD τ).loc main_arg2)) i k

def vG (c : Dev nD) (k : Fin 1024) : EReal := mG (m ((c : Thread nD τ).loc main_arg3)) k

def vWq (c : Dev nD) (k : Fin 1024) (h : Fin 4) (e : Fin 256) : EReal := mWq (m ((c : Thread nD τ).loc main_arg4)) k h e

def vK (c : Dev nD) (n : Fin 256) (h : Fin 4) (e : Fin 256) : EReal := mKV (m ((c : Thread nD τ).loc main_arg5)) n h e

def vV (c : Dev nD) (n : Fin 256) (h : Fin 4) (e : Fin 256) : EReal := mKV (m ((c : Thread nD τ).loc main_arg6)) n h e

def vWo (c : Dev nD) (h : Fin 4) (e : Fin 256) (j : Fin 1024) : EReal := mWo (m ((c : Thread nD τ).loc main_arg7)) h e j

def vQ (c : Dev nD) (i : Fin 4096) (h : Fin 4) (e : Fin 256) : EReal := qr (vX m c i) (vG m c) (vWq m c) h e * c16

/-- A tile's queries, as the first kernel stores them. -/
def tQ (c : Dev nD) (t : Fin cfg0.N) : Vec Ideal S512x1024 .bf16 :=
  k0_pay5 (iblk0 (V1 m ρ) c 0 t) (iblk0 (V1 m ρ) c 1 t) (iblk0 (V1 m ρ) c 2 t) (iblk0 (V1 m ρ) c 3 t) (iblk0 (V1 m ρ) c 4 t)

theorem tX (c : Dev nD) (t : Fin cfg0.N) (i : Fin 512) :
    xRow (iblk0 (V1 m ρ) c 0 t) (iblk0 (V1 m ρ) c 1 t) (iblk0 (V1 m ρ) c 2 t) i = vX m c (tok t (lt0 t) i) := by
  funext k
  unfold xRow vX mX
  refine congrArg₂ (fun a b : EReal => a + b) ((blk0_0 m ρ c t i k).trans (at_v13 m ρ c _ k)) (Finset.sum_congr rfl fun l _ => ?_)
  refine congrArg₂ (fun a b : EReal => a * b) ((blk0_1 m ρ c t i l).trans (at_v14 m ρ c _ l)) ?_
  rw [blk0_2]
  exact at_v16 m ρ c l k

theorem tG (c : Dev nD) (t : Fin cfg0.N) (k : Fin 1024) : iblk0 (V1 m ρ) c 3 t (ix2 0 k) = vG m c k := by
  rw [blk0_3]
  exact congrFun (W1_args m ρ c main_arg3 (by decide)) (ix2 0 k)

theorem tQ_at (c : Dev nD) (t : Fin cfg0.N) (i : Fin 512) : row (tQ m ρ c t) i = vQ m c (tok t (lt0 t) i) := by
  funext h e
  unfold row tQ vQ qr
  rw [pay5_at, tX]
  refine congrArg (fun a : EReal => a * c16) (Finset.sum_congr rfl fun k _ => ?_)
  refine congrArg₂ (fun a b : EReal => a * b) (congrArg (fun a : EReal => vX m c (tok t (lt0 t) i) k * Rms.r (vX m c (tok t (lt0 t) i)) * a) (tG m ρ c t k)) ?_
  rw [blk0_4]
  refine (at_v2 m ρ c k (fl h e)).trans ?_
  rw [hd_fl, ln_fl]
  rfl

theorem tK (c : Dev nD) (t : Fin cfg0.N) : mem (iblk0 (V1 m ρ) c 5 t) = vK m c := by
  funext n h e
  unfold mem
  rw [blk0_5]
  refine (at_v9 m ρ c n (fl h e)).trans ?_
  rw [hd_fl, ln_fl]
  rfl

theorem tV (c : Dev nD) (t : Fin cfg0.N) : mem (iblk0 (V1 m ρ) c 6 t) = vV m c := by
  funext n h e
  unfold mem
  rw [blk0_6]
  refine (at_v12 m ρ c n (fl h e)).trans ?_
  rw [hd_fl, ln_fl]
  rfl

theorem att_tile (c : Dev nD) (t : Fin cfg0.N) (h : Fin 4) (i : Fin 512) (e : Fin 256) :
    attB (tQ m ρ c t) (iblk0 (V1 m ρ) c 5 t) (iblk0 (V1 m ρ) c 6 t) h i e = at_ (vQ m c (tok t (lt0 t) i)) (vK m c) (vV m c) h e := by
  unfold attB
  rw [tQ_at, tK, tV]

theorem aft_12 (c : Dev nD) (t : Fin cfg0.N) (i : Fin 512) (j : Fin 1024) :
    (dat0 (V1 m ρ) c).after 12 t (ix2 i j) = at_ (vQ m c (tok t (lt0 t) i)) (vK m c) (vV m c) (hd j) (ln j) := by
  rw [after0_12]
  frame_out
  rw [View.readCov_fill, View.readCov_fill, View.readCov_fill, View.readCov_fill]
  · exact (att_cols _ _ _ _ _ _ _ _ _ _ _ i j).trans (att_tile m ρ c t _ _ _)
  all_goals decide

theorem aft_9 (c : Dev nD) (t : Fin cfg0.N) (i : Fin 512) (j : Fin 1024) :
    (dat0 (V1 m ρ) c).after 9 t (ix2 i j)
      = vX m c (tok t (lt0 t) i) j + ∑ h : Fin 4, ∑ e : Fin 256, at_ (vQ m c (tok t (lt0 t) i)) (vK m c) (vV m c) h e * vWo m c h e j := by
  rw [after0_9]
  frame_out
  rw [View.readCov_fill, View.readCov_fill, View.readCov_fill, View.readCov_fill, pay2_at, pay3_at, tX]
  · refine congrArg (fun a : EReal => vX m c (tok t (lt0 t) i) j + a) ?_
    refine (Finset.sum_congr rfl fun k _ => ?_).trans (sum_heads fun h e => at_ (vQ m c (tok t (lt0 t) i)) (vK m c) (vV m c) h e * vWo m c h e j)
    refine congrArg₂ (fun a b : EReal => a * b) (((readCov_all _ _ _ i k).trans (att_cols _ _ _ _ _ _ _ _ _ _ _ i k)).trans (att_tile m ρ c t _ _ _)) ?_
    rw [blk0_7]
    exact at_v6 m ρ c j k
  all_goals decide

theorem aft_8 (c : Dev nD) (t : Fin cfg0.N) (i : Fin 512) (j : Fin 1024) :
    (dat0 (V1 m ρ) c).after 8 t (ix2 i j) = vX m c (tok t (lt0 t) i) j := by
  rw [after0_8]
  unfold outsAt0
  frame_out
  rw [pay3_at, tX]

theorem aft_10 (c : Dev nD) (t : Fin cfg0.N) (i : Fin 512) (j : Fin 1024) :
    (dat0 (V1 m ρ) c).after 10 t (ix2 i j) = vX m c (tok t (lt0 t) i) j * Rms.r (vX m c (tok t (lt0 t) i)) * vG m c j := by
  rw [after0_10]
  frame_out
  rw [pay4_at, tX]
  exact congrArg (fun a : EReal => _ * a) (tG m ρ c t j)

theorem aft_11 (c : Dev nD) (t : Fin cfg0.N) (i : Fin 512) (j : Fin 1024) :
    (dat0 (V1 m ρ) c).after 11 t (ix2 i j) = vQ m c (tok t (lt0 t) i) (hd j) (ln j) := by
  rw [after0_11]
  frame_out
  have h := congrFun (congrFun (tQ_at m ρ c t i) (hd j)) (ln j)
  have hj : fl (hd j) (ln j) = j := Fin.ext (by show 256 * ((j : Nat) / 256) + j % 256 = j; omega)
  unfold row at h
  rw [hj] at h
  exact h

def out0_8 (c : Dev nD) (z : S4096x1024.Idx) : EReal := vX m c (z 0) (z 1)

theorem fin0_8 (c : Dev nD) : (dat0 (V1 m ρ) c).arrAt 8 cfg0.N = out0_8 m c := by
  refine (dat0 (V1 m ρ) c).arrAt_eq_of_covers 8 _ (by decide +kernel) fun t _ y => ?_
  blk_simp
  refine (congrArg _ (eta2 (a := 512) (b := 1024) y)).trans ((aft_8 m ρ c t (y 0) (y 1)).trans (congrArg (out0_8 m c) (?_ : ix2 (tok t (lt0 t) (y 0)) (y 1) = _)))
  blk_ext [idx0 t, tok]

def out0_9 (c : Dev nD) (z : S4096x1024.Idx) : EReal := vX m c (z 0) (z 1) + ∑ h : Fin 4, ∑ e : Fin 256, at_ (vQ m c (z 0)) (vK m c) (vV m c) h e * vWo m c h e (z 1)

theorem fin0_9 (c : Dev nD) : (dat0 (V1 m ρ) c).arrAt 9 cfg0.N = out0_9 m c := by
  refine (dat0 (V1 m ρ) c).arrAt_eq_of_covers 9 _ (by decide +kernel) fun t _ y => ?_
  blk_simp
  refine (congrArg _ (eta2 (a := 512) (b := 1024) y)).trans ((aft_9 m ρ c t (y 0) (y 1)).trans (congrArg (out0_9 m c) (?_ : ix2 (tok t (lt0 t) (y 0)) (y 1) = _)))
  blk_ext [idx0 t, tok]

def out0_10 (c : Dev nD) (z : S4096x1024.Idx) : EReal := vX m c (z 0) (z 1) * Rms.r (vX m c (z 0)) * vG m c (z 1)

theorem fin0_10 (c : Dev nD) : (dat0 (V1 m ρ) c).arrAt 10 cfg0.N = out0_10 m c := by
  refine (dat0 (V1 m ρ) c).arrAt_eq_of_covers 10 _ (by decide +kernel) fun t _ y => ?_
  blk_simp
  refine (congrArg _ (eta2 (a := 512) (b := 1024) y)).trans ((aft_10 m ρ c t (y 0) (y 1)).trans (congrArg (out0_10 m c) (?_ : ix2 (tok t (lt0 t) (y 0)) (y 1) = _)))
  blk_ext [idx0 t, tok]

def out0_11 (c : Dev nD) (z : S4096x1024.Idx) : EReal := vQ m c (z 0) (hd (z 1)) (ln (z 1))

theorem out0_11_at (c : Dev nD) (i : Fin 4096) (j : Fin 1024) : vQ m c i (hd j) (ln j) = out0_11 m c (ix2 i j) := rfl

theorem fin0_11 (c : Dev nD) : (dat0 (V1 m ρ) c).arrAt 11 cfg0.N = out0_11 m c := by
  refine (dat0 (V1 m ρ) c).arrAt_eq_of_covers 11 _ (by decide +kernel) fun t _ y => ?_
  blk_simp
  refine (congrArg _ (eta2 (a := 512) (b := 1024) y)).trans ((aft_11 m ρ c t (y 0) (y 1)).trans ((out0_11_at m c _ _).trans <| congrArg (out0_11 m c) (?_ : ix2 (tok t (lt0 t) (y 0)) (y 1) = _)))
  blk_ext [idx0 t, tok]

def out0_12 (c : Dev nD) (z : S4096x1024.Idx) : EReal := at_ (vQ m c (z 0)) (vK m c) (vV m c) (hd (z 1)) (ln (z 1))

theorem out0_12_at (c : Dev nD) (i : Fin 4096) (j : Fin 1024) : at_ (vQ m c i) (vK m c) (vV m c) (hd j) (ln j) = out0_12 m c (ix2 i j) := rfl

theorem fin0_12 (c : Dev nD) : (dat0 (V1 m ρ) c).arrAt 12 cfg0.N = out0_12 m c := by
  refine (dat0 (V1 m ρ) c).arrAt_eq_of_covers 12 _ (by decide +kernel) fun t _ y => ?_
  blk_simp
  refine (congrArg _ (eta2 (a := 512) (b := 1024) y)).trans ((aft_12 m ρ c t (y 0) (y 1)).trans ((out0_12_at m c _ _).trans <| congrArg (out0_12 m c) (?_ : ix2 (tok t (lt0 t) (y 0)) (y 1) = _)))
  blk_ext [idx0 t, tok]

end Cert.AttnIdeal.Value
end
-- ==== Proof.AttnPayB.lean ====
module

public import proofs.«01_k».proof.Proof.Att
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the second kernel stores, entry by entry, in terms of what it loads. -/

open Cert.Att Cert.Common

theorem b7_at (a : Vec Ideal S512x256 .bf16) (b : Vec Ideal S256x256 .bf16) (i : Fin 512) (n : Fin 256) :
    k1_pay7 (F := Ideal) a b (ix2 i n) = ∑ e : Fin 256, a (ix2 i e) * b (ix2 n e) := by
  pointwise [k1_pay7]

theorem b8_at (a : Vec Ideal S512x256 .bf16) (b : Vec Ideal S256x256 .bf16) (i : Fin 512) (n : Fin 256) :
    k1_pay8 (F := Ideal) a b (ix2 i n) = ∑ e : Fin 256, a (ix2 i e) * b (ix2 n e) := by
  pointwise [k1_pay8]

theorem b12_at (a : Vec Ideal S512x256 .bf16) (b : Vec Ideal S256x256 .bf16) (i : Fin 512) (n : Fin 256) :
    k1_pay12 (F := Ideal) a b (ix2 i n) = ∑ e : Fin 256, a (ix2 i e) * b (ix2 n e) := by
  pointwise [k1_pay12]

theorem b13_at (a : Vec Ideal S512x256 .bf16) (b : Vec Ideal S256x256 .bf16) (i : Fin 512) (n : Fin 256) :
    k1_pay13 (F := Ideal) a b (ix2 i n) = ∑ e : Fin 256, a (ix2 i e) * b (ix2 n e) := by
  pointwise [k1_pay13]

theorem b14_at (a : Vec Ideal S512x256 .bf16) (b : Vec Ideal S256x256 .bf16) (i : Fin 512) (n : Fin 256) :
    k1_pay14 (F := Ideal) a b (ix2 i n) = ∑ e : Fin 256, a (ix2 i e) * b (ix2 n e) := by
  pointwise [k1_pay14]

theorem b15_at (a : Vec Ideal S512x256 .bf16) (b : Vec Ideal S256x256 .bf16) (i : Fin 512) (n : Fin 256) :
    k1_pay15 (F := Ideal) a b (ix2 i n) = ∑ e : Fin 256, a (ix2 i e) * b (ix2 n e) := by
  pointwise [k1_pay15]

theorem b16_at (a : Vec Ideal S512x256 .bf16) (b : Vec Ideal S256x256 .bf16) (i : Fin 512) (n : Fin 256) :
    k1_pay16 (F := Ideal) a b (ix2 i n) = ∑ e : Fin 256, a (ix2 i e) * b (ix2 n e) := by
  pointwise [k1_pay16]

theorem b11_at (a : Vec Ideal S512x256 .bf16) (b : Vec Ideal S256x256 .bf16) (i : Fin 512) (n : Fin 256) :
    k1_pay11 (F := Ideal) (k1_pay9 a) (k1_pay10 b) (constant S512x256 .f32 0x00000000#32) (ix2 i n) = ∑ e : Fin 256, a (ix2 i e) * b (ix2 n e) := by
  pointwise [k1_pay11, k1_pay9, k1_pay10]

theorem b17_at (s : Vec Ideal S512x256 .f32) (i : Fin 512) (n : Fin 256) :
    k1_pay17 (F := Ideal) s (ix2 i n) = pr (fun n => s (ix2 i n)) n := by
  pointwise [k1_pay17, pr, ex, sg, mx]

theorem b20_at (s : Vec Ideal S512x256 .f32) (i : Fin 512) (n : Fin 256) :
    k1_pay20 (F := Ideal) s (ix2 i n) = pr (fun n => s (ix2 i n)) n := by
  pointwise [k1_pay20, pr, ex, sg, mx]

theorem b21_at (s : Vec Ideal S512x256 .f32) (i : Fin 512) (n : Fin 256) :
    k1_pay21 (F := Ideal) s (ix2 i n) = pr (fun n => s (ix2 i n)) n := by
  pointwise [k1_pay21, pr, ex, sg, mx]

theorem b19_at (s : Vec Ideal S512x256 .f32) (i : Fin 512) (n : Fin 256) :
    k1_pay19 (F := Ideal) s (k1_pay18 s) (ix2 i n) = pr (fun n => s (ix2 i n)) n := by
  pointwise [k1_pay19, k1_pay18, pr, ex, sg, mx]

theorem b22_at (s d : Vec Ideal S512x256 .f32) (i : Fin 512) (n : Fin 256) :
    k1_pay22 (F := Ideal) d (k1_pay17 s) (ix2 i n) = ds (fun n => s (ix2 i n)) (fun n => d (ix2 i n)) n := by
  pointwise [k1_pay22, b17_at, ds]

theorem b23_at (s d : Vec Ideal S512x256 .f32) (i : Fin 512) (n : Fin 256) :
    k1_pay23 (F := Ideal) s d (k1_pay18 s) (ix2 i n) = ds (fun n => s (ix2 i n)) (fun n => d (ix2 i n)) n := by
  pointwise [k1_pay23, b19_at, ds]

theorem b24_at (s d : Vec Ideal S512x256 .f32) (i : Fin 512) (n : Fin 256) :
    k1_pay24 (F := Ideal) s d (ix2 i n) = ds (fun n => s (ix2 i n)) (fun n => d (ix2 i n)) n := by
  pointwise [k1_pay24, b20_at, ds]

theorem b26_at (s d : Vec Ideal S512x256 .f32) (i : Fin 512) (n : Fin 256) :
    k1_pay26 (F := Ideal) d (k1_pay21 s) (k1_pay25 s d) (ix2 i n) = ds (fun n => s (ix2 i n)) (fun n => d (ix2 i n)) n := by
  pointwise [k1_pay26, k1_pay25, b21_at, ds]

theorem b27_at (D : Vec Ideal S512x256 .bf16) (k : Vec Ideal S256x256 .bf16) (i : Fin 512) (e : Fin 256) :
    k1_pay27 (F := Ideal) D k (ix2 i e) = (∑ n : Fin 256, D (ix2 i n) * k (ix2 n e)) * c16 := by
  pointwise [k1_pay27, c16]

theorem b30_at (D : Vec Ideal S512x256 .bf16) (k : Vec Ideal S256x256 .bf16) (i : Fin 512) (e : Fin 256) :
    k1_pay30 (F := Ideal) D k (ix2 i e) = (∑ n : Fin 256, D (ix2 i n) * k (ix2 n e)) * c16 := by
  pointwise [k1_pay30, c16]

theorem b33_at (D : Vec Ideal S512x256 .bf16) (k : Vec Ideal S256x256 .bf16) (i : Fin 512) (e : Fin 256) :
    k1_pay33 (F := Ideal) D k (ix2 i e) = (∑ n : Fin 256, D (ix2 i n) * k (ix2 n e)) * c16 := by
  pointwise [k1_pay33, c16]

theorem b36_at (D : Vec Ideal S512x256 .bf16) (k : Vec Ideal S256x256 .bf16) (i : Fin 512) (e : Fin 256) :
    k1_pay36 (F := Ideal) D k (ix2 i e) = (∑ n : Fin 256, D (ix2 i n) * k (ix2 n e)) * c16 := by
  pointwise [k1_pay36, c16]

theorem b28_at (D : Vec Ideal S512x256 .bf16) (o : Vec Ideal S256x256 .f32) (q : Vec Ideal S512x256 .bf16) (n e : Fin 256) :
    k1_pay28 (F := Ideal) D o q (ix2 n e) = o (ix2 n e) + ∑ i : Fin 512, D (ix2 i n) * q (ix2 i e) := by
  pointwise [k1_pay28]

theorem b31_at (D : Vec Ideal S512x256 .bf16) (o : Vec Ideal S256x256 .f32) (q : Vec Ideal S512x256 .bf16) (n e : Fin 256) :
    k1_pay31 (F := Ideal) D o q (ix2 n e) = o (ix2 n e) + ∑ i : Fin 512, D (ix2 i n) * q (ix2 i e) := by
  pointwise [k1_pay31]

theorem b34_at (D : Vec Ideal S512x256 .bf16) (o : Vec Ideal S256x256 .f32) (q : Vec Ideal S512x256 .bf16) (n e : Fin 256) :
    k1_pay34 (F := Ideal) D o q (ix2 n e) = o (ix2 n e) + ∑ i : Fin 512, D (ix2 i n) * q (ix2 i e) := by
  pointwise [k1_pay34]

theorem b37_at (D : Vec Ideal S512x256 .bf16) (o : Vec Ideal S256x256 .f32) (q : Vec Ideal S512x256 .bf16) (n e : Fin 256) :
    k1_pay37 (F := Ideal) D o q (ix2 n e) = o (ix2 n e) + ∑ i : Fin 512, D (ix2 i n) * q (ix2 i e) := by
  pointwise [k1_pay37]

theorem b29_at (p : Vec Ideal S512x256 .f32) (o : Vec Ideal S256x256 .f32) (a : Vec Ideal S512x256 .bf16) (n e : Fin 256) :
    k1_pay29 (F := Ideal) p o a (ix2 n e) = o (ix2 n e) + ∑ i : Fin 512, p (ix2 i n) * a (ix2 i e) := by
  pointwise [k1_pay29]

theorem b32_at (p : Vec Ideal S512x256 .f32) (o : Vec Ideal S256x256 .f32) (a : Vec Ideal S512x256 .bf16) (n e : Fin 256) :
    k1_pay32 (F := Ideal) p o a (ix2 n e) = o (ix2 n e) + ∑ i : Fin 512, p (ix2 i n) * a (ix2 i e) := by
  pointwise [k1_pay32]

theorem b35_at (p : Vec Ideal S512x256 .f32) (o : Vec Ideal S256x256 .f32) (a : Vec Ideal S512x256 .bf16) (n e : Fin 256) :
    k1_pay35 (F := Ideal) p o a (ix2 n e) = o (ix2 n e) + ∑ i : Fin 512, p (ix2 i n) * a (ix2 i e) := by
  pointwise [k1_pay35]

theorem b38_at (p : Vec Ideal S512x256 .f32) (o : Vec Ideal S256x256 .f32) (a : Vec Ideal S512x256 .bf16) (n e : Fin 256) :
    k1_pay38 (F := Ideal) p o a (ix2 n e) = o (ix2 n e) + ∑ i : Fin 512, p (ix2 i n) * a (ix2 i e) := by
  pointwise [k1_pay38]

theorem b6_at (d : Vec Ideal S512x1024 .f32) (w : Vec Ideal S1024x1024 .bf16) (i : Fin 512) (j : Fin 1024) :
    k1_pay6 (F := Ideal) d w (ix2 i j) = ∑ k : Fin 1024, d (ix2 i k) * w (ix2 k j) := by
  pointwise [k1_pay6, k1_pay5]

theorem b40_at (b : Vec Ideal S512x1024 .bf16) (w : Vec Ideal S1024x1024 .bf16) (i : Fin 512) (j : Fin 1024) :
    k1_pay40 (F := Ideal) b w (ix2 i j) = ∑ k : Fin 1024, b (ix2 i k) * w (ix2 j k) := by
  pointwise [k1_pay40]

theorem b42_at (x : Vec Ideal S512x1024 .f32) (i : Fin 512) (j : Fin 1024) :
    k1_pay42 (F := Ideal) x (ix2 i j) = x (ix2 i j) * Rms.r (fun k => x (ix2 i k)) := by
  pointwise [k1_pay42, k1_pay41, k1_pay39, Rms.r, Rms.c1024, Rms.cEps]

theorem b43_at (x : Vec Ideal S512x1024 .f32) (g : Vec Ideal S1x1024 .f32) (b : Vec Ideal S512x1024 .bf16) (w : Vec Ideal S1024x1024 .bf16) (i : Fin 512) (j : Fin 1024) :
    k1_pay43 (F := Ideal) x g b w (ix2 i j) = Rms.dxk (fun k => x (ix2 i k)) (fun j => ∑ k : Fin 1024, b (ix2 i k) * w (ix2 j k)) (fun k => g (ix2 0 k)) j := by
  pointwise [k1_pay43, k1_pay41, k1_pay39, b40_at, b42_at, Rms.dxk, Rms.r, Rms.c1024, Rms.cEps]

theorem b44_at (x : Vec Ideal S512x1024 .f32) (b : Vec Ideal S512x1024 .bf16) (w : Vec Ideal S1024x1024 .bf16) (j : Fin 1024) :
    k1_pay44 (F := Ideal) x b w (ix2 0 j) = ∑ i : Fin 512, (∑ k : Fin 1024, b (ix2 i k) * w (ix2 j k)) * (x (ix2 i j) * Rms.r (fun k => x (ix2 i k))) := by
  pointwise [k1_pay44, b40_at, b42_at]

theorem b45_at (d x : Vec Ideal S512x1024 .f32) (g : Vec Ideal S1x1024 .f32) (b : Vec Ideal S512x1024 .bf16) (w : Vec Ideal S1024x1024 .bf16) (i : Fin 512) (j : Fin 1024) :
    k1_pay45 (F := Ideal) (k1_pay5 d) x g b w (ix2 i j) = d (ix2 i j) + Rms.dxk (fun k => x (ix2 i k)) (fun j => ∑ k : Fin 1024, b (ix2 i k) * w (ix2 j k)) (fun k => g (ix2 0 k)) j := by
  pointwise [k1_pay45, k1_pay5, b43_at]

theorem b46_at (d x : Vec Ideal S512x1024 .f32) (g : Vec Ideal S1x1024 .f32) (b : Vec Ideal S512x1024 .bf16) (w : Vec Ideal S1024x1024 .bf16) (i : Fin 512) (j : Fin 1024) :
    k1_pay46 (F := Ideal) (k1_pay5 d) x g b w (ix2 i j) = d (ix2 i j) + Rms.dxk (fun k => x (ix2 i k)) (fun j => ∑ k : Fin 1024, b (ix2 i k) * w (ix2 j k)) (fun k => g (ix2 0 k)) j := by
  pointwise [k1_pay46, k1_pay5, b43_at]

theorem b1_at (v o : Vec Ideal S1x1024 .f32) (j : Fin 1024) :
    k1_pay1 (F := Ideal) v o (ix2 0 j) = o (ix2 0 j) + v (ix2 0 j) := by
  pointwise [k1_pay1]

end Cert.AttnIdeal.Value
end
-- ==== Proof.AttnTile.lean ====
module

public import proofs.«01_k».proof.Proof.AttnFwd
public import proofs.«01_k».proof.Proof.AttnPayB
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the second kernel leaves of a tile of rows, in terms of what it loads. -/

open Cert.Att Cert.Common

abbrev In512 (o : Nat) : Prop := ∀ a, (![0, o] : Fin 2 → Nat) a + (![512, 256] : Fin 2 → Nat) a ≤ S512x1024.size a

abbrev In256 (o : Nat) : Prop := ∀ a, (![0, o] : Fin 2 → Nat) a + (![256, 256] : Fin 2 → Nat) a ≤ S256x1024.size a

/-- A head's columns of the staged rows. -/
abbrev rd (A : Vec Ideal S512x1024 .bf16) (o : Nat) (inb : In512 o) : Vec Ideal S512x256 .bf16 :=
  View.readCov (Val := Elt Ideal) (s := S512x1024) (e := .bf16) (View.whole cc1_scratch0) [⟨Rect.unit ![0, 0] ![512, 1024] inb_S512x1024_S512x1024_0_0, A⟩]
    (Rect.unit (s := S512x1024) ![0, o] ![512, 256] inb).toLoadRect

theorem readCov_rows {sig : RefSig} {κ : Kind} {sp : Space} (v : View sig κ sp S512x1024 .bf16) (h : Fin 4) (o : Nat) (ho : o = 256 * h) (inb : In512 o)
    (A : Vec Ideal S512x1024 .bf16) (i : Fin 512) (e : Fin 256) :
    View.readCov (Val := Elt Ideal) v [⟨Rect.unit ![0, 0] ![512, 1024] inb_S512x1024_S512x1024_0_0, A⟩] (Rect.unit (s := S512x1024) ![0, o] ![512, 256] inb).toLoadRect (ix2 i e : S512x256.Idx)
      = A (ix2 i (fl h e)) := by
  rw [View.readCov_fill]
  · exact ld_rows h o ho inb A i e
  · decide

theorem rd_at (h : Fin 4) (o : Nat) (ho : o = 256 * h) (inb : In512 o) (A : Vec Ideal S512x1024 .bf16) (i : Fin 512) (e : Fin 256) :
    rd A o inb (ix2 i e) = A (ix2 i (fl h e)) := readCov_rows (View.whole cc1_scratch0) h o ho inb A i e

theorem sc_of {s : Fin 256 → EReal} {a : Vec Ideal S512x256 .bf16} {b : Vec Ideal S256x256 .bf16} (Q : Vec Ideal S512x1024 .bf16) (K : Vec Ideal S256x1024 .bf16)
    (h : Fin 4) (i : Fin 512) (ha : ∀ e, a (ix2 i e) = Q (ix2 i (fl h e))) (hb : ∀ n e, b (ix2 n e) = K (ix2 n (fl h e)))
    (hs : ∀ n, s n = ∑ e : Fin 256, a (ix2 i e) * b (ix2 n e)) : s = sc (row Q i) (mem K) h :=
  funext fun n => (hs n).trans (Finset.sum_congr rfl fun e _ => congrArg₂ (fun a b : EReal => a * b) (ha e) (hb n e))

variable (Q A : Vec Ideal S512x1024 .bf16) (K V : Vec Ideal S256x1024 .bf16)

/-- A tile's probabilities, and their scores' gradient. -/
def prB (h : Fin 4) (i : Fin 512) (n : Fin 256) : EReal := pr (sc (row Q i) (mem K) h) n

def dsB (h : Fin 4) (i : Fin 512) (n : Fin 256) : EReal := ds (sc (row Q i) (mem K) h) (dp (row A i) (mem V) h) n

def dqB (h : Fin 4) (i : Fin 512) (e : Fin 256) : EReal := dq (row Q i) (row A i) (mem K) (mem V) h e

theorem s_0 (n0 : In512 0) (l0 : In256 0) (i : Fin 512) : (fun n => k1_pay7 (View.ld (S := S512x1024) Q (Rect.unit ![0, 0] ![512, 256] n0)) (View.ld (S := S256x1024) K (Rect.unit ![0, 0] ![256, 256] l0)) (ix2 i n)) = sc (row Q i) (mem K) 0 :=
  sc_of Q K 0 i (ld_rows 0 0 rfl n0 Q i) (ld_mem 0 0 rfl l0 K) (b7_at _ _ i)

theorem p_0 (n0 : In512 0) (l0 : In256 0) (i : Fin 512) (n : Fin 256) : k1_pay17 (k1_pay7 (View.ld (S := S512x1024) Q (Rect.unit ![0, 0] ![512, 256] n0)) (View.ld (S := S256x1024) K (Rect.unit ![0, 0] ![256, 256] l0))) (ix2 i n) = prB Q K 0 i n :=
  (b17_at _ i n).trans (congrArg (fun s => pr s n) (s_0 Q K n0 l0 i))

theorem ds_0 (n0 : In512 0) (l0 : In256 0) (i : Fin 512) (n : Fin 256) : k1_pay22 (k1_pay13 (rd A 0 n0) (View.ld (S := S256x1024) V (Rect.unit ![0, 0] ![256, 256] l0))) (k1_pay17 (k1_pay7 (View.ld (S := S512x1024) Q (Rect.unit ![0, 0] ![512, 256] n0)) (View.ld (S := S256x1024) K (Rect.unit ![0, 0] ![256, 256] l0)))) (ix2 i n) = dsB Q A K V 0 i n :=
  (b22_at _ _ i n).trans (congrArg₂ (fun s d => ds s d n) (s_0 Q K n0 l0 i)
    (sc_of A V 0 i (rd_at 0 0 rfl n0 A i) (ld_mem 0 0 rfl l0 V) (b13_at _ _ i)))

theorem s_1 (n256 : In512 256) (l256 : In256 256) (i : Fin 512) : (fun n => k1_pay8 (View.ld (S := S512x1024) Q (Rect.unit ![0, 256] ![512, 256] n256)) (View.ld (S := S256x1024) K (Rect.unit ![0, 256] ![256, 256] l256)) (ix2 i n)) = sc (row Q i) (mem K) 1 :=
  sc_of Q K 1 i (ld_rows 1 256 rfl n256 Q i) (ld_mem 1 256 rfl l256 K) (b8_at _ _ i)

theorem p_1 (n256 : In512 256) (l256 : In256 256) (i : Fin 512) (n : Fin 256) : k1_pay19 (k1_pay8 (View.ld (S := S512x1024) Q (Rect.unit ![0, 256] ![512, 256] n256)) (View.ld (S := S256x1024) K (Rect.unit ![0, 256] ![256, 256] l256))) (k1_pay18 (k1_pay8 (View.ld (S := S512x1024) Q (Rect.unit ![0, 256] ![512, 256] n256)) (View.ld (S := S256x1024) K (Rect.unit ![0, 256] ![256, 256] l256)))) (ix2 i n) = prB Q K 1 i n :=
  (b19_at _ i n).trans (congrArg (fun s => pr s n) (s_1 Q K n256 l256 i))

theorem ds_1 (n256 : In512 256) (l256 : In256 256) (i : Fin 512) (n : Fin 256) : k1_pay23 (k1_pay8 (View.ld (S := S512x1024) Q (Rect.unit ![0, 256] ![512, 256] n256)) (View.ld (S := S256x1024) K (Rect.unit ![0, 256] ![256, 256] l256))) (k1_pay14 (rd A 256 n256) (View.ld (S := S256x1024) V (Rect.unit ![0, 256] ![256, 256] l256))) (k1_pay18 (k1_pay8 (View.ld (S := S512x1024) Q (Rect.unit ![0, 256] ![512, 256] n256)) (View.ld (S := S256x1024) K (Rect.unit ![0, 256] ![256, 256] l256)))) (ix2 i n) = dsB Q A K V 1 i n :=
  (b23_at _ _ i n).trans (congrArg₂ (fun s d => ds s d n) (s_1 Q K n256 l256 i)
    (sc_of A V 1 i (rd_at 1 256 rfl n256 A i) (ld_mem 1 256 rfl l256 V) (b14_at _ _ i)))

theorem s_2 (n512 : In512 512) (l512 : In256 512) (i : Fin 512) : (fun n => k1_pay11 (k1_pay9 (View.ld (S := S512x1024) Q (Rect.unit ![0, 512] ![512, 256] n512))) (k1_pay10 (View.ld (S := S256x1024) K (Rect.unit ![0, 512] ![256, 256] l512))) (constant S512x256 .f32 0x00000000#32) (ix2 i n)) = sc (row Q i) (mem K) 2 :=
  sc_of Q K 2 i (ld_rows 2 512 rfl n512 Q i) (ld_mem 2 512 rfl l512 K) (b11_at _ _ i)

theorem p_2 (n512 : In512 512) (l512 : In256 512) (i : Fin 512) (n : Fin 256) : k1_pay20 (k1_pay11 (k1_pay9 (View.ld (S := S512x1024) Q (Rect.unit ![0, 512] ![512, 256] n512))) (k1_pay10 (View.ld (S := S256x1024) K (Rect.unit ![0, 512] ![256, 256] l512))) (constant S512x256 .f32 0x00000000#32)) (ix2 i n) = prB Q K 2 i n :=
  (b20_at _ i n).trans (congrArg (fun s => pr s n) (s_2 Q K n512 l512 i))

theorem ds_2 (n512 : In512 512) (l512 : In256 512) (i : Fin 512) (n : Fin 256) : k1_pay24 (k1_pay11 (k1_pay9 (View.ld (S := S512x1024) Q (Rect.unit ![0, 512] ![512, 256] n512))) (k1_pay10 (View.ld (S := S256x1024) K (Rect.unit ![0, 512] ![256, 256] l512))) (constant S512x256 .f32 0x00000000#32)) (k1_pay15 (rd A 512 n512) (View.ld (S := S256x1024) V (Rect.unit ![0, 512] ![256, 256] l512))) (ix2 i n) = dsB Q A K V 2 i n :=
  (b24_at _ _ i n).trans (congrArg₂ (fun s d => ds s d n) (s_2 Q K n512 l512 i)
    (sc_of A V 2 i (rd_at 2 512 rfl n512 A i) (ld_mem 2 512 rfl l512 V) (b15_at _ _ i)))

theorem s_3 (n768 : In512 768) (l768 : In256 768) (i : Fin 512) : (fun n => k1_pay12 (View.ld (S := S512x1024) Q (Rect.unit ![0, 768] ![512, 256] n768)) (View.ld (S := S256x1024) K (Rect.unit ![0, 768] ![256, 256] l768)) (ix2 i n)) = sc (row Q i) (mem K) 3 :=
  sc_of Q K 3 i (ld_rows 3 768 rfl n768 Q i) (ld_mem 3 768 rfl l768 K) (b12_at _ _ i)

theorem p_3 (n768 : In512 768) (l768 : In256 768) (i : Fin 512) (n : Fin 256) : k1_pay21 (k1_pay12 (View.ld (S := S512x1024) Q (Rect.unit ![0, 768] ![512, 256] n768)) (View.ld (S := S256x1024) K (Rect.unit ![0, 768] ![256, 256] l768))) (ix2 i n) = prB Q K 3 i n :=
  (b21_at _ i n).trans (congrArg (fun s => pr s n) (s_3 Q K n768 l768 i))

theorem ds_3 (n768 : In512 768) (l768 : In256 768) (i : Fin 512) (n : Fin 256) : k1_pay26 (k1_pay16 (rd A 768 n768) (View.ld (S := S256x1024) V (Rect.unit ![0, 768] ![256, 256] l768))) (k1_pay21 (k1_pay12 (View.ld (S := S512x1024) Q (Rect.unit ![0, 768] ![512, 256] n768)) (View.ld (S := S256x1024) K (Rect.unit ![0, 768] ![256, 256] l768)))) (k1_pay25 (k1_pay12 (View.ld (S := S512x1024) Q (Rect.unit ![0, 768] ![512, 256] n768)) (View.ld (S := S256x1024) K (Rect.unit ![0, 768] ![256, 256] l768))) (k1_pay16 (rd A 768 n768) (View.ld (S := S256x1024) V (Rect.unit ![0, 768] ![256, 256] l768)))) (ix2 i n) = dsB Q A K V 3 i n :=
  (b26_at _ _ i n).trans (congrArg₂ (fun s d => ds s d n) (s_3 Q K n768 l768 i)
    (sc_of A V 3 i (rd_at 3 768 rfl n768 A i) (ld_mem 3 768 rfl l768 V) (b16_at _ _ i)))

theorem dq_of {D : Vec Ideal S512x256 .bf16} {h : Fin 4} {o : Nat} (ho : o = 256 * h) (inb : In256 o) (i : Fin 512) (e : Fin 256)
    (hD : ∀ n, D (ix2 i n) = dsB Q A K V h i n) :
    (∑ n : Fin 256, D (ix2 i n) * View.ld (S := S256x1024) K (Rect.unit ![0, o] ![256, 256] inb) (ix2 n e)) * c16 = dqB Q A K V h i e :=
  congrArg (fun a : EReal => a * c16) (Finset.sum_congr rfl fun n _ => congrArg₂ (fun a b : EReal => a * b) (hD n) (ld_mem h o ho inb K n e))

theorem dq_cols (n0 : In512 0) (l0 : In256 0)
    (n256 : In512 256) (l256 : In256 256)
    (n512 : In512 512) (l512 : In256 512)
    (n768 : In512 768) (l768 : In256 768)
    (i : Fin 512) (j : Fin 1024) :
    View.canon (Val := Elt Ideal) (s := S512x1024) (e := .bf16) [
      ⟨Rect.unit ![0, 768] ![512, 256] n768, k1_pay36 (F := Ideal) (k1_pay26 (k1_pay16 (rd A 768 n768) (View.ld (S := S256x1024) V (Rect.unit ![0, 768] ![256, 256] l768))) (k1_pay21 (k1_pay12 (View.ld (S := S512x1024) Q (Rect.unit ![0, 768] ![512, 256] n768)) (View.ld (S := S256x1024) K (Rect.unit ![0, 768] ![256, 256] l768)))) (k1_pay25 (k1_pay12 (View.ld (S := S512x1024) Q (Rect.unit ![0, 768] ![512, 256] n768)) (View.ld (S := S256x1024) K (Rect.unit ![0, 768] ![256, 256] l768))) (k1_pay16 (rd A 768 n768) (View.ld (S := S256x1024) V (Rect.unit ![0, 768] ![256, 256] l768))))) (View.ld (S := S256x1024) K (Rect.unit ![0, 768] ![256, 256] l768))⟩,
      ⟨Rect.unit ![0, 512] ![512, 256] n512, k1_pay33 (F := Ideal) (k1_pay24 (k1_pay11 (k1_pay9 (View.ld (S := S512x1024) Q (Rect.unit ![0, 512] ![512, 256] n512))) (k1_pay10 (View.ld (S := S256x1024) K (Rect.unit ![0, 512] ![256, 256] l512))) (constant S512x256 .f32 0x00000000#32)) (k1_pay15 (rd A 512 n512) (View.ld (S := S256x1024) V (Rect.unit ![0, 512] ![256, 256] l512)))) (View.ld (S := S256x1024) K (Rect.unit ![0, 512] ![256, 256] l512))⟩,
      ⟨Rect.unit ![0, 256] ![512, 256] n256, k1_pay30 (F := Ideal) (k1_pay23 (k1_pay8 (View.ld (S := S512x1024) Q (Rect.unit ![0, 256] ![512, 256] n256)) (View.ld (S := S256x1024) K (Rect.unit ![0, 256] ![256, 256] l256))) (k1_pay14 (rd A 256 n256) (View.ld (S := S256x1024) V (Rect.unit ![0, 256] ![256, 256] l256))) (k1_pay18 (k1_pay8 (View.ld (S := S512x1024) Q (Rect.unit ![0, 256] ![512, 256] n256)) (View.ld (S := S256x1024) K (Rect.unit ![0, 256] ![256, 256] l256))))) (View.ld (S := S256x1024) K (Rect.unit ![0, 256] ![256, 256] l256))⟩,
      ⟨Rect.unit ![0, 0] ![512, 256] n0, k1_pay27 (F := Ideal) (k1_pay22 (k1_pay13 (rd A 0 n0) (View.ld (S := S256x1024) V (Rect.unit ![0, 0] ![256, 256] l0))) (k1_pay17 (k1_pay7 (View.ld (S := S512x1024) Q (Rect.unit ![0, 0] ![512, 256] n0)) (View.ld (S := S256x1024) K (Rect.unit ![0, 0] ![256, 256] l0))))) (View.ld (S := S256x1024) K (Rect.unit ![0, 0] ![256, 256] l0))⟩] (ix2 i j)
      = dqB Q A K V (hd j) i (ln j) := by
  refine canon_cols (Val := Elt Ideal) (e := .bf16) (dqB Q A K V) _ _ _ _ _ _ _ _ (fun i e => ?_) (fun i e => ?_) (fun i e => ?_) (fun i e => ?_) _ i j
  · exact (b36_at _ _ i e).trans (dq_of Q A K V (h := 3) rfl l768 i e (ds_3 Q A K V n768 l768 i))
  · exact (b33_at _ _ i e).trans (dq_of Q A K V (h := 2) rfl l512 i e (ds_2 Q A K V n512 l512 i))
  · exact (b30_at _ _ i e).trans (dq_of Q A K V (h := 1) rfl l256 i e (ds_1 Q A K V n256 l256 i))
  · exact (b27_at _ _ i e).trans (dq_of Q A K V (h := 0) rfl l0 i e (ds_0 Q A K V n0 l0 i))

/-- One tile's part of the keys' and of the values' gradient. -/
def dkB (h : Fin 4) (n e : Fin 256) : EReal := ∑ i : Fin 512, dsB Q A K V h i n * Q (ix2 i (fl h e))

def dvB (h : Fin 4) (n e : Fin 256) : EReal := ∑ i : Fin 512, prB Q K h i n * A (ix2 i (fl h e))

theorem dk_cols (n0 : In512 0) (l0 : In256 0)
    (n256 : In512 256) (l256 : In256 256)
    (n512 : In512 512) (l512 : In256 512)
    (n768 : In512 768) (l768 : In256 768)
    (f : Fin 4 → Fin 256 → Fin 256 → EReal) (O0 : Vec Ideal S256x256 .f32) (O1 : Vec Ideal S256x256 .f32) (O2 : Vec Ideal S256x256 .f32) (O3 : Vec Ideal S256x256 .f32)
    (h0 : ∀ n e, O0 (ix2 n e) = f 0 n e) (h1 : ∀ n e, O1 (ix2 n e) = f 1 n e) (h2 : ∀ n e, O2 (ix2 n e) = f 2 n e) (h3 : ∀ n e, O3 (ix2 n e) = f 3 n e)
    (L : List (View.Piece (Elt Ideal) S256x1024 .f32)) (n : Fin 256) (j : Fin 1024) :
    View.canon (Val := Elt Ideal) (s := S256x1024) (e := .f32) (⟨Rect.unit ![0, 768] ![256, 256] l768, k1_pay37 (F := Ideal) (k1_pay26 (k1_pay16 (rd A 768 n768) (View.ld (S := S256x1024) V (Rect.unit ![0, 768] ![256, 256] l768))) (k1_pay21 (k1_pay12 (View.ld (S := S512x1024) Q (Rect.unit ![0, 768] ![512, 256] n768)) (View.ld (S := S256x1024) K (Rect.unit ![0, 768] ![256, 256] l768)))) (k1_pay25 (k1_pay12 (View.ld (S := S512x1024) Q (Rect.unit ![0, 768] ![512, 256] n768)) (View.ld (S := S256x1024) K (Rect.unit ![0, 768] ![256, 256] l768))) (k1_pay16 (rd A 768 n768) (View.ld (S := S256x1024) V (Rect.unit ![0, 768] ![256, 256] l768))))) O3 (View.ld (S := S512x1024) Q (Rect.unit ![0, 768] ![512, 256] n768))⟩ ::
      ⟨Rect.unit ![0, 512] ![256, 256] l512, k1_pay34 (F := Ideal) (k1_pay24 (k1_pay11 (k1_pay9 (View.ld (S := S512x1024) Q (Rect.unit ![0, 512] ![512, 256] n512))) (k1_pay10 (View.ld (S := S256x1024) K (Rect.unit ![0, 512] ![256, 256] l512))) (constant S512x256 .f32 0x00000000#32)) (k1_pay15 (rd A 512 n512) (View.ld (S := S256x1024) V (Rect.unit ![0, 512] ![256, 256] l512)))) O2 (View.ld (S := S512x1024) Q (Rect.unit ![0, 512] ![512, 256] n512))⟩ ::
      ⟨Rect.unit ![0, 256] ![256, 256] l256, k1_pay31 (F := Ideal) (k1_pay23 (k1_pay8 (View.ld (S := S512x1024) Q (Rect.unit ![0, 256] ![512, 256] n256)) (View.ld (S := S256x1024) K (Rect.unit ![0, 256] ![256, 256] l256))) (k1_pay14 (rd A 256 n256) (View.ld (S := S256x1024) V (Rect.unit ![0, 256] ![256, 256] l256))) (k1_pay18 (k1_pay8 (View.ld (S := S512x1024) Q (Rect.unit ![0, 256] ![512, 256] n256)) (View.ld (S := S256x1024) K (Rect.unit ![0, 256] ![256, 256] l256))))) O1 (View.ld (S := S512x1024) Q (Rect.unit ![0, 256] ![512, 256] n256))⟩ ::
      ⟨Rect.unit ![0, 0] ![256, 256] l0, k1_pay28 (F := Ideal) (k1_pay22 (k1_pay13 (rd A 0 n0) (View.ld (S := S256x1024) V (Rect.unit ![0, 0] ![256, 256] l0))) (k1_pay17 (k1_pay7 (View.ld (S := S512x1024) Q (Rect.unit ![0, 0] ![512, 256] n0)) (View.ld (S := S256x1024) K (Rect.unit ![0, 0] ![256, 256] l0))))) O0 (View.ld (S := S512x1024) Q (Rect.unit ![0, 0] ![512, 256] n0))⟩ :: L) (ix2 n j)
      = f (hd j) n (ln j) + dkB Q A K V (hd j) n (ln j) := by
  refine canon_cols (Val := Elt Ideal) (e := .f32) (fun h n e => f h n e + dkB Q A K V h n e) _ _ _ _ _ _ _ _ (fun n e => ?_) (fun n e => ?_) (fun n e => ?_) (fun n e => ?_) _ n j
  · exact (b37_at _ _ _ n e).trans (congrArg₂ (fun a b : EReal => a + b) (h3 n e) (Finset.sum_congr rfl fun i _ => congrArg₂ (fun a b : EReal => a * b) (ds_3 Q A K V n768 l768 i n) (ld_rows 3 768 rfl n768 Q i e)))
  · exact (b34_at _ _ _ n e).trans (congrArg₂ (fun a b : EReal => a + b) (h2 n e) (Finset.sum_congr rfl fun i _ => congrArg₂ (fun a b : EReal => a * b) (ds_2 Q A K V n512 l512 i n) (ld_rows 2 512 rfl n512 Q i e)))
  · exact (b31_at _ _ _ n e).trans (congrArg₂ (fun a b : EReal => a + b) (h1 n e) (Finset.sum_congr rfl fun i _ => congrArg₂ (fun a b : EReal => a * b) (ds_1 Q A K V n256 l256 i n) (ld_rows 1 256 rfl n256 Q i e)))
  · exact (b28_at _ _ _ n e).trans (congrArg₂ (fun a b : EReal => a + b) (h0 n e) (Finset.sum_congr rfl fun i _ => congrArg₂ (fun a b : EReal => a * b) (ds_0 Q A K V n0 l0 i n) (ld_rows 0 0 rfl n0 Q i e)))

theorem dv_cols (n0 : In512 0) (l0 : In256 0)
    (n256 : In512 256) (l256 : In256 256)
    (n512 : In512 512) (l512 : In256 512)
    (n768 : In512 768) (l768 : In256 768)
    (f : Fin 4 → Fin 256 → Fin 256 → EReal) (O0 : Vec Ideal S256x256 .f32) (O1 : Vec Ideal S256x256 .f32) (O2 : Vec Ideal S256x256 .f32) (O3 : Vec Ideal S256x256 .f32)
    (h0 : ∀ n e, O0 (ix2 n e) = f 0 n e) (h1 : ∀ n e, O1 (ix2 n e) = f 1 n e) (h2 : ∀ n e, O2 (ix2 n e) = f 2 n e) (h3 : ∀ n e, O3 (ix2 n e) = f 3 n e)
    (L : List (View.Piece (Elt Ideal) S256x1024 .f32)) (n : Fin 256) (j : Fin 1024) :
    View.canon (Val := Elt Ideal) (s := S256x1024) (e := .f32) (⟨Rect.unit ![0, 768] ![256, 256] l768, k1_pay38 (F := Ideal) (k1_pay21 (k1_pay12 (View.ld (S := S512x1024) Q (Rect.unit ![0, 768] ![512, 256] n768)) (View.ld (S := S256x1024) K (Rect.unit ![0, 768] ![256, 256] l768)))) O3 (rd A 768 n768)⟩ ::
      ⟨Rect.unit ![0, 512] ![256, 256] l512, k1_pay35 (F := Ideal) (k1_pay20 (k1_pay11 (k1_pay9 (View.ld (S := S512x1024) Q (Rect.unit ![0, 512] ![512, 256] n512))) (k1_pay10 (View.ld (S := S256x1024) K (Rect.unit ![0, 512] ![256, 256] l512))) (constant S512x256 .f32 0x00000000#32))) O2 (rd A 512 n512)⟩ ::
      ⟨Rect.unit ![0, 256] ![256, 256] l256, k1_pay32 (F := Ideal) (k1_pay19 (k1_pay8 (View.ld (S := S512x1024) Q (Rect.unit ![0, 256] ![512, 256] n256)) (View.ld (S := S256x1024) K (Rect.unit ![0, 256] ![256, 256] l256))) (k1_pay18 (k1_pay8 (View.ld (S := S512x1024) Q (Rect.unit ![0, 256] ![512, 256] n256)) (View.ld (S := S256x1024) K (Rect.unit ![0, 256] ![256, 256] l256))))) O1 (rd A 256 n256)⟩ ::
      ⟨Rect.unit ![0, 0] ![256, 256] l0, k1_pay29 (F := Ideal) (k1_pay17 (k1_pay7 (View.ld (S := S512x1024) Q (Rect.unit ![0, 0] ![512, 256] n0)) (View.ld (S := S256x1024) K (Rect.unit ![0, 0] ![256, 256] l0)))) O0 (rd A 0 n0)⟩ :: L) (ix2 n j)
      = f (hd j) n (ln j) + dvB Q A K (hd j) n (ln j) := by
  refine canon_cols (Val := Elt Ideal) (e := .f32) (fun h n e => f h n e + dvB Q A K h n e) _ _ _ _ _ _ _ _ (fun n e => ?_) (fun n e => ?_) (fun n e => ?_) (fun n e => ?_) _ n j
  · exact (b38_at _ _ _ n e).trans (congrArg₂ (fun a b : EReal => a + b) (h3 n e) (Finset.sum_congr rfl fun i _ => congrArg₂ (fun a b : EReal => a * b) (p_3 Q K n768 l768 i n) (rd_at 3 768 rfl n768 A i e)))
  · exact (b35_at _ _ _ n e).trans (congrArg₂ (fun a b : EReal => a + b) (h2 n e) (Finset.sum_congr rfl fun i _ => congrArg₂ (fun a b : EReal => a * b) (p_2 Q K n512 l512 i n) (rd_at 2 512 rfl n512 A i e)))
  · exact (b32_at _ _ _ n e).trans (congrArg₂ (fun a b : EReal => a + b) (h1 n e) (Finset.sum_congr rfl fun i _ => congrArg₂ (fun a b : EReal => a * b) (p_1 Q K n256 l256 i n) (rd_at 1 256 rfl n256 A i e)))
  · exact (b29_at _ _ _ n e).trans (congrArg₂ (fun a b : EReal => a + b) (h0 n e) (Finset.sum_congr rfl fun i _ => congrArg₂ (fun a b : EReal => a * b) (p_0 Q K n0 l0 i n) (rd_at 0 0 rfl n0 A i e)))

end Cert.AttnIdeal.Value
end
-- ==== Proof.AttnBwd.lean ====
module

public import proofs.«01_k».proof.Proof.AttnTile
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the second kernel is handed, and what it leaves after a tile. -/

open Cert.Att Cert.Common

variable (m : (ℓ : Loc nD τ sig) → Buf (Elt Ideal) ℓ) (ρ : Dev nD → PrngReg)

theorem keep (c : Dev nD) (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem in1_x (c : Dev nD) : V3 m ρ c main_v17_0 = out0_8 m c :=
  ((W3_of m ρ c main_v17_0 (by decide)).trans (W2_arr m ρ c 8)).trans (fin0_8 m ρ c)

theorem in1_q (c : Dev nD) : V3 m ρ c main_v17_3 = out0_11 m c :=
  ((W3_of m ρ c main_v17_3 (by decide)).trans (W2_arr m ρ c 11)).trans (fin0_11 m ρ c)

theorem host_v18 (a : FVec Ideal S1x4096x1024 .f32) (i : Fin 4096) (k : Fin 1024) :
    (shapeCast _ a shapeCasts_S1x4096x1024_S4096x1024 : FVec Ideal S4096x1024 .f32) (ix2 i k) = mD a i k := by
  pointwise [mD]

def vD (c : Dev nD) (i : Fin 4096) (j : Fin 1024) : EReal := mD (m ((c : Thread nD τ).loc main_arg8)) i j

theorem at_v18 (c : Dev nD) (i : Fin 4096) (k : Fin 1024) : V3 m ρ c main_v18 (ix2 i k) = vD m c i k := by
  have e : V3 m ρ c main_v18 = shapeCast _ (m ((c : Thread nD τ).loc main_arg8)) shapeCasts_S1x4096x1024_S4096x1024 := by
    show StableHlo.after hostOps1 (W2 m ρ c) (Proc.devRef .tc main_v18) = _
    after_results
    rw [W2_args m ρ c main_arg8 (by decide)]
    rfl
  rw [e]
  exact host_v18 _ i k

theorem blk1_0 (c : Dev nD) (t : Fin cfg1.N) (i : Fin 512) (k : Fin 1024) :
    iblk1 (V3 m ρ) c 0 t (ix2 i k) = V3 m ρ c main_v18 (ix2 (tok t (lt1 t) i) k) := by
  blk_point [iblk1, idx1 t, tok]

theorem blk1_1 (c : Dev nD) (t : Fin cfg1.N) (i : Fin 512) (k : Fin 1024) :
    iblk1 (V3 m ρ) c 1 t (ix2 i k) = V3 m ρ c main_v17_0 (ix2 (tok t (lt1 t) i) k) := by
  blk_point [iblk1, idx1 t, tok]

theorem blk1_2 (c : Dev nD) (t : Fin cfg1.N) : iblk1 (V3 m ρ) c 2 t = V1 m ρ c main_arg3 :=
  (funext fun j => by blk_point [iblk1, idx1 t] : iblk1 (V3 m ρ) c 2 t = V3 m ρ c main_arg3).trans (keep m ρ c _ (by decide) (by decide))

theorem blk1_3 (c : Dev nD) (t : Fin cfg1.N) (i : Fin 512) (k : Fin 1024) :
    iblk1 (V3 m ρ) c 3 t (ix2 i k) = V3 m ρ c main_v17_3 (ix2 (tok t (lt1 t) i) k) := by
  blk_point [iblk1, idx1 t, tok]

theorem blk1_4 (c : Dev nD) (t : Fin cfg1.N) : iblk1 (V3 m ρ) c 4 t = V1 m ρ c main_v9 :=
  (funext fun j => by blk_point [iblk1, idx1 t] : iblk1 (V3 m ρ) c 4 t = V3 m ρ c main_v9).trans (keep m ρ c _ (by decide) (by decide))

theorem blk1_5 (c : Dev nD) (t : Fin cfg1.N) : iblk1 (V3 m ρ) c 5 t = V1 m ρ c main_v12 :=
  (funext fun j => by blk_point [iblk1, idx1 t] : iblk1 (V3 m ρ) c 5 t = V3 m ρ c main_v12).trans (keep m ρ c _ (by decide) (by decide))

theorem blk1_6 (c : Dev nD) (t : Fin cfg1.N) : iblk1 (V3 m ρ) c 6 t = V1 m ρ c main_v2 :=
  (funext fun j => by blk_point [iblk1, idx1 t] : iblk1 (V3 m ρ) c 6 t = V3 m ρ c main_v2).trans (keep m ρ c _ (by decide) (by decide))

theorem blk1_7 (c : Dev nD) (t : Fin cfg1.N) : iblk1 (V3 m ρ) c 7 t = V1 m ρ c main_v6 :=
  (funext fun j => by blk_point [iblk1, idx1 t] : iblk1 (V3 m ρ) c 7 t = V3 m ρ c main_v6).trans (keep m ρ c _ (by decide) (by decide))

def vA (c : Dev nD) (i : Fin 4096) : Fin 4 → Fin 256 → EReal := da (vWo m c) (vD m c i)

def tA (c : Dev nD) (t : Fin cfg1.N) : Vec Ideal S512x1024 .bf16 := k1_pay6 (F := Ideal) (iblk1 (V3 m ρ) c 0 t) (iblk1 (V3 m ρ) c 7 t)

theorem bD (c : Dev nD) (t : Fin cfg1.N) (i : Fin 512) (k : Fin 1024) : iblk1 (V3 m ρ) c 0 t (ix2 i k) = vD m c (tok t (lt1 t) i) k :=
  (blk1_0 m ρ c t i k).trans (at_v18 m ρ c _ k)

theorem bX (c : Dev nD) (t : Fin cfg1.N) (i : Fin 512) (k : Fin 1024) : iblk1 (V3 m ρ) c 1 t (ix2 i k) = vX m c (tok t (lt1 t) i) k :=
  (blk1_1 m ρ c t i k).trans (congrFun (in1_x m ρ c) _)

theorem bG (c : Dev nD) (t : Fin cfg1.N) (k : Fin 1024) : iblk1 (V3 m ρ) c 2 t (ix2 0 k) = vG m c k := by
  rw [blk1_2]
  exact congrFun (W1_args m ρ c main_arg3 (by decide)) (ix2 0 k)

theorem bWq (c : Dev nD) (t : Fin cfg1.N) (j k : Fin 1024) : iblk1 (V3 m ρ) c 6 t (ix2 j k) = vWq m c j (hd k) (ln k) := by
  rw [blk1_6]
  exact at_v2 m ρ c j k

theorem bQ (c : Dev nD) (t : Fin cfg1.N) (i : Fin 512) : row (iblk1 (V3 m ρ) c 3 t) i = vQ m c (tok t (lt1 t) i) := by
  funext h e
  refine (blk1_3 m ρ c t i (fl h e)).trans ((congrFun (in1_q m ρ c) _).trans ((out0_11_at m c _ _).symm.trans ?_))
  rw [hd_fl, ln_fl]

theorem bA (c : Dev nD) (t : Fin cfg1.N) (i : Fin 512) : row (tA m ρ c t) i = vA m c (tok t (lt1 t) i) := by
  funext h e
  refine (b6_at _ _ i (fl h e)).trans (Finset.sum_congr rfl fun k _ => congrArg₂ (fun a b : EReal => a * b) (bD m ρ c t i k) ?_)
  rw [blk1_7]
  refine (at_v6 m ρ c k (fl h e)).trans ?_
  rw [hd_fl, ln_fl]
  rfl

theorem bK (c : Dev nD) (t : Fin cfg1.N) : mem (iblk1 (V3 m ρ) c 4 t) = vK m c := by
  funext n h e
  unfold mem
  rw [blk1_4]
  refine (at_v9 m ρ c n (fl h e)).trans ?_
  rw [hd_fl, ln_fl]
  rfl

theorem bV (c : Dev nD) (t : Fin cfg1.N) : mem (iblk1 (V3 m ρ) c 5 t) = vV m c := by
  funext n h e
  unfold mem
  rw [blk1_5]
  refine (at_v12 m ρ c n (fl h e)).trans ?_
  rw [hd_fl, ln_fl]
  rfl

def vDq (c : Dev nD) (i : Fin 4096) (h : Fin 4) (e : Fin 256) : EReal := dq (vQ m c i) (vA m c i) (vK m c) (vV m c) h e

def vDs (c : Dev nD) (i : Fin 4096) (h : Fin 4) (n : Fin 256) : EReal := ds (sc (vQ m c i) (vK m c) h) (dp (vA m c i) (vV m c) h) n

def vP (c : Dev nD) (i : Fin 4096) (h : Fin 4) (n : Fin 256) : EReal := pr (sc (vQ m c i) (vK m c) h) n

theorem tDq (c : Dev nD) (t : Fin cfg1.N) (h : Fin 4) (i : Fin 512) (e : Fin 256) :
    dqB (iblk1 (V3 m ρ) c 3 t) (tA m ρ c t) (iblk1 (V3 m ρ) c 4 t) (iblk1 (V3 m ρ) c 5 t) h i e = vDq m c (tok t (lt1 t) i) h e := by
  unfold dqB vDq
  rw [bQ, bA, bK, bV]

theorem tDk (c : Dev nD) (t : Fin cfg1.N) (h : Fin 4) (n e : Fin 256) :
    dkB (iblk1 (V3 m ρ) c 3 t) (tA m ρ c t) (iblk1 (V3 m ρ) c 4 t) (iblk1 (V3 m ρ) c 5 t) h n e
      = ∑ i : Fin 512, vDs m c (tok t (lt1 t) i) h n * vQ m c (tok t (lt1 t) i) h e := by
  refine Finset.sum_congr rfl fun i _ => congrArg₂ (fun a b : EReal => a * b) ?_ (congrFun (congrFun (bQ m ρ c t i) h) e)
  unfold dsB vDs
  rw [bQ, bA, bK, bV]

theorem tDv (c : Dev nD) (t : Fin cfg1.N) (h : Fin 4) (n e : Fin 256) :
    dvB (iblk1 (V3 m ρ) c 3 t) (tA m ρ c t) (iblk1 (V3 m ρ) c 4 t) h n e
      = ∑ i : Fin 512, vP m c (tok t (lt1 t) i) h n * vA m c (tok t (lt1 t) i) h e := by
  refine Finset.sum_congr rfl fun i _ => congrArg₂ (fun a b : EReal => a * b) ?_ (congrFun (congrFun (bA m ρ c t i) h) e)
  unfold prB vP
  rw [bQ, bK]

/-- A tile's queries' gradient, as the second kernel stores it. -/
theorem out_dq (c : Dev nD) (t : Fin cfg1.N) (i : Fin 512) (j : Fin 1024) :
    (outsAt1 (V3 m ρ) c t.val t.isLt).2.2.1 (ix2 i j) = vDq m c (tok t (lt1 t) i) (hd j) (ln j) := by
  refine Eq.trans ?_ (tDq m ρ c t (hd j) i (ln j))
  by_cases h : t.val % 8 = 0
  · rw [outsAt1_A (V3 m ρ) c t h h]
    frame_out
    exact dq_cols _ (tA m ρ c t) _ _ _ _ _ _ _ _ _ _ i j
  · rw [outsAt1_B (V3 m ρ) c t h h]
    frame_out
    exact dq_cols _ (tA m ρ c t) _ _ _ _ _ _ _ _ _ _ i j

end Cert.AttnIdeal.Value
end
-- ==== Proof.AttnFin.lean ====
module

public import proofs.«01_k».proof.Proof.AttnBwd
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the second kernel leaves after a tile: the gradients of the input rows, of keys and values, of the norm's weights. -/

open Cert.Att Cert.Common

variable (m : (ℓ : Loc nD τ sig) → Buf (Elt Ideal) ℓ) (ρ : Dev nD → PrngReg)

def vDh (c : Dev nD) (i : Fin 4096) (j : Fin 1024) : EReal := dh (vDq m c i) (vWq m c) j

def vDx (c : Dev nD) (i : Fin 4096) (j : Fin 1024) : EReal := vD m c i j + Rms.dxk (vX m c i) (vDh m c i) (vG m c) j

def dqL (c : Dev nD) (t : Fin cfg1.N) (i : Fin 512) (k : Fin 1024) : EReal := vDq m c (tok t (lt1 t) i) (hd k) (ln k)

theorem tDh (c : Dev nD) (t : Fin cfg1.N) (B : Vec Ideal S512x1024 .bf16) (i : Fin 512) (hB : ∀ k, B (ix2 i k) = dqL m c t i k) (j : Fin 1024) :
    (∑ k : Fin 1024, B (ix2 i k) * iblk1 (V3 m ρ) c 6 t (ix2 j k)) = vDh m c (tok t (lt1 t) i) j :=
  (Finset.sum_congr rfl fun k _ => congrArg₂ (fun a b : EReal => a * b) (hB k) (bWq m ρ c t j k)).trans
    (sum_heads fun h e => vDq m c (tok t (lt1 t) i) h e * vWq m c j h e)

theorem tDx (c : Dev nD) (i : Fin 4096) (j : Fin 1024) {d : EReal} {x h g : Fin 1024 → EReal} (h1 : d = vD m c i j) (h2 : ∀ k, x k = vX m c i k)
    (h3 : ∀ k, h k = vDh m c i k) (h4 : ∀ k, g k = vG m c k) : d + Rms.dxk x h g j = vDx m c i j :=
  congrArg₂ (fun a b : EReal => a + b) h1 (Rms.dxk_congr h2 h3 h4 j)

theorem out_8 (c : Dev nD) (t : Fin cfg1.N) (i : Fin 512) (j : Fin 1024) :
    (outsAt1 (V3 m ρ) c t.val t.isLt).1 (ix2 i j) = vDx m c (tok t (lt1 t) i) j := by
  by_cases h : t.val % 8 = 0
  · rw [outsAt1_A (V3 m ρ) c t h h]
    frame_out
    refine (b45_at _ _ _ _ _ i j).trans (tDx m c _ j (bD m ρ c t i j) (bX m ρ c t i) (tDh m ρ c t _ i fun k => ?_) (bG m ρ c t))
    exact ((readCov_all _ _ _ i k).trans (dq_cols _ (tA m ρ c t) _ _ _ _ _ _ _ _ _ _ i k)).trans (tDq m ρ c t (hd k) i (ln k))
  · rw [outsAt1_B (V3 m ρ) c t h h]
    frame_out
    refine (b45_at _ _ _ _ _ i j).trans (tDx m c _ j (bD m ρ c t i j) (bX m ρ c t i) (tDh m ρ c t _ i fun k => ?_) (bG m ρ c t))
    exact ((readCov_all _ _ _ i k).trans (dq_cols _ (tA m ρ c t) _ _ _ _ _ _ _ _ _ _ i k)).trans (tDq m ρ c t (hd k) i (ln k))

theorem out_9 (c : Dev nD) (t : Fin cfg1.N) (i : Fin 512) (j : Fin 1024) :
    (outsAt1 (V3 m ρ) c t.val t.isLt).2.1 (ix2 i j) = vDx m c (tok t (lt1 t) i) j := by
  by_cases h : t.val % 8 = 0
  · rw [outsAt1_A (V3 m ρ) c t h h]
    frame_out
    refine (b46_at _ _ _ _ _ i j).trans (tDx m c _ j (bD m ρ c t i j) (bX m ρ c t i) (tDh m ρ c t _ i fun k => ?_) (bG m ρ c t))
    exact ((readCov_all _ _ _ i k).trans (dq_cols _ (tA m ρ c t) _ _ _ _ _ _ _ _ _ _ i k)).trans (tDq m ρ c t (hd k) i (ln k))
  · rw [outsAt1_B (V3 m ρ) c t h h]
    frame_out
    refine (b46_at _ _ _ _ _ i j).trans (tDx m c _ j (bD m ρ c t i j) (bX m ρ c t i) (tDh m ρ c t _ i fun k => ?_) (bG m ρ c t))
    exact ((readCov_all _ _ _ i k).trans (dq_cols _ (tA m ρ c t) _ _ _ _ _ _ _ _ _ _ i k)).trans (tDq m ρ c t (hd k) i (ln k))

def partK (c : Dev nD) (t : Fin cfg1.N) (z : S256x1024.Idx) : EReal :=
  ∑ i : Fin 512, vDs m c (tok t (lt1 t) i) (hd (z 1)) (z 0) * vQ m c (tok t (lt1 t) i) (hd (z 1)) (ln (z 1))

def partV (c : Dev nD) (t : Fin cfg1.N) (z : S256x1024.Idx) : EReal :=
  ∑ i : Fin 512, vP m c (tok t (lt1 t) i) (hd (z 1)) (z 0) * vA m c (tok t (lt1 t) i) (hd (z 1)) (ln (z 1))

theorem ld_f32 (h : Fin 4) (o : Nat) (ho : o = 256 * h) (inb : In256 o) (X : Vec Ideal S256x1024 .f32) (i : Fin 256) (k : Fin 256) :
    View.ld (S := S256x1024) X (Rect.unit ![0, o] ![256, 256] inb) (ix2 i k) = X (ix2 i (fl h k)) := ld_col h o ho inb X i k

theorem zero_rd {sig : RefSig} {κ : Kind} {sp : Space} (v : View sig κ sp S256x1024 .f32) (o : Nat) (inb : In256 o) (Z : Vec Ideal S256x1024 .f32) (hZ : ∀ y, Z y = (0 : EReal))
    (y : S256x256.Idx) :
    View.readCov (Val := Elt Ideal) v [⟨Rect.unit ![0, 0] ![256, 1024] inb_S256x1024_S256x1024_0_0, Z⟩] (Rect.unit (s := S256x1024) ![0, o] ![256, 256] inb).toLoadRect y = (0 : EReal) := by
  rw [View.readCov_fill]
  · exact hZ _
  · decide

theorem zero3 (y : S256x1024.Idx) : k1_pay3 (F := Ideal) y = (0 : EReal) := by
  pointwise [k1_pay3]

theorem zero4 (y : S256x1024.Idx) : k1_pay4 (F := Ideal) y = (0 : EReal) := by
  pointwise [k1_pay4]

theorem fl_hd (j : Fin 1024) : fl (hd j) (ln j) = j := Fin.ext (by show 256 * ((j : Nat) / 256) + j % 256 = j; omega)

theorem dk_B (c : Dev nD) (t : Fin cfg1.N) (h : ¬ t.val % 8 = 0) (z : S256x1024.Idx) :
    (outsAt1 (V3 m ρ) c t.val t.isLt).2.2.2.1 z
      = (outsAt1 (V3 m ρ) c (t.val - 1) (Nat.lt_of_le_of_lt (Nat.sub_le _ _) t.isLt)).2.2.2.1 z + partK m c t z := by
  rw [outsAt1_B (V3 m ρ) c t h h]
  frame_out
  generalize (outsAt1 (V3 m ρ) c (t.val - 1) (Nat.lt_of_le_of_lt (Nat.sub_le _ _) t.isLt)).2.2.2.1 = X
  refine (congrArg _ (eta2 (a := 256) (b := 1024) z)).trans ?_
  refine (dk_cols _ (tA m ρ c t) _ _ _ _ _ _ _ _ _ _ (fun h n e => X (ix2 n (fl h e))) _ _ _ _ (ld_f32 0 0 rfl _ X) (ld_f32 1 256 rfl _ X) (ld_f32 2 512 rfl _ X) (ld_f32 3 768 rfl _ X) _ (z 0) (z 1)).trans ?_
  refine congrArg₂ (fun a b : EReal => a + b) (congrArg X ?_) (tDk m ρ c t _ _ _)
  exact (congrArg (ix2 (z 0)) (fl_hd (z 1))).trans (eta2 (a := 256) (b := 1024) z).symm

theorem dk_A (c : Dev nD) (t : Fin cfg1.N) (h : t.val % 8 = 0) (z : S256x1024.Idx) :
    (outsAt1 (V3 m ρ) c t.val t.isLt).2.2.2.1 z = (0 : EReal) + partK m c t z := by
  rw [outsAt1_A (V3 m ρ) c t h h]
  frame_out
  refine (congrArg _ (eta2 (a := 256) (b := 1024) z)).trans ?_
  refine (dk_cols _ (tA m ρ c t) _ _ _ _ _ _ _ _ _ _ (fun h n e => (0 : EReal)) _ _ _ _ ?_ ?_ ?_ ?_ _ (z 0) (z 1)).trans ?_
  · exact fun n e => zero_rd _ 0 _ _ zero3 _
  · exact fun n e => (congrFun (View.readCov_skip _ _ _ _ _ (by decide)) _).trans <| zero_rd _ 256 _ _ zero3 _
  · exact fun n e => (congrFun (View.readCov_skip _ _ _ _ _ (by decide)) _).trans <| (congrFun (View.readCov_skip _ _ _ _ _ (by decide)) _).trans <| zero_rd _ 512 _ _ zero3 _
  · exact fun n e => (congrFun (View.readCov_skip _ _ _ _ _ (by decide)) _).trans <| (congrFun (View.readCov_skip _ _ _ _ _ (by decide)) _).trans <| (congrFun (View.readCov_skip _ _ _ _ _ (by decide)) _).trans <| zero_rd _ 768 _ _ zero3 _
  exact congrArg (fun a : EReal => 0 + a) (tDk m ρ c t _ _ _)

theorem dv_B (c : Dev nD) (t : Fin cfg1.N) (h : ¬ t.val % 8 = 0) (z : S256x1024.Idx) :
    (outsAt1 (V3 m ρ) c t.val t.isLt).2.2.2.2.1 z
      = (outsAt1 (V3 m ρ) c (t.val - 1) (Nat.lt_of_le_of_lt (Nat.sub_le _ _) t.isLt)).2.2.2.2.1 z + partV m c t z := by
  rw [outsAt1_B (V3 m ρ) c t h h]
  frame_out
  generalize (outsAt1 (V3 m ρ) c (t.val - 1) (Nat.lt_of_le_of_lt (Nat.sub_le _ _) t.isLt)).2.2.2.2.1 = X
  refine (congrArg _ (eta2 (a := 256) (b := 1024) z)).trans ?_
  refine (dv_cols _ (tA m ρ c t) _ _ _ _ _ _ _ _ _ (fun h n e => X (ix2 n (fl h e))) _ _ _ _ (ld_f32 0 0 rfl _ X) (ld_f32 1 256 rfl _ X) (ld_f32 2 512 rfl _ X) (ld_f32 3 768 rfl _ X) _ (z 0) (z 1)).trans ?_
  refine congrArg₂ (fun a b : EReal => a + b) (congrArg X ?_) (tDv m ρ c t _ _ _)
  exact (congrArg (ix2 (z 0)) (fl_hd (z 1))).trans (eta2 (a := 256) (b := 1024) z).symm

theorem dv_A (c : Dev nD) (t : Fin cfg1.N) (h : t.val % 8 = 0) (z : S256x1024.Idx) :
    (outsAt1 (V3 m ρ) c t.val t.isLt).2.2.2.2.1 z = (0 : EReal) + partV m c t z := by
  rw [outsAt1_A (V3 m ρ) c t h h]
  frame_out
  refine (congrArg _ (eta2 (a := 256) (b := 1024) z)).trans ?_
  refine (dv_cols _ (tA m ρ c t) _ _ _ _ _ _ _ _ _ (fun h n e => (0 : EReal)) _ _ _ _ ?_ ?_ ?_ ?_ _ (z 0) (z 1)).trans ?_
  · exact fun n e => zero_rd _ 0 _ _ zero4 _
  · exact fun n e => (congrFun (View.readCov_skip _ _ _ _ _ (by decide)) _).trans <| zero_rd _ 256 _ _ zero4 _
  · exact fun n e => (congrFun (View.readCov_skip _ _ _ _ _ (by decide)) _).trans <| (congrFun (View.readCov_skip _ _ _ _ _ (by decide)) _).trans <| zero_rd _ 512 _ _ zero4 _
  · exact fun n e => (congrFun (View.readCov_skip _ _ _ _ _ (by decide)) _).trans <| (congrFun (View.readCov_skip _ _ _ _ _ (by decide)) _).trans <| (congrFun (View.readCov_skip _ _ _ _ _ (by decide)) _).trans <| zero_rd _ 768 _ _ zero4 _
  exact congrArg (fun a : EReal => 0 + a) (tDv m ρ c t _ _ _)

/-- A tile's part of the weights' gradient, in row 0 of the slot. -/
def partG (c : Dev nD) (t : Fin cfg1.N) (z : S8x1024.Idx) : EReal :=
  if (z 0 : ℕ) < 1 then ∑ i : Fin 512, vDh m c (tok t (lt1 t) i) (z 1) * (vX m c (tok t (lt1 t) i) (z 1) * Rms.r (vX m c (tok t (lt1 t) i))) else 0

theorem tG1 (c : Dev nD) (t : Fin cfg1.N) (B : Vec Ideal S512x1024 .bf16) (hB : ∀ i k, B (ix2 i k) = dqL m c t i k) (j : Fin 1024) :
    k1_pay44 (F := Ideal) (iblk1 (V3 m ρ) c 1 t) B (iblk1 (V3 m ρ) c 6 t) (ix2 0 j)
      = ∑ i : Fin 512, vDh m c (tok t (lt1 t) i) j * (vX m c (tok t (lt1 t) i) j * Rms.r (vX m c (tok t (lt1 t) i))) :=
  (b44_at _ _ _ j).trans (Finset.sum_congr rfl fun i _ => congrArg₂ (fun a b : EReal => a * b) (tDh m ρ c t B i (hB i) j)
    (congrArg₂ (fun (a : EReal) (b : Fin 1024 → EReal) => a * Rms.r b) (bX m ρ c t i j) (funext fun k => bX m ρ c t i k)))

theorem zero2 (y : S8x1024.Idx) : k1_pay2 (F := Ideal) y = (0 : EReal) := by
  pointwise [k1_pay2]

theorem dg_A (c : Dev nD) (t : Fin cfg1.N) (h : t.val % 8 = 0) (z : S8x1024.Idx) :
    (outsAt1 (V3 m ρ) c t.val t.isLt).2.2.2.2.2 z = (0 : EReal) + partG m c t z := by
  rw [outsAt1_A (V3 m ρ) c t h h]
  frame_out
  refine (canon_row _ _ _ _ z).trans ?_
  unfold partG
  by_cases hj : (z 0 : ℕ) < 1
  · rw [if_pos hj, if_pos hj]
    refine (b1_at _ _ (z 1)).trans (congrArg₂ (fun a b : EReal => a + b) ?_ (tG1 m ρ c t _ (fun i k => ?_) (z 1)))
    · rw [View.readCov_fill]
      · exact zero2 _
      · decide
    · exact ((readCov_all _ _ _ i k).trans (dq_cols _ (tA m ρ c t) _ _ _ _ _ _ _ _ _ _ i k)).trans (tDq m ρ c t (hd k) i (ln k))
  · rw [if_neg hj, if_neg hj, add_zero]
    exact zero2 _

theorem dg_B (c : Dev nD) (t : Fin cfg1.N) (h : ¬ t.val % 8 = 0) (z : S8x1024.Idx) :
    (outsAt1 (V3 m ρ) c t.val t.isLt).2.2.2.2.2 z
      = (outsAt1 (V3 m ρ) c (t.val - 1) (Nat.lt_of_le_of_lt (Nat.sub_le _ _) t.isLt)).2.2.2.2.2 z + partG m c t z := by
  rw [outsAt1_B (V3 m ρ) c t h h]
  frame_out
  refine (writes_row _ _ _ _ _ z).trans ?_
  generalize (outsAt1 (V3 m ρ) c (t.val - 1) (Nat.lt_of_le_of_lt (Nat.sub_le _ _) t.isLt)).2.2.2.2.2 = X
  unfold partG
  by_cases hj : (z 0 : ℕ) < 1
  · rw [if_pos hj, if_pos hj]
    refine (b1_at _ _ (z 1)).trans (congrArg₂ (fun a b : EReal => a + b) (congrArg X ?_) (tG1 m ρ c t _ (fun i k => ?_) (z 1)))
    · funext a
      apply Fin.ext
      match a with
      | ⟨0, _⟩ => show 0 = (z 0 : ℕ); omega
      | ⟨1, _⟩ => show 0 + 1 * (z 1 : ℕ) = (z 1 : ℕ); omega
    · exact ((readCov_all _ _ _ i k).trans (dq_cols _ (tA m ρ c t) _ _ _ _ _ _ _ _ _ _ i k)).trans (tDq m ρ c t (hd k) i (ln k))
  · rw [if_neg hj, if_neg hj, add_zero]

end Cert.AttnIdeal.Value
end
-- ==== Proof.AttnEnd.lean ====
module

public import proofs.«01_k».proof.Proof.AttnFin
public import proofs.«01_k».proof.Proof.Gen.AttnReferenceIdeal.Read
public import proofs.«01_k».proof.Proof.Gen.AttnIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! What the second kernel leaves in the end. -/

open Cert.Att Cert.Common

variable (m : (ℓ : Loc nD τ sig) → Buf (Elt Ideal) ℓ) (ρ : Dev nD → PrngReg)

def out1_8 (c : Dev nD) (z : S4096x1024.Idx) : EReal := vDx m c (z 0) (z 1)

theorem out1_8_at (c : Dev nD) (i : Fin 4096) (j : Fin 1024) : vDx m c i j = out1_8 m c (ix2 i j) := rfl

theorem fin1_8 (c : Dev nD) : (dat1 (V3 m ρ) c).arrAt 8 cfg1.N = out1_8 m c := by
  refine (dat1 (V3 m ρ) c).arrAt_eq_of_covers 8 _ (by decide +kernel) fun t _ y => ?_
  blk_simp
  rw [after1_8]
  refine (congrArg _ (eta2 (a := 512) (b := 1024) y)).trans ((out_8 m ρ c t (y 0) (y 1)).trans ((out1_8_at m c _ _).trans <| congrArg (out1_8 m c) (?_ : ix2 (tok t (lt1 t) (y 0)) (y 1) = _)))
  blk_ext [idx1 t, tok]

def out1_9 (c : Dev nD) (z : S4096x1024.Idx) : EReal := vDx m c (z 0) (z 1)

theorem out1_9_at (c : Dev nD) (i : Fin 4096) (j : Fin 1024) : vDx m c i j = out1_9 m c (ix2 i j) := rfl

theorem fin1_9 (c : Dev nD) : (dat1 (V3 m ρ) c).arrAt 9 cfg1.N = out1_9 m c := by
  refine (dat1 (V3 m ρ) c).arrAt_eq_of_covers 9 _ (by decide +kernel) fun t _ y => ?_
  blk_simp
  rw [after1_9]
  refine (congrArg _ (eta2 (a := 512) (b := 1024) y)).trans ((out_9 m ρ c t (y 0) (y 1)).trans ((out1_9_at m c _ _).trans <| congrArg (out1_9 m c) (?_ : ix2 (tok t (lt1 t) (y 0)) (y 1) = _)))
  blk_ext [idx1 t, tok]

def out1_10 (c : Dev nD) (z : S4096x1024.Idx) : EReal := vDq m c (z 0) (hd (z 1)) (ln (z 1))

theorem out1_10_at (c : Dev nD) (i : Fin 4096) (j : Fin 1024) : vDq m c i (hd j) (ln j) = out1_10 m c (ix2 i j) := rfl

theorem fin1_10 (c : Dev nD) : (dat1 (V3 m ρ) c).arrAt 10 cfg1.N = out1_10 m c := by
  refine (dat1 (V3 m ρ) c).arrAt_eq_of_covers 10 _ (by decide +kernel) fun t _ y => ?_
  blk_simp
  rw [after1_10]
  refine (congrArg _ (eta2 (a := 512) (b := 1024) y)).trans ((out_dq m ρ c t (y 0) (y 1)).trans ((out1_10_at m c _ _).trans <| congrArg (out1_10 m c) (?_ : ix2 (tok t (lt1 t) (y 0)) (y 1) = _)))
  blk_ext [idx1 t, tok]

def out1_11 (c : Dev nD) (z : S256x1024.Idx) : EReal := ∑ i : Fin 4096, vDs m c i (hd (z 1)) (z 0) * vQ m c i (hd (z 1)) (ln (z 1))

def out1_12 (c : Dev nD) (z : S256x1024.Idx) : EReal := ∑ i : Fin 4096, vP m c i (hd (z 1)) (z 0) * vA m c i (hd (z 1)) (ln (z 1))

def out1_13 (c : Dev nD) (z : S8x1024.Idx) : EReal :=
  if (z 0 : ℕ) < 1 then ∑ i : Fin 4096, vDh m c i (z 1) * (vX m c i (z 1) * Rms.r (vX m c i)) else 0

theorem tok_eq (t : Fin 8) (h : t.val < 8) (k : Fin 512) (hl : t.val * 512 + k.val < 4096) : tok t.val h k = ⟨t.val * 512 + k.val, hl⟩ :=
  Fin.ext (by show 512 * t.val + k.val = t.val * 512 + k.val; omega)

/-- A sum over rows, tile by tile. -/
theorem sum_tok (f : Fin 4096 → EReal) : (∑ t : Fin 8, ∑ k : Fin 512, f (tok t.val t.isLt k)) = ∑ i : Fin 4096, f i := by
  exact Fin.sum_mul_add_congr fun t k hl => congrArg f (tok_eq t t.isLt k hl)

theorem fin1_11 (c : Dev nD) : (dat1 (V3 m ρ) c).arrAt 11 cfg1.N = out1_11 m c := by
  refine (dat1 (V3 m ρ) c).arrAt_eq_of_after_last 11 t1_7 (by decide +kernel) _ fun j => ?_
  blk_simp
  rw [after1_11, Pipeline.eq_sum_fin_of_reset_step_apply_last (fun n h => (outsAt1 (V3 m ρ) c n h).2.2.2.1) 8 (fun _ => (0 : EReal)) (fun p j => partK m c p j)
    (fun t h j => dk_A m ρ c t h j) (fun t h j => dk_B m ρ c t h j) (le_of_eq N_1) t1_7 rfl j, zero_add]
  exact sum_tok fun i => vDs m c i (hd (j 1)) (j 0) * vQ m c i (hd (j 1)) (ln (j 1))

theorem fin1_12 (c : Dev nD) : (dat1 (V3 m ρ) c).arrAt 12 cfg1.N = out1_12 m c := by
  refine (dat1 (V3 m ρ) c).arrAt_eq_of_after_last 12 t1_7 (by decide +kernel) _ fun j => ?_
  blk_simp
  rw [after1_12, Pipeline.eq_sum_fin_of_reset_step_apply_last (fun n h => (outsAt1 (V3 m ρ) c n h).2.2.2.2.1) 8 (fun _ => (0 : EReal)) (fun p j => partV m c p j)
    (fun t h j => dv_A m ρ c t h j) (fun t h j => dv_B m ρ c t h j) (le_of_eq N_1) t1_7 rfl j, zero_add]
  exact sum_tok fun i => vP m c i (hd (j 1)) (j 0) * vA m c i (hd (j 1)) (ln (j 1))

theorem fin1_13 (c : Dev nD) : (dat1 (V3 m ρ) c).arrAt 13 cfg1.N = out1_13 m c := by
  refine (dat1 (V3 m ρ) c).arrAt_eq_of_after_last 13 t1_7 (by decide +kernel) _ fun j => ?_
  blk_simp
  rw [after1_13, Pipeline.eq_sum_fin_of_reset_step_apply_last (fun n h => (outsAt1 (V3 m ρ) c n h).2.2.2.2.2) 8 (fun _ => (0 : EReal)) (fun p j => partG m c p j)
    (fun t h j => dg_A m ρ c t h j) (fun t h j => dg_B m ρ c t h j) (le_of_eq N_1) t1_7 rfl j, zero_add]
  unfold partG out1_13
  by_cases hj : (j 0 : ℕ) < 1
  · refine Eq.trans (Fin.sum_fin_congr fun p => if_pos hj) (Eq.trans ?_ (if_pos hj).symm)
    exact sum_tok fun i => vDh m c i (j 1) * (vX m c i (j 1) * Rms.r (vX m c i))
  · refine Eq.trans (Fin.sum_fin_congr fun p => if_neg hj) (Eq.trans ?_ (if_neg hj).symm)
    simp

end Cert.AttnIdeal.Value
end
-- ==== Proof.AttnEq.lean ====
module

public import proofs.«01_k».proof.Proof.AttnRefB
public import proofs.«01_k».proof.Proof.AttnRun
public import proofs.«01_k».proof.Proof.AttnEnd

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

/-! The kernels' results are the reference's, at finite arrays. -/

open Cert.Att Cert.Common Cert.AttnReferenceIdeal.Read

section
variable {x0 x1 : FVec Ideal S1x4096x1024 .f32} {x2 : FVec Ideal S1x1024x1024 .f32} {x3 : FVec Ideal S1x1024 .f32} {x4 : FVec Ideal S1x1024x4x256 .f32}
  {x5 x6 : FVec Ideal S1x256x4x256 .f32} {x7 : FVec Ideal S1x4x256x1024 .f32} {x8 : FVec Ideal S1x4096x1024 .f32}

theorem X_real (h0 : Finite (s := S1x4096x1024) x0) (h1 : Finite (s := S1x4096x1024) x1) (h2 : Finite (s := S1x1024x1024) x2) (i : Fin 4096) (k : Fin 1024) :
    R (mX x0 x1 x2 i k) := R.add (h0 _) (R.sum fun l => R.mul (h1 _) (h2 _))

theorem Q_real (h0 : Finite (s := S1x4096x1024) x0) (h1 : Finite (s := S1x4096x1024) x1) (h2 : Finite (s := S1x1024x1024) x2) (h3 : Finite (s := S1x1024) x3)
    (h4 : Finite (s := S1x1024x4x256) x4) (i : Fin 4096) (h : Fin 4) (e : Fin 256) : R (rQ x0 x1 x2 x3 x4 i h e) := by
  unfold rQ qr
  exact R.sum fun k => R.mul (R.mul (R.mul (X_real h0 h1 h2 i k) (R.r (X_real h0 h1 h2 i))) (h3 (ix2 0 k))) (h4 (ix4 0 k h e))

theorem KV_real (h5 : Finite (s := S1x256x4x256) x5) (n : Fin 256) (h : Fin 4) (e : Fin 256) : R (mKV x5 n h e) := h5 _

theorem A_real (h7 : Finite (s := S1x4x256x1024) x7) (h8 : Finite (s := S1x4096x1024) x8) (i : Fin 4096) (h : Fin 4) (e : Fin 256) : R (rA x7 x8 i h e) := by
  unfold rA da
  exact R.sum fun j => R.mul (h8 (ix3 0 i j)) (h7 (ix4 0 h e j))

theorem att_ref {q : Fin 4 → Fin 256 → EReal} {K V : Fin 256 → Fin 4 → Fin 256 → EReal} (hq : ∀ h e, R (q h e)) (hK : ∀ n h e, R (K n h e)) (h : Fin 4) (e : Fin 256) :
    at_ (fun h e => q h e * c16) K V h e = ∑ n : Fin 256, V n h e * pr (scr q K h) n := by
  rw [funext (scr_eq hq hK h)]
  exact Finset.sum_congr rfl fun n _ => mul_comm _ _

theorem H_eq (h0 : Finite (s := S1x4096x1024) x0) (h1 : Finite (s := S1x4096x1024) x1) (h2 : Finite (s := S1x1024x1024) x2) (h3 : Finite (s := S1x1024) x3)
    (h4 : Finite (s := S1x1024x4x256) x4) (h5 : Finite (s := S1x256x4x256) x5) (h6 : Finite (s := S1x256x4x256) x6) (h7 : Finite (s := S1x4x256x1024) x7)
    (h8 : Finite (s := S1x4096x1024) x8) (i : Fin 4096) (j : Fin 1024) :
    dh (dq (fun h e => rQ x0 x1 x2 x3 x4 i h e * c16) (rA x7 x8 i) (mKV x5) (mKV x6)) (mWq x4) j = rH x0 x1 x2 x3 x4 x5 x6 x7 x8 i j :=
  Finset.sum_congr rfl fun h _ => Finset.sum_congr rfl fun e _ => congrArg (fun a : EReal => a * mWq x4 j h e)
    (dqr_eq (Q_real h0 h1 h2 h3 h4 i) (A_real h7 h8 i) (KV_real h5) (KV_real h6) h e).symm

theorem H_real (h0 : Finite (s := S1x4096x1024) x0) (h1 : Finite (s := S1x4096x1024) x1) (h2 : Finite (s := S1x1024x1024) x2) (h3 : Finite (s := S1x1024) x3)
    (h4 : Finite (s := S1x1024x4x256) x4) (h5 : Finite (s := S1x256x4x256) x5) (h6 : Finite (s := S1x256x4x256) x6) (h7 : Finite (s := S1x4x256x1024) x7)
    (h8 : Finite (s := S1x4096x1024) x8) (i : Fin 4096) (j : Fin 1024) : R (rH x0 x1 x2 x3 x4 x5 x6 x7 x8 i j) := by
  rw [← H_eq h0 h1 h2 h3 h4 h5 h6 h7 h8 i j]
  exact R.sum fun h => R.sum fun e => R.mul
    (dq_real (fun h e => R.mul (Q_real h0 h1 h2 h3 h4 i h e) R.c16) (A_real h7 h8 i) (KV_real h5) (KV_real h6) h e) (h4 _)

end

/-- The two ways to write the gradient of a row, at reals. -/
theorem dxk_R {x h g : Fin 1024 → EReal} (hx : ∀ k, R (x k)) (hh : ∀ k, R (h k)) (hg : ∀ k, R (g k)) (j : Fin 1024) :
    Rms.dxk x h g j = h j * g j * Rms.r x + x j * Rms.m2 x h g + Rms.m2 x h g * x j := by
  choose X hX using hx
  choose H hH using hh
  choose G hG using hg
  rw [show x = fun k => (X k : EReal) from funext hX, show h = fun k => (H k : EReal) from funext hH, show g = fun k => (G k : EReal) from funext hG]
  exact Rms.dxk_eq X H G j

section
variable (m : (ℓ : Loc nD τ sig) → Buf (Elt Ideal) ℓ) (c : Dev nD)

/-- All nine arrays are finite. -/
structure Fin9 : Prop where
  h0 : Finite (s := S1x4096x1024) (m ((c : Thread nD τ).loc main_arg0))
  h1 : Finite (s := S1x4096x1024) (m ((c : Thread nD τ).loc main_arg1))
  h2 : Finite (s := S1x1024x1024) (m ((c : Thread nD τ).loc main_arg2))
  h3 : Finite (s := S1x1024) (m ((c : Thread nD τ).loc main_arg3))
  h4 : Finite (s := S1x1024x4x256) (m ((c : Thread nD τ).loc main_arg4))
  h5 : Finite (s := S1x256x4x256) (m ((c : Thread nD τ).loc main_arg5))
  h6 : Finite (s := S1x256x4x256) (m ((c : Thread nD τ).loc main_arg6))
  h7 : Finite (s := S1x4x256x1024) (m ((c : Thread nD τ).loc main_arg7))
  h8 : Finite (s := S1x4096x1024) (m ((c : Thread nD τ).loc main_arg8))

theorem eq0_8 : out0_8 m c = val_main_v119 (F := Ideal) (m ((c : Thread nD τ).loc main_arg0)) (m ((c : Thread nD τ).loc main_arg1)) (m ((c : Thread nD τ).loc main_arg2)) := by
  funext z
  refine Eq.trans ?_ (congrArg _ (eta2 z)).symm
  exact ((f119 _ _ _ _ _).trans (r2 _ _ _ _ _)).symm

theorem eq0_10 : out0_10 m c = val_main_v123 (F := Ideal) (m ((c : Thread nD τ).loc main_arg0)) (m ((c : Thread nD τ).loc main_arg1)) (m ((c : Thread nD τ).loc main_arg2)) (m ((c : Thread nD τ).loc main_arg3)) := by
  funext z
  refine Eq.trans ?_ (congrArg _ (eta2 z)).symm
  exact ((f123 _ _ _ _ _ _).trans (r16 _ _ _ _ _ _)).symm

theorem eq0_12 (w : Fin9 m c) : out0_12 m c = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  refine Eq.trans ?_ (congrArg _ (eta2 z)).symm
  refine Eq.trans ?_ ((f125 _ _ _ _ _ _ _ _ _).trans (r68 _ _ _ _ _ _ _ _ _ _)).symm
  exact att_ref (Q_real w.h0 w.h1 w.h2 w.h3 w.h4 (z 0)) (KV_real w.h5) (hd (z 1)) (ln (z 1))

theorem eq0_9 (w : Fin9 m c) : out0_9 m c = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext z
  refine Eq.trans ?_ (congrArg _ (eta2 z)).symm
  refine Eq.trans ?_ ((f121 _ _ _ _ _ _ _ _ _ _).trans (congrArg₂ (fun a b : EReal => a + b) (r2 _ _ _ _ _) (r70 _ _ _ _ _ _ _ _ _ _))).symm
  refine congrArg (fun a : EReal => vX m c (z 0) (z 1) + a) (Finset.sum_congr rfl fun h _ => Finset.sum_congr rfl fun e _ => ?_)
  exact congrArg (fun a : EReal => a * vWo m c h e (z 1)) (att_ref (Q_real w.h0 w.h1 w.h2 w.h3 w.h4 (z 0)) (KV_real w.h5) h e)

theorem vDh_eq (w : Fin9 m c) (i : Fin 4096) (j : Fin 1024) :
    vDh m c i j = rH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i j :=
  H_eq w.h0 w.h1 w.h2 w.h3 w.h4 w.h5 w.h6 w.h7 w.h8 i j

theorem vDx_eq (w : Fin9 m c) (i : Fin 4096) (j : Fin 1024) :
    vDx m c i j = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 0 i j) := by
  rw [r118]
  unfold vDx
  rw [funext (vDh_eq m c w i)]
  exact congrArg (fun a : EReal => vD m c i j + a) (dxk_R (X_real w.h0 w.h1 w.h2 i) (H_real w.h0 w.h1 w.h2 w.h3 w.h4 w.h5 w.h6 w.h7 w.h8 i) (fun k => w.h3 _) j)

theorem eq1_8 (w : Fin9 m c) : out1_8 m c = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext z
  refine Eq.trans ?_ (congrArg _ (eta2 z)).symm
  exact (vDx_eq m c w (z 0) (z 1)).trans (f126 _ _ _ _ _ _ _ _ _ _ _).symm

theorem eq1_9 (w : Fin9 m c) : out1_9 m c = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext z
  refine Eq.trans ?_ (congrArg _ (eta2 z)).symm
  exact (vDx_eq m c w (z 0) (z 1)).trans (f128 _ _ _ _ _ _ _ _ _ _ _).symm

theorem eq1_10 (w : Fin9 m c) : out1_10 m c = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext z
  refine Eq.trans ?_ (congrArg _ (eta2 z)).symm
  refine Eq.trans ?_ ((f130 _ _ _ _ _ _ _ _ _ _ _).trans (r94 _ _ _ _ _ _ _ _ _ _ _ _)).symm
  exact (dqr_eq (Q_real w.h0 w.h1 w.h2 w.h3 w.h4 (z 0)) (A_real w.h7 w.h8 (z 0)) (KV_real w.h5) (KV_real w.h6) (hd (z 1)) (ln (z 1))).symm

theorem eq1_11 (w : Fin9 m c) : out1_11 m c = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext z
  refine Eq.trans ?_ (congrArg _ (eta2 z)).symm
  refine Eq.trans ?_ ((f131 _ _ _ _ _ _ _ _ _ _ _).trans (r92 _ _ _ _ _ _ _ _ _ _ _ _)).symm
  exact Finset.sum_congr rfl fun i _ =>
    (dk_eq (Q_real w.h0 w.h1 w.h2 w.h3 w.h4 i) (A_real w.h7 w.h8 i) (KV_real w.h5) (KV_real w.h6) (hd (z 1)) (z 0) (ln (z 1))).symm

theorem eq1_12 (w : Fin9 m c) : out1_12 m c = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  funext z
  refine Eq.trans ?_ (congrArg _ (eta2 z)).symm
  refine Eq.trans ?_ ((f132 _ _ _ _ _ _ _ _ _ _).trans (r75 _ _ _ _ _ _ _ _ _ _ _)).symm
  refine Finset.sum_congr rfl fun i _ => ?_
  rw [mul_comm, funext (scr_eq (Q_real w.h0 w.h1 w.h2 w.h3 w.h4 i) (KV_real w.h5) (hd (z 1)))]
  rfl

theorem eq1_13 (w : Fin9 m c) : out1_13 m c = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext z
  refine Eq.trans ?_ (congrArg _ (eta2 z)).symm
  refine Eq.trans ?_ (f134 _ _ _ _ _ _ _ _ _ _ _).symm
  unfold out1_13
  refine if_congr Iff.rfl ?_ rfl
  refine Eq.trans ?_ (r101 _ _ _ _ _ _ _ _ _ (z 1)).symm
  refine Finset.sum_congr rfl fun i _ => ?_
  exact (congrArg (fun a : EReal => a * (vX m c i (z 1) * Rms.r (vX m c i))) (vDh_eq m c w i (z 1))).trans (mul_comm _ _)
end

section
variable (m : (ℓ : Loc nD τ sig) → Buf (Elt Ideal) ℓ) (ρ : Dev nD → PrngReg) (c : Dev nD)

theorem res0 (w : Fin9 m c) : W4 m ρ c (Proc.devRef .tc main_v17_0)
    = val_main_v119 (F := Ideal) (m ((c : Thread nD τ).loc main_arg0)) (m ((c : Thread nD τ).loc main_arg1)) (m ((c : Thread nD τ).loc main_arg2)) := by
  rw [W4_of m ρ c main_v17_0 (by decide), W3_of m ρ c main_v17_0 (by decide)]
  exact (W2_arr m ρ c 8).trans ((fin0_8 m ρ c).trans (eq0_8 m c))

theorem res1 (w : Fin9 m c) : W4 m ρ c (Proc.devRef .tc main_v17_1)
    = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W4_of m ρ c main_v17_1 (by decide), W3_of m ρ c main_v17_1 (by decide)]
  exact (W2_arr m ρ c 9).trans ((fin0_9 m ρ c).trans (eq0_9 m c w))

theorem res2 (w : Fin9 m c) : W4 m ρ c (Proc.devRef .tc main_v17_2)
    = val_main_v123 (F := Ideal) (m ((c : Thread nD τ).loc main_arg0)) (m ((c : Thread nD τ).loc main_arg1)) (m ((c : Thread nD τ).loc main_arg2)) (m ((c : Thread nD τ).loc main_arg3)) := by
  rw [W4_of m ρ c main_v17_2 (by decide), W3_of m ρ c main_v17_2 (by decide)]
  exact (W2_arr m ρ c 10).trans ((fin0_10 m ρ c).trans (eq0_10 m c))

theorem res3 (w : Fin9 m c) : W4 m ρ c (Proc.devRef .tc main_v17_4)
    = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W4_of m ρ c main_v17_4 (by decide), W3_of m ρ c main_v17_4 (by decide)]
  exact (W2_arr m ρ c 12).trans ((fin0_12 m ρ c).trans (eq0_12 m c w))

theorem res4 (w : Fin9 m c) : W4 m ρ c (Proc.devRef .tc main_v19_0)
    = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W4_arr m ρ c 8).trans ((fin1_8 m ρ c).trans (eq1_8 m c w))

theorem res5 (w : Fin9 m c) : W4 m ρ c (Proc.devRef .tc main_v19_1)
    = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W4_arr m ρ c 9).trans ((fin1_9 m ρ c).trans (eq1_9 m c w))

theorem res6 (w : Fin9 m c) : W4 m ρ c (Proc.devRef .tc main_v19_2)
    = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W4_arr m ρ c 10).trans ((fin1_10 m ρ c).trans (eq1_10 m c w))

theorem res7 (w : Fin9 m c) : W4 m ρ c (Proc.devRef .tc main_v19_3)
    = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W4_arr m ρ c 11).trans ((fin1_11 m ρ c).trans (eq1_11 m c w))

theorem res8 (w : Fin9 m c) : W4 m ρ c (Proc.devRef .tc main_v19_4)
    = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  exact (W4_arr m ρ c 12).trans ((fin1_12 m ρ c).trans (eq1_12 m c w))

theorem res9 (w : Fin9 m c) : W4 m ρ c (Proc.devRef .tc main_v19_5)
    = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  exact (W4_arr m ρ c 13).trans ((fin1_13 m ρ c).trans (eq1_13 m c w))

end

end Cert.AttnIdeal.Value
end
-- ==== Proof.AttnClaim.lean ====
/- The claims about the pair. -/
module

public import proofs.«01_k».proof.Defs
public import proofs.«01_k».proof.Proof.AttnEq
public import proofs.«01_k».proof.Proof.AttnRun
public import proofs.«01_k».proof.Proof.Gen.Attn.Frame

@[expose] public section

noncomputable section

namespace Cert.Proof.Attn

open Idealize.ShloMosaic Idealize.ShloMosaic.TcCoe Idealize.SL.Sem

theorem frame_k : Cert.quiescent_Attn := fun m ρ _ => Cert.Attn.Gen.frame m ρ

theorem frame_ki : Cert.quiescent_AttnIdeal := fun m ρ _ => Cert.AttnIdeal.Gen.frame m ρ

theorem frame_ri : Cert.quiescent_AttnReferenceIdeal := fun m ρ _ =>
  (θ_run Cert.AttnReferenceIdeal.defs _ _).mono (fun r h => ⟨fun c => (h c).2.2.2.2.2.2.2.2.2.2, sem_eq_zero_of_no_sems (by decide) r.2⟩)
    (Cert.AttnReferenceIdeal.Value.run (F := Ideal) m ρ)

theorem facts_pre : Cert.Pre_finite_xattn.Facts := by
  constructor <;> decide

theorem frame_ki_pre : Cert.quiescent_AttnIdeal_pre_finite_xattn (hPre_finite_xattn := facts_pre) := fun m ρ _ => Cert.AttnIdeal.Gen.frame m ρ

theorem frame_ri_pre : Cert.quiescent_AttnReferenceIdeal_pre_finite_xattn (hPre_finite_xattn := facts_pre) := fun m ρ _ => frame_ri m ρ trivial

open Cert.AttnReferenceIdeal.Read Cert.AttnIdeal.Gen Cert.AttnIdeal.Value in
theorem value : Cert.algebraic_AttnIdeal_AttnReferenceIdeal_pre_finite_xattn (hPre_finite_xattn := facts_pre) := by
  intro m g m' g' hpre hagree
  have p0 : ∀ c : Dev Cert.AttnIdeal.nD, Common.Finite (m ((c.tc : Thread Cert.AttnIdeal.nD Cert.AttnIdeal.τ).loc Cert.AttnIdeal.main_arg0)) := fun c i => Common.real_of_lt _ (congrFun (hpre c).1 i)
  have p1 : ∀ c : Dev Cert.AttnIdeal.nD, Common.Finite (m ((c.tc : Thread Cert.AttnIdeal.nD Cert.AttnIdeal.τ).loc Cert.AttnIdeal.main_arg1)) := fun c i => Common.real_of_lt _ (congrFun (hpre c).2.1 i)
  have p2 : ∀ c : Dev Cert.AttnIdeal.nD, Common.Finite (m ((c.tc : Thread Cert.AttnIdeal.nD Cert.AttnIdeal.τ).loc Cert.AttnIdeal.main_arg2)) := fun c i => Common.real_of_lt _ (congrFun (hpre c).2.2.1 i)
  have p3 : ∀ c : Dev Cert.AttnIdeal.nD, Common.Finite (m ((c.tc : Thread Cert.AttnIdeal.nD Cert.AttnIdeal.τ).loc Cert.AttnIdeal.main_arg3)) := fun c i => Common.real_of_lt _ (congrFun (hpre c).2.2.2.1 i)
  have p4 : ∀ c : Dev Cert.AttnIdeal.nD, Common.Finite (m ((c.tc : Thread Cert.AttnIdeal.nD Cert.AttnIdeal.τ).loc Cert.AttnIdeal.main_arg4)) := fun c i => Common.real_of_lt _ (congrFun (hpre c).2.2.2.2.1 i)
  have p5 : ∀ c : Dev Cert.AttnIdeal.nD, Common.Finite (m ((c.tc : Thread Cert.AttnIdeal.nD Cert.AttnIdeal.τ).loc Cert.AttnIdeal.main_arg5)) := fun c i => Common.real_of_lt _ (congrFun (hpre c).2.2.2.2.2.1 i)
  have p6 : ∀ c : Dev Cert.AttnIdeal.nD, Common.Finite (m ((c.tc : Thread Cert.AttnIdeal.nD Cert.AttnIdeal.τ).loc Cert.AttnIdeal.main_arg6)) := fun c i => Common.real_of_lt _ (congrFun (hpre c).2.2.2.2.2.2.1 i)
  have p7 : ∀ c : Dev Cert.AttnIdeal.nD, Common.Finite (m ((c.tc : Thread Cert.AttnIdeal.nD Cert.AttnIdeal.τ).loc Cert.AttnIdeal.main_arg7)) := fun c i => Common.real_of_lt _ (congrFun (hpre c).2.2.2.2.2.2.2.1 i)
  have p8 : ∀ c : Dev Cert.AttnIdeal.nD, Common.Finite (m ((c.tc : Thread Cert.AttnIdeal.nD Cert.AttnIdeal.τ).loc Cert.AttnIdeal.main_arg8)) := fun c i => Common.real_of_lt _ (congrFun (hpre c).2.2.2.2.2.2.2.2 i)
  have p : ∀ c : Dev Cert.AttnIdeal.nD, Fin9 m c := fun c => ⟨p0 c, p1 c, p2 c, p3 c, p4 c, p5 c, p6 c, p7 c, p8 c⟩
  refine ⟨fun c => val_main_v119 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)),
    fun c => val_main_v121 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)),
    fun c => val_main_v123 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)),
    fun c => val_main_v125 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)),
    fun c => val_main_v126 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)),
    fun c => val_main_v128 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)),
    fun c => val_main_v130 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)),
    fun c => val_main_v131 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)),
    fun c => val_main_v132 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)),
    fun c => val_main_v134 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)),
    (θ_run Cert.AttnIdeal.defs _ _).mono (fun r h c => ?_) (Cert.AttnIdeal.Run.ends (F := Ideal) m g),
    (θ_run Cert.AttnReferenceIdeal.defs _ _).mono (fun r h c => ?_) (Cert.AttnReferenceIdeal.Value.run (F := Ideal) m' g')⟩
  · exact ⟨(h c _ (mem_uc _ (by decide))).trans (res0 m g c (p c)),
      (h c _ (mem_uc _ (by decide))).trans (res1 m g c (p c)),
      (h c _ (mem_uc _ (by decide))).trans (res2 m g c (p c)),
      (h c _ (mem_uc _ (by decide))).trans (res3 m g c (p c)),
      (h c _ (mem_uc _ (by decide))).trans (res4 m g c (p c)),
      (h c _ (mem_uc _ (by decide))).trans (res5 m g c (p c)),
      (h c _ (mem_uc _ (by decide))).trans (res6 m g c (p c)),
      (h c _ (mem_uc _ (by decide))).trans (res7 m g c (p c)),
      (h c _ (mem_uc _ (by decide))).trans (res8 m g c (p c)),
      (h c _ (mem_uc _ (by decide))).trans (res9 m g c (p c)),
      (h c _ (mem_uc _ (by decide))).trans (W4_main_arg0 m g c),
      (h c _ (mem_uc _ (by decide))).trans (W4_main_arg1 m g c),
      (h c _ (mem_uc _ (by decide))).trans (W4_main_arg2 m g c),
      (h c _ (mem_uc _ (by decide))).trans (W4_main_arg3 m g c),
      (h c _ (mem_uc _ (by decide))).trans (W4_main_arg4 m g c),
      (h c _ (mem_uc _ (by decide))).trans (W4_main_arg5 m g c),
      (h c _ (mem_uc _ (by decide))).trans (W4_main_arg6 m g c),
      (h c _ (mem_uc _ (by decide))).trans (W4_main_arg7 m g c),
      (h c _ (mem_uc _ (by decide))).trans (W4_main_arg8 m g c)⟩
  · obtain ⟨h0, h1, h2, h3, h4, h5, h6, h7, h8, h9, h10⟩ := h c
    obtain ⟨a0, a1, a2, a3, a4, a5, a6, a7, a8⟩ := hagree c
    refine ⟨(h0.trans (val_main_v119_eq _ _ _)).trans ?_,
      (h1.trans (val_main_v121_eq _ _)).trans ?_,
      (h2.trans (val_main_v123_eq _ _ _ _)).trans ?_,
      (h3.trans (val_main_v125_eq _ _)).trans ?_,
      (h4.trans (val_main_v126_eq _ _)).trans ?_,
      (h5.trans (val_main_v128_eq _ _)).trans ?_,
      (h6.trans (val_main_v130_eq _ _)).trans ?_,
      (h7.trans (val_main_v131_eq _ _)).trans ?_,
      (h8.trans (val_main_v132_eq _ _)).trans ?_,
      (h9.trans (val_main_v134_eq _ _)).trans ?_, h10⟩
    all_goals simp only [a0, a1, a2, a3, a4, a5, a6, a7, a8]

end Cert.Proof.Attn

end
-- ==== Proof.PoolPay.lean ====
/- What one tile of the pooling gradient computes, entry by entry. -/
module

public import proofs.«01_k».proof.Proof.Common
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolBIdeal.Value

open Cert.PoolBIdeal Cert.PoolBIdeal.Gen Idealize.ShloMosaic Idealize.ShloMosaic.TcCoe Idealize.SL.Sem

theorem pay2_at (a w : FVec Ideal S512x1024 .bf16) (i j : Fin 512) :
    k0_pay2 (F := Ideal) a w (ix2 i j) = ∑ k : Fin 1024, a (ix2 i k) * w (ix2 j k) := by
  pointwise [k0_pay2]

/-- One tile's part of the scale gradient, for one pooling width. -/
def sg (p : FVec Ideal S512x128 .bf16) (o : FVec Ideal S512x128 .f32) (w : FVec Ideal S1x128x128 .f32) (j : Fin 128) : EReal :=
  ∑ i : Fin 512, (∑ k : Fin 128, p (ix2 i k) * w (ix3 0 k j)) * o (ix2 i j)

theorem pay13_at (p : FVec Ideal S512x128 .bf16) (o : FVec Ideal S512x128 .f32) (s : FVec Ideal S1x128 .f32) (w : FVec Ideal S1x128x128 .f32) (j : Fin 128) :
    k0_pay13 (F := Ideal) p o s w (ix2 0 j) = s (ix2 0 j) + sg p o w j := by
  pointwise [k0_pay13, k0_pay12, sg]

theorem pay19_at (p : FVec Ideal S512x128 .bf16) (o : FVec Ideal S512x128 .f32) (s : FVec Ideal S1x128 .f32) (w : FVec Ideal S1x128x128 .f32) (j : Fin 128) :
    k0_pay19 (F := Ideal) p o s w (ix2 0 j) = s (ix2 0 j) + sg p o w j := by
  pointwise [k0_pay19, k0_pay18, sg]

theorem pay26_at (p : FVec Ideal S512x128 .bf16) (o : FVec Ideal S512x128 .f32) (s : FVec Ideal S1x128 .f32) (w : FVec Ideal S1x128x128 .f32) (j : Fin 128) :
    k0_pay26 (F := Ideal) p o s w (ix2 0 j) = s (ix2 0 j) + sg p o w j := by
  pointwise [k0_pay26, k0_pay25, sg]

theorem pay34_at (p : FVec Ideal S512x128 .bf16) (o : FVec Ideal S512x128 .f32) (s : FVec Ideal S1x128 .f32) (w : FVec Ideal S1x128x128 .f32) (j : Fin 128) :
    k0_pay34 (F := Ideal) (k0_pay32 s) (k0_pay33 p o w) (ix2 0 j) = s (ix2 0 j) + sg p o w j := by
  pointwise [k0_pay34, k0_pay32, k0_pay33, k0_pay31, sg]

/-- The upstream gradient times the learned scale. -/
def dy (o : FVec Ideal S512x128 .f32) (s : FVec Ideal S1x128 .f32) (i : Fin 512) (j : Fin 128) : EReal := o (ix2 i j) * s (ix2 0 j)

/-- One tile's part of the weight gradient, for one pooling width. -/
def wg (p : FVec Ideal S512x128 .bf16) (o : FVec Ideal S512x128 .f32) (s : FVec Ideal S1x128 .f32) (e j : Fin 128) : EReal :=
  ∑ i : Fin 512, p (ix2 i e) * dy o s i j

theorem pay15_at (p : FVec Ideal S512x128 .bf16) (o : FVec Ideal S512x128 .f32) (s : FVec Ideal S1x128 .f32) (w : FVec Ideal S1x128x128 .f32) (e j : Fin 128) :
    k0_pay15 (F := Ideal) (k0_pay12 p) (k0_pay14 o s) w (ix3 0 e j) = w (ix3 0 e j) + wg p o s e j := by
  pointwise [k0_pay15, k0_pay12, k0_pay14, wg, dy]

theorem pay22_at (p : FVec Ideal S512x128 .bf16) (o : FVec Ideal S512x128 .f32) (s : FVec Ideal S1x128 .f32) (w : FVec Ideal S1x128x128 .f32) (e j : Fin 128) :
    k0_pay22 (F := Ideal) (k0_pay18 p) (k0_pay20 o s) w (ix3 0 e j) = w (ix3 0 e j) + wg p o s e j := by
  pointwise [k0_pay22, k0_pay18, k0_pay20, k0_pay21, wg, dy]

theorem pay28_at (p : FVec Ideal S512x128 .bf16) (o : FVec Ideal S512x128 .f32) (s : FVec Ideal S1x128 .f32) (w : FVec Ideal S1x128x128 .f32) (e j : Fin 128) :
    k0_pay28 (F := Ideal) (k0_pay25 p) o s w (ix3 0 e j) = w (ix3 0 e j) + wg p o s e j := by
  pointwise [k0_pay28, k0_pay25, k0_pay27, wg, dy]

theorem pay36_at (p : FVec Ideal S512x128 .bf16) (o : FVec Ideal S512x128 .f32) (s : FVec Ideal S1x128 .f32) (w : FVec Ideal S1x128x128 .f32) (e j : Fin 128) :
    k0_pay36 (F := Ideal) (k0_pay31 p) o s w (ix3 0 e j) = w (ix3 0 e j) + wg p o s e j := by
  pointwise [k0_pay36, k0_pay31, k0_pay35, wg, dy]

/-- The gradient of the pooled mean, for one pooling width. -/
def dpo (o : FVec Ideal S512x128 .f32) (s : FVec Ideal S1x128 .f32) (w : FVec Ideal S1x128x128 .f32) (i : Fin 512) (e : Fin 128) : EReal :=
  ∑ j : Fin 128, dy o s i j * w (ix3 0 e j)

theorem pay16_at (o : FVec Ideal S512x128 .f32) (s : FVec Ideal S1x128 .f32) (w : FVec Ideal S1x128x128 .f32) (i : Fin 512) (e : Fin 128) :
    k0_pay16 (F := Ideal) (k0_pay14 o s) w (ix2 i e) = dpo o s w i e := by
  pointwise [k0_pay16, k0_pay14, dpo, dy]

theorem pay23_at (o : FVec Ideal S512x128 .f32) (s : FVec Ideal S1x128 .f32) (w : FVec Ideal S1x128x128 .f32) (i : Fin 512) (e : Fin 128) :
    k0_pay23 (F := Ideal) (k0_pay20 o s) w (ix2 i e) = dpo o s w i e := by
  pointwise [k0_pay23, k0_pay21, k0_pay20, dpo, dy]

theorem pay29_at (o : FVec Ideal S512x128 .f32) (s : FVec Ideal S1x128 .f32) (w : FVec Ideal S1x128x128 .f32) (i : Fin 512) (e : Fin 128) :
    k0_pay29 (F := Ideal) o s w (ix2 i e) = dpo o s w i e := by
  pointwise [k0_pay29, k0_pay27, dpo, dy]

theorem pay37_at (o : FVec Ideal S512x128 .f32) (s : FVec Ideal S1x128 .f32) (w : FVec Ideal S1x128x128 .f32) (i : Fin 512) (e : Fin 128) :
    k0_pay37 (F := Ideal) o s w (ix2 i e) = dpo o s w i e := by
  pointwise [k0_pay37, k0_pay35, dpo, dy]

theorem pay17_at (v : FVec Ideal S512x1 .f32) (o : FVec Ideal S512x128 .f32) (s : FVec Ideal S1x128 .f32) (w : FVec Ideal S1x128x128 .f32) (i : Fin 512) (e : Fin 128) :
    k0_pay17 (F := Ideal) v (k0_pay14 o s) w (ix2 i e) = dpo o s w i e * v (ix2 i 0) := by
  rw [← pay16_at]; pointwise [k0_pay17]

theorem pay24_at (v : FVec Ideal S512x1 .f32) (o : FVec Ideal S512x128 .f32) (s : FVec Ideal S1x128 .f32) (w : FVec Ideal S1x128x128 .f32) (i : Fin 512) (e : Fin 128) :
    k0_pay24 (F := Ideal) v (k0_pay20 o s) w (ix2 i e) = dpo o s w i e * v (ix2 i 0) := by
  rw [← pay23_at]; pointwise [k0_pay24]

theorem pay30_at (v : FVec Ideal S512x1 .f32) (o : FVec Ideal S512x128 .f32) (s : FVec Ideal S1x128 .f32) (w : FVec Ideal S1x128x128 .f32) (i : Fin 512) (e : Fin 128) :
    k0_pay30 (F := Ideal) v o s w (ix2 i e) = dpo o s w i e * v (ix2 i 0) := by
  rw [← pay29_at]; pointwise [k0_pay30]

theorem pay38_at (v : FVec Ideal S512x1 .f32) (o : FVec Ideal S512x128 .f32) (s : FVec Ideal S1x128 .f32) (w : FVec Ideal S1x128x128 .f32) (i : Fin 512) (e : Fin 128) :
    k0_pay38 (F := Ideal) v o s w (ix2 i e) = dpo o s w i e * v (ix2 i 0) := by
  rw [← pay37_at]; pointwise [k0_pay38]

/-- One over the number of tokens the mean of width `w` takes at position `p`. -/
def inv (w p : BitVec 32) : EReal := Ideal.div 1 (FloatOps.sitofp (F := Ideal) .f32 (IntOp.minsi (IntOp.addi p 1#32) w))

/-- The position of a row within the sequence. -/
def pos (i : grid0.Coords) (r : Fin 512) : BitVec 32 := IntOp.addi (Scalar.muli (Scalar.subi 7#32 (BitVec.ofNat 32 (i 0).val)) 512#32) (BitVec.ofNat 32 r.val)

theorem pay7_at (i : grid0.Coords) (r : Fin 512) : k0_pay7 (F := Ideal) i (ix2 r 0) = inv 2#32 (pos i r) := by
  pointwise [k0_pay7, k0_pay6, inv, pos]

theorem pay9_at (i : grid0.Coords) (r : Fin 512) : k0_pay9 (F := Ideal) (k0_pay8 i) (Scalar.ofBits .f32 0x3F800000#32) (ix2 r 0) = inv 4#32 (pos i r) := by
  pointwise [k0_pay9, k0_pay8, k0_pay6, inv, pos]

theorem pay10_at (i : grid0.Coords) (r : Fin 512) : k0_pay10 (F := Ideal) (k0_pay6 i) (ix2 r 0) = inv 8#32 (pos i r) := by
  pointwise [k0_pay10, k0_pay6, inv, pos]

theorem pay11_at (i : grid0.Coords) (r : Fin 512) : k0_pay11 (F := Ideal) (k0_pay6 i) (ix2 r 0) = inv 16#32 (pos i r) := by
  pointwise [k0_pay11, k0_pay6, inv, pos]

theorem pay39_at (d a0 a1 : FVec Ideal S512x128 .f32) (y : S512x128.Idx) : k0_pay39 (F := Ideal) d a0 a1 y = a0 y + a1 y - d y := by
  pointwise [k0_pay39]

theorem pay40_at (d a0 a1 a2 a3 : FVec Ideal S512x128 .f32) (y : S512x128.Idx) : k0_pay40 (F := Ideal) d a0 a1 a2 a3 y = a0 y + a1 y + a2 y + a3 y - d y := by
  pointwise [k0_pay40]

theorem pay41_at (d a0 a1 a2 a3 a4 a5 a6 a7 : FVec Ideal S512x128 .f32) (y : S512x128.Idx) :
    k0_pay41 (F := Ideal) d a0 a1 a2 a3 a4 a5 a6 a7 y = a0 y + a1 y + a2 y + a3 y + a4 y + a5 y + a6 y + a7 y - d y := by
  pointwise [k0_pay41]

theorem pay43_at (d a0 a1 a2 a3 a4 a5 a6 a7 b0 b1 b2 b3 b4 b5 b6 b7 : FVec Ideal S512x128 .f32) (y : S512x128.Idx) :
    k0_pay43 (F := Ideal) d (k0_pay42 a0 a1) a2 a3 a4 a5 a6 a7 b0 b1 b2 b3 b4 b5 b6 b7 y
      = a0 y + a1 y + a2 y + a3 y + a4 y + a5 y + a6 y + a7 y + b0 y + b1 y + b2 y + b3 y + b4 y + b5 y + b6 y + b7 y - d y := by
  pointwise [k0_pay43, k0_pay42]

end Cert.PoolBIdeal.Value
-- ==== Proof.PoolParts.lean ====
/- Stored and loaded parts of the pooling gradient's arrays, read entry by entry. -/
module

public import proofs.«01_k».proof.Proof.PoolPay
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolBIdeal.Value

open Cert.PoolBIdeal Cert.PoolBIdeal.Gen Idealize.ShloMosaic Idealize.ShloMosaic.TcCoe Idealize.SL.Sem

variable {Val : EltTy → Type} {e : EltTy}

/-- A column of the group `h`, in an array with at least 512 columns. -/
def cl (n : Nat) (hn : 512 ≤ n) (h : Fin 4) (k : Fin 128) : Fin n := ⟨128 * h + k, by omega⟩

abbrev c5 (h : Fin 4) (k : Fin 128) : Fin 512 := cl 512 (by decide) h k
abbrev c10 (h : Fin 4) (k : Fin 128) : Fin 1024 := cl 1024 (by decide) h k

theorem cl_val (n : Nat) (hn : 512 ≤ n) (h : Fin 4) (k : Fin 128) : ((cl n hn h k : Fin n) : Nat) = 128 * h + k := rfl

section Two
variable {A B a b o p : Nat} {inb : ∀ x, (![o, p] : Fin 2 → Nat) x + (![a, b] : Fin 2 → Nat) x ≤ (⟨2, ![A, B]⟩ : Shape).size x}

theorem canon_in [∀ e, Nonempty (Val e)] {w : (⟨2, ![a, b]⟩ : Shape).Idx → Val e} {L : List (View.Piece Val ⟨2, ![A, B]⟩ e)} {i : Fin A} {j : Fin B}
    (i' : Fin a) (j' : Fin b) (hi : (i : Nat) = o + i') (hj : (j : Nat) = p + j') :
    View.canon (s := ⟨2, ![A, B]⟩) (⟨Rect.unit ![o, p] ![a, b] inb, w⟩ :: L) (ix2 i j) = w (ix2 i' j') := by
  rw [Common.canon_top (S := ⟨2, ![A, B]⟩) ![o, p] ![a, b], dif_pos (fun x => by match x with
    | ⟨0, _⟩ => exact ⟨by show o ≤ (i : Nat); omega, by show (i : Nat) < o + a; omega⟩
    | ⟨1, _⟩ => exact ⟨by show p ≤ (j : Nat); omega, by show (j : Nat) < p + b; omega⟩)]
  congr 1
  funext x
  apply Fin.ext
  match x with
  | ⟨0, _⟩ => show (i : Nat) - o = i'; omega
  | ⟨1, _⟩ => show (j : Nat) - p = j'; omega

theorem canon_out [∀ e, Nonempty (Val e)] {w : (⟨2, ![a, b]⟩ : Shape).Idx → Val e} {L : List (View.Piece Val ⟨2, ![A, B]⟩ e)} {i : Fin A} {j : Fin B}
    (h : ¬ (o ≤ (i : Nat) ∧ (i : Nat) < o + a ∧ p ≤ (j : Nat) ∧ (j : Nat) < p + b)) :
    View.canon (s := ⟨2, ![A, B]⟩) (⟨Rect.unit ![o, p] ![a, b] inb, w⟩ :: L) (ix2 i j) = View.canon (s := ⟨2, ![A, B]⟩) L (ix2 i j) := by
  rw [Common.canon_top (S := ⟨2, ![A, B]⟩) ![o, p] ![a, b], dif_neg fun hh => h ⟨(hh 0).1, (hh 0).2, (hh 1).1, (hh 1).2⟩]

variable {sig : RefSig} {κ : Kind} {sp : Space}

theorem writes_in {v : View sig κ sp ⟨2, ![A, B]⟩ e} {f : v.ty.Contents Val} {w : (⟨2, ![a, b]⟩ : Shape).Idx → Val e} {L : List (View.Piece Val ⟨2, ![A, B]⟩ e)}
    {i : Fin A} {j : Fin B} (i' : Fin a) (j' : Fin b) (hi : (i : Nat) = o + i') (hj : (j : Nat) = p + j') :
    v.read Val (v.writes Val f (⟨Rect.unit ![o, p] ![a, b] inb, w⟩ :: L)) (ix2 i j) = w (ix2 i' j') := by
  rw [Common.writes_top (S := ⟨2, ![A, B]⟩) v _ ![o, p] ![a, b], dif_pos (fun x => by match x with
    | ⟨0, _⟩ => exact ⟨by show o ≤ (i : Nat); omega, by show (i : Nat) < o + a; omega⟩
    | ⟨1, _⟩ => exact ⟨by show p ≤ (j : Nat); omega, by show (j : Nat) < p + b; omega⟩)]
  congr 1
  funext x
  apply Fin.ext
  match x with
  | ⟨0, _⟩ => show (i : Nat) - o = i'; omega
  | ⟨1, _⟩ => show (j : Nat) - p = j'; omega

theorem writes_out {v : View sig κ sp ⟨2, ![A, B]⟩ e} {f : v.ty.Contents Val} {w : (⟨2, ![a, b]⟩ : Shape).Idx → Val e} {L : List (View.Piece Val ⟨2, ![A, B]⟩ e)}
    {i : Fin A} {j : Fin B} (h : ¬ (o ≤ (i : Nat) ∧ (i : Nat) < o + a ∧ p ≤ (j : Nat) ∧ (j : Nat) < p + b)) :
    v.read Val (v.writes Val f (⟨Rect.unit ![o, p] ![a, b] inb, w⟩ :: L)) (ix2 i j) = v.read Val (v.writes Val f L) (ix2 i j) := by
  rw [Common.writes_top (S := ⟨2, ![A, B]⟩) v _ ![o, p] ![a, b], dif_neg fun hh => h ⟨(hh 0).1, (hh 0).2, (hh 1).1, (hh 1).2⟩]

theorem cov_at [∀ e, Nonempty (Val e)] {v : View sig κ sp ⟨2, ![A, B]⟩ e} {L : List (View.Piece Val ⟨2, ![A, B]⟩ e)} {i' : Fin a} {j' : Fin b}
    (i : Fin A) (j : Fin B) (hi : (i : Nat) = o + i') (hj : (j : Nat) = p + j') :
    v.readCov (Val := Val) L (Rect.unit (s := ⟨2, ![A, B]⟩) ![o, p] ![a, b] inb).toLoadRect (ix2 i' j') = View.canon (s := ⟨2, ![A, B]⟩) L (ix2 i j) := by
  rw [View.readCov_eq_canon']
  show View.canon L _ = _
  congr 1
  funext x
  apply Fin.ext
  match x with
  | ⟨0, _⟩ => show o + 1 * (i' : Nat) = i; omega
  | ⟨1, _⟩ => show p + 1 * (j' : Nat) = j; omega

theorem ld_at {X : (⟨2, ![A, B]⟩ : Shape).Idx → Val e} {i' : Fin a} {j' : Fin b} (i : Fin A) (j : Fin B) (hi : (i : Nat) = o + i') (hj : (j : Nat) = p + j') :
    View.ld (S := ⟨2, ![A, B]⟩) X (Rect.unit ![o, p] ![a, b] inb) (ix2 i' j') = X (ix2 i j) :=
  View.ld_unit_apply_of X _ _ inb _ _ fun x => by
    match x with
    | ⟨0, _⟩ => exact hi
    | ⟨1, _⟩ => exact hj

end Two

section Three
variable {o : Nat} {inb : ∀ x, (![o, 0, 0] : Fin 3 → Nat) x + (![1, 128, 128] : Fin 3 → Nat) x ≤ S4x128x128.size x}

theorem canon_in3 [∀ e, Nonempty (Val e)] {w : S1x128x128.Idx → Val e} {L : List (View.Piece Val S4x128x128 e)} {h : Fin 4} {i j : Fin 128} (hh : (h : Nat) = o) :
    View.canon (s := S4x128x128) (⟨Rect.unit ![o, 0, 0] ![1, 128, 128] inb, w⟩ :: L) (ix3 h i j) = w (ix3 0 i j) := by
  have hi : (i : Nat) < 128 := i.isLt
  have hj : (j : Nat) < 128 := j.isLt
  rw [Common.canon_top (S := S4x128x128) ![o, 0, 0] ![1, 128, 128], dif_pos (fun x => by match x with
    | ⟨0, _⟩ => exact ⟨by show o ≤ (h : Nat); omega, by show (h : Nat) < o + 1; omega⟩
    | ⟨1, _⟩ => exact ⟨Nat.zero_le _, by show (i : Nat) < 0 + 128; omega⟩
    | ⟨2, _⟩ => exact ⟨Nat.zero_le _, by show (j : Nat) < 0 + 128; omega⟩)]
  congr 1
  funext x
  apply Fin.ext
  match x with
  | ⟨0, _⟩ => show (h : Nat) - o = 0; omega
  | ⟨1, _⟩ => rfl
  | ⟨2, _⟩ => rfl

theorem canon_out3 [∀ e, Nonempty (Val e)] {w : S1x128x128.Idx → Val e} {L : List (View.Piece Val S4x128x128 e)} {h : Fin 4} {i j : Fin 128} (hh : (h : Nat) ≠ o) :
    View.canon (s := S4x128x128) (⟨Rect.unit ![o, 0, 0] ![1, 128, 128] inb, w⟩ :: L) (ix3 h i j) = View.canon (s := S4x128x128) L (ix3 h i j) := by
  rw [Common.canon_top (S := S4x128x128) ![o, 0, 0] ![1, 128, 128], dif_neg fun hx => by
    have h1 : o ≤ (h : Nat) := (hx 0).1
    have h2 : (h : Nat) < o + 1 := (hx 0).2
    omega]

theorem ld_at3 {X : S4x128x128.Idx → Val e} {h : Fin 4} {i j : Fin 128} (hh : (h : Nat) = o) :
    View.ld (S := S4x128x128) X (Rect.unit ![o, 0, 0] ![1, 128, 128] inb) (ix3 0 i j) = X (ix3 h i j) :=
  View.ld_unit_apply_of X _ _ inb _ _ fun x => by
    match x with
    | ⟨0, _⟩ => show (h : Nat) = o + 0; omega
    | ⟨1, _⟩ => show (i : Nat) = 0 + i; omega
    | ⟨2, _⟩ => show (j : Nat) = 0 + j; omega

theorem cov_at3 [∀ e, Nonempty (Val e)] {sig : RefSig} {κ : Kind} {sp : Space} {v : View sig κ sp S4x128x128 e} {L : List (View.Piece Val S4x128x128 e)}
    {h : Fin 4} {i j : Fin 128} (hh : (h : Nat) = o) :
    v.readCov (Val := Val) L (Rect.unit (s := S4x128x128) ![o, 0, 0] ![1, 128, 128] inb).toLoadRect (ix3 0 i j) = View.canon (s := S4x128x128) L (ix3 h i j) := by
  rw [View.readCov_eq_canon']
  show View.canon L _ = _
  congr 1
  funext x
  apply Fin.ext
  match x with
  | ⟨0, _⟩ => show o + 1 * 0 = (h : Nat); omega
  | ⟨1, _⟩ => show 0 + 1 * (i : Nat) = i; omega
  | ⟨2, _⟩ => show 0 + 1 * (j : Nat) = j; omega

end Three

/-- The upstream gradient of the pooled branch, from one tile of the output's gradient. -/
def DO (a : FVec Ideal S512x1024 .bf16) (b : FVec Ideal S1024x1024 .bf16) (i j : Fin 512) : EReal :=
  ∑ k : Fin 1024, a (ix2 i k) * b (ix2 ⟨512 + j, by omega⟩ k)

/-- One tile's part of the scale gradient, in the group `h`. -/
def SG (a : FVec Ideal S512x1024 .bf16) (b : FVec Ideal S1024x1024 .bf16) (p : FVec Ideal S512x512 .bf16) (w : FVec Ideal S4x128x128 .f32) (h : Fin 4) (j : Fin 128) : EReal :=
  ∑ i : Fin 512, (∑ k : Fin 128, p (ix2 i (c5 h k)) * w (ix3 h k j)) * DO a b i (c5 h j)

/-- The upstream gradient times the learned scale, in the group `h`. -/
def DY (a : FVec Ideal S512x1024 .bf16) (b : FVec Ideal S1024x1024 .bf16) (s : FVec Ideal S1x512 .f32) (h : Fin 4) (i : Fin 512) (j : Fin 128) : EReal :=
  DO a b i (c5 h j) * s (ix2 0 (c5 h j))

/-- One tile's part of the weight gradient, in the group `h`. -/
def WG (a : FVec Ideal S512x1024 .bf16) (b : FVec Ideal S1024x1024 .bf16) (p : FVec Ideal S512x512 .bf16) (s : FVec Ideal S1x512 .f32) (h : Fin 4) (k j : Fin 128) : EReal :=
  ∑ i : Fin 512, p (ix2 i (c5 h k)) * DY a b s h i j

/-- The gradient of the pooled mean, in the group `h`. -/
def DPO (a : FVec Ideal S512x1024 .bf16) (b : FVec Ideal S1024x1024 .bf16) (s : FVec Ideal S1x512 .f32) (w : FVec Ideal S4x128x128 .f32) (h : Fin 4) (i : Fin 512) (k : Fin 128) : EReal :=
  ∑ j : Fin 128, DY a b s h i j * w (ix3 h k j)

section Parts
variable (a : FVec Ideal S512x1024 .bf16) (b : FVec Ideal S1024x1024 .bf16) (p : FVec Ideal S512x512 .bf16) (s : FVec Ideal S1x512 .f32) (w : FVec Ideal S4x128x128 .f32)
  (h : Fin 4) (o q : Nat) (ho : o = 128 * h) (hq : (h : Nat) = q)
  (inb0 : ∀ x, (![512, 0] : Fin 2 → Nat) x + (![512, 1024] : Fin 2 → Nat) x ≤ S1024x1024.size x)
  (inb1 : ∀ x, (![0, 0] : Fin 2 → Nat) x + (![512, 512] : Fin 2 → Nat) x ≤ S512x512.size x)
  (inb2 : ∀ x, (![0, o] : Fin 2 → Nat) x + (![512, 128] : Fin 2 → Nat) x ≤ S512x512.size x)
  (inb3 : ∀ x, (![0, o] : Fin 2 → Nat) x + (![1, 128] : Fin 2 → Nat) x ≤ S1x512.size x)
  (inb4 : ∀ x, (![q, 0, 0] : Fin 3 → Nat) x + (![1, 128, 128] : Fin 3 → Nat) x ≤ S4x128x128.size x)

/-- The columns of the group `o / 128` of the upstream gradient, as the tile loads them. -/
abbrev od : FVec Ideal S512x128 .f32 :=
  (View.whole cc0_scratch1).readCov (Val := Elt Ideal) [⟨Rect.unit ![0, 0] ![512, 512] inb1, k0_pay2 (F := Ideal) a (View.ld (S := S1024x1024) b (Rect.unit ![512, 0] ![512, 1024] inb0))⟩]
    (Rect.unit (s := S512x512) ![0, o] ![512, 128] inb2).toLoadRect

include ho in
theorem od_at (i : Fin 512) (j : Fin 128) : od a b o inb0 inb1 inb2 (ix2 i j) = DO a b i (c5 h j) := by
  unfold od
  rw [cov_at (A := 512) (B := 512) i (c5 h j) (by omega) (by show 128 * (h : Nat) + j = o + j; omega),
    canon_in i (c5 h j) (by omega) (by omega), pay2_at]
  refine Finset.sum_congr rfl fun k _ => ?_
  rw [ld_at (A := 1024) (B := 1024) ⟨512 + (c5 h j : Fin 512), by omega⟩ k (by rfl) (by omega)]

include ho hq in
theorem sg_eq (j : Fin 128) :
    sg (View.ld (Val := Elt Ideal) (e' := .bf16) (S := S512x512) p (Rect.unit ![0, o] ![512, 128] inb2)) (od a b o inb0 inb1 inb2) (View.ld (Val := Elt Ideal) (e' := .f32) (S := S4x128x128) w (Rect.unit ![q, 0, 0] ![1, 128, 128] inb4)) j
      = SG a b p w h j := by
  unfold sg SG
  refine Finset.sum_congr rfl fun i _ => ?_
  rw [od_at a b h o ho]
  refine congrArg (fun z : EReal => z * _) (Finset.sum_congr rfl fun k _ => ?_)
  rw [ld_at (A := 512) (B := 512) i (c5 h k) (by omega) (by show 128 * (h : Nat) + k = o + k; omega), ld_at3 hq]

include ho in
theorem dy_eq (i : Fin 512) (j : Fin 128) :
    dy (od a b o inb0 inb1 inb2) (View.ld (Val := Elt Ideal) (e' := .f32) (S := S1x512) s (Rect.unit ![0, o] ![1, 128] inb3)) i j = DY a b s h i j := by
  unfold dy DY
  rw [od_at a b h o ho, ld_at (A := 1) (B := 512) 0 (c5 h j) (by rfl) (by show 128 * (h : Nat) + j = o + j; omega)]

include ho in
theorem wg_eq (k j : Fin 128) :
    wg (View.ld (Val := Elt Ideal) (e' := .bf16) (S := S512x512) p (Rect.unit ![0, o] ![512, 128] inb2)) (od a b o inb0 inb1 inb2) (View.ld (Val := Elt Ideal) (e' := .f32) (S := S1x512) s (Rect.unit ![0, o] ![1, 128] inb3)) k j
      = WG a b p s h k j := by
  unfold wg WG
  refine Finset.sum_congr rfl fun i _ => ?_
  rw [dy_eq a b s h o ho, ld_at (A := 512) (B := 512) i (c5 h k) (by omega) (by show 128 * (h : Nat) + k = o + k; omega)]

include ho hq in
theorem dpo_eq (i : Fin 512) (k : Fin 128) :
    dpo (od a b o inb0 inb1 inb2) (View.ld (Val := Elt Ideal) (e' := .f32) (S := S1x512) s (Rect.unit ![0, o] ![1, 128] inb3)) (View.ld (Val := Elt Ideal) (e' := .f32) (S := S4x128x128) w (Rect.unit ![q, 0, 0] ![1, 128, 128] inb4)) i k
      = DPO a b s w h i k := by
  unfold dpo DPO
  refine Finset.sum_congr rfl fun j _ => ?_
  rw [dy_eq a b s h o ho, ld_at3 hq]

end Parts

end Cert.PoolBIdeal.Value
-- ==== Proof.PoolHost.lean ====
module

public import proofs.«01_k».proof.Proof.PoolParts
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise
public import Idealize.ShloMosaic.Lib.StableHlo.RunRead

@[expose] public section

set_option maxRecDepth 16384

noncomputable section

namespace Cert.PoolBIdeal.Value

open Cert.PoolBIdeal Cert.PoolBIdeal.Gen Idealize.ShloMosaic Idealize.ShloMosaic.TcCoe Idealize.SL.Sem

variable (m : (ℓ : Loc nD τ sig) → Buf (Elt Ideal) ℓ) (ρ : Dev nD → PrngReg)

theorem in_0 (c : Dev nD) : V m c main_v72 = truncf (F := Ideal) .bf16 (shapeCast _ (m ((c : Thread nD τ).loc main_arg4)) shapeCasts_S1x4096x1024_S4096x1024) bitsLt_bf16_f32 := by
  unfold V hostOps0 hostOps0_1 hostOps0_2
  simp only [List.flatten_cons, List.flatten_nil, List.append_nil, List.cons_append, List.nil_append]
  after_reads_simp
  all_goals rfl

theorem in_1 (c : Dev nD) : V m c main_v74 = truncf (F := Ideal) .bf16 (shapeCast _ (m ((c : Thread nD τ).loc main_arg3)) shapeCasts_S1x1024x1024_S1024x1024) bitsLt_bf16_f32 := by
  unfold V hostOps0 hostOps0_1 hostOps0_2
  simp only [List.flatten_cons, List.flatten_nil, List.append_nil, List.cons_append, List.nil_append]
  after_reads_simp
  all_goals rfl

theorem in_3 (c : Dev nD) : V m c main_v75 = shapeCast _ (m ((c : Thread nD τ).loc main_arg1)) shapeCasts_S1x4x128x128_S4x128x128 := by
  unfold V hostOps0 hostOps0_1 hostOps0_2
  simp only [List.flatten_cons, List.flatten_nil, List.append_nil, List.cons_append, List.nil_append]
  after_reads_simp
  all_goals rfl

set_option maxHeartbeats 2000000 in
theorem in_2 (c : Dev nD) : V m c main_v70 = truncf (F := Ideal) .bf16 (shapeCast _ (Cert.PoolBReferenceIdeal.Read.val_main_v71 (F := Ideal) (m ((c : Thread nD τ).loc main_arg0))) shapeCasts_S1x4096x4x128_S4096x512) bitsLt_bf16_f32 := by
  unfold V hostOps0 hostOps0_1 hostOps0_2
  simp only [List.flatten_cons, List.flatten_nil, List.append_nil, List.cons_append, List.nil_append]
  after_reads_simp
  unfold Cert.PoolBReferenceIdeal.Read.val_main_v71 Cert.PoolBReferenceIdeal.Read.val_main_v70 Cert.PoolBReferenceIdeal.Read.val_main_v69 Cert.PoolBReferenceIdeal.Read.val_main_v68 Cert.PoolBReferenceIdeal.Read.val_main_v67 Cert.PoolBReferenceIdeal.Read.val_main_v66 Cert.PoolBReferenceIdeal.Read.val_main_v65 Cert.PoolBReferenceIdeal.Read.val_main_v64 Cert.PoolBReferenceIdeal.Read.val_main_v63 Cert.PoolBReferenceIdeal.Read.val_main_v62 Cert.PoolBReferenceIdeal.Read.val_main_v61 Cert.PoolBReferenceIdeal.Read.val_main_v60 Cert.PoolBReferenceIdeal.Read.val_main_v59 Cert.PoolBReferenceIdeal.Read.val_main_v58 Cert.PoolBReferenceIdeal.Read.val_main_c_4 Cert.PoolBReferenceIdeal.Read.val_main_v57 Cert.PoolBReferenceIdeal.Read.val_main_v56 Cert.PoolBReferenceIdeal.Read.val_main_v55 Cert.PoolBReferenceIdeal.Read.val_main_v54 Cert.PoolBReferenceIdeal.Read.val_main_v53 Cert.PoolBReferenceIdeal.Read.val_main_v52 Cert.PoolBReferenceIdeal.Read.val_main_v51 Cert.PoolBReferenceIdeal.Read.val_main_v50 Cert.PoolBReferenceIdeal.Read.val_main_v49 Cert.PoolBReferenceIdeal.Read.val_main_v48 Cert.PoolBReferenceIdeal.Read.val_main_v47 Cert.PoolBReferenceIdeal.Read.val_main_v46 Cert.PoolBReferenceIdeal.Read.val_main_v45 Cert.PoolBReferenceIdeal.Read.val_main_v44 Cert.PoolBReferenceIdeal.Read.val_main_c_3 Cert.PoolBReferenceIdeal.Read.val_main_v43 Cert.PoolBReferenceIdeal.Read.val_main_v42 Cert.PoolBReferenceIdeal.Read.val_main_v41 Cert.PoolBReferenceIdeal.Read.val_main_v40 Cert.PoolBReferenceIdeal.Read.val_main_v39 Cert.PoolBReferenceIdeal.Read.val_main_v38 Cert.PoolBReferenceIdeal.Read.val_main_v37 Cert.PoolBReferenceIdeal.Read.val_main_v36 Cert.PoolBReferenceIdeal.Read.val_main_v35 Cert.PoolBReferenceIdeal.Read.val_main_v34 Cert.PoolBReferenceIdeal.Read.val_main_v33 Cert.PoolBReferenceIdeal.Read.val_main_v32 Cert.PoolBReferenceIdeal.Read.val_main_v31 Cert.PoolBReferenceIdeal.Read.val_main_v30 Cert.PoolBReferenceIdeal.Read.val_main_c_2 Cert.PoolBReferenceIdeal.Read.val_main_v29 Cert.PoolBReferenceIdeal.Read.val_main_v28 Cert.PoolBReferenceIdeal.Read.val_main_v27 Cert.PoolBReferenceIdeal.Read.val_main_v26 Cert.PoolBReferenceIdeal.Read.val_main_v25 Cert.PoolBReferenceIdeal.Read.val_main_v24 Cert.PoolBReferenceIdeal.Read.val_main_v23 Cert.PoolBReferenceIdeal.Read.val_main_v22 Cert.PoolBReferenceIdeal.Read.val_main_v21 Cert.PoolBReferenceIdeal.Read.val_main_v20 Cert.PoolBReferenceIdeal.Read.val_main_v19 Cert.PoolBReferenceIdeal.Read.val_main_v18 Cert.PoolBReferenceIdeal.Read.val_main_v17 Cert.PoolBReferenceIdeal.Read.val_main_v16 Cert.PoolBReferenceIdeal.Read.val_main_c_1 Cert.PoolBReferenceIdeal.Read.val_main_v15 Cert.PoolBReferenceIdeal.Read.val_main_v14 Cert.PoolBReferenceIdeal.Read.val_main_v13 Cert.PoolBReferenceIdeal.Read.val_main_v12 Cert.PoolBReferenceIdeal.Read.val_main_v11 Cert.PoolBReferenceIdeal.Read.val_main_v10 Cert.PoolBReferenceIdeal.Read.val_main_v9 Cert.PoolBReferenceIdeal.Read.val_main_c Cert.PoolBReferenceIdeal.Read.val_main_v8 Cert.PoolBReferenceIdeal.Read.val_main_v6 Cert.PoolBReferenceIdeal.Read.val_main_v5 Cert.PoolBReferenceIdeal.Read.val_main_cst Cert.PoolBReferenceIdeal.Read.val_main_v4 Cert.PoolBReferenceIdeal.Read.val_main_call0_call0_v0 Cert.PoolBReferenceIdeal.Read.val_main_call0_call0_cst Cert.PoolBReferenceIdeal.Read.val_main_v3 Cert.PoolBReferenceIdeal.Read.val_main_v0
  rfl

end Cert.PoolBIdeal.Value

end
-- ==== Proof.PoolIn.lean ====
module

public import proofs.«01_k».proof.Proof.PoolHost
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise
public import Idealize.ShloMosaic.Lib.StableHlo.RunRead

@[expose] public section

set_option maxRecDepth 16384

noncomputable section

namespace Cert.PoolBIdeal.Value

open Cert.PoolBIdeal Cert.PoolBIdeal.Gen Idealize.ShloMosaic Idealize.ShloMosaic.TcCoe Idealize.SL.Sem

variable (m : (ℓ : Loc nD τ sig) → Buf (Elt Ideal) ℓ) (ρ : Dev nD → PrngReg)

theorem idx : ∀ t : Fin cfg0.N, win0_0.index t = ![7 - t.val, 0] ∧ win0_1.index t = ![0, 0] ∧ win0_2.index t = ![7 - t.val, 0] ∧ win0_3.index t = ![0, 0, 0]
    ∧ win0_4.index t = ![0, 0] ∧ win0_5.index t = ![7 - t.val, 4] ∧ t.val < 8 :=
  (by decide +kernel : ∀ t : Fin grid0.N, _)

/-- A window's block of given arrays. -/
def blkOf (c : Dev nD) (A : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (A (Pipeline.arrRef spec0 w))

theorem blkOf_0 (c : Dev nD) (A : (b : Ref sig .tc) → Buf (Elt Ideal) ((c : Thread nD τ).loc b)) (t : Fin cfg0.N) (i : Fin 512) (hl : (7 - t.val) * 512 + i.val < 4096) (k : Fin 1024) :
    blkOf c A 0 t (ix2 i k) = A main_v72 (ix2 ⟨(7 - t.val) * 512 + i.val, hl⟩ k) := by
  blk_point [blkOf, idx t]

theorem blkOf_1 (c : Dev nD) (A : (b : Ref sig .tc) → Buf (Elt Ideal) ((c : Thread nD τ).loc b)) (t : Fin cfg0.N) (i k : Fin 1024) :
    blkOf c A 1 t (ix2 i k) = A main_v74 (ix2 i k) := by
  blk_point [blkOf, idx t]

theorem blkOf_2 (c : Dev nD) (A : (b : Ref sig .tc) → Buf (Elt Ideal) ((c : Thread nD τ).loc b)) (t : Fin cfg0.N) (i : Fin 512) (hl : (7 - t.val) * 512 + i.val < 4096) (k : Fin 512) :
    blkOf c A 2 t (ix2 i k) = A main_v70 (ix2 ⟨(7 - t.val) * 512 + i.val, hl⟩ k) := by
  blk_point [blkOf, idx t]

theorem blkOf_3 (c : Dev nD) (A : (b : Ref sig .tc) → Buf (Elt Ideal) ((c : Thread nD τ).loc b)) (t : Fin cfg0.N) (h : Fin 4) (k j : Fin 128) :
    blkOf c A 3 t (ix3 h k j) = A main_v75 (ix3 h k j) := by
  blk_point [blkOf, idx t]

theorem blkOf_4 (c : Dev nD) (A : (b : Ref sig .tc) → Buf (Elt Ideal) ((c : Thread nD τ).loc b)) (t : Fin cfg0.N) (j : Fin 512) :
    blkOf c A 4 t (ix2 0 j) = A main_arg2 (ix2 0 j) := by
  blk_point [blkOf, idx t]

theorem host_0 (a : FVec Ideal S1x4096x1024 .f32) (i : Fin 4096) (k : Fin 1024) :
    (truncf (F := Ideal) .bf16 (shapeCast _ a shapeCasts_S1x4096x1024_S4096x1024) bitsLt_bf16_f32) (ix2 i k) = a (ix3 0 i k) := by
  pointwise []

theorem host_1 (a : FVec Ideal S1x1024x1024 .f32) (i k : Fin 1024) :
    (truncf (F := Ideal) .bf16 (shapeCast _ a shapeCasts_S1x1024x1024_S1024x1024) bitsLt_bf16_f32) (ix2 i k) = a (ix3 0 i k) := by
  pointwise []

theorem host_2 (a : FVec Ideal S1x4096x4x128 .f32) (i : Fin 4096) (h : Fin 4) (k : Fin 128) :
    (truncf (F := Ideal) .bf16 (shapeCast _ a shapeCasts_S1x4096x4x128_S4096x512) bitsLt_bf16_f32) (ix2 i (c5 h k)) = a (ix4 0 i h k) := by
  unfold c5 cl
  pointwise []

theorem host_3 (a : FVec Ideal S1x4x128x128 .f32) (h : Fin 4) (k j : Fin 128) :
    (shapeCast S4x128x128 a shapeCasts_S1x4x128x128_S4x128x128) (ix3 h k j) = a (ix4 0 h k j) := by
  pointwise []

theorem blk_0 (c : Dev nD) (t : Fin cfg0.N) (i : Fin 512) (hl : (7 - t.val) * 512 + i.val < 4096) (k : Fin 1024) :
    iblk m c 0 t (ix2 i k) = m ((c : Thread nD τ).loc main_arg4) (ix3 0 ⟨(7 - t.val) * 512 + i.val, hl⟩ k) :=
  (blkOf_0 c (V m c) t i hl k).trans ((congrFun (in_0 m c) _).trans (host_0 _ _ _))

theorem blk_1 (c : Dev nD) (t : Fin cfg0.N) (i k : Fin 1024) :
    iblk m c 1 t (ix2 i k) = m ((c : Thread nD τ).loc main_arg3) (ix3 0 i k) :=
  (blkOf_1 c (V m c) t i k).trans ((congrFun (in_1 m c) _).trans (host_1 _ _ _))

theorem blk_2 (c : Dev nD) (t : Fin cfg0.N) (i : Fin 512) (hl : (7 - t.val) * 512 + i.val < 4096) (h : Fin 4) (k : Fin 128) :
    iblk m c 2 t (ix2 i (c5 h k)) = Cert.PoolBReferenceIdeal.Read.val_main_v71 (F := Ideal) (m ((c : Thread nD τ).loc main_arg0)) (ix4 0 ⟨(7 - t.val) * 512 + i.val, hl⟩ h k) :=
  (blkOf_2 c (V m c) t i hl (c5 h k)).trans ((congrFun (in_2 m c) _).trans (host_2 _ _ _ _))

theorem blk_3 (c : Dev nD) (t : Fin cfg0.N) (h : Fin 4) (k j : Fin 128) :
    iblk m c 3 t (ix3 h k j) = m ((c : Thread nD τ).loc main_arg1) (ix4 0 h k j) :=
  (blkOf_3 c (V m c) t h k j).trans ((congrFun (in_3 m c) _).trans (host_3 _ _ _ _))

theorem blk_4 (c : Dev nD) (t : Fin cfg0.N) (j : Fin 512) :
    iblk m c 4 t (ix2 0 j) = m ((c : Thread nD τ).loc main_arg2) (ix2 0 j) :=
  (blkOf_4 c (V m c) t j).trans (congrFun (V_main_arg2 m c) _)

end Cert.PoolBIdeal.Value

end
-- ==== Proof.PoolRun.lean ====
/- What one tile of the pooling gradient leaves in its results and in the rows carried on. -/
module

public import proofs.«01_k».proof.Proof.PoolParts
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolBIdeal.Value

open Cert.PoolBIdeal Cert.PoolBIdeal.Gen Idealize.ShloMosaic Idealize.ShloMosaic.TcCoe Idealize.SL.Sem

variable (m : (ℓ : Loc nD τ sig) → Buf (Elt Ideal) ℓ) (ρ : Dev nD → PrngReg)

theorem pay1_at (y : S8x1024.Idx) : k0_pay1 (F := Ideal) y = 0 := by pointwise [k0_pay1]

theorem pay3_at (y : S4x128x128.Idx) : k0_pay3 (F := Ideal) y = 0 := by pointwise [k0_pay3]

theorem pay4_at (y : S16x512.Idx) : k0_pay4 (F := Ideal) y = 0 := by pointwise [k0_pay4]

theorem pay5_at (x : FVec Ideal S16x512 .f32) (y : S16x512.Idx) : k0_pay5 (F := Ideal) x y = x y := by pointwise [k0_pay5]

theorem grp (h : Fin 4) : (h : Nat) = 0 ∨ (h : Nat) = 1 ∨ (h : Nat) = 2 ∨ (h : Nat) = 3 := by omega

/-- A group's pooling width. -/
def wd (h : Fin 4) : BitVec 32 := BitVec.ofNat 32 (2 ^ ((h : Nat) + 1))

theorem wd_of {h : Fin 4} {w : BitVec 32} (e : BitVec.ofNat 32 (2 ^ ((h : Nat) + 1)) = w) : wd h = w := e

theorem canon_all3 {Val : EltTy → Type} {e : EltTy} [∀ e, Nonempty (Val e)] {inb : ∀ x, (![0, 0, 0] : Fin 3 → Nat) x + (![4, 128, 128] : Fin 3 → Nat) x ≤ S4x128x128.size x}
    {w : S4x128x128.Idx → Val e} {L : List (View.Piece Val S4x128x128 e)} {y : S4x128x128.Idx} :
    View.canon (s := S4x128x128) (⟨Rect.unit ![0, 0, 0] ![4, 128, 128] inb, w⟩ :: L) y = w y := by
  have h0 : (y 0 : Nat) < 4 := (y 0).isLt
  have h1 : (y 1 : Nat) < 128 := (y 1).isLt
  have h2 : (y 2 : Nat) < 128 := (y 2).isLt
  rw [Common.canon_top (S := S4x128x128) ![0, 0, 0] ![4, 128, 128], dif_pos (fun x => by match x with
    | ⟨0, _⟩ => exact ⟨Nat.zero_le _, by show (y 0 : Nat) < 0 + 4; omega⟩
    | ⟨1, _⟩ => exact ⟨Nat.zero_le _, by show (y 1 : Nat) < 0 + 128; omega⟩
    | ⟨2, _⟩ => exact ⟨Nat.zero_le _, by show (y 2 : Nat) < 0 + 128; omega⟩)]
  congr 1
  funext x
  apply Fin.ext
  match x with
  | ⟨0, _⟩ => rfl
  | ⟨1, _⟩ => rfl
  | ⟨2, _⟩ => rfl

theorem slot_A (c : Dev nD) (t : Fin cfg0.N) (ht : t.val % 8 = 0) (ht' : ¬ 1 ≤ t.val) (h : Fin 4) (k : Fin 128) :
    (outsAt0 m c t.val t.isLt).2.2.1 (ix2 0 (c10 h k)) = (0 : EReal) + SG (iblk m c 0 t) (iblk m c 1 t) (iblk m c 2 t) (iblk m c 3 t) h k := by
  rw [outsAt0_A m c t ht ht ht']
  frame_out
  rcases grp h with hq | hq | hq | hq
  · refine (canon_out (by rw [cl_val]; omega)).trans ?_
    refine (canon_out (by rw [cl_val]; omega)).trans ?_
    refine (canon_out (by rw [cl_val]; omega)).trans ?_
    refine (canon_in 0 k (by rfl) (by rw [cl_val]; omega)).trans ?_
    refine (pay13_at _ _ _ _ k).trans ?_
    rw [sg_eq _ _ _ _ h 0 0 (by omega) hq]
    refine congrArg (fun z : EReal => z + _) ?_
    refine (cov_at (A := 8) (B := 1024) 0 (c10 h k) (by rfl) (by rw [cl_val]; omega)).trans ?_
    refine (canon_in 0 (c10 h k) (by rfl) (by omega)).trans ?_
    exact pay1_at _
  · refine (canon_out (by rw [cl_val]; omega)).trans ?_
    refine (canon_out (by rw [cl_val]; omega)).trans ?_
    refine (canon_in 0 k (by rfl) (by rw [cl_val]; omega)).trans ?_
    refine (pay19_at _ _ _ _ k).trans ?_
    rw [sg_eq _ _ _ _ h 128 1 (by omega) hq]
    refine congrArg (fun z : EReal => z + _) ?_
    refine (cov_at (A := 8) (B := 1024) 0 (c10 h k) (by rfl) (by rw [cl_val]; omega)).trans ?_
    refine (canon_out (by rw [cl_val]; omega)).trans ?_
    refine (canon_in 0 (c10 h k) (by rfl) (by omega)).trans ?_
    exact pay1_at _
  · refine (canon_out (by rw [cl_val]; omega)).trans ?_
    refine (canon_in 0 k (by rfl) (by rw [cl_val]; omega)).trans ?_
    refine (pay26_at _ _ _ _ k).trans ?_
    rw [sg_eq _ _ _ _ h 256 2 (by omega) hq]
    refine congrArg (fun z : EReal => z + _) ?_
    refine (cov_at (A := 8) (B := 1024) 0 (c10 h k) (by rfl) (by rw [cl_val]; omega)).trans ?_
    refine (canon_out (by rw [cl_val]; omega)).trans ?_
    refine (canon_out (by rw [cl_val]; omega)).trans ?_
    refine (canon_in 0 (c10 h k) (by rfl) (by omega)).trans ?_
    exact pay1_at _
  · refine (canon_in 0 k (by rfl) (by rw [cl_val]; omega)).trans ?_
    refine (pay34_at _ _ _ _ k).trans ?_
    rw [sg_eq _ _ _ _ h 384 3 (by omega) hq]
    refine congrArg (fun z : EReal => z + _) ?_
    refine (cov_at (A := 8) (B := 1024) 0 (c10 h k) (by rfl) (by rw [cl_val]; omega)).trans ?_
    refine (canon_out (by rw [cl_val]; omega)).trans ?_
    refine (canon_out (by rw [cl_val]; omega)).trans ?_
    refine (canon_out (by rw [cl_val]; omega)).trans ?_
    refine (canon_in 0 (c10 h k) (by rfl) (by omega)).trans ?_
    exact pay1_at _

theorem slot_B (c : Dev nD) (t : Fin cfg0.N) (ht : ¬ t.val % 8 = 0) (ht' : 1 ≤ t.val) (h : Fin 4) (k : Fin 128) :
    (outsAt0 m c t.val t.isLt).2.2.1 (ix2 0 (c10 h k)) = (outsAt0 m c (t.val - 1) (Nat.lt_of_le_of_lt (Nat.sub_le _ _) t.isLt)).2.2.1 (ix2 0 (c10 h k)) + SG (iblk m c 0 t) (iblk m c 1 t) (iblk m c 2 t) (iblk m c 3 t) h k := by
  rw [outsAt0_B m c t ht ht ht']
  frame_out
  rcases grp h with hq | hq | hq | hq
  · refine (writes_out (by rw [cl_val]; omega)).trans ?_
    refine (writes_out (by rw [cl_val]; omega)).trans ?_
    refine (writes_out (by rw [cl_val]; omega)).trans ?_
    refine (writes_in 0 k (by rfl) (by rw [cl_val]; omega)).trans ?_
    refine (pay13_at _ _ _ _ k).trans ?_
    rw [ld_at (A := 8) (B := 1024) 0 (c10 h k) (by rfl) (by rw [cl_val]; omega), sg_eq _ _ _ _ h 0 0 (by omega) hq]
  · refine (writes_out (by rw [cl_val]; omega)).trans ?_
    refine (writes_out (by rw [cl_val]; omega)).trans ?_
    refine (writes_in 0 k (by rfl) (by rw [cl_val]; omega)).trans ?_
    refine (pay19_at _ _ _ _ k).trans ?_
    rw [ld_at (A := 8) (B := 1024) 0 (c10 h k) (by rfl) (by rw [cl_val]; omega), sg_eq _ _ _ _ h 128 1 (by omega) hq]
  · refine (writes_out (by rw [cl_val]; omega)).trans ?_
    refine (writes_in 0 k (by rfl) (by rw [cl_val]; omega)).trans ?_
    refine (pay26_at _ _ _ _ k).trans ?_
    rw [ld_at (A := 8) (B := 1024) 0 (c10 h k) (by rfl) (by rw [cl_val]; omega), sg_eq _ _ _ _ h 256 2 (by omega) hq]
  · refine (writes_in 0 k (by rfl) (by rw [cl_val]; omega)).trans ?_
    refine (pay34_at _ _ _ _ k).trans ?_
    rw [ld_at (A := 8) (B := 1024) 0 (c10 h k) (by rfl) (by rw [cl_val]; omega), sg_eq _ _ _ _ h 384 3 (by omega) hq]

theorem slot_A_off (c : Dev nD) (t : Fin cfg0.N) (ht : t.val % 8 = 0) (ht' : ¬ 1 ≤ t.val) (i : Fin 8) (j : Fin 1024) (hij : ¬ ((i : Nat) < 1 ∧ (j : Nat) < 512)) :
    (outsAt0 m c t.val t.isLt).2.2.1 (ix2 i j) = (0 : EReal) := by
  rw [outsAt0_A m c t ht ht ht']
  frame_out
  refine (canon_out (by omega)).trans ?_
  refine (canon_out (by omega)).trans ?_
  refine (canon_out (by omega)).trans ?_
  refine (canon_out (by omega)).trans ?_
  refine (canon_in i j (by omega) (by omega)).trans ?_
  exact pay1_at _

theorem slot_B_off (c : Dev nD) (t : Fin cfg0.N) (ht : ¬ t.val % 8 = 0) (ht' : 1 ≤ t.val) (i : Fin 8) (j : Fin 1024) (hij : ¬ ((i : Nat) < 1 ∧ (j : Nat) < 512)) :
    (outsAt0 m c t.val t.isLt).2.2.1 (ix2 i j) = (outsAt0 m c (t.val - 1) (Nat.lt_of_le_of_lt (Nat.sub_le _ _) t.isLt)).2.2.1 (ix2 i j) := by
  rw [outsAt0_B m c t ht ht ht']
  frame_out
  refine (writes_out (by omega)).trans ?_
  refine (writes_out (by omega)).trans ?_
  refine (writes_out (by omega)).trans ?_
  refine (writes_out (by omega)).trans ?_
  rw [View.writes_nil, Memref.IsWhole.read_unread]

theorem dw_A (c : Dev nD) (t : Fin cfg0.N) (ht : t.val % 8 = 0) (ht' : ¬ 1 ≤ t.val) (h : Fin 4) (k j : Fin 128) :
    (outsAt0 m c t.val t.isLt).2.1 (ix3 h k j) = (0 : EReal) + WG (iblk m c 0 t) (iblk m c 1 t) (iblk m c 2 t) (iblk m c 4 t) h k j := by
  rw [outsAt0_A m c t ht ht ht']
  frame_out
  rcases grp h with hq | hq | hq | hq
  · refine (canon_out3 (by omega)).trans ?_
    refine (canon_out3 (by omega)).trans ?_
    refine (canon_out3 (by omega)).trans ?_
    refine (canon_in3 (by omega)).trans ?_
    refine (pay15_at _ _ _ _ k j).trans ?_
    rw [wg_eq _ _ _ _ h 0 (by omega)]
    refine congrArg (fun z : EReal => z + _) ?_
    refine (cov_at3 hq).trans ?_
    refine (canon_all3).trans ?_
    exact pay3_at _
  · refine (canon_out3 (by omega)).trans ?_
    refine (canon_out3 (by omega)).trans ?_
    refine (canon_in3 (by omega)).trans ?_
    refine (pay22_at _ _ _ _ k j).trans ?_
    rw [wg_eq _ _ _ _ h 128 (by omega)]
    refine congrArg (fun z : EReal => z + _) ?_
    refine (cov_at3 hq).trans ?_
    refine (canon_out3 (by omega)).trans ?_
    refine (canon_all3).trans ?_
    exact pay3_at _
  · refine (canon_out3 (by omega)).trans ?_
    refine (canon_in3 (by omega)).trans ?_
    refine (pay28_at _ _ _ _ k j).trans ?_
    rw [wg_eq _ _ _ _ h 256 (by omega)]
    refine congrArg (fun z : EReal => z + _) ?_
    refine (cov_at3 hq).trans ?_
    refine (canon_out3 (by omega)).trans ?_
    refine (canon_out3 (by omega)).trans ?_
    refine (canon_all3).trans ?_
    exact pay3_at _
  · refine (canon_in3 (by omega)).trans ?_
    refine (pay36_at _ _ _ _ k j).trans ?_
    rw [wg_eq _ _ _ _ h 384 (by omega)]
    refine congrArg (fun z : EReal => z + _) ?_
    refine (cov_at3 hq).trans ?_
    refine (canon_out3 (by omega)).trans ?_
    refine (canon_out3 (by omega)).trans ?_
    refine (canon_out3 (by omega)).trans ?_
    refine (canon_all3).trans ?_
    exact pay3_at _

theorem dw_B (c : Dev nD) (t : Fin cfg0.N) (ht : ¬ t.val % 8 = 0) (ht' : 1 ≤ t.val) (h : Fin 4) (k j : Fin 128) :
    (outsAt0 m c t.val t.isLt).2.1 (ix3 h k j) = (outsAt0 m c (t.val - 1) (Nat.lt_of_le_of_lt (Nat.sub_le _ _) t.isLt)).2.1 (ix3 h k j) + WG (iblk m c 0 t) (iblk m c 1 t) (iblk m c 2 t) (iblk m c 4 t) h k j := by
  rw [outsAt0_B m c t ht ht ht']
  frame_out
  rcases grp h with hq | hq | hq | hq
  · refine (canon_out3 (by omega)).trans ?_
    refine (canon_out3 (by omega)).trans ?_
    refine (canon_out3 (by omega)).trans ?_
    refine (canon_in3 (by omega)).trans ?_
    refine (pay15_at _ _ _ _ k j).trans ?_
    rw [ld_at3 hq, wg_eq _ _ _ _ h 0 (by omega)]
  · refine (canon_out3 (by omega)).trans ?_
    refine (canon_out3 (by omega)).trans ?_
    refine (canon_in3 (by omega)).trans ?_
    refine (pay22_at _ _ _ _ k j).trans ?_
    rw [ld_at3 hq, wg_eq _ _ _ _ h 128 (by omega)]
  · refine (canon_out3 (by omega)).trans ?_
    refine (canon_in3 (by omega)).trans ?_
    refine (pay28_at _ _ _ _ k j).trans ?_
    rw [ld_at3 hq, wg_eq _ _ _ _ h 256 (by omega)]
  · refine (canon_in3 (by omega)).trans ?_
    refine (pay36_at _ _ _ _ k j).trans ?_
    rw [ld_at3 hq, wg_eq _ _ _ _ h 384 (by omega)]

theorem ext_A (c : Dev nD) (t : Fin cfg0.N) (ht : t.val % 8 = 0) (ht' : ¬ 1 ≤ t.val) (h : Fin 4) (i : Fin 512) (k : Fin 128) :
    (outsAt0 m c t.val t.isLt).2.2.2 (ix2 ⟨i, by omega⟩ (c5 h k)) = DPO (iblk m c 0 t) (iblk m c 1 t) (iblk m c 4 t) (iblk m c 3 t) h i k * inv (wd h) (pos (grid0.coords t) i) := by
  rw [outsAt0_A m c t ht ht ht']
  frame_out
  rcases grp h with hq | hq | hq | hq
  · rw [wd_of (w := 2#32) (by rw [hq]; rfl)]
    refine (canon_out (by rw [cl_val]; omega)).trans ?_
    refine (canon_out (by rw [cl_val]; omega)).trans ?_
    refine (canon_out (by rw [cl_val]; omega)).trans ?_
    refine (canon_in i k (by show (i : Nat) = 0 + i; omega) (by rw [cl_val]; omega)).trans ?_
    refine (pay17_at _ _ _ _ i k).trans ?_
    rw [pay7_at, dpo_eq _ _ _ _ h 0 0 (by omega) hq]
  · rw [wd_of (w := 4#32) (by rw [hq]; rfl)]
    refine (canon_out (by rw [cl_val]; omega)).trans ?_
    refine (canon_out (by rw [cl_val]; omega)).trans ?_
    refine (canon_in i k (by show (i : Nat) = 0 + i; omega) (by rw [cl_val]; omega)).trans ?_
    refine (pay24_at _ _ _ _ i k).trans ?_
    rw [pay9_at, dpo_eq _ _ _ _ h 128 1 (by omega) hq]
  · rw [wd_of (w := 8#32) (by rw [hq]; rfl)]
    refine (canon_out (by rw [cl_val]; omega)).trans ?_
    refine (canon_in i k (by show (i : Nat) = 0 + i; omega) (by rw [cl_val]; omega)).trans ?_
    refine (pay30_at _ _ _ _ i k).trans ?_
    rw [pay10_at, dpo_eq _ _ _ _ h 256 2 (by omega) hq]
  · rw [wd_of (w := 16#32) (by rw [hq]; rfl)]
    refine (canon_in i k (by show (i : Nat) = 0 + i; omega) (by rw [cl_val]; omega)).trans ?_
    refine (pay38_at _ _ _ _ i k).trans ?_
    rw [pay11_at, dpo_eq _ _ _ _ h 384 3 (by omega) hq]

theorem ext_B (c : Dev nD) (t : Fin cfg0.N) (ht : ¬ t.val % 8 = 0) (ht' : 1 ≤ t.val) (h : Fin 4) (i : Fin 512) (k : Fin 128) :
    (outsAt0 m c t.val t.isLt).2.2.2 (ix2 ⟨i, by omega⟩ (c5 h k)) = DPO (iblk m c 0 t) (iblk m c 1 t) (iblk m c 4 t) (iblk m c 3 t) h i k * inv (wd h) (pos (grid0.coords t) i) := by
  rw [outsAt0_B m c t ht ht ht']
  frame_out
  rcases grp h with hq | hq | hq | hq
  · rw [wd_of (w := 2#32) (by rw [hq]; rfl)]
    refine (canon_out (by rw [cl_val]; omega)).trans ?_
    refine (canon_out (by rw [cl_val]; omega)).trans ?_
    refine (canon_out (by rw [cl_val]; omega)).trans ?_
    refine (canon_in i k (by show (i : Nat) = 0 + i; omega) (by rw [cl_val]; omega)).trans ?_
    refine (pay17_at _ _ _ _ i k).trans ?_
    rw [pay7_at, dpo_eq _ _ _ _ h 0 0 (by omega) hq]
  · rw [wd_of (w := 4#32) (by rw [hq]; rfl)]
    refine (canon_out (by rw [cl_val]; omega)).trans ?_
    refine (canon_out (by rw [cl_val]; omega)).trans ?_
    refine (canon_in i k (by show (i : Nat) = 0 + i; omega) (by rw [cl_val]; omega)).trans ?_
    refine (pay24_at _ _ _ _ i k).trans ?_
    rw [pay9_at, dpo_eq _ _ _ _ h 128 1 (by omega) hq]
  · rw [wd_of (w := 8#32) (by rw [hq]; rfl)]
    refine (canon_out (by rw [cl_val]; omega)).trans ?_
    refine (canon_in i k (by show (i : Nat) = 0 + i; omega) (by rw [cl_val]; omega)).trans ?_
    refine (pay30_at _ _ _ _ i k).trans ?_
    rw [pay10_at, dpo_eq _ _ _ _ h 256 2 (by omega) hq]
  · rw [wd_of (w := 16#32) (by rw [hq]; rfl)]
    refine (canon_in i k (by show (i : Nat) = 0 + i; omega) (by rw [cl_val]; omega)).trans ?_
    refine (pay38_at _ _ _ _ i k).trans ?_
    rw [pay11_at, dpo_eq _ _ _ _ h 384 3 (by omega) hq]

theorem halo_A (c : Dev nD) (t : Fin cfg0.N) (ht : t.val % 8 = 0) (ht' : ¬ 1 ≤ t.val) (r : Fin 16) (j : Fin 512) :
    (outsAt0 m c t.val t.isLt).2.2.2 (ix2 ⟨512 + r, by omega⟩ j) = (0 : EReal) := by
  rw [outsAt0_A m c t ht ht ht']
  frame_out
  refine (canon_out (by show ¬ (_ ≤ 512 + (r : Nat) ∧ 512 + (r : Nat) < _ ∧ _); omega)).trans ?_
  refine (canon_out (by show ¬ (_ ≤ 512 + (r : Nat) ∧ 512 + (r : Nat) < _ ∧ _); omega)).trans ?_
  refine (canon_out (by show ¬ (_ ≤ 512 + (r : Nat) ∧ 512 + (r : Nat) < _ ∧ _); omega)).trans ?_
  refine (canon_out (by show ¬ (_ ≤ 512 + (r : Nat) ∧ 512 + (r : Nat) < _ ∧ _); omega)).trans ?_
  refine (canon_in r j (by rfl) (by omega)).trans ?_
  exact pay4_at _

theorem halo_B (c : Dev nD) (t : Fin cfg0.N) (ht : ¬ t.val % 8 = 0) (ht' : 1 ≤ t.val) (r : Fin 16) (j : Fin 512) :
    (outsAt0 m c t.val t.isLt).2.2.2 (ix2 ⟨512 + r, by omega⟩ j) = (outsAt0 m c (t.val - 1) (Nat.lt_of_le_of_lt (Nat.sub_le _ _) t.isLt)).2.2.2 (ix2 ⟨r, by omega⟩ j) := by
  rw [outsAt0_B m c t ht ht ht']
  frame_out
  refine (canon_out (by show ¬ (_ ≤ 512 + (r : Nat) ∧ 512 + (r : Nat) < _ ∧ _); omega)).trans ?_
  refine (canon_out (by show ¬ (_ ≤ 512 + (r : Nat) ∧ 512 + (r : Nat) < _ ∧ _); omega)).trans ?_
  refine (canon_out (by show ¬ (_ ≤ 512 + (r : Nat) ∧ 512 + (r : Nat) < _ ∧ _); omega)).trans ?_
  refine (canon_out (by show ¬ (_ ≤ 512 + (r : Nat) ∧ 512 + (r : Nat) < _ ∧ _); omega)).trans ?_
  refine (canon_in r j (by rfl) (by omega)).trans ?_
  refine (pay5_at _ _).trans ?_
  refine (ld_at (A := 528) (B := 512) ⟨r, by omega⟩ j (by show (r : Nat) = 0 + r; omega) (by omega)).trans ?_
  exact congrFun (Memref.IsWhole.read_unread _ _) _

end Cert.PoolBIdeal.Value
-- ==== Proof.PoolDz.lean ====
/- What one tile of the pooling gradient leaves in its block of the input's gradient. -/
module

public import proofs.«01_k».proof.Proof.PoolRun
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolBIdeal.Value

open Cert.PoolBIdeal Cert.PoolBIdeal.Gen Idealize.ShloMosaic Idealize.ShloMosaic.TcCoe Idealize.SL.Sem

variable (m : (ℓ : Loc nD τ sig) → Buf (Elt Ideal) ℓ) (ρ : Dev nD → PrngReg)

theorem dz_A (c : Dev nD) (t : Fin cfg0.N) (ht : t.val % 8 = 0) (ht' : ¬ 1 ≤ t.val) (h : Fin 4) (i : Fin 512) (k : Fin 128) :
    (outsAt0 m c t.val t.isLt).1 (ix2 i (c5 h k))
      = (∑ d ∈ Finset.range (2 ^ ((h : Nat) + 1)), (outsAt0 m c t.val t.isLt).2.2.2 (ix2 ⟨(i + d) % 528, Nat.mod_lt _ (by decide)⟩ (c5 h k)))
        - DPO (iblk m c 0 t) (iblk m c 1 t) (iblk m c 4 t) (iblk m c 3 t) h i k := by
  rw [outsAt0_A m c t ht ht ht']
  frame_out
  rcases grp h with hq | hq | hq | hq
  · rw [show 2 ^ ((h : Nat) + 1) = 2 by rw [hq]; rfl]
    simp only [Finset.sum_range_succ, Finset.sum_range_zero, zero_add]
    refine (canon_out (by rw [cl_val]; omega)).trans ?_
    refine (canon_out (by rw [cl_val]; omega)).trans ?_
    refine (canon_out (by rw [cl_val]; omega)).trans ?_
    refine (canon_in i k (by show (i : Nat) = 0 + i; omega) (by rw [cl_val]; omega)).trans ?_
    refine (pay39_at _ _ _ _).trans ?_
    refine congrArg₂ (fun a b : EReal => a - b) ?_ ((pay16_at _ _ _ i k).trans (dpo_eq _ _ _ _ h 0 0 (by omega) hq _ _ _ _ _ i k))
    iterate 1 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [show 2 ^ ((h : Nat) + 1) = 4 by rw [hq]; rfl]
    simp only [Finset.sum_range_succ, Finset.sum_range_zero, zero_add]
    refine (canon_out (by rw [cl_val]; omega)).trans ?_
    refine (canon_out (by rw [cl_val]; omega)).trans ?_
    refine (canon_in i k (by show (i : Nat) = 0 + i; omega) (by rw [cl_val]; omega)).trans ?_
    refine (pay40_at _ _ _ _ _ _).trans ?_
    refine congrArg₂ (fun a b : EReal => a - b) ?_ ((pay23_at _ _ _ i k).trans (dpo_eq _ _ _ _ h 128 1 (by omega) hq _ _ _ _ _ i k))
    iterate 3 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [show 2 ^ ((h : Nat) + 1) = 8 by rw [hq]; rfl]
    simp only [Finset.sum_range_succ, Finset.sum_range_zero, zero_add]
    refine (canon_out (by rw [cl_val]; omega)).trans ?_
    refine (canon_in i k (by show (i : Nat) = 0 + i; omega) (by rw [cl_val]; omega)).trans ?_
    refine (pay41_at _ _ _ _ _ _ _ _ _ _).trans ?_
    refine congrArg₂ (fun a b : EReal => a - b) ?_ ((pay29_at _ _ _ i k).trans (dpo_eq _ _ _ _ h 256 2 (by omega) hq _ _ _ _ _ i k))
    iterate 7 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [show 2 ^ ((h : Nat) + 1) = 16 by rw [hq]; rfl]
    simp only [Finset.sum_range_succ, Finset.sum_range_zero, zero_add]
    refine (canon_in i k (by show (i : Nat) = 0 + i; omega) (by rw [cl_val]; omega)).trans ?_
    refine (pay43_at _ _ _ _ _ _ _ _ _ _ _ _ _ _ _ _ _ _).trans ?_
    refine congrArg₂ (fun a b : EReal => a - b) ?_ ((pay37_at _ _ _ i k).trans (dpo_eq _ _ _ _ h 384 3 (by omega) hq _ _ _ _ _ i k))
    iterate 15 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)

theorem dz_B (c : Dev nD) (t : Fin cfg0.N) (ht : ¬ t.val % 8 = 0) (ht' : 1 ≤ t.val) (h : Fin 4) (i : Fin 512) (k : Fin 128) :
    (outsAt0 m c t.val t.isLt).1 (ix2 i (c5 h k))
      = (∑ d ∈ Finset.range (2 ^ ((h : Nat) + 1)), (outsAt0 m c t.val t.isLt).2.2.2 (ix2 ⟨(i + d) % 528, Nat.mod_lt _ (by decide)⟩ (c5 h k)))
        - DPO (iblk m c 0 t) (iblk m c 1 t) (iblk m c 4 t) (iblk m c 3 t) h i k := by
  rw [outsAt0_B m c t ht ht ht']
  frame_out
  rcases grp h with hq | hq | hq | hq
  · rw [show 2 ^ ((h : Nat) + 1) = 2 by rw [hq]; rfl]
    simp only [Finset.sum_range_succ, Finset.sum_range_zero, zero_add]
    refine (canon_out (by rw [cl_val]; omega)).trans ?_
    refine (canon_out (by rw [cl_val]; omega)).trans ?_
    refine (canon_out (by rw [cl_val]; omega)).trans ?_
    refine (canon_in i k (by show (i : Nat) = 0 + i; omega) (by rw [cl_val]; omega)).trans ?_
    refine (pay39_at _ _ _ _).trans ?_
    refine congrArg₂ (fun a b : EReal => a - b) ?_ ((pay16_at _ _ _ i k).trans (dpo_eq _ _ _ _ h 0 0 (by omega) hq _ _ _ _ _ i k))
    iterate 1 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [show 2 ^ ((h : Nat) + 1) = 4 by rw [hq]; rfl]
    simp only [Finset.sum_range_succ, Finset.sum_range_zero, zero_add]
    refine (canon_out (by rw [cl_val]; omega)).trans ?_
    refine (canon_out (by rw [cl_val]; omega)).trans ?_
    refine (canon_in i k (by show (i : Nat) = 0 + i; omega) (by rw [cl_val]; omega)).trans ?_
    refine (pay40_at _ _ _ _ _ _).trans ?_
    refine congrArg₂ (fun a b : EReal => a - b) ?_ ((pay23_at _ _ _ i k).trans (dpo_eq _ _ _ _ h 128 1 (by omega) hq _ _ _ _ _ i k))
    iterate 3 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [show 2 ^ ((h : Nat) + 1) = 8 by rw [hq]; rfl]
    simp only [Finset.sum_range_succ, Finset.sum_range_zero, zero_add]
    refine (canon_out (by rw [cl_val]; omega)).trans ?_
    refine (canon_in i k (by show (i : Nat) = 0 + i; omega) (by rw [cl_val]; omega)).trans ?_
    refine (pay41_at _ _ _ _ _ _ _ _ _ _).trans ?_
    refine congrArg₂ (fun a b : EReal => a - b) ?_ ((pay29_at _ _ _ i k).trans (dpo_eq _ _ _ _ h 256 2 (by omega) hq _ _ _ _ _ i k))
    iterate 7 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [show 2 ^ ((h : Nat) + 1) = 16 by rw [hq]; rfl]
    simp only [Finset.sum_range_succ, Finset.sum_range_zero, zero_add]
    refine (canon_in i k (by show (i : Nat) = 0 + i; omega) (by rw [cl_val]; omega)).trans ?_
    refine (pay43_at _ _ _ _ _ _ _ _ _ _ _ _ _ _ _ _ _ _).trans ?_
    refine congrArg₂ (fun a b : EReal => a - b) ?_ ((pay37_at _ _ _ i k).trans (dpo_eq _ _ _ _ h 384 3 (by omega) hq _ _ _ _ _ i k))
    iterate 15 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)

end Cert.PoolBIdeal.Value
-- ==== Proof.PoolRef.lean ====
/- The reference pooling gradient, read entry by entry. -/
module

public import proofs.«01_k».proof.Proof.Common
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolRef

open Cert.PoolBReferenceIdeal Cert.PoolBReferenceIdeal.Gen Cert.PoolBReferenceIdeal.Read Idealize.ShloMosaic Idealize.ShloMosaic.TcCoe Idealize.SL.Sem

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The positions of a window along the second axis. -/
def along : (⟨4, ![1, 4096, 1, 1]⟩ : Shape).Idx ≃ Fin 4096 where
  toFun q := q 1
  invFun d := ix4 0 d 0 0
  left_inv q := by
    funext a
    apply Fin.ext
    match a with
    | ⟨0, _⟩ => show 0 = (q 0 : Nat); have h : (q 0 : Nat) < 1 := (q 0).isLt; omega
    | ⟨1, _⟩ => rfl
    | ⟨2, _⟩ => show 0 = (q 2 : Nat); have h : (q 2 : Nat) < 1 := (q 2).isLt; omega
    | ⟨3, _⟩ => show 0 = (q 3 : Nat); have h : (q 3 : Nat) < 1 := (q 3).isLt; omega
  right_inv d := rfl

/-- One position of a window that runs along the second axis. -/
theorem tail_at (x : S1x4096x4x128.Idx → EReal) (t : Fin 4096) (g : Fin 4) (c : Fin 128) (q : (⟨4, ![1, 4096, 1, 1]⟩ : Shape).Idx) :
    (if hin : ∀ a : Fin 4, ![0, 0, 0, 0] a ≤ ((ix4 (0 : Fin 1) t g c : S1x4096x4x128.Idx) a : Nat) * ![1, 1, 1, 1] a + (q a : Nat) ∧
        ((ix4 (0 : Fin 1) t g c : S1x4096x4x128.Idx) a : Nat) * ![1, 1, 1, 1] a + (q a : Nat) - ![0, 0, 0, 0] a < S1x4096x4x128.size a
      then x fun a => ⟨((ix4 (0 : Fin 1) t g c : S1x4096x4x128.Idx) a : Nat) * ![1, 1, 1, 1] a + (q a : Nat) - ![0, 0, 0, 0] a, (hin a).2⟩ else 0)
      = if hd : (t : Nat) + (q 1 : Fin 4096) < 4096 then x (ix4 0 ⟨t + (q 1 : Fin 4096), hd⟩ g c) else 0 := by
  have h0 : (q 0 : Nat) < 1 := (q 0).isLt
  have h2 : (q 2 : Nat) < 1 := (q 2).isLt
  have h3 : (q 3 : Nat) < 1 := (q 3).isLt
  by_cases hd : (t : Nat) + (q 1 : Fin 4096) < 4096
  · rw [dif_pos hd, dif_pos (fun a => by match a with
      | ⟨0, _⟩ => exact ⟨Nat.zero_le _, by show 0 * 1 + (q 0 : Nat) - 0 < 1; omega⟩
      | ⟨1, _⟩ => exact ⟨Nat.zero_le _, by show (t : Nat) * 1 + (q 1 : Fin 4096) - 0 < 4096; omega⟩
      | ⟨2, _⟩ => exact ⟨Nat.zero_le _, by show (g : Nat) * 1 + (q 2 : Nat) - 0 < 4; omega⟩
      | ⟨3, _⟩ => exact ⟨Nat.zero_le _, by show (c : Nat) * 1 + (q 3 : Nat) - 0 < 128; omega⟩)]
    congr 1
    funext a
    apply Fin.ext
    match a with
    | ⟨0, _⟩ => show 0 * 1 + (q 0 : Nat) - 0 = 0; omega
    | ⟨1, _⟩ => show (t : Nat) * 1 + (q 1 : Fin 4096) - 0 = t + (q 1 : Fin 4096); omega
    | ⟨2, _⟩ => show (g : Nat) * 1 + (q 2 : Nat) - 0 = g; omega
    | ⟨3, _⟩ => show (c : Nat) * 1 + (q 3 : Nat) - 0 = c; omega
  · rw [dif_neg hd, dif_neg (fun hh => hd (by
      have := (hh 1).2
      have h1 : (t : Nat) * 1 + (q 1 : Fin 4096) - 0 < 4096 := this
      omega))]

/-- The window sum that runs to the end of the second axis. -/
theorem tail_sum (h : S1x4096x4x128.ReduceWindows ![1, 4096, 1, 1] ![1, 1, 1, 1] ![0, 0, 0, 0] ![0, 4095, 0, 0] S1x4096x4x128)
    (x : S1x4096x4x128.Idx → EReal) (v : EReal) (hv : v = 0) (t : Fin 4096) (g : Fin 4) (c : Fin 128) :
    Ideal.hostReduceWindowAdd ![1, 4096, 1, 1] ![1, 1, 1, 1] ![0, 0, 0, 0] ![0, 4095, 0, 0] h x v (ix4 0 t g c)
      = ∑ d : Fin 4096, if hd : (t : Nat) + d < 4096 then x (ix4 0 ⟨t + d, hd⟩ g c) else 0 := by
  subst hv
  unfold Ideal.hostReduceWindowAdd Host.reduceWindow
  refine (foldl_add _ _ _).trans ?_
  rw [zero_add, ← Fin.sum_univ_def]
  refine Eq.trans (Fintype.sum_equiv ((Shape.rowMajor (⟨4, ![1, 4096, 1, 1]⟩ : Shape)).symm.trans along) _
    (fun d : Fin 4096 => if hd : (t : Nat) + d < 4096 then x (ix4 0 ⟨t + d, hd⟩ g c) else 0) fun n => ?_) rfl
  exact (dite_congr rfl (fun _ => rfl) fun _ => rfl).trans (tail_at x t g c ((Shape.rowMajor (⟨4, ![1, 4096, 1, 1]⟩ : Shape)).symm n))

theorem tail_host (h : S1x4096x4x128.ReduceWindows ![1, 4096, 1, 1] ![1, 1, 1, 1] ![0, 0, 0, 0] ![0, 4095, 0, 0] S1x4096x4x128) (hu : 0 < S_.numel)
    (x : FVec Ideal S1x4096x4x128 .f32) (v : FVec Ideal S_ .f32) (hv : ∀ i, v i = (0 : EReal)) (t : Fin 4096) (g : Fin 4) (c : Fin 128) :
    Host.reduceWindowAdd (F := Ideal) ![1, 4096, 1, 1] ![1, 1, 1, 1] ![0, 0, 0, 0] ![0, 4095, 0, 0] x v h hu (ix4 0 t g c)
      = ∑ d : Fin 4096, if hd : (t : Nat) + d < 4096 then (x (ix4 0 ⟨t + d, hd⟩ g c) : EReal) else 0 := by
  unfold Host.reduceWindowAdd
  rw [Ideal.hostReduceWindowAdd_def]
  exact tail_sum h x _ (hv _) t g c

/-- A group's slab placed at row `lo` and group `g0`, zeros elsewhere. -/
theorem pad_at {N lo g0 hi gh : Nat} (x : S1x4096x1x128.Idx → EReal) (v : S_.Idx → EReal) (hv : ∀ y, v y = 0) {c : Fin 128} (f : Nat → EReal)
    (hf : ∀ s' : Fin 4096, x (ix4 0 s' 0 c) = f s') (hf0 : ∀ s' : Nat, 4096 ≤ s' → f s' = 0)
    (h : S1x4096x1x128.Pads ![0, lo, g0, 0] ![0, hi, gh, 0] ![0, 0, 0, 0] ⟨4, ![1, N, 4, 128]⟩) (hu : 0 < S_.numel) (s : Fin N) (g : Fin 4) :
    pad ⟨4, ![1, N, 4, 128]⟩ ![0, lo, g0, 0] ![0, hi, gh, 0] ![0, 0, 0, 0] x v h hu (ix4 0 s g c) = if (g : Nat) = g0 ∧ lo ≤ (s : Nat) then f (s - lo) else 0 := by
  unfold pad
  by_cases hc : (g : Nat) = g0 ∧ lo ≤ (s : Nat) ∧ (s : Nat) - lo < 4096
  · rw [if_pos ⟨hc.1, hc.2.1⟩, dif_pos (fun a => by match a with
      | ⟨0, _⟩ => exact ⟨Nat.zero_le _, Nat.mod_one _, by show (0 - 0) / (0 + 1) < 1; omega⟩
      | ⟨1, _⟩ => exact ⟨hc.2.1, Nat.mod_one _, by show ((s : Nat) - lo) / (0 + 1) < 4096; omega⟩
      | ⟨2, _⟩ => exact ⟨by show g0 ≤ (g : Nat); omega, Nat.mod_one _, by show ((g : Nat) - g0) / (0 + 1) < 1; omega⟩
      | ⟨3, _⟩ => exact ⟨Nat.zero_le _, Nat.mod_one _, by show ((c : Nat) - 0) / (0 + 1) < 128; omega⟩), ← hf ⟨s - lo, hc.2.2⟩]
    congr 1
    funext a
    apply Fin.ext
    match a with
    | ⟨0, _⟩ => show (0 - 0) / (0 + 1) = 0; omega
    | ⟨1, _⟩ => show ((s : Nat) - lo) / (0 + 1) = s - lo; omega
    | ⟨2, _⟩ => show ((g : Nat) - g0) / (0 + 1) = 0; omega
    | ⟨3, _⟩ => show ((c : Nat) - 0) / (0 + 1) = c; omega
  · rw [dif_neg (fun hh => hc (by
      have a1 : lo ≤ (s : Nat) := (hh 1).1
      have a2 : ((s : Nat) - lo) / (0 + 1) < 4096 := (hh 1).2.2
      have a3 : g0 ≤ (g : Nat) := (hh 2).1
      have a4 : ((g : Nat) - g0) / (0 + 1) < 1 := (hh 2).2.2
      exact ⟨by omega, a1, by omega⟩)), hv]
    split
    · next hh => exact (hf0 _ (by omega)).symm
    · rfl

theorem do_at (x3 : FVec Ideal S1x1024x1024 .f32) (x4 : FVec Ideal S1x4096x1024 .f32) (t : Fin 4096) (j : Fin 512) :
    val_main_v80 (F := Ideal) x3 x4 (ix3 0 t j) = ∑ k : Fin 1024, x4 (ix3 0 t k) * x3 (ix3 0 ⟨512 + j, by omega⟩ k) := by
  pointwise [val_main_v80, val_main_v79, val_main_v78]

theorem dpo_at (x1 : FVec Ideal S1x4x128x128 .f32) (x2 : FVec Ideal S1x512 .f32) (x3 : FVec Ideal S1x1024x1024 .f32) (x4 : FVec Ideal S1x4096x1024 .f32)
    (t : Fin 4096) (g : Fin 4) (k : Fin 128) :
    val_main_v90 (F := Ideal) x1 x2 x3 x4 (ix4 0 t g k)
      = ∑ j : Fin 128, val_main_v80 (F := Ideal) x3 x4 (ix3 0 t ⟨g * 128 + j, by omega⟩) * x2 (ix2 0 ⟨g * 128 + j, by omega⟩) * x1 (ix4 0 g k j) := by
  pointwise [val_main_v90, val_main_v89, val_main_v88, val_main_v87, val_main_v85, val_main_v84, val_main_v75, val_main_v2, val_main_v1]

/-- The number of tokens a mean of width `w` takes at position `t`. -/
def cnt (w : BitVec 32) (t : Nat) : EReal := FloatOps.sitofp (F := Ideal) .f32 (IntOp.minsi (IntOp.addi (BitVec.ofNat 32 t) 1#32) w)

/-- A group's gradient of the pooled mean, zero past the last token. -/
def D (x1 : FVec Ideal S1x4x128x128 .f32) (x2 : FVec Ideal S1x512 .f32) (x3 : FVec Ideal S1x1024x1024 .f32) (x4 : FVec Ideal S1x4096x1024 .f32) (g : Fin 4) (c : Fin 128) (s : Nat) : EReal := if h : s < 4096 then val_main_v90 (F := Ideal) x1 x2 x3 x4 (ix4 0 ⟨s, h⟩ g c) else 0

/-- A group's gradient of the pooled sum, zero past the last token. -/
def U (x1 : FVec Ideal S1x4x128x128 .f32) (x2 : FVec Ideal S1x512 .f32) (x3 : FVec Ideal S1x1024x1024 .f32) (x4 : FVec Ideal S1x4096x1024 .f32) (w : BitVec 32) (g : Fin 4) (c : Fin 128) (s : Nat) : EReal :=
  if h : s < 4096 then Ideal.div (val_main_v90 (F := Ideal) x1 x2 x3 x4 (ix4 0 ⟨s, h⟩ g c)) (cnt w s) else 0

theorem s107_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v107 (F := Ideal) x1 x2 x3 x4 (ix4 0 t 0 c) = -Ideal.div (val_main_v90 (F := Ideal) x1 x2 x3 x4 (ix4 0 t 3 c)) (cnt 16#32 t) := by
  pointwise [val_main_v107, val_main_v106, val_main_v105, val_main_v100, val_main_v99, val_main_v104, val_main_v61, val_main_v60, val_main_v59, val_main_v58, val_main_v10, val_main_v9, val_main_v8, val_main_c, val_main_c_1, val_main_c_2, val_main_c_3, val_main_c_4, cnt]

theorem p108_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v108 (F := Ideal) x1 x2 x3 x4 (ix4 0 s g c) = if (g : Nat) = 3 ∧ 0 ≤ (s : Nat) then -U x1 x2 x3 x4 16#32 3 c (s - 0) else 0 := by
  unfold val_main_v108
  refine pad_at _ _ (fun y => by pointwise [val_main_cst_8]) (fun n => -U x1 x2 x3 x4 16#32 3 c n) (fun s' => ?_) (fun s' hs => ?_) _ _ s g
  · rw [s107_at]; unfold U; rw [dif_pos s'.isLt]
  · show -U x1 x2 x3 x4 16#32 3 c s' = 0
    unfold U; rw [dif_neg (by omega)]; exact neg_zero

theorem s109_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v109 (F := Ideal) x1 x2 x3 x4 (ix4 0 t 0 c) = Ideal.div (val_main_v90 (F := Ideal) x1 x2 x3 x4 (ix4 0 t 3 c)) (cnt 16#32 t) := by
  pointwise [val_main_v109, val_main_v105, val_main_v100, val_main_v99, val_main_v104, val_main_v61, val_main_v60, val_main_v59, val_main_v58, val_main_v10, val_main_v9, val_main_v8, val_main_c, val_main_c_1, val_main_c_2, val_main_c_3, val_main_c_4, cnt]

theorem p110_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v110 (F := Ideal) x1 x2 x3 x4 (ix4 0 s g c) = if (g : Nat) = 3 ∧ 16 ≤ (s : Nat) then U x1 x2 x3 x4 16#32 3 c (s - 16) else 0 := by
  unfold val_main_v110
  refine pad_at _ _ (fun y => by pointwise [val_main_cst_9]) (fun n => U x1 x2 x3 x4 16#32 3 c n) (fun s' => ?_) (fun s' hs => ?_) _ _ s g
  · rw [s109_at]; unfold U; rw [dif_pos s'.isLt]
  · show U x1 x2 x3 x4 16#32 3 c s' = 0
    unfold U; rw [dif_neg (by omega)]

theorem s119_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v119 (F := Ideal) x1 x2 x3 x4 (ix4 0 t 0 c) = -Ideal.div (val_main_v90 (F := Ideal) x1 x2 x3 x4 (ix4 0 t 2 c)) (cnt 8#32 t) := by
  pointwise [val_main_v119, val_main_v118, val_main_v117, val_main_v98, val_main_v97, val_main_v116, val_main_v47, val_main_v46, val_main_v45, val_main_v44, val_main_v10, val_main_v9, val_main_v8, val_main_c, val_main_c_1, val_main_c_2, val_main_c_3, val_main_c_4, cnt]

theorem p120_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v120 (F := Ideal) x1 x2 x3 x4 (ix4 0 s g c) = if (g : Nat) = 2 ∧ 8 ≤ (s : Nat) then -U x1 x2 x3 x4 8#32 2 c (s - 8) else 0 := by
  unfold val_main_v120
  refine pad_at _ _ (fun y => by pointwise [val_main_cst_11]) (fun n => -U x1 x2 x3 x4 8#32 2 c n) (fun s' => ?_) (fun s' hs => ?_) _ _ s g
  · rw [s119_at]; unfold U; rw [dif_pos s'.isLt]
  · show -U x1 x2 x3 x4 8#32 2 c s' = 0
    unfold U; rw [dif_neg (by omega)]; exact neg_zero

theorem s122_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v122 (F := Ideal) x1 x2 x3 x4 (ix4 0 t 0 c) = Ideal.div (val_main_v90 (F := Ideal) x1 x2 x3 x4 (ix4 0 t 2 c)) (cnt 8#32 t) := by
  pointwise [val_main_v122, val_main_v117, val_main_v98, val_main_v97, val_main_v116, val_main_v47, val_main_v46, val_main_v45, val_main_v44, val_main_v10, val_main_v9, val_main_v8, val_main_c, val_main_c_1, val_main_c_2, val_main_c_3, val_main_c_4, cnt]

theorem p123_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v123 (F := Ideal) x1 x2 x3 x4 (ix4 0 s g c) = if (g : Nat) = 2 ∧ 16 ≤ (s : Nat) then U x1 x2 x3 x4 8#32 2 c (s - 16) else 0 := by
  unfold val_main_v123
  refine pad_at _ _ (fun y => by pointwise [val_main_cst_12]) (fun n => U x1 x2 x3 x4 8#32 2 c n) (fun s' => ?_) (fun s' hs => ?_) _ _ s g
  · rw [s122_at]; unfold U; rw [dif_pos s'.isLt]
  · show U x1 x2 x3 x4 8#32 2 c s' = 0
    unfold U; rw [dif_neg (by omega)]

theorem s132_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v132 (F := Ideal) x1 x2 x3 x4 (ix4 0 t 0 c) = -Ideal.div (val_main_v90 (F := Ideal) x1 x2 x3 x4 (ix4 0 t 1 c)) (cnt 4#32 t) := by
  pointwise [val_main_v132, val_main_v131, val_main_v130, val_main_v96, val_main_v95, val_main_v129, val_main_v33, val_main_v32, val_main_v31, val_main_v30, val_main_v10, val_main_v9, val_main_v8, val_main_c, val_main_c_1, val_main_c_2, val_main_c_3, val_main_c_4, cnt]

theorem p133_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v133 (F := Ideal) x1 x2 x3 x4 (ix4 0 s g c) = if (g : Nat) = 1 ∧ 12 ≤ (s : Nat) then -U x1 x2 x3 x4 4#32 1 c (s - 12) else 0 := by
  unfold val_main_v133
  refine pad_at _ _ (fun y => by pointwise [val_main_cst_14]) (fun n => -U x1 x2 x3 x4 4#32 1 c n) (fun s' => ?_) (fun s' hs => ?_) _ _ s g
  · rw [s132_at]; unfold U; rw [dif_pos s'.isLt]
  · show -U x1 x2 x3 x4 4#32 1 c s' = 0
    unfold U; rw [dif_neg (by omega)]; exact neg_zero

theorem s135_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v135 (F := Ideal) x1 x2 x3 x4 (ix4 0 t 0 c) = Ideal.div (val_main_v90 (F := Ideal) x1 x2 x3 x4 (ix4 0 t 1 c)) (cnt 4#32 t) := by
  pointwise [val_main_v135, val_main_v130, val_main_v96, val_main_v95, val_main_v129, val_main_v33, val_main_v32, val_main_v31, val_main_v30, val_main_v10, val_main_v9, val_main_v8, val_main_c, val_main_c_1, val_main_c_2, val_main_c_3, val_main_c_4, cnt]

theorem p136_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v136 (F := Ideal) x1 x2 x3 x4 (ix4 0 s g c) = if (g : Nat) = 1 ∧ 16 ≤ (s : Nat) then U x1 x2 x3 x4 4#32 1 c (s - 16) else 0 := by
  unfold val_main_v136
  refine pad_at _ _ (fun y => by pointwise [val_main_cst_15]) (fun n => U x1 x2 x3 x4 4#32 1 c n) (fun s' => ?_) (fun s' hs => ?_) _ _ s g
  · rw [s135_at]; unfold U; rw [dif_pos s'.isLt]
  · show U x1 x2 x3 x4 4#32 1 c s' = 0
    unfold U; rw [dif_neg (by omega)]

theorem s145_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v145 (F := Ideal) x1 x2 x3 x4 (ix4 0 t 0 c) = -Ideal.div (val_main_v90 (F := Ideal) x1 x2 x3 x4 (ix4 0 t 0 c)) (cnt 2#32 t) := by
  pointwise [val_main_v145, val_main_v144, val_main_v143, val_main_v94, val_main_v93, val_main_v142, val_main_v19, val_main_v18, val_main_v17, val_main_v16, val_main_v10, val_main_v9, val_main_v8, val_main_c, val_main_c_1, val_main_c_2, val_main_c_3, val_main_c_4, cnt]

theorem p146_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v146 (F := Ideal) x1 x2 x3 x4 (ix4 0 s g c) = if (g : Nat) = 0 ∧ 14 ≤ (s : Nat) then -U x1 x2 x3 x4 2#32 0 c (s - 14) else 0 := by
  unfold val_main_v146
  refine pad_at _ _ (fun y => by pointwise [val_main_cst_17]) (fun n => -U x1 x2 x3 x4 2#32 0 c n) (fun s' => ?_) (fun s' hs => ?_) _ _ s g
  · rw [s145_at]; unfold U; rw [dif_pos s'.isLt]
  · show -U x1 x2 x3 x4 2#32 0 c s' = 0
    unfold U; rw [dif_neg (by omega)]; exact neg_zero

theorem s148_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v148 (F := Ideal) x1 x2 x3 x4 (ix4 0 t 0 c) = Ideal.div (val_main_v90 (F := Ideal) x1 x2 x3 x4 (ix4 0 t 0 c)) (cnt 2#32 t) := by
  pointwise [val_main_v148, val_main_v143, val_main_v94, val_main_v93, val_main_v142, val_main_v19, val_main_v18, val_main_v17, val_main_v16, val_main_v10, val_main_v9, val_main_v8, val_main_c, val_main_c_1, val_main_c_2, val_main_c_3, val_main_c_4, cnt]

theorem p149_at (x1 : FVec Ideal S1x4x128x128 .f32) (x2 : FVec Ideal S1x512 .f32) (x3 : FVec Ideal S1x1024x1024 .f32) (x4 : FVec Ideal S1x4096x1024 .f32)
    (s : Fin 4112) (g : Fin 4) (c : Fin 128) :
    val_main_v149 (F := Ideal) x1 x2 x3 x4 (ix4 0 s g c) = if (g : Nat) = 0 ∧ 16 ≤ (s : Nat) then U x1 x2 x3 x4 2#32 0 c (s - 16) else 0 := by
  unfold val_main_v149
  refine pad_at _ _ (fun y => by pointwise [val_main_cst_18]) (fun n => U x1 x2 x3 x4 2#32 0 c n) (fun s' => ?_) (fun s' hs => ?_) _ _ s g
  · rw [s148_at]; unfold U; rw [dif_pos s'.isLt]
  · show U x1 x2 x3 x4 2#32 0 c s' = 0
    unfold U; rw [dif_neg (by omega)]

theorem n102_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v102 (F := Ideal) x1 x2 x3 x4 (ix4 0 t 0 c) = -val_main_v90 (F := Ideal) x1 x2 x3 x4 (ix4 0 t 3 c) := by
  pointwise [val_main_v102, val_main_v101, val_main_v100, val_main_v99]

theorem n103_at (x1 : FVec Ideal S1x4x128x128 .f32) (x2 : FVec Ideal S1x512 .f32) (x3 : FVec Ideal S1x1024x1024 .f32) (x4 : FVec Ideal S1x4096x1024 .f32)
    (s : Fin 4096) (g : Fin 4) (c : Fin 128) :
    val_main_v103 (F := Ideal) x1 x2 x3 x4 (ix4 0 s g c) = if (g : Nat) = 3 ∧ 0 ≤ (s : Nat) then -D x1 x2 x3 x4 3 c (s - 0) else 0 := by
  unfold val_main_v103
  refine pad_at _ _ (fun y => by pointwise [val_main_cst_7]) (fun n => -D x1 x2 x3 x4 3 c n) (fun s' => ?_) (fun s' hs => ?_) _ _ s g
  · rw [n102_at]; unfold D; rw [dif_pos s'.isLt]
  · show -D x1 x2 x3 x4 3 c s' = 0
    unfold D; rw [dif_neg (by omega)]; exact neg_zero

theorem n113_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v113 (F := Ideal) x1 x2 x3 x4 (ix4 0 t 0 c) = -val_main_v90 (F := Ideal) x1 x2 x3 x4 (ix4 0 t 2 c) := by
  pointwise [val_main_v113, val_main_v112, val_main_v98, val_main_v97]

theorem n114_at (x1 : FVec Ideal S1x4x128x128 .f32) (x2 : FVec Ideal S1x512 .f32) (x3 : FVec Ideal S1x1024x1024 .f32) (x4 : FVec Ideal S1x4096x1024 .f32)
    (s : Fin 4096) (g : Fin 4) (c : Fin 128) :
    val_main_v114 (F := Ideal) x1 x2 x3 x4 (ix4 0 s g c) = if (g : Nat) = 2 ∧ 0 ≤ (s : Nat) then -D x1 x2 x3 x4 2 c (s - 0) else 0 := by
  unfold val_main_v114
  refine pad_at _ _ (fun y => by pointwise [val_main_cst_10]) (fun n => -D x1 x2 x3 x4 2 c n) (fun s' => ?_) (fun s' hs => ?_) _ _ s g
  · rw [n113_at]; unfold D; rw [dif_pos s'.isLt]
  · show -D x1 x2 x3 x4 2 c s' = 0
    unfold D; rw [dif_neg (by omega)]; exact neg_zero

theorem n126_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v126 (F := Ideal) x1 x2 x3 x4 (ix4 0 t 0 c) = -val_main_v90 (F := Ideal) x1 x2 x3 x4 (ix4 0 t 1 c) := by
  pointwise [val_main_v126, val_main_v125, val_main_v96, val_main_v95]

theorem n127_at (x1 : FVec Ideal S1x4x128x128 .f32) (x2 : FVec Ideal S1x512 .f32) (x3 : FVec Ideal S1x1024x1024 .f32) (x4 : FVec Ideal S1x4096x1024 .f32)
    (s : Fin 4096) (g : Fin 4) (c : Fin 128) :
    val_main_v127 (F := Ideal) x1 x2 x3 x4 (ix4 0 s g c) = if (g : Nat) = 1 ∧ 0 ≤ (s : Nat) then -D x1 x2 x3 x4 1 c (s - 0) else 0 := by
  unfold val_main_v127
  refine pad_at _ _ (fun y => by pointwise [val_main_cst_13]) (fun n => -D x1 x2 x3 x4 1 c n) (fun s' => ?_) (fun s' hs => ?_) _ _ s g
  · rw [n126_at]; unfold D; rw [dif_pos s'.isLt]
  · show -D x1 x2 x3 x4 1 c s' = 0
    unfold D; rw [dif_neg (by omega)]; exact neg_zero

theorem n139_at (x1 : FVec Ideal S1x4x128x128 .f32) (x2 : FVec Ideal S1x512 .f32) (x3 : FVec Ideal S1x1024x1024 .f32) (x4 : FVec Ideal S1x4096x1024 .f32)
    (t : Fin 4096) (c : Fin 128) :
    val_main_v139 (F := Ideal) x1 x2 x3 x4 (ix4 0 t 0 c) = -val_main_v90 (F := Ideal) x1 x2 x3 x4 (ix4 0 t 0 c) := by
  pointwise [val_main_v139, val_main_v138, val_main_v94, val_main_v93]

theorem n140_at (x1 : FVec Ideal S1x4x128x128 .f32) (x2 : FVec Ideal S1x512 .f32) (x3 : FVec Ideal S1x1024x1024 .f32) (x4 : FVec Ideal S1x4096x1024 .f32)
    (s : Fin 4096) (g : Fin 4) (c : Fin 128) :
    val_main_v140 (F := Ideal) x1 x2 x3 x4 (ix4 0 s g c) = if (g : Nat) = 0 ∧ 0 ≤ (s : Nat) then -D x1 x2 x3 x4 0 c (s - 0) else 0 := by
  unfold val_main_v140
  refine pad_at _ _ (fun y => by pointwise [val_main_cst_16]) (fun n => -D x1 x2 x3 x4 0 c n) (fun s' => ?_) (fun s' hs => ?_) _ _ s g
  · rw [n139_at]; unfold D; rw [dif_pos s'.isLt]
  · show -D x1 x2 x3 x4 0 c s' = 0
    unfold D; rw [dif_neg (by omega)]; exact neg_zero

theorem grp (h : Fin 4) : h = 0 ∨ h = 1 ∨ h = 2 ∨ h = 3 := by omega

/-- A group's pooling width. -/
def W (g : Fin 4) : Nat := 2 ^ ((g : Nat) + 1)

/-- The gradient of the running sum at a token. -/
theorem step_at (x1 : FVec Ideal S1x4x128x128 .f32) (x2 : FVec Ideal S1x512 .f32) (x3 : FVec Ideal S1x1024x1024 .f32) (x4 : FVec Ideal S1x4096x1024 .f32) (t : Fin 4096) (g : Fin 4) (c : Fin 128) :
    val_main_v152 (F := Ideal) x1 x2 x3 x4 (ix4 0 t g c) = -U x1 x2 x3 x4 (BitVec.ofNat 32 (W g)) g c (t + W g) + U x1 x2 x3 x4 (BitVec.ofNat 32 (W g)) g c t := by
  have e : val_main_v152 (F := Ideal) x1 x2 x3 x4 (ix4 0 t g c) = val_main_v150 (F := Ideal) x1 x2 x3 x4 (ix4 0 ⟨16 + t, by omega⟩ g c) := by pointwise [val_main_v152]
  rw [e]
  show val_main_v108 (F := Ideal) x1 x2 x3 x4 _ + val_main_v110 (F := Ideal) x1 x2 x3 x4 _ + val_main_v120 (F := Ideal) x1 x2 x3 x4 _ + val_main_v123 (F := Ideal) x1 x2 x3 x4 _
    + val_main_v133 (F := Ideal) x1 x2 x3 x4 _ + val_main_v136 (F := Ideal) x1 x2 x3 x4 _ + val_main_v146 (F := Ideal) x1 x2 x3 x4 _ + val_main_v149 (F := Ideal) x1 x2 x3 x4 _ = _
  rw [p108_at, p110_at, p120_at, p123_at, p133_at, p136_at, p146_at, p149_at]
  rcases grp g with rfl | rfl | rfl | rfl
  · rw [if_neg (fun h => absurd h.1 (by decide)), if_neg (fun h => absurd h.1 (by decide)), if_neg (fun h => absurd h.1 (by decide)), if_neg (fun h => absurd h.1 (by decide)), if_neg (fun h => absurd h.1 (by decide)), if_neg (fun h => absurd h.1 (by decide)), if_pos ⟨by decide, by show 14 ≤ 16 + (t : Nat); omega⟩, if_pos ⟨by decide, by show 16 ≤ 16 + (t : Nat); omega⟩]
    simp only [zero_add, add_zero]
    rw [show 16 + (t : Nat) - 14 = t + W 0 by show _ = (t : Nat) + 2; omega, show 16 + (t : Nat) - 16 = t by omega]
    rfl
  · rw [if_neg (fun h => absurd h.1 (by decide)), if_neg (fun h => absurd h.1 (by decide)), if_neg (fun h => absurd h.1 (by decide)), if_neg (fun h => absurd h.1 (by decide)), if_pos ⟨by decide, by show 12 ≤ 16 + (t : Nat); omega⟩, if_pos ⟨by decide, by show 16 ≤ 16 + (t : Nat); omega⟩, if_neg (fun h => absurd h.1 (by decide)), if_neg (fun h => absurd h.1 (by decide))]
    simp only [zero_add, add_zero]
    rw [show 16 + (t : Nat) - 12 = t + W 1 by show _ = (t : Nat) + 4; omega, show 16 + (t : Nat) - 16 = t by omega]
    rfl
  · rw [if_neg (fun h => absurd h.1 (by decide)), if_neg (fun h => absurd h.1 (by decide)), if_pos ⟨by decide, by show 8 ≤ 16 + (t : Nat); omega⟩, if_pos ⟨by decide, by show 16 ≤ 16 + (t : Nat); omega⟩, if_neg (fun h => absurd h.1 (by decide)), if_neg (fun h => absurd h.1 (by decide)), if_neg (fun h => absurd h.1 (by decide)), if_neg (fun h => absurd h.1 (by decide))]
    simp only [zero_add, add_zero]
    rw [show 16 + (t : Nat) - 8 = t + W 2 by show _ = (t : Nat) + 8; omega, show 16 + (t : Nat) - 16 = t by omega]
    rfl
  · rw [if_pos ⟨by decide, by show 0 ≤ 16 + (t : Nat); omega⟩, if_pos ⟨by decide, by show 16 ≤ 16 + (t : Nat); omega⟩, if_neg (fun h => absurd h.1 (by decide)), if_neg (fun h => absurd h.1 (by decide)), if_neg (fun h => absurd h.1 (by decide)), if_neg (fun h => absurd h.1 (by decide)), if_neg (fun h => absurd h.1 (by decide)), if_neg (fun h => absurd h.1 (by decide))]
    simp only [zero_add, add_zero]
    rw [show 16 + (t : Nat) - 0 = t + W 3 by show _ = (t : Nat) + 16; omega, show 16 + (t : Nat) - 16 = t by omega]
    rfl

theorem self_at (x1 : FVec Ideal S1x4x128x128 .f32) (x2 : FVec Ideal S1x512 .f32) (x3 : FVec Ideal S1x1024x1024 .f32) (x4 : FVec Ideal S1x4096x1024 .f32) (t : Fin 4096) (g : Fin 4) (c : Fin 128) :
    val_main_v141 (F := Ideal) x1 x2 x3 x4 (ix4 0 t g c) = -val_main_v90 (F := Ideal) x1 x2 x3 x4 (ix4 0 t g c) := by
  have hD : ∀ g : Fin 4, D x1 x2 x3 x4 g c (t - 0) = val_main_v90 (F := Ideal) x1 x2 x3 x4 (ix4 0 t g c) := fun g => dif_pos t.isLt
  show val_main_v103 (F := Ideal) x1 x2 x3 x4 _ + val_main_v114 (F := Ideal) x1 x2 x3 x4 _ + val_main_v127 (F := Ideal) x1 x2 x3 x4 _ + val_main_v140 (F := Ideal) x1 x2 x3 x4 _ = _
  rw [n103_at, n114_at, n127_at, n140_at]
  rcases grp g with rfl | rfl | rfl | rfl
  · rw [if_neg (fun h => absurd h.1 (by decide)), if_neg (fun h => absurd h.1 (by decide)), if_neg (fun h => absurd h.1 (by decide)), if_pos ⟨by decide, by omega⟩, hD]; simp only [zero_add, add_zero]
  · rw [if_neg (fun h => absurd h.1 (by decide)), if_neg (fun h => absurd h.1 (by decide)), if_pos ⟨by decide, by omega⟩, if_neg (fun h => absurd h.1 (by decide)), hD]; simp only [zero_add, add_zero]
  · rw [if_neg (fun h => absurd h.1 (by decide)), if_pos ⟨by decide, by omega⟩, if_neg (fun h => absurd h.1 (by decide)), if_neg (fun h => absurd h.1 (by decide)), hD]; simp only [zero_add, add_zero]
  · rw [if_pos ⟨by decide, by omega⟩, if_neg (fun h => absurd h.1 (by decide)), if_neg (fun h => absurd h.1 (by decide)), if_neg (fun h => absurd h.1 (by decide)), hD]; simp only [zero_add, add_zero]

theorem coe_sum (s : Finset Nat) (f : Nat → ℝ) : (∑ d ∈ s, (f d : EReal)) = ((∑ d ∈ s, f d : ℝ) : EReal) :=
  (map_sum (⟨⟨Real.toEReal, EReal.coe_zero⟩, EReal.coe_add⟩ : ℝ →+ EReal) f s).symm

/-- A tail sum of shifted differences is a window sum. -/
theorem window (u : Nat → EReal) (hr : ∀ n, ∃ r : ℝ, u n = r) (hz : ∀ n, 4096 ≤ n → u n = 0) (t : Fin 4096) (w : Nat) :
    (∑ d : Fin 4096, if (t : Nat) + d < 4096 then -u (t + d + w) + u (t + d) else 0) = ∑ d ∈ Finset.range w, u (t + d) := by
  choose r hr using hr
  have hz' : ∀ n, 4096 ≤ n → r n = 0 := fun n hn => by have := hz n hn; rw [hr] at this; exact_mod_cast this
  have e : ∀ d : Fin 4096, (if (t : Nat) + d < 4096 then -u (t + d + w) + u (t + d) else 0) = ((r (t + d) - r (t + w + d) : ℝ) : EReal) := fun d => by
    split
    · rw [hr, hr, show (t : Nat) + d + w = t + w + d by omega, sub_eq_add_neg, add_comm (r _) _, EReal.coe_add, EReal.coe_neg]
    · next h => rw [hz' _ (by omega), hz' _ (by omega), sub_zero, EReal.coe_zero]
  rw [Finset.sum_congr rfl fun d _ => e d, Fin.sum_univ_eq_sum_range (fun d => ((r (t + d) - r (t + w + d) : ℝ) : EReal)) 4096,
    Finset.sum_congr rfl fun d _ => hr (t + d)]
  rw [coe_sum, coe_sum]
  refine congrArg Real.toEReal ?_
  rw [Finset.sum_sub_distrib]
  have h1 := Finset.sum_range_add (fun d => r (t + d)) w 4096
  have h2 := Finset.sum_range_add (fun d => r (t + d)) 4096 w
  have h3 : ∑ d ∈ Finset.range w, r (t + (4096 + d)) = 0 := Finset.sum_eq_zero fun d _ => hz' _ (by omega)
  have h4 : ∑ d ∈ Finset.range 4096, r (t + w + d) = ∑ d ∈ Finset.range 4096, r (t + (w + d)) := Finset.sum_congr rfl fun d _ => by rw [add_assoc]
  rw [add_comm w 4096] at h1
  rw [h4]
  linarith

theorem dz_at (x1 : FVec Ideal S1x4x128x128 .f32) (x2 : FVec Ideal S1x512 .f32) (x3 : FVec Ideal S1x1024x1024 .f32) (x4 : FVec Ideal S1x4096x1024 .f32) (t : Fin 4096) (g : Fin 4) (c : Fin 128) (hr : ∀ n, ∃ r : ℝ, U x1 x2 x3 x4 (BitVec.ofNat 32 (W g)) g c n = r) :
    val_main_v154 (F := Ideal) x1 x2 x3 x4 (ix4 0 t g c)
      = -val_main_v90 (F := Ideal) x1 x2 x3 x4 (ix4 0 t g c) + ∑ d ∈ Finset.range (W g), U x1 x2 x3 x4 (BitVec.ofNat 32 (W g)) g c (t + d) := by
  show val_main_v141 (F := Ideal) x1 x2 x3 x4 _ + val_main_v153 (F := Ideal) x1 x2 x3 x4 _ = _
  rw [self_at]
  refine congrArg (fun z : EReal => -val_main_v90 (F := Ideal) x1 x2 x3 x4 (ix4 0 t g c) + z) ?_
  have hc : ∀ i, val_main_call1_call0_v0 (F := Ideal) i = 0 := fun i => by pointwise [val_main_call1_call0_v0, val_main_call1_call0_cst]
  unfold val_main_v153
  refine (tail_host _ _ _ _ hc t g c).trans ?_
  rw [← window (U x1 x2 x3 x4 (BitVec.ofNat 32 (W g)) g c) hr (fun n hn => dif_neg (Nat.not_lt.mpr hn)) t (W g)]
  refine Finset.sum_congr rfl fun d _ => ?_
  by_cases hd : (t : Nat) + d < 4096
  · rw [dif_pos hd, if_pos hd, step_at]
  · rw [dif_neg hd, if_neg hd]

theorem out_at (x1 : FVec Ideal S1x4x128x128 .f32) (x2 : FVec Ideal S1x512 .f32) (x3 : FVec Ideal S1x1024x1024 .f32) (x4 : FVec Ideal S1x4096x1024 .f32) (t : Fin 4096) (g : Fin 4) (c : Fin 128) :
    val_main_v161 (F := Ideal) x1 x2 x3 x4 (ix2 t ⟨2048 + (g * 128 + c), by omega⟩) = val_main_v154 (F := Ideal) x1 x2 x3 x4 (ix4 0 t g c) := by
  pointwise [val_main_v161, val_main_v160, val_main_v159, val_main_v155]

end Cert.PoolRef
-- ==== Proof.PoolRefB.lean ====
/- The reference pooling gradient, read entry by entry. -/
module

public import proofs.«01_k».proof.Proof.PoolRef
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolRef

open Cert.PoolBReferenceIdeal Cert.PoolBReferenceIdeal.Gen Cert.PoolBReferenceIdeal.Read Idealize.ShloMosaic Idealize.ShloMosaic.TcCoe Idealize.SL.Sem

theorem y_at (x0 : FVec Ideal S1x4096x2560 .f32) (x1 : FVec Ideal S1x4x128x128 .f32) (t : Fin 4096) (g : Fin 4) (j : Fin 128) :
    val_main_v74 (F := Ideal) x0 x1 (ix3 0 t ⟨g * 128 + j, by omega⟩) = ∑ k : Fin 128, x1 (ix4 0 g k j) * val_main_v71 (F := Ideal) x0 (ix4 0 t g k) := by
  pointwise [val_main_v74, val_main_v73, val_main_v72, val_main_v1]

/-- The scale's gradient at a channel. -/
theorem scale_at (x0 : FVec Ideal S1x4096x2560 .f32) (x1 : FVec Ideal S1x4x128x128 .f32) (x3 : FVec Ideal S1x1024x1024 .f32) (x4 : FVec Ideal S1x4096x1024 .f32) (j : Fin 512) :
    val_main_v86 (F := Ideal) x0 x1 x3 x4 (ix1 j) = ∑ t : Fin 4096, val_main_v74 (F := Ideal) x0 x1 (ix3 0 t j) * val_main_v80 (F := Ideal) x3 x4 (ix3 0 t j) := by
  unfold val_main_v86
  show Ideal.hostReduceAdd _ (val_main_v83 (F := Ideal) x0 x1 x3 x4) _ _ = _
  rw [Common.hostReduceAdd_01 _ rfl _ _ (ix1 j) j (fun a => by match a with | ⟨0, _⟩ => rfl)]
  pointwise [Fin.sum_univ_one, val_main_cst_6, val_main_cst_5, val_main_v83, val_main_v82, val_main_v81]

theorem slot_at (x0 : FVec Ideal S1x4096x2560 .f32) (x1 : FVec Ideal S1x4x128x128 .f32) (x3 : FVec Ideal S1x1024x1024 .f32) (x4 : FVec Ideal S1x4096x1024 .f32) (r : Fin 8) (j : Fin 1024) :
    val_main_v166 (F := Ideal) x0 x1 x3 x4 (ix2 r j)
      = if h : (r : Nat) < 1 ∧ (j : Nat) < 512 then val_main_v86 (F := Ideal) x0 x1 x3 x4 (ix1 ⟨j, h.2⟩) else 0 := by
  by_cases h : (r : Nat) < 1
  · by_cases h' : (j : Nat) < 512
    · rw [dif_pos ⟨h, h'⟩]
      refine Eq.trans (b := if h : (r : Nat) < 1 then (if h' : (j : Nat) < 512 then val_main_v86 (F := Ideal) x0 x1 x3 x4 (ix1 ⟨j, h'⟩)
        else val_main_v162 (F := Ideal) (ix2 ⟨r, h⟩ ⟨j - 512, by omega⟩)) else val_main_v165 (F := Ideal) (ix2 ⟨r - 1, by omega⟩ j)) ?_ ((dif_pos h).trans (dif_pos h'))
      pointwise [val_main_v166, val_main_v163, val_main_v156]
    · rw [dif_neg (fun hh => h' hh.2)]
      refine Eq.trans (b := if h : (r : Nat) < 1 then (if h' : (j : Nat) < 512 then val_main_v156 (F := Ideal) x0 x1 x3 x4 (ix2 ⟨r, h⟩ ⟨j, h'⟩)
        else 0) else val_main_v165 (F := Ideal) (ix2 ⟨r - 1, by omega⟩ j)) ?_ ((dif_pos h).trans (dif_neg h'))
      pointwise [val_main_v166, val_main_v163, val_main_v162, val_main_cst_20]
  · rw [dif_neg (fun hh => h hh.1)]
    refine Eq.trans (b := if h : (r : Nat) < 1 then val_main_v163 (F := Ideal) x0 x1 x3 x4 (ix2 ⟨r, h⟩ j) else 0) ?_ (dif_neg h)
    pointwise [val_main_v166, val_main_v165, val_main_cst_21]

/-- The group weights' gradient. -/
theorem weights_at (x0 : FVec Ideal S1x4096x2560 .f32) (x2 : FVec Ideal S1x512 .f32) (x3 : FVec Ideal S1x1024x1024 .f32) (x4 : FVec Ideal S1x4096x1024 .f32) (g : Fin 4) (k j : Fin 128) :
    val_main_v164 (F := Ideal) x0 x2 x3 x4 (ix3 g k j)
      = ∑ t : Fin 4096, val_main_v80 (F := Ideal) x3 x4 (ix3 0 t ⟨g * 128 + j, by omega⟩) * x2 (ix2 0 ⟨g * 128 + j, by omega⟩) * val_main_v71 (F := Ideal) x0 (ix4 0 t g k) := by
  pointwise [val_main_v164, val_main_v157, val_main_v92, val_main_v91, val_main_v88, val_main_v87, val_main_v85, val_main_v84, val_main_v75, val_main_v2, Fin.sum_univ_one]

/-- The count of pooled tokens is not zero. -/
theorem count_ne : ∀ (h : Fin 4) (n : Fin 4096), (IntOp.minsi (IntOp.addi (BitVec.ofNat 32 n.val) 1#32) (BitVec.ofNat 32 (W h))).toInt ≠ 0 := by
  decide +kernel

theorem div_cnt (x : EReal) (h : Fin 4) (n : Nat) (hn : n < 4096) :
    Ideal.div x (cnt (BitVec.ofNat 32 (W h)) n) = x * ((1 / (((IntOp.minsi (IntOp.addi (BitVec.ofNat 32 n) 1#32) (BitVec.ofNat 32 (W h))).toInt : ℝ)) : ℝ) : EReal) :=
  Ideal.div_coe (by exact_mod_cast count_ne h ⟨n, hn⟩) x

theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem sum_real {n : Nat} {f : Fin n → EReal} (h : ∀ i, ∃ r : ℝ, f i = r) : ∃ r : ℝ, (∑ i, f i) = r := by
  choose r hr using h
  refine ⟨∑ i, r i, ?_⟩
  rw [Finset.sum_congr rfl fun i _ => hr i]
  exact (map_sum (⟨⟨Real.toEReal, EReal.coe_zero⟩, EReal.coe_add⟩ : ℝ →+ EReal) r Finset.univ).symm

/-- With real arguments the pooled sum's gradient is real. -/
theorem U_real (x1 : FVec Ideal S1x4x128x128 .f32) (x2 : FVec Ideal S1x512 .f32) (x3 : FVec Ideal S1x1024x1024 .f32) (x4 : FVec Ideal S1x4096x1024 .f32) (h1 : Common.Finite x1) (h2 : Common.Finite x2) (h3 : Common.Finite x3) (h4 : Common.Finite x4) (h : Fin 4) (k : Fin 128) (n : Nat) :
    ∃ r : ℝ, U x1 x2 x3 x4 (BitVec.ofNat 32 (W h)) h k n = r := by
  unfold U
  by_cases hn : n < 4096
  · rw [dif_pos hn, div_cnt _ _ _ hn, dpo_at]
    exact mul_real (sum_real fun j => mul_real (mul_real (by rw [do_at]; exact sum_real fun e => mul_real (h4 _) (h3 _)) (h2 _)) (h1 _)) ⟨_, rfl⟩
  · rw [dif_neg hn]
    exact ⟨0, EReal.coe_zero.symm⟩

end Cert.PoolRef

end
-- ==== Proof.PoolFin.lean ====
module

public import proofs.«01_k».proof.Proof.PoolIn
public import proofs.«01_k».proof.Proof.PoolDz
public import proofs.«01_k».proof.Proof.PoolRefB
public import proofs.«01_k».proof.Proof.Gen.PoolBIdeal.Value
public import proofs.«01_k».proof.Proof.Gen.PoolBReferenceIdeal.Read
public import Idealize.ShloMosaic.Lib.Pipeline.ValueKit
public import Idealize.ShloMosaic.Lib.Claim
public import Idealize.ShloMosaic.Lib.Pipeline.ReadBack
public import Idealize.ShloMosaic.Lib.Pointwise
public import Idealize.ShloMosaic.Lib.StableHlo.RunRead

@[expose] public section

set_option maxRecDepth 16384

noncomputable section

namespace Cert.PoolBIdeal.Value

open Cert.PoolBIdeal Cert.PoolBIdeal.Gen Idealize.ShloMosaic Idealize.ShloMosaic.TcCoe Idealize.SL.Sem

variable (m : (ℓ : Loc nD τ sig) → Buf (Elt Ideal) ℓ) (ρ : Dev nD → PrngReg)

open Cert.PoolRef Cert.PoolBReferenceIdeal.Read

theorem lt8 (t : Fin cfg0.N) : t.val < 8 := (idx t).2.2.2.2.2.2

/-- A tile's row in the sequence: the tiles run from the last to the first. -/
def tk (t : Fin cfg0.N) (i : Fin 512) : Fin 4096 := ⟨(7 - t.val) * 512 + i.val, by have := i.isLt; omega⟩

theorem DO_ref (c : Dev nD) (t : Fin cfg0.N) (i j : Fin 512) :
    DO (iblk m c 0 t) (iblk m c 1 t) i j = val_main_v80 (F := Ideal) (m ((c : Thread nD τ).loc main_arg3)) (m ((c : Thread nD τ).loc main_arg4)) (ix3 0 (tk t i) j) := by
  rw [do_at]
  exact Finset.sum_congr rfl fun k _ => congrArg₂ (fun a b : EReal => a * b) (blk_0 m c t i (tk t i).isLt k) (blk_1 m c t _ k)

theorem c5_eq (h : Fin 4) (j : Fin 128) : c5 h j = ⟨h * 128 + j, by omega⟩ := Fin.ext (by rw [cl_val]; show 128 * (h : Nat) + j = h * 128 + j; omega)

theorem DY_ref (c : Dev nD) (t : Fin cfg0.N) (h : Fin 4) (i : Fin 512) (j : Fin 128) :
    DY (iblk m c 0 t) (iblk m c 1 t) (iblk m c 4 t) h i j
      = val_main_v80 (F := Ideal) (m ((c : Thread nD τ).loc main_arg3)) (m ((c : Thread nD τ).loc main_arg4)) (ix3 0 (tk t i) ⟨h * 128 + j, by omega⟩) * (m ((c : Thread nD τ).loc main_arg2)) (ix2 0 ⟨h * 128 + j, by omega⟩) := by
  rw [← c5_eq h j]
  exact congrArg₂ (fun a b : EReal => a * b) (DO_ref m c t i (c5 h j)) (blk_4 m c t (c5 h j))

theorem DPO_ref (c : Dev nD) (t : Fin cfg0.N) (h : Fin 4) (i : Fin 512) (k : Fin 128) :
    DPO (iblk m c 0 t) (iblk m c 1 t) (iblk m c 4 t) (iblk m c 3 t) h i k = val_main_v90 (F := Ideal) (m ((c : Thread nD τ).loc main_arg1)) (m ((c : Thread nD τ).loc main_arg2)) (m ((c : Thread nD τ).loc main_arg3)) (m ((c : Thread nD τ).loc main_arg4)) (ix4 0 (tk t i) h k) := by
  rw [dpo_at]
  exact Finset.sum_congr rfl fun j _ => congrArg₂ (fun a b : EReal => a * b) (DY_ref m c t h i j) (blk_3 m c t h k j)

/-- A sum over rows, tile by tile from the last. -/
theorem sum_tk (f : Fin 4096 → EReal) : (∑ t : Fin 8, ∑ i : Fin 512, f (tk t i)) = ∑ n : Fin 4096, f n :=
  (Equiv.sum_comp Fin.revPerm (fun t : Fin 8 => ∑ i : Fin 512, f (tk t i))).symm.trans
    (Fin.sum_mul_add_congr fun t i hl => congrArg f (Fin.ext (by
      show (7 - (8 - ((t : Nat) + 1))) * 512 + (i : Nat) = t * 512 + i
      have := t.isLt
      omega)))

/-- One tile's part of the weights' gradient. -/
def partW (c : Dev nD) (t : Fin cfg0.N) (z : S4x128x128.Idx) : EReal := WG (iblk m c 0 t) (iblk m c 1 t) (iblk m c 2 t) (iblk m c 4 t) (z 0) (z 1) (z 2)

theorem eta3 {n0 n1 n2 : Nat} (y : (⟨3, ![n0, n1, n2]⟩ : Shape).Idx) : y = ix3 (y 0) (y 1) (y 2) := by
  funext a
  match a with
  | ⟨0, _⟩ => rfl
  | ⟨1, _⟩ => rfl
  | ⟨2, _⟩ => rfl

theorem accW_A (c : Dev nD) (t : Fin cfg0.N) (ht : t.val % 8 = 0) (z : S4x128x128.Idx) :
    (outsAt0 m c t.val t.isLt).2.1 z = (0 : EReal) + partW m c t z := by
  have h8 := lt8 t
  exact (congrArg _ (eta3 z)).trans (dw_A m c t ht (by omega) (z 0) (z 1) (z 2))

theorem accW_B (c : Dev nD) (t : Fin cfg0.N) (ht : ¬ t.val % 8 = 0) (z : S4x128x128.Idx) :
    (outsAt0 m c t.val t.isLt).2.1 z = (outsAt0 m c (t.val - 1) (Nat.lt_of_le_of_lt (Nat.sub_le _ _) t.isLt)).2.1 z + partW m c t z := by
  have e := dw_B m c t ht (by omega) (z 0) (z 1) (z 2)
  exact (congrArg _ (eta3 z)).trans (e.trans (congrArg (fun y => (outsAt0 m c (t.val - 1) (Nat.lt_of_le_of_lt (Nat.sub_le _ _) t.isLt)).2.1 y + partW m c t z) (eta3 z).symm))

theorem weights_ref (c : Dev nD) (h : Fin 4) (k j : Fin 128) :
    (∑ t : Fin 8, WG (iblk m c 0 t) (iblk m c 1 t) (iblk m c 2 t) (iblk m c 4 t) h k j) = val_main_v164 (F := Ideal) (m ((c : Thread nD τ).loc main_arg0)) (m ((c : Thread nD τ).loc main_arg2)) (m ((c : Thread nD τ).loc main_arg3)) (m ((c : Thread nD τ).loc main_arg4)) (ix3 h k j) := by
  rw [weights_at]
  refine Eq.trans ?_ (sum_tk fun n => val_main_v80 (F := Ideal) (m ((c : Thread nD τ).loc main_arg3)) (m ((c : Thread nD τ).loc main_arg4)) (ix3 0 n ⟨h * 128 + j, by omega⟩) * (m ((c : Thread nD τ).loc main_arg2)) (ix2 0 ⟨h * 128 + j, by omega⟩) * val_main_v71 (F := Ideal) (m ((c : Thread nD τ).loc main_arg0)) (ix4 0 n h k))
  refine Finset.sum_congr rfl fun t _ => Finset.sum_congr rfl fun i _ => ?_
  exact Eq.trans (congrArg₂ (fun a b : EReal => a * b) (blk_2 m c t i (tk t i).isLt h k) (DY_ref m c t h i j)) (mul_comm _ _)

theorem fin6 (c : Dev nD) : (dats m 0 c).arrAt 6 cfg0.N = val_main_v164 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => (0 : EReal)) (fun p j => partW m c p j)
    (fun t h j => accW_A m c t h j) (fun t h j => accW_B m c t h j) (le_of_eq N_0) t0_7 rfl j, zero_add]
  exact (weights_ref m c (j 0) (j 1) (j 2)).trans (congrArg _ (eta3 j).symm)

/-- One tile's part of the small slot: the scale's gradient in row 0, zeros elsewhere. -/
def partS (c : Dev nD) (t : Fin cfg0.N) (z : S8x1024.Idx) : EReal :=
  if h : (z 0 : Nat) < 1 ∧ (z 1 : Nat) < 512 then SG (iblk m c 0 t) (iblk m c 1 t) (iblk m c 2 t) (iblk m c 3 t) ⟨(z 1 : Nat) / 128, by omega⟩ ⟨(z 1 : Nat) % 128, by omega⟩ else 0

theorem eta_row (z : S8x1024.Idx) (h : (z 0 : Nat) < 1 ∧ (z 1 : Nat) < 512) : z = ix2 0 (c10 ⟨(z 1 : Nat) / 128, by omega⟩ ⟨(z 1 : Nat) % 128, by omega⟩) := by
  funext a
  apply Fin.ext
  match a with
  | ⟨0, _⟩ => show (z 0 : Nat) = 0; omega
  | ⟨1, _⟩ => show (z 1 : Nat) = 128 * ((z 1 : Nat) / 128) + (z 1 : Nat) % 128; omega

theorem accS_A (c : Dev nD) (t : Fin cfg0.N) (ht : t.val % 8 = 0) (z : S8x1024.Idx) :
    (outsAt0 m c t.val t.isLt).2.2.1 z = (0 : EReal) + partS m c t z := by
  have h8 := lt8 t
  unfold partS
  by_cases h : (z 0 : Nat) < 1 ∧ (z 1 : Nat) < 512
  · rw [dif_pos h]
    exact (congrArg _ (eta_row z h)).trans (slot_A m c t ht (by omega) _ _)
  · rw [dif_neg h, add_zero]
    exact (congrArg _ (Common.eta2 (a := 8) (b := 1024) z)).trans (slot_A_off m c t ht (by omega) (z 0) (z 1) h)

theorem accS_B (c : Dev nD) (t : Fin cfg0.N) (ht : ¬ t.val % 8 = 0) (z : S8x1024.Idx) :
    (outsAt0 m c t.val t.isLt).2.2.1 z = (outsAt0 m c (t.val - 1) (Nat.lt_of_le_of_lt (Nat.sub_le _ _) t.isLt)).2.2.1 z + partS m c t z := by
  unfold partS
  by_cases h : (z 0 : Nat) < 1 ∧ (z 1 : Nat) < 512
  · rw [dif_pos h]
    refine (congrArg _ (eta_row z h)).trans ((slot_B m c t ht (by omega) _ _).trans ?_)
    exact congrArg (fun y => (outsAt0 m c (t.val - 1) (Nat.lt_of_le_of_lt (Nat.sub_le _ _) t.isLt)).2.2.1 y + SG (iblk m c 0 t) (iblk m c 1 t) (iblk m c 2 t) (iblk m c 3 t) ⟨(z 1 : Nat) / 128, by omega⟩ ⟨(z 1 : Nat) % 128, by omega⟩) (eta_row z h).symm
  · rw [dif_neg h, add_zero]
    exact (congrArg _ (Common.eta2 (a := 8) (b := 1024) z)).trans ((slot_B_off m c t ht (by omega) (z 0) (z 1) h).trans (congrArg _ (Common.eta2 (a := 8) (b := 1024) z).symm))

theorem scale_ref (c : Dev nD) (h : Fin 4) (j : Fin 128) :
    (∑ t : Fin 8, SG (iblk m c 0 t) (iblk m c 1 t) (iblk m c 2 t) (iblk m c 3 t) h j) = val_main_v86 (F := Ideal) (m ((c : Thread nD τ).loc main_arg0)) (m ((c : Thread nD τ).loc main_arg1)) (m ((c : Thread nD τ).loc main_arg3)) (m ((c : Thread nD τ).loc main_arg4)) (ix1 ⟨h * 128 + j, by omega⟩) := by
  rw [scale_at]
  refine Eq.trans ?_ (sum_tk fun n => val_main_v74 (F := Ideal) (m ((c : Thread nD τ).loc main_arg0)) (m ((c : Thread nD τ).loc main_arg1)) (ix3 0 n ⟨h * 128 + j, by omega⟩) * val_main_v80 (F := Ideal) (m ((c : Thread nD τ).loc main_arg3)) (m ((c : Thread nD τ).loc main_arg4)) (ix3 0 n ⟨h * 128 + j, by omega⟩))
  refine Finset.sum_congr rfl fun t _ => Finset.sum_congr rfl fun i _ => ?_
  refine congrArg₂ (fun a b : EReal => a * b) ?_ ((DO_ref m c t i (c5 h j)).trans (by rw [c5_eq]))
  rw [y_at]
  exact Finset.sum_congr rfl fun k _ => (congrArg₂ (fun a b : EReal => a * b) (blk_2 m c t i (tk t i).isLt h k) (blk_3 m c t h k j)).trans (mul_comm _ _)

theorem fin7 (c : Dev nD) : (dats m 0 c).arrAt 7 cfg0.N = val_main_v166 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => (0 : EReal)) (fun p j => partS m c p j)
    (fun t h j => accS_A m c t h j) (fun t h j => accS_B m c t h j) (le_of_eq N_0) t0_7 rfl j, zero_add]
  refine Eq.trans ?_ ((slot_at _ _ _ _ (j 0) (j 1)).symm.trans (congrArg _ (Common.eta2 (a := 8) (b := 1024) j).symm))
  unfold partS
  by_cases h : (j 0 : Nat) < 1 ∧ (j 1 : Nat) < 512
  · refine Eq.trans (Fin.sum_fin_congr fun p => dif_pos h) (Eq.trans ?_ (dif_pos h).symm)
    refine (scale_ref m c ⟨(j 1 : Nat) / 128, by omega⟩ ⟨(j 1 : Nat) % 128, by omega⟩).trans (congrArg (fun z => val_main_v86 (F := Ideal) (m ((c : Thread nD τ).loc main_arg0)) (m ((c : Thread nD τ).loc main_arg1)) (m ((c : Thread nD τ).loc main_arg3)) (m ((c : Thread nD τ).loc main_arg4)) (ix1 z)) (Fin.ext ?_))
    show (j 1 : Nat) / 128 * 128 + (j 1 : Nat) % 128 = (j 1 : Nat)
    omega
  · refine Eq.trans (Fin.sum_fin_congr fun p => dif_neg h) (Eq.trans ?_ (dif_neg h).symm)
    simp

theorem base_at : ∀ t : Fin cfg0.N, Scalar.muli (Scalar.subi 7#32 (BitVec.ofNat 32 (grid0.coords t 0).val)) 512#32 = BitVec.ofNat 32 ((7 - t.val) * 512) :=
  (by decide +kernel : ∀ t : Fin grid0.N, _)

theorem pos_at (t : Fin cfg0.N) (i : Fin 512) : pos (grid0.coords t) i = BitVec.ofNat 32 (tk t i) := by
  unfold pos
  rw [base_at]
  exact BitVec.ofNat_add_ofNat ((7 - t.val) * 512) i.val

theorem inv_at (h : Fin 4) (n : Nat) (hn : n < 4096) (x : EReal) : x * inv (wd h) (BitVec.ofNat 32 n) = Ideal.div x (cnt (BitVec.ofNat 32 (W h)) n) := by
  rw [show inv (wd h) (BitVec.ofNat 32 n) = Ideal.div 1 (cnt (BitVec.ofNat 32 (W h)) n) from rfl, div_cnt _ _ _ hn, div_cnt _ _ _ hn, one_mul]

theorem U_of (c : Dev nD) (t : Fin cfg0.N) (h : Fin 4) (i : Fin 512) (k : Fin 128) :
    DPO (iblk m c 0 t) (iblk m c 1 t) (iblk m c 4 t) (iblk m c 3 t) h i k * inv (wd h) (pos (grid0.coords t) i) = U (m ((c : Thread nD τ).loc main_arg1)) (m ((c : Thread nD τ).loc main_arg2)) (m ((c : Thread nD τ).loc main_arg3)) (m ((c : Thread nD τ).loc main_arg4)) (BitVec.ofNat 32 (W h)) h k (tk t i) := by
  rw [pos_at, inv_at _ _ (tk t i).isLt, DPO_ref]
  unfold U
  rw [dif_pos (tk t i).isLt]

/-- The kept sums of a tile's own rows. -/
theorem own_at (c : Dev nD) (t : Fin cfg0.N) (h : Fin 4) (i : Fin 512) (k : Fin 128) :
    (outsAt0 m c t.val t.isLt).2.2.2 (ix2 ⟨i, by omega⟩ (c5 h k)) = U (m ((c : Thread nD τ).loc main_arg1)) (m ((c : Thread nD τ).loc main_arg2)) (m ((c : Thread nD τ).loc main_arg3)) (m ((c : Thread nD τ).loc main_arg4)) (BitVec.ofNat 32 (W h)) h k (tk t i) := by
  have h8 := lt8 t
  by_cases ht : t.val % 8 = 0
  · exact (ext_A m c t ht (by omega) h i k).trans (U_of m c t h i k)
  · exact (ext_B m c t ht (by omega) h i k).trans (U_of m c t h i k)

/-- The kept sums of a tile's rows and of the rows that follow it. -/
theorem ext_at (c : Dev nD) (t : Fin cfg0.N) (h : Fin 4) (n : Fin 528) (k : Fin 128) :
    (outsAt0 m c t.val t.isLt).2.2.2 (ix2 n (c5 h k)) = U (m ((c : Thread nD τ).loc main_arg1)) (m ((c : Thread nD τ).loc main_arg2)) (m ((c : Thread nD τ).loc main_arg3)) (m ((c : Thread nD τ).loc main_arg4)) (BitVec.ofNat 32 (W h)) h k ((7 - t.val) * 512 + n.val) := by
  have h8 := lt8 t
  by_cases hn : (n : Nat) < 512
  · exact own_at m c t h ⟨n, hn⟩ k
  · have en : n = ⟨512 + ((⟨n - 512, by omega⟩ : Fin 16) : Nat), by show 512 + ((n : Nat) - 512) < 528; omega⟩ := Fin.ext (by show (n : Nat) = 512 + (n - 512); omega)
    by_cases ht : t.val % 8 = 0
    · refine (congrArg (fun z => (outsAt0 m c t.val t.isLt).2.2.2 (ix2 z (c5 h k))) en).trans ((halo_A m c t ht (by omega) _ _).trans ?_)
      unfold U
      rw [dif_neg (by omega)]
    · refine (congrArg (fun z => (outsAt0 m c t.val t.isLt).2.2.2 (ix2 z (c5 h k))) en).trans ((halo_B m c t ht (by omega) _ _).trans ?_)
      refine (own_at m c ⟨t.val - 1, Nat.lt_of_le_of_lt (Nat.sub_le _ _) t.isLt⟩ h ⟨n - 512, by omega⟩ k).trans (congrArg _ ?_)
      show (7 - (t.val - 1)) * 512 + ((n : Nat) - 512) = (7 - t.val) * 512 + n
      omega

theorem row_eq (c : Dev nD) (t : Fin cfg0.N) (h : Fin 4) (i : Fin 512) (k : Fin 128) :
    (∑ d ∈ Finset.range (2 ^ ((h : Nat) + 1)), (outsAt0 m c t.val t.isLt).2.2.2 (ix2 ⟨(i + d) % 528, Nat.mod_lt _ (by decide)⟩ (c5 h k))) - DPO (iblk m c 0 t) (iblk m c 1 t) (iblk m c 4 t) (iblk m c 3 t) h i k
      = -val_main_v90 (F := Ideal) (m ((c : Thread nD τ).loc main_arg1)) (m ((c : Thread nD τ).loc main_arg2)) (m ((c : Thread nD τ).loc main_arg3)) (m ((c : Thread nD τ).loc main_arg4)) (ix4 0 (tk t i) h k) + ∑ d ∈ Finset.range (W h), U (m ((c : Thread nD τ).loc main_arg1)) (m ((c : Thread nD τ).loc main_arg2)) (m ((c : Thread nD τ).loc main_arg3)) (m ((c : Thread nD τ).loc main_arg4)) (BitVec.ofNat 32 (W h)) h k (tk t i + d) := by
  rw [DPO_ref, sub_eq_add_neg, add_comm]
  refine congrArg (fun z : EReal => -val_main_v90 (F := Ideal) (m ((c : Thread nD τ).loc main_arg1)) (m ((c : Thread nD τ).loc main_arg2)) (m ((c : Thread nD τ).loc main_arg3)) (m ((c : Thread nD τ).loc main_arg4)) (ix4 0 (tk t i) h k) + z) (Finset.sum_congr rfl fun d hd => ?_)
  have hd' : d < 2 ^ ((h : Nat) + 1) := Finset.mem_range.mp hd
  have hw : 2 ^ ((h : Nat) + 1) ≤ 16 := (by decide : ∀ h : Fin 4, 2 ^ ((h : Nat) + 1) ≤ 16) h
  refine (ext_at m c t h _ k).trans (congrArg _ ?_)
  show (7 - t.val) * 512 + ((i : Nat) + d) % 528 = (7 - t.val) * 512 + i + d
  rw [Nat.mod_eq_of_lt (by omega)]
  omega

theorem out_ref (c : Dev nD) (h1 : Common.Finite (s := S1x4x128x128) (m ((c : Thread nD τ).loc main_arg1))) (h2 : Common.Finite (s := S1x512) (m ((c : Thread nD τ).loc main_arg2))) (h3 : Common.Finite (s := S1x1024x1024) (m ((c : Thread nD τ).loc main_arg3))) (h4 : Common.Finite (s := S1x4096x1024) (m ((c : Thread nD τ).loc main_arg4)))
    (t : Fin cfg0.N) (h : Fin 4) (i : Fin 512) (k : Fin 128) :
    (outsAt0 m c t.val t.isLt).1 (ix2 i (c5 h k)) = val_main_v161 (F := Ideal) (m ((c : Thread nD τ).loc main_arg1)) (m ((c : Thread nD τ).loc main_arg2)) (m ((c : Thread nD τ).loc main_arg3)) (m ((c : Thread nD τ).loc main_arg4)) (ix2 (tk t i) ⟨2048 + (h * 128 + k), by omega⟩) := by
  have h8 := lt8 t
  rw [out_at, dz_at _ _ _ _ _ _ _ (U_real _ _ _ _ h1 h2 h3 h4 h k), ← row_eq]
  by_cases ht : t.val % 8 = 0
  · exact dz_A m c t ht (by omega) h i k
  · exact dz_B m c t ht (by omega) h i k

theorem fin5 (c : Dev nD) (h1 : Common.Finite (s := S1x4x128x128) (m ((c : Thread nD τ).loc main_arg1))) (h2 : Common.Finite (s := S1x512) (m ((c : Thread nD τ).loc main_arg2))) (h3 : Common.Finite (s := S1x1024x1024) (m ((c : Thread nD τ).loc main_arg3))) (h4 : Common.Finite (s := S1x4096x1024) (m ((c : Thread nD τ).loc main_arg4)))
    (i : S4096x2560.Idx) (hi : 2048 ≤ (i 1 : Nat)) :
    (dats m 0 c).arrAt 5 cfg0.N i = val_main_v161 (F := Ideal) (m ((c : Thread nD τ).loc main_arg1)) (m ((c : Thread nD τ).loc main_arg2)) (m ((c : Thread nD τ).loc main_arg3)) (m ((c : Thread nD τ).loc main_arg4)) i := by
  refine ((dats m 0 c).arrAt_apply_of_coversWhere 5 (val_main_v161 (F := Ideal) (m ((c : Thread nD τ).loc main_arg1)) (m ((c : Thread nD τ).loc main_arg2)) (m ((c : Thread nD τ).loc main_arg3)) (m ((c : Thread nD τ).loc main_arg4))) (P := fun i : S4096x2560.Idx => 2048 ≤ (i 1 : Nat))
    (fun β => β (1 : Fin 2) = 4) (by decide +kernel) (fun t _ y => ?_) (fun j => ?_) i).trans (if_pos hi)
  · have ht := (idx t).2.2.2.2.2.1
    blk_simp
    rw [after0_5]
    have hy0 : (y 0 : ℕ) < 512 := (y 0).isLt
    have hy1 : (y 1 : ℕ) < 512 := (y 1).isLt
    have ey : (y 1 : Fin 512) = c5 ⟨(y 1 : Nat) / 128, by omega⟩ ⟨(y 1 : Nat) % 128, by omega⟩ := Fin.ext (by show (y 1 : Nat) = 128 * ((y 1 : Nat) / 128) + (y 1 : Nat) % 128; omega)
    refine (congrArg _ ((Common.eta2 (a := 512) (b := 512) y).trans (congrArg (fun z => ix2 (y 0) z) ey))).trans ?_
    refine (out_ref m c h1 h2 h3 h4 t _ _ _).trans (congrArg _ ?_)
    blk_ext [idx t, tk]
  · have hj : (j 1 : Nat) < 2560 := (j 1).isLt
    blk_simp [Pipeline.Window.cell_apply]
    omega

end Cert.PoolBIdeal.Value

end
-- ==== Proof.PoolBClaim.lean ====
/- The claims about the pair. -/
module

public import proofs.«01_k».proof.Defs
public import proofs.«01_k».proof.Proof.PoolFin
public import proofs.«01_k».proof.Proof.Gen.PoolB.Frame

@[expose] public section

noncomputable section

namespace Cert.Proof.PoolB

open Idealize.ShloMosaic Idealize.ShloMosaic.TcCoe Idealize.SL.Sem

theorem frame_k : Cert.quiescent_PoolB := fun m ρ _ => Cert.PoolB.Gen.frame m ρ

theorem frame_ki : Cert.quiescent_PoolBIdeal := fun m ρ _ => Cert.PoolBIdeal.Gen.frame m ρ

theorem frame_ri : Cert.quiescent_PoolBReferenceIdeal := fun m ρ _ =>
  (θ_run Cert.PoolBReferenceIdeal.defs _ _).mono (fun r h => ⟨fun c => (h c).2.2.2, sem_eq_zero_of_no_sems (by decide) r.2⟩)
    (Cert.PoolBReferenceIdeal.Value.run (F := Ideal) m ρ)

theorem facts_pre : Cert.Pre_finite_poolb.Facts := by
  constructor <;> decide

theorem facts_on : Cert.On_pool_columns.Facts := by
  constructor <;> decide

theorem col_ge : ∀ j : Fin 2560, IntOp.cmpi .sge (BitVec.ofNat 32 j.val) 2048#32 = 1#1 → 2048 ≤ j.val := by
  decide +kernel

/-- The mask marks the pooling's columns only. -/
theorem covered [hOn : Cert.On_pool_columns.Facts] (x0 : FVec Ideal Cert.On_pool_columns.S1x4096x2560 .f32) (x1 : FVec Ideal Cert.On_pool_columns.S1x4x128x128 .f32) (x2 : FVec Ideal Cert.On_pool_columns.S1x512 .f32)
    (x3 : FVec Ideal Cert.On_pool_columns.S1x1024x1024 .f32) (x4 : FVec Ideal Cert.On_pool_columns.S1x4096x1024 .f32) (i : (⟨2, ![4096, 2560]⟩ : Shape).Idx)
    (h : (Cert.On_pool_columns.fn (F := Ideal) x0 x1 x2 x3 x4).1 i = 1#1) : 2048 ≤ (i 1 : Nat) :=
  col_ge (i 1) h

theorem frame_ki_pre : Cert.quiescent_PoolBIdeal_pre_finite_poolb (hPre_finite_poolb := facts_pre) := fun m ρ _ => Cert.PoolBIdeal.Gen.frame m ρ

theorem frame_ri_pre : Cert.quiescent_PoolBReferenceIdeal_pre_finite_poolb (hPre_finite_poolb := facts_pre) := fun m ρ _ => frame_ri m ρ trivial

open Cert.PoolBReferenceIdeal.Read Cert.PoolBIdeal.Gen Cert.PoolBIdeal.Value in
theorem value : Cert.algebraic_PoolBIdeal_PoolBReferenceIdeal_on_pool_columns_pre_finite_poolb (hPre_finite_poolb := facts_pre) (hOn_pool_columns := facts_on) := by
  intro m g m' g' hpre hagree
  have p1 : ∀ c : Dev Cert.PoolBIdeal.nD, Common.Finite (m ((c.tc : Thread Cert.PoolBIdeal.nD Cert.PoolBIdeal.τ).loc Cert.PoolBIdeal.main_arg1)) := fun c i => Common.real_of_lt _ (congrFun (hpre c).1 i)
  have p2 : ∀ c : Dev Cert.PoolBIdeal.nD, Common.Finite (m ((c.tc : Thread Cert.PoolBIdeal.nD Cert.PoolBIdeal.τ).loc Cert.PoolBIdeal.main_arg2)) := fun c i => Common.real_of_lt _ (congrFun (hpre c).2.1 i)
  have p3 : ∀ c : Dev Cert.PoolBIdeal.nD, Common.Finite (m ((c.tc : Thread Cert.PoolBIdeal.nD Cert.PoolBIdeal.τ).loc Cert.PoolBIdeal.main_arg3)) := fun c i => Common.real_of_lt _ (congrFun (hpre c).2.2.1 i)
  have p4 : ∀ c : Dev Cert.PoolBIdeal.nD, Common.Finite (m ((c.tc : Thread Cert.PoolBIdeal.nD Cert.PoolBIdeal.τ).loc Cert.PoolBIdeal.main_arg4)) := fun c i => Common.real_of_lt _ (congrFun (hpre c).2.2.2 i)
  refine ⟨fun c => val_main_v161 (F := Ideal) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4)),
    fun c => val_main_v164 (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4)),
    fun c => val_main_v166 (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4)),
    (θ_run Cert.PoolBIdeal.defs _ _).mono (fun r h c => ?_) (run_blocks (F := Ideal) m g),
    (θ_run Cert.PoolBReferenceIdeal.defs _ _).mono (fun r h c => ?_) (Cert.PoolBReferenceIdeal.Value.run (F := Ideal) m' g')⟩
  · obtain ⟨k0, k1, k2, b0, b1, b2, b3, b4⟩ := h c
    exact ⟨fun i hi => (congrFun k0 i).trans (fin5 m c (p1 c) (p2 c) (p3 c) (p4 c) i (covered (hOn := facts_on) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1)) (m ((c.tc : Thread Cert.PoolBIdeal.nD Cert.PoolBIdeal.τ).loc Cert.PoolBIdeal.main_arg2)) (m ((c.tc : Thread Cert.PoolBIdeal.nD Cert.PoolBIdeal.τ).loc Cert.PoolBIdeal.main_arg3)) (m ((c.tc : Thread Cert.PoolBIdeal.nD Cert.PoolBIdeal.τ).loc Cert.PoolBIdeal.main_arg4)) i hi)),
      fun i _ => congrFun (k1.trans (fin6 m c)) i,
      fun i _ => congrFun (k2.trans (fin7 m c)) i,
      b0,
      b1,
      b2,
      b3,
      b4⟩
  · obtain ⟨h0, h1, h2, h3⟩ := h c
    obtain ⟨a0, a1, a2, a3, a4⟩ := hagree c
    have e0 : r.2.mem ((c.tc : Thread Cert.PoolBReferenceIdeal.nD Cert.PoolBReferenceIdeal.τ).loc Cert.PoolBReferenceIdeal.main_v161) = val_main_v161 (F := Ideal) (m' ((c.tc : Thread Cert.PoolBReferenceIdeal.nD Cert.PoolBReferenceIdeal.τ).loc Cert.PoolBReferenceIdeal.main_arg1)) (m' ((c.tc : Thread Cert.PoolBReferenceIdeal.nD Cert.PoolBReferenceIdeal.τ).loc Cert.PoolBReferenceIdeal.main_arg2)) (m' ((c.tc : Thread Cert.PoolBReferenceIdeal.nD Cert.PoolBReferenceIdeal.τ).loc Cert.PoolBReferenceIdeal.main_arg3)) (m' ((c.tc : Thread Cert.PoolBReferenceIdeal.nD Cert.PoolBReferenceIdeal.τ).loc Cert.PoolBReferenceIdeal.main_arg4)) := h0.trans (val_main_v161_eq (fun b => m' (c, b)))
    rw [a1, a2, a3, a4] at e0
    have e1 : r.2.mem ((c.tc : Thread Cert.PoolBReferenceIdeal.nD Cert.PoolBReferenceIdeal.τ).loc Cert.PoolBReferenceIdeal.main_v164) = val_main_v164 (F := Ideal) (m' ((c.tc : Thread Cert.PoolBReferenceIdeal.nD Cert.PoolBReferenceIdeal.τ).loc Cert.PoolBReferenceIdeal.main_arg0)) (m' ((c.tc : Thread Cert.PoolBReferenceIdeal.nD Cert.PoolBReferenceIdeal.τ).loc Cert.PoolBReferenceIdeal.main_arg2)) (m' ((c.tc : Thread Cert.PoolBReferenceIdeal.nD Cert.PoolBReferenceIdeal.τ).loc Cert.PoolBReferenceIdeal.main_arg3)) (m' ((c.tc : Thread Cert.PoolBReferenceIdeal.nD Cert.PoolBReferenceIdeal.τ).loc Cert.PoolBReferenceIdeal.main_arg4)) := h1.trans (val_main_v164_eq (fun b => m' (c, b)))
    rw [a0, a2, a3, a4] at e1
    have e2 : r.2.mem ((c.tc : Thread Cert.PoolBReferenceIdeal.nD Cert.PoolBReferenceIdeal.τ).loc Cert.PoolBReferenceIdeal.main_v166) = val_main_v166 (F := Ideal) (m' ((c.tc : Thread Cert.PoolBReferenceIdeal.nD Cert.PoolBReferenceIdeal.τ).loc Cert.PoolBReferenceIdeal.main_arg0)) (m' ((c.tc : Thread Cert.PoolBReferenceIdeal.nD Cert.PoolBReferenceIdeal.τ).loc Cert.PoolBReferenceIdeal.main_arg1)) (m' ((c.tc : Thread Cert.PoolBReferenceIdeal.nD Cert.PoolBReferenceIdeal.τ).loc Cert.PoolBReferenceIdeal.main_arg3)) (m' ((c.tc : Thread Cert.PoolBReferenceIdeal.nD Cert.PoolBReferenceIdeal.τ).loc Cert.PoolBReferenceIdeal.main_arg4)) := h2.trans (val_main_v166_eq (fun b => m' (c, b)))
    rw [a0, a1, a3, a4] at e2
    exact ⟨fun i _ => congrFun e0 i, fun i _ => congrFun e1 i, fun i _ => congrFun e2 i, h3⟩

end Cert.Proof.PoolB

end
-- ==== Proof.Mlp.lean ====
/- A row of the squared-ReLU MLP, of the loss behind it, and of their gradients, over extended reals. -/
module

public import proofs.«01_k».proof.Proof.Rms

@[expose] public section

noncomputable section

namespace Cert.Mlp

open Idealize.ShloMosaic

/-- The norm of a row, weighted. -/
def hf (x g : Fin 1024 → EReal) (k : Fin 1024) : EReal := x k * Rms.r x * g k

/-- A hidden unit before the activation. -/
def act (h w : Fin 1024 → EReal) : EReal := ∑ k, h k * w k

/-- The activation. -/
def sq (a : EReal) : EReal := max a 0 * max a 0

/-- The row with the MLP's output added. -/
def out (x : Fin 1024 → EReal) (u : Fin 4096 → EReal) (w : Fin 4096 → Fin 1024 → EReal) (j : Fin 1024) : EReal := x j + ∑ f, u f * w f j

def err (y g t : Fin 1024 → EReal) (j : Fin 1024) : EReal := y j * Rms.r y * g j - t j

/-- The gradient of the mean squared error's half, by the normed row. -/
def dy (y g t : Fin 1024 → EReal) (j : Fin 1024) : EReal := err y g t j * Ideal.ofBits .f32 0x3A800000#32

def ls (y g t : Fin 1024 → EReal) : EReal := Ideal.div (∑ j, err y g t j * err y g t j) (Ideal.ofBits .f32 0x44800000#32)

/-- The activation's derivative, from its value. -/
def slope (u : EReal) : EReal := Ideal.ofBits .f32 0x40000000#32 * u * Ideal.rsqrt (max u (Ideal.ofBits .f32 0x0DA24260#32))

end Cert.Mlp

end
-- ==== Proof.MlpRef.lean ====
/- The arrays of the MLP as rows, and the reference's terms. -/
module

public import proofs.«01_k».proof.Proof.Mlp
public import proofs.«01_k».proof.Proof.Gen.MlpReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpReferenceIdeal Idealize.ShloMosaic Idealize.ShloMosaic.TcCoe Idealize.SL.Sem
open Idealize.ShloMosaic.Pipeline (Dat)

/-! The arrays as rows, and the reference's terms as functions of them. -/

open Cert.Mlp Cert.MlpReferenceIdeal.Read

def eX (a0 : FVec Ideal S1x4096x1024 .f32) (i : Fin 4096) : Fin 1024 → EReal := fun k => a0 (ix3 0 i k)

def eG (a1 : FVec Ideal S1x1024 .f32) : Fin 1024 → EReal := fun k => a1 (ix2 0 k)

def eH (a0 : FVec Ideal S1x4096x1024 .f32) (a1 : FVec Ideal S1x1024 .f32) (i : Fin 4096) : Fin 1024 → EReal := hf (eX a0 i) (eG a1)

def eA (a0 : FVec Ideal S1x4096x1024 .f32) (a1 : FVec Ideal S1x1024 .f32) (a2 : FVec Ideal S1x1024x4096 .f32) (i f : Fin 4096) : EReal :=
  act (eH a0 a1 i) (fun k => a2 (ix3 0 k f))

def eU (a0 : FVec Ideal S1x4096x1024 .f32) (a1 : FVec Ideal S1x1024 .f32) (a2 : FVec Ideal S1x1024x4096 .f32) (i f : Fin 4096) : EReal := sq (eA a0 a1 a2 i f)

def eY (a0 : FVec Ideal S1x4096x1024 .f32) (a1 : FVec Ideal S1x1024 .f32) (a2 : FVec Ideal S1x1024x4096 .f32) (a3 : FVec Ideal S1x4096x1024 .f32) (i : Fin 4096) :
    Fin 1024 → EReal := out (eX a0 i) (eU a0 a1 a2 i) (fun f j => a3 (ix3 0 f j))

def eF (a4 : FVec Ideal S1024 .f32) : Fin 1024 → EReal := fun k => a4 (ix1 k)

def eDy (a0 : FVec Ideal S1x4096x1024 .f32) (a1 : FVec Ideal S1x1024 .f32) (a2 : FVec Ideal S1x1024x4096 .f32) (a3 : FVec Ideal S1x4096x1024 .f32)
    (a4 : FVec Ideal S1024 .f32) (a5 : FVec Ideal S1x4096x1024 .f32) (i : Fin 4096) : Fin 1024 → EReal := dy (eY a0 a1 a2 a3 i) (eF a4) (eX a5 i)

def eLs (a0 : FVec Ideal S1x4096x1024 .f32) (a1 : FVec Ideal S1x1024 .f32) (a2 : FVec Ideal S1x1024x4096 .f32) (a3 : FVec Ideal S1x4096x1024 .f32)
    (a4 : FVec Ideal S1024 .f32) (a5 : FVec Ideal S1x4096x1024 .f32) (i : Fin 4096) : EReal := ls (eY a0 a1 a2 a3 i) (eF a4) (eX a5 i)

def eD (a0 : FVec Ideal S1x4096x1024 .f32) (a1 : FVec Ideal S1x1024 .f32) (a2 : FVec Ideal S1x1024x4096 .f32) (a3 : FVec Ideal S1x4096x1024 .f32)
    (a4 : FVec Ideal S1024 .f32) (a5 : FVec Ideal S1x4096x1024 .f32) (i : Fin 4096) : Fin 1024 → EReal := Rms.dxk (eY a0 a1 a2 a3 i) (eDy a0 a1 a2 a3 a4 a5 i) (eF a4)

def eDa (a0 : FVec Ideal S1x4096x1024 .f32) (a1 : FVec Ideal S1x1024 .f32) (a2 : FVec Ideal S1x1024x4096 .f32) (a3 : FVec Ideal S1x4096x1024 .f32)
    (a4 : FVec Ideal S1024 .f32) (a5 : FVec Ideal S1x4096x1024 .f32) (i f : Fin 4096) : EReal :=
  (∑ k : Fin 1024, eD a0 a1 a2 a3 a4 a5 i k * a3 (ix3 0 f k)) * slope (eU a0 a1 a2 i f)

def eDh (a0 : FVec Ideal S1x4096x1024 .f32) (a1 : FVec Ideal S1x1024 .f32) (a2 : FVec Ideal S1x1024x4096 .f32) (a3 : FVec Ideal S1x4096x1024 .f32)
    (a4 : FVec Ideal S1024 .f32) (a5 : FVec Ideal S1x4096x1024 .f32) (i : Fin 4096) : Fin 1024 → EReal :=
  fun k => ∑ f : Fin 4096, eDa a0 a1 a2 a3 a4 a5 i f * a2 (ix3 0 k f)

def eDx (a0 : FVec Ideal S1x4096x1024 .f32) (a1 : FVec Ideal S1x1024 .f32) (a2 : FVec Ideal S1x1024x4096 .f32) (a3 : FVec Ideal S1x4096x1024 .f32)
    (a4 : FVec Ideal S1024 .f32) (a5 : FVec Ideal S1x4096x1024 .f32) (i : Fin 4096) (j : Fin 1024) : EReal :=
  eD a0 a1 a2 a3 a4 a5 i j + Rms.dxk (eX a0 i) (eDh a0 a1 a2 a3 a4 a5 i) (eG a1) j

variable (a0 : FVec Ideal S1x4096x1024 .f32) (a1 : FVec Ideal S1x1024 .f32) (a2 : FVec Ideal S1x1024x4096 .f32) (a3 : FVec Ideal S1x4096x1024 .f32)
  (a4 : FVec Ideal S1024 .f32) (a5 : FVec Ideal S1x4096x1024 .f32)

theorem at_v8 (i : Fin 4096) : val_main_v8 (F := Ideal) a0 (ix3 0 i 0) = Rms.r (eX a0 i) := by
  pointwise [val_main_v8, val_main_v7, val_main_v6, val_main_v5, val_main_v4, val_main_v3, val_main_v2, val_main_v1, val_main_cst, val_main_cst_0, val_main_cst_1, Rms.r, eX]

theorem at_v13 (i : Fin 4096) (k : Fin 1024) : val_main_v13 (F := Ideal) a0 (ix3 0 i k) = eX a0 i k * Rms.r (eX a0 i) := by
  pointwise [val_main_v13, val_main_v12, at_v8, eX]

theorem at_v16 (i : Fin 4096) (k : Fin 1024) : val_main_v16 (F := Ideal) a0 a1 (ix3 0 i k) = eH a0 a1 i k := by
  pointwise [val_main_v16, at_v13, val_main_v15, val_main_v14, val_main_v0, eH, hf, eG]

theorem at_v123 (i : Fin 4096) (k : Fin 1024) : val_main_v123 (F := Ideal) a0 a1 (ix3 0 i k) = eH a0 a1 i k := by
  pointwise [val_main_v123, val_main_v122, val_main_v121, val_main_v120, val_main_v119, val_main_v118, val_main_v117, val_main_v116, val_main_v115, val_main_v114, val_main_v113,
    val_main_v112, val_main_v111, val_main_v110, val_main_cst_29, val_main_cst_30, val_main_cst_31, Rms.r, eX, eH, hf, eG]

theorem at_v18 (i f : Fin 4096) : val_main_v18 (F := Ideal) a0 a1 a2 (ix3 0 i f) = eA a0 a1 a2 i f := by
  pointwise [val_main_v18, at_v16, val_main_v17, eA, act]

theorem at_v19 (i f : Fin 4096) : val_main_v19 (F := Ideal) a0 a1 a2 (ix3 0 i f) = max (eA a0 a1 a2 i f) 0 := by
  pointwise [val_main_v19, at_v18, val_main_call0_v0, val_main_call0_cst]

theorem at_v109 (i f : Fin 4096) : val_main_v109 (F := Ideal) a0 a1 a2 (ix3 0 i f) = eU a0 a1 a2 i f := by
  pointwise [val_main_v109, val_main_v108, at_v18, val_main_call1_v0, val_main_call1_cst, eU, Mlp.sq]

theorem at_v28 (i : Fin 4096) (j : Fin 1024) : val_main_v28 (F := Ideal) a0 a1 a2 a3 (ix3 0 i j) = eY a0 a1 a2 a3 i j := by
  pointwise [val_main_v28, val_main_v27, val_main_v26, val_main_v23, at_v19, eY, Mlp.out, eU, Mlp.sq, eX]

theorem at_v36 (i : Fin 4096) : val_main_v36 (F := Ideal) a0 a1 a2 a3 (ix3 0 i 0) = Rms.r (eY a0 a1 a2 a3 i) := by
  pointwise [val_main_v36, val_main_v35, val_main_v34, val_main_v33, val_main_v32, val_main_v31, val_main_v30, val_main_v29, at_v28, val_main_cst_6, val_main_cst_7, val_main_cst_8, Rms.r]

theorem at_v41 (i : Fin 4096) (j : Fin 1024) : val_main_v41 (F := Ideal) a0 a1 a2 a3 (ix3 0 i j) = eY a0 a1 a2 a3 i j * Rms.r (eY a0 a1 a2 a3 i) := by
  pointwise [val_main_v41, val_main_v40, at_v36, at_v28]

theorem at_v45 (i : Fin 4096) (j : Fin 1024) : val_main_v45 (F := Ideal) a0 a1 a2 a3 a4 a5 (ix3 0 i j) = err (eY a0 a1 a2 a3 i) (eF a4) (eX a5 i) j := by
  pointwise [val_main_v45, val_main_v44, val_main_v43, val_main_v42, at_v41, Mlp.err, eF, eX]

/-- The reference's gradient by the normed row. -/
def rDy (i : Fin 4096) : Fin 1024 → EReal := fun j =>
  Ideal.div (Ideal.ofBits .f32 0x3F000000#32 * Ideal.ofBits .f32 0x3F800000#32) (Ideal.ofBits .f32 0x44800000#32) * (Ideal.ofBits .f32 0x40000000#32 * err (eY a0 a1 a2 a3 i) (eF a4) (eX a5 i) j)

theorem at_v59 (i : Fin 4096) (j : Fin 1024) : val_main_v59 (F := Ideal) a0 a1 a2 a3 a4 a5 (ix3 0 i j) = rDy a0 a1 a2 a3 a4 a5 i j := by
  pointwise [val_main_v59, val_main_v58, val_main_v57, val_main_v56, val_main_v55, val_main_v54, val_main_v48, val_main_v47, at_v45, val_main_cst_10, val_main_cst_15, val_main_cst_16,
    val_main_cst_17, rDy]

theorem at_v53 (z : S_.Idx) : val_main_v53 (F := Ideal) a0 a1 a2 a3 a4 a5 z = Ideal.ofBits .f32 0x3F000000#32 * ∑ i : Fin 4096, eLs a0 a1 a2 a3 a4 a5 i := by
  pointwise [val_main_v53, val_main_v52, val_main_v51, val_main_v50, val_main_v49, val_main_v46, at_v45, val_main_cst_11, val_main_cst_12, val_main_cst_13, val_main_cst_14, eLs, Mlp.ls,
    Fin.sum_univ_one]

theorem at_v65 (j : Fin 1024) : val_main_v65 (F := Ideal) a0 a1 a2 a3 a4 a5 (ix1 j)
    = ∑ i : Fin 4096, eY a0 a1 a2 a3 i j * Rms.r (eY a0 a1 a2 a3 i) * rDy a0 a1 a2 a3 a4 a5 i j := by
  unfold val_main_v65
  show Ideal.hostReduceAdd _ (val_main_v62 (F := Ideal) a0 a1 a2 a3 a4 a5) _ _ = _
  rw [Common.hostReduceAdd_01 _ rfl _ _ (ix1 j) j (fun a => by match a with | ⟨0, _⟩ => rfl)]
  pointwise [Fin.sum_univ_one, val_main_v62, val_main_v61, val_main_v60, at_v41, at_v59, val_main_cst_18, val_main_cst_19]

theorem at_v64 (i : Fin 4096) (j : Fin 1024) : val_main_v64 (F := Ideal) a0 a1 a2 a3 a4 a5 (ix3 0 i j) = rDy a0 a1 a2 a3 a4 a5 i j * eF a4 j := by
  pointwise [val_main_v64, val_main_v63, val_main_v42, at_v59, eF]

theorem at_v74 (i : Fin 4096) : val_main_v74 (F := Ideal) a0 a1 a2 a3 a4 a5 (ix1 i) = Rms.m2 (eY a0 a1 a2 a3 i) (rDy a0 a1 a2 a3 a4 a5 i) (eF a4) := by
  unfold val_main_v74
  show Ideal.hostReduceAdd _ (val_main_v73 (F := Ideal) a0 a1 a2 a3 a4 a5) _ _ = _
  rw [Common.hostReduceAdd_02 _ rfl _ _ (ix1 i) i (fun a => by match a with | ⟨0, _⟩ => rfl)]
  pointwise [Fin.sum_univ_one, val_main_v73, val_main_v72, val_main_v71, val_main_v68, val_main_v67, val_main_v66, at_v64, at_v28, val_main_v39, val_main_v38, val_main_v37, at_v36,
    val_main_v35, val_main_v34, val_main_v33, val_main_v32, val_main_v31, val_main_v30, val_main_v29, val_main_cst_6, val_main_cst_7, val_main_cst_8, val_main_cst_9, val_main_cst_20,
    val_main_cst_21, val_main_cst_22, Rms.m2]

theorem at_v80 (i : Fin 4096) (j : Fin 1024) : val_main_v80 (F := Ideal) a0 a1 a2 a3 a4 a5 (ix3 0 i j)
    = rDy a0 a1 a2 a3 a4 a5 i j * eF a4 j * Rms.r (eY a0 a1 a2 a3 i) + eY a0 a1 a2 a3 i j * Rms.m2 (eY a0 a1 a2 a3 i) (rDy a0 a1 a2 a3 a4 a5 i) (eF a4)
      + Rms.m2 (eY a0 a1 a2 a3 i) (rDy a0 a1 a2 a3 a4 a5 i) (eF a4) * eY a0 a1 a2 a3 i j := by
  pointwise [val_main_v80, val_main_v79, val_main_v78, val_main_v77, val_main_v76, val_main_v75, at_v74, val_main_v70, val_main_v69, at_v64, at_v28, at_v36]

end Cert.MlpIdeal.Value

end
-- ==== Proof.MlpReal.lean ====
/- At finite rows: every value of the MLP is finite, and the two ways to write its gradients agree. -/
module

public import proofs.«01_k».proof.Proof.Mlp

@[expose] public section

noncomputable section

namespace Cert.Mlp

open Idealize.ShloMosaic

/-- A value that is no infinity. -/
def IsR (a : EReal) : Prop := ∃ r : ℝ, a = r

theorem IsR.add {a b : EReal} (ha : IsR a) (hb : IsR b) : IsR (a + b) := by
  obtain ⟨x, rfl⟩ := ha
  obtain ⟨y, rfl⟩ := hb
  exact ⟨x + y, (EReal.coe_add x y).symm⟩

theorem IsR.sub {a b : EReal} (ha : IsR a) (hb : IsR b) : IsR (a - b) := by
  obtain ⟨x, rfl⟩ := ha
  obtain ⟨y, rfl⟩ := hb
  exact ⟨x - y, (EReal.coe_sub x y).symm⟩

theorem IsR.mul {a b : EReal} (ha : IsR a) (hb : IsR b) : IsR (a * b) := by
  obtain ⟨x, rfl⟩ := ha
  obtain ⟨y, rfl⟩ := hb
  exact ⟨x * y, (EReal.coe_mul x y).symm⟩

theorem IsR.sum {ι : Type*} [Fintype ι] {f : ι → EReal} (hf : ∀ i, IsR (f i)) : IsR (∑ i, f i) := by
  choose g hg using hf
  exact ⟨∑ i, g i, (Finset.sum_congr rfl fun i _ => hg i).trans (Rms.coe_sum g).symm⟩

theorem IsR.relu {a : EReal} (ha : IsR a) : IsR (max a 0) := by
  obtain ⟨x, rfl⟩ := ha
  exact ⟨max x 0, (EReal.coe_strictMono.monotone.map_max (a := x) (b := 0)).symm⟩

theorem IsR.mean {a : EReal} (ha : IsR a) : IsR (Ideal.div a (Ideal.ofBits .f32 0x44800000#32)) := by
  obtain ⟨x, rfl⟩ := ha
  rw [Rms.c1024, Ideal.div_coe (by norm_num), ← EReal.coe_mul]
  exact ⟨_, rfl⟩

theorem IsR.r {x : Fin 1024 → EReal} (hx : ∀ k, IsR (x k)) : IsR (Rms.r x) := by
  choose X hX using hx
  obtain ⟨t, s, _, _, _, hr⟩ := Rms.r_real X
  rw [funext hX]
  exact ⟨s, hr⟩

theorem IsR.dxk {x h g : Fin 1024 → EReal} (hx : ∀ k, IsR (x k)) (hh : ∀ k, IsR (h k)) (hg : ∀ k, IsR (g k)) (j : Fin 1024) : IsR (Rms.dxk x h g j) := by
  have hr := IsR.r hx
  unfold Rms.dxk
  exact hr.mul (((hh j).mul (hg j)).sub (((hx j).mul hr).mul (IsR.mean (IsR.sum fun k => ((hh k).mul (hg k)).mul ((hx k).mul hr)))))

theorem dxk_two {x h g : Fin 1024 → EReal} (hx : ∀ k, IsR (x k)) (hh : ∀ k, IsR (h k)) (hg : ∀ k, IsR (g k)) (j : Fin 1024) :
    Rms.dxk x h g j = h j * g j * Rms.r x + x j * Rms.m2 x h g + Rms.m2 x h g * x j := by
  choose X hX using hx
  choose H hH using hh
  choose G hG using hg
  have e1 : x = fun k => (X k : EReal) := funext hX
  have e2 : h = fun k => (H k : EReal) := funext hH
  have e3 : g = fun k => (G k : EReal) := funext hG
  subst e1 e2 e3
  exact Rms.dxk_eq X H G j

theorem cHalf : Ideal.ofBits .f32 0x3F000000#32 = ((1 / 2 : ℝ) : EReal) := by
  simp [Ideal.ofBits, Ideal.ieee, -EReal.coe_mul]; norm_num

theorem cOne : Ideal.ofBits .f32 0x3F800000#32 = ((1 : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem cInv : Ideal.ofBits .f32 0x3A800000#32 = ((1 / 1024 : ℝ) : EReal) := by
  simp [Ideal.ofBits, Ideal.ieee, -EReal.coe_mul]; norm_num

theorem cTiny : ∃ e : ℝ, 0 < e ∧ Ideal.ofBits .f32 0x0DA24260#32 = (e : EReal) := by
  refine ⟨10633824 * (1 / 10633823966279326983230456482242756608), by norm_num, ?_⟩
  simp [Ideal.ofBits, Ideal.ieee, -EReal.coe_mul]; norm_num

/-- Half of twice the error's mean, and the error's mean. -/
theorem dy_two {e : EReal} (he : IsR e) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  obtain ⟨x, rfl⟩ := he
  rw [cHalf, cOne, cTwo, cInv, Rms.c1024, Ideal.div_coe (by norm_num)]
  simp only [← EReal.coe_mul]
  congr 1
  ring

/-- A sum of halves. -/
theorem half_sum {ι : Type*} [Fintype ι] {f : ι → EReal} (hf : ∀ i, IsR (f i)) :
    (∑ i, f i * Ideal.ofBits .f32 0x3F000000#32) = Ideal.ofBits .f32 0x3F000000#32 * ∑ i, f i := by
  choose g hg using hf
  rw [cHalf, Finset.sum_congr rfl fun i _ => hg i, ← Rms.coe_sum g, ← EReal.coe_mul, Finset.mul_sum, Rms.coe_sum]
  refine Finset.sum_congr rfl fun i _ => ?_
  rw [hg i, ← EReal.coe_mul, mul_comm]

theorem IsR.sq {a : EReal} (ha : IsR a) : IsR (sq a) := ha.relu.mul ha.relu

theorem IsR.inv : IsR (Ideal.ofBits .f32 0x3A800000#32) := ⟨_, cInv⟩

theorem coe_max (x y : ℝ) : max (x : EReal) (y : EReal) = ((max x y : ℝ) : EReal) := (EReal.coe_strictMono.monotone.map_max (a := x) (b := y)).symm

/-- Where a hidden unit is zero or no smaller than the small constant, its derivative is twice the rectified argument, and finite. -/
theorem slope_real (x : ℝ) (h : sq (x : EReal) = 0 ∨ Ideal.ofBits .f32 0x0DA24260#32 ≤ sq (x : EReal)) :
    slope (sq (x : EReal)) = Ideal.ofBits .f32 0x40000000#32 * max (x : EReal) 0 := by
  obtain ⟨e, he, hE⟩ := cTiny
  have hs : sq (x : EReal) = ((max x 0 * max x 0 : ℝ) : EReal) := by
    unfold sq
    rw [EReal.coe_mul, ← EReal.coe_zero, coe_max]
  rw [hs, hE] at h
  unfold slope
  rw [hs, hE, cTwo, coe_max, ← EReal.coe_zero, coe_max]
  have hm : 0 ≤ max x 0 := le_max_right x 0
  generalize max x 0 = M at h hm
  have hM : M = 0 ∨ e ≤ M * M := by
    rcases h with h | h
    · exact Or.inl (by simpa using (EReal.coe_eq_zero.mp h))
    · exact Or.inr (EReal.coe_le_coe_iff.mp h)
  rcases hM with rfl | hM
  · rw [zero_mul, max_eq_right he.le, Ideal.rsqrt_coe, if_neg he.le.not_gt, if_neg he.ne']
    simp only [← EReal.coe_mul]
    congr 1
    ring
  · rw [max_eq_left hM, Ideal.rsqrt_coe, if_neg (he.le.trans hM).not_gt, if_neg (lt_of_lt_of_le he hM).ne', Real.sqrt_mul_self hm]
    simp only [← EReal.coe_mul]
    congr 1
    have h0 : M ≠ 0 := by
      rintro rfl
      rw [zero_mul] at hM
      exact absurd hM (not_le.mpr he)
    field_simp

theorem slope_eq {a : EReal} (ha : IsR a) (h : sq a = 0 ∨ Ideal.ofBits .f32 0x0DA24260#32 ≤ sq a) :
    slope (sq a) = Ideal.ofBits .f32 0x40000000#32 * max a 0 := by
  obtain ⟨x, rfl⟩ := ha
  exact slope_real x h

theorem IsR.slope {a : EReal} (ha : IsR a) (h : Mlp.sq a = 0 ∨ Ideal.ofBits .f32 0x0DA24260#32 ≤ Mlp.sq a) : IsR (slope (Mlp.sq a)) := by
  rw [slope_eq ha h]
  exact IsR.mul ⟨2, cTwo⟩ ha.relu

theorem IsR.ls {y g t : Fin 1024 → EReal} (he : ∀ j, IsR (err y g t j)) : IsR (ls y g t) := by
  unfold Mlp.ls
  exact IsR.mean (IsR.sum fun j => (he j).mul (he j))

end Cert.Mlp

end
-- ==== Proof.MlpRefB.lean ====
/- The reference's gradients of the MLP, at finite arrays. -/
module

public import proofs.«01_k».proof.Proof.MlpRef
public import proofs.«01_k».proof.Proof.MlpReal
public import proofs.«01_k».proof.Proof.Gen.MlpReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpReferenceIdeal Idealize.ShloMosaic Idealize.ShloMosaic.TcCoe Idealize.SL.Sem
open Idealize.ShloMosaic.Pipeline (Dat)

/-! The reference's gradients of the MLP, at finite arrays. -/

open Cert.Mlp Cert.MlpReferenceIdeal.Read

variable (a0 : FVec Ideal S1x4096x1024 .f32) (a1 : FVec Ideal S1x1024 .f32) (a2 : FVec Ideal S1x1024x4096 .f32) (a3 : FVec Ideal S1x4096x1024 .f32)
  (a4 : FVec Ideal S1024 .f32) (a5 : FVec Ideal S1x4096x1024 .f32)

/-- What the claim asks of the arrays. -/
structure Good : Prop where
  h0 : ∀ i, IsR (a0 i)
  h1 : ∀ i, IsR (a1 i)
  h2 : ∀ i, IsR (a2 i)
  h3 : ∀ i, IsR (a3 i)
  h4 : ∀ i, IsR (a4 i)
  h5 : ∀ i, IsR (a5 i)
  hu : ∀ i f, eU a0 a1 a2 i f = 0 ∨ Ideal.ofBits .f32 0x0DA24260#32 ≤ eU a0 a1 a2 i f

variable {a0 a1 a2 a3 a4 a5} (H : Good a0 a1 a2 a3 a4 a5)
include H

theorem rX (i : Fin 4096) (k : Fin 1024) : IsR (eX a0 i k) := H.h0 _

theorem rG (k : Fin 1024) : IsR (eG a1 k) := H.h1 _

theorem rF (k : Fin 1024) : IsR (eF a4 k) := H.h4 _

theorem rA (i f : Fin 4096) : IsR (eA a0 a1 a2 i f) :=
  IsR.sum fun k => (((rX H i k).mul (IsR.r (rX H i))).mul (rG H k)).mul (H.h2 (ix3 0 k f))

theorem rY (i : Fin 4096) (j : Fin 1024) : IsR (eY a0 a1 a2 a3 i j) :=
  (rX H i j).add (IsR.sum fun f => (rA H i f).sq.mul (H.h3 _))

theorem rErr (i : Fin 4096) (j : Fin 1024) : IsR (err (eY a0 a1 a2 a3 i) (eF a4) (eX a5 i) j) :=
  (((rY H i j).mul (IsR.r (rY H i))).mul (rF H j)).sub (H.h5 _)

theorem rLs (i : Fin 4096) : IsR (eLs a0 a1 a2 a3 a4 a5 i) := IsR.ls (rErr H i)

theorem dy_eq (i : Fin 4096) : rDy a0 a1 a2 a3 a4 a5 i = eDy a0 a1 a2 a3 a4 a5 i := funext fun j => dy_two (rErr H i j)

theorem rDyR (i : Fin 4096) (j : Fin 1024) : IsR (eDy a0 a1 a2 a3 a4 a5 i j) := (rErr H i j).mul IsR.inv

theorem rD (i : Fin 4096) (j : Fin 1024) : IsR (eD a0 a1 a2 a3 a4 a5 i j) := IsR.dxk (rY H i) (rDyR H i) (rF H) j

theorem at_D (i : Fin 4096) (j : Fin 1024) : val_main_v80 (F := Ideal) a0 a1 a2 a3 a4 a5 (ix3 0 i j) = eD a0 a1 a2 a3 a4 a5 i j := by
  rw [at_v80, dy_eq H]
  exact (dxk_two (rY H i) (rDyR H i) (rF H) j).symm

theorem rDa (i f : Fin 4096) : IsR (eDa a0 a1 a2 a3 a4 a5 i f) :=
  (IsR.sum fun k => (rD H i k).mul (H.h3 _)).mul (IsR.slope (rA H i f) (H.hu i f))

theorem at_Da (i f : Fin 4096) : val_main_v84 (F := Ideal) a0 a1 a2 a3 a4 a5 (ix3 0 i f) = eDa a0 a1 a2 a3 a4 a5 i f := by
  have hs := slope_eq (rA H i f) (H.hu i f)
  pointwise [val_main_v84, val_main_v83, val_main_v82, val_main_v81, val_main_v26, val_main_v25, val_main_v24, val_main_v21, val_main_v20, at_v19, at_v18, at_D H, val_main_cst_3, val_main_cst_5,
    val_main_cst_23, eDa, eU, hs]
  split
  · rfl
  · rw [max_eq_right (not_lt.mp ‹_›), mul_zero, mul_zero]

theorem rDh (i : Fin 4096) (j : Fin 1024) : IsR (eDh a0 a1 a2 a3 a4 a5 i j) := IsR.sum fun f => (rDa H i f).mul (H.h2 _)

theorem at_Dh (i : Fin 4096) (k : Fin 1024) : val_main_v85 (F := Ideal) a0 a1 a2 a3 a4 a5 (ix3 0 i k) = eDh a0 a1 a2 a3 a4 a5 i k := by
  pointwise [val_main_v85, val_main_v17, at_Da H, eDh]

theorem at_v91 (j : Fin 1024) : val_main_v91 (F := Ideal) a0 a1 a2 a3 a4 a5 (ix1 j)
    = ∑ i : Fin 4096, eDh a0 a1 a2 a3 a4 a5 i j * (eX a0 i j * Rms.r (eX a0 i)) := by
  unfold val_main_v91
  show Ideal.hostReduceAdd _ (val_main_v88 (F := Ideal) a0 a1 a2 a3 a4 a5) _ _ = _
  rw [Common.hostReduceAdd_01 _ rfl _ _ (ix1 j) j (fun a => by match a with | ⟨0, _⟩ => rfl)]
  pointwise [Fin.sum_univ_one, val_main_v88, val_main_v87, val_main_v86, at_v13, at_Dh H, val_main_cst_24, val_main_cst_25]
  exact Finset.sum_congr rfl fun i _ => mul_comm _ _

theorem at_v90 (i : Fin 4096) (k : Fin 1024) : val_main_v90 (F := Ideal) a0 a1 a2 a3 a4 a5 (ix3 0 i k) = eDh a0 a1 a2 a3 a4 a5 i k * eG a1 k := by
  pointwise [val_main_v90, val_main_v89, val_main_v14, val_main_v0, at_Dh H, eG]

theorem at_v100 (i : Fin 4096) : val_main_v100 (F := Ideal) a0 a1 a2 a3 a4 a5 (ix1 i) = Rms.m2 (eX a0 i) (eDh a0 a1 a2 a3 a4 a5 i) (eG a1) := by
  unfold val_main_v100
  show Ideal.hostReduceAdd _ (val_main_v99 (F := Ideal) a0 a1 a2 a3 a4 a5) _ _ = _
  rw [Common.hostReduceAdd_02 _ rfl _ _ (ix1 i) i (fun a => by match a with | ⟨0, _⟩ => rfl)]
  pointwise [Fin.sum_univ_one, val_main_v99, val_main_v98, val_main_v97, val_main_v94, val_main_v93, val_main_v92, at_v90 H, val_main_v11, val_main_v10, val_main_v9, at_v8,
    val_main_v7, val_main_v6, val_main_v5, val_main_v4, val_main_v3, val_main_v2, val_main_v1, val_main_cst, val_main_cst_0, val_main_cst_1, val_main_cst_2, val_main_cst_26,
    val_main_cst_27, val_main_cst_28, Rms.m2, eX]

theorem at_v138 (i : Fin 4096) (j : Fin 1024) : val_main_v138 (F := Ideal) a0 a1 a2 a3 a4 a5 (ix3 0 i j) = eDx a0 a1 a2 a3 a4 a5 i j := by
  unfold eDx
  rw [dxk_two (rX H i) (rDh H i) (rG H) j]
  pointwise [val_main_v138, val_main_v106, val_main_v105, val_main_v104, val_main_v103, val_main_v102, val_main_v101, at_v100 H, val_main_v96, val_main_v95, at_v90 H, at_v8, at_D H, eX]

end Cert.MlpIdeal.Value

end
-- ==== Proof.MlpPay.lean ====
/- What the two MLP kernels store, entry by entry. -/
module

public import proofs.«01_k».proof.Proof.Mlp
public import proofs.«01_k».proof.Proof.Gen.MlpIdeal.Skeleton
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! What the two kernels store, entry by entry, in terms of what they load. -/

open Cert.Mlp

def hrow (x : Vec Ideal S512x1024 .f32) (g : Vec Ideal S1x1024 .f32) (i : Fin 512) : Fin 1024 → EReal := hf (fun k => x (ix2 i k)) (fun k => g (ix2 0 k))

theorem pay5_at (x : Vec Ideal S512x1024 .f32) (g : Vec Ideal S1x1024 .f32) (i : Fin 512) (k : Fin 1024) :
    k0_pay5 (F := Ideal) x g (ix2 i k) = hrow x g i k := by
  pointwise [k0_pay5, k0_pay4, hrow, Mlp.hf, Rms.r]

def hidB (h : Vec Ideal S512x1024 .bf16) (w : Vec Ideal S1x1024x512 .bf16) (i e : Fin 512) : EReal :=
  sq (act (fun k => h (ix2 i k)) (fun k => w (ix3 0 k e)))

theorem pay6_at (x : Vec Ideal S512x1024 .f32) (g : Vec Ideal S1x1024 .f32) (w : Vec Ideal S1x1024x512 .bf16) (i e : Fin 512) :
    k0_pay6 (F := Ideal) x g w (ix2 i e) = hidB (k0_pay5 x g) w i e := by
  pointwise [k0_pay6, hidB, Mlp.sq, Mlp.act]

theorem pay8_at (x : Vec Ideal S512x1024 .f32) (g : Vec Ideal S1x1024 .f32) (w : Vec Ideal S1x1024x512 .bf16) (i e : Fin 512) :
    k0_pay8 (F := Ideal) (k0_pay7 x g w) (ix2 i e) = hidB (k0_pay5 x g) w i e := by
  pointwise [k0_pay8, k0_pay7, hidB, Mlp.sq, Mlp.act]

theorem pay9_at (h : Vec Ideal S512x1024 .bf16) (w : Vec Ideal S1x1024x512 .bf16) (i e : Fin 512) :
    k0_pay9 (F := Ideal) h w (ix2 i e) = hidB h w i e := by
  pointwise [k0_pay9, hidB, Mlp.sq, Mlp.act]

theorem pay10_at (h : Vec Ideal S512x1024 .bf16) (w : Vec Ideal S1x1024x512 .bf16) (i e : Fin 512) :
    k0_pay10 (F := Ideal) h w (ix2 i e) = hidB h w i e := by
  pointwise [k0_pay10, hidB, Mlp.sq, Mlp.act]

theorem pay13_at (h : Vec Ideal S512x1024 .bf16) (w : Vec Ideal S1x1024x512 .bf16) (i e : Fin 512) :
    k0_pay13 (F := Ideal) (k0_pay11 h w) (ix2 i e) = hidB h w i e := by
  pointwise [k0_pay13, k0_pay11, hidB, Mlp.sq, Mlp.act]

theorem pay12_at (h : Vec Ideal S512x1024 .bf16) (w : Vec Ideal S1x1024x512 .bf16) (i e : Fin 512) :
    k0_pay12 (F := Ideal) h w (ix2 i e) = hidB h w i e := by
  pointwise [k0_pay12, hidB, Mlp.sq, Mlp.act]

theorem pay14_at (h : Vec Ideal S512x1024 .bf16) (w : Vec Ideal S1x1024x512 .bf16) (i e : Fin 512) :
    k0_pay14 (F := Ideal) h w (ix2 i e) = hidB h w i e := by
  pointwise [k0_pay14, hidB, Mlp.sq, Mlp.act]

theorem pay15_at (h : Vec Ideal S512x1024 .bf16) (w : Vec Ideal S1x1024x512 .bf16) (i e : Fin 512) :
    k0_pay15 (F := Ideal) h w (ix2 i e) = hidB h w i e := by
  pointwise [k0_pay15, hidB, Mlp.sq, Mlp.act]

def outB (x : Vec Ideal S512x1024 .f32) (u : Vec Ideal S512x4096 .bf16) (w : Vec Ideal S4096x1024 .bf16) (i : Fin 512) : Fin 1024 → EReal :=
  out (fun k => x (ix2 i k)) (fun f => u (ix2 i f)) (fun f j => w (ix2 f j))

theorem pay16_at (x : Vec Ideal S512x1024 .f32) (u : Vec Ideal S512x4096 .bf16) (w : Vec Ideal S4096x1024 .bf16) (i : Fin 512) (j : Fin 1024) :
    k0_pay16 (F := Ideal) (k0_pay4 x) u w (ix2 i j) = outB x u w i j := by
  pointwise [k0_pay16, k0_pay4, outB, Mlp.out]

theorem pay18_at (x : FVec Ideal S512x1024 .f32) (u : Vec Ideal S512x4096 .bf16) (w : Vec Ideal S4096x1024 .bf16) (i : Fin 512) :
    k0_pay18 (F := Ideal) x u w (ix1 i) = ∑ k : Fin 1024, k0_pay16 (F := Ideal) x u w (ix2 i k) * k0_pay16 (F := Ideal) x u w (ix2 i k) := by
  pointwise [k0_pay18]

theorem pay1_at (Y : FVec Ideal S512x1024 .f32) (S : FVec Ideal S512 .f32) (g : Vec Ideal S1x1024 .f32) (T : Vec Ideal S512x1024 .f32)
    (hs : ∀ i, S (ix1 i) = ∑ k : Fin 1024, Y (ix2 i k) * Y (ix2 i k)) (i : Fin 512) (j : Fin 1024) :
    k0_pay1 (F := Ideal) (k0_pay19 S) (k0_pay20 Y S) (k0_pay25 Y (k0_pay17 g) S T) (k0_pay26 Y (k0_pay17 g) S T) (ix2 i j)
      = Rms.dxk (fun k => Y (ix2 i k)) (dy (fun k => Y (ix2 i k)) (fun k => g (ix2 0 k)) (fun k => T (ix2 i k))) (fun k => g (ix2 0 k)) j := by
  pointwise [k0_pay1, k0_pay19, k0_pay20, k0_pay25, k0_pay26, k0_pay17, k0_pay23, k0_pay21, hs, Rms.dxk, Rms.r, Mlp.dy, Mlp.err]

theorem pay2_at (Y : FVec Ideal S512x1024 .f32) (S : FVec Ideal S512 .f32) (g : Vec Ideal S1x1024 .f32) (T : Vec Ideal S512x1024 .f32)
    (hs : ∀ i, S (ix1 i) = ∑ k : Fin 1024, Y (ix2 i k) * Y (ix2 i k)) (i : Fin 512) (j : Fin 1024) :
    k0_pay2 (F := Ideal) (k0_pay19 S) (k0_pay20 Y S) (k0_pay25 Y (k0_pay17 g) S T) (k0_pay26 Y (k0_pay17 g) S T) (ix2 i j)
      = Rms.dxk (fun k => Y (ix2 i k)) (dy (fun k => Y (ix2 i k)) (fun k => g (ix2 0 k)) (fun k => T (ix2 i k))) (fun k => g (ix2 0 k)) j := by
  refine Eq.trans ?_ (pay1_at Y S g T hs i j)
  pointwise [k0_pay2]

theorem pay22_at (Y : FVec Ideal S512x1024 .f32) (S : FVec Ideal S512 .f32) (g : Vec Ideal S1x1024 .f32) (T : Vec Ideal S512x1024 .f32) (s : Vec Ideal S1x1024 .f32)
    (hs : ∀ i, S (ix1 i) = ∑ k : Fin 1024, Y (ix2 i k) * Y (ix2 i k)) (j : Fin 1024) :
    k0_pay22 (F := Ideal) Y (k0_pay17 g) S T s (ix2 0 j)
      = s (ix2 0 j) + (∑ i : Fin 512, ls (fun k => Y (ix2 i k)) (fun k => g (ix2 0 k)) (fun k => T (ix2 i k))) * Ideal.ofBits .f32 0x3F000000#32 := by
  pointwise [k0_pay22, k0_pay21, k0_pay20, k0_pay19, k0_pay17, hs, Mlp.ls, Mlp.err, Rms.r]

theorem pay24_at (Y : FVec Ideal S512x1024 .f32) (S : FVec Ideal S512 .f32) (g : Vec Ideal S1x1024 .f32) (T : Vec Ideal S512x1024 .f32) (s : Vec Ideal S1x1024 .f32)
    (hs : ∀ i, S (ix1 i) = ∑ k : Fin 1024, Y (ix2 i k) * Y (ix2 i k)) (j : Fin 1024) :
    k0_pay24 (F := Ideal) Y (k0_pay17 g) S T s (ix2 0 j)
      = s (ix2 0 j) + ∑ i : Fin 512, dy (fun k => Y (ix2 i k)) (fun k => g (ix2 0 k)) (fun k => T (ix2 i k)) j * (Y (ix2 i j) * Rms.r (fun k => Y (ix2 i k))) := by
  pointwise [k0_pay24, k0_pay23, k0_pay21, k0_pay20, k0_pay19, k0_pay17, hs, Mlp.dy, Mlp.err, Rms.r]

def daB (d : Vec Ideal S256x1024 .f32) (w : Vec Ideal S1x512x1024 .bf16) (u : Vec Ideal S256x512 .bf16) (i : Fin 256) (e : Fin 512) : EReal :=
  (∑ k : Fin 1024, d (ix2 i k) * w (ix3 0 e k)) * slope (u (ix2 i e))

theorem b9_at (d : Vec Ideal S256x1024 .f32) (w : Vec Ideal S1x512x1024 .bf16) (u : Vec Ideal S256x512 .bf16) (i : Fin 256) (e : Fin 512) :
    k1_pay9 (F := Ideal) d w u (ix2 i e) = daB d w u i e := by
  pointwise [k1_pay9, k1_pay7, k1_pay6, daB, Mlp.slope]

theorem b12_at (d : Vec Ideal S256x1024 .f32) (w : Vec Ideal S1x512x1024 .bf16) (u : Vec Ideal S256x512 .bf16) (i : Fin 256) (e : Fin 512) :
    k1_pay12 (F := Ideal) (k1_pay8 d w) u (ix2 i e) = daB d w u i e := by
  pointwise [k1_pay12, k1_pay8, k1_pay7, k1_pay6, daB, Mlp.slope]

theorem b15_at (d : Vec Ideal S256x1024 .f32) (w : Vec Ideal S1x512x1024 .bf16) (u : Vec Ideal S256x512 .bf16) (i : Fin 256) (e : Fin 512) :
    k1_pay15 (F := Ideal) (k1_pay7 d) (k1_pay11 w) u (ix2 i e) = daB d w u i e := by
  pointwise [k1_pay15, k1_pay11, k1_pay7, k1_pay6, daB, Mlp.slope]

theorem b17_at (d : Vec Ideal S256x1024 .f32) (w : Vec Ideal S1x512x1024 .bf16) (u : Vec Ideal S256x512 .bf16) (i : Fin 256) (e : Fin 512) :
    k1_pay17 (F := Ideal) (k1_pay14 (k1_pay7 d) w) u (ix2 i e) = daB d w u i e := by
  pointwise [k1_pay17, k1_pay14, k1_pay7, k1_pay6, daB, Mlp.slope]

theorem b20_at (d : Vec Ideal S256x1024 .f32) (w : Vec Ideal S1x512x1024 .bf16) (u : Vec Ideal S256x512 .bf16) (i : Fin 256) (e : Fin 512) :
    k1_pay20 (F := Ideal) (k1_pay7 d) w u (ix2 i e) = daB d w u i e := by
  pointwise [k1_pay20, k1_pay7, k1_pay6, daB, Mlp.slope]

theorem b22_at (d : Vec Ideal S256x1024 .f32) (w : Vec Ideal S1x512x1024 .bf16) (u : Vec Ideal S256x512 .bf16) (i : Fin 256) (e : Fin 512) :
    k1_pay22 (F := Ideal) (k1_pay19 (k1_pay7 d) w) u (ix2 i e) = daB d w u i e := by
  pointwise [k1_pay22, k1_pay19, k1_pay7, k1_pay6, daB, Mlp.slope]

theorem b27_at (d : Vec Ideal S256x1024 .f32) (w : Vec Ideal S1x512x1024 .bf16) (u : Vec Ideal S256x512 .bf16) (i : Fin 256) (e : Fin 512) :
    k1_pay27 (F := Ideal) (k1_pay21 (k1_pay7 d) w) (k1_pay25 u) (k1_pay26 u) (ix2 i e) = daB d w u i e := by
  pointwise [k1_pay27, k1_pay21, k1_pay25, k1_pay26, k1_pay7, k1_pay6, daB, Mlp.slope]

theorem b28_at (d : Vec Ideal S256x1024 .f32) (w : Vec Ideal S1x512x1024 .bf16) (u : Vec Ideal S256x512 .bf16) (i : Fin 256) (e : Fin 512) :
    k1_pay28 (F := Ideal) (k1_pay24 (k1_pay7 d) w) u (ix2 i e) = daB d w u i e := by
  pointwise [k1_pay28, k1_pay24, k1_pay7, k1_pay6, daB, Mlp.slope]

def bl (A : FVec Ideal S256x512 .bf16) (w : Vec Ideal S1x1024x512 .bf16) (i : Fin 256) (k : Fin 1024) : EReal := ∑ e : Fin 512, A (ix2 i e) * w (ix3 0 k e)

theorem b10_at (d : Vec Ideal S256x1024 .f32) (w : Vec Ideal S1x512x1024 .bf16) (u : Vec Ideal S256x512 .bf16) (v : Vec Ideal S1x1024x512 .bf16) (i : Fin 256) (k : Fin 1024) :
    k1_pay10 (F := Ideal) d w u v (ix2 i k) = bl (k1_pay9 d w u) v i k := by
  pointwise [k1_pay10, bl]

theorem b13_at (A : FVec Ideal S256x512 .f32) (D : FVec Ideal S256x1024 .f32) (u : Vec Ideal S256x512 .bf16) (v : Vec Ideal S1x1024x512 .bf16) (i : Fin 256) (k : Fin 1024) :
    k1_pay13 (F := Ideal) A D u v (ix2 i k) = D (ix2 i k) + bl (k1_pay12 A u) v i k := by
  pointwise [k1_pay13, bl]

theorem b18_at (D : FVec Ideal S256x1024 .f32) (A : FVec Ideal S256x512 .f32) (B : FVec Ideal S256x512 .bf16) (w : Vec Ideal S1x1024x512 .bf16) (u : Vec Ideal S256x512 .bf16)
    (v : Vec Ideal S1x1024x512 .bf16) (i : Fin 256) (k : Fin 1024) :
    k1_pay18 (F := Ideal) D A B (k1_pay16 w) u v (ix2 i k) = D (ix2 i k) + bl B w i k + bl (k1_pay17 A u) v i k := by
  pointwise [k1_pay18, k1_pay16, bl]

theorem b23_at (D : FVec Ideal S256x1024 .f32) (A : FVec Ideal S256x512 .f32) (B : FVec Ideal S256x512 .bf16) (w : Vec Ideal S1x1024x512 .bf16) (u : Vec Ideal S256x512 .bf16)
    (v : Vec Ideal S1x1024x512 .bf16) (i : Fin 256) (k : Fin 1024) :
    k1_pay23 (F := Ideal) D A B w u v (ix2 i k) = D (ix2 i k) + bl B w i k + bl (k1_pay22 A u) v i k := by
  pointwise [k1_pay23, bl]

theorem b29_at (C : FVec Ideal S256x512 .f32) (D : FVec Ideal S256x1024 .f32) (A E G : FVec Ideal S256x512 .f32) (w : Vec Ideal S1x1024x512 .bf16) (u : Vec Ideal S256x512 .bf16)
    (v : Vec Ideal S1x1024x512 .bf16) (i : Fin 256) (k : Fin 1024) :
    k1_pay29 (F := Ideal) C D A E G w u v (ix2 i k) = D (ix2 i k) + bl (k1_pay27 C E G) w i k + bl (k1_pay28 A u) v i k := by
  pointwise [k1_pay29, bl]

theorem b3_at (d : Vec Ideal S256x1024 .f32) (D : FVec Ideal S256x1024 .f32) (x : Vec Ideal S256x1024 .f32) (g : Vec Ideal S1x1024 .f32) (i : Fin 256) (j : Fin 1024) :
    k1_pay3 (F := Ideal) (k1_pay6 d) D (k1_pay30 x) g (k1_pay31 x) (ix2 i j)
      = d (ix2 i j) + Rms.dxk (fun k => x (ix2 i k)) (fun k => D (ix2 i k)) (fun k => g (ix2 0 k)) j := by
  pointwise [k1_pay3, k1_pay6, k1_pay30, k1_pay31, k1_pay2, k1_pay1, Rms.dxk, Rms.r]

theorem b4_at (D : FVec Ideal S256x1024 .f32) (x : Vec Ideal S256x1024 .f32) (s : Vec Ideal S1x1024 .f32) (j : Fin 1024) :
    k1_pay4 (F := Ideal) D (k1_pay30 x) (k1_pay31 x) s (ix2 0 j)
      = s (ix2 0 j) + ∑ i : Fin 256, D (ix2 i j) * (x (ix2 i j) * Rms.r (fun k => x (ix2 i k))) := by
  pointwise [k1_pay4, k1_pay30, k1_pay31, k1_pay2, k1_pay1, Rms.r]

theorem zero3 (y : S8x1024.Idx) : k0_pay3 (F := Ideal) y = (0 : EReal) := by
  pointwise [k0_pay3]

theorem zero5 (y : S8x1024.Idx) : k1_pay5 (F := Ideal) y = (0 : EReal) := by
  pointwise [k1_pay5]

end Cert.MlpIdeal.Value

end
-- ==== Proof.Cols.lean ====
/- Arrays of 4096 columns, stored and loaded in eight parts of 512 columns. -/
module

public import proofs.«01_k».proof.Proof.Common

@[expose] public section

noncomputable section

namespace Cert.Cols

open Idealize.ShloMosaic Cert.Common

/-- A column's part, and its place in the part. -/
def hd (j : Fin 4096) : Fin 8 := ⟨j / 512, by omega⟩

def ln (j : Fin 4096) : Fin 512 := ⟨j % 512, by omega⟩

def fl (h : Fin 8) (e : Fin 512) : Fin 4096 := ⟨512 * h + e, by omega⟩

theorem hd_fl (h : Fin 8) (e : Fin 512) : hd (fl h e) = h := Fin.ext (by show (512 * (h : Nat) + e) / 512 = h; omega)

theorem ln_fl (h : Fin 8) (e : Fin 512) : ln (fl h e) = e := Fin.ext (by show (512 * (h : Nat) + e) % 512 = e; omega)

theorem fl_hd (j : Fin 4096) : fl (hd j) (ln j) = j := Fin.ext (by show 512 * ((j : Nat) / 512) + j % 512 = j; omega)

/-- One of the column parts stored, at a column: the part in its own columns, the earlier stores elsewhere. -/
theorem canon_col {Val : EltTy → Type} {e : EltTy} [∀ e, Nonempty (Val e)] {R : Nat} (h : Fin 8) (o : Nat) (ho : o = 512 * h)
    (inb : ∀ a, (![0, o] : Fin 2 → Nat) a + (![R, 512] : Fin 2 → Nat) a ≤ (⟨2, ![R, 4096]⟩ : Shape).size a)
    (w : (⟨2, ![R, 512]⟩ : Shape).Idx → Val e) (f : Fin R → Fin 512 → Val e) (hw : ∀ i k, w (ix2 i k) = f i k)
    (L : List (View.Piece Val ⟨2, ![R, 4096]⟩ e)) (i : Fin R) (j : Fin 4096) :
    View.canon (s := ⟨2, ![R, 4096]⟩) (⟨Rect.unit ![0, o] ![R, 512] inb, w⟩ :: L) (ix2 i j)
      = if hd j = h then f i (ln j) else View.canon (s := ⟨2, ![R, 4096]⟩) L (ix2 i j) := by
  have hi : (i : Nat) < R := i.isLt
  rw [canon_top (S := ⟨2, ![R, 4096]⟩) ![0, o] ![R, 512]]
  by_cases hj : hd j = h
  · have hj' : (j : Nat) / 512 = h := congrArg Fin.val hj
    rw [if_pos hj, dif_pos (fun a => by match a with
      | ⟨0, _⟩ => exact ⟨Nat.zero_le _, by show (i : Nat) < 0 + R; omega⟩
      | ⟨1, _⟩ => exact ⟨by show o ≤ (j : Nat); omega, by show (j : Nat) < o + 512; omega⟩), ← hw]
    congr 1
    funext a
    apply Fin.ext
    match a with
    | ⟨0, _⟩ => rfl
    | ⟨1, _⟩ => show (j : Nat) - o = j % 512; omega
  · have hj' : ¬ (j : Nat) / 512 = h := fun hh => hj (Fin.ext hh)
    rw [if_neg hj, dif_neg (fun hh => by
      have h1 : o ≤ (j : Nat) := (hh 1).1
      have h2 : (j : Nat) < o + 512 := (hh 1).2
      omega)]

/-- Eight column parts, read back at a column. -/
theorem canon_cols {Val : EltTy → Type} {e : EltTy} [∀ e, Nonempty (Val e)] {R : Nat} (f : Fin 8 → Fin R → Fin 512 → Val e)
    (inb7 : ∀ a, (![0, 3584] : Fin 2 → Nat) a + (![R, 512] : Fin 2 → Nat) a ≤ (⟨2, ![R, 4096]⟩ : Shape).size a)
    (inb6 : ∀ a, (![0, 3072] : Fin 2 → Nat) a + (![R, 512] : Fin 2 → Nat) a ≤ (⟨2, ![R, 4096]⟩ : Shape).size a)
    (inb5 : ∀ a, (![0, 2560] : Fin 2 → Nat) a + (![R, 512] : Fin 2 → Nat) a ≤ (⟨2, ![R, 4096]⟩ : Shape).size a)
    (inb4 : ∀ a, (![0, 2048] : Fin 2 → Nat) a + (![R, 512] : Fin 2 → Nat) a ≤ (⟨2, ![R, 4096]⟩ : Shape).size a)
    (inb3 : ∀ a, (![0, 1536] : Fin 2 → Nat) a + (![R, 512] : Fin 2 → Nat) a ≤ (⟨2, ![R, 4096]⟩ : Shape).size a)
    (inb2 : ∀ a, (![0, 1024] : Fin 2 → Nat) a + (![R, 512] : Fin 2 → Nat) a ≤ (⟨2, ![R, 4096]⟩ : Shape).size a)
    (inb1 : ∀ a, (![0, 512] : Fin 2 → Nat) a + (![R, 512] : Fin 2 → Nat) a ≤ (⟨2, ![R, 4096]⟩ : Shape).size a)
    (inb0 : ∀ a, (![0, 0] : Fin 2 → Nat) a + (![R, 512] : Fin 2 → Nat) a ≤ (⟨2, ![R, 4096]⟩ : Shape).size a)
    (W7 W6 W5 W4 W3 W2 W1 W0 : (⟨2, ![R, 512]⟩ : Shape).Idx → Val e)
    (h7 : ∀ i k, W7 (ix2 i k) = f 7 i k) (h6 : ∀ i k, W6 (ix2 i k) = f 6 i k) (h5 : ∀ i k, W5 (ix2 i k) = f 5 i k) (h4 : ∀ i k, W4 (ix2 i k) = f 4 i k) (h3 : ∀ i k, W3 (ix2 i k) = f 3 i k) (h2 : ∀ i k, W2 (ix2 i k) = f 2 i k) (h1 : ∀ i k, W1 (ix2 i k) = f 1 i k) (h0 : ∀ i k, W0 (ix2 i k) = f 0 i k)
    (L : List (View.Piece Val ⟨2, ![R, 4096]⟩ e)) (i : Fin R) (j : Fin 4096) :
    View.canon (s := ⟨2, ![R, 4096]⟩) (⟨Rect.unit ![0, 3584] ![R, 512] inb7, W7⟩ :: ⟨Rect.unit ![0, 3072] ![R, 512] inb6, W6⟩ :: ⟨Rect.unit ![0, 2560] ![R, 512] inb5, W5⟩ :: ⟨Rect.unit ![0, 2048] ![R, 512] inb4, W4⟩ :: ⟨Rect.unit ![0, 1536] ![R, 512] inb3, W3⟩ :: ⟨Rect.unit ![0, 1024] ![R, 512] inb2, W2⟩ :: ⟨Rect.unit ![0, 512] ![R, 512] inb1, W1⟩ :: ⟨Rect.unit ![0, 0] ![R, 512] inb0, W0⟩ :: L) (ix2 i j) = f (hd j) i (ln j) := by
  rw [canon_col 7 3584 rfl inb7 W7 _ h7, canon_col 6 3072 rfl inb6 W6 _ h6, canon_col 5 2560 rfl inb5 W5 _ h5, canon_col 4 2048 rfl inb4 W4 _ h4, canon_col 3 1536 rfl inb3 W3 _ h3, canon_col 2 1024 rfl inb2 W2 _ h2, canon_col 1 512 rfl inb1 W1 _ h1, canon_col 0 0 rfl inb0 W0 _ h0]
  generalize hd j = h
  match h with
  | 0 => rfl
  | 1 => rfl
  | 2 => rfl
  | 3 => rfl
  | 4 => rfl
  | 5 => rfl
  | 6 => rfl
  | 7 => rfl

/-- A load of a part's columns. -/
theorem ld_col {Val : EltTy → Type} {e : EltTy} {R : Nat} (h : Fin 8) (o : Nat) (ho : o = 512 * h)
    (inb : ∀ a, (![0, o] : Fin 2 → Nat) a + (![R, 512] : Fin 2 → Nat) a ≤ (⟨2, ![R, 4096]⟩ : Shape).size a)
    (X : (⟨2, ![R, 4096]⟩ : Shape).Idx → Val e) (i : Fin R) (k : Fin 512) :
    View.ld (S := ⟨2, ![R, 4096]⟩) X (Rect.unit ![0, o] ![R, 512] inb) (ix2 i k) = X (ix2 i (fl h k)) :=
  View.ld_unit_apply_of X _ _ inb _ _ fun a => by
    match a with
    | ⟨0, _⟩ => show (i : Nat) = 0 + i; omega
    | ⟨1, _⟩ => show 512 * (h : Nat) + k = o + k; omega

/-- A load of one of eight matrices. -/
theorem ld_mat {Val : EltTy → Type} {e : EltTy} {A B : Nat} (h : Fin 8) (o : Nat) (ho : o = h)
    (inb : ∀ a, (![o, 0, 0] : Fin 3 → Nat) a + (![1, A, B] : Fin 3 → Nat) a ≤ (⟨3, ![8, A, B]⟩ : Shape).size a)
    (X : (⟨3, ![8, A, B]⟩ : Shape).Idx → Val e) (i : Fin A) (k : Fin B) :
    View.ld (S := ⟨3, ![8, A, B]⟩) X (Rect.unit ![o, 0, 0] ![1, A, B] inb) (ix3 0 i k) = X (ix3 h i k) :=
  View.ld_unit_apply_of X _ _ inb _ _ fun a => by
    match a with
    | ⟨0, _⟩ => show (h : Nat) = o + 0; omega
    | ⟨1, _⟩ => show (i : Nat) = 0 + i; omega
    | ⟨2, _⟩ => show (k : Nat) = 0 + k; omega

/-- A sum over the columns, part by part. -/
theorem sum_parts {M : Type*} [AddCommMonoid M] (f : Fin 8 → Fin 512 → M) :
    (∑ j : Fin 4096, f (hd j) (ln j)) = ∑ h : Fin 8, ∑ e : Fin 512, f h e := by
  refine (Fin.sum_mul_add_congr fun t k hl => ?_).symm
  have e1 : (⟨t.val * 512 + k.val, hl⟩ : Fin 4096) = fl t k := Fin.ext (by show t.val * 512 + k.val = 512 * t.val + k.val; omega)
  rw [e1, hd_fl, ln_fl]

/-- Two rows stored over a whole array, read back. -/
theorem canon_rows {Val : EltTy → Type} {e : EltTy} [∀ e, Nonempty (Val e)] {R n : Nat}
    (inb0 : ∀ a, (![0, 0] : Fin 2 → Nat) a + (![1, n] : Fin 2 → Nat) a ≤ (⟨2, ![R, n]⟩ : Shape).size a)
    (inb1 : ∀ a, (![1, 0] : Fin 2 → Nat) a + (![1, n] : Fin 2 → Nat) a ≤ (⟨2, ![R, n]⟩ : Shape).size a)
    (inb' : ∀ a, (![0, 0] : Fin 2 → Nat) a + (![R, n] : Fin 2 → Nat) a ≤ (⟨2, ![R, n]⟩ : Shape).size a)
    (w0 w1 : (⟨2, ![1, n]⟩ : Shape).Idx → Val e) (f : (⟨2, ![R, n]⟩ : Shape).Idx → Val e) (y : (⟨2, ![R, n]⟩ : Shape).Idx) :
    View.canon (s := ⟨2, ![R, n]⟩) [⟨Rect.unit ![0, 0] ![1, n] inb0, w0⟩, ⟨Rect.unit ![1, 0] ![1, n] inb1, w1⟩, ⟨Rect.unit ![0, 0] ![R, n] inb', f⟩] y
      = if (y 0 : Nat) < 1 then w0 (ix2 0 (y 1)) else if (y 0 : Nat) < 2 then w1 (ix2 0 (y 1)) else f y := by
  have h1 : (y 1 : Nat) < n := (y 1).isLt
  have h0 : (y 0 : Nat) < R := (y 0).isLt
  rw [canon_top (S := ⟨2, ![R, n]⟩) ![0, 0] ![1, n], canon_top (S := ⟨2, ![R, n]⟩) ![1, 0] ![1, n]]
  by_cases h : (y 0 : Nat) < 1
  · rw [if_pos h, dif_pos (fun a => by match a with
      | ⟨0, _⟩ => exact ⟨Nat.zero_le _, by show (y 0 : Nat) < 0 + 1; omega⟩
      | ⟨1, _⟩ => exact ⟨Nat.zero_le _, by show (y 1 : Nat) < 0 + n; omega⟩)]
    congr 1
    funext a
    apply Fin.ext
    match a with
    | ⟨0, _⟩ => show (y 0 : Nat) - 0 = 0; omega
    | ⟨1, _⟩ => rfl
  · rw [if_neg h, dif_neg (fun hh => h (by have := (hh 0).2; exact this))]
    by_cases h' : (y 0 : Nat) < 2
    · rw [if_pos h', dif_pos (fun a => by match a with
        | ⟨0, _⟩ => exact ⟨by show 1 ≤ (y 0 : Nat); omega, by show (y 0 : Nat) < 1 + 1; omega⟩
        | ⟨1, _⟩ => exact ⟨Nat.zero_le _, by show (y 1 : Nat) < 0 + n; omega⟩)]
      congr 1
      funext a
      apply Fin.ext
      match a with
      | ⟨0, _⟩ => show (y 0 : Nat) - 1 = 0; omega
      | ⟨1, _⟩ => rfl
    · rw [if_neg h', dif_neg (fun hh => h' (by have := (hh 0).2; exact this)), canon_top (S := ⟨2, ![R, n]⟩) ![0, 0] ![R, n], dif_pos (fun a => by match a with
        | ⟨0, _⟩ => exact ⟨Nat.zero_le _, by show (y 0 : Nat) < 0 + R; omega⟩
        | ⟨1, _⟩ => exact ⟨Nat.zero_le _, by show (y 1 : Nat) < 0 + n; omega⟩)]
      congr 1
      funext a
      apply Fin.ext
      match a with
      | ⟨0, _⟩ => rfl
      | ⟨1, _⟩ => rfl

/-- Two rows stored into what an array held, read back. -/
theorem writes_rows {sig : RefSig} {κ : Kind} {sp : Space} {Val : EltTy → Type} {e : EltTy} {R n : Nat} (mr : Memref sig κ sp ⟨2, ![R, n]⟩ e) (hw : mr.IsWhole)
    (X : (⟨2, ![R, n]⟩ : Shape).Idx → Val e)
    (inb0 : ∀ a, (![0, 0] : Fin 2 → Nat) a + (![1, n] : Fin 2 → Nat) a ≤ (⟨2, ![R, n]⟩ : Shape).size a)
    (inb1 : ∀ a, (![1, 0] : Fin 2 → Nat) a + (![1, n] : Fin 2 → Nat) a ≤ (⟨2, ![R, n]⟩ : Shape).size a)
    (w0 w1 : (⟨2, ![1, n]⟩ : Shape).Idx → Val e) (y : (⟨2, ![R, n]⟩ : Shape).Idx) :
    mr.view.read Val (mr.view.writes Val (hw.unread X) [⟨Rect.unit ![0, 0] ![1, n] inb0, w0⟩, ⟨Rect.unit ![1, 0] ![1, n] inb1, w1⟩]) y
      = if (y 0 : Nat) < 1 then w0 (ix2 0 (y 1)) else if (y 0 : Nat) < 2 then w1 (ix2 0 (y 1)) else X y := by
  have h1 : (y 1 : Nat) < n := (y 1).isLt
  have h0 : (y 0 : Nat) < R := (y 0).isLt
  rw [writes_top (S := ⟨2, ![R, n]⟩) mr.view _ ![0, 0] ![1, n], writes_top (S := ⟨2, ![R, n]⟩) mr.view _ ![1, 0] ![1, n]]
  by_cases h : (y 0 : Nat) < 1
  · rw [if_pos h, dif_pos (fun a => by match a with
      | ⟨0, _⟩ => exact ⟨Nat.zero_le _, by show (y 0 : Nat) < 0 + 1; omega⟩
      | ⟨1, _⟩ => exact ⟨Nat.zero_le _, by show (y 1 : Nat) < 0 + n; omega⟩)]
    congr 1
    funext a
    apply Fin.ext
    match a with
    | ⟨0, _⟩ => show (y 0 : Nat) - 0 = 0; omega
    | ⟨1, _⟩ => rfl
  · rw [if_neg h, dif_neg (fun hh => h (by have := (hh 0).2; exact this))]
    by_cases h' : (y 0 : Nat) < 2
    · rw [if_pos h', dif_pos (fun a => by match a with
        | ⟨0, _⟩ => exact ⟨by show 1 ≤ (y 0 : Nat); omega, by show (y 0 : Nat) < 1 + 1; omega⟩
        | ⟨1, _⟩ => exact ⟨Nat.zero_le _, by show (y 1 : Nat) < 0 + n; omega⟩)]
      congr 1
      funext a
      apply Fin.ext
      match a with
      | ⟨0, _⟩ => show (y 0 : Nat) - 1 = 0; omega
      | ⟨1, _⟩ => rfl
    · rw [if_neg h', dif_neg (fun hh => h' (by have := (hh 0).2; exact this)), View.writes_nil, Memref.IsWhole.read_unread]

end Cert.Cols

end
-- ==== Proof.MlpIn.lean ====
/- What the forward call of the MLP is handed. -/
module

public import proofs.«01_k».proof.Proof.MlpPay
public import proofs.«01_k».proof.Proof.MlpRefB
public import proofs.«01_k».proof.Proof.Cols
public import proofs.«01_k».proof.Proof.Gen.MlpIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! What the forward call is handed, and its blocks. -/

open Cert.Mlp Cert.Cols

variable (m : (ℓ : Loc nD τ sig) → Buf (Elt Ideal) ℓ) (ρ : Dev nD → PrngReg)

def vX (c : Dev nD) : Fin 4096 → Fin 1024 → EReal := eX (m ((c : Thread nD τ).loc main_arg0))

def vG (c : Dev nD) : Fin 1024 → EReal := eG (m ((c : Thread nD τ).loc main_arg1))

def mW (a : FVec Ideal S1x1024x4096 .f32) (k : Fin 1024) (f : Fin 4096) : EReal := a (ix3 0 k f)

def vW1 (c : Dev nD) (k : Fin 1024) (f : Fin 4096) : EReal := mW (m ((c : Thread nD τ).loc main_arg2)) k f

def vW2 (c : Dev nD) : Fin 4096 → Fin 1024 → EReal := eX (m ((c : Thread nD τ).loc main_arg3))

def vF (c : Dev nD) : Fin 1024 → EReal := eF (m ((c : Thread nD τ).loc main_arg4))

def vT (c : Dev nD) : Fin 4096 → Fin 1024 → EReal := eX (m ((c : Thread nD τ).loc main_arg5))

theorem host_v3 (a : FVec Ideal S1x1024x4096 .f32) (h : Fin 8) (k : Fin 1024) (e : Fin 512) :
    (truncf (F := Ideal) .bf16 (transpose S8x1024x512 [1, 0, 2] (shapeCast _ (shapeCast _ a shapeCasts_S1x1024x4096_S1024x4096) shapeCasts_S1024x4096_S1024x8x512)
      transposes_S1024x8x512_S8x1024x512_1_0_2) bitsLt_bf16_f32) (ix3 h k e) = mW a k (fl h e) := by
  pointwise [mW, fl]
  exact congrArg (fun f => a (ix3 0 k f)) (Fin.ext (by show (h : Nat) * 512 + e = 512 * h + e; omega))

theorem in_v3 (c : Dev nD) (h : Fin 8) (k : Fin 1024) (e : Fin 512) : V1 m ρ c main_v3 (ix3 h k e) = vW1 m c k (fl h e) := by
  have e : V1 m ρ c main_v3 = truncf (F := Ideal) .bf16 (transpose S8x1024x512 [1, 0, 2] (shapeCast _ (shapeCast _ (m ((c : Thread nD τ).loc main_arg2)) shapeCasts_S1x1024x4096_S1024x4096)
      shapeCasts_S1024x4096_S1024x8x512) transposes_S1024x8x512_S8x1024x512_1_0_2) bitsLt_bf16_f32 := by
    show StableHlo.after hostOps0 (W0 m ρ c) (Proc.devRef .tc main_v3) = _
    after_results
    all_goals rfl
  rw [e]
  exact host_v3 _ h k _

theorem host_v6 (a : FVec Ideal S1x4096x1024 .f32) (h : Fin 8) (e : Fin 512) (k : Fin 1024) :
    (truncf (F := Ideal) .bf16 (shapeCast _ (shapeCast _ a shapeCasts_S1x4096x1024_S4096x1024) shapeCasts_S4096x1024_S8x512x1024) bitsLt_bf16_f32) (ix3 h e k) = eX a (fl h e) k := by
  pointwise [eX, fl]
  exact congrArg (fun f => a (ix3 0 f k)) (Fin.ext (by show (h : Nat) * 512 + e = 512 * h + e; omega))

theorem in_v6 (c : Dev nD) (h : Fin 8) (e : Fin 512) (k : Fin 1024) : V1 m ρ c main_v6 (ix3 h e k) = vW2 m c (fl h e) k := by
  have e' : V1 m ρ c main_v6 = truncf (F := Ideal) .bf16 (shapeCast _ (shapeCast _ (m ((c : Thread nD τ).loc main_arg3)) shapeCasts_S1x4096x1024_S4096x1024) shapeCasts_S4096x1024_S8x512x1024)
      bitsLt_bf16_f32 := by
    show StableHlo.after hostOps0 (W0 m ρ c) (Proc.devRef .tc main_v6) = _
    after_results
    all_goals rfl
  rw [e']
  exact host_v6 _ h e k

theorem host_v7 (a : FVec Ideal S1x4096x1024 .f32) (i : Fin 4096) (k : Fin 1024) : (shapeCast _ a shapeCasts_S1x4096x1024_S4096x1024 : FVec Ideal S4096x1024 .f32) (ix2 i k) = eX a i k := by
  pointwise [eX]

theorem in_v7 (c : Dev nD) (i : Fin 4096) (k : Fin 1024) : V1 m ρ c main_v7 (ix2 i k) = vX m c i k := by
  have e : V1 m ρ c main_v7 = shapeCast _ (m ((c : Thread nD τ).loc main_arg0)) shapeCasts_S1x4096x1024_S4096x1024 := by
    show StableHlo.after hostOps0 (W0 m ρ c) (Proc.devRef .tc main_v7) = _
    after_results
    all_goals rfl
  rw [e]
  exact host_v7 _ i k

theorem host_v8 (a : FVec Ideal S1x4096x1024 .f32) (f : Fin 4096) (k : Fin 1024) :
    (shapeCast S4096x1024 (truncf (F := Ideal) .bf16 (shapeCast _ (shapeCast _ a shapeCasts_S1x4096x1024_S4096x1024) shapeCasts_S4096x1024_S8x512x1024) bitsLt_bf16_f32)
      shapeCasts_S8x512x1024_S4096x1024) (ix2 f k) = eX a f k := by
  pointwise [eX]

theorem in_v8 (c : Dev nD) (f : Fin 4096) (k : Fin 1024) : V1 m ρ c main_v8 (ix2 f k) = vW2 m c f k := by
  have e : V1 m ρ c main_v8 = shapeCast S4096x1024 (truncf (F := Ideal) .bf16 (shapeCast _ (shapeCast _ (m ((c : Thread nD τ).loc main_arg3)) shapeCasts_S1x4096x1024_S4096x1024)
      shapeCasts_S4096x1024_S8x512x1024) bitsLt_bf16_f32) shapeCasts_S8x512x1024_S4096x1024 := by
    show StableHlo.after hostOps0 (W0 m ρ c) (Proc.devRef .tc main_v8) = _
    after_results
    all_goals rfl
  rw [e]
  exact host_v8 _ f k

theorem host_v9 (a : FVec Ideal S1024 .f32) (k : Fin 1024) : (shapeCast _ a shapeCasts_S1024_S1x1024 : FVec Ideal S1x1024 .f32) (ix2 0 k) = eF a k := by
  pointwise [eF]

theorem in_v9 (c : Dev nD) (k : Fin 1024) : V1 m ρ c main_v9 (ix2 0 k) = vF m c k := by
  have e : V1 m ρ c main_v9 = shapeCast _ (m ((c : Thread nD τ).loc main_arg4)) shapeCasts_S1024_S1x1024 := by
    show StableHlo.after hostOps0 (W0 m ρ c) (Proc.devRef .tc main_v9) = _
    after_results
    all_goals rfl
  rw [e]
  exact host_v9 _ k

theorem in_v10 (c : Dev nD) (i : Fin 4096) (k : Fin 1024) : V1 m ρ c main_v10 (ix2 i k) = vT m c i k := by
  have e : V1 m ρ c main_v10 = shapeCast _ (m ((c : Thread nD τ).loc main_arg5)) shapeCasts_S1x4096x1024_S4096x1024 := by
    show StableHlo.after hostOps0 (W0 m ρ c) (Proc.devRef .tc main_v10) = _
    after_results
    all_goals rfl
  rw [e]
  exact host_v7 _ i k

def tok (t : Nat) (ht : t < 8) (i : Fin 512) : Fin 4096 := ⟨512 * t + i, by omega⟩

theorem idx0 : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] ∧ t.val < 8 :=
  (by decide +kernel : ∀ t : Fin grid0.N, _)

theorem lt0 (t : Fin cfg0.N) : t.val < 8 := (idx0 t).2.2.2.2.2.2.2.2.2.2.2

theorem blk0_0 (c : Dev nD) (t : Fin cfg0.N) (i : Fin 512) (k : Fin 1024) :
    iblk0 (V1 m ρ) c 0 t (ix2 i k) = V1 m ρ c main_v7 (ix2 (tok t (lt0 t) i) k) := by
  blk_point [iblk0, idx0 t, tok]

theorem blk0_1 (c : Dev nD) (t : Fin cfg0.N) : iblk0 (V1 m ρ) c 1 t = V1 m ρ c main_arg1 := by
  funext j
  blk_point [iblk0, idx0 t]

theorem blk0_2 (c : Dev nD) (t : Fin cfg0.N) : iblk0 (V1 m ρ) c 2 t = V1 m ρ c main_v3 := by
  funext j
  blk_point [iblk0, idx0 t]

theorem blk0_3 (c : Dev nD) (t : Fin cfg0.N) : iblk0 (V1 m ρ) c 3 t = V1 m ρ c main_v8 := by
  funext j
  blk_point [iblk0, idx0 t]

theorem blk0_4 (c : Dev nD) (t : Fin cfg0.N) : iblk0 (V1 m ρ) c 4 t = V1 m ρ c main_v9 := by
  funext j
  blk_point [iblk0, idx0 t]

theorem blk0_5 (c : Dev nD) (t : Fin cfg0.N) (i : Fin 512) (k : Fin 1024) :
    iblk0 (V1 m ρ) c 5 t (ix2 i k) = V1 m ρ c main_v10 (ix2 (tok t (lt0 t) i) k) := by
  blk_point [iblk0, idx0 t, tok]

end Cert.MlpIdeal.Value

end
-- ==== Proof.MlpFwd.lean ====
/- What the forward call of the MLP leaves after a tile of rows. -/
module

public import proofs.«01_k».proof.Proof.MlpIn
public import proofs.«01_k».proof.Proof.Gen.MlpIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! What the forward call leaves after a tile. -/

open Cert.Mlp Cert.Cols

variable (m : (ℓ : Loc nD τ sig) → Buf (Elt Ideal) ℓ) (ρ : Dev nD → PrngReg)

def vH (c : Dev nD) (i : Fin 4096) : Fin 1024 → EReal := hf (vX m c i) (vG m c)

def vU (c : Dev nD) (i f : Fin 4096) : EReal := sq (act (vH m c i) (fun k => vW1 m c k f))

def vY (c : Dev nD) (i : Fin 4096) : Fin 1024 → EReal := out (vX m c i) (vU m c i) (vW2 m c)

def vDy (c : Dev nD) (i : Fin 4096) : Fin 1024 → EReal := dy (vY m c i) (vF m c) (vT m c i)

def vLs (c : Dev nD) (i : Fin 4096) : EReal := ls (vY m c i) (vF m c) (vT m c i)

def vD (c : Dev nD) (i : Fin 4096) : Fin 1024 → EReal := Rms.dxk (vY m c i) (vDy m c i) (vF m c)

theorem in_arg1 (c : Dev nD) : V1 m ρ c main_arg1 = m ((c : Thread nD τ).loc main_arg1) := W1_args m ρ c main_arg1 (by decide)

def uF (x : Vec Ideal S512x1024 .f32) (g : Vec Ideal S1x1024 .f32) (w : Vec Ideal S8x1024x512 .bf16) (h : Fin 8) (i e : Fin 512) : EReal :=
  sq (act (hrow x g i) (fun k => w (ix3 h k e)))

theorem hid_eq (h : Fin 8) (o : Nat) (ho : o = h) (inb : ∀ a, (![o, 0, 0] : Fin 3 → Nat) a + (![1, 1024, 512] : Fin 3 → Nat) a ≤ S8x1024x512.size a)
    (x : Vec Ideal S512x1024 .f32) (g : Vec Ideal S1x1024 .f32) (w : Vec Ideal S8x1024x512 .bf16) (i e : Fin 512) :
    hidB (k0_pay5 x g) (View.ld (S := S8x1024x512) w (Rect.unit ![o, 0, 0] ![1, 1024, 512] inb)) i e = uF x g w h i e := by
  unfold hidB uF
  rw [show (fun k => k0_pay5 (F := Ideal) x g (ix2 i k)) = hrow x g i from funext fun k => pay5_at x g i k]
  exact congrArg (fun f => sq (act (hrow x g i) f)) (funext fun k => ld_mat h o ho inb w k e)

theorem u_cols (x : Vec Ideal S512x1024 .f32) (g : Vec Ideal S1x1024 .f32) (w : Vec Ideal S8x1024x512 .bf16) (i : Fin 512) (j : Fin 4096) :
    View.canon (Val := Elt Ideal) (s := S512x4096) (e := .bf16) [
      ⟨Rect.unit ![0, 3584] ![512, 512] inb_S512x4096_S512x512_0_3584, k0_pay15 (F := Ideal) (k0_pay5 x g) (View.ld (Val := Elt Ideal) w (Rect.unit ![7, 0, 0] ![1, 1024, 512] inb_S8x1024x512_S1x1024x512_7_0_0))⟩,
      ⟨Rect.unit ![0, 3072] ![512, 512] inb_S512x4096_S512x512_0_3072, k0_pay14 (F := Ideal) (k0_pay5 x g) (View.ld (Val := Elt Ideal) w (Rect.unit ![6, 0, 0] ![1, 1024, 512] inb_S8x1024x512_S1x1024x512_6_0_0))⟩,
      ⟨Rect.unit ![0, 2560] ![512, 512] inb_S512x4096_S512x512_0_2560, k0_pay13 (F := Ideal) (k0_pay11 (k0_pay5 x g) (View.ld (Val := Elt Ideal) w (Rect.unit ![5, 0, 0] ![1, 1024, 512] inb_S8x1024x512_S1x1024x512_5_0_0)))⟩,
      ⟨Rect.unit ![0, 2048] ![512, 512] inb_S512x4096_S512x512_0_2048, k0_pay12 (F := Ideal) (k0_pay5 x g) (View.ld (Val := Elt Ideal) w (Rect.unit ![4, 0, 0] ![1, 1024, 512] inb_S8x1024x512_S1x1024x512_4_0_0))⟩,
      ⟨Rect.unit ![0, 1536] ![512, 512] inb_S512x4096_S512x512_0_1536, k0_pay10 (F := Ideal) (k0_pay5 x g) (View.ld (Val := Elt Ideal) w (Rect.unit ![3, 0, 0] ![1, 1024, 512] inb_S8x1024x512_S1x1024x512_3_0_0))⟩,
      ⟨Rect.unit ![0, 1024] ![512, 512] inb_S512x4096_S512x512_0_1024, k0_pay9 (F := Ideal) (k0_pay5 x g) (View.ld (Val := Elt Ideal) w (Rect.unit ![2, 0, 0] ![1, 1024, 512] inb_S8x1024x512_S1x1024x512_2_0_0))⟩,
      ⟨Rect.unit ![0, 512] ![512, 512] inb_S512x4096_S512x512_0_512, k0_pay8 (F := Ideal) (k0_pay7 x g (View.ld (Val := Elt Ideal) w (Rect.unit ![1, 0, 0] ![1, 1024, 512] inb_S8x1024x512_S1x1024x512_1_0_0)))⟩,
      ⟨Rect.unit ![0, 0] ![512, 512] inb_S512x4096_S512x512_0_0, k0_pay6 (F := Ideal) x g (View.ld (Val := Elt Ideal) w (Rect.unit ![0, 0, 0] ![1, 1024, 512] inb_S8x1024x512_S1x1024x512_0_0_0))⟩] (ix2 i j)
      = uF x g w (hd j) i (ln j) := by
  refine canon_cols (Val := Elt Ideal) (e := .bf16) (uF x g w) _ _ _ _ _ _ _ _ _ _ _ _ _ _ _ _ (fun i e => ?_) (fun i e => ?_) (fun i e => ?_) (fun i e => ?_) (fun i e => ?_) (fun i e => ?_) (fun i e => ?_) (fun i e => ?_) _ i j
  · exact (pay15_at _ _ i e).trans (hid_eq 7 7 rfl _ x g w i e)
  · exact (pay14_at _ _ i e).trans (hid_eq 6 6 rfl _ x g w i e)
  · exact (pay13_at _ _ i e).trans (hid_eq 5 5 rfl _ x g w i e)
  · exact (pay12_at _ _ i e).trans (hid_eq 4 4 rfl _ x g w i e)
  · exact (pay10_at _ _ i e).trans (hid_eq 3 3 rfl _ x g w i e)
  · exact (pay9_at _ _ i e).trans (hid_eq 2 2 rfl _ x g w i e)
  · exact (pay8_at _ _ _ i e).trans (hid_eq 1 1 rfl _ x g w i e)
  · exact (pay6_at _ _ _ i e).trans (hid_eq 0 0 rfl _ x g w i e)

/-- A load of the whole of what was stored. -/
theorem readCov_all {sig : RefSig} {κ : Kind} {sp : Space} {Val : EltTy → Type} {e : EltTy} [∀ e, Nonempty (Val e)] {R n : Nat} (v : View sig κ sp ⟨2, ![R, n]⟩ e)
    (L : List (View.Piece Val ⟨2, ![R, n]⟩ e)) (inb : ∀ a, (![0, 0] : Fin 2 → Nat) a + (![R, n] : Fin 2 → Nat) a ≤ (⟨2, ![R, n]⟩ : Shape).size a) (i : Fin R) (k : Fin n) :
    v.readCov L (Rect.unit (s := ⟨2, ![R, n]⟩) ![0, 0] ![R, n] inb).toLoadRect (ix2 i k : (⟨2, ![R, n]⟩ : Shape).Idx) = View.canon L (ix2 i k) := by
  rw [View.readCov_eq_canon']
  refine congrArg (View.canon L) (funext fun a => Fin.ext ?_)
  match a with
  | ⟨0, _⟩ => show 0 + 1 * (i : Nat) = i; omega
  | ⟨1, _⟩ => show 0 + 1 * (k : Nat) = k; omega

theorem tX (c : Dev nD) (t : Fin cfg0.N) (i : Fin 512) (k : Fin 1024) : iblk0 (V1 m ρ) c 0 t (ix2 i k) = vX m c (tok t (lt0 t) i) k :=
  (blk0_0 m ρ c t i k).trans (in_v7 m ρ c _ k)

theorem tG (c : Dev nD) (t : Fin cfg0.N) (k : Fin 1024) : iblk0 (V1 m ρ) c 1 t (ix2 0 k) = vG m c k := by
  rw [blk0_1, in_arg1]
  rfl

theorem tW2 (c : Dev nD) (t : Fin cfg0.N) (f : Fin 4096) (k : Fin 1024) : iblk0 (V1 m ρ) c 3 t (ix2 f k) = vW2 m c f k := by
  rw [blk0_3]
  exact in_v8 m ρ c f k

theorem tF (c : Dev nD) (t : Fin cfg0.N) (k : Fin 1024) : iblk0 (V1 m ρ) c 4 t (ix2 0 k) = vF m c k := by
  rw [blk0_4]
  exact in_v9 m ρ c k

theorem tT (c : Dev nD) (t : Fin cfg0.N) (i : Fin 512) (k : Fin 1024) : iblk0 (V1 m ρ) c 5 t (ix2 i k) = vT m c (tok t (lt0 t) i) k :=
  (blk0_5 m ρ c t i k).trans (in_v10 m ρ c _ k)

theorem tH (c : Dev nD) (t : Fin cfg0.N) (i : Fin 512) : hrow (iblk0 (V1 m ρ) c 0 t) (iblk0 (V1 m ρ) c 1 t) i = vH m c (tok t (lt0 t) i) := by
  unfold hrow vH
  rw [funext fun k => tX m ρ c t i k, funext fun k => tG m ρ c t k]

theorem tU (c : Dev nD) (t : Fin cfg0.N) (i : Fin 512) (j : Fin 4096) :
    uF (iblk0 (V1 m ρ) c 0 t) (iblk0 (V1 m ρ) c 1 t) (iblk0 (V1 m ρ) c 2 t) (hd j) i (ln j) = vU m c (tok t (lt0 t) i) j := by
  unfold uF vU
  rw [tH, blk0_2]
  refine congrArg (fun f => sq (act (vH m c (tok t (lt0 t) i)) f)) (funext fun k => ?_)
  refine (in_v3 m ρ c (hd j) k (ln j)).trans ?_
  rw [fl_hd]

/-- The stored hidden units of a tile. -/
def UOk (c : Dev nD) (t : Fin cfg0.N) (U : Vec Ideal S512x4096 .bf16) : Prop := ∀ i f, U (ix2 i f) = vU m c (tok t (lt0 t) i) f

theorem tY (c : Dev nD) (t : Fin cfg0.N) (U : Vec Ideal S512x4096 .bf16) (hU : UOk m c t U) (i : Fin 512) :
    (fun k => k0_pay16 (F := Ideal) (k0_pay4 (iblk0 (V1 m ρ) c 0 t)) U (iblk0 (V1 m ρ) c 3 t) (ix2 i k)) = vY m c (tok t (lt0 t) i) := by
  funext k
  rw [pay16_at]
  unfold outB vY
  rw [funext fun k => tX m ρ c t i k, funext fun f => hU i f, show (fun f j => iblk0 (V1 m ρ) c 3 t (ix2 f j)) = vW2 m c from funext fun f => funext fun j => tW2 m ρ c t f j]

theorem tD (c : Dev nD) (t : Fin cfg0.N) (U : Vec Ideal S512x4096 .bf16) (hU : UOk m c t U) (i : Fin 512) (j : Fin 1024) :
    Rms.dxk (fun k => k0_pay16 (F := Ideal) (k0_pay4 (iblk0 (V1 m ρ) c 0 t)) U (iblk0 (V1 m ρ) c 3 t) (ix2 i k))
      (dy (fun k => k0_pay16 (F := Ideal) (k0_pay4 (iblk0 (V1 m ρ) c 0 t)) U (iblk0 (V1 m ρ) c 3 t) (ix2 i k)) (fun k => iblk0 (V1 m ρ) c 4 t (ix2 0 k)) (fun k => iblk0 (V1 m ρ) c 5 t (ix2 i k)))
      (fun k => iblk0 (V1 m ρ) c 4 t (ix2 0 k)) j = vD m c (tok t (lt0 t) i) j := by
  rw [tY m ρ c t U hU, funext fun k => tF m ρ c t k, funext fun k => tT m ρ c t i k]
  rfl

theorem tDy (c : Dev nD) (t : Fin cfg0.N) (U : Vec Ideal S512x4096 .bf16) (hU : UOk m c t U) (j : Fin 1024) :
    (∑ i : Fin 512, dy (fun k => k0_pay16 (F := Ideal) (k0_pay4 (iblk0 (V1 m ρ) c 0 t)) U (iblk0 (V1 m ρ) c 3 t) (ix2 i k)) (fun k => iblk0 (V1 m ρ) c 4 t (ix2 0 k)) (fun k => iblk0 (V1 m ρ) c 5 t (ix2 i k)) j
        * (k0_pay16 (F := Ideal) (k0_pay4 (iblk0 (V1 m ρ) c 0 t)) U (iblk0 (V1 m ρ) c 3 t) (ix2 i j)
          * Rms.r (fun k => k0_pay16 (F := Ideal) (k0_pay4 (iblk0 (V1 m ρ) c 0 t)) U (iblk0 (V1 m ρ) c 3 t) (ix2 i k))))
      = ∑ i : Fin 512, vDy m c (tok t (lt0 t) i) j * (vY m c (tok t (lt0 t) i) j * Rms.r (vY m c (tok t (lt0 t) i))) := by
  refine Finset.sum_congr rfl fun i _ => ?_
  have h := congrFun (tY m ρ c t U hU i) j
  rw [tY m ρ c t U hU, funext fun k => tF m ρ c t k, funext fun k => tT m ρ c t i k, h]
  rfl

theorem tLs (c : Dev nD) (t : Fin cfg0.N) (U : Vec Ideal S512x4096 .bf16) (hU : UOk m c t U) :
    (∑ i : Fin 512, ls (fun k => k0_pay16 (F := Ideal) (k0_pay4 (iblk0 (V1 m ρ) c 0 t)) U (iblk0 (V1 m ρ) c 3 t) (ix2 i k)) (fun k => iblk0 (V1 m ρ) c 4 t (ix2 0 k)) (fun k => iblk0 (V1 m ρ) c 5 t (ix2 i k)))
      = ∑ i : Fin 512, vLs m c (tok t (lt0 t) i) := by
  refine Finset.sum_congr rfl fun i _ => ?_
  rw [tY m ρ c t U hU, funext fun k => tF m ρ c t k, funext fun k => tT m ρ c t i k]
  rfl

theorem uok (c : Dev nD) (t : Fin cfg0.N) {sig : RefSig} {κ : Kind} {sp : Space} (v : View sig κ sp S512x4096 .bf16)
    (L : List (View.Piece (Elt Ideal) S512x4096 .bf16)) (hL : ∀ i j, View.canon L (ix2 i j) = uF (iblk0 (V1 m ρ) c 0 t) (iblk0 (V1 m ρ) c 1 t) (iblk0 (V1 m ρ) c 2 t) (hd j) i (ln j)) :
    UOk m c t (v.readCov L (Rect.unit (s := S512x4096) ![0, 0] ![512, 4096] inb_S512x4096_S512x4096_0_0).toLoadRect) :=
  fun i f => ((readCov_all v L _ i f).trans (hL i f)).trans (tU m ρ c t i f)

theorem out_6 (c : Dev nD) (t : Fin cfg0.N) (i : Fin 512) (j : Fin 1024) :
    (outsAt0 (V1 m ρ) c t.val t.isLt).1 (ix2 i j) = vD m c (tok t (lt0 t) i) j := by
  by_cases h : t.val % 8 = 0
  · rw [outsAt0_A (V1 m ρ) c t h]
    frame_out
    exact (pay1_at _ _ _ _ (pay18_at _ _ _) i j).trans (tD m ρ c t _ (uok m ρ c t _ _ (u_cols _ _ _)) i j)
  · rw [outsAt0_B (V1 m ρ) c t h]
    frame_out
    exact (pay1_at _ _ _ _ (pay18_at _ _ _) i j).trans (tD m ρ c t _ (uok m ρ c t _ _ (u_cols _ _ _)) i j)

theorem out_7 (c : Dev nD) (t : Fin cfg0.N) (i : Fin 512) (j : Fin 1024) :
    (outsAt0 (V1 m ρ) c t.val t.isLt).2.1 (ix2 i j) = vD m c (tok t (lt0 t) i) j := by
  by_cases h : t.val % 8 = 0
  · rw [outsAt0_A (V1 m ρ) c t h]
    frame_out
    exact (pay2_at _ _ _ _ (pay18_at _ _ _) i j).trans (tD m ρ c t _ (uok m ρ c t _ _ (u_cols _ _ _)) i j)
  · rw [outsAt0_B (V1 m ρ) c t h]
    frame_out
    exact (pay2_at _ _ _ _ (pay18_at _ _ _) i j).trans (tD m ρ c t _ (uok m ρ c t _ _ (u_cols _ _ _)) i j)

theorem out_8 (c : Dev nD) (t : Fin cfg0.N) (i : Fin 512) (j : Fin 4096) :
    (outsAt0 (V1 m ρ) c t.val t.isLt).2.2.1 (ix2 i j) = vU m c (tok t (lt0 t) i) j := by
  by_cases h : t.val % 8 = 0
  · rw [outsAt0_A (V1 m ρ) c t h]
    frame_out
    exact (u_cols _ _ _ i j).trans (tU m ρ c t i j)
  · rw [outsAt0_B (V1 m ρ) c t h]
    frame_out
    exact (u_cols _ _ _ i j).trans (tU m ρ c t i j)

theorem out_9 (c : Dev nD) (t : Fin cfg0.N) (i : Fin 512) (j : Fin 1024) :
    (outsAt0 (V1 m ρ) c t.val t.isLt).2.2.2.1 (ix2 i j) = vH m c (tok t (lt0 t) i) j := by
  by_cases h : t.val % 8 = 0
  · rw [outsAt0_A (V1 m ρ) c t h]
    frame_out
    exact (pay5_at _ _ i j).trans (congrFun (tH m ρ c t i) j)
  · rw [outsAt0_B (V1 m ρ) c t h]
    frame_out
    exact (pay5_at _ _ i j).trans (congrFun (tH m ρ c t i) j)

/-- A tile's part of the final norm's weights' gradient, in row 0 of the slot, and of the loss, in row 1. -/
def partF (c : Dev nD) (t : Fin cfg0.N) (z : S8x1024.Idx) : EReal :=
  if (z 0 : ℕ) < 1 then ∑ i : Fin 512, vDy m c (tok t (lt0 t) i) (z 1) * (vY m c (tok t (lt0 t) i) (z 1) * Rms.r (vY m c (tok t (lt0 t) i)))
  else if (z 0 : ℕ) < 2 then (∑ i : Fin 512, vLs m c (tok t (lt0 t) i)) * Ideal.ofBits .f32 0x3F000000#32 else 0

theorem slot_A (c : Dev nD) (t : Fin cfg0.N) (h : t.val % 8 = 0) (z : S8x1024.Idx) :
    (outsAt0 (V1 m ρ) c t.val t.isLt).2.2.2.2 z = (0 : EReal) + partF m c t z := by
  rw [outsAt0_A (V1 m ρ) c t h]
  frame_out
  refine (canon_rows _ _ _ _ _ _ z).trans ?_
  unfold partF
  by_cases h0 : (z 0 : ℕ) < 1
  · rw [if_pos h0, if_pos h0]
    refine (pay24_at _ _ _ _ _ (pay18_at _ _ _) (z 1)).trans (congrArg₂ (fun a b : EReal => a + b) ?_ (tDy m ρ c t _ (uok m ρ c t _ _ (u_cols _ _ _)) (z 1)))
    refine (congrFun (View.readCov_skip _ _ _ _ _ (by decide)) _).trans ?_
    rw [View.readCov_fill]
    · exact zero3 _
    · decide
  · rw [if_neg h0, if_neg h0]
    by_cases h1 : (z 0 : ℕ) < 2
    · rw [if_pos h1, if_pos h1]
      refine (pay22_at _ _ _ _ _ (pay18_at _ _ _) (z 1)).trans (congrArg₂ (fun a b : EReal => a + b * Ideal.ofBits .f32 0x3F000000#32) ?_ (tLs m ρ c t _ (uok m ρ c t _ _ (u_cols _ _ _))))
      rw [View.readCov_fill]
      · exact zero3 _
      · decide
    · rw [if_neg h1, if_neg h1, add_zero]
      exact zero3 _

theorem slot_B (c : Dev nD) (t : Fin cfg0.N) (h : ¬ t.val % 8 = 0) (z : S8x1024.Idx) :
    (outsAt0 (V1 m ρ) c t.val t.isLt).2.2.2.2 z
      = (outsAt0 (V1 m ρ) c (t.val - 1) (Nat.lt_of_le_of_lt (Nat.sub_le _ _) t.isLt)).2.2.2.2 z + partF m c t z := by
  rw [outsAt0_B (V1 m ρ) c t h]
  frame_out
  refine (writes_rows _ _ _ _ _ _ _ z).trans ?_
  generalize (outsAt0 (V1 m ρ) c (t.val - 1) (Nat.lt_of_le_of_lt (Nat.sub_le _ _) t.isLt)).2.2.2.2 = X
  unfold partF
  by_cases h0 : (z 0 : ℕ) < 1
  · rw [if_pos h0, if_pos h0]
    refine (pay24_at _ _ _ _ _ (pay18_at _ _ _) (z 1)).trans (congrArg₂ (fun a b : EReal => a + b) (congrArg X ?_) (tDy m ρ c t _ (uok m ρ c t _ _ (u_cols _ _ _)) (z 1)))
    funext a
    apply Fin.ext
    match a with
    | ⟨0, _⟩ => show 0 = (z 0 : ℕ); omega
    | ⟨1, _⟩ => show 0 + 1 * (z 1 : ℕ) = (z 1 : ℕ); omega
  · rw [if_neg h0, if_neg h0]
    by_cases h1 : (z 0 : ℕ) < 2
    · rw [if_pos h1, if_pos h1]
      refine (pay22_at _ _ _ _ _ (pay18_at _ _ _) (z 1)).trans (congrArg₂ (fun a b : EReal => a + b * Ideal.ofBits .f32 0x3F000000#32) (congrArg X ?_) (tLs m ρ c t _ (uok m ρ c t _ _ (u_cols _ _ _))))
      funext a
      apply Fin.ext
      match a with
      | ⟨0, _⟩ => show 1 + 1 * 0 = (z 0 : ℕ); omega
      | ⟨1, _⟩ => show 0 + 1 * (z 1 : ℕ) = (z 1 : ℕ); omega
    · rw [if_neg h1, if_neg h1, add_zero]

end Cert.MlpIdeal.Value

end
-- ==== Proof.MlpMid.lean ====
/- What the forward call of the MLP leaves in the end. -/
module

public import proofs.«01_k».proof.Proof.MlpFwd
public import proofs.«01_k».proof.Proof.Gen.MlpIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! What the forward call leaves in the end. -/

open Cert.Mlp Cert.Cols

variable (m : (ℓ : Loc nD τ sig) → Buf (Elt Ideal) ℓ) (ρ : Dev nD → PrngReg)

def out0_6 (c : Dev nD) (z : S4096x1024.Idx) : EReal := vD m c (z 0) (z 1)

theorem out0_6_at (c : Dev nD) (i : Fin 4096) (j : Fin 1024) : vD m c i j = out0_6 m c (ix2 i j) := rfl

theorem fin0_6 (c : Dev nD) : (dat0 (V1 m ρ) c).arrAt 6 cfg0.N = out0_6 m c := by
  refine (dat0 (V1 m ρ) c).arrAt_eq_of_covers 6 _ (by decide +kernel) fun t _ y => ?_
  blk_simp
  rw [after0_6]
  refine (congrArg _ (Common.eta2 (a := 512) (b := 1024) y)).trans ((out_6 m ρ c t (y 0) (y 1)).trans ((out0_6_at m c _ _).trans <| congrArg (out0_6 m c) (?_ : ix2 (tok t (lt0 t) (y 0)) (y 1) = _)))
  blk_ext [idx0 t, tok]

def out0_7 (c : Dev nD) (z : S4096x1024.Idx) : EReal := vD m c (z 0) (z 1)

theorem out0_7_at (c : Dev nD) (i : Fin 4096) (j : Fin 1024) : vD m c i j = out0_7 m c (ix2 i j) := rfl

theorem fin0_7 (c : Dev nD) : (dat0 (V1 m ρ) c).arrAt 7 cfg0.N = out0_7 m c := by
  refine (dat0 (V1 m ρ) c).arrAt_eq_of_covers 7 _ (by decide +kernel) fun t _ y => ?_
  blk_simp
  rw [after0_7]
  refine (congrArg _ (Common.eta2 (a := 512) (b := 1024) y)).trans ((out_7 m ρ c t (y 0) (y 1)).trans ((out0_7_at m c _ _).trans <| congrArg (out0_7 m c) (?_ : ix2 (tok t (lt0 t) (y 0)) (y 1) = _)))
  blk_ext [idx0 t, tok]

def out0_8 (c : Dev nD) (z : S4096x4096.Idx) : EReal := vU m c (z 0) (z 1)

theorem out0_8_at (c : Dev nD) (i : Fin 4096) (j : Fin 4096) : vU m c i j = out0_8 m c (ix2 i j) := rfl

theorem fin0_8 (c : Dev nD) : (dat0 (V1 m ρ) c).arrAt 8 cfg0.N = out0_8 m c := by
  refine (dat0 (V1 m ρ) c).arrAt_eq_of_covers 8 _ (by decide +kernel) fun t _ y => ?_
  blk_simp
  rw [after0_8]
  refine (congrArg _ (Common.eta2 (a := 512) (b := 4096) y)).trans ((out_8 m ρ c t (y 0) (y 1)).trans ((out0_8_at m c _ _).trans <| congrArg (out0_8 m c) (?_ : ix2 (tok t (lt0 t) (y 0)) (y 1) = _)))
  blk_ext [idx0 t, tok]

def out0_9 (c : Dev nD) (z : S4096x1024.Idx) : EReal := vH m c (z 0) (z 1)

theorem out0_9_at (c : Dev nD) (i : Fin 4096) (j : Fin 1024) : vH m c i j = out0_9 m c (ix2 i j) := rfl

theorem fin0_9 (c : Dev nD) : (dat0 (V1 m ρ) c).arrAt 9 cfg0.N = out0_9 m c := by
  refine (dat0 (V1 m ρ) c).arrAt_eq_of_covers 9 _ (by decide +kernel) fun t _ y => ?_
  blk_simp
  rw [after0_9]
  refine (congrArg _ (Common.eta2 (a := 512) (b := 1024) y)).trans ((out_9 m ρ c t (y 0) (y 1)).trans ((out0_9_at m c _ _).trans <| congrArg (out0_9 m c) (?_ : ix2 (tok t (lt0 t) (y 0)) (y 1) = _)))
  blk_ext [idx0 t, tok]

def out0_10 (c : Dev nD) (z : S8x1024.Idx) : EReal :=
  if (z 0 : ℕ) < 1 then ∑ i : Fin 4096, vDy m c i (z 1) * (vY m c i (z 1) * Rms.r (vY m c i))
  else if (z 0 : ℕ) < 2 then ∑ t : Fin 8, (∑ i : Fin 512, vLs m c (tok t.val t.isLt i)) * Ideal.ofBits .f32 0x3F000000#32 else 0

theorem tok_eq (t : Fin 8) (h : t.val < 8) (k : Fin 512) (hl : t.val * 512 + k.val < 4096) : tok t.val h k = ⟨t.val * 512 + k.val, hl⟩ :=
  Fin.ext (by show 512 * t.val + k.val = t.val * 512 + k.val; omega)

/-- A sum over rows, tile by tile. -/
theorem sum_tok (f : Fin 4096 → EReal) : (∑ t : Fin 8, ∑ k : Fin 512, f (tok t.val t.isLt k)) = ∑ i : Fin 4096, f i := by
  exact Fin.sum_mul_add_congr fun t k hl => congrArg f (tok_eq t t.isLt k hl)

theorem fin0_10 (c : Dev nD) : (dat0 (V1 m ρ) c).arrAt 10 cfg0.N = out0_10 m c := by
  refine (dat0 (V1 m ρ) c).arrAt_eq_of_after_last 10 t0_7 (by decide +kernel) _ fun j => ?_
  blk_simp
  rw [after0_10, Pipeline.eq_sum_fin_of_reset_step_apply_last (fun n h => (outsAt0 (V1 m ρ) c n h).2.2.2.2) 8 (fun _ => (0 : EReal)) (fun p j => partF m c p j)
    (fun t h j => slot_A m ρ c t h j) (fun t h j => slot_B m ρ c t h j) (le_of_eq N_0) t0_7 rfl j, zero_add]
  unfold partF out0_10
  by_cases hj : (j 0 : ℕ) < 1
  · refine Eq.trans (Fin.sum_fin_congr fun p => if_pos hj) (Eq.trans ?_ (if_pos hj).symm)
    exact sum_tok fun i => vDy m c i (j 1) * (vY m c i (j 1) * Rms.r (vY m c i))
  · refine Eq.trans (Fin.sum_fin_congr fun p => if_neg hj) (Eq.trans ?_ (if_neg hj).symm)
    by_cases h1 : (j 0 : ℕ) < 2
    · refine Eq.trans (Fin.sum_fin_congr fun p => if_pos h1) (Eq.trans ?_ (if_pos h1).symm)
      rfl
    · refine Eq.trans (Fin.sum_fin_congr fun p => if_neg h1) (Eq.trans ?_ (if_neg h1).symm)
      simp

end Cert.MlpIdeal.Value

end
-- ==== Proof.MlpTile.lean ====
/- A tile of the backward call of the MLP: its eight column parts. -/
module

public import proofs.«01_k».proof.Proof.MlpPay
public import proofs.«01_k».proof.Proof.Cols
public import proofs.«01_k».proof.Proof.Gen.MlpIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! A tile of the backward call: its eight column parts. -/

open Cert.Mlp Cert.Cols

def daF (d : Vec Ideal S256x1024 .f32) (w : Vec Ideal S8x512x1024 .bf16) (u : Vec Ideal S256x4096 .bf16) (h : Fin 8) (i : Fin 256) (e : Fin 512) : EReal :=
  (∑ k : Fin 1024, d (ix2 i k) * w (ix3 h e k)) * slope (u (ix2 i (fl h e)))

theorem da_eq (h : Fin 8) (o : Nat) (ho : o = h) (inb : ∀ a, (![o, 0, 0] : Fin 3 → Nat) a + (![1, 512, 1024] : Fin 3 → Nat) a ≤ S8x512x1024.size a)
    (o' : Nat) (ho' : o' = 512 * h) (inb' : ∀ a, (![0, o'] : Fin 2 → Nat) a + (![256, 512] : Fin 2 → Nat) a ≤ S256x4096.size a)
    (d : Vec Ideal S256x1024 .f32) (w : Vec Ideal S8x512x1024 .bf16) (u : Vec Ideal S256x4096 .bf16) (i : Fin 256) (e : Fin 512) :
    daB d (View.ld (S := S8x512x1024) w (Rect.unit ![o, 0, 0] ![1, 512, 1024] inb)) (View.ld (S := S256x4096) u (Rect.unit ![0, o'] ![256, 512] inb')) i e = daF d w u h i e :=
  congrArg₂ (fun a b : EReal => a * slope b) (Finset.sum_congr rfl fun k _ => congrArg (fun a : EReal => d (ix2 i k) * a) (ld_mat h o ho inb w e k))
    (ld_col h o' ho' inb' u i e)

theorem da0 (d : Vec Ideal S256x1024 .f32) (w : Vec Ideal S8x512x1024 .bf16) (u : Vec Ideal S256x4096 .bf16) (i : Fin 256) (e : Fin 512) :
    k1_pay9 (F := Ideal) d (View.ld (Val := Elt Ideal) w (Rect.unit ![0, 0, 0] ![1, 512, 1024] inb_S8x512x1024_S1x512x1024_0_0_0)) (View.ld (Val := Elt Ideal) u (Rect.unit ![0, 0] ![256, 512] inb_S256x4096_S256x512_0_0)) (ix2 i e) = daF d w u 0 i e :=
  (b9_at _ _ _ i e).trans (da_eq 0 0 rfl _ 0 rfl _ d w u i e)

theorem da1 (d : Vec Ideal S256x1024 .f32) (w : Vec Ideal S8x512x1024 .bf16) (u : Vec Ideal S256x4096 .bf16) (i : Fin 256) (e : Fin 512) :
    k1_pay12 (F := Ideal) (k1_pay8 d (View.ld (Val := Elt Ideal) w (Rect.unit ![1, 0, 0] ![1, 512, 1024] inb_S8x512x1024_S1x512x1024_1_0_0))) (View.ld (Val := Elt Ideal) u (Rect.unit ![0, 512] ![256, 512] inb_S256x4096_S256x512_0_512)) (ix2 i e) = daF d w u 1 i e :=
  (b12_at _ _ _ i e).trans (da_eq 1 1 rfl _ 512 rfl _ d w u i e)

theorem da2 (d : Vec Ideal S256x1024 .f32) (w : Vec Ideal S8x512x1024 .bf16) (u : Vec Ideal S256x4096 .bf16) (i : Fin 256) (e : Fin 512) :
    k1_pay15 (F := Ideal) (k1_pay7 d) (k1_pay11 (View.ld (Val := Elt Ideal) w (Rect.unit ![2, 0, 0] ![1, 512, 1024] inb_S8x512x1024_S1x512x1024_2_0_0))) (View.ld (Val := Elt Ideal) u (Rect.unit ![0, 1024] ![256, 512] inb_S256x4096_S256x512_0_1024)) (ix2 i e) = daF d w u 2 i e :=
  (b15_at _ _ _ i e).trans (da_eq 2 2 rfl _ 1024 rfl _ d w u i e)

theorem da3 (d : Vec Ideal S256x1024 .f32) (w : Vec Ideal S8x512x1024 .bf16) (u : Vec Ideal S256x4096 .bf16) (i : Fin 256) (e : Fin 512) :
    k1_pay17 (F := Ideal) (k1_pay14 (k1_pay7 d) (View.ld (Val := Elt Ideal) w (Rect.unit ![3, 0, 0] ![1, 512, 1024] inb_S8x512x1024_S1x512x1024_3_0_0))) (View.ld (Val := Elt Ideal) u (Rect.unit ![0, 1536] ![256, 512] inb_S256x4096_S256x512_0_1536)) (ix2 i e) = daF d w u 3 i e :=
  (b17_at _ _ _ i e).trans (da_eq 3 3 rfl _ 1536 rfl _ d w u i e)

theorem da4 (d : Vec Ideal S256x1024 .f32) (w : Vec Ideal S8x512x1024 .bf16) (u : Vec Ideal S256x4096 .bf16) (i : Fin 256) (e : Fin 512) :
    k1_pay20 (F := Ideal) (k1_pay7 d) (View.ld (Val := Elt Ideal) w (Rect.unit ![4, 0, 0] ![1, 512, 1024] inb_S8x512x1024_S1x512x1024_4_0_0)) (View.ld (Val := Elt Ideal) u (Rect.unit ![0, 2048] ![256, 512] inb_S256x4096_S256x512_0_2048)) (ix2 i e) = daF d w u 4 i e :=
  (b20_at _ _ _ i e).trans (da_eq 4 4 rfl _ 2048 rfl _ d w u i e)

theorem da5 (d : Vec Ideal S256x1024 .f32) (w : Vec Ideal S8x512x1024 .bf16) (u : Vec Ideal S256x4096 .bf16) (i : Fin 256) (e : Fin 512) :
    k1_pay22 (F := Ideal) (k1_pay19 (k1_pay7 d) (View.ld (Val := Elt Ideal) w (Rect.unit ![5, 0, 0] ![1, 512, 1024] inb_S8x512x1024_S1x512x1024_5_0_0))) (View.ld (Val := Elt Ideal) u (Rect.unit ![0, 2560] ![256, 512] inb_S256x4096_S256x512_0_2560)) (ix2 i e) = daF d w u 5 i e :=
  (b22_at _ _ _ i e).trans (da_eq 5 5 rfl _ 2560 rfl _ d w u i e)

theorem da6 (d : Vec Ideal S256x1024 .f32) (w : Vec Ideal S8x512x1024 .bf16) (u : Vec Ideal S256x4096 .bf16) (i : Fin 256) (e : Fin 512) :
    k1_pay27 (F := Ideal) (k1_pay21 (k1_pay7 d) (View.ld (Val := Elt Ideal) w (Rect.unit ![6, 0, 0] ![1, 512, 1024] inb_S8x512x1024_S1x512x1024_6_0_0))) (k1_pay25 (View.ld (Val := Elt Ideal) u (Rect.unit ![0, 3072] ![256, 512] inb_S256x4096_S256x512_0_3072))) (k1_pay26 (View.ld (Val := Elt Ideal) u (Rect.unit ![0, 3072] ![256, 512] inb_S256x4096_S256x512_0_3072))) (ix2 i e) = daF d w u 6 i e :=
  (b27_at _ _ _ i e).trans (da_eq 6 6 rfl _ 3072 rfl _ d w u i e)

theorem da7 (d : Vec Ideal S256x1024 .f32) (w : Vec Ideal S8x512x1024 .bf16) (u : Vec Ideal S256x4096 .bf16) (i : Fin 256) (e : Fin 512) :
    k1_pay28 (F := Ideal) (k1_pay24 (k1_pay7 d) (View.ld (Val := Elt Ideal) w (Rect.unit ![7, 0, 0] ![1, 512, 1024] inb_S8x512x1024_S1x512x1024_7_0_0))) (View.ld (Val := Elt Ideal) u (Rect.unit ![0, 3584] ![256, 512] inb_S256x4096_S256x512_0_3584)) (ix2 i e) = daF d w u 7 i e :=
  (b28_at _ _ _ i e).trans (da_eq 7 7 rfl _ 3584 rfl _ d w u i e)

theorem da_cols (d : Vec Ideal S256x1024 .f32) (w : Vec Ideal S8x512x1024 .bf16) (u : Vec Ideal S256x4096 .bf16) (i : Fin 256) (j : Fin 4096) :
    View.canon (Val := Elt Ideal) (s := S256x4096) (e := .bf16) [
      ⟨Rect.unit ![0, 3584] ![256, 512] inb_S256x4096_S256x512_0_3584, k1_pay28 (F := Ideal) (k1_pay24 (k1_pay7 d) (View.ld (Val := Elt Ideal) w (Rect.unit ![7, 0, 0] ![1, 512, 1024] inb_S8x512x1024_S1x512x1024_7_0_0))) (View.ld (Val := Elt Ideal) u (Rect.unit ![0, 3584] ![256, 512] inb_S256x4096_S256x512_0_3584))⟩,
      ⟨Rect.unit ![0, 3072] ![256, 512] inb_S256x4096_S256x512_0_3072, k1_pay27 (F := Ideal) (k1_pay21 (k1_pay7 d) (View.ld (Val := Elt Ideal) w (Rect.unit ![6, 0, 0] ![1, 512, 1024] inb_S8x512x1024_S1x512x1024_6_0_0))) (k1_pay25 (View.ld (Val := Elt Ideal) u (Rect.unit ![0, 3072] ![256, 512] inb_S256x4096_S256x512_0_3072))) (k1_pay26 (View.ld (Val := Elt Ideal) u (Rect.unit ![0, 3072] ![256, 512] inb_S256x4096_S256x512_0_3072)))⟩,
      ⟨Rect.unit ![0, 2560] ![256, 512] inb_S256x4096_S256x512_0_2560, k1_pay22 (F := Ideal) (k1_pay19 (k1_pay7 d) (View.ld (Val := Elt Ideal) w (Rect.unit ![5, 0, 0] ![1, 512, 1024] inb_S8x512x1024_S1x512x1024_5_0_0))) (View.ld (Val := Elt Ideal) u (Rect.unit ![0, 2560] ![256, 512] inb_S256x4096_S256x512_0_2560))⟩,
      ⟨Rect.unit ![0, 2048] ![256, 512] inb_S256x4096_S256x512_0_2048, k1_pay20 (F := Ideal) (k1_pay7 d) (View.ld (Val := Elt Ideal) w (Rect.unit ![4, 0, 0] ![1, 512, 1024] inb_S8x512x1024_S1x512x1024_4_0_0)) (View.ld (Val := Elt Ideal) u (Rect.unit ![0, 2048] ![256, 512] inb_S256x4096_S256x512_0_2048))⟩,
      ⟨Rect.unit ![0, 1536] ![256, 512] inb_S256x4096_S256x512_0_1536, k1_pay17 (F := Ideal) (k1_pay14 (k1_pay7 d) (View.ld (Val := Elt Ideal) w (Rect.unit ![3, 0, 0] ![1, 512, 1024] inb_S8x512x1024_S1x512x1024_3_0_0))) (View.ld (Val := Elt Ideal) u (Rect.unit ![0, 1536] ![256, 512] inb_S256x4096_S256x512_0_1536))⟩,
      ⟨Rect.unit ![0, 1024] ![256, 512] inb_S256x4096_S256x512_0_1024, k1_pay15 (F := Ideal) (k1_pay7 d) (k1_pay11 (View.ld (Val := Elt Ideal) w (Rect.unit ![2, 0, 0] ![1, 512, 1024] inb_S8x512x1024_S1x512x1024_2_0_0))) (View.ld (Val := Elt Ideal) u (Rect.unit ![0, 1024] ![256, 512] inb_S256x4096_S256x512_0_1024))⟩,
      ⟨Rect.unit ![0, 512] ![256, 512] inb_S256x4096_S256x512_0_512, k1_pay12 (F := Ideal) (k1_pay8 d (View.ld (Val := Elt Ideal) w (Rect.unit ![1, 0, 0] ![1, 512, 1024] inb_S8x512x1024_S1x512x1024_1_0_0))) (View.ld (Val := Elt Ideal) u (Rect.unit ![0, 512] ![256, 512] inb_S256x4096_S256x512_0_512))⟩,
      ⟨Rect.unit ![0, 0] ![256, 512] inb_S256x4096_S256x512_0_0, k1_pay9 (F := Ideal) d (View.ld (Val := Elt Ideal) w (Rect.unit ![0, 0, 0] ![1, 512, 1024] inb_S8x512x1024_S1x512x1024_0_0_0)) (View.ld (Val := Elt Ideal) u (Rect.unit ![0, 0] ![256, 512] inb_S256x4096_S256x512_0_0))⟩] (ix2 i j) = daF d w u (hd j) i (ln j) :=
  canon_cols (Val := Elt Ideal) (e := .bf16) (daF d w u) _ _ _ _ _ _ _ _ _ _ _ _ _ _ _ _ (da7 d w u) (da6 d w u) (da5 d w u) (da4 d w u) (da3 d w u) (da2 d w u) (da1 d w u) (da0 d w u) _ i j

theorem bl_eq (h : Fin 8) (o : Nat) (ho : o = h) (inb : ∀ a, (![o, 0, 0] : Fin 3 → Nat) a + (![1, 1024, 512] : Fin 3 → Nat) a ≤ S8x1024x512.size a)
    (A : FVec Ideal S256x512 .bf16) (f : Fin 256 → Fin 512 → EReal) (hA : ∀ i e, A (ix2 i e) = f i e) (v : Vec Ideal S8x1024x512 .bf16) (i : Fin 256) (k : Fin 1024) :
    bl A (View.ld (S := S8x1024x512) v (Rect.unit ![o, 0, 0] ![1, 1024, 512] inb)) i k = ∑ e : Fin 512, f i e * v (ix3 h k e) :=
  Finset.sum_congr rfl fun e _ => congrArg₂ (fun a b : EReal => a * b) (hA i e) (ld_mat h o ho inb v k e)

/-- The gradient of the norm's output, all eight parts. -/
def dhB (d : Vec Ideal S256x1024 .f32) (w : Vec Ideal S8x512x1024 .bf16) (u : Vec Ideal S256x4096 .bf16) (v : Vec Ideal S8x1024x512 .bf16) : FVec Ideal S256x1024 .f32 :=
  (k1_pay29 (F := Ideal) (k1_pay21 (k1_pay7 d) (View.ld (Val := Elt Ideal) w (Rect.unit ![6, 0, 0] ![1, 512, 1024] inb_S8x512x1024_S1x512x1024_6_0_0))) (k1_pay23 (F := Ideal) (k1_pay18 (F := Ideal) (k1_pay13 (F := Ideal) (k1_pay8 d (View.ld (Val := Elt Ideal) w (Rect.unit ![1, 0, 0] ![1, 512, 1024] inb_S8x512x1024_S1x512x1024_1_0_0))) (k1_pay10 (F := Ideal) d (View.ld (Val := Elt Ideal) w (Rect.unit ![0, 0, 0] ![1, 512, 1024] inb_S8x512x1024_S1x512x1024_0_0_0)) (View.ld (Val := Elt Ideal) u (Rect.unit ![0, 0] ![256, 512] inb_S256x4096_S256x512_0_0)) (View.ld (Val := Elt Ideal) v (Rect.unit ![0, 0, 0] ![1, 1024, 512] inb_S8x1024x512_S1x1024x512_0_0_0))) (View.ld (Val := Elt Ideal) u (Rect.unit ![0, 512] ![256, 512] inb_S256x4096_S256x512_0_512)) (View.ld (Val := Elt Ideal) v (Rect.unit ![1, 0, 0] ![1, 1024, 512] inb_S8x1024x512_S1x1024x512_1_0_0))) (k1_pay14 (k1_pay7 d) (View.ld (Val := Elt Ideal) w (Rect.unit ![3, 0, 0] ![1, 512, 1024] inb_S8x512x1024_S1x512x1024_3_0_0))) (k1_pay15 (F := Ideal) (k1_pay7 d) (k1_pay11 (View.ld (Val := Elt Ideal) w (Rect.unit ![2, 0, 0] ![1, 512, 1024] inb_S8x512x1024_S1x512x1024_2_0_0))) (View.ld (Val := Elt Ideal) u (Rect.unit ![0, 1024] ![256, 512] inb_S256x4096_S256x512_0_1024))) (k1_pay16 (View.ld (Val := Elt Ideal) v (Rect.unit ![2, 0, 0] ![1, 1024, 512] inb_S8x1024x512_S1x1024x512_2_0_0))) (View.ld (Val := Elt Ideal) u (Rect.unit ![0, 1536] ![256, 512] inb_S256x4096_S256x512_0_1536)) (View.ld (Val := Elt Ideal) v (Rect.unit ![3, 0, 0] ![1, 1024, 512] inb_S8x1024x512_S1x1024x512_3_0_0))) (k1_pay19 (k1_pay7 d) (View.ld (Val := Elt Ideal) w (Rect.unit ![5, 0, 0] ![1, 512, 1024] inb_S8x512x1024_S1x512x1024_5_0_0))) (k1_pay20 (F := Ideal) (k1_pay7 d) (View.ld (Val := Elt Ideal) w (Rect.unit ![4, 0, 0] ![1, 512, 1024] inb_S8x512x1024_S1x512x1024_4_0_0)) (View.ld (Val := Elt Ideal) u (Rect.unit ![0, 2048] ![256, 512] inb_S256x4096_S256x512_0_2048))) (View.ld (Val := Elt Ideal) v (Rect.unit ![4, 0, 0] ![1, 1024, 512] inb_S8x1024x512_S1x1024x512_4_0_0)) (View.ld (Val := Elt Ideal) u (Rect.unit ![0, 2560] ![256, 512] inb_S256x4096_S256x512_0_2560)) (View.ld (Val := Elt Ideal) v (Rect.unit ![5, 0, 0] ![1, 1024, 512] inb_S8x1024x512_S1x1024x512_5_0_0))) (k1_pay24 (k1_pay7 d) (View.ld (Val := Elt Ideal) w (Rect.unit ![7, 0, 0] ![1, 512, 1024] inb_S8x512x1024_S1x512x1024_7_0_0))) (k1_pay25 (View.ld (Val := Elt Ideal) u (Rect.unit ![0, 3072] ![256, 512] inb_S256x4096_S256x512_0_3072))) (k1_pay26 (View.ld (Val := Elt Ideal) u (Rect.unit ![0, 3072] ![256, 512] inb_S256x4096_S256x512_0_3072))) (View.ld (Val := Elt Ideal) v (Rect.unit ![6, 0, 0] ![1, 1024, 512] inb_S8x1024x512_S1x1024x512_6_0_0)) (View.ld (Val := Elt Ideal) u (Rect.unit ![0, 3584] ![256, 512] inb_S256x4096_S256x512_0_3584)) (View.ld (Val := Elt Ideal) v (Rect.unit ![7, 0, 0] ![1, 1024, 512] inb_S8x1024x512_S1x1024x512_7_0_0)))

theorem dhB_at (d : Vec Ideal S256x1024 .f32) (w : Vec Ideal S8x512x1024 .bf16) (u : Vec Ideal S256x4096 .bf16) (v : Vec Ideal S8x1024x512 .bf16) (i : Fin 256) (k : Fin 1024) :
    dhB d w u v (ix2 i k) = ∑ f : Fin 4096, daF d w u (hd f) i (ln f) * v (ix3 (hd f) k (ln f)) := by
  rw [sum_parts fun h e => daF d w u h i e * v (ix3 h k e), Fin.sum_univ_eight]
  unfold dhB
  rw [b29_at, b23_at, b18_at, b13_at, b10_at,
    bl_eq 0 0 rfl _ _ _ (da0 d w u),
    bl_eq 1 1 rfl _ _ _ (da1 d w u),
    bl_eq 2 2 rfl _ _ _ (da2 d w u),
    bl_eq 3 3 rfl _ _ _ (da3 d w u),
    bl_eq 4 4 rfl _ _ _ (da4 d w u),
    bl_eq 5 5 rfl _ _ _ (da5 d w u),
    bl_eq 6 6 rfl _ _ _ (da6 d w u),
    bl_eq 7 7 rfl _ _ _ (da7 d w u)]

end Cert.MlpIdeal.Value

end
-- ==== Proof.MlpBwd.lean ====
/- What the backward call of the MLP is handed, and what it leaves. -/
module

public import proofs.«01_k».proof.Proof.MlpMid
public import proofs.«01_k».proof.Proof.MlpTile
public import proofs.«01_k».proof.Proof.Gen.MlpIdeal.Frame
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! What the backward call is handed, and what it leaves after a tile. -/

open Cert.Mlp Cert.Cols

variable (m : (ℓ : Loc nD τ sig) → Buf (Elt Ideal) ℓ) (ρ : Dev nD → PrngReg)

theorem keep (c : Dev nD) (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem in1_d (c : Dev nD) : V3 m ρ c main_v11_0 = out0_6 m c :=
  ((W3_of m ρ c main_v11_0 (by decide)).trans (W2_arr m ρ c 6)).trans (fin0_6 m ρ c)

theorem in1_u (c : Dev nD) : V3 m ρ c main_v11_2 = out0_8 m c :=
  ((W3_of m ρ c main_v11_2 (by decide)).trans (W2_arr m ρ c 8)).trans (fin0_8 m ρ c)

theorem in_v12 (c : Dev nD) (i : Fin 4096) (k : Fin 1024) : V3 m ρ c main_v12 (ix2 i k) = vX m c i k := by
  have e : V3 m ρ c main_v12 = shapeCast _ (m ((c : Thread nD τ).loc main_arg0)) shapeCasts_S1x4096x1024_S4096x1024 := by
    show StableHlo.after hostOps1 (W2 m ρ c) (Proc.devRef .tc main_v12) = _
    after_results
    rw [W2_args m ρ c main_arg0 (by decide)]
    rfl
  rw [e]
  exact host_v7 _ i k

def tik (t : Nat) (ht : t < 16) (i : Fin 256) : Fin 4096 := ⟨256 * t + i, by omega⟩

theorem idx1 : ∀ t : Fin cfg1.N, win1_0.index t = ![t.val, 0] ∧ win1_1.index t = ![t.val, 0] ∧ win1_2.index t = ![t.val, 0] ∧ win1_3.index t = ![0, 0]
    ∧ win1_4.index t = ![0, 0, 0] ∧ win1_5.index t = ![0, 0, 0] ∧ win1_6.index t = ![t.val, 0] ∧ win1_7.index t = ![t.val, 0]
    ∧ win1_8.index t = ![0, 0] ∧ t.val < 16 :=
  (by decide +kernel : ∀ t : Fin grid1.N, _)

theorem lt1 (t : Fin cfg1.N) : t.val < 16 := (idx1 t).2.2.2.2.2.2.2.2.2

theorem blk1_0 (c : Dev nD) (t : Fin cfg1.N) (i : Fin 256) (k : Fin 1024) :
    iblk1 (V3 m ρ) c 0 t (ix2 i k) = V3 m ρ c main_v11_0 (ix2 (tik t (lt1 t) i) k) := by
  blk_point [iblk1, idx1 t, tik]

theorem blk1_1 (c : Dev nD) (t : Fin cfg1.N) (i : Fin 256) (k : Fin 4096) :
    iblk1 (V3 m ρ) c 1 t (ix2 i k) = V3 m ρ c main_v11_2 (ix2 (tik t (lt1 t) i) k) := by
  blk_point [iblk1, idx1 t, tik]

theorem blk1_2 (c : Dev nD) (t : Fin cfg1.N) (i : Fin 256) (k : Fin 1024) :
    iblk1 (V3 m ρ) c 2 t (ix2 i k) = V3 m ρ c main_v12 (ix2 (tik t (lt1 t) i) k) := by
  blk_point [iblk1, idx1 t, tik]

theorem blk1_3 (c : Dev nD) (t : Fin cfg1.N) : iblk1 (V3 m ρ) c 3 t = V1 m ρ c main_arg1 :=
  (funext fun j => by blk_point [iblk1, idx1 t] : iblk1 (V3 m ρ) c 3 t = V3 m ρ c main_arg1).trans (keep m ρ c _ (by decide) (by decide))

theorem blk1_4 (c : Dev nD) (t : Fin cfg1.N) : iblk1 (V3 m ρ) c 4 t = V1 m ρ c main_v3 :=
  (funext fun j => by blk_point [iblk1, idx1 t] : iblk1 (V3 m ρ) c 4 t = V3 m ρ c main_v3).trans (keep m ρ c _ (by decide) (by decide))

theorem blk1_5 (c : Dev nD) (t : Fin cfg1.N) : iblk1 (V3 m ρ) c 5 t = V1 m ρ c main_v6 :=
  (funext fun j => by blk_point [iblk1, idx1 t] : iblk1 (V3 m ρ) c 5 t = V3 m ρ c main_v6).trans (keep m ρ c _ (by decide) (by decide))

def vDa (c : Dev nD) (i f : Fin 4096) : EReal := (∑ k : Fin 1024, vD m c i k * vW2 m c f k) * slope (vU m c i f)

def vDh (c : Dev nD) (i : Fin 4096) : Fin 1024 → EReal := fun k => ∑ f : Fin 4096, vDa m c i f * vW1 m c k f

def vDx (c : Dev nD) (i : Fin 4096) (j : Fin 1024) : EReal := vD m c i j + Rms.dxk (vX m c i) (vDh m c i) (vG m c) j

theorem bD (c : Dev nD) (t : Fin cfg1.N) (i : Fin 256) (k : Fin 1024) : iblk1 (V3 m ρ) c 0 t (ix2 i k) = vD m c (tik t (lt1 t) i) k :=
  ((blk1_0 m ρ c t i k).trans (congrFun (in1_d m ρ c) _)).trans (out0_6_at m c _ _).symm

theorem bU (c : Dev nD) (t : Fin cfg1.N) (i : Fin 256) (f : Fin 4096) : iblk1 (V3 m ρ) c 1 t (ix2 i f) = vU m c (tik t (lt1 t) i) f :=
  ((blk1_1 m ρ c t i f).trans (congrFun (in1_u m ρ c) _)).trans (out0_8_at m c _ _).symm

theorem bX (c : Dev nD) (t : Fin cfg1.N) (i : Fin 256) (k : Fin 1024) : iblk1 (V3 m ρ) c 2 t (ix2 i k) = vX m c (tik t (lt1 t) i) k :=
  (blk1_2 m ρ c t i k).trans (in_v12 m ρ c _ k)

theorem bG (c : Dev nD) (t : Fin cfg1.N) (k : Fin 1024) : iblk1 (V3 m ρ) c 3 t (ix2 0 k) = vG m c k := by
  rw [blk1_3, in_arg1]
  rfl

theorem bW1 (c : Dev nD) (t : Fin cfg1.N) (k : Fin 1024) (f : Fin 4096) : iblk1 (V3 m ρ) c 4 t (ix3 (hd f) k (ln f)) = vW1 m c k f := by
  rw [blk1_4]
  refine (in_v3 m ρ c (hd f) k (ln f)).trans ?_
  rw [fl_hd]

theorem bW2 (c : Dev nD) (t : Fin cfg1.N) (f : Fin 4096) (k : Fin 1024) : iblk1 (V3 m ρ) c 5 t (ix3 (hd f) (ln f) k) = vW2 m c f k := by
  rw [blk1_5]
  refine (in_v6 m ρ c (hd f) (ln f) k).trans ?_
  rw [fl_hd]

theorem bDa (c : Dev nD) (t : Fin cfg1.N) (i : Fin 256) (f : Fin 4096) :
    daF (iblk1 (V3 m ρ) c 0 t) (iblk1 (V3 m ρ) c 5 t) (iblk1 (V3 m ρ) c 1 t) (hd f) i (ln f) = vDa m c (tik t (lt1 t) i) f := by
  unfold daF vDa
  rw [fl_hd, bU]
  exact congrArg (fun a : EReal => a * slope (vU m c (tik t (lt1 t) i) f)) (Finset.sum_congr rfl fun k _ => congrArg₂ (fun a b : EReal => a * b) (bD m ρ c t i k) (bW2 m ρ c t f k))

theorem bDh (c : Dev nD) (t : Fin cfg1.N) (i : Fin 256) (k : Fin 1024) :
    dhB (iblk1 (V3 m ρ) c 0 t) (iblk1 (V3 m ρ) c 5 t) (iblk1 (V3 m ρ) c 1 t) (iblk1 (V3 m ρ) c 4 t) (ix2 i k) = vDh m c (tik t (lt1 t) i) k :=
  (dhB_at _ _ _ _ i k).trans (Finset.sum_congr rfl fun f _ => congrArg₂ (fun a b : EReal => a * b) (bDa m ρ c t i f) (bW1 m ρ c t k f))

theorem bDx (c : Dev nD) (t : Fin cfg1.N) (i : Fin 256) (j : Fin 1024) (d D x : FVec Ideal S256x1024 .f32) (g : FVec Ideal S1x1024 .f32)
    (h1 : ∀ k, d (ix2 i k) = vD m c (tik t (lt1 t) i) k) (h2 : ∀ k, D (ix2 i k) = vDh m c (tik t (lt1 t) i) k) (h3 : ∀ k, x (ix2 i k) = vX m c (tik t (lt1 t) i) k)
    (h4 : ∀ k, g (ix2 0 k) = vG m c k) :
    d (ix2 i j) + Rms.dxk (fun k => x (ix2 i k)) (fun k => D (ix2 i k)) (fun k => g (ix2 0 k)) j = vDx m c (tik t (lt1 t) i) j :=
  congrArg₂ (fun a b : EReal => a + b) (h1 j) (Rms.dxk_congr h3 h2 h4 j)

theorem bDg (c : Dev nD) (t : Fin cfg1.N) (j : Fin 1024) (D x : FVec Ideal S256x1024 .f32)
    (h2 : ∀ i k, D (ix2 i k) = vDh m c (tik t (lt1 t) i) k) (h3 : ∀ i k, x (ix2 i k) = vX m c (tik t (lt1 t) i) k) :
    (∑ i : Fin 256, D (ix2 i j) * (x (ix2 i j) * Rms.r (fun k => x (ix2 i k))))
      = ∑ i : Fin 256, vDh m c (tik t (lt1 t) i) j * (vX m c (tik t (lt1 t) i) j * Rms.r (vX m c (tik t (lt1 t) i))) :=
  Finset.sum_congr rfl fun i _ => congrArg₂ (fun a b : EReal => a * b) (h2 i j)
    (congrArg₂ (fun (a : EReal) (b : Fin 1024 → EReal) => a * Rms.r b) (h3 i j) (funext fun k => h3 i k))

theorem res_6 (c : Dev nD) (t : Fin cfg1.N) (i : Fin 256) (j : Fin 4096) :
    (outsAt1 (V3 m ρ) c t.val t.isLt).1 (ix2 i j) = vDa m c (tik t (lt1 t) i) j := by
  by_cases h : t.val % 16 = 0
  · rw [outsAt1_A (V3 m ρ) c t h]
    frame_out
    exact (da_cols _ _ _ i j).trans (bDa m ρ c t i j)
  · rw [outsAt1_B (V3 m ρ) c t h]
    frame_out
    exact (da_cols _ _ _ i j).trans (bDa m ρ c t i j)

theorem res_7 (c : Dev nD) (t : Fin cfg1.N) (i : Fin 256) (j : Fin 1024) :
    (outsAt1 (V3 m ρ) c t.val t.isLt).2.1 (ix2 i j) = vDx m c (tik t (lt1 t) i) j := by
  by_cases h : t.val % 16 = 0
  · rw [outsAt1_A (V3 m ρ) c t h]
    frame_out
    exact (b3_at (iblk1 (V3 m ρ) c 0 t) (dhB (iblk1 (V3 m ρ) c 0 t) (iblk1 (V3 m ρ) c 5 t) (iblk1 (V3 m ρ) c 1 t) (iblk1 (V3 m ρ) c 4 t)) (iblk1 (V3 m ρ) c 2 t)
      (iblk1 (V3 m ρ) c 3 t) i j).trans (bDx m c t i j _ _ _ _ (bD m ρ c t i) (bDh m ρ c t i) (bX m ρ c t i) (bG m ρ c t))
  · rw [outsAt1_B (V3 m ρ) c t h]
    frame_out
    exact (b3_at (iblk1 (V3 m ρ) c 0 t) (dhB (iblk1 (V3 m ρ) c 0 t) (iblk1 (V3 m ρ) c 5 t) (iblk1 (V3 m ρ) c 1 t) (iblk1 (V3 m ρ) c 4 t)) (iblk1 (V3 m ρ) c 2 t)
      (iblk1 (V3 m ρ) c 3 t) i j).trans (bDx m c t i j _ _ _ _ (bD m ρ c t i) (bDh m ρ c t i) (bX m ρ c t i) (bG m ρ c t))

/-- A tile's part of the norm's weights' gradient, in row 0 of the slot. -/
def partG (c : Dev nD) (t : Fin cfg1.N) (z : S8x1024.Idx) : EReal :=
  if (z 0 : ℕ) < 1 then ∑ i : Fin 256, vDh m c (tik t (lt1 t) i) (z 1) * (vX m c (tik t (lt1 t) i) (z 1) * Rms.r (vX m c (tik t (lt1 t) i))) else 0

theorem dg_A (c : Dev nD) (t : Fin cfg1.N) (h : t.val % 16 = 0) (z : S8x1024.Idx) :
    (outsAt1 (V3 m ρ) c t.val t.isLt).2.2 z = (0 : EReal) + partG m c t z := by
  rw [outsAt1_A (V3 m ρ) c t h]
  frame_out
  refine (Common.canon_row _ _ _ _ z).trans ?_
  unfold partG
  by_cases hj : (z 0 : ℕ) < 1
  · rw [if_pos hj, if_pos hj]
    refine (b4_at (dhB (iblk1 (V3 m ρ) c 0 t) (iblk1 (V3 m ρ) c 5 t) (iblk1 (V3 m ρ) c 1 t) (iblk1 (V3 m ρ) c 4 t)) (iblk1 (V3 m ρ) c 2 t) _ (z 1)).trans
      (congrArg₂ (fun a b : EReal => a + b) ?_ (bDg m c t (z 1) _ _ (bDh m ρ c t) (bX m ρ c t)))
    rw [View.readCov_fill]
    · exact zero5 _
    · decide
  · rw [if_neg hj, if_neg hj, add_zero]
    exact zero5 _

theorem dg_B (c : Dev nD) (t : Fin cfg1.N) (h : ¬ t.val % 16 = 0) (z : S8x1024.Idx) :
    (outsAt1 (V3 m ρ) c t.val t.isLt).2.2 z
      = (outsAt1 (V3 m ρ) c (t.val - 1) (Nat.lt_of_le_of_lt (Nat.sub_le _ _) t.isLt)).2.2 z + partG m c t z := by
  rw [outsAt1_B (V3 m ρ) c t h]
  frame_out
  refine (Common.writes_row _ _ _ _ _ z).trans ?_
  generalize (outsAt1 (V3 m ρ) c (t.val - 1) (Nat.lt_of_le_of_lt (Nat.sub_le _ _) t.isLt)).2.2 = X
  unfold partG
  by_cases hj : (z 0 : ℕ) < 1
  · rw [if_pos hj, if_pos hj]
    refine (b4_at (dhB (iblk1 (V3 m ρ) c 0 t) (iblk1 (V3 m ρ) c 5 t) (iblk1 (V3 m ρ) c 1 t) (iblk1 (V3 m ρ) c 4 t)) (iblk1 (V3 m ρ) c 2 t) _ (z 1)).trans
      (congrArg₂ (fun a b : EReal => a + b) (congrArg X ?_) (bDg m c t (z 1) _ _ (bDh m ρ c t) (bX m ρ c t)))
    funext a
    apply Fin.ext
    match a with
    | ⟨0, _⟩ => show 0 = (z 0 : ℕ); omega
    | ⟨1, _⟩ => show 0 + 1 * (z 1 : ℕ) = (z 1 : ℕ); omega
  · rw [if_neg hj, if_neg hj, add_zero]

def out1_6 (c : Dev nD) (z : S4096x4096.Idx) : EReal := vDa m c (z 0) (z 1)

theorem out1_6_at (c : Dev nD) (i j : Fin 4096) : vDa m c i j = out1_6 m c (ix2 i j) := rfl

theorem fin1_6 (c : Dev nD) : (dat1 (V3 m ρ) c).arrAt 6 cfg1.N = out1_6 m c := by
  refine (dat1 (V3 m ρ) c).arrAt_eq_of_covers 6 _ (by decide +kernel) fun t _ y => ?_
  blk_simp
  rw [after1_6]
  refine (congrArg _ (Common.eta2 (a := 256) (b := 4096) y)).trans ((res_6 m ρ c t (y 0) (y 1)).trans ((out1_6_at m c _ _).trans <| congrArg (out1_6 m c) (?_ : ix2 (tik t (lt1 t) (y 0)) (y 1) = _)))
  blk_ext [idx1 t, tik]

def out1_7 (c : Dev nD) (z : S4096x1024.Idx) : EReal := vDx m c (z 0) (z 1)

theorem out1_7_at (c : Dev nD) (i : Fin 4096) (j : Fin 1024) : vDx m c i j = out1_7 m c (ix2 i j) := rfl

theorem fin1_7 (c : Dev nD) : (dat1 (V3 m ρ) c).arrAt 7 cfg1.N = out1_7 m c := by
  refine (dat1 (V3 m ρ) c).arrAt_eq_of_covers 7 _ (by decide +kernel) fun t _ y => ?_
  blk_simp
  rw [after1_7]
  refine (congrArg _ (Common.eta2 (a := 256) (b := 1024) y)).trans ((res_7 m ρ c t (y 0) (y 1)).trans ((out1_7_at m c _ _).trans <| congrArg (out1_7 m c) (?_ : ix2 (tik t (lt1 t) (y 0)) (y 1) = _)))
  blk_ext [idx1 t, tik]

def out1_8 (c : Dev nD) (z : S8x1024.Idx) : EReal :=
  if (z 0 : ℕ) < 1 then ∑ i : Fin 4096, vDh m c i (z 1) * (vX m c i (z 1) * Rms.r (vX m c i)) else 0

theorem tik_eq (t : Fin 16) (h : t.val < 16) (k : Fin 256) (hl : t.val * 256 + k.val < 4096) : tik t.val h k = ⟨t.val * 256 + k.val, hl⟩ :=
  Fin.ext (by show 256 * t.val + k.val = t.val * 256 + k.val; omega)

theorem sum_tik (f : Fin 4096 → EReal) : (∑ t : Fin 16, ∑ k : Fin 256, f (tik t.val t.isLt k)) = ∑ i : Fin 4096, f i := by
  exact Fin.sum_mul_add_congr fun t k hl => congrArg f (tik_eq t t.isLt k hl)

theorem fin1_8 (c : Dev nD) : (dat1 (V3 m ρ) c).arrAt 8 cfg1.N = out1_8 m c := by
  refine (dat1 (V3 m ρ) c).arrAt_eq_of_after_last 8 t1_15 (by decide +kernel) _ fun j => ?_
  blk_simp
  rw [after1_8, Pipeline.eq_sum_fin_of_reset_step_apply_last (fun n h => (outsAt1 (V3 m ρ) c n h).2.2) 16 (fun _ => (0 : EReal)) (fun p j => partG m c p j)
    (fun t h j => dg_A m ρ c t h j) (fun t h j => dg_B m ρ c t h j) (le_of_eq N_1) t1_15 rfl j, zero_add]
  unfold partG out1_8
  by_cases hj : (j 0 : ℕ) < 1
  · refine Eq.trans (Fin.sum_fin_congr fun p => if_pos hj) (Eq.trans ?_ (if_pos hj).symm)
    exact sum_tik fun i => vDh m c i (j 1) * (vX m c i (j 1) * Rms.r (vX m c i))
  · refine Eq.trans (Fin.sum_fin_congr fun p => if_neg hj) (Eq.trans ?_ (if_neg hj).symm)
    simp

end Cert.MlpIdeal.Value

end
-- ==== Proof.MlpEq.lean ====
module

public import proofs.«01_k».proof.Proof.MlpRefB
public import proofs.«01_k».proof.Proof.Gen.MlpIdeal.Frame
public import proofs.«01_k».proof.Proof.MlpBwd
public import proofs.«01_k».proof.Pre_exact_mlp
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-! The kernels' results are the reference's, at the arrays the claim is about. -/

open Cert.Mlp Cert.MlpReferenceIdeal.Read

section
variable (a0 : FVec Ideal S1x4096x1024 .f32) (a1 : FVec Ideal S1x1024 .f32) (a2 : FVec Ideal S1x1024x4096 .f32) (a3 : FVec Ideal S1x4096x1024 .f32)
  (a4 : FVec Ideal S1024 .f32) (a5 : FVec Ideal S1x4096x1024 .f32)

theorem f133 (i f : Fin 4096) : val_main_v133 (F := Ideal) a0 a1 a2 (ix2 i f) = eU a0 a1 a2 i f := by
  pointwise [val_main_v133, val_main_v132, at_v109]

theorem f135 (i : Fin 4096) (j : Fin 1024) : val_main_v135 (F := Ideal) a0 a1 (ix2 i j) = eH a0 a1 i j := by
  pointwise [val_main_v135, val_main_v134, at_v123]

theorem f128 (z0 : Fin 8) (j : Fin 1024) : val_main_v128 (F := Ideal) a0 a1 a2 a3 a4 a5 (ix2 z0 j)
    = if (z0 : ℕ) < 1 then (∑ i : Fin 4096, eY a0 a1 a2 a3 i j * Rms.r (eY a0 a1 a2 a3 i) * rDy a0 a1 a2 a3 a4 a5 i j)
      else if (z0 : ℕ) < 2 then Ideal.ofBits .f32 0x3F000000#32 * ∑ i : Fin 4096, eLs a0 a1 a2 a3 a4 a5 i else 0 := by
  pointwise [val_main_v128, val_main_v124, val_main_v126, val_main_v125, val_main_v127, val_main_cst_32, at_v65, at_v53]
  by_cases h : (z0 : ℕ) < 1
  · simp [h]
  · by_cases h2 : (z0 : ℕ) < 2
    · have h3 : (z0 : ℕ) - 1 = 0 := by omega
      simp [h, h2, h3]
    · have h3 : ¬ (z0 : ℕ) - 1 = 0 := by omega
      simp [h, h2, h3]

variable {a0 a1 a2 a3 a4 a5} (H : Good a0 a1 a2 a3 a4 a5)
include H

theorem f129 (i : Fin 4096) (j : Fin 1024) : val_main_v129 (F := Ideal) a0 a1 a2 a3 a4 a5 (ix2 i j) = eD a0 a1 a2 a3 a4 a5 i j := by
  pointwise [val_main_v129, at_D H]

theorem f131 (i : Fin 4096) (j : Fin 1024) : val_main_v131 (F := Ideal) a0 a1 a2 a3 a4 a5 (ix2 i j) = eD a0 a1 a2 a3 a4 a5 i j := by
  pointwise [val_main_v131, val_main_v130, at_D H]

theorem f137 (i f : Fin 4096) : val_main_v137 (F := Ideal) a0 a1 a2 a3 a4 a5 (ix2 i f) = eDa a0 a1 a2 a3 a4 a5 i f := by
  pointwise [val_main_v137, val_main_v136, at_Da H]

theorem f139 (i : Fin 4096) (j : Fin 1024) : val_main_v139 (F := Ideal) a0 a1 a2 a3 a4 a5 (ix2 i j) = eDx a0 a1 a2 a3 a4 a5 i j := by
  pointwise [val_main_v139, at_v138 H]

theorem f141 (z0 : Fin 8) (j : Fin 1024) : val_main_v141 (F := Ideal) a0 a1 a2 a3 a4 a5 (ix2 z0 j)
    = if (z0 : ℕ) < 1 then ∑ i : Fin 4096, eDh a0 a1 a2 a3 a4 a5 i j * (eX a0 i j * Rms.r (eX a0 i)) else 0 := by
  pointwise [val_main_v141, val_main_v107, val_main_v140, val_main_cst_33, at_v91 H]
  by_cases h : (z0 : ℕ) < 1
  · simp [h]
  · simp [h]

end

section
variable (m : (ℓ : Loc nD τ sig) → Buf (Elt Ideal) ℓ) (c : Dev nD)

/-- What the claim asks of the arrays in memory. -/
abbrev GoodAt : Prop := Good (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem swap_eq {d e n : EReal} (h : e = d) : d * n = n * e := h ▸ mul_comm _ _

theorem lsR (w : GoodAt m c) (t : Fin 8) : IsR (∑ i : Fin 512, vLs m c (tok t.val t.isLt i)) :=
  IsR.sum fun i => rLs w (tok t.val t.isLt i)

theorem eq0_6 (w : GoodAt m c) : out0_6 m c = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  refine Eq.trans ?_ (congrArg _ (Common.eta2 z)).symm
  exact (f129 w (z 0) (z 1)).symm

theorem eq0_7 (w : GoodAt m c) : out0_7 m c = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  refine Eq.trans ?_ (congrArg _ (Common.eta2 z)).symm
  exact (f131 w (z 0) (z 1)).symm

theorem eq0_8 : out0_8 m c = val_main_v133 (F := Ideal) (m ((c : Thread nD τ).loc main_arg0)) (m ((c : Thread nD τ).loc main_arg1)) (m ((c : Thread nD τ).loc main_arg2)) := by
  funext z
  refine Eq.trans ?_ (congrArg _ (Common.eta2 z)).symm
  exact (f133 _ _ _ (z 0) (z 1)).symm

theorem eq0_9 : out0_9 m c = val_main_v135 (F := Ideal) (m ((c : Thread nD τ).loc main_arg0)) (m ((c : Thread nD τ).loc main_arg1)) := by
  funext z
  refine Eq.trans ?_ (congrArg _ (Common.eta2 z)).symm
  exact (f135 _ _ (z 0) (z 1)).symm

theorem eq0_10 (w : GoodAt m c) : out0_10 m c = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  refine Eq.trans ?_ (congrArg _ (Common.eta2 z)).symm
  refine Eq.trans ?_ (f128 _ _ _ _ _ _ (z 0) (z 1)).symm
  unfold out0_10
  refine if_congr Iff.rfl (Finset.sum_congr rfl fun i _ => ?_) (if_congr Iff.rfl ?_ rfl)
  · exact swap_eq (congrFun (dy_eq w i) (z 1))
  · refine (half_sum fun t => lsR m c w t).trans ?_
    exact congrArg (fun a : EReal => Ideal.ofBits .f32 0x3F000000#32 * a) (sum_tok (fun i => vLs m c i))

theorem eq1_6 (w : GoodAt m c) : out1_6 m c = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  refine Eq.trans ?_ (congrArg _ (Common.eta2 z)).symm
  exact (f137 w (z 0) (z 1)).symm

theorem eq1_7 (w : GoodAt m c) : out1_7 m c = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  refine Eq.trans ?_ (congrArg _ (Common.eta2 z)).symm
  exact (f139 w (z 0) (z 1)).symm

theorem eq1_8 (w : GoodAt m c) : out1_8 m c = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  refine Eq.trans ?_ (congrArg _ (Common.eta2 z)).symm
  exact (f141 w (z 0) (z 1)).symm

end

section
variable (m : (ℓ : Loc nD τ sig) → Buf (Elt Ideal) ℓ) (ρ : Dev nD → PrngReg) (c : Dev nD)

theorem res0 (w : GoodAt m c) : W4 m ρ c (Proc.devRef .tc main_v11_0) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W4_of m ρ c main_v11_0 (by decide), W3_of m ρ c main_v11_0 (by decide)]
  exact (W2_arr m ρ c 6).trans ((fin0_6 m ρ c).trans (eq0_6 m c w))

theorem res1 (w : GoodAt m c) : W4 m ρ c (Proc.devRef .tc main_v11_1) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W4_of m ρ c main_v11_1 (by decide), W3_of m ρ c main_v11_1 (by decide)]
  exact (W2_arr m ρ c 7).trans ((fin0_7 m ρ c).trans (eq0_7 m c w))

theorem res2 (w : GoodAt m c) : W4 m ρ c (Proc.devRef .tc main_v11_2) = val_main_v133 (F := Ideal) (m ((c : Thread nD τ).loc main_arg0)) (m ((c : Thread nD τ).loc main_arg1)) (m ((c : Thread nD τ).loc main_arg2)) := by
  rw [W4_of m ρ c main_v11_2 (by decide), W3_of m ρ c main_v11_2 (by decide)]
  exact (W2_arr m ρ c 8).trans ((fin0_8 m ρ c).trans (eq0_8 m c))

theorem res3 (w : GoodAt m c) : W4 m ρ c (Proc.devRef .tc main_v11_3) = val_main_v135 (F := Ideal) (m ((c : Thread nD τ).loc main_arg0)) (m ((c : Thread nD τ).loc main_arg1)) := by
  rw [W4_of m ρ c main_v11_3 (by decide), W3_of m ρ c main_v11_3 (by decide)]
  exact (W2_arr m ρ c 9).trans ((fin0_9 m ρ c).trans (eq0_9 m c))

theorem res4 (w : GoodAt m c) : W4 m ρ c (Proc.devRef .tc main_v11_4) = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W4_of m ρ c main_v11_4 (by decide), W3_of m ρ c main_v11_4 (by decide)]
  exact (W2_arr m ρ c 10).trans ((fin0_10 m ρ c).trans (eq0_10 m c w))

theorem res5 (w : GoodAt m c) : W4 m ρ c (Proc.devRef .tc main_v13_0) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (W4_arr m ρ c 6).trans ((fin1_6 m ρ c).trans (eq1_6 m c w))

theorem res6 (w : GoodAt m c) : W4 m ρ c (Proc.devRef .tc main_v13_1) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (W4_arr m ρ c 7).trans ((fin1_7 m ρ c).trans (eq1_7 m c w))

theorem res7 (w : GoodAt m c) : W4 m ρ c (Proc.devRef .tc main_v13_2) = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (W4_arr m ρ c 8).trans ((fin1_8 m ρ c).trans (eq1_8 m c w))

end

theorem or_cases (u a b : EReal) (h : IntOp.ori (Ideal.cmp .oeq u a) (Ideal.cmp .oge u b) = 1#1) : u = a ∨ b ≤ u := by
  by_cases h1 : u = a
  · exact Or.inl h1
  · by_cases h2 : b ≤ u
    · exact Or.inr h2
    · exact absurd h (by simp [Ideal.cmp, IntOp.ori, h1, h2])

section
variable [hp : Cert.Pre_exact_mlp.Facts] (a0 : FVec Ideal S1x4096x1024 .f32) (a1 : FVec Ideal S1x1024 .f32) (a2 : FVec Ideal S1x1024x4096 .f32) (a3 : FVec Ideal S1x4096x1024 .f32)
  (a4 : FVec Ideal S1024 .f32) (a5 : FVec Ideal S1x4096x1024 .f32)

/-- The claim's condition on the hidden units. -/
theorem unit_ok (i f : Fin 4096) (h : (Cert.Pre_exact_mlp.fn (F := Ideal) a0 a1 a2 a3 a4 a5).2.2.2.2.2.2 (ix3 0 i f) = 1#1) :
    eU a0 a1 a2 i f = 0 ∨ Ideal.ofBits .f32 0x0DA24260#32 ≤ eU a0 a1 a2 i f := by
  have h' : IntOp.ori (Ideal.cmp .oeq (val_main_v109 (F := Ideal) a0 a1 a2 (ix3 0 i f)) (Ideal.ofBits .f32 0x00000000#32))
      (Ideal.cmp .oge (val_main_v109 (F := Ideal) a0 a1 a2 (ix3 0 i f)) (Ideal.ofBits .f32 0x0DA24260#32)) = 1#1 := h
  rw [at_v109] at h'
  have := or_cases _ _ _ h'
  simpa [Ideal.ofBits, Ideal.ieee] using this

end

end Cert.MlpIdeal.Value

end
-- ==== Proof.MlpRun.lean ====
/- The run of the two MLP calls, forward and backward, with every buffer of the host program read back at the end. -/
module

public import proofs.«01_k».proof.Proof.Gen.MlpIdeal.Frame

@[expose] public section

set_option maxRecDepth 16384

noncomputable section

namespace Cert.MlpIdeal.Run

open Cert.MlpIdeal Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at what the last boundary of the program says it holds. -/
theorem ends : θ_run defs (onTc (τ := τ) (main (F := F))) ⟨m, fun _ => 0, ρ⟩ (fun r => ∀ c : Dev nD, ∀ b ∈ Pipeline.ucRefs τ sig,
      r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.MlpIdeal.Run

end
-- ==== Proof.MlpClaim.lean ====
/- The claims about the pair. -/
module

public import proofs.«01_k».proof.Defs
public import proofs.«01_k».proof.Proof.MlpEq
public import proofs.«01_k».proof.Proof.MlpRun
public import proofs.«01_k».proof.Proof.Gen.Mlp.Frame

@[expose] public section

noncomputable section

namespace Cert.Proof.Mlp

open Idealize.ShloMosaic Idealize.ShloMosaic.TcCoe Idealize.SL.Sem

theorem frame_k : Cert.quiescent_Mlp := fun m ρ _ => Cert.Mlp.Gen.frame m ρ

theorem frame_ki : Cert.quiescent_MlpIdeal := fun m ρ _ => Cert.MlpIdeal.Gen.frame m ρ

theorem frame_ri : Cert.quiescent_MlpReferenceIdeal := fun m ρ _ =>
  (θ_run Cert.MlpReferenceIdeal.defs _ _).mono (fun r h => ⟨fun c => (h c).2.2.2.2.2.2.2.2, sem_eq_zero_of_no_sems (by decide) r.2⟩)
    (Cert.MlpReferenceIdeal.Value.run (F := Ideal) m ρ)

theorem facts_pre : Cert.Pre_exact_mlp.Facts := by
  constructor <;> decide

theorem frame_ki_pre : Cert.quiescent_MlpIdeal_pre_exact_mlp (hPre_exact_mlp := facts_pre) := fun m ρ _ => Cert.MlpIdeal.Gen.frame m ρ

theorem frame_ri_pre : Cert.quiescent_MlpReferenceIdeal_pre_exact_mlp (hPre_exact_mlp := facts_pre) := fun m ρ _ => frame_ri m ρ trivial

open Cert.MlpReferenceIdeal.Read Cert.MlpIdeal.Gen Cert.MlpIdeal.Value in
theorem value : Cert.algebraic_MlpIdeal_MlpReferenceIdeal_pre_exact_mlp (hPre_exact_mlp := facts_pre) := by
  intro m g m' g' hpre hagree
  have p : ∀ c : Dev Cert.MlpIdeal.nD, GoodAt m c := fun c =>
    ⟨fun i => Common.real_of_lt _ (congrFun (hpre c).1 i),
      fun i => Common.real_of_lt _ (congrFun (hpre c).2.1 i),
      fun i => Common.real_of_lt _ (congrFun (hpre c).2.2.1 i),
      fun i => Common.real_of_lt _ (congrFun (hpre c).2.2.2.1 i),
      fun i => Common.real_of_lt _ (congrFun (hpre c).2.2.2.2.1 i),
      fun i => Common.real_of_lt _ (congrFun (hpre c).2.2.2.2.2.1 i),
      fun i f => unit_ok (hp := facts_pre) _ _ _ _ _ _ i f (congrFun (hpre c).2.2.2.2.2.2 (ix3 0 i f))⟩
  refine ⟨fun c => val_main_v129 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)),
    fun c => val_main_v131 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)),
    fun c => val_main_v133 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)),
    fun c => val_main_v135 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)),
    fun c => val_main_v128 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)),
    fun c => val_main_v137 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)),
    fun c => val_main_v139 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)),
    fun c => val_main_v141 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)),
    (θ_run Cert.MlpIdeal.defs _ _).mono (fun r h c => ?_) (Cert.MlpIdeal.Run.ends (F := Ideal) m g),
    (θ_run Cert.MlpReferenceIdeal.defs _ _).mono (fun r h c => ?_) (Cert.MlpReferenceIdeal.Value.run (F := Ideal) m' g')⟩
  · exact ⟨(h c _ (mem_uc _ (by decide))).trans (res0 m g c (p c)),
      (h c _ (mem_uc _ (by decide))).trans (res1 m g c (p c)),
      (h c _ (mem_uc _ (by decide))).trans (res2 m g c (p c)),
      (h c _ (mem_uc _ (by decide))).trans (res3 m g c (p c)),
      (h c _ (mem_uc _ (by decide))).trans (res4 m g c (p c)),
      (h c _ (mem_uc _ (by decide))).trans (res5 m g c (p c)),
      (h c _ (mem_uc _ (by decide))).trans (res6 m g c (p c)),
      (h c _ (mem_uc _ (by decide))).trans (res7 m g c (p c)),
      (h c _ (mem_uc _ (by decide))).trans (W4_main_arg0 m g c),
      (h c _ (mem_uc _ (by decide))).trans (W4_main_arg1 m g c),
      (h c _ (mem_uc _ (by decide))).trans (W4_main_arg2 m g c),
      (h c _ (mem_uc _ (by decide))).trans (W4_main_arg3 m g c),
      (h c _ (mem_uc _ (by decide))).trans (W4_main_arg4 m g c),
      (h c _ (mem_uc _ (by decide))).trans (W4_main_arg5 m g c)⟩
  · obtain ⟨h0, h1, h2, h3, h4, h5, h6, h7, h8⟩ := h c
    obtain ⟨a0, a1, a2, a3, a4, a5⟩ := hagree c
    have e0 : r.2.mem ((c.tc : Thread Cert.MlpReferenceIdeal.nD Cert.MlpReferenceIdeal.τ).loc Cert.MlpReferenceIdeal.main_v129) = val_main_v129 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) := h0.trans (val_main_v129_eq (fun b => m' (c, b)))
    rw [a0, a1, a2, a3, a4, a5] at e0
    have e1 : r.2.mem ((c.tc : Thread Cert.MlpReferenceIdeal.nD Cert.MlpReferenceIdeal.τ).loc Cert.MlpReferenceIdeal.main_v131) = val_main_v131 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) := h1.trans (val_main_v131_eq (fun b => m' (c, b)))
    rw [a0, a1, a2, a3, a4, a5] at e1
    have e2 : r.2.mem ((c.tc : Thread Cert.MlpReferenceIdeal.nD Cert.MlpReferenceIdeal.τ).loc Cert.MlpReferenceIdeal.main_v133) = val_main_v133 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) := h2.trans (val_main_v133_eq (fun b => m' (c, b)))
    rw [a0, a1, a2] at e2
    have e3 : r.2.mem ((c.tc : Thread Cert.MlpReferenceIdeal.nD Cert.MlpReferenceIdeal.τ).loc Cert.MlpReferenceIdeal.main_v135) = val_main_v135 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) := h3.trans (val_main_v135_eq (fun b => m' (c, b)))
    rw [a0, a1] at e3
    have e4 : r.2.mem ((c.tc : Thread Cert.MlpReferenceIdeal.nD Cert.MlpReferenceIdeal.τ).loc Cert.MlpReferenceIdeal.main_v128) = val_main_v128 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) := h4.trans (val_main_v128_eq (fun b => m' (c, b)))
    rw [a0, a1, a2, a3, a4, a5] at e4
    have e5 : r.2.mem ((c.tc : Thread Cert.MlpReferenceIdeal.nD Cert.MlpReferenceIdeal.τ).loc Cert.MlpReferenceIdeal.main_v137) = val_main_v137 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) := h5.trans (val_main_v137_eq (fun b => m' (c, b)))
    rw [a0, a1, a2, a3, a4, a5] at e5
    have e6 : r.2.mem ((c.tc : Thread Cert.MlpReferenceIdeal.nD Cert.MlpReferenceIdeal.τ).loc Cert.MlpReferenceIdeal.main_v139) = val_main_v139 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) := h6.trans (val_main_v139_eq (fun b => m' (c, b)))
    rw [a0, a1, a2, a3, a4, a5] at e6
    have e7 : r.2.mem ((c.tc : Thread Cert.MlpReferenceIdeal.nD Cert.MlpReferenceIdeal.τ).loc Cert.MlpReferenceIdeal.main_v141) = val_main_v141 (F := Ideal) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) := h7.trans (val_main_v141_eq (fun b => m' (c, b)))
    rw [a0, a1, a2, a3, a4, a5] at e7
    exact ⟨e0, e1, e2, e3, e4, e5, e6, e7, h8⟩

end Cert.Proof.Mlp

end
-- ==== Proof.InFValue.lean ====
module

public import proofs.«01_k».proof.Proof.Rms
public import proofs.«01_k».proof.Proof.Common
public import proofs.«01_k».proof.Proof.Gen.InFIdeal.Value
public import proofs.«01_k».proof.Proof.Gen.InFReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.InFIdeal.Value

open Cert.InFIdeal Cert.InFIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- An entry of a normed row. -/
def nrm (x g : Fin 1024 → EReal) (k : Fin 1024) : EReal := x k * Rms.r x * g k

/-- An entry of the projection. -/
def prj (x g w : Fin 1024 → EReal) : EReal := ∑ k, nrm x g k * w k

theorem nrm_congr {x x' g g' : Fin 1024 → EReal} (hx : ∀ k, x k = x' k) (hg : ∀ k, g k = g' k) (k : Fin 1024) : nrm x g k = nrm x' g' k := by
  rw [funext hx, funext hg]

theorem prj_congr {x x' g g' w w' : Fin 1024 → EReal} (hx : ∀ k, x k = x' k) (hg : ∀ k, g k = g' k) (hw : ∀ k, w k = w' k) : prj x g w = prj x' g' w' := by
  rw [funext hx, funext hg, funext hw]

theorem pay1_at (x : FVec Ideal S512x1024 .f32) (g : FVec Ideal S1x1024 .f32) (i : Fin 512) (k : Fin 1024) :
    k0_pay1 (F := Ideal) x g (ix2 i k) = nrm (fun k => x (ix2 i k)) (fun k => g (ix2 0 k)) k := by
  pointwise [k0_pay1, nrm, Rms.r]

theorem pay2_at (x : FVec Ideal S512x1024 .f32) (g : FVec Ideal S1x1024 .f32) (w : FVec Ideal S2560x1024 .bf16) (i : Fin 512) (e : Fin 2560) :
    k0_pay2 (F := Ideal) x g w (ix2 i e) = prj (fun k => x (ix2 i k)) (fun k => g (ix2 0 k)) (fun k => w (ix2 e k)) := by
  pointwise [k0_pay2, pay1_at, prj]

open Cert.InFReferenceIdeal.Read in
theorem ref_h (x : FVec Ideal S1x4096x1024 .f32) (g : FVec Ideal S1x1024 .f32) (i : Fin 4096) (k : Fin 1024) :
    val_main_v13 (F := Ideal) x g (ix3 0 i k) = nrm (fun k => x (ix3 0 i k)) (fun k => g (ix2 0 k)) k := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, nrm, Rms.r]

open Cert.InFReferenceIdeal.Read in
theorem ref_z (x : FVec Ideal S1x4096x1024 .f32) (g : FVec Ideal S1x1024 .f32) (w : FVec Ideal S1x1024x2560 .f32) (i : Fin 4096) (e : Fin 2560) :
    val_main_v16 (F := Ideal) x g w (ix2 i e) = prj (fun k => x (ix3 0 i k)) (fun k => g (ix2 0 k)) (fun k => w (ix3 0 k e)) := by
  pointwise [val_main_v16, val_main_v15, val_main_v14, ref_h, prj]

open Cert.InFReferenceIdeal.Read in
theorem ref_h16 (x : FVec Ideal S1x4096x1024 .f32) (g : FVec Ideal S1x1024 .f32) (i : Fin 4096) (k : Fin 1024) :
    val_main_v18 (F := Ideal) x g (ix2 i k) = nrm (fun k => x (ix3 0 i k)) (fun k => g (ix2 0 k)) k := by
  pointwise [val_main_v18, val_main_v17, ref_h]

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ t.val < 8 :=
  (by decide +kernel : ∀ t : Fin grid0.N, _)

theorem in_w (c : Dev nD) : V m c main_v3 = truncf (F := Ideal) .bf16 (transpose S2560x1024 [1, 0] (shapeCast _ (m ((c : Thread nD τ).loc main_arg2)) shapeCasts_S1x1024x2560_S1024x2560) transposes_S1024x2560_S2560x1024_1_0) bitsLt_bf16_f32 := by
  unfold V
  after_results
  all_goals rfl

theorem in_x (c : Dev nD) : V m c main_v0 = shapeCast _ (m ((c : Thread nD τ).loc main_arg0)) shapeCasts_S1x4096x1024_S4096x1024 := by
  unfold V
  after_results
  all_goals rfl

theorem blk_0 (c : Dev nD) (t : Fin cfg0.N) (i : Fin 512) (hl : t.val * 512 + i.val < 4096) (k : Fin 1024) :
    iblk m c 0 t (ix2 i k) = m ((c : Thread nD τ).loc main_arg0) (ix3 0 ⟨t.val * 512 + i.val, hl⟩ k) := by
  blk_point [iblk, in_x, idx t]

theorem blk_1 (c : Dev nD) (t : Fin cfg0.N) (k : Fin 1024) :
    iblk m c 1 t (ix2 0 k) = m ((c : Thread nD τ).loc main_arg1) (ix2 0 k) := by
  blk_point [iblk, V, idx t]

theorem blk_2 (c : Dev nD) (t : Fin cfg0.N) (e : Fin 2560) (k : Fin 1024) :
    iblk m c 2 t (ix2 e k) = m ((c : Thread nD τ).loc main_arg2) (ix3 0 k e) := by
  blk_point [iblk, in_w, idx t]

theorem outs_3 (x0 : Vec Ideal S512x1024 .f32) (x1 : Vec Ideal S1x1024 .f32) (x2 : Vec Ideal S2560x1024 .bf16) : out0_3 (F := Ideal) x0 x1 x2 = k0_pay2 (F := Ideal) x0 x1 x2 := by
  unfold out0_3
  frame_out

theorem outs_4 (x0 : Vec Ideal S512x1024 .f32) (x1 : Vec Ideal S1x1024 .f32) (x2 : Vec Ideal S2560x1024 .bf16) : out0_4 (F := Ideal) x0 x1 x2 = k0_pay1 (F := Ideal) x0 x1 := by
  unfold out0_4
  frame_out

open Cert.InFReferenceIdeal.Read in
theorem final3 (c : Dev nD) : (dats m 0 c).arrAt 3 cfg0.N
    = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht := (idx t).2.2.2.2.2
  blk_simp
  rw [after0_3, outs_3]
  have hy0 : (y 0 : ℕ) < 512 := (y 0).isLt
  have hl : t.val * 512 + (y 0 : ℕ) < 4096 := by omega
  refine (congrArg _ (Common.eta2 (a := 512) (b := 2560) y)).trans ?_
  refine (pay2_at _ _ _ (y 0) (y 1)).trans ?_
  refine Eq.trans (prj_congr (fun k => blk_0 m c t (y 0) hl k) (fun k => blk_1 m c t k) (fun k => blk_2 m c t (y 1) k)) ?_
  refine (ref_z _ _ _ ⟨t.val * 512 + y 0, hl⟩ (y 1)).symm.trans ?_
  refine congrArg _ ?_
  blk_ext [idx t]

open Cert.InFReferenceIdeal.Read in
theorem final4 (c : Dev nD) : (dats m 0 c).arrAt 4 cfg0.N
    = val_main_v18 (F := Ideal) (m ((c : Thread nD τ).loc main_arg0)) (m ((c : Thread nD τ).loc main_arg1)) := by
  refine (dats m 0 c).arrAt_eq_of_covers 4 _ (by decide +kernel) fun t _ y => ?_
  have ht := (idx t).2.2.2.2.2
  blk_simp
  rw [after0_4, outs_4]
  have hy0 : (y 0 : ℕ) < 512 := (y 0).isLt
  have hl : t.val * 512 + (y 0 : ℕ) < 4096 := by omega
  refine (congrArg _ (Common.eta2 (a := 512) (b := 1024) y)).trans ?_
  refine (pay1_at _ _ (y 0) (y 1)).trans ?_
  refine Eq.trans (nrm_congr (fun k => blk_0 m c t (y 0) hl k) (fun k => blk_1 m c t k) (y 1)) ?_
  refine (ref_h16 _ _ ⟨t.val * 512 + y 0, hl⟩ (y 1)).symm.trans ?_
  refine congrArg _ ?_
  blk_ext [idx t]

end Cert.InFIdeal.Value

end
-- ==== Proof.InFClaim.lean ====
/- The claims about the pair. -/
module

public import proofs.«01_k».proof.Defs
public import proofs.«01_k».proof.Proof.InFValue
public import proofs.«01_k».proof.Proof.Gen.InF.Frame

@[expose] public section

noncomputable section

namespace Cert.Proof.InF

open Idealize.ShloMosaic Idealize.ShloMosaic.TcCoe Idealize.SL.Sem

theorem frame_k : Cert.quiescent_InF := fun m ρ _ => Cert.InF.Gen.frame m ρ

theorem frame_ki : Cert.quiescent_InFIdeal := fun m ρ _ => Cert.InFIdeal.Gen.frame m ρ

theorem frame_ri : Cert.quiescent_InFReferenceIdeal := fun m ρ _ =>
  (θ_run Cert.InFReferenceIdeal.defs _ _).mono (fun r h => ⟨fun c => (h c).2.2, sem_eq_zero_of_no_sems (by decide) r.2⟩)
    (Cert.InFReferenceIdeal.Value.run (F := Ideal) m ρ)

open Cert.InFReferenceIdeal.Read Cert.InFIdeal.Gen Cert.InFIdeal.Value in
theorem value : Cert.algebraic_InFIdeal_InFReferenceIdeal := by
  intro m g m' g' hpre hagree
  refine ⟨fun c => val_main_v16 (F := Ideal) (m ((c.tc : Thread Cert.InFIdeal.nD Cert.InFIdeal.τ).loc Cert.InFIdeal.main_arg0)) (m ((c.tc : Thread Cert.InFIdeal.nD Cert.InFIdeal.τ).loc Cert.InFIdeal.main_arg1)) (m ((c.tc : Thread Cert.InFIdeal.nD Cert.InFIdeal.τ).loc Cert.InFIdeal.main_arg2)),
    fun c => val_main_v18 (F := Ideal) (m ((c.tc : Thread Cert.InFIdeal.nD Cert.InFIdeal.τ).loc Cert.InFIdeal.main_arg0)) (m ((c.tc : Thread Cert.InFIdeal.nD Cert.InFIdeal.τ).loc Cert.InFIdeal.main_arg1)),
    (θ_run Cert.InFIdeal.defs _ _).mono (fun r h c => ?_) (run_blocks (F := Ideal) m g),
    (θ_run Cert.InFReferenceIdeal.defs _ _).mono (fun r h c => ?_) (Cert.InFReferenceIdeal.Value.run (F := Ideal) m' g')⟩
  · obtain ⟨k0, k1, b0, b1, b2⟩ := h c
    exact ⟨k0.trans (final3 m c),
      k1.trans (final4 m c),
      b0,
      b1,
      b2⟩
  · obtain ⟨h0, h1, h2⟩ := h c
    obtain ⟨a0, a1, a2⟩ := hagree c
    refine ⟨(h0.trans (val_main_v16_eq _ _ _)).trans ?_,
      (h1.trans (val_main_v18_eq _ _)).trans ?_, h2⟩
    all_goals simp only [a0, a1, a2]

end Cert.Proof.InF

end
-- ==== Proof.PoolFParts.lean ====
/- The pooling's forward call: its payloads at a point, and the pieces of an array at a point. -/
module

public import proofs.«01_k».proof.Proof.Common
public import proofs.«01_k».proof.Proof.Gen.PoolFIdeal.Value
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolFIdeal.Value

open Cert.PoolFIdeal Cert.PoolFIdeal.Gen Idealize.ShloMosaic Idealize.ShloMosaic.TcCoe Idealize.SL.Sem

variable {Val : EltTy → Type} {e : EltTy}

/-- A column of the group `h`, in an array with at least 512 columns. -/
def cl (n : Nat) (hn : 512 ≤ n) (h : Fin 4) (k : Fin 128) : Fin n := ⟨128 * h + k, by omega⟩

abbrev c5 (h : Fin 4) (k : Fin 128) : Fin 512 := cl 512 (by decide) h k
theorem cl_val (n : Nat) (hn : 512 ≤ n) (h : Fin 4) (k : Fin 128) : ((cl n hn h k : Fin n) : Nat) = 128 * h + k := rfl

section Two
variable {A B a b o p : Nat} {inb : ∀ x, (![o, p] : Fin 2 → Nat) x + (![a, b] : Fin 2 → Nat) x ≤ (⟨2, ![A, B]⟩ : Shape).size x}

theorem canon_in [∀ e, Nonempty (Val e)] {w : (⟨2, ![a, b]⟩ : Shape).Idx → Val e} {L : List (View.Piece Val ⟨2, ![A, B]⟩ e)} {i : Fin A} {j : Fin B}
    (i' : Fin a) (j' : Fin b) (hi : (i : Nat) = o + i') (hj : (j : Nat) = p + j') :
    View.canon (s := ⟨2, ![A, B]⟩) (⟨Rect.unit ![o, p] ![a, b] inb, w⟩ :: L) (ix2 i j) = w (ix2 i' j') := by
  rw [Common.canon_top (S := ⟨2, ![A, B]⟩) ![o, p] ![a, b], dif_pos (fun x => by match x with
    | ⟨0, _⟩ => exact ⟨by show o ≤ (i : Nat); omega, by show (i : Nat) < o + a; omega⟩
    | ⟨1, _⟩ => exact ⟨by show p ≤ (j : Nat); omega, by show (j : Nat) < p + b; omega⟩)]
  congr 1
  funext x
  apply Fin.ext
  match x with
  | ⟨0, _⟩ => show (i : Nat) - o = i'; omega
  | ⟨1, _⟩ => show (j : Nat) - p = j'; omega

theorem canon_out [∀ e, Nonempty (Val e)] {w : (⟨2, ![a, b]⟩ : Shape).Idx → Val e} {L : List (View.Piece Val ⟨2, ![A, B]⟩ e)} {i : Fin A} {j : Fin B}
    (h : ¬ (o ≤ (i : Nat) ∧ (i : Nat) < o + a ∧ p ≤ (j : Nat) ∧ (j : Nat) < p + b)) :
    View.canon (s := ⟨2, ![A, B]⟩) (⟨Rect.unit ![o, p] ![a, b] inb, w⟩ :: L) (ix2 i j) = View.canon (s := ⟨2, ![A, B]⟩) L (ix2 i j) := by
  rw [Common.canon_top (S := ⟨2, ![A, B]⟩) ![o, p] ![a, b], dif_neg fun hh => h ⟨(hh 0).1, (hh 0).2, (hh 1).1, (hh 1).2⟩]

variable {sig : RefSig} {κ : Kind} {sp : Space}

theorem cov_at [∀ e, Nonempty (Val e)] {v : View sig κ sp ⟨2, ![A, B]⟩ e} {L : List (View.Piece Val ⟨2, ![A, B]⟩ e)} {i' : Fin a} {j' : Fin b}
    (i : Fin A) (j : Fin B) (hi : (i : Nat) = o + i') (hj : (j : Nat) = p + j') :
    v.readCov (Val := Val) L (Rect.unit (s := ⟨2, ![A, B]⟩) ![o, p] ![a, b] inb).toLoadRect (ix2 i' j') = View.canon (s := ⟨2, ![A, B]⟩) L (ix2 i j) := by
  rw [View.readCov_eq_canon']
  show View.canon L _ = _
  congr 1
  funext x
  apply Fin.ext
  match x with
  | ⟨0, _⟩ => show o + 1 * (i' : Nat) = i; omega
  | ⟨1, _⟩ => show p + 1 * (j' : Nat) = j; omega

theorem ld_at {X : (⟨2, ![A, B]⟩ : Shape).Idx → Val e} {i' : Fin a} {j' : Fin b} (i : Fin A) (j : Fin B) (hi : (i : Nat) = o + i') (hj : (j : Nat) = p + j') :
    View.ld (S := ⟨2, ![A, B]⟩) X (Rect.unit ![o, p] ![a, b] inb) (ix2 i' j') = X (ix2 i j) :=
  View.ld_unit_apply_of X _ _ inb _ _ fun x => by
    match x with
    | ⟨0, _⟩ => exact hi
    | ⟨1, _⟩ => exact hj

end Two

section Three
variable {o : Nat} {inb : ∀ x, (![o, 0, 0] : Fin 3 → Nat) x + (![1, 128, 128] : Fin 3 → Nat) x ≤ S4x128x128.size x}

theorem ld_at3 {X : S4x128x128.Idx → Val e} {h : Fin 4} {i j : Fin 128} (hh : (h : Nat) = o) :
    View.ld (S := S4x128x128) X (Rect.unit ![o, 0, 0] ![1, 128, 128] inb) (ix3 0 i j) = X (ix3 h i j) :=
  View.ld_unit_apply_of X _ _ inb _ _ fun x => by
    match x with
    | ⟨0, _⟩ => show (h : Nat) = o + 0; omega
    | ⟨1, _⟩ => show (i : Nat) = 0 + i; omega
    | ⟨2, _⟩ => show (j : Nat) = 0 + j; omega

end Three

/-- One over the number of tokens the mean of width `w` takes at position `p`. -/
def inv (w p : BitVec 32) : EReal := Ideal.div 1 (FloatOps.sitofp (F := Ideal) .f32 (IntOp.minsi (IntOp.addi p 1#32) w))

/-- The position of a row within the sequence. -/
def pos (i : grid0.Coords) (r : Fin 512) : BitVec 32 := IntOp.addi (Scalar.muli (BitVec.ofNat 32 (i 0).val) 512#32) (BitVec.ofNat 32 r.val)

theorem pay7_at (i : grid0.Coords) (r : Fin 512) : k0_pay7 (F := Ideal) i (ix2 r 0) = inv 2#32 (pos i r) := by
  pointwise [k0_pay7, k0_pay6, inv, pos]

theorem pay8_at (i : grid0.Coords) (r : Fin 512) : k0_pay8 (F := Ideal) i (ix2 r 0) = inv 4#32 (pos i r) := by
  pointwise [k0_pay8, k0_pay6, inv, pos]

theorem pay9_at (i : grid0.Coords) (r : Fin 512) : k0_pay9 (F := Ideal) i (ix2 r 0) = inv 8#32 (pos i r) := by
  pointwise [k0_pay9, k0_pay6, inv, pos]

theorem pay11_at (i : grid0.Coords) (r : Fin 512) : k0_pay11 (F := Ideal) (k0_pay6 i) k0_pay10 (ix2 r 0) = inv 16#32 (pos i r) := by
  pointwise [k0_pay11, k0_pay10, k0_pay6, inv, pos]

theorem pay3_at (y : S16x512.Idx) : k0_pay3 (F := Ideal) y = 0 := by pointwise [k0_pay3]

theorem pay4_at (x : FVec Ideal S16x512 .f32) (y : S16x512.Idx) : k0_pay4 (F := Ideal) x y = x y := by pointwise [k0_pay4]

theorem pay5_at (x : FVec Ideal S512x512 .f32) (y : S512x512.Idx) : k0_pay5 (F := Ideal) x y = x y := by pointwise [k0_pay5]

theorem pay12_at (v : FVec Ideal S512x1 .f32) (p a1 : FVec Ideal S512x128 .f32) (i : Fin 512) (k : Fin 128) :
    k0_pay12 (F := Ideal) v p a1 (ix2 i k) = (p (ix2 i k) + a1 (ix2 i k)) * v (ix2 i 0) - p (ix2 i k) := by
  pointwise [k0_pay12]

theorem pay14_at (v : FVec Ideal S512x1 .f32) (p a1 a2 a3 : FVec Ideal S512x128 .f32) (i : Fin 512) (k : Fin 128) :
    k0_pay14 (F := Ideal) v p a1 a2 a3 (ix2 i k) = (p (ix2 i k) + a1 (ix2 i k) + a2 (ix2 i k) + a3 (ix2 i k)) * v (ix2 i 0) - p (ix2 i k) := by
  pointwise [k0_pay14]

theorem pay16_at (v : FVec Ideal S512x1 .f32) (p a1 a2 a3 a4 a5 a6 a7 : FVec Ideal S512x128 .f32) (i : Fin 512) (k : Fin 128) :
    k0_pay16 (F := Ideal) v p a1 a2 a3 a4 a5 a6 a7 (ix2 i k)
      = (p (ix2 i k) + a1 (ix2 i k) + a2 (ix2 i k) + a3 (ix2 i k) + a4 (ix2 i k) + a5 (ix2 i k) + a6 (ix2 i k) + a7 (ix2 i k)) * v (ix2 i 0) - p (ix2 i k) := by
  pointwise [k0_pay16]

theorem pay1_at (v : FVec Ideal S512x1 .f32) (p a1 a2 a3 a4 a5 a6 a7 a8 a9 b0 b1 b2 b3 b4 b5 : FVec Ideal S512x128 .f32) (i : Fin 512) (k : Fin 128) :
    k0_pay1 (F := Ideal) v p (k0_pay18 p a1 a2 a3 a4 a5 a6 a7 a8 a9) b0 b1 b2 b3 b4 b5 (ix2 i k)
      = (p (ix2 i k) + a1 (ix2 i k) + a2 (ix2 i k) + a3 (ix2 i k) + a4 (ix2 i k) + a5 (ix2 i k) + a6 (ix2 i k) + a7 (ix2 i k) + a8 (ix2 i k) + a9 (ix2 i k)
          + b0 (ix2 i k) + b1 (ix2 i k) + b2 (ix2 i k) + b3 (ix2 i k) + b4 (ix2 i k) + b5 (ix2 i k)) * v (ix2 i 0) - p (ix2 i k) := by
  pointwise [k0_pay1, k0_pay18]

theorem pay13_at (v : FVec Ideal S512x1 .f32) (p a1 : FVec Ideal S512x128 .f32) (w : FVec Ideal S1x128x128 .f32) (s : FVec Ideal S1x128 .f32) (i : Fin 512) (j : Fin 128) :
    k0_pay13 (F := Ideal) v p a1 w s (ix2 i j) = (∑ k : Fin 128, k0_pay12 (F := Ideal) v p a1 (ix2 i k) * w (ix3 0 k j)) * s (ix2 0 j) := by
  pointwise [k0_pay13]

theorem pay15_at (q : FVec Ideal S512x128 .bf16) (w : FVec Ideal S1x128x128 .f32) (s : FVec Ideal S1x128 .f32) (i : Fin 512) (j : Fin 128) :
    k0_pay15 (F := Ideal) q w s (ix2 i j) = (∑ k : Fin 128, q (ix2 i k) * w (ix3 0 k j)) * s (ix2 0 j) := by
  pointwise [k0_pay15]

theorem pay17_at (q : FVec Ideal S512x128 .bf16) (w : FVec Ideal S1x128x128 .f32) (s : FVec Ideal S1x128 .f32) (i : Fin 512) (j : Fin 128) :
    k0_pay17 (F := Ideal) q w s (ix2 i j) = (∑ k : Fin 128, q (ix2 i k) * w (ix3 0 k j)) * s (ix2 0 j) := by
  pointwise [k0_pay17]

theorem pay2_at (v : FVec Ideal S512x1 .f32) (p a b0 b1 b2 b3 b4 b5 : FVec Ideal S512x128 .f32) (w : FVec Ideal S1x128x128 .f32) (s : FVec Ideal S1x128 .f32) (i : Fin 512) (j : Fin 128) :
    k0_pay2 (F := Ideal) v p a b0 b1 b2 b3 b4 b5 w s (ix2 i j) = (∑ k : Fin 128, k0_pay1 (F := Ideal) v p a b0 b1 b2 b3 b4 b5 (ix2 i k) * w (ix3 0 k j)) * s (ix2 0 j) := by
  pointwise [k0_pay2]

end Cert.PoolFIdeal.Value

end
-- ==== Proof.PoolFRun.lean ====
/- What one tile of the pooling's forward call leaves in its results and in the rows carried on. -/
module

public import proofs.«01_k».proof.Proof.PoolFParts
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolFIdeal.Value

open Cert.PoolFIdeal Cert.PoolFIdeal.Gen Idealize.ShloMosaic Idealize.ShloMosaic.TcCoe Idealize.SL.Sem

variable (m : (ℓ : Loc nD τ sig) → Buf (Elt Ideal) ℓ) (ρ : Dev nD → PrngReg)

theorem grp (h : Fin 4) : (h : Nat) = 0 ∨ (h : Nat) = 1 ∨ (h : Nat) = 2 ∨ (h : Nat) = 3 := by omega

/-- A group's pooling width. -/
def wd (h : Fin 4) : BitVec 32 := BitVec.ofNat 32 (2 ^ ((h : Nat) + 1))

theorem wd_of {h : Fin 4} {w : BitVec 32} (e : BitVec.ofNat 32 (2 ^ ((h : Nat) + 1)) = w) : wd h = w := e

/-- A pooled row through a group's weights, times the learned scale. -/
def mmr (w : FVec Ideal S4x128x128 .f32) (s : FVec Ideal S1x512 .f32) (q : Fin 128 → EReal) (h : Fin 4) (j : Fin 128) : EReal :=
  (∑ k : Fin 128, q k * w (ix3 h k j)) * s (ix2 0 (c5 h j))

theorem own_A (c : Dev nD) (t : Fin cfg0.N) (ht : t.val % 8 = 0) (ht' : ¬ 1 ≤ t.val) (r j : Fin 512) :
    (outsAt0 m c t.val t.isLt).2.2 (ix2 ⟨16 + r, by omega⟩ j) = iblk m c 0 t (ix2 r j) := by
  rw [outsAt0_A m c t ht ht']
  frame_out
  refine (canon_in r j (by rfl) (by omega)).trans ?_
  exact pay5_at _ _

theorem own_B (c : Dev nD) (t : Fin cfg0.N) (ht : ¬ t.val % 8 = 0) (ht' : 1 ≤ t.val) (r j : Fin 512) :
    (outsAt0 m c t.val t.isLt).2.2 (ix2 ⟨16 + r, by omega⟩ j) = iblk m c 0 t (ix2 r j) := by
  rw [outsAt0_B m c t ht ht']
  frame_out
  refine (canon_in r j (by rfl) (by omega)).trans ?_
  exact pay5_at _ _

theorem halo_A (c : Dev nD) (t : Fin cfg0.N) (ht : t.val % 8 = 0) (ht' : ¬ 1 ≤ t.val) (r : Fin 16) (j : Fin 512) :
    (outsAt0 m c t.val t.isLt).2.2 (ix2 ⟨r, by omega⟩ j) = (0 : EReal) := by
  rw [outsAt0_A m c t ht ht']
  frame_out
  refine (canon_out (by show ¬ (_ ≤ (r : Nat) ∧ (r : Nat) < _ ∧ _); omega)).trans ?_
  refine (canon_in r j (by show (r : Nat) = 0 + r; omega) (by omega)).trans ?_
  exact pay3_at _

theorem halo_B (c : Dev nD) (t : Fin cfg0.N) (ht : ¬ t.val % 8 = 0) (ht' : 1 ≤ t.val) (r : Fin 16) (j : Fin 512) :
    (outsAt0 m c t.val t.isLt).2.2 (ix2 ⟨r, by omega⟩ j) = (outsAt0 m c (t.val - 1) (Nat.lt_of_le_of_lt (Nat.sub_le _ _) t.isLt)).2.2 (ix2 ⟨512 + r, by omega⟩ j) := by
  rw [outsAt0_B m c t ht ht']
  frame_out
  refine (canon_out (by show ¬ (_ ≤ (r : Nat) ∧ (r : Nat) < _ ∧ _); omega)).trans ?_
  refine (canon_in r j (by show (r : Nat) = 0 + r; omega) (by omega)).trans ?_
  refine (pay4_at _ _).trans ?_
  refine (ld_at (A := 528) (B := 512) ⟨512 + r, by omega⟩ j (by rfl) (by omega)).trans ?_
  exact congrFun (Memref.IsWhole.read_unread _ _) _

theorem po_A (c : Dev nD) (t : Fin cfg0.N) (ht : t.val % 8 = 0) (ht' : ¬ 1 ≤ t.val) (h : Fin 4) (i : Fin 512) (k : Fin 128) :
    (outsAt0 m c t.val t.isLt).2.1 (ix2 i (c5 h k))
      = (∑ d ∈ Finset.range (2 ^ ((h : Nat) + 1)), (outsAt0 m c t.val t.isLt).2.2 (ix2 ⟨(16 + i - d) % 528, Nat.mod_lt _ (by decide)⟩ (c5 h k))) * inv (wd h) (pos (grid0.coords t) i)
        - (outsAt0 m c t.val t.isLt).2.2 (ix2 ⟨(16 + i - 0) % 528, Nat.mod_lt _ (by decide)⟩ (c5 h k)) := by
  rw [outsAt0_A m c t ht ht']
  frame_out
  rcases grp h with hq | hq | hq | hq
  · rw [wd_of (w := 2#32) (by rw [hq]; rfl), show 2 ^ ((h : Nat) + 1) = 2 by rw [hq]; rfl]
    simp only [Finset.sum_range_succ, Finset.sum_range_zero, zero_add]
    refine (canon_out (by rw [cl_val]; omega)).trans ?_
    refine (canon_out (by rw [cl_val]; omega)).trans ?_
    refine (canon_out (by rw [cl_val]; omega)).trans ?_
    refine (canon_in i k (by show (i : Nat) = 0 + i; omega) (by rw [cl_val]; omega)).trans ?_
    refine (pay12_at _ _ _ i k).trans ?_
    rw [pay7_at]
    refine congrArg₂ (fun a b : EReal => a * inv 2#32 (pos (grid0.coords t) i) - b) ?_ (cov_at (A := 528) (B := 512) _ (c5 h k) (by show _ % 528 = _ + (i : Nat); omega) (by rw [cl_val]; omega))
    iterate 1 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [wd_of (w := 4#32) (by rw [hq]; rfl), show 2 ^ ((h : Nat) + 1) = 4 by rw [hq]; rfl]
    simp only [Finset.sum_range_succ, Finset.sum_range_zero, zero_add]
    refine (canon_out (by rw [cl_val]; omega)).trans ?_
    refine (canon_out (by rw [cl_val]; omega)).trans ?_
    refine (canon_in i k (by show (i : Nat) = 0 + i; omega) (by rw [cl_val]; omega)).trans ?_
    refine (pay14_at _ _ _ _ _ i k).trans ?_
    rw [pay8_at]
    refine congrArg₂ (fun a b : EReal => a * inv 4#32 (pos (grid0.coords t) i) - b) ?_ (cov_at (A := 528) (B := 512) _ (c5 h k) (by show _ % 528 = _ + (i : Nat); omega) (by rw [cl_val]; omega))
    iterate 3 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [wd_of (w := 8#32) (by rw [hq]; rfl), show 2 ^ ((h : Nat) + 1) = 8 by rw [hq]; rfl]
    simp only [Finset.sum_range_succ, Finset.sum_range_zero, zero_add]
    refine (canon_out (by rw [cl_val]; omega)).trans ?_
    refine (canon_in i k (by show (i : Nat) = 0 + i; omega) (by rw [cl_val]; omega)).trans ?_
    refine (pay16_at _ _ _ _ _ _ _ _ _ i k).trans ?_
    rw [pay9_at]
    refine congrArg₂ (fun a b : EReal => a * inv 8#32 (pos (grid0.coords t) i) - b) ?_ (cov_at (A := 528) (B := 512) _ (c5 h k) (by show _ % 528 = _ + (i : Nat); omega) (by rw [cl_val]; omega))
    iterate 7 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [wd_of (w := 16#32) (by rw [hq]; rfl), show 2 ^ ((h : Nat) + 1) = 16 by rw [hq]; rfl]
    simp only [Finset.sum_range_succ, Finset.sum_range_zero, zero_add]
    refine (canon_in i k (by show (i : Nat) = 0 + i; omega) (by rw [cl_val]; omega)).trans ?_
    refine (pay1_at _ _ _ _ _ _ _ _ _ _ _ _ _ _ _ _ _ i k).trans ?_
    rw [pay11_at]
    refine congrArg₂ (fun a b : EReal => a * inv 16#32 (pos (grid0.coords t) i) - b) ?_ (cov_at (A := 528) (B := 512) _ (c5 h k) (by show _ % 528 = _ + (i : Nat); omega) (by rw [cl_val]; omega))
    iterate 15 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)

theorem po_B (c : Dev nD) (t : Fin cfg0.N) (ht : ¬ t.val % 8 = 0) (ht' : 1 ≤ t.val) (h : Fin 4) (i : Fin 512) (k : Fin 128) :
    (outsAt0 m c t.val t.isLt).2.1 (ix2 i (c5 h k))
      = (∑ d ∈ Finset.range (2 ^ ((h : Nat) + 1)), (outsAt0 m c t.val t.isLt).2.2 (ix2 ⟨(16 + i - d) % 528, Nat.mod_lt _ (by decide)⟩ (c5 h k))) * inv (wd h) (pos (grid0.coords t) i)
        - (outsAt0 m c t.val t.isLt).2.2 (ix2 ⟨(16 + i - 0) % 528, Nat.mod_lt _ (by decide)⟩ (c5 h k)) := by
  rw [outsAt0_B m c t ht ht']
  frame_out
  rcases grp h with hq | hq | hq | hq
  · rw [wd_of (w := 2#32) (by rw [hq]; rfl), show 2 ^ ((h : Nat) + 1) = 2 by rw [hq]; rfl]
    simp only [Finset.sum_range_succ, Finset.sum_range_zero, zero_add]
    refine (canon_out (by rw [cl_val]; omega)).trans ?_
    refine (canon_out (by rw [cl_val]; omega)).trans ?_
    refine (canon_out (by rw [cl_val]; omega)).trans ?_
    refine (canon_in i k (by show (i : Nat) = 0 + i; omega) (by rw [cl_val]; omega)).trans ?_
    refine (pay12_at _ _ _ i k).trans ?_
    rw [pay7_at]
    refine congrArg₂ (fun a b : EReal => a * inv 2#32 (pos (grid0.coords t) i) - b) ?_ (cov_at (A := 528) (B := 512) _ (c5 h k) (by show _ % 528 = _ + (i : Nat); omega) (by rw [cl_val]; omega))
    iterate 1 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [wd_of (w := 4#32) (by rw [hq]; rfl), show 2 ^ ((h : Nat) + 1) = 4 by rw [hq]; rfl]
    simp only [Finset.sum_range_succ, Finset.sum_range_zero, zero_add]
    refine (canon_out (by rw [cl_val]; omega)).trans ?_
    refine (canon_out (by rw [cl_val]; omega)).trans ?_
    refine (canon_in i k (by show (i : Nat) = 0 + i; omega) (by rw [cl_val]; omega)).trans ?_
    refine (pay14_at _ _ _ _ _ i k).trans ?_
    rw [pay8_at]
    refine congrArg₂ (fun a b : EReal => a * inv 4#32 (pos (grid0.coords t) i) - b) ?_ (cov_at (A := 528) (B := 512) _ (c5 h k) (by show _ % 528 = _ + (i : Nat); omega) (by rw [cl_val]; omega))
    iterate 3 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [wd_of (w := 8#32) (by rw [hq]; rfl), show 2 ^ ((h : Nat) + 1) = 8 by rw [hq]; rfl]
    simp only [Finset.sum_range_succ, Finset.sum_range_zero, zero_add]
    refine (canon_out (by rw [cl_val]; omega)).trans ?_
    refine (canon_in i k (by show (i : Nat) = 0 + i; omega) (by rw [cl_val]; omega)).trans ?_
    refine (pay16_at _ _ _ _ _ _ _ _ _ i k).trans ?_
    rw [pay9_at]
    refine congrArg₂ (fun a b : EReal => a * inv 8#32 (pos (grid0.coords t) i) - b) ?_ (cov_at (A := 528) (B := 512) _ (c5 h k) (by show _ % 528 = _ + (i : Nat); omega) (by rw [cl_val]; omega))
    iterate 7 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)
  · rw [wd_of (w := 16#32) (by rw [hq]; rfl), show 2 ^ ((h : Nat) + 1) = 16 by rw [hq]; rfl]
    simp only [Finset.sum_range_succ, Finset.sum_range_zero, zero_add]
    refine (canon_in i k (by show (i : Nat) = 0 + i; omega) (by rw [cl_val]; omega)).trans ?_
    refine (pay1_at _ _ _ _ _ _ _ _ _ _ _ _ _ _ _ _ _ i k).trans ?_
    rw [pay11_at]
    refine congrArg₂ (fun a b : EReal => a * inv 16#32 (pos (grid0.coords t) i) - b) ?_ (cov_at (A := 528) (B := 512) _ (c5 h k) (by show _ % 528 = _ + (i : Nat); omega) (by rw [cl_val]; omega))
    iterate 15 refine congrArg₂ (fun a b : EReal => a + b) ?_ (cov_at (A := 528) (B := 512) _ (c5 h k) (by show _ % 528 = _ + (i : Nat); omega) (by rw [cl_val]; omega))
    exact cov_at (A := 528) (B := 512) _ (c5 h k) (by show _ % 528 = _ + (i : Nat); omega) (by rw [cl_val]; omega)

theorem ob_A (c : Dev nD) (t : Fin cfg0.N) (ht : t.val % 8 = 0) (ht' : ¬ 1 ≤ t.val) (h : Fin 4) (i : Fin 512) (j : Fin 128) :
    (outsAt0 m c t.val t.isLt).1 (ix2 i (c5 h j))
      = mmr (iblk m c 1 t) (iblk m c 2 t) (fun k => (outsAt0 m c t.val t.isLt).2.1 (ix2 i (c5 h k))) h j := by
  unfold mmr
  rw [outsAt0_A m c t ht ht']
  frame_out
  rcases grp h with hq | hq | hq | hq
  · refine (canon_out (by rw [cl_val]; omega)).trans ?_
    refine (canon_out (by rw [cl_val]; omega)).trans ?_
    refine (canon_out (by rw [cl_val]; omega)).trans ?_
    refine (canon_in i j (by show (i : Nat) = 0 + i; omega) (by rw [cl_val]; omega)).trans ?_
    refine (pay13_at _ _ _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    refine (canon_out (by rw [cl_val]; omega)).trans ?_
    refine (canon_out (by rw [cl_val]; omega)).trans ?_
    refine (canon_out (by rw [cl_val]; omega)).trans ?_
    exact (canon_in i k (by show (i : Nat) = 0 + i; omega) (by rw [cl_val]; omega))
  · refine (canon_out (by rw [cl_val]; omega)).trans ?_
    refine (canon_out (by rw [cl_val]; omega)).trans ?_
    refine (canon_in i j (by show (i : Nat) = 0 + i; omega) (by rw [cl_val]; omega)).trans ?_
    refine (pay15_at _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    refine (canon_out (by rw [cl_val]; omega)).trans ?_
    refine (canon_out (by rw [cl_val]; omega)).trans ?_
    exact (canon_in i k (by show (i : Nat) = 0 + i; omega) (by rw [cl_val]; omega))
  · refine (canon_out (by rw [cl_val]; omega)).trans ?_
    refine (canon_in i j (by show (i : Nat) = 0 + i; omega) (by rw [cl_val]; omega)).trans ?_
    refine (pay17_at _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    refine (canon_out (by rw [cl_val]; omega)).trans ?_
    exact (canon_in i k (by show (i : Nat) = 0 + i; omega) (by rw [cl_val]; omega))
  · refine (canon_in i j (by show (i : Nat) = 0 + i; omega) (by rw [cl_val]; omega)).trans ?_
    refine (pay2_at _ _ _ _ _ _ _ _ _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    exact (canon_in i k (by show (i : Nat) = 0 + i; omega) (by rw [cl_val]; omega))

theorem ob_B (c : Dev nD) (t : Fin cfg0.N) (ht : ¬ t.val % 8 = 0) (ht' : 1 ≤ t.val) (h : Fin 4) (i : Fin 512) (j : Fin 128) :
    (outsAt0 m c t.val t.isLt).1 (ix2 i (c5 h j))
      = mmr (iblk m c 1 t) (iblk m c 2 t) (fun k => (outsAt0 m c t.val t.isLt).2.1 (ix2 i (c5 h k))) h j := by
  unfold mmr
  rw [outsAt0_B m c t ht ht']
  frame_out
  rcases grp h with hq | hq | hq | hq
  · refine (canon_out (by rw [cl_val]; omega)).trans ?_
    refine (canon_out (by rw [cl_val]; omega)).trans ?_
    refine (canon_out (by rw [cl_val]; omega)).trans ?_
    refine (canon_in i j (by show (i : Nat) = 0 + i; omega) (by rw [cl_val]; omega)).trans ?_
    refine (pay13_at _ _ _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    refine (canon_out (by rw [cl_val]; omega)).trans ?_
    refine (canon_out (by rw [cl_val]; omega)).trans ?_
    refine (canon_out (by rw [cl_val]; omega)).trans ?_
    exact (canon_in i k (by show (i : Nat) = 0 + i; omega) (by rw [cl_val]; omega))
  · refine (canon_out (by rw [cl_val]; omega)).trans ?_
    refine (canon_out (by rw [cl_val]; omega)).trans ?_
    refine (canon_in i j (by show (i : Nat) = 0 + i; omega) (by rw [cl_val]; omega)).trans ?_
    refine (pay15_at _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    refine (canon_out (by rw [cl_val]; omega)).trans ?_
    refine (canon_out (by rw [cl_val]; omega)).trans ?_
    exact (canon_in i k (by show (i : Nat) = 0 + i; omega) (by rw [cl_val]; omega))
  · refine (canon_out (by rw [cl_val]; omega)).trans ?_
    refine (canon_in i j (by show (i : Nat) = 0 + i; omega) (by rw [cl_val]; omega)).trans ?_
    refine (pay17_at _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    refine (canon_out (by rw [cl_val]; omega)).trans ?_
    exact (canon_in i k (by show (i : Nat) = 0 + i; omega) (by rw [cl_val]; omega))
  · refine (canon_in i j (by show (i : Nat) = 0 + i; omega) (by rw [cl_val]; omega)).trans ?_
    refine (pay2_at _ _ _ _ _ _ _ _ _ _ _ i j).trans ?_
    refine congrArg₂ (fun a b : EReal => a * b) (Finset.sum_congr rfl fun k _ => congrArg₂ (fun a b : EReal => a * b) (Eq.symm ?_) (ld_at3 hq)) (ld_at (A := 1) (B := 512) 0 (c5 h j) (by rfl) (by rw [cl_val]; omega))
    exact (canon_in i k (by show (i : Nat) = 0 + i; omega) (by rw [cl_val]; omega))

end Cert.PoolFIdeal.Value

end
-- ==== Proof.PoolFRef.lean ====
/- The pooling's reference: its running sums, and the windows that their differences are. -/
module

public import proofs.«01_k».proof.Proof.Common
public import proofs.«01_k».proof.Proof.Gen.PoolFReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolFRef

open Cert.PoolFReferenceIdeal Cert.PoolFReferenceIdeal.Gen Cert.PoolFReferenceIdeal.Read Idealize.ShloMosaic Idealize.ShloMosaic.TcCoe Idealize.SL.Sem

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The positions of a window along the second axis. -/
def along : (⟨4, ![1, 4096, 1, 1]⟩ : Shape).Idx ≃ Fin 4096 where
  toFun q := q 1
  invFun d := ix4 0 d 0 0
  left_inv q := by
    funext a
    apply Fin.ext
    match a with
    | ⟨0, _⟩ => show 0 = (q 0 : Nat); have h : (q 0 : Nat) < 1 := (q 0).isLt; omega
    | ⟨1, _⟩ => rfl
    | ⟨2, _⟩ => show 0 = (q 2 : Nat); have h : (q 2 : Nat) < 1 := (q 2).isLt; omega
    | ⟨3, _⟩ => show 0 = (q 3 : Nat); have h : (q 3 : Nat) < 1 := (q 3).isLt; omega
  right_inv d := rfl

/-- One position of a window that ends at a row of the second axis. -/
theorem head_at (x : S1x4096x4x128.Idx → EReal) (f : Nat → EReal) (t : Fin 4096) (g : Fin 4) (c : Fin 128) (hf : ∀ n : Fin 4096, x (ix4 0 n g c) = f n) (q : (⟨4, ![1, 4096, 1, 1]⟩ : Shape).Idx) :
    (if hin : ∀ a : Fin 4, ![0, 4095, 0, 0] a ≤ ((ix4 (0 : Fin 1) t g c : S1x4096x4x128.Idx) a : Nat) * ![1, 1, 1, 1] a + (q a : Nat) ∧
        ((ix4 (0 : Fin 1) t g c : S1x4096x4x128.Idx) a : Nat) * ![1, 1, 1, 1] a + (q a : Nat) - ![0, 4095, 0, 0] a < S1x4096x4x128.size a
      then x fun a => ⟨((ix4 (0 : Fin 1) t g c : S1x4096x4x128.Idx) a : Nat) * ![1, 1, 1, 1] a + (q a : Nat) - ![0, 4095, 0, 0] a, (hin a).2⟩ else 0)
      = if 4095 ≤ (t : Nat) + (q 1 : Fin 4096) then f (t + (q 1 : Fin 4096) - 4095) else 0 := by
  have h0 : (q 0 : Nat) < 1 := (q 0).isLt
  have h1 : (q 1 : Nat) < 4096 := (q 1).isLt
  have h2 : (q 2 : Nat) < 1 := (q 2).isLt
  have h3 : (q 3 : Nat) < 1 := (q 3).isLt
  have ht : (t : Nat) < 4096 := t.isLt
  by_cases hd : 4095 ≤ (t : Nat) + (q 1 : Fin 4096)
  · rw [if_pos hd, dif_pos (fun a => by match a with
      | ⟨0, _⟩ => exact ⟨Nat.zero_le _, by show 0 * 1 + (q 0 : Nat) - 0 < 1; omega⟩
      | ⟨1, _⟩ => exact ⟨by show 4095 ≤ (t : Nat) * 1 + (q 1 : Fin 4096); omega, by show (t : Nat) * 1 + (q 1 : Fin 4096) - 4095 < 4096; omega⟩
      | ⟨2, _⟩ => exact ⟨Nat.zero_le _, by show (g : Nat) * 1 + (q 2 : Nat) - 0 < 4; omega⟩
      | ⟨3, _⟩ => exact ⟨Nat.zero_le _, by show (c : Nat) * 1 + (q 3 : Nat) - 0 < 128; omega⟩)]
    refine Eq.trans ?_ (hf ⟨t + (q 1 : Fin 4096) - 4095, by omega⟩)
    congr 1
    funext a
    apply Fin.ext
    match a with
    | ⟨0, _⟩ => show 0 * 1 + (q 0 : Nat) - 0 = 0; omega
    | ⟨1, _⟩ => show (t : Nat) * 1 + (q 1 : Fin 4096) - 4095 = t + (q 1 : Fin 4096) - 4095; omega
    | ⟨2, _⟩ => show (g : Nat) * 1 + (q 2 : Nat) - 0 = g; omega
    | ⟨3, _⟩ => show (c : Nat) * 1 + (q 3 : Nat) - 0 = c; omega
  · rw [if_neg hd, dif_neg (fun hh => hd (by
      have := (hh 1).1
      have h1 : 4095 ≤ (t : Nat) * 1 + (q 1 : Fin 4096) := this
      omega))]

/-- The sum of a window that ends at a row is the sum up to that row. -/
theorem head_range (f : Nat → EReal) (t : Nat) (ht : t < 4096) :
    (∑ d : Fin 4096, if 4095 ≤ t + (d : Nat) then f (t + d - 4095) else 0) = ∑ n ∈ Finset.range (t + 1), f n := by
  rw [Fin.sum_univ_eq_sum_range (fun d => if 4095 ≤ t + d then f (t + d - 4095) else 0) 4096]
  have e := Finset.sum_range_add (fun d => if 4095 ≤ t + d then f (t + d - 4095) else 0) (4095 - t) (t + 1)
  rw [show 4095 - t + (t + 1) = 4096 by omega] at e
  rw [e, Finset.sum_eq_zero fun d hd => if_neg (by have := Finset.mem_range.mp hd; omega), zero_add]
  refine Finset.sum_congr rfl fun x _ => ?_
  rw [if_pos (by omega), show t + (4095 - t + x) - 4095 = x by omega]

theorem head_sum (h : S1x4096x4x128.ReduceWindows ![1, 4096, 1, 1] ![1, 1, 1, 1] ![0, 4095, 0, 0] ![0, 0, 0, 0] S1x4096x4x128)
    (x : S1x4096x4x128.Idx → EReal) (v : EReal) (hv : v = 0) (f : Nat → EReal) (t : Fin 4096) (g : Fin 4) (c : Fin 128) (hf : ∀ n : Fin 4096, x (ix4 0 n g c) = f n) :
    Ideal.hostReduceWindowAdd ![1, 4096, 1, 1] ![1, 1, 1, 1] ![0, 4095, 0, 0] ![0, 0, 0, 0] h x v (ix4 0 t g c) = ∑ n ∈ Finset.range (t + 1), f n := by
  subst hv
  unfold Ideal.hostReduceWindowAdd Host.reduceWindow
  refine (foldl_add _ _ _).trans ?_
  rw [zero_add, ← Fin.sum_univ_def]
  refine Eq.trans (Fintype.sum_equiv ((Shape.rowMajor (⟨4, ![1, 4096, 1, 1]⟩ : Shape)).symm.trans along) _
    (fun d : Fin 4096 => if 4095 ≤ (t : Nat) + d then f (t + d - 4095) else 0) fun n => ?_) (head_range f t t.isLt)
  exact (dite_congr rfl (fun _ => rfl) fun _ => rfl).trans (head_at x f t g c hf ((Shape.rowMajor (⟨4, ![1, 4096, 1, 1]⟩ : Shape)).symm n))

theorem head_host (h : S1x4096x4x128.ReduceWindows ![1, 4096, 1, 1] ![1, 1, 1, 1] ![0, 4095, 0, 0] ![0, 0, 0, 0] S1x4096x4x128) (hu : 0 < S_.numel)
    (x : FVec Ideal S1x4096x4x128 .f32) (v : FVec Ideal S_ .f32) (hv : ∀ i, v i = (0 : EReal)) (f : Nat → EReal) (t : Fin 4096) (g : Fin 4) (c : Fin 128) (hf : ∀ n : Fin 4096, x (ix4 0 n g c) = f n) :
    Host.reduceWindowAdd (F := Ideal) ![1, 4096, 1, 1] ![1, 1, 1, 1] ![0, 4095, 0, 0] ![0, 0, 0, 0] x v h hu (ix4 0 t g c) = ∑ n ∈ Finset.range (t + 1), f n := by
  unfold Host.reduceWindowAdd
  rw [Ideal.hostReduceWindowAdd_def]
  exact head_sum h x _ (hv _) f t g c hf

/-- A column of the pooled input, zero past the sequence's end. -/
def Z (x0 : FVec Ideal S1x4096x2560 .f32) (g : Fin 4) (c : Fin 128) (n : Nat) : EReal :=
  if h : n < 4096 then x0 (ix3 0 ⟨n, h⟩ ⟨2048 + (128 * g + c), by omega⟩) else 0

theorem z_at (x0 : FVec Ideal S1x4096x2560 .f32) (n : Fin 4096) (g : Fin 4) (c : Fin 128) :
    val_main_v1 (F := Ideal) x0 (ix4 0 n g c) = x0 (ix3 0 n ⟨2048 + (g * 128 + c), by omega⟩) := by
  pointwise [val_main_v1, val_main_v0]

theorem z_Z (x0 : FVec Ideal S1x4096x2560 .f32) (n : Fin 4096) (g : Fin 4) (c : Fin 128) : val_main_v1 (F := Ideal) x0 (ix4 0 n g c) = Z x0 g c n := by
  rw [z_at]
  unfold Z
  rw [dif_pos n.isLt]
  exact congrArg (fun q => x0 (ix3 0 n q)) (Fin.ext (by show 2048 + ((g : Nat) * 128 + c) = 2048 + (128 * g + c); omega))

theorem cs_at (x0 : FVec Ideal S1x4096x2560 .f32) (n : Fin 4096) (g : Fin 4) (c : Fin 128) :
    val_main_v2 (F := Ideal) x0 (ix4 0 n g c) = ∑ d ∈ Finset.range (n + 1), Z x0 g c d := by
  have hc : ∀ i, val_main_call0_call0_v0 (F := Ideal) i = 0 := fun i => by pointwise [val_main_call0_call0_v0, val_main_call0_call0_cst]
  unfold val_main_v2
  exact head_host _ _ _ _ hc (Z x0 g c) n g c (fun n => z_Z x0 n g c)

theorem low_at (x0 : FVec Ideal S1x4096x2560 .f32) (n : Fin 16) (g : Fin 4) (c : Fin 128) :
    val_main_v4 (F := Ideal) x0 (ix4 0 ⟨n, by omega⟩ g c) = (0 : EReal) := by
  pointwise [val_main_v4, val_main_v3, val_main_cst]

theorem high_at (x0 : FVec Ideal S1x4096x2560 .f32) (n : Fin 4096) (g : Fin 4) (c : Fin 128) :
    val_main_v4 (F := Ideal) x0 (ix4 0 ⟨16 + n, by omega⟩ g c) = val_main_v2 (F := Ideal) x0 (ix4 0 n g c) := by
  pointwise [val_main_v4]

theorem ext_at (x0 : FVec Ideal S1x4096x2560 .f32) (n : Fin 4112) (g : Fin 4) (c : Fin 128) :
    val_main_v4 (F := Ideal) x0 (ix4 0 n g c) = ∑ d ∈ Finset.range (n - 15), Z x0 g c d := by
  have hn := n.isLt
  by_cases h : (n : Nat) < 16
  · refine (low_at x0 ⟨n, h⟩ g c).trans ?_
    rw [show (n : Nat) - 15 = 0 by omega, Finset.sum_range_zero]
  · have en : n = ⟨16 + ((⟨n - 16, by omega⟩ : Fin 4096) : Nat), by show 16 + ((n : Nat) - 16) < 4112; omega⟩ := Fin.ext (by show (n : Nat) = 16 + (n - 16); omega)
    refine (congrArg (fun q => val_main_v4 (F := Ideal) x0 (ix4 0 q g c)) en).trans ((high_at x0 _ g c).trans ((cs_at x0 _ g c).trans ?_))
    show (∑ d ∈ Finset.range ((n : Nat) - 16 + 1), Z x0 g c d) = _
    rw [show (n : Nat) - 16 + 1 = n - 15 by omega]

/-- The number of tokens the mean of width `w` takes at position `t`. -/
def cnt (w : BitVec 32) (t : Nat) : EReal := FloatOps.sitofp (F := Ideal) .f32 (IntOp.minsi (IntOp.addi (BitVec.ofNat 32 t) 1#32) w)

theorem p21_at (x0 : FVec Ideal S1x4096x2560 .f32) (t : Fin 4096) (c : Fin 128) :
    val_main_v21 (F := Ideal) x0 (ix3 0 t c)
      = Ideal.div (val_main_v4 (F := Ideal) x0 (ix4 0 ⟨16 + t, by omega⟩ 0 c) - val_main_v4 (F := Ideal) x0 (ix4 0 ⟨14 + t, by omega⟩ 0 c)) (cnt 2#32 t) - val_main_v1 (F := Ideal) x0 (ix4 0 t 0 c) := by
  pointwise [val_main_v8, val_main_v9, val_main_v10, val_main_v11, val_main_v12, val_main_v13, val_main_v14, val_main_v15, val_main_v16, val_main_v17, val_main_v18, val_main_v19, val_main_v20, val_main_v21, val_main_v7, val_main_v6, val_main_v5, val_main_c, val_main_c_0, cnt]

theorem p35_at (x0 : FVec Ideal S1x4096x2560 .f32) (t : Fin 4096) (c : Fin 128) :
    val_main_v35 (F := Ideal) x0 (ix3 0 t c)
      = Ideal.div (val_main_v4 (F := Ideal) x0 (ix4 0 ⟨16 + t, by omega⟩ 1 c) - val_main_v4 (F := Ideal) x0 (ix4 0 ⟨12 + t, by omega⟩ 1 c)) (cnt 4#32 t) - val_main_v1 (F := Ideal) x0 (ix4 0 t 1 c) := by
  pointwise [val_main_v22, val_main_v23, val_main_v24, val_main_v25, val_main_v26, val_main_v27, val_main_v28, val_main_v29, val_main_v30, val_main_v31, val_main_v32, val_main_v33, val_main_v34, val_main_v35, val_main_v7, val_main_v6, val_main_v5, val_main_c, val_main_c_1, cnt]

theorem p49_at (x0 : FVec Ideal S1x4096x2560 .f32) (t : Fin 4096) (c : Fin 128) :
    val_main_v49 (F := Ideal) x0 (ix3 0 t c)
      = Ideal.div (val_main_v4 (F := Ideal) x0 (ix4 0 ⟨16 + t, by omega⟩ 2 c) - val_main_v4 (F := Ideal) x0 (ix4 0 ⟨8 + t, by omega⟩ 2 c)) (cnt 8#32 t) - val_main_v1 (F := Ideal) x0 (ix4 0 t 2 c) := by
  pointwise [val_main_v36, val_main_v37, val_main_v38, val_main_v39, val_main_v40, val_main_v41, val_main_v42, val_main_v43, val_main_v44, val_main_v45, val_main_v46, val_main_v47, val_main_v48, val_main_v49, val_main_v7, val_main_v6, val_main_v5, val_main_c, val_main_c_2, cnt]

theorem p63_at (x0 : FVec Ideal S1x4096x2560 .f32) (t : Fin 4096) (c : Fin 128) :
    val_main_v63 (F := Ideal) x0 (ix3 0 t c)
      = Ideal.div (val_main_v4 (F := Ideal) x0 (ix4 0 ⟨16 + t, by omega⟩ 3 c) - val_main_v4 (F := Ideal) x0 (ix4 0 ⟨0 + t, by omega⟩ 3 c)) (cnt 16#32 t) - val_main_v1 (F := Ideal) x0 (ix4 0 t 3 c) := by
  pointwise [val_main_v50, val_main_v51, val_main_v52, val_main_v53, val_main_v54, val_main_v55, val_main_v56, val_main_v57, val_main_v58, val_main_v59, val_main_v60, val_main_v61, val_main_v62, val_main_v63, val_main_v7, val_main_v6, val_main_v5, val_main_c, val_main_c_3, cnt]

theorem coe_sum (s : Finset Nat) (f : Nat → ℝ) : (∑ d ∈ s, (f d : EReal)) = ((∑ d ∈ s, f d : ℝ) : EReal) :=
  (map_sum (⟨⟨Real.toEReal, EReal.coe_zero⟩, EReal.coe_add⟩ : ℝ →+ EReal) f s).symm

/-- A difference of running sums is a window sum. -/
theorem window (u : Nat → EReal) (hr : ∀ n, ∃ r : ℝ, u n = r) (t w : Nat) :
    (∑ d ∈ Finset.range (t + 1), u d) - (∑ d ∈ Finset.range (t + 1 - w), u d) = ∑ d ∈ Finset.range w, if d ≤ t then u (t - d) else 0 := by
  have e : ∀ w, (∑ d ∈ Finset.range (t + 1), u d) = (∑ d ∈ Finset.range (t + 1 - w), u d) + ∑ d ∈ Finset.range w, if d ≤ t then u (t - d) else 0 := fun w => by
    induction w with
    | zero => rw [Finset.sum_range_zero, add_zero, Nat.sub_zero]
    | succ w ih =>
      rw [ih, Finset.sum_range_succ _ w]
      by_cases h : w ≤ t
      · rw [if_pos h, show t + 1 - w = (t - w) + 1 by omega, Finset.sum_range_succ, show t + 1 - (w + 1) = t - w by omega, add_assoc, add_comm (u (t - w))]
      · rw [if_neg h, add_zero, show t + 1 - w = 0 by omega, show t + 1 - (w + 1) = 0 by omega]
  obtain ⟨r, hs⟩ : ∃ r : ℝ, (∑ d ∈ Finset.range (t + 1 - w), u d) = r := by
    choose r hr using hr
    exact ⟨_, (Finset.sum_congr rfl fun d _ => hr d).trans (coe_sum _ r)⟩
  rw [e w, hs, sub_eq_add_neg, add_right_comm, ← EReal.coe_neg, ← EReal.coe_add, add_neg_cancel, EReal.coe_zero, zero_add]

/-- A group's pooling width. -/
def W (g : Fin 4) : Nat := 2 ^ ((g : Nat) + 1)

theorem grp (h : Fin 4) : h = 0 ∨ h = 1 ∨ h = 2 ∨ h = 3 := by omega

theorem Z_real (x0 : FVec Ideal S1x4096x2560 .f32) (h0 : Common.Finite x0) (g : Fin 4) (c : Fin 128) (n : Nat) : ∃ r : ℝ, Z x0 g c n = r := by
  unfold Z
  split
  · exact h0 _
  · exact ⟨0, rfl⟩

theorem cat0_at (x0 : FVec Ideal S1x4096x2560 .f32) (t : Fin 4096) (c : Fin 128) :
    val_main_v68 (F := Ideal) x0 (ix4 0 t 0 c) = val_main_v21 (F := Ideal) x0 (ix3 0 t c) := by
  pointwise [val_main_v68, val_main_v64]

theorem cat1_at (x0 : FVec Ideal S1x4096x2560 .f32) (t : Fin 4096) (c : Fin 128) :
    val_main_v68 (F := Ideal) x0 (ix4 0 t 1 c) = val_main_v35 (F := Ideal) x0 (ix3 0 t c) := by
  pointwise [val_main_v68, val_main_v65]

theorem cat2_at (x0 : FVec Ideal S1x4096x2560 .f32) (t : Fin 4096) (c : Fin 128) :
    val_main_v68 (F := Ideal) x0 (ix4 0 t 2 c) = val_main_v49 (F := Ideal) x0 (ix3 0 t c) := by
  pointwise [val_main_v68, val_main_v66]

theorem cat3_at (x0 : FVec Ideal S1x4096x2560 .f32) (t : Fin 4096) (c : Fin 128) :
    val_main_v68 (F := Ideal) x0 (ix4 0 t 3 c) = val_main_v63 (F := Ideal) x0 (ix3 0 t c) := by
  pointwise [val_main_v68, val_main_v67]

/-- The pooled mean less the token itself. -/
theorem pooled_at (x0 : FVec Ideal S1x4096x2560 .f32) (h0 : Common.Finite x0) (t : Fin 4096) (g : Fin 4) (c : Fin 128) :
    val_main_v68 (F := Ideal) x0 (ix4 0 t g c)
      = Ideal.div (∑ d ∈ Finset.range (W g), if d ≤ (t : Nat) then Z x0 g c (t - d) else 0) (cnt (BitVec.ofNat 32 (W g)) t) - Z x0 g c t := by
  rw [← window _ (Z_real x0 h0 g c)]
  rcases grp g with rfl | rfl | rfl | rfl
  · rw [cat0_at, p21_at, ext_at, ext_at, z_Z]
    show Ideal.div ((∑ d ∈ Finset.range (16 + (t : Nat) - 15), _) - (∑ d ∈ Finset.range (14 + (t : Nat) - 15), _)) (cnt 2#32 t) - _ = Ideal.div (_ - (∑ d ∈ Finset.range ((t : Nat) + 1 - 2), _)) (cnt 2#32 t) - _
    rw [show 16 + (t : Nat) - 15 = t + 1 by omega, show 14 + (t : Nat) - 15 = t + 1 - 2 by omega]
  · rw [cat1_at, p35_at, ext_at, ext_at, z_Z]
    show Ideal.div ((∑ d ∈ Finset.range (16 + (t : Nat) - 15), _) - (∑ d ∈ Finset.range (12 + (t : Nat) - 15), _)) (cnt 4#32 t) - _ = Ideal.div (_ - (∑ d ∈ Finset.range ((t : Nat) + 1 - 4), _)) (cnt 4#32 t) - _
    rw [show 16 + (t : Nat) - 15 = t + 1 by omega, show 12 + (t : Nat) - 15 = t + 1 - 4 by omega]
  · rw [cat2_at, p49_at, ext_at, ext_at, z_Z]
    show Ideal.div ((∑ d ∈ Finset.range (16 + (t : Nat) - 15), _) - (∑ d ∈ Finset.range (8 + (t : Nat) - 15), _)) (cnt 8#32 t) - _ = Ideal.div (_ - (∑ d ∈ Finset.range ((t : Nat) + 1 - 8), _)) (cnt 8#32 t) - _
    rw [show 16 + (t : Nat) - 15 = t + 1 by omega, show 8 + (t : Nat) - 15 = t + 1 - 8 by omega]
  · rw [cat3_at, p63_at, ext_at, ext_at, z_Z]
    show Ideal.div ((∑ d ∈ Finset.range (16 + (t : Nat) - 15), _) - (∑ d ∈ Finset.range (0 + (t : Nat) - 15), _)) (cnt 16#32 t) - _ = Ideal.div (_ - (∑ d ∈ Finset.range ((t : Nat) + 1 - 16), _)) (cnt 16#32 t) - _
    rw [show 16 + (t : Nat) - 15 = t + 1 by omega, show 0 + (t : Nat) - 15 = t + 1 - 16 by omega]

theorem flat_at (x0 : FVec Ideal S1x4096x2560 .f32) (t : Fin 4096) (g : Fin 4) (c : Fin 128) :
    val_main_v82 (F := Ideal) x0 (ix2 t ⟨g * 128 + c, by omega⟩) = val_main_v68 (F := Ideal) x0 (ix4 0 t g c) := by
  pointwise [val_main_v82, val_main_v81]

theorem y_at (x0 : FVec Ideal S1x4096x2560 .f32) (x1 : FVec Ideal S1x4x128x128 .f32) (t : Fin 4096) (g : Fin 4) (j : Fin 128) :
    val_main_v71 (F := Ideal) x0 x1 (ix4 0 t g j) = ∑ k : Fin 128, val_main_v68 (F := Ideal) x0 (ix4 0 t g k) * x1 (ix4 0 g k j) := by
  pointwise [val_main_v71, val_main_v70, val_main_v69]
  refine Finset.sum_congr rfl fun k _ => mul_comm _ _

theorem out_at (x0 : FVec Ideal S1x4096x2560 .f32) (x1 : FVec Ideal S1x4x128x128 .f32) (x2 : FVec Ideal S1x512 .f32) (x3 : FVec Ideal S4096x1024 .f32) (t : Fin 4096) (g : Fin 4) (j : Fin 128) :
    val_main_v80 (F := Ideal) x0 x1 x2 x3 (ix2 t ⟨512 + (g * 128 + j), by omega⟩) = val_main_v71 (F := Ideal) x0 x1 (ix4 0 t g j) * x2 (ix2 0 ⟨g * 128 + j, by omega⟩) := by
  pointwise [val_main_v80, val_main_v79, val_main_v78, val_main_v76, val_main_v75, val_main_v74, val_main_v73, val_main_v72]

theorem left_at (x0 : FVec Ideal S1x4096x2560 .f32) (x1 : FVec Ideal S1x4x128x128 .f32) (x2 : FVec Ideal S1x512 .f32) (x3 : FVec Ideal S4096x1024 .f32) (t : Fin 4096) (j : Fin 512) :
    val_main_v80 (F := Ideal) x0 x1 x2 x3 (ix2 t ⟨j, by omega⟩) = x3 (ix2 t ⟨j, by omega⟩) := by
  pointwise [val_main_v80, val_main_v79, val_main_v77]

/-- The count of pooled tokens is not zero. -/
theorem count_ne : ∀ (h : Fin 4) (n : Fin 4096), (IntOp.minsi (IntOp.addi (BitVec.ofNat 32 n.val) 1#32) (BitVec.ofNat 32 (W h))).toInt ≠ 0 := by
  decide +kernel

theorem div_cnt (x : EReal) (h : Fin 4) (n : Nat) (hn : n < 4096) :
    Ideal.div x (cnt (BitVec.ofNat 32 (W h)) n) = x * ((1 / (((IntOp.minsi (IntOp.addi (BitVec.ofNat 32 n) 1#32) (BitVec.ofNat 32 (W h))).toInt : ℝ)) : ℝ) : EReal) :=
  Ideal.div_coe (by exact_mod_cast count_ne h ⟨n, hn⟩) x

end Cert.PoolFRef

end
-- ==== Proof.PoolFFin.lean ====
/- What the pooling's forward call leaves in its results, against the reference's composed terms. -/
module

public import proofs.«01_k».proof.Proof.PoolFRun
public import proofs.«01_k».proof.Proof.PoolFRef
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.PoolFIdeal.Value

open Cert.PoolFIdeal Cert.PoolFIdeal.Gen Cert.PoolFRef Cert.PoolFReferenceIdeal.Read Idealize.ShloMosaic Idealize.ShloMosaic.TcCoe Idealize.SL.Sem

variable (m : (ℓ : Loc nD τ sig) → Buf (Elt Ideal) ℓ) (ρ : Dev nD → PrngReg)

theorem idx : ∀ t : Fin cfg0.N, win0_0.index t = ![t.val, 4] ∧ win0_1.index t = ![0, 0, 0] ∧ win0_2.index t = ![0, 0] ∧ win0_3.index t = ![t.val, 1]
    ∧ win0_4.index t = ![t.val, 0] ∧ t.val < 8 :=
  (by decide +kernel : ∀ t : Fin grid0.N, _)

theorem lt8 (t : Fin cfg0.N) : t.val < 8 := (idx t).2.2.2.2.2

/-- The row of the sequence at a tile's row. -/
def tk (t : Fin cfg0.N) (i : Fin 512) : Fin 4096 := ⟨t.val * 512 + i.val, by have := i.isLt; have := lt8 t; omega⟩

theorem in_0 (c : Dev nD) : V m c main_v0 = shapeCast _ (m ((c : Thread nD τ).loc main_arg0)) shapeCasts_S1x4096x2560_S4096x2560 := by
  unfold V
  after_results
  all_goals rfl

theorem in_1 (c : Dev nD) : V m c main_v1 = shapeCast _ (m ((c : Thread nD τ).loc main_arg1)) shapeCasts_S1x4x128x128_S4x128x128 := by
  unfold V
  after_results
  all_goals rfl

theorem in_3 (c : Dev nD) : V m c main_v3_0 = truncf (F := Ideal) .bf16 (m ((c : Thread nD τ).loc main_arg3)) bitsLt_bf16_f32 := by
  unfold V
  after_results
  all_goals rfl

theorem blk_0 (c : Dev nD) (t : Fin cfg0.N) (i : Fin 512) (hl : t.val * 512 + i.val < 4096) (j : Fin 512) :
    iblk m c 0 t (ix2 i j) = (m ((c : Thread nD τ).loc main_arg0)) (ix3 0 ⟨t.val * 512 + i.val, hl⟩ ⟨2048 + j, by omega⟩) := by
  blk_point [iblk, in_0, idx t]

theorem blk_1 (c : Dev nD) (t : Fin cfg0.N) (h : Fin 4) (k j : Fin 128) :
    iblk m c 1 t (ix3 h k j) = (m ((c : Thread nD τ).loc main_arg1)) (ix4 0 h k j) := by
  blk_point [iblk, in_1, idx t]

theorem blk_2 (c : Dev nD) (t : Fin cfg0.N) (j : Fin 512) :
    iblk m c 2 t (ix2 0 j) = (m ((c : Thread nD τ).loc main_arg2)) (ix2 0 j) := by
  blk_point [iblk, V, idx t]

theorem base_at : ∀ t : Fin cfg0.N, Scalar.muli (BitVec.ofNat 32 (grid0.coords t 0).val) 512#32 = BitVec.ofNat 32 (t.val * 512) :=
  (by decide +kernel : ∀ t : Fin grid0.N, _)

theorem pos_at (t : Fin cfg0.N) (i : Fin 512) : pos (grid0.coords t) i = BitVec.ofNat 32 (tk t i) := by
  unfold pos
  rw [base_at]
  exact BitVec.ofNat_add_ofNat (t.val * 512) i.val

theorem inv_at (h : Fin 4) (n : Nat) (hn : n < 4096) (x : EReal) : x * inv (wd h) (BitVec.ofNat 32 n) = Ideal.div x (cnt (BitVec.ofNat 32 (W h)) n) := by
  rw [show inv (wd h) (BitVec.ofNat 32 n) = Ideal.div 1 (cnt (BitVec.ofNat 32 (W h)) n) from rfl, div_cnt _ _ _ hn, div_cnt _ _ _ hn, one_mul]

theorem c5_eq (h : Fin 4) (j : Fin 128) : c5 h j = ⟨h * 128 + j, by omega⟩ := Fin.ext (by rw [cl_val]; show 128 * (h : Nat) + j = h * 128 + j; omega)

/-- A tile's own rows, as kept. -/
theorem own_at (c : Dev nD) (t : Fin cfg0.N) (h : Fin 4) (r : Fin 512) (k : Fin 128) :
    (outsAt0 m c t.val t.isLt).2.2 (ix2 ⟨16 + r, by omega⟩ (c5 h k)) = Z (m ((c : Thread nD τ).loc main_arg0)) h k (t.val * 512 + r) := by
  have h8 := lt8 t
  have e : (outsAt0 m c t.val t.isLt).2.2 (ix2 ⟨16 + r, by omega⟩ (c5 h k)) = iblk m c 0 t (ix2 r (c5 h k)) := by
    by_cases ht : t.val % 8 = 0
    · exact own_A m c t ht (by omega) r _
    · exact own_B m c t ht (by omega) r _
  rw [e, blk_0 m c t r (by omega)]
  unfold Z
  rw [dif_pos (by omega)]
  rfl

/-- A tile's rows and the rows before it, as kept. -/
theorem kept_at (c : Dev nD) (t : Fin cfg0.N) (h : Fin 4) (n : Fin 528) (k : Fin 128) :
    (outsAt0 m c t.val t.isLt).2.2 (ix2 n (c5 h k)) = if 16 ≤ t.val * 512 + n.val then Z (m ((c : Thread nD τ).loc main_arg0)) h k (t.val * 512 + n.val - 16) else 0 := by
  have h8 := lt8 t
  have hn := n.isLt
  by_cases hn' : 16 ≤ (n : Nat)
  · have en : n = ⟨16 + ((⟨n - 16, by omega⟩ : Fin 512) : Nat), by show 16 + ((n : Nat) - 16) < 528; omega⟩ := Fin.ext (by show (n : Nat) = 16 + (n - 16); omega)
    refine (congrArg (fun z => (outsAt0 m c t.val t.isLt).2.2 (ix2 z (c5 h k))) en).trans ((own_at m c t h _ k).trans ?_)
    rw [if_pos (by omega)]
    refine congrArg _ ?_
    show t.val * 512 + ((n : Nat) - 16) = _
    omega
  · have en : n = ⟨((⟨n, by omega⟩ : Fin 16) : Nat), by show (n : Nat) < 528; omega⟩ := rfl
    by_cases ht : t.val % 8 = 0
    · rw [if_neg (by omega)]
      exact halo_A m c t ht (by omega) ⟨n, by omega⟩ _
    · rw [if_pos (by omega)]
      refine (halo_B m c t ht (by omega) ⟨n, by omega⟩ _).trans ?_
      have e5 : (⟨512 + (n : Nat), by omega⟩ : Fin 528) = ⟨16 + ((⟨496 + n, by omega⟩ : Fin 512) : Nat), by show 16 + (496 + (n : Nat)) < 528; omega⟩ := Fin.ext (by show 512 + (n : Nat) = 16 + (496 + n); omega)
      refine (congrArg (fun z => (outsAt0 m c (t.val - 1) (Nat.lt_of_le_of_lt (Nat.sub_le _ _) t.isLt)).2.2 (ix2 z (c5 h k))) e5).trans ?_
      refine (own_at m c ⟨t.val - 1, Nat.lt_of_le_of_lt (Nat.sub_le _ _) t.isLt⟩ h _ k).trans (congrArg _ ?_)
      show (t.val - 1) * 512 + (496 + (n : Nat)) = t.val * 512 + n - 16
      omega

/-- The pooled rows of a tile. -/
theorem pool_ref (c : Dev nD) (h0 : Common.Finite (s := S1x4096x2560) (m ((c : Thread nD τ).loc main_arg0))) (t : Fin cfg0.N) (h : Fin 4) (i : Fin 512) (k : Fin 128) :
    (outsAt0 m c t.val t.isLt).2.1 (ix2 i (c5 h k)) = val_main_v68 (F := Ideal) (m ((c : Thread nD τ).loc main_arg0)) (ix4 0 (tk t i) h k) := by
  have h8 := lt8 t
  have hi := i.isLt
  have e : (outsAt0 m c t.val t.isLt).2.1 (ix2 i (c5 h k))
      = (∑ d ∈ Finset.range (2 ^ ((h : Nat) + 1)), (outsAt0 m c t.val t.isLt).2.2 (ix2 ⟨(16 + i - d) % 528, Nat.mod_lt _ (by decide)⟩ (c5 h k))) * inv (wd h) (pos (grid0.coords t) i)
        - (outsAt0 m c t.val t.isLt).2.2 (ix2 ⟨(16 + i - 0) % 528, Nat.mod_lt _ (by decide)⟩ (c5 h k)) := by
    by_cases ht : t.val % 8 = 0
    · exact po_A m c t ht (by omega) h i k
    · exact po_B m c t ht (by omega) h i k
  rw [e, pooled_at _ h0, pos_at, inv_at _ _ (tk t i).isLt]
  have row : ∀ d, d < 16 → (outsAt0 m c t.val t.isLt).2.2 (ix2 ⟨(16 + i - d) % 528, Nat.mod_lt _ (by decide)⟩ (c5 h k)) = if d ≤ (tk t i : Nat) then Z (m ((c : Thread nD τ).loc main_arg0)) h k (tk t i - d) else 0 := fun d hd => by
    refine (kept_at m c t h _ k).trans ?_
    show (if 16 ≤ t.val * 512 + (16 + (i : Nat) - d) % 528 then Z (m ((c : Thread nD τ).loc main_arg0)) h k (t.val * 512 + (16 + (i : Nat) - d) % 528 - 16) else 0) = if d ≤ t.val * 512 + (i : Nat) then Z (m ((c : Thread nD τ).loc main_arg0)) h k (t.val * 512 + (i : Nat) - d) else 0
    rw [Nat.mod_eq_of_lt (by omega)]
    by_cases hh : d ≤ t.val * 512 + (i : Nat)
    · rw [if_pos hh, if_pos (by omega), show t.val * 512 + (16 + (i : Nat) - d) - 16 = t.val * 512 + i - d by omega]
    · rw [if_neg hh, if_neg (by omega)]
  have hw : 2 ^ ((h : Nat) + 1) ≤ 16 := (by decide : ∀ h : Fin 4, 2 ^ ((h : Nat) + 1) ≤ 16) h
  refine congrArg₂ (fun a b : EReal => Ideal.div a (cnt (BitVec.ofNat 32 (W h)) (tk t i)) - b) (Finset.sum_congr rfl fun d hd => row d (Nat.lt_of_lt_of_le (Finset.mem_range.mp hd) hw)) ((row 0 (by decide)).trans ?_)
  rw [if_pos (Nat.zero_le _), Nat.sub_zero]

theorem out_ref (c : Dev nD) (h0 : Common.Finite (s := S1x4096x2560) (m ((c : Thread nD τ).loc main_arg0))) (t : Fin cfg0.N) (h : Fin 4) (i : Fin 512) (j : Fin 128) :
    (outsAt0 m c t.val t.isLt).1 (ix2 i (c5 h j)) = val_main_v80 (F := Ideal) (m ((c : Thread nD τ).loc main_arg0)) (m ((c : Thread nD τ).loc main_arg1)) (m ((c : Thread nD τ).loc main_arg2)) (m ((c : Thread nD τ).loc main_arg3)) (ix2 (tk t i) ⟨512 + (h * 128 + j), by omega⟩) := by
  have h8 := lt8 t
  have e : (outsAt0 m c t.val t.isLt).1 (ix2 i (c5 h j))
      = mmr (iblk m c 1 t) (iblk m c 2 t) (fun k => (outsAt0 m c t.val t.isLt).2.1 (ix2 i (c5 h k))) h j := by
    by_cases ht : t.val % 8 = 0
    · exact ob_A m c t ht (by omega) h i j
    · exact ob_B m c t ht (by omega) h i j
  rw [e, out_at, y_at, ← c5_eq]
  unfold mmr
  refine congrArg₂ (fun a b : EReal => a * b) (Finset.sum_congr rfl fun k _ => congrArg₂ (fun a b : EReal => a * b) (pool_ref m c h0 t h i k) (blk_1 m c t h k j)) (blk_2 m c t _)

theorem final4 (c : Dev nD) (h0 : Common.Finite (s := S1x4096x2560) (m ((c : Thread nD τ).loc main_arg0))) : (dats m 0 c).arrAt 4 cfg0.N = val_main_v82 (F := Ideal) (m ((c : Thread nD τ).loc main_arg0)) := by
  refine (dats m 0 c).arrAt_eq_of_covers 4 _ (by decide +kernel) fun t _ y => ?_
  have ht := lt8 t
  blk_simp
  rw [after0_4]
  have hy0 : (y 0 : ℕ) < 512 := (y 0).isLt
  have hy1 : (y 1 : ℕ) < 512 := (y 1).isLt
  have ey : (y 1 : Fin 512) = c5 ⟨(y 1 : Nat) / 128, by omega⟩ ⟨(y 1 : Nat) % 128, by omega⟩ := Fin.ext (by show (y 1 : Nat) = 128 * ((y 1 : Nat) / 128) + (y 1 : Nat) % 128; omega)
  refine (congrArg _ ((Common.eta2 (a := 512) (b := 512) y).trans (congrArg (fun z => ix2 (y 0) z) ey))).trans ?_
  refine (pool_ref m c h0 t _ _ _).trans ((flat_at _ _ _ _).symm.trans (congrArg _ ?_))
  blk_ext [idx t, tk]

theorem right3 (c : Dev nD) (h0 : Common.Finite (s := S1x4096x2560) (m ((c : Thread nD τ).loc main_arg0))) (i : S4096x1024.Idx) :
    (dats m 0 c).arrAt 3 cfg0.N i = if 512 ≤ (i 1 : Nat) then val_main_v80 (F := Ideal) (m ((c : Thread nD τ).loc main_arg0)) (m ((c : Thread nD τ).loc main_arg1)) (m ((c : Thread nD τ).loc main_arg2)) (m ((c : Thread nD τ).loc main_arg3)) i else (dats m 0 c).A 3 i := by
  refine (dats m 0 c).arrAt_apply_of_coversWhere 3 (val_main_v80 (F := Ideal) (m ((c : Thread nD τ).loc main_arg0)) (m ((c : Thread nD τ).loc main_arg1)) (m ((c : Thread nD τ).loc main_arg2)) (m ((c : Thread nD τ).loc main_arg3))) (P := fun i : S4096x1024.Idx => 512 ≤ (i 1 : Nat))
    (fun β => β (1 : Fin 2) = 1) (by decide +kernel) (fun t _ y => ?_) (fun j => ?_) i
  · have ht := lt8 t
    blk_simp
    rw [after0_3]
    have hy0 : (y 0 : ℕ) < 512 := (y 0).isLt
    have hy1 : (y 1 : ℕ) < 512 := (y 1).isLt
    have ey : (y 1 : Fin 512) = c5 ⟨(y 1 : Nat) / 128, by omega⟩ ⟨(y 1 : Nat) % 128, by omega⟩ := Fin.ext (by show (y 1 : Nat) = 128 * ((y 1 : Nat) / 128) + (y 1 : Nat) % 128; omega)
    refine (congrArg _ ((Common.eta2 (a := 512) (b := 512) y).trans (congrArg (fun z => ix2 (y 0) z) ey))).trans ?_
    refine (out_ref m c h0 t _ _ _).trans (congrArg _ ?_)
    blk_ext [idx t, tk]
  · have hj : (j 1 : Nat) < 1024 := (j 1).isLt
    blk_simp [Pipeline.Window.cell_apply]
    omega

theorem final3 (c : Dev nD) (h0 : Common.Finite (s := S1x4096x2560) (m ((c : Thread nD τ).loc main_arg0))) : (dats m 0 c).arrAt 3 cfg0.N = val_main_v80 (F := Ideal) (m ((c : Thread nD τ).loc main_arg0)) (m ((c : Thread nD τ).loc main_arg1)) (m ((c : Thread nD τ).loc main_arg2)) (m ((c : Thread nD τ).loc main_arg3)) := by
  funext i
  refine (right3 m c h0 i).trans ?_
  by_cases hi : 512 ≤ (i 1 : Nat)
  · rw [if_pos hi]
  · rw [if_neg hi, A_eq]
    have ei : i = ix2 (i 0 : Fin 4096) ⟨((⟨(i 1 : Nat), by omega⟩ : Fin 512) : Nat), by show (i 1 : Nat) < 1024; omega⟩ := Common.eta2 (a := 4096) (b := 1024) i
    refine Eq.trans ?_ ((congrArg (val_main_v80 (F := Ideal) (m ((c : Thread nD τ).loc main_arg0)) (m ((c : Thread nD τ).loc main_arg1)) (m ((c : Thread nD τ).loc main_arg2)) (m ((c : Thread nD τ).loc main_arg3))) ei).trans (left_at _ _ _ _ _ _)).symm
    show V m c main_v3_0 i = _
    rw [in_3]
    exact congrArg (m ((c : Thread nD τ).loc main_arg3)) ei

end Cert.PoolFIdeal.Value

end
-- ==== Proof.PoolFClaim.lean ====
/- The claims about the pair. -/
module

public import proofs.«01_k».proof.Defs
public import proofs.«01_k».proof.Proof.PoolFFin
public import proofs.«01_k».proof.Proof.Gen.PoolF.Frame

@[expose] public section

noncomputable section

namespace Cert.Proof.PoolF

open Idealize.ShloMosaic Idealize.ShloMosaic.TcCoe Idealize.SL.Sem

theorem frame_k : Cert.quiescent_PoolF := fun m ρ _ => Cert.PoolF.Gen.frame m ρ

theorem frame_ki : Cert.quiescent_PoolFIdeal := fun m ρ _ => Cert.PoolFIdeal.Gen.frame m ρ

theorem frame_ri : Cert.quiescent_PoolFReferenceIdeal := fun m ρ _ =>
  (θ_run Cert.PoolFReferenceIdeal.defs _ _).mono (fun r h => ⟨fun c => (h c).2.2, sem_eq_zero_of_no_sems (by decide) r.2⟩)
    (Cert.PoolFReferenceIdeal.Value.run (F := Ideal) m ρ)

theorem facts_pre : Cert.Pre_finite_poolf.Facts := by
  constructor <;> decide

theorem frame_ki_pre : Cert.quiescent_PoolFIdeal_pre_finite_poolf (hPre_finite_poolf := facts_pre) := fun m ρ _ => Cert.PoolFIdeal.Gen.frame m ρ

theorem frame_ri_pre : Cert.quiescent_PoolFReferenceIdeal_pre_finite_poolf (hPre_finite_poolf := facts_pre) := fun m ρ _ => frame_ri m ρ trivial

open Cert.PoolFReferenceIdeal.Read Cert.PoolFIdeal.Gen Cert.PoolFIdeal.Value in
theorem value : Cert.algebraic_PoolFIdeal_PoolFReferenceIdeal_pre_finite_poolf (hPre_finite_poolf := facts_pre) := by
  intro m g m' g' hpre hagree
  have p0 : ∀ c : Dev Cert.PoolFIdeal.nD, Common.Finite (m ((c.tc : Thread Cert.PoolFIdeal.nD Cert.PoolFIdeal.τ).loc Cert.PoolFIdeal.main_arg0)) := fun c i => Common.real_of_lt _ (congrFun (hpre c) i)
  refine ⟨fun c => val_main_v80 (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2)) (m ((c.tc : Thread Cert.PoolFIdeal.nD Cert.PoolFIdeal.τ).loc Cert.PoolFIdeal.main_arg3)),
    fun c => val_main_v82 (F := Ideal) (m ((c.tc : Thread Cert.PoolFIdeal.nD Cert.PoolFIdeal.τ).loc Cert.PoolFIdeal.main_arg0)),
    (θ_run Cert.PoolFIdeal.defs _ _).mono (fun r h c => ?_) (run_blocks (F := Ideal) m g),
    (θ_run Cert.PoolFReferenceIdeal.defs _ _).mono (fun r h c => ?_) (Cert.PoolFReferenceIdeal.Value.run (F := Ideal) m' g')⟩
  · obtain ⟨k0, k1, b0, b1, b2, b3⟩ := h c
    exact ⟨k0.trans (final3 m c (p0 c)),
      k1.trans (final4 m c (p0 c)),
      b0,
      b1,
      b2,
      b3⟩
  · obtain ⟨h0, h1, h2⟩ := h c
    obtain ⟨a0, a1, a2, a3⟩ := hagree c
    refine ⟨(h0.trans (val_main_v80_eq _ _)).trans ?_,
      (h1.trans (val_main_v82_eq _ _)).trans ?_, h2⟩
    all_goals simp only [a0, a1, a2, a3]

end Cert.Proof.PoolF

end
-- ==== Proof.WgradValue.lean ====
/- A weight's gradient: the products of the two halves of the rows, added up in a scratch buffer, against one sum over all rows. -/
module

public import proofs.«01_k».proof.Proof.Common
public import proofs.«01_k».proof.Proof.Gen.WgradIdeal.Value
public import proofs.«01_k».proof.Proof.Gen.WgradReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.WgradIdeal.Value

open Cert.WgradIdeal Cert.WgradIdeal.Gen Cert.WgradReferenceIdeal.Read Idealize.ShloMosaic Idealize.ShloMosaic.TcCoe Idealize.SL.Sem

variable (m : (ℓ : Loc nD τ sig) → Buf (Elt Ideal) ℓ) (ρ : Dev nD → PrngReg)

theorem pay1_at (i j : Fin 1024) : k0_pay1 (F := Ideal) (ix2 i j) = (0 : EReal) := by
  pointwise [k0_pay1]

/-- The product over half the rows. -/
def half (a b : FVec Ideal S2048x1024 .bf16) (i j : Fin 1024) : EReal := ∑ k : Fin 2048, a (ix2 k i) * b (ix2 k j)

theorem pay2_at (s : FVec Ideal S1024x1024 .f32) (a b : FVec Ideal S2048x1024 .bf16) (i j : Fin 1024) :
    k0_pay2 (F := Ideal) s a b (ix2 i j) = s (ix2 i j) + half a b i j := by
  pointwise [k0_pay2, half]

theorem pay3_at (s : FVec Ideal S1024x1024 .f32) (i j : Fin 1024) : k0_pay3 (F := Ideal) s (ix2 i j) = s (ix2 i j) := by
  pointwise [k0_pay3]

theorem first (c : Dev nD) (t : Fin cfg0.N) (h0 : t.val % 2 = 0) (i j : Fin 1024) :
    (outsAt0 m c t.val t.isLt).2 (ix2 i j) = half (iblk m c 0 t) (iblk m c 1 t) i j := by
  rw [outsAt0_A m c t h0 (by omega)]
  frame_out
  refine (pay2_at _ _ _ i j).trans ?_
  rw [pay1_at, zero_add]

theorem second (c : Dev nD) (t : Fin cfg0.N) (h1 : t.val % 2 = 1) (i j : Fin 1024) :
    (outsAt0 m c t.val t.isLt).1 (ix2 i j)
      = (outsAt0 m c (t.val - 1) (Nat.lt_of_le_of_lt (Nat.sub_le _ _) t.isLt)).2 (ix2 i j) + half (iblk m c 0 t) (iblk m c 1 t) i j := by
  rw [outsAt0_B m c t (by omega) h1]
  frame_out
  refine (pay3_at _ i j).trans ?_
  exact (pay2_at _ _ _ i j).trans (congrArg (fun z : EReal => z + half (iblk m c 0 t) (iblk m c 1 t) i j) (congrFun (Memref.IsWhole.read_unread _ _) _))

theorem idx : ∀ t : Fin cfg0.N, win0_0.index t = ![t.val % 2, t.val / 2] ∧ win0_1.index t = ![t.val % 2, 0] ∧ win0_2.index t = ![t.val / 2, 0] ∧ t.val < 8 :=
  (by decide +kernel : ∀ t : Fin grid0.N, _)

theorem in_0 (c : Dev nD) : V m c main_v0 = truncf (F := Ideal) .bf16 (m ((c : Thread nD τ).loc main_arg0)) bitsLt_bf16_f32 := by
  unfold V
  after_results
  all_goals rfl

theorem in_1 (c : Dev nD) : V m c main_v1 = truncf (F := Ideal) .bf16 (m ((c : Thread nD τ).loc main_arg1)) bitsLt_bf16_f32 := by
  unfold V
  after_results
  all_goals rfl

theorem blk_0 (c : Dev nD) (t : Fin cfg0.N) (k : Fin 2048) (i : Fin 1024) (hk : t.val % 2 * 2048 + k.val < 4096) (hi : t.val / 2 * 1024 + i.val < 4096) :
    iblk m c 0 t (ix2 k i) = (m ((c : Thread nD τ).loc main_arg0)) (ix2 ⟨t.val % 2 * 2048 + k.val, hk⟩ ⟨t.val / 2 * 1024 + i.val, hi⟩) := by
  blk_point [iblk, in_0, idx t]

theorem blk_1 (c : Dev nD) (t : Fin cfg0.N) (k : Fin 2048) (j : Fin 1024) (hk : t.val % 2 * 2048 + k.val < 4096) :
    iblk m c 1 t (ix2 k j) = (m ((c : Thread nD τ).loc main_arg1)) (ix2 ⟨t.val % 2 * 2048 + k.val, hk⟩ j) := by
  blk_point [iblk, in_1, idx t]

theorem ref_at (a : FVec Ideal S4096x4096 .f32) (b : FVec Ideal S4096x1024 .f32) (i : Fin 4096) (j : Fin 1024) :
    val_main_v1 (F := Ideal) a b (ix2 i j) = ∑ k : Fin 4096, a (ix2 k i) * b (ix2 k j) := by
  pointwise [val_main_v1, val_main_v0]

/-- One sum over all rows is the sum of the halves' sums. -/
theorem halves (f : Fin 4096 → EReal) : (∑ k : Fin 2048, f ⟨k, by omega⟩) + (∑ k : Fin 2048, f ⟨2048 + k, by omega⟩) = ∑ k, f k :=
  (Fin.sum_univ_add (a := 2048) (b := 2048) f).symm

theorem half_at (c : Dev nD) (t : Fin cfg0.N) (h1 : t.val % 2 = 1) (i j : Fin 1024) (hi : t.val / 2 * 1024 + i.val < 4096) :
    (outsAt0 m c t.val t.isLt).1 (ix2 i j) = val_main_v1 (F := Ideal) (m ((c : Thread nD τ).loc main_arg0)) (m ((c : Thread nD τ).loc main_arg1)) (ix2 ⟨t.val / 2 * 1024 + i.val, hi⟩ j) := by
  have h8 := (idx t).2.2.2
  rw [second m c t h1, ref_at, ← halves]
  have hp : t.val - 1 < cfg0.N := Nat.lt_of_le_of_lt (Nat.sub_le _ _) t.isLt
  refine congrArg₂ (fun a b : EReal => a + b) ?_ (Finset.sum_congr rfl fun k _ => ?_)
  · refine (first m c ⟨t.val - 1, hp⟩ (by show (t.val - 1) % 2 = 0; omega) i j).trans (Finset.sum_congr rfl fun k _ => ?_)
    have hk : (t.val - 1) % 2 * 2048 + k.val < 4096 := by omega
    have hi' : (t.val - 1) / 2 * 1024 + i.val < 4096 := by omega
    have ek : (⟨(t.val - 1) % 2 * 2048 + k.val, hk⟩ : Fin 4096) = ⟨k, by omega⟩ := Fin.ext (by show (t.val - 1) % 2 * 2048 + k.val = k; omega)
    have ei : (⟨(t.val - 1) / 2 * 1024 + i.val, hi'⟩ : Fin 4096) = ⟨t.val / 2 * 1024 + i.val, hi⟩ := Fin.ext (by show (t.val - 1) / 2 * 1024 + i.val = t.val / 2 * 1024 + i.val; omega)
    refine congrArg₂ (fun a b : EReal => a * b) ((blk_0 m c ⟨t.val - 1, hp⟩ k i hk hi').trans ?_) ((blk_1 m c ⟨t.val - 1, hp⟩ k j hk).trans ?_)
    · exact congrArg₂ (fun a b => (m ((c : Thread nD τ).loc main_arg0)) (ix2 a b)) ek ei
    · exact congrArg (fun a => (m ((c : Thread nD τ).loc main_arg1)) (ix2 a j)) ek
  · have hk : t.val % 2 * 2048 + k.val < 4096 := by omega
    have ek : (⟨t.val % 2 * 2048 + k.val, hk⟩ : Fin 4096) = ⟨2048 + k, by omega⟩ := Fin.ext (by show t.val % 2 * 2048 + k.val = 2048 + k; omega)
    refine congrArg₂ (fun a b : EReal => a * b) ((blk_0 m c t k i hk hi).trans ?_) ((blk_1 m c t k j hk).trans ?_)
    · exact congrArg (fun a => (m ((c : Thread nD τ).loc main_arg0)) (ix2 a ⟨t.val / 2 * 1024 + i.val, hi⟩)) ek
    · exact congrArg (fun a => (m ((c : Thread nD τ).loc main_arg1)) (ix2 a j)) ek

theorem last2 (c : Dev nD) : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t hf y => ?_
  have ht := (idx t).2.2.2
  have h1 : t.val % 2 = 1 := (flush0_2 t).mp hf
  blk_simp
  rw [after0_2]
  have hy0 : (y 0 : ℕ) < 1024 := (y 0).isLt
  have hi : t.val / 2 * 1024 + (y 0 : ℕ) < 4096 := by omega
  refine (congrArg _ (Common.eta2 (a := 1024) (b := 1024) y)).trans ?_
  refine (half_at m c t h1 (y 0) (y 1) hi).trans (congrArg _ ?_)
  blk_ext [idx t]

end Cert.WgradIdeal.Value

end
-- ==== Proof.WgradClaim.lean ====
/- The claims about the pair. -/
module

public import proofs.«01_k».proof.Defs
public import proofs.«01_k».proof.Proof.WgradValue
public import proofs.«01_k».proof.Proof.Gen.Wgrad.Frame

@[expose] public section

noncomputable section

namespace Cert.Proof.Wgrad

open Idealize.ShloMosaic Idealize.ShloMosaic.TcCoe Idealize.SL.Sem

theorem frame_k : Cert.quiescent_Wgrad := fun m ρ _ => Cert.Wgrad.Gen.frame m ρ

theorem frame_ki : Cert.quiescent_WgradIdeal := fun m ρ _ => Cert.WgradIdeal.Gen.frame m ρ

theorem frame_ri : Cert.quiescent_WgradReferenceIdeal := fun m ρ _ =>
  (θ_run Cert.WgradReferenceIdeal.defs _ _).mono (fun r h => ⟨fun c => (h c).2, sem_eq_zero_of_no_sems (by decide) r.2⟩)
    (Cert.WgradReferenceIdeal.Value.run (F := Ideal) m ρ)

open Cert.WgradReferenceIdeal.Read Cert.WgradIdeal.Gen Cert.WgradIdeal.Value in
theorem value : Cert.algebraic_WgradIdeal_WgradReferenceIdeal := by
  intro m g m' g' hpre hagree
  refine ⟨fun c => val_main_v1 (F := Ideal) (m ((c.tc : Thread Cert.WgradIdeal.nD Cert.WgradIdeal.τ).loc Cert.WgradIdeal.main_arg0)) (m ((c.tc : Thread Cert.WgradIdeal.nD Cert.WgradIdeal.τ).loc Cert.WgradIdeal.main_arg1)),
    (θ_run Cert.WgradIdeal.defs _ _).mono (fun r h c => ?_) (run_blocks (F := Ideal) m g),
    (θ_run Cert.WgradReferenceIdeal.defs _ _).mono (fun r h c => ?_) (Cert.WgradReferenceIdeal.Value.run (F := Ideal) m' g')⟩
  · obtain ⟨k0, b0, b1⟩ := h c
    exact ⟨k0.trans (last2 m c),
      b0,
      b1⟩
  · obtain ⟨h0, h1⟩ := h c
    obtain ⟨a0, a1⟩ := hagree c
    refine ⟨(h0.trans (val_main_v1_eq _ _)).trans ?_, h1⟩
    all_goals simp only [a0, a1]

end Cert.Proof.Wgrad

end
-- ==== Proof.SumAdamValue.lean ====
/- The sum over the senders and the AdamW step: eight blocks added one after another, and the update entry by entry. -/
module

public import proofs.«01_k».proof.Proof.Common
public import proofs.«01_k».proof.Proof.Gen.SumAdamIdeal.Value
public import proofs.«01_k».proof.Proof.Gen.SumAdamReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.SumAdamIdeal.Value

open Cert.SumAdamIdeal Cert.SumAdamIdeal.Gen Cert.SumAdamReferenceIdeal.Read Idealize.ShloMosaic Idealize.ShloMosaic.TcCoe Idealize.SL.Sem

variable (m : (ℓ : Loc nD τ sig) → Buf (Elt Ideal) ℓ) (ρ : Dev nD → PrngReg)

/-- The first moment, moved towards a gradient. -/
def mom (g m : EReal) : EReal := Ideal.ofBits .f32 0x3F666666#32 * m + Ideal.ofBits .f32 0x3DCCCCCD#32 * g

/-- The second moment, moved towards a gradient's square. -/
def sec (g v : EReal) : EReal := Ideal.ofBits .f32 0x3F7FBE77#32 * v + Ideal.ofBits .f32 0x3A83126F#32 * (g * g)

/-- The step of a weight. -/
def step (g w m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

theorem step_congr {g g' w w' m m' v v' : EReal} (hg : g = g') (hw : w = w') (hm : m = m') (hv : v = v') : step g w m v = step g' w' m' v' := by
  rw [hg, hw, hm, hv]

theorem pay1_at (g m : FVec Ideal S256x512 .f32) (i : Fin 256) (j : Fin 512) : k0_pay1 (F := Ideal) g m (ix2 i j) = mom (g (ix2 i j)) (m (ix2 i j)) := by
  pointwise [k0_pay1, mom]

theorem pay2_at (g v : FVec Ideal S256x512 .f32) (i : Fin 256) (j : Fin 512) : k0_pay2 (F := Ideal) g v (ix2 i j) = sec (g (ix2 i j)) (v (ix2 i j)) := by
  pointwise [k0_pay2, sec]

theorem pay3_at (g w m v : FVec Ideal S256x512 .f32) (i : Fin 256) (j : Fin 512) :
    k0_pay3 (F := Ideal) g w m v (ix2 i j) = step (g (ix2 i j)) (w (ix2 i j)) (m (ix2 i j)) (v (ix2 i j)) := by
  pointwise [k0_pay3, pay1_at, pay2_at, step]

theorem pay4_at (a0 a1 a2 a3 a4 a5 a6 a7 : FVec Ideal S1x256x512 .bf16) (i : Fin 256) (j : Fin 512) :
    k0_pay4 (F := Ideal) a0 a1 a2 a3 a4 a5 a6 a7 (ix2 i j)
      = ((((((a0 (ix3 0 i j) + a1 (ix3 0 i j)) + a2 (ix3 0 i j)) + a3 (ix3 0 i j)) + a4 (ix3 0 i j)) + a5 (ix3 0 i j)) + a6 (ix3 0 i j)) + a7 (ix3 0 i j) := by
  pointwise [k0_pay4]

section
variable {Val : EltTy → Type} {e : EltTy} {o : Nat} {inb : ∀ x, (![o, 0, 0] : Fin 3 → Nat) x + (![1, 256, 512] : Fin 3 → Nat) x ≤ S8x256x512.size x}
theorem ld_at {X : S8x256x512.Idx → Val e} {h : Fin 8} {i : Fin 256} {j : Fin 512} (hh : (h : Nat) = o) :
    View.ld (S := S8x256x512) X (Rect.unit ![o, 0, 0] ![1, 256, 512] inb) (ix3 0 i j) = X (ix3 h i j) :=
  View.ld_unit_apply_of X _ _ inb _ _ fun x => by
    match x with
    | ⟨0, _⟩ => show (h : Nat) = o + 0; omega
    | ⟨1, _⟩ => show (i : Nat) = 0 + i; omega
    | ⟨2, _⟩ => show (j : Nat) = 0 + j; omega
end

/-- The senders' blocks, added up. -/
theorem sum_at (x : FVec Ideal S8x256x512 .bf16) (i : Fin 256) (j : Fin 512) :
    k0_pay4 (F := Ideal) (View.ld x r0_0) (View.ld x r0_1) (View.ld x r0_2) (View.ld x r0_3) (View.ld x r0_4) (View.ld x r0_5) (View.ld x r0_6) (View.ld x r0_7) (ix2 i j)
      = ∑ d : Fin 8, x (ix3 d i j) := by
  rw [Fin.sum_univ_eight]
  refine (pay4_at _ _ _ _ _ _ _ _ i j).trans ?_
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (ld_at (o := 0) (h := 0) rfl) (ld_at (o := 1) (h := 1) rfl)) (ld_at (o := 2) (h := 2) rfl)) (ld_at (o := 3) (h := 3) rfl)) (ld_at (o := 4) (h := 4) rfl)) (ld_at (o := 5) (h := 5) rfl)) (ld_at (o := 6) (h := 6) rfl)) (ld_at (o := 7) (h := 7) rfl)

theorem outs_4 (x0 : Vec Ideal S8x256x512 .bf16) (x1 x2 x3 : Vec Ideal S256x512 .f32) (i : Fin 256) (j : Fin 512) :
    out0_4 (F := Ideal) x0 x1 x2 x3 (ix2 i j) = ∑ d : Fin 8, x0 (ix3 d i j) := by
  unfold out0_4
  frame_out
  exact sum_at x0 i j

theorem outs_5 (x0 : Vec Ideal S8x256x512 .bf16) (x1 x2 x3 : Vec Ideal S256x512 .f32) (i : Fin 256) (j : Fin 512) :
    out0_5 (F := Ideal) x0 x1 x2 x3 (ix2 i j) = step (∑ d : Fin 8, x0 (ix3 d i j)) (x1 (ix2 i j)) (x2 (ix2 i j)) (x3 (ix2 i j)) := by
  unfold out0_5
  frame_out
  refine (pay3_at _ _ _ _ i j).trans ?_
  exact congrArg (fun z => step z _ _ _) (sum_at x0 i j)

theorem outs_6 (x0 : Vec Ideal S8x256x512 .bf16) (x1 x2 x3 : Vec Ideal S256x512 .f32) (i : Fin 256) (j : Fin 512) :
    out0_6 (F := Ideal) x0 x1 x2 x3 (ix2 i j) = mom (∑ d : Fin 8, x0 (ix3 d i j)) (x2 (ix2 i j)) := by
  unfold out0_6
  frame_out
  refine (pay1_at _ _ i j).trans ?_
  exact congrArg (fun z => mom z _) (sum_at x0 i j)

theorem outs_7 (x0 : Vec Ideal S8x256x512 .bf16) (x1 x2 x3 : Vec Ideal S256x512 .f32) (i : Fin 256) (j : Fin 512) :
    out0_7 (F := Ideal) x0 x1 x2 x3 (ix2 i j) = sec (∑ d : Fin 8, x0 (ix3 d i j)) (x3 (ix2 i j)) := by
  unfold out0_7
  frame_out
  refine (pay2_at _ _ i j).trans ?_
  exact congrArg (fun z => sec z _) (sum_at x0 i j)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ t.val < 4 :=
  (by decide +kernel : ∀ t : Fin grid0.N, _)

theorem lt4 (t : Fin cfg0.N) : t.val < 4 := (idx t).2.2.2.2.2.2.2.2

theorem blk_0 (c : Dev nD) (t : Fin cfg0.N) (d : Fin 8) (i : Fin 256) (hl : t.val * 256 + i.val < 1024) (j : Fin 512) :
    iblk m c 0 t (ix3 d i j) = (m ((c : Thread nD τ).loc main_arg0)) (ix3 d ⟨t.val * 256 + i.val, hl⟩ j) := by
  blk_point [iblk, V, idx t]

theorem blk_1 (c : Dev nD) (t : Fin cfg0.N) (i : Fin 256) (hl : t.val * 256 + i.val < 1024) (j : Fin 512) :
    iblk m c 1 t (ix2 i j) = (m ((c : Thread nD τ).loc main_arg1)) (ix2 ⟨t.val * 256 + i.val, hl⟩ j) := by
  blk_point [iblk, V, idx t]

theorem blk_2 (c : Dev nD) (t : Fin cfg0.N) (i : Fin 256) (hl : t.val * 256 + i.val < 1024) (j : Fin 512) :
    iblk m c 2 t (ix2 i j) = (m ((c : Thread nD τ).loc main_arg2)) (ix2 ⟨t.val * 256 + i.val, hl⟩ j) := by
  blk_point [iblk, V, idx t]

theorem blk_3 (c : Dev nD) (t : Fin cfg0.N) (i : Fin 256) (hl : t.val * 256 + i.val < 1024) (j : Fin 512) :
    iblk m c 3 t (ix2 i j) = (m ((c : Thread nD τ).loc main_arg3)) (ix2 ⟨t.val * 256 + i.val, hl⟩ j) := by
  blk_point [iblk, V, idx t]

theorem ref_g (x0 : FVec Ideal S8x1024x512 .bf16) (i : Fin 1024) (j : Fin 512) : val_main_v1 (F := Ideal) x0 (ix2 i j) = ∑ d : Fin 8, x0 (ix3 d i j) := by
  pointwise [val_main_v1, val_main_v0, val_main_cst]

theorem ref_m (x0 : FVec Ideal S8x1024x512 .bf16) (x2 : FVec Ideal S1024x512 .f32) (i : Fin 1024) (j : Fin 512) :
    val_main_v6 (F := Ideal) x0 x2 (ix2 i j) = mom (∑ d : Fin 8, x0 (ix3 d i j)) (x2 (ix2 i j)) := by
  pointwise [val_main_v6, val_main_v5, val_main_v4, val_main_v3, val_main_v2, val_main_cst_0, val_main_cst_1, ref_g, mom]

theorem ref_v (x0 : FVec Ideal S8x1024x512 .bf16) (x3 : FVec Ideal S1024x512 .f32) (i : Fin 1024) (j : Fin 512) :
    val_main_v12 (F := Ideal) x0 x3 (ix2 i j) = sec (∑ d : Fin 8, x0 (ix3 d i j)) (x3 (ix2 i j)) := by
  pointwise [val_main_v12, val_main_v11, val_main_v10, val_main_v9, val_main_v8, val_main_v7, val_main_cst_2, val_main_cst_3, ref_g, sec]

theorem ref_d (x0 : FVec Ideal S8x1024x512 .bf16) (x1 x2 x3 : FVec Ideal S1024x512 .f32) (i : Fin 1024) (j : Fin 512) :
    val_main_v25 (F := Ideal) x0 x1 x2 x3 (ix2 i j) = step (∑ d : Fin 8, x0 (ix3 d i j)) (x1 (ix2 i j)) (x2 (ix2 i j)) (x3 (ix2 i j)) := by
  pointwise [val_main_v25, val_main_v24, val_main_v23, val_main_v22, val_main_v21, val_main_v20, val_main_v19, val_main_v18, val_main_v17, val_main_v16, val_main_v15,
    val_main_v14, val_main_v13, val_main_cst_4, val_main_cst_5, val_main_cst_6, val_main_cst_7, val_main_cst_8, ref_m, ref_v, step]

theorem final4 (c : Dev nD) : (dats m 0 c).arrAt 4 cfg0.N = val_main_v1 (F := Ideal) (m ((c : Thread nD τ).loc main_arg0)) := by
  refine (dats m 0 c).arrAt_eq_of_covers 4 _ (by decide +kernel) fun t _ y => ?_
  have ht := lt4 t
  blk_simp
  rw [after0_4]
  have hy0 : (y 0 : ℕ) < 256 := (y 0).isLt
  have hl : t.val * 256 + (y 0 : ℕ) < 1024 := by omega
  refine (congrArg _ (Common.eta2 (a := 256) (b := 512) y)).trans ?_
  refine (outs_4 _ _ _ _ (y 0) (y 1)).trans ?_
  refine Eq.trans (Finset.sum_congr rfl fun d _ => blk_0 m c t d (y 0) hl (y 1)) ?_
  refine (ref_g _ ⟨t.val * 256 + y 0, hl⟩ (y 1)).symm.trans (congrArg _ ?_)
  blk_ext [idx t]

theorem final5 (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht := lt4 t
  blk_simp
  rw [after0_5]
  have hy0 : (y 0 : ℕ) < 256 := (y 0).isLt
  have hl : t.val * 256 + (y 0 : ℕ) < 1024 := by omega
  refine (congrArg _ (Common.eta2 (a := 256) (b := 512) y)).trans ?_
  refine (outs_5 _ _ _ _ (y 0) (y 1)).trans ?_
  refine Eq.trans (step_congr (Finset.sum_congr rfl fun d _ => blk_0 m c t d (y 0) hl (y 1)) (blk_1 m c t (y 0) hl (y 1)) (blk_2 m c t (y 0) hl (y 1)) (blk_3 m c t (y 0) hl (y 1))) ?_
  refine (ref_d _ _ _ _ ⟨t.val * 256 + y 0, hl⟩ (y 1)).symm.trans (congrArg _ ?_)
  blk_ext [idx t]

theorem final6 (c : Dev nD) : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t _ y => ?_
  have ht := lt4 t
  blk_simp
  rw [after0_6]
  have hy0 : (y 0 : ℕ) < 256 := (y 0).isLt
  have hl : t.val * 256 + (y 0 : ℕ) < 1024 := by omega
  refine (congrArg _ (Common.eta2 (a := 256) (b := 512) y)).trans ?_
  refine (outs_6 _ _ _ _ (y 0) (y 1)).trans ?_
  refine Eq.trans (congrArg₂ (fun a b : EReal => mom a b) (Finset.sum_congr rfl fun d _ => blk_0 m c t d (y 0) hl (y 1)) (blk_2 m c t (y 0) hl (y 1))) ?_
  refine (ref_m _ _ ⟨t.val * 256 + y 0, hl⟩ (y 1)).symm.trans (congrArg _ ?_)
  blk_ext [idx t]

theorem final7 (c : Dev nD) : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t _ y => ?_
  have ht := lt4 t
  blk_simp
  rw [after0_7]
  have hy0 : (y 0 : ℕ) < 256 := (y 0).isLt
  have hl : t.val * 256 + (y 0 : ℕ) < 1024 := by omega
  refine (congrArg _ (Common.eta2 (a := 256) (b := 512) y)).trans ?_
  refine (outs_7 _ _ _ _ (y 0) (y 1)).trans ?_
  refine Eq.trans (congrArg₂ (fun a b : EReal => sec a b) (Finset.sum_congr rfl fun d _ => blk_0 m c t d (y 0) hl (y 1)) (blk_3 m c t (y 0) hl (y 1))) ?_
  refine (ref_v _ _ ⟨t.val * 256 + y 0, hl⟩ (y 1)).symm.trans (congrArg _ ?_)
  blk_ext [idx t]

end Cert.SumAdamIdeal.Value

end
-- ==== Proof.SumAdamClaim.lean ====
/- The claims about the pair. -/
module

public import proofs.«01_k».proof.Defs
public import proofs.«01_k».proof.Proof.SumAdamValue
public import proofs.«01_k».proof.Proof.Gen.SumAdam.Frame

@[expose] public section

noncomputable section

namespace Cert.Proof.SumAdam

open Idealize.ShloMosaic Idealize.ShloMosaic.TcCoe Idealize.SL.Sem

theorem frame_k : Cert.quiescent_SumAdam := fun m ρ _ => Cert.SumAdam.Gen.frame m ρ

theorem frame_ki : Cert.quiescent_SumAdamIdeal := fun m ρ _ => Cert.SumAdamIdeal.Gen.frame m ρ

theorem frame_ri : Cert.quiescent_SumAdamReferenceIdeal := fun m ρ _ =>
  (θ_run Cert.SumAdamReferenceIdeal.defs _ _).mono (fun r h => ⟨fun c => (h c).2.2.2.2, sem_eq_zero_of_no_sems (by decide) r.2⟩)
    (Cert.SumAdamReferenceIdeal.Value.run (F := Ideal) m ρ)

open Cert.SumAdamReferenceIdeal.Read Cert.SumAdamIdeal.Gen Cert.SumAdamIdeal.Value in
theorem value : Cert.algebraic_SumAdamIdeal_SumAdamReferenceIdeal := by
  intro m g m' g' hpre hagree
  refine ⟨fun c => val_main_v1 (F := Ideal) (m ((c.tc : Thread Cert.SumAdamIdeal.nD Cert.SumAdamIdeal.τ).loc Cert.SumAdamIdeal.main_arg0)),
    fun c => val_main_v25 (F := Ideal) (m ((c.tc : Thread Cert.SumAdamIdeal.nD Cert.SumAdamIdeal.τ).loc Cert.SumAdamIdeal.main_arg0)) (m ((c.tc : Thread Cert.SumAdamIdeal.nD Cert.SumAdamIdeal.τ).loc Cert.SumAdamIdeal.main_arg1)) (m ((c.tc : Thread Cert.SumAdamIdeal.nD Cert.SumAdamIdeal.τ).loc Cert.SumAdamIdeal.main_arg2)) (m ((c.tc : Thread Cert.SumAdamIdeal.nD Cert.SumAdamIdeal.τ).loc Cert.SumAdamIdeal.main_arg3)),
    fun c => val_main_v6 (F := Ideal) (m ((c.tc : Thread Cert.SumAdamIdeal.nD Cert.SumAdamIdeal.τ).loc Cert.SumAdamIdeal.main_arg0)) (m ((c.tc : Thread Cert.SumAdamIdeal.nD Cert.SumAdamIdeal.τ).loc Cert.SumAdamIdeal.main_arg2)),
    fun c => val_main_v12 (F := Ideal) (m ((c.tc : Thread Cert.SumAdamIdeal.nD Cert.SumAdamIdeal.τ).loc Cert.SumAdamIdeal.main_arg0)) (m ((c.tc : Thread Cert.SumAdamIdeal.nD Cert.SumAdamIdeal.τ).loc Cert.SumAdamIdeal.main_arg3)),
    (θ_run Cert.SumAdamIdeal.defs _ _).mono (fun r h c => ?_) (run_blocks (F := Ideal) m g),
    (θ_run Cert.SumAdamReferenceIdeal.defs _ _).mono (fun r h c => ?_) (Cert.SumAdamReferenceIdeal.Value.run (F := Ideal) m' g')⟩
  · obtain ⟨k0, k1, k2, k3, b0, b1, b2, b3⟩ := h c
    exact ⟨k0.trans (final4 m c),
      k1.trans (final5 m c),
      k2.trans (final6 m c),
      k3.trans (final7 m c),
      b0,
      b1,
      b2,
      b3⟩
  · obtain ⟨h0, h1, h2, h3, h4⟩ := h c
    obtain ⟨a0, a1, a2, a3⟩ := hagree c
    refine ⟨(h0.trans (val_main_v1_eq _)).trans ?_,
      (h1.trans (val_main_v25_eq _ _ _ _)).trans ?_,
      (h2.trans (val_main_v6_eq _ _)).trans ?_,
      (h3.trans (val_main_v12_eq _ _)).trans ?_, h4⟩
    all_goals simp only [a0, a1, a2, a3]

end Cert.Proof.SumAdam

end
-- ==== Proof.SumsValue.lean ====
/- The sums over the senders: eight blocks added one after another. -/
module

public import proofs.«01_k».proof.Proof.Common
public import proofs.«01_k».proof.Proof.Gen.SumsIdeal.Value
public import proofs.«01_k».proof.Proof.Gen.SumsReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.SumsIdeal.Value

open Cert.SumsIdeal Cert.SumsIdeal.Gen Cert.SumsReferenceIdeal.Read Idealize.ShloMosaic Idealize.ShloMosaic.TcCoe Idealize.SL.Sem

variable (m : (ℓ : Loc nD τ sig) → Buf (Elt Ideal) ℓ) (ρ : Dev nD → PrngReg)

/-- Eight blocks' entries, added one after another. -/
def chain (a0 a1 a2 a3 a4 a5 a6 a7 : Vec Ideal S1x128x1024 .bf16) (i : Fin 128) (j : Fin 1024) : EReal :=
  ((((((a0 (ix3 0 i j) + a1 (ix3 0 i j)) + a2 (ix3 0 i j)) + a3 (ix3 0 i j)) + a4 (ix3 0 i j)) + a5 (ix3 0 i j)) + a6 (ix3 0 i j)) + a7 (ix3 0 i j)

theorem pay2_at (a0 a1 a2 a3 a4 a5 a6 a7 : FVec Ideal S1x128x1024 .bf16) (i : Fin 128) (j : Fin 1024) : k0_pay2 (F := Ideal) a0 a1 a2 a3 a4 a5 a6 a7 (ix2 i j) = chain a0 a1 a2 a3 a4 a5 a6 a7 i j := by
  pointwise [k0_pay2, chain]

theorem pay3_at (a0 a1 a2 a3 a4 a5 a6 a7 : FVec Ideal S1x128x1024 .bf16) (i : Fin 128) (j : Fin 1024) : k0_pay3 (F := Ideal) a0 a1 a2 a3 a4 a5 a6 a7 (ix2 i j) = chain a0 a1 a2 a3 a4 a5 a6 a7 i j := by
  pointwise [k0_pay3, chain]

theorem pay4_at (a0 a1 a2 a3 a4 a5 a6 a7 : FVec Ideal S1x128x1024 .bf16) (i : Fin 128) (j : Fin 1024) : k0_pay4 (F := Ideal) a0 a1 a2 a3 a4 a5 a6 a7 (ix2 i j) = chain a0 a1 a2 a3 a4 a5 a6 a7 i j := by
  pointwise [k0_pay4, chain]

theorem pay1_at (a0 a1 a2 a3 a4 a5 a6 a7 : FVec Ideal S1x128x1024 .bf16) (i : Fin 128) (j : Fin 1024) : k0_pay1 (F := Ideal) a0 a1 a2 a3 a4 a5 a6 a7 (ix2 i j) = chain a0 a1 a2 a3 a4 a5 a6 a7 i j := by
  pointwise [k0_pay1, chain]

section
variable {Val : EltTy → Type} {e : EltTy} {o : Nat} {inb : ∀ x, (![o, 0, 0] : Fin 3 → Nat) x + (![1, 128, 1024] : Fin 3 → Nat) x ≤ S8x128x1024.size x}
theorem ld_at {X : S8x128x1024.Idx → Val e} {h : Fin 8} {i : Fin 128} {j : Fin 1024} (hh : (h : Nat) = o) :
    View.ld (S := S8x128x1024) X (Rect.unit ![o, 0, 0] ![1, 128, 1024] inb) (ix3 0 i j) = X (ix3 h i j) :=
  View.ld_unit_apply_of X _ _ inb _ _ fun x => by
    match x with
    | ⟨0, _⟩ => show (h : Nat) = o + 0; omega
    | ⟨1, _⟩ => show (i : Nat) = 0 + i; omega
    | ⟨2, _⟩ => show (j : Nat) = 0 + j; omega
end

/-- A list's blocks, added up. -/
theorem chain_sum (x : FVec Ideal S8x128x1024 .bf16) (i : Fin 128) (j : Fin 1024) :
    chain (View.ld x r0_0) (View.ld x r0_1) (View.ld x r0_2) (View.ld x r0_3) (View.ld x r0_4) (View.ld x r0_5) (View.ld x r0_6) (View.ld x r0_7) i j
      = ∑ d : Fin 8, x (ix3 d i j) := by
  rw [Fin.sum_univ_eight]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (ld_at (o := 0) (h := 0) rfl) (ld_at (o := 1) (h := 1) rfl)) (ld_at (o := 2) (h := 2) rfl)) (ld_at (o := 3) (h := 3) rfl)) (ld_at (o := 4) (h := 4) rfl)) (ld_at (o := 5) (h := 5) rfl)) (ld_at (o := 6) (h := 6) rfl)) (ld_at (o := 7) (h := 7) rfl))

theorem ref_v1 (x : FVec Ideal S8x128x1024 .bf16) (i : Fin 128) (j : Fin 1024) : val_main_v1 (F := Ideal) x (ix2 i j) = ∑ d : Fin 8, x (ix3 d i j) := by
  pointwise [val_main_v1, val_main_v0, val_main_cst]

theorem last4 (c : Dev nD) : (dats m 0 c).arrAt 4 cfg0.N = val_main_v1 (F := Ideal) (m ((c : Thread nD τ).loc main_arg0)) := by
  refine (final4 m c).trans (funext fun y => ?_)
  refine (congrArg _ (Common.eta2 (a := 128) (b := 1024) y)).trans (Eq.trans ?_ ((congrArg _ (Common.eta2 (a := 128) (b := 1024) y)).trans (ref_v1 _ (y 0) (y 1))).symm)
  exact (pay2_at _ _ _ _ _ _ _ _ _ _).trans (chain_sum _ _ _)

theorem ref_v3 (x : FVec Ideal S8x128x1024 .bf16) (i : Fin 128) (j : Fin 1024) : val_main_v3 (F := Ideal) x (ix2 i j) = ∑ d : Fin 8, x (ix3 d i j) := by
  pointwise [val_main_v3, val_main_v2, val_main_cst_0]

theorem last5 (c : Dev nD) : (dats m 0 c).arrAt 5 cfg0.N = val_main_v3 (F := Ideal) (m ((c : Thread nD τ).loc main_arg1)) := by
  refine (final5 m c).trans (funext fun y => ?_)
  refine (congrArg _ (Common.eta2 (a := 128) (b := 1024) y)).trans (Eq.trans ?_ ((congrArg _ (Common.eta2 (a := 128) (b := 1024) y)).trans (ref_v3 _ (y 0) (y 1))).symm)
  exact (pay3_at _ _ _ _ _ _ _ _ _ _).trans (chain_sum _ _ _)

theorem ref_v5 (x : FVec Ideal S8x128x1024 .bf16) (i : Fin 128) (j : Fin 1024) : val_main_v5 (F := Ideal) x (ix2 i j) = ∑ d : Fin 8, x (ix3 d i j) := by
  pointwise [val_main_v5, val_main_v4, val_main_cst_1]

theorem last6 (c : Dev nD) : (dats m 0 c).arrAt 6 cfg0.N = val_main_v5 (F := Ideal) (m ((c : Thread nD τ).loc main_arg2)) := by
  refine (final6 m c).trans (funext fun y => ?_)
  refine (congrArg _ (Common.eta2 (a := 128) (b := 1024) y)).trans (Eq.trans ?_ ((congrArg _ (Common.eta2 (a := 128) (b := 1024) y)).trans (ref_v5 _ (y 0) (y 1))).symm)
  exact (pay4_at _ _ _ _ _ _ _ _ _ _).trans (chain_sum _ _ _)

theorem ref_v7 (x : FVec Ideal S8x128x1024 .bf16) (i : Fin 128) (j : Fin 1024) : val_main_v7 (F := Ideal) x (ix2 i j) = ∑ d : Fin 8, x (ix3 d i j) := by
  pointwise [val_main_v7, val_main_v6, val_main_cst_2]

theorem last7 (c : Dev nD) : (dats m 0 c).arrAt 7 cfg0.N = val_main_v7 (F := Ideal) (m ((c : Thread nD τ).loc main_arg3)) := by
  refine (final7 m c).trans (funext fun y => ?_)
  refine (congrArg _ (Common.eta2 (a := 128) (b := 1024) y)).trans (Eq.trans ?_ ((congrArg _ (Common.eta2 (a := 128) (b := 1024) y)).trans (ref_v7 _ (y 0) (y 1))).symm)
  exact (pay1_at _ _ _ _ _ _ _ _ _ _).trans (chain_sum _ _ _)

end Cert.SumsIdeal.Value

end
-- ==== Proof.SumsClaim.lean ====
/- The claims about the pair. -/
module

public import proofs.«01_k».proof.Defs
public import proofs.«01_k».proof.Proof.SumsValue
public import proofs.«01_k».proof.Proof.Gen.Sums.Frame

@[expose] public section

noncomputable section

namespace Cert.Proof.Sums

open Idealize.ShloMosaic Idealize.ShloMosaic.TcCoe Idealize.SL.Sem

theorem frame_k : Cert.quiescent_Sums := fun m ρ _ => Cert.Sums.Gen.frame m ρ

theorem frame_ki : Cert.quiescent_SumsIdeal := fun m ρ _ => Cert.SumsIdeal.Gen.frame m ρ

theorem frame_ri : Cert.quiescent_SumsReferenceIdeal := fun m ρ _ =>
  (θ_run Cert.SumsReferenceIdeal.defs _ _).mono (fun r h => ⟨fun c => (h c).2.2.2.2, sem_eq_zero_of_no_sems (by decide) r.2⟩)
    (Cert.SumsReferenceIdeal.Value.run (F := Ideal) m ρ)

open Cert.SumsReferenceIdeal.Read Cert.SumsIdeal.Gen Cert.SumsIdeal.Value in
theorem value : Cert.algebraic_SumsIdeal_SumsReferenceIdeal := by
  intro m g m' g' hpre hagree
  refine ⟨fun c => val_main_v1 (F := Ideal) (m ((c.tc : Thread Cert.SumsIdeal.nD Cert.SumsIdeal.τ).loc Cert.SumsIdeal.main_arg0)),
    fun c => val_main_v3 (F := Ideal) (m ((c.tc : Thread Cert.SumsIdeal.nD Cert.SumsIdeal.τ).loc Cert.SumsIdeal.main_arg1)),
    fun c => val_main_v5 (F := Ideal) (m ((c.tc : Thread Cert.SumsIdeal.nD Cert.SumsIdeal.τ).loc Cert.SumsIdeal.main_arg2)),
    fun c => val_main_v7 (F := Ideal) (m ((c.tc : Thread Cert.SumsIdeal.nD Cert.SumsIdeal.τ).loc Cert.SumsIdeal.main_arg3)),
    (θ_run Cert.SumsIdeal.defs _ _).mono (fun r h c => ?_) (run_blocks (F := Ideal) m g),
    (θ_run Cert.SumsReferenceIdeal.defs _ _).mono (fun r h c => ?_) (Cert.SumsReferenceIdeal.Value.run (F := Ideal) m' g')⟩
  · obtain ⟨k0, k1, k2, k3, b0, b1, b2, b3⟩ := h c
    exact ⟨k0.trans (last4 m c),
      k1.trans (last5 m c),
      k2.trans (last6 m c),
      k3.trans (last7 m c),
      b0,
      b1,
      b2,
      b3⟩
  · obtain ⟨h0, h1, h2, h3, h4⟩ := h c
    obtain ⟨a0, a1, a2, a3⟩ := hagree c
    refine ⟨(h0.trans (val_main_v1_eq _)).trans ?_,
      (h1.trans (val_main_v3_eq _)).trans ?_,
      (h2.trans (val_main_v5_eq _)).trans ?_,
      (h3.trans (val_main_v7_eq _)).trans ?_, h4⟩
    all_goals simp only [a0, a1, a2, a3]

end Cert.Proof.Sums

end
-- ==== Proof.AdamValue.lean ====
/- The AdamW steps of the attention weights, entry by entry. -/
module

public import proofs.«01_k».proof.Proof.Common
public import proofs.«01_k».proof.Proof.Gen.AdamIdeal.Value
public import proofs.«01_k».proof.Proof.Gen.AdamReferenceIdeal.Read
public import Idealize.ShloMosaic.Lib.Pipeline.ValueKit
public import Idealize.ShloMosaic.Lib.Claim
public import Idealize.ShloMosaic.Lib.Pipeline.ReadBack
public import Idealize.ShloMosaic.Lib.Pointwise

@[expose] public section

set_option maxRecDepth 16384

noncomputable section

namespace Cert.AdamIdeal.Value

open Cert.AdamIdeal Cert.AdamIdeal.Gen Cert.AdamReferenceIdeal.Read Idealize.ShloMosaic Idealize.ShloMosaic.TcCoe Idealize.SL.Sem

variable (m : (ℓ : Loc nD τ sig) → Buf (Elt Ideal) ℓ) (ρ : Dev nD → PrngReg)

/-- The first moment, moved towards a gradient. -/
def mom (g m : EReal) : EReal := Ideal.ofBits .f32 0x3F666666#32 * m + Ideal.ofBits .f32 0x3DCCCCCD#32 * g

/-- The second moment, moved towards a gradient's square. -/
def sec (g v : EReal) : EReal := Ideal.ofBits .f32 0x3F7FBE77#32 * v + Ideal.ofBits .f32 0x3A83126F#32 * (g * g)

/-- The step of a weight. -/
def step (g w m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

theorem step_congr {g g' w w' m m' v v' : EReal} (hg : g = g') (hw : w = w') (hm : m = m') (hv : v = v') : step g w m v = step g' w' m' v' := by
  rw [hg, hw, hm, hv]

theorem ref_29 (x0 x2 : FVec Ideal S1x128x4x256 .f32) (y : S1x128x4x256.Idx) : val_main_v29 (F := Ideal) x0 x2 y = mom (x0 y) (x2 y) := rfl

theorem ref_35 (x0 x3 : FVec Ideal S1x128x4x256 .f32) (y : S1x128x4x256.Idx) : val_main_v35 (F := Ideal) x0 x3 y = sec (x0 y) (x3 y) := rfl

theorem ref_48 (x0 x1 x2 x3 : FVec Ideal S1x128x4x256 .f32) (y : S1x128x4x256.Idx) : val_main_v48 (F := Ideal) x0 x1 x2 x3 y = step (x0 y) (x1 y) (x2 y) (x3 y) := rfl

theorem ref_53 (x4 x6 : FVec Ideal S1x128x4x256 .f32) (y : S1x128x4x256.Idx) : val_main_v53 (F := Ideal) x4 x6 y = mom (x4 y) (x6 y) := rfl

theorem ref_59 (x4 x7 : FVec Ideal S1x128x4x256 .f32) (y : S1x128x4x256.Idx) : val_main_v59 (F := Ideal) x4 x7 y = sec (x4 y) (x7 y) := rfl

theorem ref_72 (x4 x5 x6 x7 : FVec Ideal S1x128x4x256 .f32) (y : S1x128x4x256.Idx) : val_main_v72 (F := Ideal) x4 x5 x6 x7 y = step (x4 y) (x5 y) (x6 y) (x7 y) := rfl

theorem ref_77 (x8 x10 : FVec Ideal S1x128x4x256 .f32) (y : S1x128x4x256.Idx) : val_main_v77 (F := Ideal) x8 x10 y = mom (x8 y) (x10 y) := rfl

theorem ref_83 (x8 x11 : FVec Ideal S1x128x4x256 .f32) (y : S1x128x4x256.Idx) : val_main_v83 (F := Ideal) x8 x11 y = sec (x8 y) (x11 y) := rfl

theorem ref_96 (x8 x9 x10 x11 : FVec Ideal S1x128x4x256 .f32) (y : S1x128x4x256.Idx) : val_main_v96 (F := Ideal) x8 x9 x10 x11 y = step (x8 y) (x9 y) (x10 y) (x11 y) := rfl

theorem lays : S1024x128.ShapeCasts S1x4x256x128 := by decide

/-- A gradient laid out anew and back. -/
theorem back (x : FVec Ideal S1024x128 .f32) (y : S1024x128.Idx) :
    shapeCast S1024x128 (shapeCast S1x4x256x128 x lays) shapeCasts_S1x4x256x128_S1024x128 y = x y :=
  congrFun (shapeCast_shapeCast x _ _) y

/-- An array of the last weight's shape, as the call reads it. -/
abbrev flat (x : FVec Ideal S1x4x256x128 .f32) : FVec Ideal S1024x128 .f32 := shapeCast S1024x128 x shapeCasts_S1x4x256x128_S1024x128

theorem ref_98 (x12 : FVec Ideal S1024x128 .f32) (x14 : FVec Ideal S1x4x256x128 .f32) (y : S1024x128.Idx) :
    val_main_v98 (F := Ideal) x12 x14 y = mom (x12 y) (flat x14 y) :=
  Eq.trans (b := mom (shapeCast S1024x128 (shapeCast S1x4x256x128 x12 lays) shapeCasts_S1x4x256x128_S1024x128 y) (flat x14 y)) rfl
    (congrArg (fun z => mom z _) (back x12 y))

theorem ref_99 (x12 : FVec Ideal S1024x128 .f32) (x15 : FVec Ideal S1x4x256x128 .f32) (y : S1024x128.Idx) :
    val_main_v99 (F := Ideal) x12 x15 y = sec (x12 y) (flat x15 y) :=
  Eq.trans (b := sec (shapeCast S1024x128 (shapeCast S1x4x256x128 x12 lays) shapeCasts_S1x4x256x128_S1024x128 y) (flat x15 y)) rfl
    (congrArg (fun z => sec z _) (back x12 y))

theorem ref_97 (x12 : FVec Ideal S1024x128 .f32) (x13 x14 x15 : FVec Ideal S1x4x256x128 .f32) (y : S1024x128.Idx) :
    val_main_v97 (F := Ideal) x12 x13 x14 x15 y = step (x12 y) (flat x13 y) (flat x14 y) (flat x15 y) :=
  Eq.trans (b := step (shapeCast S1024x128 (shapeCast S1x4x256x128 x12 lays) shapeCasts_S1x4x256x128_S1024x128 y) (flat x13 y) (flat x14 y) (flat x15 y)) rfl
    (congrArg (fun z => step z _ _ _) (back x12 y))

theorem idx0 : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] ∧ win0_8.index t = ![0, 0, 0, 0] ∧ win0_9.index t = ![0, 0, 0, 0] ∧ win0_10.index t = ![0, 0, 0, 0] ∧ win0_11.index t = ![0, 0, 0, 0] :=
  (by decide +kernel : ∀ t : Fin grid0.N, _)

theorem idx1 : ∀ t : Fin cfg0.N, win0_12.index t = ![0, 0] ∧ win0_13.index t = ![0, 0] ∧ win0_14.index t = ![0, 0] ∧ win0_15.index t = ![0, 0] ∧ win0_25.index t = ![0, 0] ∧ win0_26.index t = ![0, 0] ∧ win0_27.index t = ![0, 0] :=
  (by decide +kernel : ∀ t : Fin grid0.N, _)

theorem idx2 : ∀ t : Fin cfg0.N, win0_16.index t = ![0, 0, 0, 0] ∧ win0_17.index t = ![0, 0, 0, 0] ∧ win0_18.index t = ![0, 0, 0, 0] ∧ win0_19.index t = ![0, 0, 0, 0] ∧ win0_20.index t = ![0, 0, 0, 0] ∧ win0_21.index t = ![0, 0, 0, 0] ∧ win0_22.index t = ![0, 0, 0, 0] ∧ win0_23.index t = ![0, 0, 0, 0] ∧ win0_24.index t = ![0, 0, 0, 0] :=
  (by decide +kernel : ∀ t : Fin grid0.N, _)

theorem in_13 (c : Dev nD) : V m c main_v0 = flat (m ((c : Thread nD τ).loc main_arg13)) := by
  unfold V
  after_results
  all_goals rfl

theorem in_14 (c : Dev nD) : V m c main_v1 = flat (m ((c : Thread nD τ).loc main_arg14)) := by
  unfold V
  after_results
  all_goals rfl

theorem in_15 (c : Dev nD) : V m c main_v2 = flat (m ((c : Thread nD τ).loc main_arg15)) := by
  unfold V
  after_results
  all_goals rfl

theorem blk_0 (c : Dev nD) (t : Fin cfg0.N) (y : S1x128x4x256.Idx) : iblk m c 0 t y = (m ((c : Thread nD τ).loc main_arg0)) y := by
  blk_point [iblk, V, idx0 t]

theorem blk_1 (c : Dev nD) (t : Fin cfg0.N) (y : S1x128x4x256.Idx) : iblk m c 1 t y = (m ((c : Thread nD τ).loc main_arg1)) y := by
  blk_point [iblk, V, idx0 t]

theorem blk_2 (c : Dev nD) (t : Fin cfg0.N) (y : S1x128x4x256.Idx) : iblk m c 2 t y = (m ((c : Thread nD τ).loc main_arg2)) y := by
  blk_point [iblk, V, idx0 t]

theorem blk_3 (c : Dev nD) (t : Fin cfg0.N) (y : S1x128x4x256.Idx) : iblk m c 3 t y = (m ((c : Thread nD τ).loc main_arg3)) y := by
  blk_point [iblk, V, idx0 t]

theorem blk_4 (c : Dev nD) (t : Fin cfg0.N) (y : S1x128x4x256.Idx) : iblk m c 4 t y = (m ((c : Thread nD τ).loc main_arg4)) y := by
  blk_point [iblk, V, idx0 t]

theorem blk_5 (c : Dev nD) (t : Fin cfg0.N) (y : S1x128x4x256.Idx) : iblk m c 5 t y = (m ((c : Thread nD τ).loc main_arg5)) y := by
  blk_point [iblk, V, idx0 t]

theorem blk_6 (c : Dev nD) (t : Fin cfg0.N) (y : S1x128x4x256.Idx) : iblk m c 6 t y = (m ((c : Thread nD τ).loc main_arg6)) y := by
  blk_point [iblk, V, idx0 t]

theorem blk_7 (c : Dev nD) (t : Fin cfg0.N) (y : S1x128x4x256.Idx) : iblk m c 7 t y = (m ((c : Thread nD τ).loc main_arg7)) y := by
  blk_point [iblk, V, idx0 t]

theorem blk_8 (c : Dev nD) (t : Fin cfg0.N) (y : S1x128x4x256.Idx) : iblk m c 8 t y = (m ((c : Thread nD τ).loc main_arg8)) y := by
  blk_point [iblk, V, idx0 t]

theorem blk_9 (c : Dev nD) (t : Fin cfg0.N) (y : S1x128x4x256.Idx) : iblk m c 9 t y = (m ((c : Thread nD τ).loc main_arg9)) y := by
  blk_point [iblk, V, idx0 t]

theorem blk_10 (c : Dev nD) (t : Fin cfg0.N) (y : S1x128x4x256.Idx) : iblk m c 10 t y = (m ((c : Thread nD τ).loc main_arg10)) y := by
  blk_point [iblk, V, idx0 t]

theorem blk_11 (c : Dev nD) (t : Fin cfg0.N) (y : S1x128x4x256.Idx) : iblk m c 11 t y = (m ((c : Thread nD τ).loc main_arg11)) y := by
  blk_point [iblk, V, idx0 t]

theorem blk_12 (c : Dev nD) (t : Fin cfg0.N) (y : S1024x128.Idx) : iblk m c 12 t y = (m ((c : Thread nD τ).loc main_arg12)) y := by
  blk_point [iblk, V, idx1 t]

theorem blk_13 (c : Dev nD) (t : Fin cfg0.N) (y : S1024x128.Idx) : iblk m c 13 t y = flat (m ((c : Thread nD τ).loc main_arg13)) y := by
  blk_point [iblk, in_13, idx1 t]

theorem blk_14 (c : Dev nD) (t : Fin cfg0.N) (y : S1024x128.Idx) : iblk m c 14 t y = flat (m ((c : Thread nD τ).loc main_arg14)) y := by
  blk_point [iblk, in_14, idx1 t]

theorem blk_15 (c : Dev nD) (t : Fin cfg0.N) (y : S1024x128.Idx) : iblk m c 15 t y = flat (m ((c : Thread nD τ).loc main_arg15)) y := by
  blk_point [iblk, in_15, idx1 t]

theorem outs_16 (x0 x1 x2 x3 x4 x5 x6 x7 x8 x9 x10 x11 : Vec Ideal S1x128x4x256 .f32) (x12 x13 x14 x15 : Vec Ideal S1024x128 .f32) (y : S1x128x4x256.Idx) :
    out0_16 (F := Ideal) x0 x1 x2 x3 x4 x5 x6 x7 x8 x9 x10 x11 x12 x13 x14 x15 y = step (x0 y) (x1 y) (x2 y) (x3 y) := by
  unfold_out out0_16
  frame_out
  rfl

theorem final16 (c : Dev nD) : (dats m 0 c).arrAt 16 cfg0.N = val_main_v48 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t _ y => ?_
  blk_simp
  rw [after0_16]
  refine (outs_16 _ _ _ _ _ _ _ _ _ _ _ _ _ _ _ _ y).trans ?_
  refine Eq.trans (step_congr (blk_0 m c t y) (blk_1 m c t y) (blk_2 m c t y) (blk_3 m c t y)) ?_
  refine (ref_48 _ _ _ _ y).symm.trans (congrArg _ ?_)
  blk_ext [idx2 t]

theorem outs_17 (x0 x1 x2 x3 x4 x5 x6 x7 x8 x9 x10 x11 : Vec Ideal S1x128x4x256 .f32) (x12 x13 x14 x15 : Vec Ideal S1024x128 .f32) (y : S1x128x4x256.Idx) :
    out0_17 (F := Ideal) x0 x1 x2 x3 x4 x5 x6 x7 x8 x9 x10 x11 x12 x13 x14 x15 y = mom (x0 y) (x2 y) := by
  unfold_out out0_17
  frame_out
  rfl

theorem final17 (c : Dev nD) : (dats m 0 c).arrAt 17 cfg0.N = val_main_v29 (F := Ideal) (m ((c : Thread nD τ).loc main_arg0)) (m ((c : Thread nD τ).loc main_arg2)) := by
  refine (dats m 0 c).arrAt_eq_of_covers 17 _ (by decide +kernel) fun t _ y => ?_
  blk_simp
  rw [after0_17]
  refine (outs_17 _ _ _ _ _ _ _ _ _ _ _ _ _ _ _ _ y).trans ?_
  refine Eq.trans (congrArg₂ (fun a b : EReal => mom a b) (blk_0 m c t y) (blk_2 m c t y)) ?_
  refine (ref_29 _ _ y).symm.trans (congrArg _ ?_)
  blk_ext [idx2 t]

theorem outs_18 (x0 x1 x2 x3 x4 x5 x6 x7 x8 x9 x10 x11 : Vec Ideal S1x128x4x256 .f32) (x12 x13 x14 x15 : Vec Ideal S1024x128 .f32) (y : S1x128x4x256.Idx) :
    out0_18 (F := Ideal) x0 x1 x2 x3 x4 x5 x6 x7 x8 x9 x10 x11 x12 x13 x14 x15 y = sec (x0 y) (x3 y) := by
  unfold_out out0_18
  frame_out
  rfl

theorem final18 (c : Dev nD) : (dats m 0 c).arrAt 18 cfg0.N = val_main_v35 (F := Ideal) (m ((c : Thread nD τ).loc main_arg0)) (m ((c : Thread nD τ).loc main_arg3)) := by
  refine (dats m 0 c).arrAt_eq_of_covers 18 _ (by decide +kernel) fun t _ y => ?_
  blk_simp
  rw [after0_18]
  refine (outs_18 _ _ _ _ _ _ _ _ _ _ _ _ _ _ _ _ y).trans ?_
  refine Eq.trans (congrArg₂ (fun a b : EReal => sec a b) (blk_0 m c t y) (blk_3 m c t y)) ?_
  refine (ref_35 _ _ y).symm.trans (congrArg _ ?_)
  blk_ext [idx2 t]

theorem outs_19 (x0 x1 x2 x3 x4 x5 x6 x7 x8 x9 x10 x11 : Vec Ideal S1x128x4x256 .f32) (x12 x13 x14 x15 : Vec Ideal S1024x128 .f32) (y : S1x128x4x256.Idx) :
    out0_19 (F := Ideal) x0 x1 x2 x3 x4 x5 x6 x7 x8 x9 x10 x11 x12 x13 x14 x15 y = step (x4 y) (x5 y) (x6 y) (x7 y) := by
  unfold_out out0_19
  frame_out
  rfl

theorem final19 (c : Dev nD) : (dats m 0 c).arrAt 19 cfg0.N = val_main_v72 (F := Ideal) (m ((c : Thread nD τ).loc main_arg4)) (m ((c : Thread nD τ).loc main_arg5)) (m ((c : Thread nD τ).loc main_arg6)) (m ((c : Thread nD τ).loc main_arg7)) := by
  refine (dats m 0 c).arrAt_eq_of_covers 19 _ (by decide +kernel) fun t _ y => ?_
  blk_simp
  rw [after0_19]
  refine (outs_19 _ _ _ _ _ _ _ _ _ _ _ _ _ _ _ _ y).trans ?_
  refine Eq.trans (step_congr (blk_4 m c t y) (blk_5 m c t y) (blk_6 m c t y) (blk_7 m c t y)) ?_
  refine (ref_72 _ _ _ _ y).symm.trans (congrArg _ ?_)
  blk_ext [idx2 t]

theorem outs_20 (x0 x1 x2 x3 x4 x5 x6 x7 x8 x9 x10 x11 : Vec Ideal S1x128x4x256 .f32) (x12 x13 x14 x15 : Vec Ideal S1024x128 .f32) (y : S1x128x4x256.Idx) :
    out0_20 (F := Ideal) x0 x1 x2 x3 x4 x5 x6 x7 x8 x9 x10 x11 x12 x13 x14 x15 y = mom (x4 y) (x6 y) := by
  unfold_out out0_20
  frame_out
  rfl

theorem final20 (c : Dev nD) : (dats m 0 c).arrAt 20 cfg0.N = val_main_v53 (F := Ideal) (m ((c : Thread nD τ).loc main_arg4)) (m ((c : Thread nD τ).loc main_arg6)) := by
  refine (dats m 0 c).arrAt_eq_of_covers 20 _ (by decide +kernel) fun t _ y => ?_
  blk_simp
  rw [after0_20]
  refine (outs_20 _ _ _ _ _ _ _ _ _ _ _ _ _ _ _ _ y).trans ?_
  refine Eq.trans (congrArg₂ (fun a b : EReal => mom a b) (blk_4 m c t y) (blk_6 m c t y)) ?_
  refine (ref_53 _ _ y).symm.trans (congrArg _ ?_)
  blk_ext [idx2 t]

theorem outs_21 (x0 x1 x2 x3 x4 x5 x6 x7 x8 x9 x10 x11 : Vec Ideal S1x128x4x256 .f32) (x12 x13 x14 x15 : Vec Ideal S1024x128 .f32) (y : S1x128x4x256.Idx) :
    out0_21 (F := Ideal) x0 x1 x2 x3 x4 x5 x6 x7 x8 x9 x10 x11 x12 x13 x14 x15 y = sec (x4 y) (x7 y) := by
  unfold_out out0_21
  frame_out
  rfl

theorem final21 (c : Dev nD) : (dats m 0 c).arrAt 21 cfg0.N = val_main_v59 (F := Ideal) (m ((c : Thread nD τ).loc main_arg4)) (m ((c : Thread nD τ).loc main_arg7)) := by
  refine (dats m 0 c).arrAt_eq_of_covers 21 _ (by decide +kernel) fun t _ y => ?_
  blk_simp
  rw [after0_21]
  refine (outs_21 _ _ _ _ _ _ _ _ _ _ _ _ _ _ _ _ y).trans ?_
  refine Eq.trans (congrArg₂ (fun a b : EReal => sec a b) (blk_4 m c t y) (blk_7 m c t y)) ?_
  refine (ref_59 _ _ y).symm.trans (congrArg _ ?_)
  blk_ext [idx2 t]

theorem outs_22 (x0 x1 x2 x3 x4 x5 x6 x7 x8 x9 x10 x11 : Vec Ideal S1x128x4x256 .f32) (x12 x13 x14 x15 : Vec Ideal S1024x128 .f32) (y : S1x128x4x256.Idx) :
    out0_22 (F := Ideal) x0 x1 x2 x3 x4 x5 x6 x7 x8 x9 x10 x11 x12 x13 x14 x15 y = step (x8 y) (x9 y) (x10 y) (x11 y) := by
  unfold_out out0_22
  frame_out
  rfl

theorem final22 (c : Dev nD) : (dats m 0 c).arrAt 22 cfg0.N = val_main_v96 (F := Ideal) (m ((c : Thread nD τ).loc main_arg8)) (m ((c : Thread nD τ).loc main_arg9)) (m ((c : Thread nD τ).loc main_arg10)) (m ((c : Thread nD τ).loc main_arg11)) := by
  refine (dats m 0 c).arrAt_eq_of_covers 22 _ (by decide +kernel) fun t _ y => ?_
  blk_simp
  rw [after0_22]
  refine (outs_22 _ _ _ _ _ _ _ _ _ _ _ _ _ _ _ _ y).trans ?_
  refine Eq.trans (step_congr (blk_8 m c t y) (blk_9 m c t y) (blk_10 m c t y) (blk_11 m c t y)) ?_
  refine (ref_96 _ _ _ _ y).symm.trans (congrArg _ ?_)
  blk_ext [idx2 t]

theorem outs_23 (x0 x1 x2 x3 x4 x5 x6 x7 x8 x9 x10 x11 : Vec Ideal S1x128x4x256 .f32) (x12 x13 x14 x15 : Vec Ideal S1024x128 .f32) (y : S1x128x4x256.Idx) :
    out0_23 (F := Ideal) x0 x1 x2 x3 x4 x5 x6 x7 x8 x9 x10 x11 x12 x13 x14 x15 y = mom (x8 y) (x10 y) := by
  unfold_out out0_23
  frame_out
  rfl

theorem final23 (c : Dev nD) : (dats m 0 c).arrAt 23 cfg0.N = val_main_v77 (F := Ideal) (m ((c : Thread nD τ).loc main_arg8)) (m ((c : Thread nD τ).loc main_arg10)) := by
  refine (dats m 0 c).arrAt_eq_of_covers 23 _ (by decide +kernel) fun t _ y => ?_
  blk_simp
  rw [after0_23]
  refine (outs_23 _ _ _ _ _ _ _ _ _ _ _ _ _ _ _ _ y).trans ?_
  refine Eq.trans (congrArg₂ (fun a b : EReal => mom a b) (blk_8 m c t y) (blk_10 m c t y)) ?_
  refine (ref_77 _ _ y).symm.trans (congrArg _ ?_)
  blk_ext [idx2 t]

theorem outs_24 (x0 x1 x2 x3 x4 x5 x6 x7 x8 x9 x10 x11 : Vec Ideal S1x128x4x256 .f32) (x12 x13 x14 x15 : Vec Ideal S1024x128 .f32) (y : S1x128x4x256.Idx) :
    out0_24 (F := Ideal) x0 x1 x2 x3 x4 x5 x6 x7 x8 x9 x10 x11 x12 x13 x14 x15 y = sec (x8 y) (x11 y) := by
  unfold_out out0_24
  frame_out
  rfl

theorem final24 (c : Dev nD) : (dats m 0 c).arrAt 24 cfg0.N = val_main_v83 (F := Ideal) (m ((c : Thread nD τ).loc main_arg8)) (m ((c : Thread nD τ).loc main_arg11)) := by
  refine (dats m 0 c).arrAt_eq_of_covers 24 _ (by decide +kernel) fun t _ y => ?_
  blk_simp
  rw [after0_24]
  refine (outs_24 _ _ _ _ _ _ _ _ _ _ _ _ _ _ _ _ y).trans ?_
  refine Eq.trans (congrArg₂ (fun a b : EReal => sec a b) (blk_8 m c t y) (blk_11 m c t y)) ?_
  refine (ref_83 _ _ y).symm.trans (congrArg _ ?_)
  blk_ext [idx2 t]

theorem outs_25 (x0 x1 x2 x3 x4 x5 x6 x7 x8 x9 x10 x11 : Vec Ideal S1x128x4x256 .f32) (x12 x13 x14 x15 : Vec Ideal S1024x128 .f32) (y : S1024x128.Idx) :
    out0_25 (F := Ideal) x0 x1 x2 x3 x4 x5 x6 x7 x8 x9 x10 x11 x12 x13 x14 x15 y = step (x12 y) (x13 y) (x14 y) (x15 y) := by
  unfold_out out0_25
  frame_out
  simp only [k0_pay15, k0_pay16, k0_pay17, k0_pay18, shapeCast_self]
  rfl

theorem final25 (c : Dev nD) : (dats m 0 c).arrAt 25 cfg0.N = val_main_v97 (F := Ideal) (m ((c : Thread nD τ).loc main_arg12)) (m ((c : Thread nD τ).loc main_arg13)) (m ((c : Thread nD τ).loc main_arg14)) (m ((c : Thread nD τ).loc main_arg15)) := by
  refine (dats m 0 c).arrAt_eq_of_covers 25 _ (by decide +kernel) fun t _ y => ?_
  blk_simp
  rw [after0_25]
  refine (outs_25 _ _ _ _ _ _ _ _ _ _ _ _ _ _ _ _ y).trans ?_
  refine Eq.trans (step_congr (blk_12 m c t y) (blk_13 m c t y) (blk_14 m c t y) (blk_15 m c t y)) ?_
  refine (ref_97 _ _ _ _ y).symm.trans (congrArg _ ?_)
  blk_ext [idx1 t]

theorem outs_26 (x0 x1 x2 x3 x4 x5 x6 x7 x8 x9 x10 x11 : Vec Ideal S1x128x4x256 .f32) (x12 x13 x14 x15 : Vec Ideal S1024x128 .f32) (y : S1024x128.Idx) :
    out0_26 (F := Ideal) x0 x1 x2 x3 x4 x5 x6 x7 x8 x9 x10 x11 x12 x13 x14 x15 y = mom (x12 y) (x14 y) := by
  unfold_out out0_26
  frame_out
  simp only [k0_pay15, k0_pay16, k0_pay17, k0_pay18, shapeCast_self]
  rfl

theorem final26 (c : Dev nD) : (dats m 0 c).arrAt 26 cfg0.N = val_main_v98 (F := Ideal) (m ((c : Thread nD τ).loc main_arg12)) (m ((c : Thread nD τ).loc main_arg14)) := by
  refine (dats m 0 c).arrAt_eq_of_covers 26 _ (by decide +kernel) fun t _ y => ?_
  blk_simp
  rw [after0_26]
  refine (outs_26 _ _ _ _ _ _ _ _ _ _ _ _ _ _ _ _ y).trans ?_
  refine Eq.trans (congrArg₂ (fun a b : EReal => mom a b) (blk_12 m c t y) (blk_14 m c t y)) ?_
  refine (ref_98 _ _ y).symm.trans (congrArg _ ?_)
  blk_ext [idx1 t]

theorem outs_27 (x0 x1 x2 x3 x4 x5 x6 x7 x8 x9 x10 x11 : Vec Ideal S1x128x4x256 .f32) (x12 x13 x14 x15 : Vec Ideal S1024x128 .f32) (y : S1024x128.Idx) :
    out0_27 (F := Ideal) x0 x1 x2 x3 x4 x5 x6 x7 x8 x9 x10 x11 x12 x13 x14 x15 y = sec (x12 y) (x15 y) := by
  unfold_out out0_27
  frame_out
  simp only [k0_pay15, k0_pay16, k0_pay17, k0_pay18, shapeCast_self]
  rfl

theorem final27 (c : Dev nD) : (dats m 0 c).arrAt 27 cfg0.N = val_main_v99 (F := Ideal) (m ((c : Thread nD τ).loc main_arg12)) (m ((c : Thread nD τ).loc main_arg15)) := by
  refine (dats m 0 c).arrAt_eq_of_covers 27 _ (by decide +kernel) fun t _ y => ?_
  blk_simp
  rw [after0_27]
  refine (outs_27 _ _ _ _ _ _ _ _ _ _ _ _ _ _ _ _ y).trans ?_
  refine Eq.trans (congrArg₂ (fun a b : EReal => sec a b) (blk_12 m c t y) (blk_15 m c t y)) ?_
  refine (ref_99 _ _ y).symm.trans (congrArg _ ?_)
  blk_ext [idx1 t]

end Cert.AdamIdeal.Value

end
-- ==== Proof.AdamClaim.lean ====
/- The claims about the pair. -/
module

public import proofs.«01_k».proof.Defs
public import proofs.«01_k».proof.Proof.AdamValue
public import proofs.«01_k».proof.Proof.Gen.Adam.Frame

@[expose] public section

noncomputable section

namespace Cert.Proof.Adam

open Idealize.ShloMosaic Idealize.ShloMosaic.TcCoe Idealize.SL.Sem

theorem frame_k : Cert.quiescent_Adam := fun m ρ _ => Cert.Adam.Gen.frame m ρ

theorem frame_ki : Cert.quiescent_AdamIdeal := fun m ρ _ => Cert.AdamIdeal.Gen.frame m ρ

theorem frame_ri : Cert.quiescent_AdamReferenceIdeal := fun m ρ _ =>
  (θ_run Cert.AdamReferenceIdeal.defs _ _).mono (fun r h => ⟨fun c => (h c).2.2.2.2.2.2.2.2.2.2.2.2, sem_eq_zero_of_no_sems (by decide) r.2⟩)
    (Cert.AdamReferenceIdeal.Value.run (F := Ideal) m ρ)

open Cert.AdamReferenceIdeal.Read Cert.AdamIdeal.Gen Cert.AdamIdeal.Value in
theorem value : Cert.algebraic_AdamIdeal_AdamReferenceIdeal := by
  intro m g m' g' hpre hagree
  refine ⟨fun c => val_main_v48 (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3)),
    fun c => val_main_v29 (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg2)),
    fun c => val_main_v35 (F := Ideal) (m ((c.tc : Thread Cert.AdamIdeal.nD Cert.AdamIdeal.τ).loc Cert.AdamIdeal.main_arg0)) (m ((c.tc : Thread Cert.AdamIdeal.nD Cert.AdamIdeal.τ).loc Cert.AdamIdeal.main_arg3)),
    fun c => val_main_v72 (F := Ideal) (m ((c.tc : Thread Cert.AdamIdeal.nD Cert.AdamIdeal.τ).loc Cert.AdamIdeal.main_arg4)) (m ((c.tc : Thread Cert.AdamIdeal.nD Cert.AdamIdeal.τ).loc Cert.AdamIdeal.main_arg5)) (m ((c.tc : Thread Cert.AdamIdeal.nD Cert.AdamIdeal.τ).loc Cert.AdamIdeal.main_arg6)) (m ((c.tc : Thread Cert.AdamIdeal.nD Cert.AdamIdeal.τ).loc Cert.AdamIdeal.main_arg7)),
    fun c => val_main_v53 (F := Ideal) (m ((c.tc : Thread Cert.AdamIdeal.nD Cert.AdamIdeal.τ).loc Cert.AdamIdeal.main_arg4)) (m ((c.tc : Thread Cert.AdamIdeal.nD Cert.AdamIdeal.τ).loc Cert.AdamIdeal.main_arg6)),
    fun c => val_main_v59 (F := Ideal) (m ((c.tc : Thread Cert.AdamIdeal.nD Cert.AdamIdeal.τ).loc Cert.AdamIdeal.main_arg4)) (m ((c.tc : Thread Cert.AdamIdeal.nD Cert.AdamIdeal.τ).loc Cert.AdamIdeal.main_arg7)),
    fun c => val_main_v96 (F := Ideal) (m ((c.tc : Thread Cert.AdamIdeal.nD Cert.AdamIdeal.τ).loc Cert.AdamIdeal.main_arg8)) (m ((c.tc : Thread Cert.AdamIdeal.nD Cert.AdamIdeal.τ).loc Cert.AdamIdeal.main_arg9)) (m ((c.tc : Thread Cert.AdamIdeal.nD Cert.AdamIdeal.τ).loc Cert.AdamIdeal.main_arg10)) (m ((c.tc : Thread Cert.AdamIdeal.nD Cert.AdamIdeal.τ).loc Cert.AdamIdeal.main_arg11)),
    fun c => val_main_v77 (F := Ideal) (m ((c.tc : Thread Cert.AdamIdeal.nD Cert.AdamIdeal.τ).loc Cert.AdamIdeal.main_arg8)) (m ((c.tc : Thread Cert.AdamIdeal.nD Cert.AdamIdeal.τ).loc Cert.AdamIdeal.main_arg10)),
    fun c => val_main_v83 (F := Ideal) (m ((c.tc : Thread Cert.AdamIdeal.nD Cert.AdamIdeal.τ).loc Cert.AdamIdeal.main_arg8)) (m ((c.tc : Thread Cert.AdamIdeal.nD Cert.AdamIdeal.τ).loc Cert.AdamIdeal.main_arg11)),
    fun c => val_main_v97 (F := Ideal) (m ((c.tc : Thread Cert.AdamIdeal.nD Cert.AdamIdeal.τ).loc Cert.AdamIdeal.main_arg12)) (m ((c.tc : Thread Cert.AdamIdeal.nD Cert.AdamIdeal.τ).loc Cert.AdamIdeal.main_arg13)) (m ((c.tc : Thread Cert.AdamIdeal.nD Cert.AdamIdeal.τ).loc Cert.AdamIdeal.main_arg14)) (m ((c.tc : Thread Cert.AdamIdeal.nD Cert.AdamIdeal.τ).loc Cert.AdamIdeal.main_arg15)),
    fun c => val_main_v98 (F := Ideal) (m ((c.tc : Thread Cert.AdamIdeal.nD Cert.AdamIdeal.τ).loc Cert.AdamIdeal.main_arg12)) (m ((c.tc : Thread Cert.AdamIdeal.nD Cert.AdamIdeal.τ).loc Cert.AdamIdeal.main_arg14)),
    fun c => val_main_v99 (F := Ideal) (m ((c.tc : Thread Cert.AdamIdeal.nD Cert.AdamIdeal.τ).loc Cert.AdamIdeal.main_arg12)) (m ((c.tc : Thread Cert.AdamIdeal.nD Cert.AdamIdeal.τ).loc Cert.AdamIdeal.main_arg15)),
    (θ_run Cert.AdamIdeal.defs _ _).mono (fun r h c => ?_) (run_blocks (F := Ideal) m g),
    (θ_run Cert.AdamReferenceIdeal.defs _ _).mono (fun r h c => ?_) (Cert.AdamReferenceIdeal.Value.run (F := Ideal) m' g')⟩
  · obtain ⟨k0, k1, k2, k3, k4, k5, k6, k7, k8, k9, k10, k11, b0, b1, b2, b3, b4, b5, b6, b7, b8, b9, b10, b11, b12, b13, b14, b15⟩ := h c
    exact ⟨k0.trans (final16 m c),
      k1.trans (final17 m c),
      k2.trans (final18 m c),
      k3.trans (final19 m c),
      k4.trans (final20 m c),
      k5.trans (final21 m c),
      k6.trans (final22 m c),
      k7.trans (final23 m c),
      k8.trans (final24 m c),
      k9.trans (final25 m c),
      k10.trans (final26 m c),
      k11.trans (final27 m c),
      b0,
      b1,
      b2,
      b3,
      b4,
      b5,
      b6,
      b7,
      b8,
      b9,
      b10,
      b11,
      b12,
      b13,
      b14,
      b15⟩
  · obtain ⟨h0, h1, h2, h3, h4, h5, h6, h7, h8, h9, h10, h11, h12⟩ := h c
    obtain ⟨a0, a1, a2, a3, a4, a5, a6, a7, a8, a9, a10, a11, a12, a13, a14, a15⟩ := hagree c
    refine ⟨(h0.trans (val_main_v48_eq _ _ _ _)).trans ?_,
      (h1.trans (val_main_v29_eq _ _)).trans ?_,
      (h2.trans (val_main_v35_eq _ _)).trans ?_,
      (h3.trans (val_main_v72_eq _ _ _ _)).trans ?_,
      (h4.trans (val_main_v53_eq _ _)).trans ?_,
      (h5.trans (val_main_v59_eq _ _)).trans ?_,
      (h6.trans (val_main_v96_eq _ _ _ _)).trans ?_,
      (h7.trans (val_main_v77_eq _ _)).trans ?_,
      (h8.trans (val_main_v83_eq _ _)).trans ?_,
      (h9.trans (val_main_v97_eq _ _ _ _)).trans ?_,
      (h10.trans (val_main_v98_eq _ _)).trans ?_,
      (h11.trans (val_main_v99_eq _ _)).trans ?_, h12⟩
    all_goals simp only [a0, a1, a2, a3, a4, a5, a6, a7, a8, a9, a10, a11, a12, a13, a14, a15]

end Cert.Proof.Adam

end
-- ==== Proof.lean ====
module

public import proofs.«01_k».proof.Defs
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvReferenceIdeal
public import proofs.«01_k».proof.Proof.Gen.KvReferenceIdeal.Run
public import proofs.«01_k».proof.Proof.Gen.KvReferenceIdeal.Read
public import proofs.«01_k».proof.Proof.KvClaim
public import proofs.«01_k».proof.Proof.Gen.InB
public import proofs.«01_k».proof.Proof.Gen.InB.Frame
public import proofs.«01_k».proof.Proof.Gen.InBIdeal
public import proofs.«01_k».proof.Proof.Gen.InBIdeal.Frame
public import proofs.«01_k».proof.Proof.Gen.InBReferenceIdeal
public import proofs.«01_k».proof.Proof.Gen.InBReferenceIdeal.Run
public import proofs.«01_k».proof.Proof.Gen.InBReferenceIdeal.Read
public import proofs.«01_k».proof.Proof.InBClaim
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.AttnClaim
public import proofs.«01_k».proof.Proof.Gen.PoolB
public import proofs.«01_k».proof.Proof.Gen.PoolB.Frame
public import proofs.«01_k».proof.Proof.Gen.PoolBIdeal
public import proofs.«01_k».proof.Proof.Gen.PoolBIdeal.Frame
public import proofs.«01_k».proof.Proof.Gen.PoolBReferenceIdeal
public import proofs.«01_k».proof.Proof.Gen.PoolBReferenceIdeal.Run
public import proofs.«01_k».proof.Proof.Gen.PoolBReferenceIdeal.Read
public import proofs.«01_k».proof.Proof.PoolBClaim
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.MlpClaim
public import proofs.«01_k».proof.Proof.Gen.InF
public import proofs.«01_k».proof.Proof.Gen.InF.Frame
public import proofs.«01_k».proof.Proof.Gen.InFIdeal
public import proofs.«01_k».proof.Proof.Gen.InFIdeal.Frame
public import proofs.«01_k».proof.Proof.Gen.InFReferenceIdeal
public import proofs.«01_k».proof.Proof.Gen.InFReferenceIdeal.Run
public import proofs.«01_k».proof.Proof.Gen.InFReferenceIdeal.Read
public import proofs.«01_k».proof.Proof.InFClaim
public import proofs.«01_k».proof.Proof.Gen.PoolF
public import proofs.«01_k».proof.Proof.Gen.PoolF.Frame
public import proofs.«01_k».proof.Proof.Gen.PoolFIdeal
public import proofs.«01_k».proof.Proof.Gen.PoolFIdeal.Frame
public import proofs.«01_k».proof.Proof.Gen.PoolFReferenceIdeal
public import proofs.«01_k».proof.Proof.Gen.PoolFReferenceIdeal.Run
public import proofs.«01_k».proof.Proof.Gen.PoolFReferenceIdeal.Read
public import proofs.«01_k».proof.Proof.PoolFClaim
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradReferenceIdeal
public import proofs.«01_k».proof.Proof.Gen.WgradReferenceIdeal.Run
public import proofs.«01_k».proof.Proof.Gen.WgradReferenceIdeal.Read
public import proofs.«01_k».proof.Proof.WgradClaim
public import proofs.«01_k».proof.Proof.Gen.SumAdam
public import proofs.«01_k».proof.Proof.Gen.SumAdam.Frame
public import proofs.«01_k».proof.Proof.Gen.SumAdamIdeal
public import proofs.«01_k».proof.Proof.Gen.SumAdamIdeal.Frame
public import proofs.«01_k».proof.Proof.Gen.SumAdamReferenceIdeal
public import proofs.«01_k».proof.Proof.Gen.SumAdamReferenceIdeal.Run
public import proofs.«01_k».proof.Proof.Gen.SumAdamReferenceIdeal.Read
public import proofs.«01_k».proof.Proof.SumAdamClaim
public import proofs.«01_k».proof.Proof.Gen.Sums
public import proofs.«01_k».proof.Proof.Gen.Sums.Frame
public import proofs.«01_k».proof.Proof.Gen.SumsIdeal
public import proofs.«01_k».proof.Proof.Gen.SumsIdeal.Frame
public import proofs.«01_k».proof.Proof.Gen.SumsReferenceIdeal
public import proofs.«01_k».proof.Proof.Gen.SumsReferenceIdeal.Run
public import proofs.«01_k».proof.Proof.Gen.SumsReferenceIdeal.Read
public import proofs.«01_k».proof.Proof.SumsClaim
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.AdamClaim
public import Idealize.ShloMosaic.Adequacy
public import Idealize.ShloMosaic.Init

@[expose] public section

noncomputable section

namespace Cert.Proof

theorem claim : Cert.Claim := ⟨Cert.Kv.Gen.facts, Cert.KvIdeal.Gen.facts, Cert.KvReferenceIdeal.Gen.facts,
  Cert.InB.Gen.facts, Cert.InBIdeal.Gen.facts, Cert.InBReferenceIdeal.Gen.facts,
  Cert.Attn.Gen.facts, Cert.AttnIdeal.Gen.facts, Cert.AttnReferenceIdeal.Gen.facts,
  Cert.PoolB.Gen.facts, Cert.PoolBIdeal.Gen.facts, Cert.PoolBReferenceIdeal.Gen.facts,
  Cert.Mlp.Gen.facts, Cert.MlpIdeal.Gen.facts, Cert.MlpReferenceIdeal.Gen.facts,
  Cert.InF.Gen.facts, Cert.InFIdeal.Gen.facts, Cert.InFReferenceIdeal.Gen.facts,
  Cert.PoolF.Gen.facts, Cert.PoolFIdeal.Gen.facts, Cert.PoolFReferenceIdeal.Gen.facts,
  Cert.Wgrad.Gen.facts, Cert.WgradIdeal.Gen.facts, Cert.WgradReferenceIdeal.Gen.facts,
  Cert.SumAdam.Gen.facts, Cert.SumAdamIdeal.Gen.facts, Cert.SumAdamReferenceIdeal.Gen.facts,
  Cert.Sums.Gen.facts, Cert.SumsIdeal.Gen.facts, Cert.SumsReferenceIdeal.Gen.facts,
  Cert.Adam.Gen.facts, Cert.AdamIdeal.Gen.facts, Cert.AdamReferenceIdeal.Gen.facts,
  InB.facts_pre, Attn.facts_pre, PoolB.facts_pre,
  Mlp.facts_pre, PoolF.facts_pre, PoolB.facts_on,
  Kv.frame_k, Kv.frame_ki, Kv.frame_ri, InB.frame_k,
  InB.frame_ki, InB.frame_ki_pre, InB.frame_ri, InB.frame_ri_pre,
  Attn.frame_k, Attn.frame_ki, Attn.frame_ki_pre, Attn.frame_ri,
  Attn.frame_ri_pre, PoolB.frame_k, PoolB.frame_ki, PoolB.frame_ki_pre,
  PoolB.frame_ri, PoolB.frame_ri_pre, Mlp.frame_k, Mlp.frame_ki,
  Mlp.frame_ki_pre, Mlp.frame_ri, Mlp.frame_ri_pre, InF.frame_k,
  InF.frame_ki, InF.frame_ri, PoolF.frame_k, PoolF.frame_ki,
  PoolF.frame_ki_pre, PoolF.frame_ri, PoolF.frame_ri_pre, Wgrad.frame_k,
  Wgrad.frame_ki, Wgrad.frame_ri, SumAdam.frame_k, SumAdam.frame_ki,
  SumAdam.frame_ri, Sums.frame_k, Sums.frame_ki, Sums.frame_ri,
  Adam.frame_k, Adam.frame_ki, Adam.frame_ri, trivial,
  Kv.value, trivial, InB.value, trivial,
  Attn.value, trivial, PoolB.value, trivial,
  Mlp.value, trivial, InF.value, trivial,
  PoolF.value, trivial, Wgrad.value, trivial,
  SumAdam.value, trivial, Sums.value, trivial,
  Adam.value⟩

end Cert.Proof

end
